-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_FeedForward (m : (ℓ : Loc Cert.FeedForward.nD Cert.FeedForward.τ Cert.FeedForward.sig) → Buf (Elt Bits) ℓ) : Prop :=
  True

def Pre_FeedForwardIdeal (m : (ℓ : Loc Cert.FeedForwardIdeal.nD Cert.FeedForwardIdeal.τ Cert.FeedForwardIdeal.sig) → Buf (Elt Ideal) ℓ) : Prop :=
  True

def Pre_FeedForwardReferenceIdeal (m : (ℓ : Loc Cert.FeedForwardReferenceIdeal.nD Cert.FeedForwardReferenceIdeal.τ Cert.FeedForwardReferenceIdeal.sig) → Buf (Elt Ideal) ℓ) : Prop :=
  True

def Pre_SpatialGate (m : (ℓ : Loc Cert.SpatialGate.nD Cert.SpatialGate.τ Cert.SpatialGate.sig) → Buf (Elt Bits) ℓ) : Prop :=
  True

def Pre_SpatialGateIdeal (m : (ℓ : Loc Cert.SpatialGateIdeal.nD Cert.SpatialGateIdeal.τ Cert.SpatialGateIdeal.sig) → Buf (Elt Ideal) ℓ) : Prop :=
  True

def Pre_SpatialGateReferenceIdeal (m : (ℓ : Loc Cert.SpatialGateReferenceIdeal.nD Cert.SpatialGateReferenceIdeal.τ Cert.SpatialGateReferenceIdeal.sig) → Buf (Elt Ideal) ℓ) : Prop :=
  True

def Pre_FirstFeedForward (m : (ℓ : Loc Cert.FirstFeedForward.nD Cert.FirstFeedForward.τ Cert.FirstFeedForward.sig) → Buf (Elt Bits) ℓ) : Prop :=
  True

def Pre_FirstFeedForwardIdeal (m : (ℓ : Loc Cert.FirstFeedForwardIdeal.nD Cert.FirstFeedForwardIdeal.τ Cert.FirstFeedForwardIdeal.sig) → Buf (Elt Ideal) ℓ) : Prop :=
  True

def Pre_FirstFeedForwardReferenceIdeal (m : (ℓ : Loc Cert.FirstFeedForwardReferenceIdeal.nD Cert.FirstFeedForwardReferenceIdeal.τ Cert.FirstFeedForwardReferenceIdeal.sig) → Buf (Elt Ideal) ℓ) : Prop :=
  True

def Pre_Projections (m : (ℓ : Loc Cert.Projections.nD Cert.Projections.τ Cert.Projections.sig) → Buf (Elt Bits) ℓ) : Prop :=
  True

def Pre_ProjectionsIdeal (m : (ℓ : Loc Cert.ProjectionsIdeal.nD Cert.ProjectionsIdeal.τ Cert.ProjectionsIdeal.sig) → Buf (Elt Ideal) ℓ) : Prop :=
  True

def Pre_ProjectionsReferenceIdeal (m : (ℓ : Loc Cert.ProjectionsReferenceIdeal.nD Cert.ProjectionsReferenceIdeal.τ Cert.ProjectionsReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_FeedForward [hFeedForward : Cert.FeedForward.Facts] : Prop :=
  ∀ (m : (ℓ : Loc Cert.FeedForward.nD Cert.FeedForward.τ Cert.FeedForward.sig) → Buf (Elt Bits) ℓ) (g : Dev Cert.FeedForward.nD → PrngReg), Pre_FeedForward m →
    θ_run (Cert.FeedForward.defs (F := Bits)) (onTc (τ := Cert.FeedForward.τ) (Cert.FeedForward.main (F := Bits))) ⟨m, fun _ => 0, g⟩ (fun r => (∀ c : Dev Cert.FeedForward.nD,
      r.2.mem ((c.tc : Thread Cert.FeedForward.nD Cert.FeedForward.τ).loc Cert.FeedForward.main_arg0) = m ((c.tc : Thread Cert.FeedForward.nD Cert.FeedForward.τ).loc Cert.FeedForward.main_arg0)
      ∧ r.2.mem ((c.tc : Thread Cert.FeedForward.nD Cert.FeedForward.τ).loc Cert.FeedForward.main_arg1) = m ((c.tc : Thread Cert.FeedForward.nD Cert.FeedForward.τ).loc Cert.FeedForward.main_arg1)
      ∧ r.2.mem ((c.tc : Thread Cert.FeedForward.nD Cert.FeedForward.τ).loc Cert.FeedForward.main_arg2) = m ((c.tc : Thread Cert.FeedForward.nD Cert.FeedForward.τ).loc Cert.FeedForward.main_arg2)
      ∧ r.2.mem ((c.tc : Thread Cert.FeedForward.nD Cert.FeedForward.τ).loc Cert.FeedForward.main_arg3) = m ((c.tc : Thread Cert.FeedForward.nD Cert.FeedForward.τ).loc Cert.FeedForward.main_arg3)
      ∧ r.2.mem ((c.tc : Thread Cert.FeedForward.nD Cert.FeedForward.τ).loc Cert.FeedForward.main_arg4) = m ((c.tc : Thread Cert.FeedForward.nD Cert.FeedForward.τ).loc Cert.FeedForward.main_arg4))
      ∧ r.2.sem = fun _ => 0)

def quiescent_FeedForwardIdeal [hFeedForwardIdeal : Cert.FeedForwardIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg), Pre_FeedForwardIdeal m →
    θ_run (Cert.FeedForwardIdeal.defs (F := Ideal)) (onTc (τ := Cert.FeedForwardIdeal.τ) (Cert.FeedForwardIdeal.main (F := Ideal))) ⟨m, fun _ => 0, g⟩ (fun r => (∀ c : Dev Cert.FeedForwardIdeal.nD,
      r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
      ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
      ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
      ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
      ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ r.2.sem = fun _ => 0)

def quiescent_FeedForwardReferenceIdeal [hFeedForwardReferenceIdeal : Cert.FeedForwardReferenceIdeal.Facts] : Prop :=
  ∀ (m : (ℓ : Loc Cert.FeedForwardReferenceIdeal.nD Cert.FeedForwardReferenceIdeal.τ Cert.FeedForwardReferenceIdeal.sig) → Buf (Elt Ideal) ℓ) (g : Dev Cert.FeedForwardReferenceIdeal.nD → PrngReg), Pre_FeedForwardReferenceIdeal m →
    θ_run (Cert.FeedForwardReferenceIdeal.defs (F := Ideal)) (onTc (τ := Cert.FeedForwardReferenceIdeal.τ) (Cert.FeedForwardReferenceIdeal.main (F := Ideal))) ⟨m, fun _ => 0, g⟩ (fun r => (∀ c : Dev Cert.FeedForwardReferenceIdeal.nD,
      r.2.mem ((c.tc : Thread Cert.FeedForwardReferenceIdeal.nD Cert.FeedForwardReferenceIdeal.τ).loc Cert.FeedForwardReferenceIdeal.main_arg0) = m ((c.tc : Thread Cert.FeedForwardReferenceIdeal.nD Cert.FeedForwardReferenceIdeal.τ).loc Cert.FeedForwardReferenceIdeal.main_arg0)
      ∧ r.2.mem ((c.tc : Thread Cert.FeedForwardReferenceIdeal.nD Cert.FeedForwardReferenceIdeal.τ).loc Cert.FeedForwardReferenceIdeal.main_arg1) = m ((c.tc : Thread Cert.FeedForwardReferenceIdeal.nD Cert.FeedForwardReferenceIdeal.τ).loc Cert.FeedForwardReferenceIdeal.main_arg1)
      ∧ r.2.mem ((c.tc : Thread Cert.FeedForwardReferenceIdeal.nD Cert.FeedForwardReferenceIdeal.τ).loc Cert.FeedForwardReferenceIdeal.main_arg2) = m ((c.tc : Thread Cert.FeedForwardReferenceIdeal.nD Cert.FeedForwardReferenceIdeal.τ).loc Cert.FeedForwardReferenceIdeal.main_arg2)
      ∧ r.2.mem ((c.tc : Thread Cert.FeedForwardReferenceIdeal.nD Cert.FeedForwardReferenceIdeal.τ).loc Cert.FeedForwardReferenceIdeal.main_arg3) = m ((c.tc : Thread Cert.FeedForwardReferenceIdeal.nD Cert.FeedForwardReferenceIdeal.τ).loc Cert.FeedForwardReferenceIdeal.main_arg3)
      ∧ r.2.mem ((c.tc : Thread Cert.FeedForwardReferenceIdeal.nD Cert.FeedForwardReferenceIdeal.τ).loc Cert.FeedForwardReferenceIdeal.main_arg4) = m ((c.tc : Thread Cert.FeedForwardReferenceIdeal.nD Cert.FeedForwardReferenceIdeal.τ).loc Cert.FeedForwardReferenceIdeal.main_arg4))
      ∧ r.2.sem = fun _ => 0)

def quiescent_SpatialGate [hSpatialGate : Cert.SpatialGate.Facts] : Prop :=
  ∀ (m : (ℓ : Loc Cert.SpatialGate.nD Cert.SpatialGate.τ Cert.SpatialGate.sig) → Buf (Elt Bits) ℓ) (g : Dev Cert.SpatialGate.nD → PrngReg), Pre_SpatialGate m →
    θ_run (Cert.SpatialGate.defs (F := Bits)) (onTc (τ := Cert.SpatialGate.τ) (Cert.SpatialGate.main (F := Bits))) ⟨m, fun _ => 0, g⟩ (fun r => (∀ c : Dev Cert.SpatialGate.nD,
      r.2.mem ((c.tc : Thread Cert.SpatialGate.nD Cert.SpatialGate.τ).loc Cert.SpatialGate.main_arg0) = m ((c.tc : Thread Cert.SpatialGate.nD Cert.SpatialGate.τ).loc Cert.SpatialGate.main_arg0)
      ∧ r.2.mem ((c.tc : Thread Cert.SpatialGate.nD Cert.SpatialGate.τ).loc Cert.SpatialGate.main_arg1) = m ((c.tc : Thread Cert.SpatialGate.nD Cert.SpatialGate.τ).loc Cert.SpatialGate.main_arg1)
      ∧ r.2.mem ((c.tc : Thread Cert.SpatialGate.nD Cert.SpatialGate.τ).loc Cert.SpatialGate.main_arg2) = m ((c.tc : Thread Cert.SpatialGate.nD Cert.SpatialGate.τ).loc Cert.SpatialGate.main_arg2)
      ∧ r.2.mem ((c.tc : Thread Cert.SpatialGate.nD Cert.SpatialGate.τ).loc Cert.SpatialGate.main_arg3) = m ((c.tc : Thread Cert.SpatialGate.nD Cert.SpatialGate.τ).loc Cert.SpatialGate.main_arg3)
      ∧ r.2.mem ((c.tc : Thread Cert.SpatialGate.nD Cert.SpatialGate.τ).loc Cert.SpatialGate.main_arg4) = m ((c.tc : Thread Cert.SpatialGate.nD Cert.SpatialGate.τ).loc Cert.SpatialGate.main_arg4)
      ∧ r.2.mem ((c.tc : Thread Cert.SpatialGate.nD Cert.SpatialGate.τ).loc Cert.SpatialGate.main_arg5) = m ((c.tc : Thread Cert.SpatialGate.nD Cert.SpatialGate.τ).loc Cert.SpatialGate.main_arg5)
      ∧ r.2.mem ((c.tc : Thread Cert.SpatialGate.nD Cert.SpatialGate.τ).loc Cert.SpatialGate.main_arg6) = m ((c.tc : Thread Cert.SpatialGate.nD Cert.SpatialGate.τ).loc Cert.SpatialGate.main_arg6)
      ∧ r.2.mem ((c.tc : Thread Cert.SpatialGate.nD Cert.SpatialGate.τ).loc Cert.SpatialGate.main_arg7) = m ((c.tc : Thread Cert.SpatialGate.nD Cert.SpatialGate.τ).loc Cert.SpatialGate.main_arg7)
      ∧ r.2.mem ((c.tc : Thread Cert.SpatialGate.nD Cert.SpatialGate.τ).loc Cert.SpatialGate.main_arg8) = m ((c.tc : Thread Cert.SpatialGate.nD Cert.SpatialGate.τ).loc Cert.SpatialGate.main_arg8))
      ∧ r.2.sem = fun _ => 0)

def quiescent_SpatialGateIdeal [hSpatialGateIdeal : Cert.SpatialGateIdeal.Facts] : Prop :=
  ∀ (m : (ℓ : Loc Cert.SpatialGateIdeal.nD Cert.SpatialGateIdeal.τ Cert.SpatialGateIdeal.sig) → Buf (Elt Ideal) ℓ) (g : Dev Cert.SpatialGateIdeal.nD → PrngReg), Pre_SpatialGateIdeal m →
    θ_run (Cert.SpatialGateIdeal.defs (F := Ideal)) (onTc (τ := Cert.SpatialGateIdeal.τ) (Cert.SpatialGateIdeal.main (F := Ideal))) ⟨m, fun _ => 0, g⟩ (fun r => (∀ c : Dev Cert.SpatialGateIdeal.nD,
      r.2.mem ((c.tc : Thread Cert.SpatialGateIdeal.nD Cert.SpatialGateIdeal.τ).loc Cert.SpatialGateIdeal.main_arg0) = m ((c.tc : Thread Cert.SpatialGateIdeal.nD Cert.SpatialGateIdeal.τ).loc Cert.SpatialGateIdeal.main_arg0)
      ∧ r.2.mem ((c.tc : Thread Cert.SpatialGateIdeal.nD Cert.SpatialGateIdeal.τ).loc Cert.SpatialGateIdeal.main_arg1) = m ((c.tc : Thread Cert.SpatialGateIdeal.nD Cert.SpatialGateIdeal.τ).loc Cert.SpatialGateIdeal.main_arg1)
      ∧ r.2.mem ((c.tc : Thread Cert.SpatialGateIdeal.nD Cert.SpatialGateIdeal.τ).loc Cert.SpatialGateIdeal.main_arg2) = m ((c.tc : Thread Cert.SpatialGateIdeal.nD Cert.SpatialGateIdeal.τ).loc Cert.SpatialGateIdeal.main_arg2)
      ∧ r.2.mem ((c.tc : Thread Cert.SpatialGateIdeal.nD Cert.SpatialGateIdeal.τ).loc Cert.SpatialGateIdeal.main_arg3) = m ((c.tc : Thread Cert.SpatialGateIdeal.nD Cert.SpatialGateIdeal.τ).loc Cert.SpatialGateIdeal.main_arg3)
      ∧ r.2.mem ((c.tc : Thread Cert.SpatialGateIdeal.nD Cert.SpatialGateIdeal.τ).loc Cert.SpatialGateIdeal.main_arg4) = m ((c.tc : Thread Cert.SpatialGateIdeal.nD Cert.SpatialGateIdeal.τ).loc Cert.SpatialGateIdeal.main_arg4)
      ∧ r.2.mem ((c.tc : Thread Cert.SpatialGateIdeal.nD Cert.SpatialGateIdeal.τ).loc Cert.SpatialGateIdeal.main_arg5) = m ((c.tc : Thread Cert.SpatialGateIdeal.nD Cert.SpatialGateIdeal.τ).loc Cert.SpatialGateIdeal.main_arg5)
      ∧ r.2.mem ((c.tc : Thread Cert.SpatialGateIdeal.nD Cert.SpatialGateIdeal.τ).loc Cert.SpatialGateIdeal.main_arg6) = m ((c.tc : Thread Cert.SpatialGateIdeal.nD Cert.SpatialGateIdeal.τ).loc Cert.SpatialGateIdeal.main_arg6)
      ∧ r.2.mem ((c.tc : Thread Cert.SpatialGateIdeal.nD Cert.SpatialGateIdeal.τ).loc Cert.SpatialGateIdeal.main_arg7) = m ((c.tc : Thread Cert.SpatialGateIdeal.nD Cert.SpatialGateIdeal.τ).loc Cert.SpatialGateIdeal.main_arg7)
      ∧ r.2.mem ((c.tc : Thread Cert.SpatialGateIdeal.nD Cert.SpatialGateIdeal.τ).loc Cert.SpatialGateIdeal.main_arg8) = m ((c.tc : Thread Cert.SpatialGateIdeal.nD Cert.SpatialGateIdeal.τ).loc Cert.SpatialGateIdeal.main_arg8))
      ∧ r.2.sem = fun _ => 0)

def quiescent_SpatialGateReferenceIdeal [hSpatialGateReferenceIdeal : Cert.SpatialGateReferenceIdeal.Facts] : Prop :=
  ∀ (m : (ℓ : Loc Cert.SpatialGateReferenceIdeal.nD Cert.SpatialGateReferenceIdeal.τ Cert.SpatialGateReferenceIdeal.sig) → Buf (Elt Ideal) ℓ) (g : Dev Cert.SpatialGateReferenceIdeal.nD → PrngReg), Pre_SpatialGateReferenceIdeal m →
    θ_run (Cert.SpatialGateReferenceIdeal.defs (F := Ideal)) (onTc (τ := Cert.SpatialGateReferenceIdeal.τ) (Cert.SpatialGateReferenceIdeal.main (F := Ideal))) ⟨m, fun _ => 0, g⟩ (fun r => (∀ c : Dev Cert.SpatialGateReferenceIdeal.nD,
      r.2.mem ((c.tc : Thread Cert.SpatialGateReferenceIdeal.nD Cert.SpatialGateReferenceIdeal.τ).loc Cert.SpatialGateReferenceIdeal.main_arg0) = m ((c.tc : Thread Cert.SpatialGateReferenceIdeal.nD Cert.SpatialGateReferenceIdeal.τ).loc Cert.SpatialGateReferenceIdeal.main_arg0)
      ∧ r.2.mem ((c.tc : Thread Cert.SpatialGateReferenceIdeal.nD Cert.SpatialGateReferenceIdeal.τ).loc Cert.SpatialGateReferenceIdeal.main_arg1) = m ((c.tc : Thread Cert.SpatialGateReferenceIdeal.nD Cert.SpatialGateReferenceIdeal.τ).loc Cert.SpatialGateReferenceIdeal.main_arg1)
      ∧ r.2.mem ((c.tc : Thread Cert.SpatialGateReferenceIdeal.nD Cert.SpatialGateReferenceIdeal.τ).loc Cert.SpatialGateReferenceIdeal.main_arg2) = m ((c.tc : Thread Cert.SpatialGateReferenceIdeal.nD Cert.SpatialGateReferenceIdeal.τ).loc Cert.SpatialGateReferenceIdeal.main_arg2)
      ∧ r.2.mem ((c.tc : Thread Cert.SpatialGateReferenceIdeal.nD Cert.SpatialGateReferenceIdeal.τ).loc Cert.SpatialGateReferenceIdeal.main_arg3) = m ((c.tc : Thread Cert.SpatialGateReferenceIdeal.nD Cert.SpatialGateReferenceIdeal.τ).loc Cert.SpatialGateReferenceIdeal.main_arg3)
      ∧ r.2.mem ((c.tc : Thread Cert.SpatialGateReferenceIdeal.nD Cert.SpatialGateReferenceIdeal.τ).loc Cert.SpatialGateReferenceIdeal.main_arg4) = m ((c.tc : Thread Cert.SpatialGateReferenceIdeal.nD Cert.SpatialGateReferenceIdeal.τ).loc Cert.SpatialGateReferenceIdeal.main_arg4)
      ∧ r.2.mem ((c.tc : Thread Cert.SpatialGateReferenceIdeal.nD Cert.SpatialGateReferenceIdeal.τ).loc Cert.SpatialGateReferenceIdeal.main_arg5) = m ((c.tc : Thread Cert.SpatialGateReferenceIdeal.nD Cert.SpatialGateReferenceIdeal.τ).loc Cert.SpatialGateReferenceIdeal.main_arg5)
      ∧ r.2.mem ((c.tc : Thread Cert.SpatialGateReferenceIdeal.nD Cert.SpatialGateReferenceIdeal.τ).loc Cert.SpatialGateReferenceIdeal.main_arg6) = m ((c.tc : Thread Cert.SpatialGateReferenceIdeal.nD Cert.SpatialGateReferenceIdeal.τ).loc Cert.SpatialGateReferenceIdeal.main_arg6)
      ∧ r.2.mem ((c.tc : Thread Cert.SpatialGateReferenceIdeal.nD Cert.SpatialGateReferenceIdeal.τ).loc Cert.SpatialGateReferenceIdeal.main_arg7) = m ((c.tc : Thread Cert.SpatialGateReferenceIdeal.nD Cert.SpatialGateReferenceIdeal.τ).loc Cert.SpatialGateReferenceIdeal.main_arg7)
      ∧ r.2.mem ((c.tc : Thread Cert.SpatialGateReferenceIdeal.nD Cert.SpatialGateReferenceIdeal.τ).loc Cert.SpatialGateReferenceIdeal.main_arg8) = m ((c.tc : Thread Cert.SpatialGateReferenceIdeal.nD Cert.SpatialGateReferenceIdeal.τ).loc Cert.SpatialGateReferenceIdeal.main_arg8))
      ∧ r.2.sem = fun _ => 0)

def quiescent_FirstFeedForward [hFirstFeedForward : Cert.FirstFeedForward.Facts] : Prop :=
  ∀ (m : (ℓ : Loc Cert.FirstFeedForward.nD Cert.FirstFeedForward.τ Cert.FirstFeedForward.sig) → Buf (Elt Bits) ℓ) (g : Dev Cert.FirstFeedForward.nD → PrngReg), Pre_FirstFeedForward m →
    θ_run (Cert.FirstFeedForward.defs (F := Bits)) (onTc (τ := Cert.FirstFeedForward.τ) (Cert.FirstFeedForward.main (F := Bits))) ⟨m, fun _ => 0, g⟩ (fun r => (∀ c : Dev Cert.FirstFeedForward.nD,
      r.2.mem ((c.tc : Thread Cert.FirstFeedForward.nD Cert.FirstFeedForward.τ).loc Cert.FirstFeedForward.main_arg0) = m ((c.tc : Thread Cert.FirstFeedForward.nD Cert.FirstFeedForward.τ).loc Cert.FirstFeedForward.main_arg0)
      ∧ r.2.mem ((c.tc : Thread Cert.FirstFeedForward.nD Cert.FirstFeedForward.τ).loc Cert.FirstFeedForward.main_arg1) = m ((c.tc : Thread Cert.FirstFeedForward.nD Cert.FirstFeedForward.τ).loc Cert.FirstFeedForward.main_arg1)
      ∧ r.2.mem ((c.tc : Thread Cert.FirstFeedForward.nD Cert.FirstFeedForward.τ).loc Cert.FirstFeedForward.main_arg2) = m ((c.tc : Thread Cert.FirstFeedForward.nD Cert.FirstFeedForward.τ).loc Cert.FirstFeedForward.main_arg2)
      ∧ r.2.mem ((c.tc : Thread Cert.FirstFeedForward.nD Cert.FirstFeedForward.τ).loc Cert.FirstFeedForward.main_arg3) = m ((c.tc : Thread Cert.FirstFeedForward.nD Cert.FirstFeedForward.τ).loc Cert.FirstFeedForward.main_arg3)
      ∧ r.2.mem ((c.tc : Thread Cert.FirstFeedForward.nD Cert.FirstFeedForward.τ).loc Cert.FirstFeedForward.main_arg4) = m ((c.tc : Thread Cert.FirstFeedForward.nD Cert.FirstFeedForward.τ).loc Cert.FirstFeedForward.main_arg4)
      ∧ r.2.mem ((c.tc : Thread Cert.FirstFeedForward.nD Cert.FirstFeedForward.τ).loc Cert.FirstFeedForward.main_arg5) = m ((c.tc : Thread Cert.FirstFeedForward.nD Cert.FirstFeedForward.τ).loc Cert.FirstFeedForward.main_arg5))
      ∧ r.2.sem = fun _ => 0)

def quiescent_FirstFeedForwardIdeal [hFirstFeedForwardIdeal : Cert.FirstFeedForwardIdeal.Facts] : Prop :=
  ∀ (m : (ℓ : Loc Cert.FirstFeedForwardIdeal.nD Cert.FirstFeedForwardIdeal.τ Cert.FirstFeedForwardIdeal.sig) → Buf (Elt Ideal) ℓ) (g : Dev Cert.FirstFeedForwardIdeal.nD → PrngReg), Pre_FirstFeedForwardIdeal m →
    θ_run (Cert.FirstFeedForwardIdeal.defs (F := Ideal)) (onTc (τ := Cert.FirstFeedForwardIdeal.τ) (Cert.FirstFeedForwardIdeal.main (F := Ideal))) ⟨m, fun _ => 0, g⟩ (fun r => (∀ c : Dev Cert.FirstFeedForwardIdeal.nD,
      r.2.mem ((c.tc : Thread Cert.FirstFeedForwardIdeal.nD Cert.FirstFeedForwardIdeal.τ).loc Cert.FirstFeedForwardIdeal.main_arg0) = m ((c.tc : Thread Cert.FirstFeedForwardIdeal.nD Cert.FirstFeedForwardIdeal.τ).loc Cert.FirstFeedForwardIdeal.main_arg0)
      ∧ r.2.mem ((c.tc : Thread Cert.FirstFeedForwardIdeal.nD Cert.FirstFeedForwardIdeal.τ).loc Cert.FirstFeedForwardIdeal.main_arg1) = m ((c.tc : Thread Cert.FirstFeedForwardIdeal.nD Cert.FirstFeedForwardIdeal.τ).loc Cert.FirstFeedForwardIdeal.main_arg1)
      ∧ r.2.mem ((c.tc : Thread Cert.FirstFeedForwardIdeal.nD Cert.FirstFeedForwardIdeal.τ).loc Cert.FirstFeedForwardIdeal.main_arg2) = m ((c.tc : Thread Cert.FirstFeedForwardIdeal.nD Cert.FirstFeedForwardIdeal.τ).loc Cert.FirstFeedForwardIdeal.main_arg2)
      ∧ r.2.mem ((c.tc : Thread Cert.FirstFeedForwardIdeal.nD Cert.FirstFeedForwardIdeal.τ).loc Cert.FirstFeedForwardIdeal.main_arg3) = m ((c.tc : Thread Cert.FirstFeedForwardIdeal.nD Cert.FirstFeedForwardIdeal.τ).loc Cert.FirstFeedForwardIdeal.main_arg3)
      ∧ r.2.mem ((c.tc : Thread Cert.FirstFeedForwardIdeal.nD Cert.FirstFeedForwardIdeal.τ).loc Cert.FirstFeedForwardIdeal.main_arg4) = m ((c.tc : Thread Cert.FirstFeedForwardIdeal.nD Cert.FirstFeedForwardIdeal.τ).loc Cert.FirstFeedForwardIdeal.main_arg4)
      ∧ r.2.mem ((c.tc : Thread Cert.FirstFeedForwardIdeal.nD Cert.FirstFeedForwardIdeal.τ).loc Cert.FirstFeedForwardIdeal.main_arg5) = m ((c.tc : Thread Cert.FirstFeedForwardIdeal.nD Cert.FirstFeedForwardIdeal.τ).loc Cert.FirstFeedForwardIdeal.main_arg5))
      ∧ r.2.sem = fun _ => 0)

def quiescent_FirstFeedForwardReferenceIdeal [hFirstFeedForwardReferenceIdeal : Cert.FirstFeedForwardReferenceIdeal.Facts] : Prop :=
  ∀ (m : (ℓ : Loc Cert.FirstFeedForwardReferenceIdeal.nD Cert.FirstFeedForwardReferenceIdeal.τ Cert.FirstFeedForwardReferenceIdeal.sig) → Buf (Elt Ideal) ℓ) (g : Dev Cert.FirstFeedForwardReferenceIdeal.nD → PrngReg), Pre_FirstFeedForwardReferenceIdeal m →
    θ_run (Cert.FirstFeedForwardReferenceIdeal.defs (F := Ideal)) (onTc (τ := Cert.FirstFeedForwardReferenceIdeal.τ) (Cert.FirstFeedForwardReferenceIdeal.main (F := Ideal))) ⟨m, fun _ => 0, g⟩ (fun r => (∀ c : Dev Cert.FirstFeedForwardReferenceIdeal.nD,
      r.2.mem ((c.tc : Thread Cert.FirstFeedForwardReferenceIdeal.nD Cert.FirstFeedForwardReferenceIdeal.τ).loc Cert.FirstFeedForwardReferenceIdeal.main_arg0) = m ((c.tc : Thread Cert.FirstFeedForwardReferenceIdeal.nD Cert.FirstFeedForwardReferenceIdeal.τ).loc Cert.FirstFeedForwardReferenceIdeal.main_arg0)
      ∧ r.2.mem ((c.tc : Thread Cert.FirstFeedForwardReferenceIdeal.nD Cert.FirstFeedForwardReferenceIdeal.τ).loc Cert.FirstFeedForwardReferenceIdeal.main_arg1) = m ((c.tc : Thread Cert.FirstFeedForwardReferenceIdeal.nD Cert.FirstFeedForwardReferenceIdeal.τ).loc Cert.FirstFeedForwardReferenceIdeal.main_arg1)
      ∧ r.2.mem ((c.tc : Thread Cert.FirstFeedForwardReferenceIdeal.nD Cert.FirstFeedForwardReferenceIdeal.τ).loc Cert.FirstFeedForwardReferenceIdeal.main_arg2) = m ((c.tc : Thread Cert.FirstFeedForwardReferenceIdeal.nD Cert.FirstFeedForwardReferenceIdeal.τ).loc Cert.FirstFeedForwardReferenceIdeal.main_arg2)
      ∧ r.2.mem ((c.tc : Thread Cert.FirstFeedForwardReferenceIdeal.nD Cert.FirstFeedForwardReferenceIdeal.τ).loc Cert.FirstFeedForwardReferenceIdeal.main_arg3) = m ((c.tc : Thread Cert.FirstFeedForwardReferenceIdeal.nD Cert.FirstFeedForwardReferenceIdeal.τ).loc Cert.FirstFeedForwardReferenceIdeal.main_arg3)
      ∧ r.2.mem ((c.tc : Thread Cert.FirstFeedForwardReferenceIdeal.nD Cert.FirstFeedForwardReferenceIdeal.τ).loc Cert.FirstFeedForwardReferenceIdeal.main_arg4) = m ((c.tc : Thread Cert.FirstFeedForwardReferenceIdeal.nD Cert.FirstFeedForwardReferenceIdeal.τ).loc Cert.FirstFeedForwardReferenceIdeal.main_arg4)
      ∧ r.2.mem ((c.tc : Thread Cert.FirstFeedForwardReferenceIdeal.nD Cert.FirstFeedForwardReferenceIdeal.τ).loc Cert.FirstFeedForwardReferenceIdeal.main_arg5) = m ((c.tc : Thread Cert.FirstFeedForwardReferenceIdeal.nD Cert.FirstFeedForwardReferenceIdeal.τ).loc Cert.FirstFeedForwardReferenceIdeal.main_arg5))
      ∧ r.2.sem = fun _ => 0)

def quiescent_Projections [hProjections : Cert.Projections.Facts] : Prop :=
  ∀ (m : (ℓ : Loc Cert.Projections.nD Cert.Projections.τ Cert.Projections.sig) → Buf (Elt Bits) ℓ) (g : Dev Cert.Projections.nD → PrngReg), Pre_Projections m →
    θ_run (Cert.Projections.defs (F := Bits)) (onTc (τ := Cert.Projections.τ) (Cert.Projections.main (F := Bits))) ⟨m, fun _ => 0, g⟩ (fun r => (∀ c : Dev Cert.Projections.nD,
      r.2.mem ((c.tc : Thread Cert.Projections.nD Cert.Projections.τ).loc Cert.Projections.main_arg0) = m ((c.tc : Thread Cert.Projections.nD Cert.Projections.τ).loc Cert.Projections.main_arg0)
      ∧ r.2.mem ((c.tc : Thread Cert.Projections.nD Cert.Projections.τ).loc Cert.Projections.main_arg1) = m ((c.tc : Thread Cert.Projections.nD Cert.Projections.τ).loc Cert.Projections.main_arg1)
      ∧ r.2.mem ((c.tc : Thread Cert.Projections.nD Cert.Projections.τ).loc Cert.Projections.main_arg2) = m ((c.tc : Thread Cert.Projections.nD Cert.Projections.τ).loc Cert.Projections.main_arg2)
      ∧ r.2.mem ((c.tc : Thread Cert.Projections.nD Cert.Projections.τ).loc Cert.Projections.main_arg3) = m ((c.tc : Thread Cert.Projections.nD Cert.Projections.τ).loc Cert.Projections.main_arg3)
      ∧ r.2.mem ((c.tc : Thread Cert.Projections.nD Cert.Projections.τ).loc Cert.Projections.main_arg4) = m ((c.tc : Thread Cert.Projections.nD Cert.Projections.τ).loc Cert.Projections.main_arg4)
      ∧ r.2.mem ((c.tc : Thread Cert.Projections.nD Cert.Projections.τ).loc Cert.Projections.main_arg5) = m ((c.tc : Thread Cert.Projections.nD Cert.Projections.τ).loc Cert.Projections.main_arg5))
      ∧ r.2.sem = fun _ => 0)

def quiescent_ProjectionsIdeal [hProjectionsIdeal : Cert.ProjectionsIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg), Pre_ProjectionsIdeal m →
    θ_run (Cert.ProjectionsIdeal.defs (F := Ideal)) (onTc (τ := Cert.ProjectionsIdeal.τ) (Cert.ProjectionsIdeal.main (F := Ideal))) ⟨m, fun _ => 0, g⟩ (fun r => (∀ c : Dev Cert.ProjectionsIdeal.nD,
      r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
      ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
      ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
      ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
      ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
      ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5))
      ∧ r.2.sem = fun _ => 0)

def quiescent_ProjectionsReferenceIdeal [hProjectionsReferenceIdeal : Cert.ProjectionsReferenceIdeal.Facts] : Prop :=
  ∀ (m : (ℓ : Loc Cert.ProjectionsReferenceIdeal.nD Cert.ProjectionsReferenceIdeal.τ Cert.ProjectionsReferenceIdeal.sig) → Buf (Elt Ideal) ℓ) (g : Dev Cert.ProjectionsReferenceIdeal.nD → PrngReg), Pre_ProjectionsReferenceIdeal m →
    θ_run (Cert.ProjectionsReferenceIdeal.defs (F := Ideal)) (onTc (τ := Cert.ProjectionsReferenceIdeal.τ) (Cert.ProjectionsReferenceIdeal.main (F := Ideal))) ⟨m, fun _ => 0, g⟩ (fun r => (∀ c : Dev Cert.ProjectionsReferenceIdeal.nD,
      r.2.mem ((c.tc : Thread Cert.ProjectionsReferenceIdeal.nD Cert.ProjectionsReferenceIdeal.τ).loc Cert.ProjectionsReferenceIdeal.main_arg0) = m ((c.tc : Thread Cert.ProjectionsReferenceIdeal.nD Cert.ProjectionsReferenceIdeal.τ).loc Cert.ProjectionsReferenceIdeal.main_arg0)
      ∧ r.2.mem ((c.tc : Thread Cert.ProjectionsReferenceIdeal.nD Cert.ProjectionsReferenceIdeal.τ).loc Cert.ProjectionsReferenceIdeal.main_arg1) = m ((c.tc : Thread Cert.ProjectionsReferenceIdeal.nD Cert.ProjectionsReferenceIdeal.τ).loc Cert.ProjectionsReferenceIdeal.main_arg1)
      ∧ r.2.mem ((c.tc : Thread Cert.ProjectionsReferenceIdeal.nD Cert.ProjectionsReferenceIdeal.τ).loc Cert.ProjectionsReferenceIdeal.main_arg2) = m ((c.tc : Thread Cert.ProjectionsReferenceIdeal.nD Cert.ProjectionsReferenceIdeal.τ).loc Cert.ProjectionsReferenceIdeal.main_arg2)
      ∧ r.2.mem ((c.tc : Thread Cert.ProjectionsReferenceIdeal.nD Cert.ProjectionsReferenceIdeal.τ).loc Cert.ProjectionsReferenceIdeal.main_arg3) = m ((c.tc : Thread Cert.ProjectionsReferenceIdeal.nD Cert.ProjectionsReferenceIdeal.τ).loc Cert.ProjectionsReferenceIdeal.main_arg3)
      ∧ r.2.mem ((c.tc : Thread Cert.ProjectionsReferenceIdeal.nD Cert.ProjectionsReferenceIdeal.τ).loc Cert.ProjectionsReferenceIdeal.main_arg4) = m ((c.tc : Thread Cert.ProjectionsReferenceIdeal.nD Cert.ProjectionsReferenceIdeal.τ).loc Cert.ProjectionsReferenceIdeal.main_arg4)
      ∧ r.2.mem ((c.tc : Thread Cert.ProjectionsReferenceIdeal.nD Cert.ProjectionsReferenceIdeal.τ).loc Cert.ProjectionsReferenceIdeal.main_arg5) = m ((c.tc : Thread Cert.ProjectionsReferenceIdeal.nD Cert.ProjectionsReferenceIdeal.τ).loc Cert.ProjectionsReferenceIdeal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v97) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_FeedForward_FeedForwardIdeal : Prop :=
  True

def algebraic_FeedForwardIdeal_FeedForwardReferenceIdeal [hFeedForwardIdeal : Cert.FeedForwardIdeal.Facts] [hFeedForwardReferenceIdeal : Cert.FeedForwardReferenceIdeal.Facts] : Prop :=
  ∀ (m : (ℓ : Loc Cert.FeedForwardIdeal.nD Cert.FeedForwardIdeal.τ Cert.FeedForwardIdeal.sig) → Buf (Elt Ideal) ℓ) (g : Dev Cert.FeedForwardIdeal.nD → PrngReg)
    (m' : (ℓ : Loc Cert.FeedForwardReferenceIdeal.nD Cert.FeedForwardReferenceIdeal.τ Cert.FeedForwardReferenceIdeal.sig) → Buf (Elt Ideal) ℓ) (g' : Dev Cert.FeedForwardReferenceIdeal.nD → PrngReg), Pre_FeedForwardIdeal m →
    (∀ c : Dev Cert.FeedForwardIdeal.nD,
      m' ((c.tc : Thread Cert.FeedForwardReferenceIdeal.nD Cert.FeedForwardReferenceIdeal.τ).loc Cert.FeedForwardReferenceIdeal.main_arg0) = m ((c.tc : Thread Cert.FeedForwardIdeal.nD Cert.FeedForwardIdeal.τ).loc Cert.FeedForwardIdeal.main_arg0)
      ∧ m' ((c.tc : Thread Cert.FeedForwardReferenceIdeal.nD Cert.FeedForwardReferenceIdeal.τ).loc Cert.FeedForwardReferenceIdeal.main_arg1) = m ((c.tc : Thread Cert.FeedForwardIdeal.nD Cert.FeedForwardIdeal.τ).loc Cert.FeedForwardIdeal.main_arg1)
      ∧ m' ((c.tc : Thread Cert.FeedForwardReferenceIdeal.nD Cert.FeedForwardReferenceIdeal.τ).loc Cert.FeedForwardReferenceIdeal.main_arg2) = m ((c.tc : Thread Cert.FeedForwardIdeal.nD Cert.FeedForwardIdeal.τ).loc Cert.FeedForwardIdeal.main_arg2)
      ∧ m' ((c.tc : Thread Cert.FeedForwardReferenceIdeal.nD Cert.FeedForwardReferenceIdeal.τ).loc Cert.FeedForwardReferenceIdeal.main_arg3) = m ((c.tc : Thread Cert.FeedForwardIdeal.nD Cert.FeedForwardIdeal.τ).loc Cert.FeedForwardIdeal.main_arg3)
      ∧ m' ((c.tc : Thread Cert.FeedForwardReferenceIdeal.nD Cert.FeedForwardReferenceIdeal.τ).loc Cert.FeedForwardReferenceIdeal.main_arg4) = m ((c.tc : Thread Cert.FeedForwardIdeal.nD Cert.FeedForwardIdeal.τ).loc Cert.FeedForwardIdeal.main_arg4)) →
    ∃ (v0 : (c : Dev Cert.FeedForwardIdeal.nD) → Buf (Elt Ideal) ((c.tc : Thread Cert.FeedForwardIdeal.nD Cert.FeedForwardIdeal.τ).loc Cert.FeedForwardIdeal.main_v5)),
      θ_run (Cert.FeedForwardIdeal.defs (F := Ideal)) (onTc (τ := Cert.FeedForwardIdeal.τ) (Cert.FeedForwardIdeal.main (F := Ideal))) ⟨m, fun _ => 0, g⟩ (fun r => ∀ c : Dev Cert.FeedForwardIdeal.nD,
          r.2.mem ((c.tc : Thread Cert.FeedForwardIdeal.nD Cert.FeedForwardIdeal.τ).loc Cert.FeedForwardIdeal.main_v5) = v0 c
          ∧ r.2.mem ((c.tc : Thread Cert.FeedForwardIdeal.nD Cert.FeedForwardIdeal.τ).loc Cert.FeedForwardIdeal.main_arg0) = m ((c.tc : Thread Cert.FeedForwardIdeal.nD Cert.FeedForwardIdeal.τ).loc Cert.FeedForwardIdeal.main_arg0)
          ∧ r.2.mem ((c.tc : Thread Cert.FeedForwardIdeal.nD Cert.FeedForwardIdeal.τ).loc Cert.FeedForwardIdeal.main_arg1) = m ((c.tc : Thread Cert.FeedForwardIdeal.nD Cert.FeedForwardIdeal.τ).loc Cert.FeedForwardIdeal.main_arg1)
          ∧ r.2.mem ((c.tc : Thread Cert.FeedForwardIdeal.nD Cert.FeedForwardIdeal.τ).loc Cert.FeedForwardIdeal.main_arg2) = m ((c.tc : Thread Cert.FeedForwardIdeal.nD Cert.FeedForwardIdeal.τ).loc Cert.FeedForwardIdeal.main_arg2)
          ∧ r.2.mem ((c.tc : Thread Cert.FeedForwardIdeal.nD Cert.FeedForwardIdeal.τ).loc Cert.FeedForwardIdeal.main_arg3) = m ((c.tc : Thread Cert.FeedForwardIdeal.nD Cert.FeedForwardIdeal.τ).loc Cert.FeedForwardIdeal.main_arg3)
          ∧ r.2.mem ((c.tc : Thread Cert.FeedForwardIdeal.nD Cert.FeedForwardIdeal.τ).loc Cert.FeedForwardIdeal.main_arg4) = m ((c.tc : Thread Cert.FeedForwardIdeal.nD Cert.FeedForwardIdeal.τ).loc Cert.FeedForwardIdeal.main_arg4))
      ∧ θ_run (Cert.FeedForwardReferenceIdeal.defs (F := Ideal)) (onTc (τ := Cert.FeedForwardReferenceIdeal.τ) (Cert.FeedForwardReferenceIdeal.main (F := Ideal))) ⟨m', fun _ => 0, g'⟩ (fun r => ∀ c : Dev Cert.FeedForwardReferenceIdeal.nD,
          r.2.mem ((c.tc : Thread Cert.FeedForwardReferenceIdeal.nD Cert.FeedForwardReferenceIdeal.τ).loc Cert.FeedForwardReferenceIdeal.main_v45) = v0 c
          ∧ r.2.mem ((c.tc : Thread Cert.FeedForwardReferenceIdeal.nD Cert.FeedForwardReferenceIdeal.τ).loc Cert.FeedForwardReferenceIdeal.main_arg0) = m' ((c.tc : Thread Cert.FeedForwardReferenceIdeal.nD Cert.FeedForwardReferenceIdeal.τ).loc Cert.FeedForwardReferenceIdeal.main_arg0)
          ∧ r.2.mem ((c.tc : Thread Cert.FeedForwardReferenceIdeal.nD Cert.FeedForwardReferenceIdeal.τ).loc Cert.FeedForwardReferenceIdeal.main_arg1) = m' ((c.tc : Thread Cert.FeedForwardReferenceIdeal.nD Cert.FeedForwardReferenceIdeal.τ).loc Cert.FeedForwardReferenceIdeal.main_arg1)
          ∧ r.2.mem ((c.tc : Thread Cert.FeedForwardReferenceIdeal.nD Cert.FeedForwardReferenceIdeal.τ).loc Cert.FeedForwardReferenceIdeal.main_arg2) = m' ((c.tc : Thread Cert.FeedForwardReferenceIdeal.nD Cert.FeedForwardReferenceIdeal.τ).loc Cert.FeedForwardReferenceIdeal.main_arg2)
          ∧ r.2.mem ((c.tc : Thread Cert.FeedForwardReferenceIdeal.nD Cert.FeedForwardReferenceIdeal.τ).loc Cert.FeedForwardReferenceIdeal.main_arg3) = m' ((c.tc : Thread Cert.FeedForwardReferenceIdeal.nD Cert.FeedForwardReferenceIdeal.τ).loc Cert.FeedForwardReferenceIdeal.main_arg3)
          ∧ r.2.mem ((c.tc : Thread Cert.FeedForwardReferenceIdeal.nD Cert.FeedForwardReferenceIdeal.τ).loc Cert.FeedForwardReferenceIdeal.main_arg4) = m' ((c.tc : Thread Cert.FeedForwardReferenceIdeal.nD Cert.FeedForwardReferenceIdeal.τ).loc Cert.FeedForwardReferenceIdeal.main_arg4))

def preserves_SpatialGate_SpatialGateIdeal : Prop :=
  True

def algebraic_SpatialGateIdeal_SpatialGateReferenceIdeal [hSpatialGateIdeal : Cert.SpatialGateIdeal.Facts] [hSpatialGateReferenceIdeal : Cert.SpatialGateReferenceIdeal.Facts] : Prop :=
  ∀ (m : (ℓ : Loc Cert.SpatialGateIdeal.nD Cert.SpatialGateIdeal.τ Cert.SpatialGateIdeal.sig) → Buf (Elt Ideal) ℓ) (g : Dev Cert.SpatialGateIdeal.nD → PrngReg)
    (m' : (ℓ : Loc Cert.SpatialGateReferenceIdeal.nD Cert.SpatialGateReferenceIdeal.τ Cert.SpatialGateReferenceIdeal.sig) → Buf (Elt Ideal) ℓ) (g' : Dev Cert.SpatialGateReferenceIdeal.nD → PrngReg), Pre_SpatialGateIdeal m →
    (∀ c : Dev Cert.SpatialGateIdeal.nD,
      m' ((c.tc : Thread Cert.SpatialGateReferenceIdeal.nD Cert.SpatialGateReferenceIdeal.τ).loc Cert.SpatialGateReferenceIdeal.main_arg0) = m ((c.tc : Thread Cert.SpatialGateIdeal.nD Cert.SpatialGateIdeal.τ).loc Cert.SpatialGateIdeal.main_arg0)
      ∧ m' ((c.tc : Thread Cert.SpatialGateReferenceIdeal.nD Cert.SpatialGateReferenceIdeal.τ).loc Cert.SpatialGateReferenceIdeal.main_arg1) = m ((c.tc : Thread Cert.SpatialGateIdeal.nD Cert.SpatialGateIdeal.τ).loc Cert.SpatialGateIdeal.main_arg1)
      ∧ m' ((c.tc : Thread Cert.SpatialGateReferenceIdeal.nD Cert.SpatialGateReferenceIdeal.τ).loc Cert.SpatialGateReferenceIdeal.main_arg2) = m ((c.tc : Thread Cert.SpatialGateIdeal.nD Cert.SpatialGateIdeal.τ).loc Cert.SpatialGateIdeal.main_arg2)
      ∧ m' ((c.tc : Thread Cert.SpatialGateReferenceIdeal.nD Cert.SpatialGateReferenceIdeal.τ).loc Cert.SpatialGateReferenceIdeal.main_arg3) = m ((c.tc : Thread Cert.SpatialGateIdeal.nD Cert.SpatialGateIdeal.τ).loc Cert.SpatialGateIdeal.main_arg3)
      ∧ m' ((c.tc : Thread Cert.SpatialGateReferenceIdeal.nD Cert.SpatialGateReferenceIdeal.τ).loc Cert.SpatialGateReferenceIdeal.main_arg4) = m ((c.tc : Thread Cert.SpatialGateIdeal.nD Cert.SpatialGateIdeal.τ).loc Cert.SpatialGateIdeal.main_arg4)
      ∧ m' ((c.tc : Thread Cert.SpatialGateReferenceIdeal.nD Cert.SpatialGateReferenceIdeal.τ).loc Cert.SpatialGateReferenceIdeal.main_arg5) = m ((c.tc : Thread Cert.SpatialGateIdeal.nD Cert.SpatialGateIdeal.τ).loc Cert.SpatialGateIdeal.main_arg5)
      ∧ m' ((c.tc : Thread Cert.SpatialGateReferenceIdeal.nD Cert.SpatialGateReferenceIdeal.τ).loc Cert.SpatialGateReferenceIdeal.main_arg6) = m ((c.tc : Thread Cert.SpatialGateIdeal.nD Cert.SpatialGateIdeal.τ).loc Cert.SpatialGateIdeal.main_arg6)
      ∧ m' ((c.tc : Thread Cert.SpatialGateReferenceIdeal.nD Cert.SpatialGateReferenceIdeal.τ).loc Cert.SpatialGateReferenceIdeal.main_arg7) = m ((c.tc : Thread Cert.SpatialGateIdeal.nD Cert.SpatialGateIdeal.τ).loc Cert.SpatialGateIdeal.main_arg7)
      ∧ m' ((c.tc : Thread Cert.SpatialGateReferenceIdeal.nD Cert.SpatialGateReferenceIdeal.τ).loc Cert.SpatialGateReferenceIdeal.main_arg8) = m ((c.tc : Thread Cert.SpatialGateIdeal.nD Cert.SpatialGateIdeal.τ).loc Cert.SpatialGateIdeal.main_arg8)) →
    ∃ (v0 : (c : Dev Cert.SpatialGateIdeal.nD) → Buf (Elt Ideal) ((c.tc : Thread Cert.SpatialGateIdeal.nD Cert.SpatialGateIdeal.τ).loc Cert.SpatialGateIdeal.main_v13)),
      θ_run (Cert.SpatialGateIdeal.defs (F := Ideal)) (onTc (τ := Cert.SpatialGateIdeal.τ) (Cert.SpatialGateIdeal.main (F := Ideal))) ⟨m, fun _ => 0, g⟩ (fun r => ∀ c : Dev Cert.SpatialGateIdeal.nD,
          r.2.mem ((c.tc : Thread Cert.SpatialGateIdeal.nD Cert.SpatialGateIdeal.τ).loc Cert.SpatialGateIdeal.main_v13) = v0 c
          ∧ r.2.mem ((c.tc : Thread Cert.SpatialGateIdeal.nD Cert.SpatialGateIdeal.τ).loc Cert.SpatialGateIdeal.main_arg0) = m ((c.tc : Thread Cert.SpatialGateIdeal.nD Cert.SpatialGateIdeal.τ).loc Cert.SpatialGateIdeal.main_arg0)
          ∧ r.2.mem ((c.tc : Thread Cert.SpatialGateIdeal.nD Cert.SpatialGateIdeal.τ).loc Cert.SpatialGateIdeal.main_arg1) = m ((c.tc : Thread Cert.SpatialGateIdeal.nD Cert.SpatialGateIdeal.τ).loc Cert.SpatialGateIdeal.main_arg1)
          ∧ r.2.mem ((c.tc : Thread Cert.SpatialGateIdeal.nD Cert.SpatialGateIdeal.τ).loc Cert.SpatialGateIdeal.main_arg2) = m ((c.tc : Thread Cert.SpatialGateIdeal.nD Cert.SpatialGateIdeal.τ).loc Cert.SpatialGateIdeal.main_arg2)
          ∧ r.2.mem ((c.tc : Thread Cert.SpatialGateIdeal.nD Cert.SpatialGateIdeal.τ).loc Cert.SpatialGateIdeal.main_arg3) = m ((c.tc : Thread Cert.SpatialGateIdeal.nD Cert.SpatialGateIdeal.τ).loc Cert.SpatialGateIdeal.main_arg3)
          ∧ r.2.mem ((c.tc : Thread Cert.SpatialGateIdeal.nD Cert.SpatialGateIdeal.τ).loc Cert.SpatialGateIdeal.main_arg4) = m ((c.tc : Thread Cert.SpatialGateIdeal.nD Cert.SpatialGateIdeal.τ).loc Cert.SpatialGateIdeal.main_arg4)
          ∧ r.2.mem ((c.tc : Thread Cert.SpatialGateIdeal.nD Cert.SpatialGateIdeal.τ).loc Cert.SpatialGateIdeal.main_arg5) = m ((c.tc : Thread Cert.SpatialGateIdeal.nD Cert.SpatialGateIdeal.τ).loc Cert.SpatialGateIdeal.main_arg5)
          ∧ r.2.mem ((c.tc : Thread Cert.SpatialGateIdeal.nD Cert.SpatialGateIdeal.τ).loc Cert.SpatialGateIdeal.main_arg6) = m ((c.tc : Thread Cert.SpatialGateIdeal.nD Cert.SpatialGateIdeal.τ).loc Cert.SpatialGateIdeal.main_arg6)
          ∧ r.2.mem ((c.tc : Thread Cert.SpatialGateIdeal.nD Cert.SpatialGateIdeal.τ).loc Cert.SpatialGateIdeal.main_arg7) = m ((c.tc : Thread Cert.SpatialGateIdeal.nD Cert.SpatialGateIdeal.τ).loc Cert.SpatialGateIdeal.main_arg7)
          ∧ r.2.mem ((c.tc : Thread Cert.SpatialGateIdeal.nD Cert.SpatialGateIdeal.τ).loc Cert.SpatialGateIdeal.main_arg8) = m ((c.tc : Thread Cert.SpatialGateIdeal.nD Cert.SpatialGateIdeal.τ).loc Cert.SpatialGateIdeal.main_arg8))
      ∧ θ_run (Cert.SpatialGateReferenceIdeal.defs (F := Ideal)) (onTc (τ := Cert.SpatialGateReferenceIdeal.τ) (Cert.SpatialGateReferenceIdeal.main (F := Ideal))) ⟨m', fun _ => 0, g'⟩ (fun r => ∀ c : Dev Cert.SpatialGateReferenceIdeal.nD,
          r.2.mem ((c.tc : Thread Cert.SpatialGateReferenceIdeal.nD Cert.SpatialGateReferenceIdeal.τ).loc Cert.SpatialGateReferenceIdeal.main_v81) = v0 c
          ∧ r.2.mem ((c.tc : Thread Cert.SpatialGateReferenceIdeal.nD Cert.SpatialGateReferenceIdeal.τ).loc Cert.SpatialGateReferenceIdeal.main_arg0) = m' ((c.tc : Thread Cert.SpatialGateReferenceIdeal.nD Cert.SpatialGateReferenceIdeal.τ).loc Cert.SpatialGateReferenceIdeal.main_arg0)
          ∧ r.2.mem ((c.tc : Thread Cert.SpatialGateReferenceIdeal.nD Cert.SpatialGateReferenceIdeal.τ).loc Cert.SpatialGateReferenceIdeal.main_arg1) = m' ((c.tc : Thread Cert.SpatialGateReferenceIdeal.nD Cert.SpatialGateReferenceIdeal.τ).loc Cert.SpatialGateReferenceIdeal.main_arg1)
          ∧ r.2.mem ((c.tc : Thread Cert.SpatialGateReferenceIdeal.nD Cert.SpatialGateReferenceIdeal.τ).loc Cert.SpatialGateReferenceIdeal.main_arg2) = m' ((c.tc : Thread Cert.SpatialGateReferenceIdeal.nD Cert.SpatialGateReferenceIdeal.τ).loc Cert.SpatialGateReferenceIdeal.main_arg2)
          ∧ r.2.mem ((c.tc : Thread Cert.SpatialGateReferenceIdeal.nD Cert.SpatialGateReferenceIdeal.τ).loc Cert.SpatialGateReferenceIdeal.main_arg3) = m' ((c.tc : Thread Cert.SpatialGateReferenceIdeal.nD Cert.SpatialGateReferenceIdeal.τ).loc Cert.SpatialGateReferenceIdeal.main_arg3)
          ∧ r.2.mem ((c.tc : Thread Cert.SpatialGateReferenceIdeal.nD Cert.SpatialGateReferenceIdeal.τ).loc Cert.SpatialGateReferenceIdeal.main_arg4) = m' ((c.tc : Thread Cert.SpatialGateReferenceIdeal.nD Cert.SpatialGateReferenceIdeal.τ).loc Cert.SpatialGateReferenceIdeal.main_arg4)
          ∧ r.2.mem ((c.tc : Thread Cert.SpatialGateReferenceIdeal.nD Cert.SpatialGateReferenceIdeal.τ).loc Cert.SpatialGateReferenceIdeal.main_arg5) = m' ((c.tc : Thread Cert.SpatialGateReferenceIdeal.nD Cert.SpatialGateReferenceIdeal.τ).loc Cert.SpatialGateReferenceIdeal.main_arg5)
          ∧ r.2.mem ((c.tc : Thread Cert.SpatialGateReferenceIdeal.nD Cert.SpatialGateReferenceIdeal.τ).loc Cert.SpatialGateReferenceIdeal.main_arg6) = m' ((c.tc : Thread Cert.SpatialGateReferenceIdeal.nD Cert.SpatialGateReferenceIdeal.τ).loc Cert.SpatialGateReferenceIdeal.main_arg6)
          ∧ r.2.mem ((c.tc : Thread Cert.SpatialGateReferenceIdeal.nD Cert.SpatialGateReferenceIdeal.τ).loc Cert.SpatialGateReferenceIdeal.main_arg7) = m' ((c.tc : Thread Cert.SpatialGateReferenceIdeal.nD Cert.SpatialGateReferenceIdeal.τ).loc Cert.SpatialGateReferenceIdeal.main_arg7)
          ∧ r.2.mem ((c.tc : Thread Cert.SpatialGateReferenceIdeal.nD Cert.SpatialGateReferenceIdeal.τ).loc Cert.SpatialGateReferenceIdeal.main_arg8) = m' ((c.tc : Thread Cert.SpatialGateReferenceIdeal.nD Cert.SpatialGateReferenceIdeal.τ).loc Cert.SpatialGateReferenceIdeal.main_arg8))

def preserves_FirstFeedForward_FirstFeedForwardIdeal : Prop :=
  True

def algebraic_FirstFeedForwardIdeal_FirstFeedForwardReferenceIdeal [hFirstFeedForwardIdeal : Cert.FirstFeedForwardIdeal.Facts] [hFirstFeedForwardReferenceIdeal : Cert.FirstFeedForwardReferenceIdeal.Facts] : Prop :=
  ∀ (m : (ℓ : Loc Cert.FirstFeedForwardIdeal.nD Cert.FirstFeedForwardIdeal.τ Cert.FirstFeedForwardIdeal.sig) → Buf (Elt Ideal) ℓ) (g : Dev Cert.FirstFeedForwardIdeal.nD → PrngReg)
    (m' : (ℓ : Loc Cert.FirstFeedForwardReferenceIdeal.nD Cert.FirstFeedForwardReferenceIdeal.τ Cert.FirstFeedForwardReferenceIdeal.sig) → Buf (Elt Ideal) ℓ) (g' : Dev Cert.FirstFeedForwardReferenceIdeal.nD → PrngReg), Pre_FirstFeedForwardIdeal m →
    (∀ c : Dev Cert.FirstFeedForwardIdeal.nD,
      m' ((c.tc : Thread Cert.FirstFeedForwardReferenceIdeal.nD Cert.FirstFeedForwardReferenceIdeal.τ).loc Cert.FirstFeedForwardReferenceIdeal.main_arg0) = m ((c.tc : Thread Cert.FirstFeedForwardIdeal.nD Cert.FirstFeedForwardIdeal.τ).loc Cert.FirstFeedForwardIdeal.main_arg0)
      ∧ m' ((c.tc : Thread Cert.FirstFeedForwardReferenceIdeal.nD Cert.FirstFeedForwardReferenceIdeal.τ).loc Cert.FirstFeedForwardReferenceIdeal.main_arg1) = m ((c.tc : Thread Cert.FirstFeedForwardIdeal.nD Cert.FirstFeedForwardIdeal.τ).loc Cert.FirstFeedForwardIdeal.main_arg1)
      ∧ m' ((c.tc : Thread Cert.FirstFeedForwardReferenceIdeal.nD Cert.FirstFeedForwardReferenceIdeal.τ).loc Cert.FirstFeedForwardReferenceIdeal.main_arg2) = m ((c.tc : Thread Cert.FirstFeedForwardIdeal.nD Cert.FirstFeedForwardIdeal.τ).loc Cert.FirstFeedForwardIdeal.main_arg2)
      ∧ m' ((c.tc : Thread Cert.FirstFeedForwardReferenceIdeal.nD Cert.FirstFeedForwardReferenceIdeal.τ).loc Cert.FirstFeedForwardReferenceIdeal.main_arg3) = m ((c.tc : Thread Cert.FirstFeedForwardIdeal.nD Cert.FirstFeedForwardIdeal.τ).loc Cert.FirstFeedForwardIdeal.main_arg3)
      ∧ m' ((c.tc : Thread Cert.FirstFeedForwardReferenceIdeal.nD Cert.FirstFeedForwardReferenceIdeal.τ).loc Cert.FirstFeedForwardReferenceIdeal.main_arg4) = m ((c.tc : Thread Cert.FirstFeedForwardIdeal.nD Cert.FirstFeedForwardIdeal.τ).loc Cert.FirstFeedForwardIdeal.main_arg4)
      ∧ m' ((c.tc : Thread Cert.FirstFeedForwardReferenceIdeal.nD Cert.FirstFeedForwardReferenceIdeal.τ).loc Cert.FirstFeedForwardReferenceIdeal.main_arg5) = m ((c.tc : Thread Cert.FirstFeedForwardIdeal.nD Cert.FirstFeedForwardIdeal.τ).loc Cert.FirstFeedForwardIdeal.main_arg5)) →
    ∃ (v0 : (c : Dev Cert.FirstFeedForwardIdeal.nD) → Buf (Elt Ideal) ((c.tc : Thread Cert.FirstFeedForwardIdeal.nD Cert.FirstFeedForwardIdeal.τ).loc Cert.FirstFeedForwardIdeal.main_v5)),
      θ_run (Cert.FirstFeedForwardIdeal.defs (F := Ideal)) (onTc (τ := Cert.FirstFeedForwardIdeal.τ) (Cert.FirstFeedForwardIdeal.main (F := Ideal))) ⟨m, fun _ => 0, g⟩ (fun r => ∀ c : Dev Cert.FirstFeedForwardIdeal.nD,
          r.2.mem ((c.tc : Thread Cert.FirstFeedForwardIdeal.nD Cert.FirstFeedForwardIdeal.τ).loc Cert.FirstFeedForwardIdeal.main_v5) = v0 c
          ∧ r.2.mem ((c.tc : Thread Cert.FirstFeedForwardIdeal.nD Cert.FirstFeedForwardIdeal.τ).loc Cert.FirstFeedForwardIdeal.main_arg0) = m ((c.tc : Thread Cert.FirstFeedForwardIdeal.nD Cert.FirstFeedForwardIdeal.τ).loc Cert.FirstFeedForwardIdeal.main_arg0)
          ∧ r.2.mem ((c.tc : Thread Cert.FirstFeedForwardIdeal.nD Cert.FirstFeedForwardIdeal.τ).loc Cert.FirstFeedForwardIdeal.main_arg1) = m ((c.tc : Thread Cert.FirstFeedForwardIdeal.nD Cert.FirstFeedForwardIdeal.τ).loc Cert.FirstFeedForwardIdeal.main_arg1)
          ∧ r.2.mem ((c.tc : Thread Cert.FirstFeedForwardIdeal.nD Cert.FirstFeedForwardIdeal.τ).loc Cert.FirstFeedForwardIdeal.main_arg2) = m ((c.tc : Thread Cert.FirstFeedForwardIdeal.nD Cert.FirstFeedForwardIdeal.τ).loc Cert.FirstFeedForwardIdeal.main_arg2)
          ∧ r.2.mem ((c.tc : Thread Cert.FirstFeedForwardIdeal.nD Cert.FirstFeedForwardIdeal.τ).loc Cert.FirstFeedForwardIdeal.main_arg3) = m ((c.tc : Thread Cert.FirstFeedForwardIdeal.nD Cert.FirstFeedForwardIdeal.τ).loc Cert.FirstFeedForwardIdeal.main_arg3)
          ∧ r.2.mem ((c.tc : Thread Cert.FirstFeedForwardIdeal.nD Cert.FirstFeedForwardIdeal.τ).loc Cert.FirstFeedForwardIdeal.main_arg4) = m ((c.tc : Thread Cert.FirstFeedForwardIdeal.nD Cert.FirstFeedForwardIdeal.τ).loc Cert.FirstFeedForwardIdeal.main_arg4)
          ∧ r.2.mem ((c.tc : Thread Cert.FirstFeedForwardIdeal.nD Cert.FirstFeedForwardIdeal.τ).loc Cert.FirstFeedForwardIdeal.main_arg5) = m ((c.tc : Thread Cert.FirstFeedForwardIdeal.nD Cert.FirstFeedForwardIdeal.τ).loc Cert.FirstFeedForwardIdeal.main_arg5))
      ∧ θ_run (Cert.FirstFeedForwardReferenceIdeal.defs (F := Ideal)) (onTc (τ := Cert.FirstFeedForwardReferenceIdeal.τ) (Cert.FirstFeedForwardReferenceIdeal.main (F := Ideal))) ⟨m', fun _ => 0, g'⟩ (fun r => ∀ c : Dev Cert.FirstFeedForwardReferenceIdeal.nD,
          r.2.mem ((c.tc : Thread Cert.FirstFeedForwardReferenceIdeal.nD Cert.FirstFeedForwardReferenceIdeal.τ).loc Cert.FirstFeedForwardReferenceIdeal.main_v86) = v0 c
          ∧ r.2.mem ((c.tc : Thread Cert.FirstFeedForwardReferenceIdeal.nD Cert.FirstFeedForwardReferenceIdeal.τ).loc Cert.FirstFeedForwardReferenceIdeal.main_arg0) = m' ((c.tc : Thread Cert.FirstFeedForwardReferenceIdeal.nD Cert.FirstFeedForwardReferenceIdeal.τ).loc Cert.FirstFeedForwardReferenceIdeal.main_arg0)
          ∧ r.2.mem ((c.tc : Thread Cert.FirstFeedForwardReferenceIdeal.nD Cert.FirstFeedForwardReferenceIdeal.τ).loc Cert.FirstFeedForwardReferenceIdeal.main_arg1) = m' ((c.tc : Thread Cert.FirstFeedForwardReferenceIdeal.nD Cert.FirstFeedForwardReferenceIdeal.τ).loc Cert.FirstFeedForwardReferenceIdeal.main_arg1)
          ∧ r.2.mem ((c.tc : Thread Cert.FirstFeedForwardReferenceIdeal.nD Cert.FirstFeedForwardReferenceIdeal.τ).loc Cert.FirstFeedForwardReferenceIdeal.main_arg2) = m' ((c.tc : Thread Cert.FirstFeedForwardReferenceIdeal.nD Cert.FirstFeedForwardReferenceIdeal.τ).loc Cert.FirstFeedForwardReferenceIdeal.main_arg2)
          ∧ r.2.mem ((c.tc : Thread Cert.FirstFeedForwardReferenceIdeal.nD Cert.FirstFeedForwardReferenceIdeal.τ).loc Cert.FirstFeedForwardReferenceIdeal.main_arg3) = m' ((c.tc : Thread Cert.FirstFeedForwardReferenceIdeal.nD Cert.FirstFeedForwardReferenceIdeal.τ).loc Cert.FirstFeedForwardReferenceIdeal.main_arg3)
          ∧ r.2.mem ((c.tc : Thread Cert.FirstFeedForwardReferenceIdeal.nD Cert.FirstFeedForwardReferenceIdeal.τ).loc Cert.FirstFeedForwardReferenceIdeal.main_arg4) = m' ((c.tc : Thread Cert.FirstFeedForwardReferenceIdeal.nD Cert.FirstFeedForwardReferenceIdeal.τ).loc Cert.FirstFeedForwardReferenceIdeal.main_arg4)
          ∧ r.2.mem ((c.tc : Thread Cert.FirstFeedForwardReferenceIdeal.nD Cert.FirstFeedForwardReferenceIdeal.τ).loc Cert.FirstFeedForwardReferenceIdeal.main_arg5) = m' ((c.tc : Thread Cert.FirstFeedForwardReferenceIdeal.nD Cert.FirstFeedForwardReferenceIdeal.τ).loc Cert.FirstFeedForwardReferenceIdeal.main_arg5))

def preserves_Projections_ProjectionsIdeal : Prop :=
  True

def algebraic_ProjectionsIdeal_ProjectionsReferenceIdeal [hProjectionsIdeal : Cert.ProjectionsIdeal.Facts] [hProjectionsReferenceIdeal : Cert.ProjectionsReferenceIdeal.Facts] : Prop :=
  ∀ (m : (ℓ : Loc Cert.ProjectionsIdeal.nD Cert.ProjectionsIdeal.τ Cert.ProjectionsIdeal.sig) → Buf (Elt Ideal) ℓ) (g : Dev Cert.ProjectionsIdeal.nD → PrngReg)
    (m' : (ℓ : Loc Cert.ProjectionsReferenceIdeal.nD Cert.ProjectionsReferenceIdeal.τ Cert.ProjectionsReferenceIdeal.sig) → Buf (Elt Ideal) ℓ) (g' : Dev Cert.ProjectionsReferenceIdeal.nD → PrngReg), Pre_ProjectionsIdeal m →
    (∀ c : Dev Cert.ProjectionsIdeal.nD,
      m' ((c.tc : Thread Cert.ProjectionsReferenceIdeal.nD Cert.ProjectionsReferenceIdeal.τ).loc Cert.ProjectionsReferenceIdeal.main_arg0) = m ((c.tc : Thread Cert.ProjectionsIdeal.nD Cert.ProjectionsIdeal.τ).loc Cert.ProjectionsIdeal.main_arg0)
      ∧ m' ((c.tc : Thread Cert.ProjectionsReferenceIdeal.nD Cert.ProjectionsReferenceIdeal.τ).loc Cert.ProjectionsReferenceIdeal.main_arg1) = m ((c.tc : Thread Cert.ProjectionsIdeal.nD Cert.ProjectionsIdeal.τ).loc Cert.ProjectionsIdeal.main_arg1)
      ∧ m' ((c.tc : Thread Cert.ProjectionsReferenceIdeal.nD Cert.ProjectionsReferenceIdeal.τ).loc Cert.ProjectionsReferenceIdeal.main_arg2) = m ((c.tc : Thread Cert.ProjectionsIdeal.nD Cert.ProjectionsIdeal.τ).loc Cert.ProjectionsIdeal.main_arg2)
      ∧ m' ((c.tc : Thread Cert.ProjectionsReferenceIdeal.nD Cert.ProjectionsReferenceIdeal.τ).loc Cert.ProjectionsReferenceIdeal.main_arg3) = m ((c.tc : Thread Cert.ProjectionsIdeal.nD Cert.ProjectionsIdeal.τ).loc Cert.ProjectionsIdeal.main_arg3)
      ∧ m' ((c.tc : Thread Cert.ProjectionsReferenceIdeal.nD Cert.ProjectionsReferenceIdeal.τ).loc Cert.ProjectionsReferenceIdeal.main_arg4) = m ((c.tc : Thread Cert.ProjectionsIdeal.nD Cert.ProjectionsIdeal.τ).loc Cert.ProjectionsIdeal.main_arg4)
      ∧ m' ((c.tc : Thread Cert.ProjectionsReferenceIdeal.nD Cert.ProjectionsReferenceIdeal.τ).loc Cert.ProjectionsReferenceIdeal.main_arg5) = m ((c.tc : Thread Cert.ProjectionsIdeal.nD Cert.ProjectionsIdeal.τ).loc Cert.ProjectionsIdeal.main_arg5)) →
    ∃ (v0 : (c : Dev Cert.ProjectionsIdeal.nD) → Buf (Elt Ideal) ((c.tc : Thread Cert.ProjectionsIdeal.nD Cert.ProjectionsIdeal.τ).loc Cert.ProjectionsIdeal.main_v8_0)) (v1 : (c : Dev Cert.ProjectionsIdeal.nD) → Buf (Elt Ideal) ((c.tc : Thread Cert.ProjectionsIdeal.nD Cert.ProjectionsIdeal.τ).loc Cert.ProjectionsIdeal.main_v8_1)) (v2 : (c : Dev Cert.ProjectionsIdeal.nD) → Buf (Elt Ideal) ((c.tc : Thread Cert.ProjectionsIdeal.nD Cert.ProjectionsIdeal.τ).loc Cert.ProjectionsIdeal.main_v8_2)),
      θ_run (Cert.ProjectionsIdeal.defs (F := Ideal)) (onTc (τ := Cert.ProjectionsIdeal.τ) (Cert.ProjectionsIdeal.main (F := Ideal))) ⟨m, fun _ => 0, g⟩ (fun r => ∀ c : Dev Cert.ProjectionsIdeal.nD,
          r.2.mem ((c.tc : Thread Cert.ProjectionsIdeal.nD Cert.ProjectionsIdeal.τ).loc Cert.ProjectionsIdeal.main_v8_0) = v0 c
          ∧ r.2.mem ((c.tc : Thread Cert.ProjectionsIdeal.nD Cert.ProjectionsIdeal.τ).loc Cert.ProjectionsIdeal.main_v8_1) = v1 c
          ∧ r.2.mem ((c.tc : Thread Cert.ProjectionsIdeal.nD Cert.ProjectionsIdeal.τ).loc Cert.ProjectionsIdeal.main_v8_2) = v2 c
          ∧ r.2.mem ((c.tc : Thread Cert.ProjectionsIdeal.nD Cert.ProjectionsIdeal.τ).loc Cert.ProjectionsIdeal.main_arg0) = m ((c.tc : Thread Cert.ProjectionsIdeal.nD Cert.ProjectionsIdeal.τ).loc Cert.ProjectionsIdeal.main_arg0)
          ∧ r.2.mem ((c.tc : Thread Cert.ProjectionsIdeal.nD Cert.ProjectionsIdeal.τ).loc Cert.ProjectionsIdeal.main_arg1) = m ((c.tc : Thread Cert.ProjectionsIdeal.nD Cert.ProjectionsIdeal.τ).loc Cert.ProjectionsIdeal.main_arg1)
          ∧ r.2.mem ((c.tc : Thread Cert.ProjectionsIdeal.nD Cert.ProjectionsIdeal.τ).loc Cert.ProjectionsIdeal.main_arg2) = m ((c.tc : Thread Cert.ProjectionsIdeal.nD Cert.ProjectionsIdeal.τ).loc Cert.ProjectionsIdeal.main_arg2)
          ∧ r.2.mem ((c.tc : Thread Cert.ProjectionsIdeal.nD Cert.ProjectionsIdeal.τ).loc Cert.ProjectionsIdeal.main_arg3) = m ((c.tc : Thread Cert.ProjectionsIdeal.nD Cert.ProjectionsIdeal.τ).loc Cert.ProjectionsIdeal.main_arg3)
          ∧ r.2.mem ((c.tc : Thread Cert.ProjectionsIdeal.nD Cert.ProjectionsIdeal.τ).loc Cert.ProjectionsIdeal.main_arg4) = m ((c.tc : Thread Cert.ProjectionsIdeal.nD Cert.ProjectionsIdeal.τ).loc Cert.ProjectionsIdeal.main_arg4)
          ∧ r.2.mem ((c.tc : Thread Cert.ProjectionsIdeal.nD Cert.ProjectionsIdeal.τ).loc Cert.ProjectionsIdeal.main_arg5) = m ((c.tc : Thread Cert.ProjectionsIdeal.nD Cert.ProjectionsIdeal.τ).loc Cert.ProjectionsIdeal.main_arg5))
      ∧ θ_run (Cert.ProjectionsReferenceIdeal.defs (F := Ideal)) (onTc (τ := Cert.ProjectionsReferenceIdeal.τ) (Cert.ProjectionsReferenceIdeal.main (F := Ideal))) ⟨m', fun _ => 0, g'⟩ (fun r => ∀ c : Dev Cert.ProjectionsReferenceIdeal.nD,
          r.2.mem ((c.tc : Thread Cert.ProjectionsReferenceIdeal.nD Cert.ProjectionsReferenceIdeal.τ).loc Cert.ProjectionsReferenceIdeal.main_v101) = v0 c
          ∧ r.2.mem ((c.tc : Thread Cert.ProjectionsReferenceIdeal.nD Cert.ProjectionsReferenceIdeal.τ).loc Cert.ProjectionsReferenceIdeal.main_v103) = v1 c
          ∧ r.2.mem ((c.tc : Thread Cert.ProjectionsReferenceIdeal.nD Cert.ProjectionsReferenceIdeal.τ).loc Cert.ProjectionsReferenceIdeal.main_v105) = v2 c
          ∧ r.2.mem ((c.tc : Thread Cert.ProjectionsReferenceIdeal.nD Cert.ProjectionsReferenceIdeal.τ).loc Cert.ProjectionsReferenceIdeal.main_arg0) = m' ((c.tc : Thread Cert.ProjectionsReferenceIdeal.nD Cert.ProjectionsReferenceIdeal.τ).loc Cert.ProjectionsReferenceIdeal.main_arg0)
          ∧ r.2.mem ((c.tc : Thread Cert.ProjectionsReferenceIdeal.nD Cert.ProjectionsReferenceIdeal.τ).loc Cert.ProjectionsReferenceIdeal.main_arg1) = m' ((c.tc : Thread Cert.ProjectionsReferenceIdeal.nD Cert.ProjectionsReferenceIdeal.τ).loc Cert.ProjectionsReferenceIdeal.main_arg1)
          ∧ r.2.mem ((c.tc : Thread Cert.ProjectionsReferenceIdeal.nD Cert.ProjectionsReferenceIdeal.τ).loc Cert.ProjectionsReferenceIdeal.main_arg2) = m' ((c.tc : Thread Cert.ProjectionsReferenceIdeal.nD Cert.ProjectionsReferenceIdeal.τ).loc Cert.ProjectionsReferenceIdeal.main_arg2)
          ∧ r.2.mem ((c.tc : Thread Cert.ProjectionsReferenceIdeal.nD Cert.ProjectionsReferenceIdeal.τ).loc Cert.ProjectionsReferenceIdeal.main_arg3) = m' ((c.tc : Thread Cert.ProjectionsReferenceIdeal.nD Cert.ProjectionsReferenceIdeal.τ).loc Cert.ProjectionsReferenceIdeal.main_arg3)
          ∧ r.2.mem ((c.tc : Thread Cert.ProjectionsReferenceIdeal.nD Cert.ProjectionsReferenceIdeal.τ).loc Cert.ProjectionsReferenceIdeal.main_arg4) = m' ((c.tc : Thread Cert.ProjectionsReferenceIdeal.nD Cert.ProjectionsReferenceIdeal.τ).loc Cert.ProjectionsReferenceIdeal.main_arg4)
          ∧ r.2.mem ((c.tc : Thread Cert.ProjectionsReferenceIdeal.nD Cert.ProjectionsReferenceIdeal.τ).loc Cert.ProjectionsReferenceIdeal.main_arg5) = m' ((c.tc : Thread Cert.ProjectionsReferenceIdeal.nD Cert.ProjectionsReferenceIdeal.τ).loc Cert.ProjectionsReferenceIdeal.main_arg5))

def Claim : Prop :=
  ∃ (hKernel : Cert.Kernel.Facts) (hKernelIdeal : Cert.KernelIdeal.Facts) (hReferenceIdeal : Cert.ReferenceIdeal.Facts) (hFeedForward : Cert.FeedForward.Facts) (hFeedForwardIdeal : Cert.FeedForwardIdeal.Facts) (hFeedForwardReferenceIdeal : Cert.FeedForwardReferenceIdeal.Facts) (hSpatialGate : Cert.SpatialGate.Facts) (hSpatialGateIdeal : Cert.SpatialGateIdeal.Facts) (hSpatialGateReferenceIdeal : Cert.SpatialGateReferenceIdeal.Facts) (hFirstFeedForward : Cert.FirstFeedForward.Facts) (hFirstFeedForwardIdeal : Cert.FirstFeedForwardIdeal.Facts) (hFirstFeedForwardReferenceIdeal : Cert.FirstFeedForwardReferenceIdeal.Facts) (hProjections : Cert.Projections.Facts) (hProjectionsIdeal : Cert.ProjectionsIdeal.Facts) (hProjectionsReferenceIdeal : Cert.ProjectionsReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_FeedForward (hFeedForward := hFeedForward)
    ∧ quiescent_FeedForwardIdeal (hFeedForwardIdeal := hFeedForwardIdeal)
    ∧ quiescent_FeedForwardReferenceIdeal (hFeedForwardReferenceIdeal := hFeedForwardReferenceIdeal)
    ∧ quiescent_SpatialGate (hSpatialGate := hSpatialGate)
    ∧ quiescent_SpatialGateIdeal (hSpatialGateIdeal := hSpatialGateIdeal)
    ∧ quiescent_SpatialGateReferenceIdeal (hSpatialGateReferenceIdeal := hSpatialGateReferenceIdeal)
    ∧ quiescent_FirstFeedForward (hFirstFeedForward := hFirstFeedForward)
    ∧ quiescent_FirstFeedForwardIdeal (hFirstFeedForwardIdeal := hFirstFeedForwardIdeal)
    ∧ quiescent_FirstFeedForwardReferenceIdeal (hFirstFeedForwardReferenceIdeal := hFirstFeedForwardReferenceIdeal)
    ∧ quiescent_Projections (hProjections := hProjections)
    ∧ quiescent_ProjectionsIdeal (hProjectionsIdeal := hProjectionsIdeal)
    ∧ quiescent_ProjectionsReferenceIdeal (hProjectionsReferenceIdeal := hProjectionsReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_FeedForward_FeedForwardIdeal
    ∧ algebraic_FeedForwardIdeal_FeedForwardReferenceIdeal (hFeedForwardIdeal := hFeedForwardIdeal) (hFeedForwardReferenceIdeal := hFeedForwardReferenceIdeal)
    ∧ preserves_SpatialGate_SpatialGateIdeal
    ∧ algebraic_SpatialGateIdeal_SpatialGateReferenceIdeal (hSpatialGateIdeal := hSpatialGateIdeal) (hSpatialGateReferenceIdeal := hSpatialGateReferenceIdeal)
    ∧ preserves_FirstFeedForward_FirstFeedForwardIdeal
    ∧ algebraic_FirstFeedForwardIdeal_FirstFeedForwardReferenceIdeal (hFirstFeedForwardIdeal := hFirstFeedForwardIdeal) (hFirstFeedForwardReferenceIdeal := hFirstFeedForwardReferenceIdeal)
    ∧ preserves_Projections_ProjectionsIdeal
    ∧ algebraic_ProjectionsIdeal_ProjectionsReferenceIdeal (hProjectionsIdeal := hProjectionsIdeal) (hProjectionsReferenceIdeal := hProjectionsReferenceIdeal)
-- ==== Pre_finite.lean ====
abbrev S9216x4096 : Shape := ⟨2, ![9216, 4096]⟩
abbrev S1x32x15x31 : Shape := ⟨4, ![1, 32, 15, 31]⟩
abbrev S_ : Shape := ⟨0, ![]⟩

class Facts : Prop where
  bcast_S_S9216x4096 : S_.BroadcastsInDim S9216x4096 (![] : Fin 0 → Fin S9216x4096.rank)
  bcast_S_S1x32x15x31 : S_.BroadcastsInDim S1x32x15x31 (![] : Fin 0 → Fin S1x32x15x31.rank)

variable [Facts]

def fn {F : FTy → Type} [FloatOps F] (main_arg0 : FVec F S9216x4096 .bf16) (main_arg1 : FVec F S9216x4096 .bf16) (main_arg2 : FVec F S9216x4096 .bf16) (main_arg3 : FVec F S1x32x15x31 .f32) : IVec S9216x4096 1 × IVec S9216x4096 1 × IVec S1x32x15x31 1 :=
  let main_v0 : FVec F S9216x4096 .bf16 := Host.absf main_arg0
  let main_cst : FVec F S_ .bf16 := constant S_ .bf16 0x7F80#16
  let main_v1 : FVec F S9216x4096 .bf16 := broadcastInDim S9216x4096 ![] bcast_S_S9216x4096 main_cst
  let main_v2 : IVec S9216x4096 1 := cmpf .olt main_v0 main_v1
  let main_v3 : FVec F S9216x4096 .bf16 := Host.absf main_arg1
  let main_cst_0 : FVec F S_ .bf16 := constant S_ .bf16 0x7F80#16
  let main_v4 : FVec F S9216x4096 .bf16 := broadcastInDim S9216x4096 ![] bcast_S_S9216x4096 main_cst_0
  let main_v5 : IVec S9216x4096 1 := cmpf .olt main_v3 main_v4
  let main_v6 : FVec F S1x32x15x31 .f32 := Host.absf main_arg3
  let main_cst_1 : FVec F S_ .f32 := constant S_ .f32 0x7F800000#32
  let main_v7 : FVec F S1x32x15x31 .f32 := broadcastInDim S1x32x15x31 ![] bcast_S_S1x32x15x31 main_cst_1
  let main_v8 : IVec S1x32x15x31 1 := cmpf .olt main_v6 main_v7
  (main_v2, main_v5, main_v8)
-- ==== Kernel.lean ====
abbrev S9216x4096 : Shape := ⟨2, ![9216, 4096]⟩
abbrev S1x32x15x31 : Shape := ⟨4, ![1, 32, 15, 31]⟩
abbrev S32x15x31 : Shape := ⟨3, ![32, 15, 31]⟩
abbrev S14880 : Shape := ⟨1, ![14880]⟩
abbrev S32x3x256x768 : Shape := ⟨4, ![32, 3, 256, 768]⟩
abbrev S1x3x256x768 : Shape := ⟨4, ![1, 3, 256, 768]⟩
abbrev S64x128 : Shape := ⟨2, ![64, 128]⟩
abbrev S1 : Shape := ⟨1, ![1]⟩
abbrev S1x1x64x128 : Shape := ⟨4, ![1, 1, 64, 128]⟩
abbrev S8192x4096 : Shape := ⟨2, ![8192, 4096]⟩
abbrev S2048x128 : Shape := ⟨2, ![2048, 128]⟩
abbrev S256x128 : Shape := ⟨2, ![256, 128]⟩
abbrev S768x128 : Shape := ⟨2, ![768, 128]⟩
abbrev S256x768 : Shape := ⟨2, ![256, 768]⟩
abbrev S1x1x256x768 : Shape := ⟨4, ![1, 1, 256, 768]⟩
abbrev S256x256 : Shape := ⟨2, ![256, 256]⟩
abbrev S256 : Shape := ⟨1, ![256]⟩
abbrev S256x1 : Shape := ⟨2, ![256, 1]⟩

abbrev nBuf : Space → Nat
  | .hbm => 8
  | .vmem => 16
  | .smem => 1
  | _ => 0

abbrev bufTy : (tb : Table) → Fin (tcTables nBuf tb) → BufTy
  | .hbm, ⟨0, _⟩ => ⟨S9216x4096, .bf16⟩
  | .hbm, ⟨1, _⟩ => ⟨S9216x4096, .bf16⟩
  | .hbm, ⟨2, _⟩ => ⟨S9216x4096, .bf16⟩
  | .hbm, ⟨3, _⟩ => ⟨S1x32x15x31, .f32⟩
  | .hbm, ⟨4, _⟩ => ⟨S32x15x31, .f32⟩
  | .hbm, ⟨5, _⟩ => ⟨S14880, .f32⟩
  | .hbm, ⟨6, _⟩ => ⟨S32x3x256x768, .f32⟩
  | .hbm, ⟨7, _⟩ => ⟨S8192x4096, .bf16⟩
  | .local _ .vmem, ⟨0, _⟩ => ⟨S1x3x256x768, .f32⟩
  | .local _ .vmem, ⟨1, _⟩ => ⟨S1x3x256x768, .f32⟩
  | .local _ .vmem, ⟨2, _⟩ => ⟨S2048x128, .bf16⟩
  | .local _ .vmem, ⟨3, _⟩ => ⟨S2048x128, .bf16⟩
  | .local _ .vmem, ⟨4, _⟩ => ⟨S2048x128, .bf16⟩
  | .local _ .vmem, ⟨5, _⟩ => ⟨S2048x128, .bf16⟩
  | .local _ .vmem, ⟨6, _⟩ => ⟨S2048x128, .bf16⟩
  | .local _ .vmem, ⟨7, _⟩ => ⟨S2048x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S1x3x256x768, .f32⟩
  | .local _ .vmem, ⟨13, _⟩ => ⟨S1x3x256x768, .f32⟩
  | .local _ .vmem, ⟨14, _⟩ => ⟨S2048x128, .bf16⟩
  | .local _ .vmem, ⟨15, _⟩ => ⟨S2048x128, .bf16⟩
  | .local _ .smem, ⟨0, _⟩ => ⟨S14880, .f32⟩
  | _, _ => ⟨S9216x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg1_0 : Ref sig .tc := ⟨.vmem, 0, rfl⟩
abbrev cc0_stg1_1 : Ref sig .tc := ⟨.vmem, 1, rfl⟩
abbrev cc1_stg0_0 : Ref sig .tc := ⟨.vmem, 2, rfl⟩
abbrev cc1_stg0_1 : Ref sig .tc := ⟨.vmem, 3, rfl⟩
abbrev cc1_stg1_0 : Ref sig .tc := ⟨.vmem, 4, rfl⟩
abbrev cc1_stg1_1 : Ref sig .tc := ⟨.vmem, 5, rfl⟩
abbrev cc1_stg2_0 : Ref sig .tc := ⟨.vmem, 6, rfl⟩
abbrev cc1_stg2_1 : Ref sig .tc := ⟨.vmem, 7, rfl⟩
abbrev cc1_stg3_0 : Ref sig .tc := ⟨.vmem, 8, rfl⟩
abbrev cc1_stg3_1 : Ref sig .tc := ⟨.vmem, 9, rfl⟩
abbrev cc1_stg4_0 : Ref sig .tc := ⟨.vmem, 10, rfl⟩
abbrev cc1_stg4_1 : Ref sig .tc := ⟨.vmem, 11, rfl⟩
abbrev cc1_stg5_0 : Ref sig .tc := ⟨.vmem, 12, rfl⟩
abbrev cc1_stg5_1 : Ref sig .tc := ⟨.vmem, 13, rfl⟩
abbrev cc1_stg6_0 : Ref sig .tc := ⟨.vmem, 14, rfl⟩
abbrev cc1_stg6_1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc1_sem4_0 : DmaSem sig := 11
abbrev cc1_sem4_1 : DmaSem sig := 12
abbrev cc1_sem5_0 : DmaSem sig := 13
abbrev cc1_sem5_1 : DmaSem sig := 14
abbrev cc1_sem6_0 : DmaSem sig := 15
abbrev cc1_sem6_1 : DmaSem sig := 16

abbrev nD : Nat := 1
abbrev τ : Topo := Topo.v7x

variable {F : FTy → Type} [FloatOps F]

abbrev grid0 : Pipeline.Grid := ⟨1, ![32], ![false]⟩

def k0_off1 (i : grid0.Coords) (c0_i32_17 : BitVec 32) (c0_i32_18 : BitVec 32) : Fin 1 → Nat :=
  let arg0 : BitVec 32 := BitVec.ofNat 32 (i 0).val
  let c465_i32 : BitVec 32 := 465#32
  let v44 : BitVec 32 := Scalar.muli arg0 c465_i32
  let v45 : BitVec 32 := Scalar.addi v44 c0_i32_17
  let v46 : BitVec 32 := Scalar.addi v45 c0_i32_18
  let v47 : Index := Scalar.indexCast v46
  ![v47.toNat]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 1 → Memref sig .tc .smem S14880 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x3x256x768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev grid1 : Pipeline.Grid := ⟨2, ![32, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_3 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

def cc1_transform_4 (i : grid1.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.addi c32_i32 arg1
  let c0_i32 : BitVec 32 := 0#32
  ![v0.toNat, arg0.toNat]

def cc1_transform_5 (i : grid1.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S2048x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S2048x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S2048x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S256x128 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev stage1_4 : Fin 2 → Memref sig .tc .vmem S256x128 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev stage1_5 : Fin 2 → Memref sig .tc .vmem S1x3x256x768 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, false]

abbrev stage1_6 : Fin 2 → Memref sig .tc .vmem S2048x128 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]
-- ==== KernelIdeal.lean ====
variable {F : FTy → Type} [FloatOps F] [Named F]
def κ : String → Option EReal := fun
  | "mask" => some ⊥
  | _ => none
-- ==== ReferenceIdeal.lean ====
abbrev S9216x4096 : Shape := ⟨2, ![9216, 4096]⟩
abbrev S1x32x15x31 : Shape := ⟨4, ![1, 32, 15, 31]⟩
abbrev S32x15x31 : Shape := ⟨3, ![32, 15, 31]⟩
abbrev S1024x4096 : Shape := ⟨2, ![1024, 4096]⟩
abbrev S4x256x32x128 : Shape := ⟨4, ![4, 256, 32, 128]⟩
abbrev S8192x4096 : Shape := ⟨2, ![8192, 4096]⟩
abbrev S4x32x64x32x128 : Shape := ⟨5, ![4, 32, 64, 32, 128]⟩
abbrev S32x4x32x64x128 : Shape := ⟨5, ![32, 4, 32, 64, 128]⟩
abbrev S64 : Shape := ⟨1, ![64]⟩
abbrev S_ : Shape := ⟨0, ![]⟩
abbrev S1x64 : Shape := ⟨2, ![1, 64]⟩
abbrev S64x1 : Shape := ⟨2, ![64, 1]⟩
abbrev S64x64 : Shape := ⟨2, ![64, 64]⟩
abbrev S64x64x1 : Shape := ⟨3, ![64, 64, 1]⟩
abbrev S32x15x64x64 : Shape := ⟨4, ![32, 15, 64, 64]⟩
abbrev S32 : Shape := ⟨1, ![32]⟩
abbrev S32x1 : Shape := ⟨2, ![32, 1]⟩
abbrev S8 : Shape := ⟨1, ![8]⟩
abbrev S1x8 : Shape := ⟨2, ![1, 8]⟩
abbrev S32x8 : Shape := ⟨2, ![32, 8]⟩
abbrev S32x8x1 : Shape := ⟨3, ![32, 8, 1]⟩
abbrev S32x8x4x32x64x128 : Shape := ⟨6, ![32, 8, 4, 32, 64, 128]⟩
abbrev S32x32x8x64x64 : Shape := ⟨5, ![32, 32, 8, 64, 64]⟩
abbrev S32x32x64x8x64 : Shape := ⟨5, ![32, 32, 64, 8, 64]⟩
abbrev S32x4x32x64x8x64 : Shape := ⟨6, ![32, 4, 32, 64, 8, 64]⟩
abbrev S32x1x32x64x8x64 : Shape := ⟨6, ![32, 1, 32, 64, 8, 64]⟩
abbrev S64x1x64 : Shape := ⟨3, ![64, 1, 64]⟩
abbrev S4x32x256x32x64 : Shape := ⟨5, ![4, 32, 256, 32, 64]⟩
abbrev S32x4x32x64x256 : Shape := ⟨5, ![32, 4, 32, 64, 256]⟩
abbrev S32x4x32x64x512 : Shape := ⟨5, ![32, 4, 32, 64, 512]⟩
abbrev S32x4x32x64x768 : Shape := ⟨5, ![32, 4, 32, 64, 768]⟩
abbrev S32x4x32x64 : Shape := ⟨4, ![32, 4, 32, 64]⟩
abbrev S32x4x32x64x1 : Shape := ⟨5, ![32, 4, 32, 64, 1]⟩
abbrev S32x4x32x8x64x128 : Shape := ⟨6, ![32, 4, 32, 8, 64, 128]⟩
abbrev S32x4x32x512x128 : Shape := ⟨5, ![32, 4, 32, 512, 128]⟩
abbrev S4x32x128x32x64 : Shape := ⟨5, ![4, 32, 128, 32, 64]⟩

abbrev nBuf : Space → Nat
  | .hbm => 141
  | .vmem => 0
  | .smem => 0
  | _ => 0

abbrev hbmTy0_0 (i : Nat) : BufTy := match i % 128 with
  | 0 => ⟨S9216x4096, .bf16⟩
  | 1 => ⟨S9216x4096, .bf16⟩
  | 2 => ⟨S9216x4096, .bf16⟩
  | 3 => ⟨S1x32x15x31, .f32⟩
  | 4 => ⟨S32x15x31, .f32⟩
  | 5 => ⟨S9216x4096, .f32⟩
  | 6 => ⟨S9216x4096, .f32⟩
  | 7 => ⟨S9216x4096, .f32⟩
  | 8 => ⟨S1024x4096, .f32⟩
  | 9 => ⟨S4x256x32x128, .f32⟩
  | 10 => ⟨S1024x4096, .f32⟩
  | 11 => ⟨S4x256x32x128, .f32⟩
  | 12 => ⟨S8192x4096, .f32⟩
  | 13 => ⟨S4x32x64x32x128, .f32⟩
  | 14 => ⟨S32x4x32x64x128, .f32⟩
  | 15 => ⟨S8192x4096, .f32⟩
  | 16 => ⟨S4x32x64x32x128, .f32⟩
  | 17 => ⟨S32x4x32x64x128, .f32⟩
  | 18 => ⟨S8192x4096, .f32⟩
  | 19 => ⟨S4x32x64x32x128, .f32⟩
  | 20 => ⟨S32x4x32x64x128, .f32⟩
  | 21 => ⟨S64, .i32⟩
  | 22 => ⟨S_, .i32⟩
  | 23 => ⟨S64, .i32⟩
  | 24 => ⟨S64, .i32⟩
  | 25 => ⟨S_, .i32⟩
  | 26 => ⟨S_, .i32⟩
  | 27 => ⟨S_, .i32⟩
  | 28 => ⟨S64, .i32⟩
  | 29 => ⟨S64, .i32⟩
  | 30 => ⟨S_, .i32⟩
  | 31 => ⟨S64, .i32⟩
  | 32 => ⟨S64, .i32⟩
  | 33 => ⟨S1x64, .i32⟩
  | 34 => ⟨S64x1, .i32⟩
  | 35 => ⟨S64x64, .i32⟩
  | 36 => ⟨S64x64, .i32⟩
  | 37 => ⟨S64x64, .i1⟩
  | 38 => ⟨S1x64, .i32⟩
  | 39 => ⟨S64x1, .i32⟩
  | 40 => ⟨S_, .i32⟩
  | 41 => ⟨S64x1, .i32⟩
  | 42 => ⟨S64x1, .i32⟩
  | 43 => ⟨S64x64, .i32⟩
  | 44 => ⟨S64x64, .i32⟩
  | 45 => ⟨S64x64, .i1⟩
  | 46 => ⟨S64x64, .i1⟩
  | 47 => ⟨S1x64, .i32⟩
  | 48 => ⟨S64x1, .i32⟩
  | 49 => ⟨S64x64, .i32⟩
  | 50 => ⟨S64x64, .i32⟩
  | 51 => ⟨S64x64, .i32⟩
  | 52 => ⟨S_, .i32⟩
  | 53 => ⟨S_, .i32⟩
  | 54 => ⟨S_, .i32⟩
  | 55 => ⟨S64x64, .i32⟩
  | 56 => ⟨S64x64, .i32⟩
  | 57 => ⟨S_, .i32⟩
  | 58 => ⟨S64x64, .i32⟩
  | 59 => ⟨S64x64, .i32⟩
  | 60 => ⟨S_, .i32⟩
  | 61 => ⟨S64x64, .i32⟩
  | 62 => ⟨S64x64, .i32⟩
  | 63 => ⟨S_, .i32⟩
  | 64 => ⟨S64x64, .i32⟩
  | 65 => ⟨S64x64, .i32⟩
  | 66 => ⟨S64x64x1, .i32⟩
  | 67 => ⟨S32x15x64x64, .f32⟩
  | 68 => ⟨S32, .i32⟩
  | 69 => ⟨S_, .i32⟩
  | 70 => ⟨S32, .i32⟩
  | 71 => ⟨S32, .i32⟩
  | 72 => ⟨S_, .i32⟩
  | 73 => ⟨S_, .i32⟩
  | 74 => ⟨S_, .i32⟩
  | 75 => ⟨S32, .i32⟩
  | 76 => ⟨S32, .i32⟩
  | 77 => ⟨S_, .i32⟩
  | 78 => ⟨S32, .i32⟩
  | 79 => ⟨S32, .i32⟩
  | 80 => ⟨S32x1, .i32⟩
  | 81 => ⟨S8, .i32⟩
  | 82 => ⟨S1x8, .i32⟩
  | 83 => ⟨S32x8, .i32⟩
  | 84 => ⟨S32x8, .i32⟩
  | 85 => ⟨S32x8, .i32⟩
  | 86 => ⟨S32x8x1, .i32⟩
  | 87 => ⟨S32x8x4x32x64x128, .f32⟩
  | 88 => ⟨S32x8x1, .i32⟩
  | 89 => ⟨S32x8x4x32x64x128, .f32⟩
  | 90 => ⟨S32x1, .i32⟩
  | 91 => ⟨S32x8, .i32⟩
  | 92 => ⟨S32x8, .i32⟩
  | 93 => ⟨S_, .i32⟩
  | 94 => ⟨S32x8, .i32⟩
  | 95 => ⟨S32x8, .i32⟩
  | 96 => ⟨S_, .i32⟩
  | 97 => ⟨S32x8, .i32⟩
  | 98 => ⟨S32x8, .i32⟩
  | 99 => ⟨S32x8x1, .i32⟩
  | 100 => ⟨S32x32x8x64x64, .f32⟩
  | 101 => ⟨S32x32x64x8x64, .f32⟩
  | 102 => ⟨S32x4x32x64x8x64, .f32⟩
  | 103 => ⟨S32x1x32x64x8x64, .f32⟩
  | 104 => ⟨S32x4x32x64x8x64, .f32⟩
  | 105 => ⟨S32x4x32x64x8x64, .f32⟩
  | 106 => ⟨S64x1x64, .i1⟩
  | 107 => ⟨S_, .f32⟩
  | 108 => ⟨S_, .f32⟩
  | 109 => ⟨S32x4x32x64x8x64, .i1⟩
  | 110 => ⟨S32x4x32x64x8x64, .f32⟩
  | 111 => ⟨S32x4x32x64x8x64, .f32⟩
  | 112 => ⟨S4x32x256x32x64, .f32⟩
  | 113 => ⟨S32x4x32x64x256, .f32⟩
  | 114 => ⟨S32x4x32x64x512, .f32⟩
  | 115 => ⟨S32x4x32x64x768, .f32⟩
  | 116 => ⟨S_, .f32⟩
  | 117 => ⟨S32x4x32x64, .f32⟩
  | 118 => ⟨S_, .f32⟩
  | 119 => ⟨S32x4x32x64, .f32⟩
  | 120 => ⟨S32x4x32x64, .f32⟩
  | 121 => ⟨S32x4x32x64x1, .f32⟩
  | 122 => ⟨S32x4x32x64x768, .f32⟩
  | 123 => ⟨S32x4x32x64x768, .f32⟩
  | 124 => ⟨S32x4x32x64x768, .f32⟩
  | 125 => ⟨S_, .f32⟩
  | 126 => ⟨S32x4x32x64, .f32⟩
  | 127 => ⟨S32x4x32x64x1, .f32⟩
  | _ => ⟨S9216x4096, .bf16⟩

abbrev hbmTy0_1 (i : Nat) : BufTy := match i % 128 with
  | 0 => ⟨S32x4x32x64x768, .f32⟩
  | 1 => ⟨S32x4x32x64x768, .f32⟩
  | 2 => ⟨S32x4x32x8x64x128, .f32⟩
  | 3 => ⟨S32x4x32x512x128, .f32⟩
  | 4 => ⟨S32x4x32x64x512, .f32⟩
  | 5 => ⟨S32x4x32x64x128, .f32⟩
  | 6 => ⟨S32x4x32x64x256, .f32⟩
  | 7 => ⟨S4x32x128x32x64, .f32⟩
  | 8 => ⟨S32x4x32x64x128, .f32⟩
  | 9 => ⟨S32x4x32x64x128, .f32⟩
  | 10 => ⟨S4x32x64x32x128, .f32⟩
  | 11 => ⟨S8192x4096, .f32⟩
  | 12 => ⟨S8192x4096, .bf16⟩
  | _ => ⟨S9216x4096, .bf16⟩

abbrev hbmTy (i : Nat) : BufTy := match i / 128 with
  | 0 => hbmTy0_0 i
  | 1 => hbmTy0_1 i
  | _ => ⟨S9216x4096, .bf16⟩

abbrev bufTy : (tb : Table) → Fin (tcTables nBuf tb) → BufTy
  | .hbm, ⟨i, _⟩ => hbmTy i
  | _, _ => ⟨S9216x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_c_1 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_c_2 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_c_3 : Ref sig .tc := ⟨.hbm, 52, rfl⟩
abbrev main_c_4 : Ref sig .tc := ⟨.hbm, 53, rfl⟩
abbrev main_call1_v0 : Ref sig .tc := ⟨.hbm, 54, rfl⟩
abbrev main_call1_v1 : Ref sig .tc := ⟨.hbm, 55, rfl⟩
abbrev main_call1_v2 : Ref sig .tc := ⟨.hbm, 56, rfl⟩
abbrev main_call1_v3 : Ref sig .tc := ⟨.hbm, 57, rfl⟩
abbrev main_call1_v4 : Ref sig .tc := ⟨.hbm, 58, rfl⟩
abbrev main_v39 : Ref sig .tc := ⟨.hbm, 59, rfl⟩
abbrev main_c_5 : Ref sig .tc := ⟨.hbm, 60, rfl⟩
abbrev main_v40 : Ref sig .tc := ⟨.hbm, 61, rfl⟩
abbrev main_v41 : Ref sig .tc := ⟨.hbm, 62, rfl⟩
abbrev main_c_6 : Ref sig .tc := ⟨.hbm, 63, rfl⟩
abbrev main_v42 : Ref sig .tc := ⟨.hbm, 64, rfl⟩
abbrev main_v43 : Ref sig .tc := ⟨.hbm, 65, rfl⟩
abbrev main_call2_v0 : Ref sig .tc := ⟨.hbm, 66, rfl⟩
abbrev main_v44 : Ref sig .tc := ⟨.hbm, 67, rfl⟩
abbrev main_v45 : Ref sig .tc := ⟨.hbm, 68, rfl⟩
abbrev main_c_7 : Ref sig .tc := ⟨.hbm, 69, rfl⟩
abbrev main_v46 : Ref sig .tc := ⟨.hbm, 70, rfl⟩
abbrev main_v47 : Ref sig .tc := ⟨.hbm, 71, rfl⟩
abbrev main_c_8 : Ref sig .tc := ⟨.hbm, 72, rfl⟩
abbrev main_c_9 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_call3_v3 : Ref sig .tc := ⟨.hbm, 77, rfl⟩
abbrev main_call3_v4 : Ref sig .tc := ⟨.hbm, 78, rfl⟩
abbrev main_v48 : Ref sig .tc := ⟨.hbm, 79, rfl⟩
abbrev main_v49 : Ref sig .tc := ⟨.hbm, 80, rfl⟩
abbrev main_v50 : Ref sig .tc := ⟨.hbm, 81, rfl⟩
abbrev main_v51 : Ref sig .tc := ⟨.hbm, 82, rfl⟩
abbrev main_v52 : Ref sig .tc := ⟨.hbm, 83, rfl⟩
abbrev main_v53 : Ref sig .tc := ⟨.hbm, 84, rfl⟩
abbrev main_v54 : Ref sig .tc := ⟨.hbm, 85, rfl⟩
abbrev main_call4_v0 : Ref sig .tc := ⟨.hbm, 86, rfl⟩
abbrev main_v55 : Ref sig .tc := ⟨.hbm, 87, rfl⟩
abbrev main_call5_v0 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_c_10 : Ref sig .tc := ⟨.hbm, 93, rfl⟩
abbrev main_v60 : Ref sig .tc := ⟨.hbm, 94, rfl⟩
abbrev main_v61 : Ref sig .tc := ⟨.hbm, 95, rfl⟩
abbrev main_c_11 : Ref sig .tc := ⟨.hbm, 96, rfl⟩
abbrev main_v62 : Ref sig .tc := ⟨.hbm, 97, rfl⟩
abbrev main_v63 : Ref sig .tc := ⟨.hbm, 98, rfl⟩
abbrev main_call6_v0 : Ref sig .tc := ⟨.hbm, 99, rfl⟩
abbrev main_v64 : Ref sig .tc := ⟨.hbm, 100, rfl⟩
abbrev main_v65 : Ref sig .tc := ⟨.hbm, 101, rfl⟩
abbrev main_v66 : Ref sig .tc := ⟨.hbm, 102, rfl⟩
abbrev main_v67 : Ref sig .tc := ⟨.hbm, 103, rfl⟩
abbrev main_v68 : Ref sig .tc := ⟨.hbm, 104, rfl⟩
abbrev main_v69 : Ref sig .tc := ⟨.hbm, 105, rfl⟩
abbrev main_v70 : Ref sig .tc := ⟨.hbm, 106, rfl⟩
abbrev main_cst : Ref sig .tc := ⟨.hbm, 107, rfl⟩
abbrev main_call7_v0 : Ref sig .tc := ⟨.hbm, 108, rfl⟩
abbrev main_call7_v1 : Ref sig .tc := ⟨.hbm, 109, rfl⟩
abbrev main_call7_v2 : Ref sig .tc := ⟨.hbm, 110, rfl⟩
abbrev main_v71 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩
abbrev main_cst_12 : Ref sig .tc := ⟨.hbm, 116, rfl⟩
abbrev main_v76 : Ref sig .tc := ⟨.hbm, 117, rfl⟩
abbrev main_cst_13 : Ref sig .tc := ⟨.hbm, 118, rfl⟩
abbrev main_v77 : Ref sig .tc := ⟨.hbm, 119, rfl⟩
abbrev main_v78 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_cst_14 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_v87 : Ref sig .tc := ⟨.hbm, 130, rfl⟩
abbrev main_v88 : Ref sig .tc := ⟨.hbm, 131, rfl⟩
abbrev main_v89 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩

abbrev nD : Nat := 1
abbrev τ : Topo := Topo.v7x

variable {F : FTy → Type} [FloatOps F]

def κ : String → Option EReal := fun
  | "mask" => some ⊥
  | _ => none
-- ==== FeedForward.lean ====
abbrev S8192x4096 : Shape := ⟨2, ![8192, 4096]⟩
abbrev S2x8x9x1x4096 : Shape := ⟨5, ![2, 8, 9, 1, 4096]⟩
abbrev S2x3x4096 : Shape := ⟨3, ![2, 3, 4096]⟩
abbrev S2x2x4096x16384 : Shape := ⟨4, ![2, 2, 4096, 16384]⟩
abbrev S2x2x8192x4096 : Shape := ⟨4, ![2, 2, 8192, 4096]⟩
abbrev S1x1x4096 : Shape := ⟨3, ![1, 1, 4096]⟩
abbrev S4096 : Shape := ⟨1, ![4096]⟩
abbrev S1x4096 : Shape := ⟨2, ![1, 4096]⟩
abbrev S512x4096 : Shape := ⟨2, ![512, 4096]⟩
abbrev S1x1x1x1x4096 : Shape := ⟨5, ![1, 1, 1, 1, 4096]⟩
abbrev S512 : Shape := ⟨1, ![512]⟩
abbrev S512x1 : Shape := ⟨2, ![512, 1]⟩
abbrev S8192x8192 : Shape := ⟨2, ![8192, 8192]⟩
abbrev S1024x4096 : Shape := ⟨2, ![1024, 4096]⟩
abbrev S1x1x4096x512 : Shape := ⟨4, ![1, 1, 4096, 512]⟩
abbrev S1024x512 : Shape := ⟨2, ![1024, 512]⟩
abbrev S4096x512 : Shape := ⟨2, ![4096, 512]⟩
abbrev S512x8192 : Shape := ⟨2, ![512, 8192]⟩
abbrev S1x1x8192x512 : Shape := ⟨4, ![1, 1, 8192, 512]⟩
abbrev S1x1x1x1x512 : Shape := ⟨5, ![1, 1, 1, 1, 512]⟩
abbrev S512x512 : Shape := ⟨2, ![512, 512]⟩
abbrev S8192x512 : Shape := ⟨2, ![8192, 512]⟩
abbrev S1x512 : Shape := ⟨2, ![1, 512]⟩

abbrev nBuf : Space → Nat
  | .hbm => 11
  | .vmem => 27
  | .smem => 0
  | _ => 0

abbrev bufTy : (tb : Table) → Fin (tcTables nBuf tb) → BufTy
  | .hbm, ⟨0, _⟩ => ⟨S8192x4096, .f32⟩
  | .hbm, ⟨1, _⟩ => ⟨S2x8x9x1x4096, .f32⟩
  | .hbm, ⟨2, _⟩ => ⟨S2x3x4096, .f32⟩
  | .hbm, ⟨3, _⟩ => ⟨S2x2x4096x16384, .f32⟩
  | .hbm, ⟨4, _⟩ => ⟨S2x2x8192x4096, .f32⟩
  | .hbm, ⟨5, _⟩ => ⟨S1x1x4096, .f32⟩
  | .hbm, ⟨6, _⟩ => ⟨S4096, .f32⟩
  | .hbm, ⟨7, _⟩ => ⟨S1x4096, .f32⟩
  | .hbm, ⟨8, _⟩ => ⟨S8192x4096, .bf16⟩
  | .hbm, ⟨9, _⟩ => ⟨S8192x8192, .bf16⟩
  | .hbm, ⟨10, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1x1x4096x512, .f32⟩
  | .local _ .vmem, ⟨12, _⟩ => ⟨S1x1x4096x512, .f32⟩
  | .local _ .vmem, ⟨13, _⟩ => ⟨S1x1x4096x512, .f32⟩
  | .local _ .vmem, ⟨14, _⟩ => ⟨S1x1x4096x512, .f32⟩
  | .local _ .vmem, ⟨15, _⟩ => ⟨S1024x512, .bf16⟩
  | .local _ .vmem, ⟨16, _⟩ => ⟨S1024x512, .bf16⟩
  | .local _ .vmem, ⟨17, _⟩ => ⟨S512x8192, .bf16⟩
  | .local _ .vmem, ⟨18, _⟩ => ⟨S512x8192, .bf16⟩
  | .local _ .vmem, ⟨19, _⟩ => ⟨S1x1x8192x512, .f32⟩
  | .local _ .vmem, ⟨20, _⟩ => ⟨S1x1x8192x512, .f32⟩
  | .local _ .vmem, ⟨21, _⟩ => ⟨S1x1x1x1x512, .f32⟩
  | .local _ .vmem, ⟨22, _⟩ => ⟨S1x1x1x1x512, .f32⟩
  | .local _ .vmem, ⟨23, _⟩ => ⟨S512x512, .f32⟩
  | .local _ .vmem, ⟨24, _⟩ => ⟨S512x512, .f32⟩
  | .local _ .vmem, ⟨25, _⟩ => ⟨S512x512, .f32⟩
  | .local _ .vmem, ⟨26, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c6_i32 : BitVec 32 := 6#32
  let c0_i32_5 : BitVec 32 := 0#32
  let c0_i32_6 : BitVec 32 := 0#32
  let c0_i32_7 : BitVec 32 := 0#32
  ![c1_i32_4.toNat, v18.toNat, c6_i32.toNat, c0_i32_5.toNat, c0_i32_6.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c7_i32 : BitVec 32 := 7#32
  let c0_i32_5 : BitVec 32 := 0#32
  let c0_i32_6 : BitVec 32 := 0#32
  let c0_i32_7 : BitVec 32 := 0#32
  ![c1_i32_4.toNat, v18.toNat, c7_i32.toNat, c0_i32_5.toNat, c0_i32_6.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c1_i32_0 : BitVec 32 := 1#32
  let c0_i32_1 : BitVec 32 := 0#32
  let c0_i32_2 : BitVec 32 := 0#32
  ![c1_i32.toNat, c1_i32_0.toNat, c0_i32_1.toNat, v0.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c1_i32 : BitVec 32 := 1#32
  let c1_i32_0 : BitVec 32 := 1#32
  let c0_i32 : BitVec 32 := 0#32
  let c0_i32_1 : BitVec 32 := 0#32
  ![c1_i32.toNat, c1_i32_0.toNat, c0_i32.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c1_i32 : BitVec 32 := 1#32
  let c1_i32_0 : BitVec 32 := 1#32
  let c0_i32_1 : BitVec 32 := 0#32
  let c0_i32_2 : BitVec 32 := 0#32
  ![c1_i32.toNat, c1_i32_0.toNat, c0_i32_1.toNat, v0.toNat]

def cc2_transform_2 (i : grid2.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c8_i32 : BitVec 32 := 8#32
  let c0_i32_5 : BitVec 32 := 0#32
  let c0_i32_6 : BitVec 32 := 0#32
  ![c1_i32_4.toNat, v18.toNat, c8_i32.toNat, c0_i32_5.toNat, arg0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x1x8192x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== FeedForwardReferenceIdeal.lean ====
abbrev S8192x4096 : Shape := ⟨2, ![8192, 4096]⟩
abbrev S2x8x9x1x4096 : Shape := ⟨5, ![2, 8, 9, 1, 4096]⟩
abbrev S2x3x4096 : Shape := ⟨3, ![2, 3, 4096]⟩
abbrev S2x2x4096x16384 : Shape := ⟨4, ![2, 2, 4096, 16384]⟩
abbrev S2x2x8192x4096 : Shape := ⟨4, ![2, 2, 8192, 4096]⟩
abbrev S4x2048x4096 : Shape := ⟨3, ![4, 2048, 4096]⟩
abbrev S1x4x9x1x4096 : Shape := ⟨5, ![1, 4, 9, 1, 4096]⟩
abbrev S4x9x1x4096 : Shape := ⟨4, ![4, 9, 1, 4096]⟩
abbrev S1x1x4096 : Shape := ⟨3, ![1, 1, 4096]⟩
abbrev S4096 : Shape := ⟨1, ![4096]⟩
abbrev S1x1x4096x16384 : Shape := ⟨4, ![1, 1, 4096, 16384]⟩
abbrev S4096x16384 : Shape := ⟨2, ![4096, 16384]⟩
abbrev S1x1x8192x4096 : Shape := ⟨4, ![1, 1, 8192, 4096]⟩
abbrev S_ : Shape := ⟨0, ![]⟩
abbrev S4x2048 : Shape := ⟨2, ![4, 2048]⟩
abbrev S4x2048x1 : Shape := ⟨3, ![4, 2048, 1]⟩
abbrev S4x1x1x4096 : Shape := ⟨4, ![4, 1, 1, 4096]⟩
abbrev S4x1x4096 : Shape := ⟨3, ![4, 1, 4096]⟩
abbrev S4x2048x16384 : Shape := ⟨3, ![4, 2048, 16384]⟩
abbrev S4x2048x8192 : Shape := ⟨3, ![4, 2048, 8192]⟩

abbrev nBuf : Space → Nat
  | .hbm => 64
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x8x9x1x4096, .f32⟩
  | .hbm, ⟨2, _⟩ => ⟨S2x3x4096, .f32⟩
  | .hbm, ⟨3, _⟩ => ⟨S2x2x4096x16384, .f32⟩
  | .hbm, ⟨4, _⟩ => ⟨S2x2x8192x4096, .f32⟩
  | .hbm, ⟨5, _⟩ => ⟨S4x2048x4096, .f32⟩
  | .hbm, ⟨6, _⟩ => ⟨S1x4x9x1x4096, .f32⟩
  | .hbm, ⟨7, _⟩ => ⟨S4x9x1x4096, .f32⟩
  | .hbm, ⟨8, _⟩ => ⟨S1x1x4096, .f32⟩
  | .hbm, ⟨9, _⟩ => ⟨S4096, .f32⟩
  | .hbm, ⟨10, _⟩ => ⟨S1x1x4096x16384, .f32⟩
  | .hbm, ⟨11, _⟩ => ⟨S4096x16384, .f32⟩
  | .hbm, ⟨12, _⟩ => ⟨S1x1x8192x4096, .f32⟩
  | .hbm, ⟨13, _⟩ => ⟨S8192x4096, .f32⟩
  | .hbm, ⟨14, _⟩ => ⟨S4x2048x4096, .f32⟩
  | .hbm, ⟨15, _⟩ => ⟨S_, .f32⟩
  | .hbm, ⟨16, _⟩ => ⟨S4x2048, .f32⟩
  | .hbm, ⟨17, _⟩ => ⟨S4x2048x1, .f32⟩
  | .hbm, ⟨18, _⟩ => ⟨S_, .f32⟩
  | .hbm, ⟨19, _⟩ => ⟨S4x2048x1, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S4x2048x1, .f32⟩
  | .hbm, ⟨25, _⟩ => ⟨S4x2048x4096, .f32⟩
  | .hbm, ⟨26, _⟩ => ⟨S4x2048x4096, .f32⟩
  | .hbm, ⟨27, _⟩ => ⟨S1x1x4096, .f32⟩
  | .hbm, ⟨28, _⟩ => ⟨S4x2048x4096, .f32⟩
  | .hbm, ⟨29, _⟩ => ⟨S4x2048x4096, .f32⟩
  | .hbm, ⟨30, _⟩ => ⟨S4x1x1x4096, .f32⟩
  | .hbm, ⟨31, _⟩ => ⟨S4x1x4096, .f32⟩
  | .hbm, ⟨32, _⟩ => ⟨S_, .f32⟩
  | .hbm, ⟨33, _⟩ => ⟨S4x1x4096, .f32⟩
  | .hbm, ⟨34, _⟩ => ⟨S4x1x4096, .f32⟩
  | .hbm, ⟨35, _⟩ => ⟨S4x2048x4096, .f32⟩
  | .hbm, ⟨36, _⟩ => ⟨S4x2048x4096, .f32⟩
  | .hbm, ⟨37, _⟩ => ⟨S4x1x1x4096, .f32⟩
  | .hbm, ⟨38, _⟩ => ⟨S4x1x4096, .f32⟩
  | .hbm, ⟨39, _⟩ => ⟨S4x2048x4096, .f32⟩
  | .hbm, ⟨40, _⟩ => ⟨S4x2048x4096, .f32⟩
  | .hbm, ⟨41, _⟩ => ⟨S4x2048x16384, .f32⟩
  | .hbm, ⟨42, _⟩ => ⟨S4x2048x8192, .f32⟩
  | .hbm, ⟨43, _⟩ => ⟨S4x2048x8192, .f32⟩
  | .hbm, ⟨44, _⟩ => ⟨S4x1x1x4096, .f32⟩
  | .hbm, ⟨45, _⟩ => ⟨S4x1x4096, .f32⟩
  | .hbm, ⟨46, _⟩ => ⟨S_, .f32⟩
  | .hbm, ⟨47, _⟩ => ⟨S4x1x4096, .f32⟩
  | .hbm, ⟨48, _⟩ => ⟨S4x1x4096, .f32⟩
  | .hbm, ⟨49, _⟩ => ⟨S4x2048x8192, .f32⟩
  | .hbm, ⟨50, _⟩ => ⟨S4x2048x8192, .f32⟩
  | .hbm, ⟨51, _⟩ => ⟨S_, .f32⟩
  | .hbm, ⟨52, _⟩ => ⟨S4x2048x8192, .f32⟩
  | .hbm, ⟨53, _⟩ => ⟨S4x2048x8192, .f32⟩
  | .hbm, ⟨54, _⟩ => ⟨S_, .f32⟩
  | .hbm, ⟨55, _⟩ => ⟨S4x2048x8192, .f32⟩
  | .hbm, ⟨56, _⟩ => ⟨S4x2048x8192, .f32⟩
  | .hbm, ⟨57, _⟩ => ⟨S4x2048x8192, .f32⟩
  | .hbm, ⟨58, _⟩ => ⟨S4x2048x8192, .f32⟩
  | .hbm, ⟨59, _⟩ => ⟨S4x2048x4096, .f32⟩
  | .hbm, ⟨60, _⟩ => ⟨S4x2048x4096, .f32⟩
  | .hbm, ⟨61, _⟩ => ⟨S4x2048x4096, .f32⟩
  | .hbm, ⟨62, _⟩ => ⟨S4x2048x4096, .f32⟩
  | .hbm, ⟨63, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_v11 : Ref sig .tc := ⟨.hbm, 17, rfl⟩
abbrev main_cst_0 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_cst_2 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_v36 : Ref sig .tc := ⟨.hbm, 45, rfl⟩
abbrev main_cst_3 : Ref sig .tc := ⟨.hbm, 46, rfl⟩
abbrev main_v37 : Ref sig .tc := ⟨.hbm, 47, rfl⟩
abbrev main_v38 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩

abbrev nD : Nat := 1
abbrev τ : Topo := Topo.v7x

variable {F : FTy → Type} [FloatOps F]
-- ==== SpatialGate.lean ====
abbrev S8192x4096 : Shape := ⟨2, ![8192, 4096]⟩
abbrev S2x8x9x1x4096 : Shape := ⟨5, ![2, 8, 9, 1, 4096]⟩
abbrev S2x3x4096 : Shape := ⟨3, ![2, 3, 4096]⟩
abbrev S1x4096x8192 : Shape := ⟨3, ![1, 4096, 8192]⟩
abbrev S1x8192 : Shape := ⟨2, ![1, 8192]⟩
abbrev S1x4096 : Shape := ⟨2, ![1, 4096]⟩
abbrev S1x8x128x128 : Shape := ⟨4, ![1, 8, 128, 128]⟩
abbrev S1x8x128 : Shape := ⟨3, ![1, 8, 128]⟩
abbrev S1x4096x4096 : Shape := ⟨3, ![1, 4096, 4096]⟩
abbrev S1x1x4096 : Shape := ⟨3, ![1, 1, 4096]⟩
abbrev S4096 : Shape := ⟨1, ![4096]⟩
abbrev S512x4096 : Shape := ⟨2, ![512, 4096]⟩
abbrev S1x1x1x1x4096 : Shape := ⟨5, ![1, 1, 1, 1, 4096]⟩
abbrev S512 : Shape := ⟨1, ![512]⟩
abbrev S512x1 : Shape := ⟨2, ![512, 1]⟩
abbrev S8192 : Shape := ⟨1, ![8192]⟩
abbrev S1024x4096 : Shape := ⟨2, ![1024, 4096]⟩
abbrev S1x4096x512 : Shape := ⟨3, ![1, 4096, 512]⟩
abbrev S1x512 : Shape := ⟨2, ![1, 512]⟩
abbrev S1024x512 : Shape := ⟨2, ![1024, 512]⟩
abbrev S4096x512 : Shape := ⟨2, ![4096, 512]⟩
abbrev S8x128x128 : Shape := ⟨3, ![8, 128, 128]⟩
abbrev S8x128 : Shape := ⟨2, ![8, 128]⟩
abbrev S128x8 : Shape := ⟨2, ![128, 8]⟩
abbrev S256x4096 : Shape := ⟨2, ![256, 4096]⟩
abbrev S256 : Shape := ⟨1, ![256]⟩
abbrev S256x1 : Shape := ⟨2, ![256, 1]⟩
abbrev S1x128x128 : Shape := ⟨3, ![1, 128, 128]⟩
abbrev S128x128 : Shape := ⟨2, ![128, 128]⟩
abbrev S128x512 : Shape := ⟨2, ![128, 512]⟩
abbrev S128x1 : Shape := ⟨2, ![128, 1]⟩
abbrev S1x1x1x1x512 : Shape := ⟨5, ![1, 1, 1, 1, 512]⟩

abbrev nBuf : Space → Nat
  | .hbm => 24
  | .vmem => 42
  | .smem => 0
  | _ => 0

abbrev bufTy : (tb : Table) → Fin (tcTables nBuf tb) → BufTy
  | .hbm, ⟨0, _⟩ => ⟨S8192x4096, .f32⟩
  | .hbm, ⟨1, _⟩ => ⟨S2x8x9x1x4096, .f32⟩
  | .hbm, ⟨2, _⟩ => ⟨S2x3x4096, .f32⟩
  | .hbm, ⟨3, _⟩ => ⟨S1x4096x8192, .f32⟩
  | .hbm, ⟨4, _⟩ => ⟨S1x8192, .f32⟩
  | .hbm, ⟨5, _⟩ => ⟨S1x4096, .f32⟩
  | .hbm, ⟨6, _⟩ => ⟨S1x8x128x128, .f32⟩
  | .hbm, ⟨7, _⟩ => ⟨S1x8x128, .f32⟩
  | .hbm, ⟨8, _⟩ => ⟨S1x4096x4096, .f32⟩
  | .hbm, ⟨9, _⟩ => ⟨S1x1x4096, .f32⟩
  | .hbm, ⟨10, _⟩ => ⟨S4096, .f32⟩
  | .hbm, ⟨11, _⟩ => ⟨S1x4096, .f32⟩
  | .hbm, ⟨12, _⟩ => ⟨S8192x4096, .bf16⟩
  | .hbm, ⟨13, _⟩ => ⟨S8192, .f32⟩
  | .hbm, ⟨14, _⟩ => ⟨S1x8192, .f32⟩
  | .hbm, ⟨15, _⟩ => ⟨S8192x4096, .bf16⟩
  | .hbm, ⟨16, _⟩ => ⟨S8192x4096, .bf16⟩
  | .hbm, ⟨17, _⟩ => ⟨S4096, .f32⟩
  | .hbm, ⟨18, _⟩ => ⟨S8x128x128, .f32⟩
  | .hbm, ⟨19, _⟩ => ⟨S8x128, .f32⟩
  | .hbm, ⟨20, _⟩ => ⟨S128x8, .f32⟩
  | .hbm, ⟨21, _⟩ => ⟨S1x4096, .f32⟩
  | .hbm, ⟨22, _⟩ => ⟨S8192x4096, .bf16⟩
  | .hbm, ⟨23, _⟩ => ⟨S8192x4096, .f32⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1x4096x512, .f32⟩
  | .local _ .vmem, ⟨12, _⟩ => ⟨S1x4096x512, .f32⟩
  | .local _ .vmem, ⟨13, _⟩ => ⟨S1x4096x512, .f32⟩
  | .local _ .vmem, ⟨14, _⟩ => ⟨S1x4096x512, .f32⟩
  | .local _ .vmem, ⟨15, _⟩ => ⟨S1x512, .f32⟩
  | .local _ .vmem, ⟨16, _⟩ => ⟨S1x512, .f32⟩
  | .local _ .vmem, ⟨17, _⟩ => ⟨S1x512, .f32⟩
  | .local _ .vmem, ⟨18, _⟩ => ⟨S1x512, .f32⟩
  | .local _ .vmem, ⟨19, _⟩ => ⟨S1024x512, .bf16⟩
  | .local _ .vmem, ⟨20, _⟩ => ⟨S1024x512, .bf16⟩
  | .local _ .vmem, ⟨21, _⟩ => ⟨S1024x512, .bf16⟩
  | .local _ .vmem, ⟨22, _⟩ => ⟨S1024x512, .bf16⟩
  | .local _ .vmem, ⟨23, _⟩ => ⟨S256x4096, .bf16⟩
  | .local _ .vmem, ⟨24, _⟩ => ⟨S256x4096, .bf16⟩
  | .local _ .vmem, ⟨25, _⟩ => ⟨S256x4096, .bf16⟩
  | .local _ .vmem, ⟨26, _⟩ => ⟨S256x4096, .bf16⟩
  | .local _ .vmem, ⟨27, _⟩ => ⟨S1x4096, .f32⟩
  | .local _ .vmem, ⟨28, _⟩ => ⟨S8x128x128, .f32⟩
  | .local _ .vmem, ⟨29, _⟩ => ⟨S128x8, .f32⟩
  | .local _ .vmem, ⟨30, _⟩ => ⟨S256x4096, .bf16⟩
  | .local _ .vmem, ⟨31, _⟩ => ⟨S256x4096, .bf16⟩
  | .local _ .vmem, ⟨32, _⟩ => ⟨S1024x4096, .bf16⟩
  | .local _ .vmem, ⟨33, _⟩ => ⟨S1024x4096, .bf16⟩
  | .local _ .vmem, ⟨34, _⟩ => ⟨S1x4096x512, .f32⟩
  | .local _ .vmem, ⟨35, _⟩ => ⟨S1x4096x512, .f32⟩
  | .local _ .vmem, ⟨36, _⟩ => ⟨S1x1x1x1x512, .f32⟩
  | .local _ .vmem, ⟨37, _⟩ => ⟨S1x1x1x1x512, .f32⟩
  | .local _ .vmem, ⟨38, _⟩ => ⟨S1024x512, .f32⟩
  | .local _ .vmem, ⟨39, _⟩ => ⟨S1024x512, .f32⟩
  | .local _ .vmem, ⟨40, _⟩ => ⟨S1024x512, .f32⟩
  | .local _ .vmem, ⟨41, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_stg5_0 : Ref sig .tc := ⟨.vmem, 19, rfl⟩
abbrev cc1_stg5_1 : Ref sig .tc := ⟨.vmem, 20, rfl⟩
abbrev cc1_stg6_0 : Ref sig .tc := ⟨.vmem, 21, rfl⟩
abbrev cc1_stg6_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg4_0 : Ref sig .tc := ⟨.vmem, 29, rfl⟩
abbrev cc2_stg5_0 : Ref sig .tc := ⟨.vmem, 30, rfl⟩
abbrev cc2_stg5_1 : Ref sig .tc := ⟨.vmem, 31, rfl⟩
abbrev cc3_stg0_0 : Ref sig .tc := ⟨.vmem, 32, rfl⟩
abbrev cc3_stg0_1 : Ref sig .tc := ⟨.vmem, 33, rfl⟩
abbrev cc3_stg1_0 : Ref sig .tc := ⟨.vmem, 34, rfl⟩
abbrev cc3_stg1_1 : Ref sig .tc := ⟨.vmem, 35, rfl⟩
abbrev cc3_stg2_0 : Ref sig .tc := ⟨.vmem, 36, rfl⟩
abbrev cc3_stg2_1 : Ref sig .tc := ⟨.vmem, 37, rfl⟩
abbrev cc3_stg3_0 : Ref sig .tc := ⟨.vmem, 38, rfl⟩
abbrev cc3_stg3_1 : Ref sig .tc := ⟨.vmem, 39, rfl⟩
abbrev cc3_stg4_0 : Ref sig .tc := ⟨.vmem, 40, rfl⟩
abbrev cc3_stg4_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18
abbrev cc1_sem5_0 : DmaSem sig := 19
abbrev cc1_sem5_1 : DmaSem sig := 20
abbrev cc1_sem6_0 : DmaSem sig := 21
abbrev cc1_sem6_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem4_0 : DmaSem sig := 29
abbrev cc2_sem5_0 : DmaSem sig := 30
abbrev cc2_sem5_1 : DmaSem sig := 31
abbrev cc3_sem0_0 : DmaSem sig := 32
abbrev cc3_sem0_1 : DmaSem sig := 33
abbrev cc3_sem1_0 : DmaSem sig := 34
abbrev cc3_sem1_1 : DmaSem sig := 35
abbrev cc3_sem2_0 : DmaSem sig := 36
abbrev cc3_sem2_1 : DmaSem sig := 37
abbrev cc3_sem3_0 : DmaSem sig := 38
abbrev cc3_sem3_1 : DmaSem sig := 39
abbrev cc3_sem4_0 : DmaSem sig := 40
abbrev cc3_sem4_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c3_i32 : BitVec 32 := 3#32
  let c0_i32_5 : BitVec 32 := 0#32
  let c0_i32_6 : BitVec 32 := 0#32
  let c0_i32_7 : BitVec 32 := 0#32
  ![c1_i32_4.toNat, v18.toNat, c3_i32.toNat, c0_i32_5.toNat, c0_i32_6.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c4_i32_5 : BitVec 32 := 4#32
  let c0_i32_6 : BitVec 32 := 0#32
  let c0_i32_7 : BitVec 32 := 0#32
  let c0_i32_8 : BitVec 32 := 0#32
  ![c1_i32_4.toNat, v18.toNat, c4_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc1_transform_4 (i : grid1.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi arg0 c8_i32
  let c0_i32 : BitVec 32 := 0#32
  let c0_i32_0 : BitVec 32 := 0#32
  ![c0_i32.toNat, v0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S1x512 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1024x512 .bf16 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true]

abbrev stage1_6 : Fin 2 → Memref sig .tc .vmem S1024x512 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev grid2 : Pipeline.Grid := ⟨1, ![32], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S256x4096 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x4096 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S8x128x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S128x8 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S256x4096 .bf16 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev grid3 : Pipeline.Grid := ⟨2, ![8, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc3_transform_1 (i : grid3.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc3_transform_2 (i : grid3.Coords) : Fin 5 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c1_i32_4 : BitVec 32 := 1#32
  let c5_i32 : BitVec 32 := 5#32
  let c0_i32_5 : BitVec 32 := 0#32
  let c0_i32_6 : BitVec 32 := 0#32
  ![c1_i32_4.toNat, v18.toNat, c5_i32.toNat, c0_i32_5.toNat, arg0.toNat]

def cc3_transform_3 (i : grid3.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  ![v0.toNat, arg0.toNat]

def cc3_transform_4 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage3_0 : Fin 2 → Memref sig .tc .vmem S1024x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1x4096x512 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, false]

abbrev stage3_2 : Fin 2 → Memref sig .tc .vmem S1x1x1x1x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]

abbrev stage3_3 : Fin 2 → Memref sig .tc .vmem S1024x512 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true, true]

abbrev stage3_4 : Fin 2 → Memref sig .tc .vmem S1024x512 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true, true]
-- ==== SpatialGateReferenceIdeal.lean ====
abbrev S8192x4096 : Shape := ⟨2, ![8192, 4096]⟩
abbrev S2x8x9x1x4096 : Shape := ⟨5, ![2, 8, 9, 1, 4096]⟩
abbrev S2x3x4096 : Shape := ⟨3, ![2, 3, 4096]⟩
abbrev S1x4096x8192 : Shape := ⟨3, ![1, 4096, 8192]⟩
abbrev S1x8192 : Shape := ⟨2, ![1, 8192]⟩
abbrev S1x4096 : Shape := ⟨2, ![1, 4096]⟩
abbrev S1x8x128x128 : Shape := ⟨4, ![1, 8, 128, 128]⟩
abbrev S1x8x128 : Shape := ⟨3, ![1, 8, 128]⟩
abbrev S1x4096x4096 : Shape := ⟨3, ![1, 4096, 4096]⟩
abbrev S4x2048x4096 : Shape := ⟨3, ![4, 2048, 4096]⟩
abbrev S1x4x9x1x4096 : Shape := ⟨5, ![1, 4, 9, 1, 4096]⟩
abbrev S4x9x1x4096 : Shape := ⟨4, ![4, 9, 1, 4096]⟩
abbrev S1x1x4096 : Shape := ⟨3, ![1, 1, 4096]⟩
abbrev S4096 : Shape := ⟨1, ![4096]⟩
abbrev S4096x8192 : Shape := ⟨2, ![4096, 8192]⟩
abbrev S8192 : Shape := ⟨1, ![8192]⟩
abbrev S_ : Shape := ⟨0, ![]⟩
abbrev S4x2048 : Shape := ⟨2, ![4, 2048]⟩
abbrev S4x2048x1 : Shape := ⟨3, ![4, 2048, 1]⟩
abbrev S4x1x1x4096 : Shape := ⟨4, ![4, 1, 1, 4096]⟩
abbrev S4x1x4096 : Shape := ⟨3, ![4, 1, 4096]⟩
abbrev S4x2048x8192 : Shape := ⟨3, ![4, 2048, 8192]⟩
abbrev S1x1x8192 : Shape := ⟨3, ![1, 1, 8192]⟩
abbrev S4x16x128x8x512 : Shape := ⟨5, ![4, 16, 128, 8, 512]⟩
abbrev S8x128x128 : Shape := ⟨3, ![8, 128, 128]⟩
abbrev S8x4x16x512x128 : Shape := ⟨5, ![8, 4, 16, 512, 128]⟩
abbrev S8x128 : Shape := ⟨2, ![8, 128]⟩
abbrev S128x8 : Shape := ⟨2, ![128, 8]⟩
abbrev S1x1x128x8x1 : Shape := ⟨5, ![1, 1, 128, 8, 1]⟩
abbrev S4096x4096 : Shape := ⟨2, ![4096, 4096]⟩

abbrev nBuf : Space → Nat
  | .hbm => 102
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S2x8x9x1x4096, .f32⟩
  | .hbm, ⟨2, _⟩ => ⟨S2x3x4096, .f32⟩
  | .hbm, ⟨3, _⟩ => ⟨S1x4096x8192, .f32⟩
  | .hbm, ⟨4, _⟩ => ⟨S1x8192, .f32⟩
  | .hbm, ⟨5, _⟩ => ⟨S1x4096, .f32⟩
  | .hbm, ⟨6, _⟩ => ⟨S1x8x128x128, .f32⟩
  | .hbm, ⟨7, _⟩ => ⟨S1x8x128, .f32⟩
  | .hbm, ⟨8, _⟩ => ⟨S1x4096x4096, .f32⟩
  | .hbm, ⟨9, _⟩ => ⟨S4x2048x4096, .f32⟩
  | .hbm, ⟨10, _⟩ => ⟨S1x4x9x1x4096, .f32⟩
  | .hbm, ⟨11, _⟩ => ⟨S4x9x1x4096, .f32⟩
  | .hbm, ⟨12, _⟩ => ⟨S1x1x4096, .f32⟩
  | .hbm, ⟨13, _⟩ => ⟨S4096, .f32⟩
  | .hbm, ⟨14, _⟩ => ⟨S4096x8192, .f32⟩
  | .hbm, ⟨15, _⟩ => ⟨S8192, .f32⟩
  | .hbm, ⟨16, _⟩ => ⟨S4096, .f32⟩
  | .hbm, ⟨17, _⟩ => ⟨S4x2048x4096, .f32⟩
  | .hbm, ⟨18, _⟩ => ⟨S_, .f32⟩
  | .hbm, ⟨19, _⟩ => ⟨S4x2048, .f32⟩
  | .hbm, ⟨20, _⟩ => ⟨S4x2048x1, .f32⟩
  | .hbm, ⟨21, _⟩ => ⟨S_, .f32⟩
  | .hbm, ⟨22, _⟩ => ⟨S4x2048x1, .f32⟩
  | .hbm, ⟨23, _⟩ => ⟨S4x2048x1, .f32⟩
  | .hbm, ⟨24, _⟩ => ⟨S_, .f32⟩
  | .hbm, ⟨25, _⟩ => ⟨S4x2048x1, .f32⟩
  | .hbm, ⟨26, _⟩ => ⟨S4x2048x1, .f32⟩
  | .hbm, ⟨27, _⟩ => ⟨S4x2048x1, .f32⟩
  | .hbm, ⟨28, _⟩ => ⟨S4x2048x4096, .f32⟩
  | .hbm, ⟨29, _⟩ => ⟨S4x2048x4096, .f32⟩
  | .hbm, ⟨30, _⟩ => ⟨S1x1x4096, .f32⟩
  | .hbm, ⟨31, _⟩ => ⟨S4x2048x4096, .f32⟩
  | .hbm, ⟨32, _⟩ => ⟨S4x2048x4096, .f32⟩
  | .hbm, ⟨33, _⟩ => ⟨S4x1x1x4096, .f32⟩
  | .hbm, ⟨34, _⟩ => ⟨S4x1x4096, .f32⟩
  | .hbm, ⟨35, _⟩ => ⟨S_, .f32⟩
  | .hbm, ⟨36, _⟩ => ⟨S4x1x4096, .f32⟩
  | .hbm, ⟨37, _⟩ => ⟨S4x1x4096, .f32⟩
  | .hbm, ⟨38, _⟩ => ⟨S4x2048x4096, .f32⟩
  | .hbm, ⟨39, _⟩ => ⟨S4x2048x4096, .f32⟩
  | .hbm, ⟨40, _⟩ => ⟨S4x1x1x4096, .f32⟩
  | .hbm, ⟨41, _⟩ => ⟨S4x1x4096, .f32⟩
  | .hbm, ⟨42, _⟩ => ⟨S4x2048x4096, .f32⟩
  | .hbm, ⟨43, _⟩ => ⟨S4x2048x4096, .f32⟩
  | .hbm, ⟨44, _⟩ => ⟨S4x2048x8192, .f32⟩
  | .hbm, ⟨45, _⟩ => ⟨S1x1x8192, .f32⟩
  | .hbm, ⟨46, _⟩ => ⟨S4x2048x8192, .f32⟩
  | .hbm, ⟨47, _⟩ => ⟨S4x2048x8192, .f32⟩
  | .hbm, ⟨48, _⟩ => ⟨S4x2048x8192, .f32⟩
  | .hbm, ⟨49, _⟩ => ⟨S4x2048x8192, .f32⟩
  | .hbm, ⟨50, _⟩ => ⟨S_, .f32⟩
  | .hbm, ⟨51, _⟩ => ⟨S4x2048x8192, .f32⟩
  | .hbm, ⟨52, _⟩ => ⟨S4x2048x8192, .f32⟩
  | .hbm, ⟨53, _⟩ => ⟨S4x2048x8192, .f32⟩
  | .hbm, ⟨54, _⟩ => ⟨S_, .f32⟩
  | .hbm, ⟨55, _⟩ => ⟨S4x2048x8192, .f32⟩
  | .hbm, ⟨56, _⟩ => ⟨S4x2048x8192, .f32⟩
  | .hbm, ⟨57, _⟩ => ⟨S4x2048x8192, .f32⟩
  | .hbm, ⟨58, _⟩ => ⟨S_, .f32⟩
  | .hbm, ⟨59, _⟩ => ⟨S4x2048x8192, .f32⟩
  | .hbm, ⟨60, _⟩ => ⟨S4x2048x8192, .f32⟩
  | .hbm, ⟨61, _⟩ => ⟨S_, .f32⟩
  | .hbm, ⟨62, _⟩ => ⟨S4x2048x8192, .f32⟩
  | .hbm, ⟨63, _⟩ => ⟨S4x2048x8192, .f32⟩
  | .hbm, ⟨64, _⟩ => ⟨S4x2048x8192, .f32⟩
  | .hbm, ⟨65, _⟩ => ⟨S4x2048x4096, .f32⟩
  | .hbm, ⟨66, _⟩ => ⟨S4x2048x4096, .f32⟩
  | .hbm, ⟨67, _⟩ => ⟨S4x2048x4096, .f32⟩
  | .hbm, ⟨68, _⟩ => ⟨S_, .f32⟩
  | .hbm, ⟨69, _⟩ => ⟨S4x2048, .f32⟩
  | .hbm, ⟨70, _⟩ => ⟨S4x2048x1, .f32⟩
  | .hbm, ⟨71, _⟩ => ⟨S_, .f32⟩
  | .hbm, ⟨72, _⟩ => ⟨S4x2048x1, .f32⟩
  | .hbm, ⟨73, _⟩ => ⟨S4x2048x1, .f32⟩
  | .hbm, ⟨74, _⟩ => ⟨S_, .f32⟩
  | .hbm, ⟨75, _⟩ => ⟨S4x2048x1, .f32⟩
  | .hbm, ⟨76, _⟩ => ⟨S4x2048x1, .f32⟩
  | .hbm, ⟨77, _⟩ => ⟨S4x2048x1, .f32⟩
  | .hbm, ⟨78, _⟩ => ⟨S4x2048x4096, .f32⟩
  | .hbm, ⟨79, _⟩ => ⟨S4x2048x4096, .f32⟩
  | .hbm, ⟨80, _⟩ => ⟨S1x1x4096, .f32⟩
  | .hbm, ⟨81, _⟩ => ⟨S4x2048x4096, .f32⟩
  | .hbm, ⟨82, _⟩ => ⟨S4x2048x4096, .f32⟩
  | .hbm, ⟨83, _⟩ => ⟨S4x16x128x8x512, .f32⟩
  | .hbm, ⟨84, _⟩ => ⟨S8x128x128, .f32⟩
  | .hbm, ⟨85, _⟩ => ⟨S8x4x16x512x128, .f32⟩
  | .hbm, ⟨86, _⟩ => ⟨S4x16x128x8x512, .f32⟩
  | .hbm, ⟨87, _⟩ => ⟨S8x128, .f32⟩
  | .hbm, ⟨88, _⟩ => ⟨S128x8, .f32⟩
  | .hbm, ⟨89, _⟩ => ⟨S1x1x128x8x1, .f32⟩
  | .hbm, ⟨90, _⟩ => ⟨S4x16x128x8x512, .f32⟩
  | .hbm, ⟨91, _⟩ => ⟨S4x16x128x8x512, .f32⟩
  | .hbm, ⟨92, _⟩ => ⟨S4x1x1x4096, .f32⟩
  | .hbm, ⟨93, _⟩ => ⟨S4x1x4096, .f32⟩
  | .hbm, ⟨94, _⟩ => ⟨S4x2048x4096, .f32⟩
  | .hbm, ⟨95, _⟩ => ⟨S4x2048x4096, .f32⟩
  | .hbm, ⟨96, _⟩ => ⟨S4096x4096, .f32⟩
  | .hbm, ⟨97, _⟩ => ⟨S4x2048x4096, .f32⟩
  | .hbm, ⟨98, _⟩ => ⟨S4x2048x4096, .f32⟩
  | .hbm, ⟨99, _⟩ => ⟨S4x2048x4096, .f32⟩
  | .hbm, ⟨100, _⟩ => ⟨S4x2048x4096, .f32⟩
  | .hbm, ⟨101, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_cst_1 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_cst_2 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_cst_4 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_cst_5 : Ref sig .tc := ⟨.hbm, 58, rfl⟩
abbrev main_v43 : Ref sig .tc := ⟨.hbm, 59, rfl⟩
abbrev main_v44 : Ref sig .tc := ⟨.hbm, 60, rfl⟩
abbrev main_cst_6 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_cst_7 : Ref sig .tc := ⟨.hbm, 68, rfl⟩
abbrev main_v51 : Ref sig .tc := ⟨.hbm, 69, rfl⟩
abbrev main_v52 : Ref sig .tc := ⟨.hbm, 70, rfl⟩
abbrev main_cst_8 : Ref sig .tc := ⟨.hbm, 71, rfl⟩
abbrev main_v53 : Ref sig .tc := ⟨.hbm, 72, rfl⟩
abbrev main_v54 : Ref sig .tc := ⟨.hbm, 73, rfl⟩
abbrev main_cst_9 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_v80 : Ref sig .tc := ⟨.hbm, 100, rfl⟩
abbrev main_v81 : Ref sig .tc := ⟨.hbm, 101, rfl⟩

abbrev nD : Nat := 1
abbrev τ : Topo := Topo.v7x

variable {F : FTy → Type} [FloatOps F]
-- ==== FirstFeedForward.lean ====
abbrev S8192x4096 : Shape := ⟨2, ![8192, 4096]⟩
abbrev S1024x4096 : Shape := ⟨2, ![1024, 4096]⟩
abbrev S2x8x9x1x4096 : Shape := ⟨5, ![2, 8, 9, 1, 4096]⟩
abbrev S2x3x4096 : Shape := ⟨3, ![2, 3, 4096]⟩
abbrev S2x2x4096x16384 : Shape := ⟨4, ![2, 2, 4096, 16384]⟩
abbrev S2x2x8192x4096 : Shape := ⟨4, ![2, 2, 8192, 4096]⟩
abbrev S1x1x4096 : Shape := ⟨3, ![1, 1, 4096]⟩
abbrev S4096 : Shape := ⟨1, ![4096]⟩
abbrev S1x4096 : Shape := ⟨2, ![1, 4096]⟩
abbrev S9216x4096 : Shape := ⟨2, ![9216, 4096]⟩
abbrev S512x4096 : Shape := ⟨2, ![512, 4096]⟩
abbrev S1x1x1x1x4096 : Shape := ⟨5, ![1, 1, 1, 1, 4096]⟩
abbrev S512 : Shape := ⟨1, ![512]⟩
abbrev S512x1 : Shape := ⟨2, ![512, 1]⟩
abbrev S9216x8192 : Shape := ⟨2, ![9216, 8192]⟩
abbrev S1x1x4096x512 : Shape := ⟨4, ![1, 1, 4096, 512]⟩
abbrev S1024x512 : Shape := ⟨2, ![1024, 512]⟩
abbrev S4096x512 : Shape := ⟨2, ![4096, 512]⟩
abbrev S512x8192 : Shape := ⟨2, ![512, 8192]⟩
abbrev S1x1x8192x512 : Shape := ⟨4, ![1, 1, 8192, 512]⟩
abbrev S1x1x1x1x512 : Shape := ⟨5, ![1, 1, 1, 1, 512]⟩
abbrev S512x512 : Shape := ⟨2, ![512, 512]⟩
abbrev S8192x512 : Shape := ⟨2, ![8192, 512]⟩
abbrev S1x512 : Shape := ⟨2, ![1, 512]⟩

abbrev nBuf : Space → Nat
  | .hbm => 12
  | .vmem => 31
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S2x8x9x1x4096, .f32⟩
  | .hbm, ⟨3, _⟩ => ⟨S2x3x4096, .f32⟩
  | .hbm, ⟨4, _⟩ => ⟨S2x2x4096x16384, .f32⟩
  | .hbm, ⟨5, _⟩ => ⟨S2x2x8192x4096, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S9216x4096, .bf16⟩
  | .hbm, ⟨10, _⟩ => ⟨S9216x8192, .bf16⟩
  | .hbm, ⟨11, _⟩ => ⟨S9216x4096, .f32⟩
  | .local _ .vmem, ⟨0, _⟩ => ⟨S512x4096, .f32⟩
  | .local _ .vmem, ⟨1, _⟩ => ⟨S512x4096, .f32⟩
  | .local _ .vmem, ⟨2, _⟩ => ⟨S512x4096, .f32⟩
  | .local _ .vmem, ⟨3, _⟩ => ⟨S512x4096, .f32⟩
  | .local _ .vmem, ⟨4, _⟩ => ⟨S1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S1x1x1x1x4096, .f32⟩
  | .local _ .vmem, ⟨8, _⟩ => ⟨S1x1x1x1x4096, .f32⟩
  | .local _ .vmem, ⟨9, _⟩ => ⟨S512x4096, .bf16⟩
  | .local _ .vmem, ⟨10, _⟩ => ⟨S512x4096, .bf16⟩
  | .local _ .vmem, ⟨11, _⟩ => ⟨S1024x4096, .bf16⟩
  | .local _ .vmem, ⟨12, _⟩ => ⟨S1024x4096, .bf16⟩
  | .local _ .vmem, ⟨13, _⟩ => ⟨S1x1x4096x512, .f32⟩
  | .local _ .vmem, ⟨14, _⟩ => ⟨S1x1x4096x512, .f32⟩
  | .local _ .vmem, ⟨15, _⟩ => ⟨S1x1x4096x512, .f32⟩
  | .local _ .vmem, ⟨16, _⟩ => ⟨S1x1x4096x512, .f32⟩
  | .local _ .vmem, ⟨17, _⟩ => ⟨S1024x512, .bf16⟩
  | .local _ .vmem, ⟨18, _⟩ => ⟨S1024x512, .bf16⟩
  | .local _ .vmem, ⟨19, _⟩ => ⟨S512x8192, .bf16⟩
  | .local _ .vmem, ⟨20, _⟩ => ⟨S512x8192, .bf16⟩
  | .local _ .vmem, ⟨21, _⟩ => ⟨S1x1x8192x512, .f32⟩
  | .local _ .vmem, ⟨22, _⟩ => ⟨S1x1x8192x512, .f32⟩
  | .local _ .vmem, ⟨23, _⟩ => ⟨S1x1x1x1x512, .f32⟩
  | .local _ .vmem, ⟨24, _⟩ => ⟨S1x1x1x1x512, .f32⟩
  | .local _ .vmem, ⟨25, _⟩ => ⟨S512x512, .f32⟩
  | .local _ .vmem, ⟨26, _⟩ => ⟨S512x512, .f32⟩
  | .local _ .vmem, ⟨27, _⟩ => ⟨S512x512, .f32⟩
  | .local _ .vmem, ⟨28, _⟩ => ⟨S512x512, .f32⟩
  | .local _ .vmem, ⟨29, _⟩ => ⟨S512x512, .f32⟩
  | .local _ .vmem, ⟨30, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg2_1 : Ref sig .tc := ⟨.vmem, 16, rfl⟩
abbrev cc1_stg3_0 : Ref sig .tc := ⟨.vmem, 17, rfl⟩
abbrev cc1_stg3_1 : Ref sig .tc := ⟨.vmem, 18, rfl⟩
abbrev cc2_stg0_0 : Ref sig .tc := ⟨.vmem, 19, rfl⟩
abbrev cc2_stg0_1 : Ref sig .tc := ⟨.vmem, 20, rfl⟩
abbrev cc2_stg1_0 : Ref sig .tc := ⟨.vmem, 21, rfl⟩
abbrev cc2_stg1_1 : Ref sig .tc := ⟨.vmem, 22, rfl⟩
abbrev cc2_stg2_0 : Ref sig .tc := ⟨.vmem, 23, rfl⟩
abbrev cc2_stg2_1 : Ref sig .tc := ⟨.vmem, 24, rfl⟩
abbrev cc2_stg3_0 : Ref sig .tc := ⟨.vmem, 25, rfl⟩
abbrev cc2_stg3_1 : Ref sig .tc := ⟨.vmem, 26, rfl⟩
abbrev cc2_stg4_0 : Ref sig .tc := ⟨.vmem, 27, rfl⟩
abbrev cc2_stg4_1 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem2_1 : DmaSem sig := 16
abbrev cc1_sem3_0 : DmaSem sig := 17
abbrev cc1_sem3_1 : DmaSem sig := 18
abbrev cc2_sem0_0 : DmaSem sig := 19
abbrev cc2_sem0_1 : DmaSem sig := 20
abbrev cc2_sem1_0 : DmaSem sig := 21
abbrev cc2_sem1_1 : DmaSem sig := 22
abbrev cc2_sem2_0 : DmaSem sig := 23
abbrev cc2_sem2_1 : DmaSem sig := 24
abbrev cc2_sem3_0 : DmaSem sig := 25
abbrev cc2_sem3_1 : DmaSem sig := 26
abbrev cc2_sem4_0 : DmaSem sig := 27
abbrev cc2_sem4_1 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c15_i32 : BitVec 32 := 15#32
  let v0 : BitVec 32 := Scalar.minsi arg0 c15_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c16_i32 : BitVec 32 := 16#32
  let v0 : BitVec 32 := Scalar.subi arg0 c16_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c0_i32_5 : BitVec 32 := 0#32
  let c0_i32_6 : BitVec 32 := 0#32
  let c0_i32_7 : BitVec 32 := 0#32
  let c0_i32_8 : BitVec 32 := 0#32
  ![c0_i32_4.toNat, v18.toNat, c0_i32_5.toNat, c0_i32_6.toNat, c0_i32_7.toNat]

def cc0_transform_4 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c1_i32_5 : BitVec 32 := 1#32
  let c0_i32_6 : BitVec 32 := 0#32
  let c0_i32_7 : BitVec 32 := 0#32
  let c0_i32_8 : BitVec 32 := 0#32
  ![c0_i32_4.toNat, v18.toNat, c1_i32_5.toNat, c0_i32_6.toNat, c0_i32_7.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x1x1x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨2, ![16, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_1 (i : grid1.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc1_transform_2 (i : grid1.Coords) : Fin 4 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, v0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x1x4096x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1x4096x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x512 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![8, 18], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc2_transform_1 (i : grid2.Coords) : Fin 4 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  let c0_i32_3 : BitVec 32 := 0#32
  ![c0_i32_0.toNat, c0_i32_1.toNat, c0_i32_2.toNat, v0.toNat]

def cc2_transform_2 (i : grid2.Coords) : Fin 5 → Nat :=
  let arg0 : BitVec 32 := BitVec.ofNat 32 (i 0).val
  let arg1 : BitVec 32 := BitVec.ofNat 32 (i 1).val
  let c512_i32 : BitVec 32 := 512#32
  let v0 : BitVec 32 := Scalar.muli arg1 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c2_i32 : BitVec 32 := 2#32
  let c0_i32_5 : BitVec 32 := 0#32
  let c0_i32_6 : BitVec 32 := 0#32
  ![c0_i32_4.toNat, v18.toNat, c2_i32.toNat, c0_i32_5.toNat, arg0.toNat]

def cc2_transform_3 (i : grid2.Coords) : Fin 2 → Nat :=
  let arg0 : BitVec 32 := BitVec.ofNat 32 (i 0).val
  let arg1 : BitVec 32 := BitVec.ofNat 32 (i 1).val
  let c15_i32 : BitVec 32 := 15#32
  let v0 : BitVec 32 := Scalar.minsi arg1 c15_i32
  let c0_i32 : BitVec 32 := 0#32
  ![v0.toNat, arg0.toNat]

def cc2_transform_4 (i : grid2.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.subi arg1 c16_i32
  let c0_i32 : BitVec 32 := 0#32
  let v1 : BitVec 32 := Scalar.maxsi v0 c0_i32
  let c0_i32_0 : BitVec 32 := 0#32
  ![v1.toNat, arg0.toNat]

def cc2_transform_5 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage2_0 : Fin 2 → Memref sig .tc .vmem S512x8192 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1x1x8192x512 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1x1x1x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S512x512 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 2 → Memref sig .tc .vmem S512x512 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]

abbrev stage2_5 : Fin 2 → Memref sig .tc .vmem S512x512 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]
-- ==== FirstFeedForwardReferenceIdeal.lean ====
abbrev S8192x4096 : Shape := ⟨2, ![8192, 4096]⟩
abbrev S1024x4096 : Shape := ⟨2, ![1024, 4096]⟩
abbrev S2x8x9x1x4096 : Shape := ⟨5, ![2, 8, 9, 1, 4096]⟩
abbrev S2x3x4096 : Shape := ⟨3, ![2, 3, 4096]⟩
abbrev S2x2x4096x16384 : Shape := ⟨4, ![2, 2, 4096, 16384]⟩
abbrev S2x2x8192x4096 : Shape := ⟨4, ![2, 2, 8192, 4096]⟩
abbrev S1x1x4096 : Shape := ⟨3, ![1, 1, 4096]⟩
abbrev S4096 : Shape := ⟨1, ![4096]⟩
abbrev S1x1x4096x16384 : Shape := ⟨4, ![1, 1, 4096, 16384]⟩
abbrev S4096x16384 : Shape := ⟨2, ![4096, 16384]⟩
abbrev S1x1x8192x4096 : Shape := ⟨4, ![1, 1, 8192, 4096]⟩
abbrev S4x2048x4096 : Shape := ⟨3, ![4, 2048, 4096]⟩
abbrev S1x4x9x1x4096 : Shape := ⟨5, ![1, 4, 9, 1, 4096]⟩
abbrev S4x9x1x4096 : Shape := ⟨4, ![4, 9, 1, 4096]⟩
abbrev S_ : Shape := ⟨0, ![]⟩
abbrev S4x2048 : Shape := ⟨2, ![4, 2048]⟩
abbrev S4x2048x1 : Shape := ⟨3, ![4, 2048, 1]⟩
abbrev S4x1x1x4096 : Shape := ⟨4, ![4, 1, 1, 4096]⟩
abbrev S4x1x4096 : Shape := ⟨3, ![4, 1, 4096]⟩
abbrev S4x2048x16384 : Shape := ⟨3, ![4, 2048, 16384]⟩
abbrev S4x2048x8192 : Shape := ⟨3, ![4, 2048, 8192]⟩
abbrev S4x256x4096 : Shape := ⟨3, ![4, 256, 4096]⟩
abbrev S1x1x9x1x4096 : Shape := ⟨5, ![1, 1, 9, 1, 4096]⟩
abbrev S1x9x1x4096 : Shape := ⟨4, ![1, 9, 1, 4096]⟩
abbrev S4x256 : Shape := ⟨2, ![4, 256]⟩
abbrev S4x256x1 : Shape := ⟨3, ![4, 256, 1]⟩
abbrev S1x1x1x4096 : Shape := ⟨4, ![1, 1, 1, 4096]⟩
abbrev S4x256x16384 : Shape := ⟨3, ![4, 256, 16384]⟩
abbrev S4x256x8192 : Shape := ⟨3, ![4, 256, 8192]⟩
abbrev S9216x4096 : Shape := ⟨2, ![9216, 4096]⟩

abbrev nBuf : Space → Nat
  | .hbm => 119
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1024x4096, .f32⟩
  | .hbm, ⟨2, _⟩ => ⟨S2x8x9x1x4096, .f32⟩
  | .hbm, ⟨3, _⟩ => ⟨S2x3x4096, .f32⟩
  | .hbm, ⟨4, _⟩ => ⟨S2x2x4096x16384, .f32⟩
  | .hbm, ⟨5, _⟩ => ⟨S2x2x8192x4096, .f32⟩
  | .hbm, ⟨6, _⟩ => ⟨S1x1x4096, .f32⟩
  | .hbm, ⟨7, _⟩ => ⟨S4096, .f32⟩
  | .hbm, ⟨8, _⟩ => ⟨S1x1x4096x16384, .f32⟩
  | .hbm, ⟨9, _⟩ => ⟨S4096x16384, .f32⟩
  | .hbm, ⟨10, _⟩ => ⟨S1x1x8192x4096, .f32⟩
  | .hbm, ⟨11, _⟩ => ⟨S8192x4096, .f32⟩
  | .hbm, ⟨12, _⟩ => ⟨S4x2048x4096, .f32⟩
  | .hbm, ⟨13, _⟩ => ⟨S1x4x9x1x4096, .f32⟩
  | .hbm, ⟨14, _⟩ => ⟨S4x9x1x4096, .f32⟩
  | .hbm, ⟨15, _⟩ => ⟨S4x2048x4096, .f32⟩
  | .hbm, ⟨16, _⟩ => ⟨S_, .f32⟩
  | .hbm, ⟨17, _⟩ => ⟨S4x2048, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S_, .f32⟩
  | .hbm, ⟨23, _⟩ => ⟨S4x2048x1, .f32⟩
  | .hbm, ⟨24, _⟩ => ⟨S4x2048x1, .f32⟩
  | .hbm, ⟨25, _⟩ => ⟨S4x2048x1, .f32⟩
  | .hbm, ⟨26, _⟩ => ⟨S4x2048x4096, .f32⟩
  | .hbm, ⟨27, _⟩ => ⟨S4x2048x4096, .f32⟩
  | .hbm, ⟨28, _⟩ => ⟨S1x1x4096, .f32⟩
  | .hbm, ⟨29, _⟩ => ⟨S4x2048x4096, .f32⟩
  | .hbm, ⟨30, _⟩ => ⟨S4x2048x4096, .f32⟩
  | .hbm, ⟨31, _⟩ => ⟨S4x1x1x4096, .f32⟩
  | .hbm, ⟨32, _⟩ => ⟨S4x1x4096, .f32⟩
  | .hbm, ⟨33, _⟩ => ⟨S_, .f32⟩
  | .hbm, ⟨34, _⟩ => ⟨S4x1x4096, .f32⟩
  | .hbm, ⟨35, _⟩ => ⟨S4x1x4096, .f32⟩
  | .hbm, ⟨36, _⟩ => ⟨S4x2048x4096, .f32⟩
  | .hbm, ⟨37, _⟩ => ⟨S4x2048x4096, .f32⟩
  | .hbm, ⟨38, _⟩ => ⟨S4x1x1x4096, .f32⟩
  | .hbm, ⟨39, _⟩ => ⟨S4x1x4096, .f32⟩
  | .hbm, ⟨40, _⟩ => ⟨S4x2048x4096, .f32⟩
  | .hbm, ⟨41, _⟩ => ⟨S4x2048x4096, .f32⟩
  | .hbm, ⟨42, _⟩ => ⟨S4x2048x16384, .f32⟩
  | .hbm, ⟨43, _⟩ => ⟨S4x2048x8192, .f32⟩
  | .hbm, ⟨44, _⟩ => ⟨S4x2048x8192, .f32⟩
  | .hbm, ⟨45, _⟩ => ⟨S4x1x1x4096, .f32⟩
  | .hbm, ⟨46, _⟩ => ⟨S4x1x4096, .f32⟩
  | .hbm, ⟨47, _⟩ => ⟨S_, .f32⟩
  | .hbm, ⟨48, _⟩ => ⟨S4x1x4096, .f32⟩
  | .hbm, ⟨49, _⟩ => ⟨S4x1x4096, .f32⟩
  | .hbm, ⟨50, _⟩ => ⟨S4x2048x8192, .f32⟩
  | .hbm, ⟨51, _⟩ => ⟨S4x2048x8192, .f32⟩
  | .hbm, ⟨52, _⟩ => ⟨S_, .f32⟩
  | .hbm, ⟨53, _⟩ => ⟨S4x2048x8192, .f32⟩
  | .hbm, ⟨54, _⟩ => ⟨S4x2048x8192, .f32⟩
  | .hbm, ⟨55, _⟩ => ⟨S_, .f32⟩
  | .hbm, ⟨56, _⟩ => ⟨S4x2048x8192, .f32⟩
  | .hbm, ⟨57, _⟩ => ⟨S4x2048x8192, .f32⟩
  | .hbm, ⟨58, _⟩ => ⟨S4x2048x8192, .f32⟩
  | .hbm, ⟨59, _⟩ => ⟨S4x2048x8192, .f32⟩
  | .hbm, ⟨60, _⟩ => ⟨S4x2048x4096, .f32⟩
  | .hbm, ⟨61, _⟩ => ⟨S4x2048x4096, .f32⟩
  | .hbm, ⟨62, _⟩ => ⟨S4x2048x4096, .f32⟩
  | .hbm, ⟨63, _⟩ => ⟨S4x2048x4096, .f32⟩
  | .hbm, ⟨64, _⟩ => ⟨S4x256x4096, .f32⟩
  | .hbm, ⟨65, _⟩ => ⟨S1x1x9x1x4096, .f32⟩
  | .hbm, ⟨66, _⟩ => ⟨S1x9x1x4096, .f32⟩
  | .hbm, ⟨67, _⟩ => ⟨S4x256x4096, .f32⟩
  | .hbm, ⟨68, _⟩ => ⟨S_, .f32⟩
  | .hbm, ⟨69, _⟩ => ⟨S4x256, .f32⟩
  | .hbm, ⟨70, _⟩ => ⟨S4x256x1, .f32⟩
  | .hbm, ⟨71, _⟩ => ⟨S_, .f32⟩
  | .hbm, ⟨72, _⟩ => ⟨S4x256x1, .f32⟩
  | .hbm, ⟨73, _⟩ => ⟨S4x256x1, .f32⟩
  | .hbm, ⟨74, _⟩ => ⟨S_, .f32⟩
  | .hbm, ⟨75, _⟩ => ⟨S4x256x1, .f32⟩
  | .hbm, ⟨76, _⟩ => ⟨S4x256x1, .f32⟩
  | .hbm, ⟨77, _⟩ => ⟨S4x256x1, .f32⟩
  | .hbm, ⟨78, _⟩ => ⟨S4x256x4096, .f32⟩
  | .hbm, ⟨79, _⟩ => ⟨S4x256x4096, .f32⟩
  | .hbm, ⟨80, _⟩ => ⟨S1x1x4096, .f32⟩
  | .hbm, ⟨81, _⟩ => ⟨S4x256x4096, .f32⟩
  | .hbm, ⟨82, _⟩ => ⟨S4x256x4096, .f32⟩
  | .hbm, ⟨83, _⟩ => ⟨S1x1x1x4096, .f32⟩
  | .hbm, ⟨84, _⟩ => ⟨S1x1x4096, .f32⟩
  | .hbm, ⟨85, _⟩ => ⟨S_, .f32⟩
  | .hbm, ⟨86, _⟩ => ⟨S1x1x4096, .f32⟩
  | .hbm, ⟨87, _⟩ => ⟨S1x1x4096, .f32⟩
  | .hbm, ⟨88, _⟩ => ⟨S4x256x4096, .f32⟩
  | .hbm, ⟨89, _⟩ => ⟨S4x256x4096, .f32⟩
  | .hbm, ⟨90, _⟩ => ⟨S1x1x1x4096, .f32⟩
  | .hbm, ⟨91, _⟩ => ⟨S1x1x4096, .f32⟩
  | .hbm, ⟨92, _⟩ => ⟨S4x256x4096, .f32⟩
  | .hbm, ⟨93, _⟩ => ⟨S4x256x4096, .f32⟩
  | .hbm, ⟨94, _⟩ => ⟨S4x256x16384, .f32⟩
  | .hbm, ⟨95, _⟩ => ⟨S4x256x8192, .f32⟩
  | .hbm, ⟨96, _⟩ => ⟨S4x256x8192, .f32⟩
  | .hbm, ⟨97, _⟩ => ⟨S1x1x1x4096, .f32⟩
  | .hbm, ⟨98, _⟩ => ⟨S1x1x4096, .f32⟩
  | .hbm, ⟨99, _⟩ => ⟨S_, .f32⟩
  | .hbm, ⟨100, _⟩ => ⟨S1x1x4096, .f32⟩
  | .hbm, ⟨101, _⟩ => ⟨S1x1x4096, .f32⟩
  | .hbm, ⟨102, _⟩ => ⟨S4x256x8192, .f32⟩
  | .hbm, ⟨103, _⟩ => ⟨S4x256x8192, .f32⟩
  | .hbm, ⟨104, _⟩ => ⟨S_, .f32⟩
  | .hbm, ⟨105, _⟩ => ⟨S4x256x8192, .f32⟩
  | .hbm, ⟨106, _⟩ => ⟨S4x256x8192, .f32⟩
  | .hbm, ⟨107, _⟩ => ⟨S_, .f32⟩
  | .hbm, ⟨108, _⟩ => ⟨S4x256x8192, .f32⟩
  | .hbm, ⟨109, _⟩ => ⟨S4x256x8192, .f32⟩
  | .hbm, ⟨110, _⟩ => ⟨S4x256x8192, .f32⟩
  | .hbm, ⟨111, _⟩ => ⟨S4x256x8192, .f32⟩
  | .hbm, ⟨112, _⟩ => ⟨S4x256x4096, .f32⟩
  | .hbm, ⟨113, _⟩ => ⟨S4x256x4096, .f32⟩
  | .hbm, ⟨114, _⟩ => ⟨S4x256x4096, .f32⟩
  | .hbm, ⟨115, _⟩ => ⟨S4x256x4096, .f32⟩
  | .hbm, ⟨116, _⟩ => ⟨S8192x4096, .f32⟩
  | .hbm, ⟨117, _⟩ => ⟨S1024x4096, .f32⟩
  | .hbm, ⟨118, _⟩ => ⟨S9216x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_cst_3 : Ref sig .tc := ⟨.hbm, 47, rfl⟩
abbrev main_v37 : Ref sig .tc := ⟨.hbm, 48, rfl⟩
abbrev main_v38 : Ref sig .tc := ⟨.hbm, 49, rfl⟩
abbrev main_call0_v0 : Ref sig .tc := ⟨.hbm, 50, rfl⟩
abbrev main_call0_v1 : Ref sig .tc := ⟨.hbm, 51, rfl⟩
abbrev main_call0_cst : Ref sig .tc := ⟨.hbm, 52, rfl⟩
abbrev main_call0_v2 : Ref sig .tc := ⟨.hbm, 53, rfl⟩
abbrev main_call0_v3 : Ref sig .tc := ⟨.hbm, 54, rfl⟩
abbrev main_call0_cst_0 : Ref sig .tc := ⟨.hbm, 55, rfl⟩
abbrev main_call0_v4 : Ref sig .tc := ⟨.hbm, 56, rfl⟩
abbrev main_call0_v5 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_cst_4 : Ref sig .tc := ⟨.hbm, 68, rfl⟩
abbrev main_v49 : Ref sig .tc := ⟨.hbm, 69, rfl⟩
abbrev main_v50 : Ref sig .tc := ⟨.hbm, 70, rfl⟩
abbrev main_cst_5 : Ref sig .tc := ⟨.hbm, 71, rfl⟩
abbrev main_v51 : Ref sig .tc := ⟨.hbm, 72, rfl⟩
abbrev main_v52 : Ref sig .tc := ⟨.hbm, 73, rfl⟩
abbrev main_cst_6 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_cst_7 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_cst_8 : Ref sig .tc := ⟨.hbm, 99, rfl⟩
abbrev main_v76 : Ref sig .tc := ⟨.hbm, 100, rfl⟩
abbrev main_v77 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_call1_v5 : Ref sig .tc := ⟨.hbm, 109, rfl⟩
abbrev main_v78 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩

abbrev nD : Nat := 1
abbrev τ : Topo := Topo.v7x

variable {F : FTy → Type} [FloatOps F]
-- ==== Projections.lean ====
abbrev S9216x4096 : Shape := ⟨2, ![9216, 4096]⟩
abbrev S2x8x9x1x4096 : Shape := ⟨5, ![2, 8, 9, 1, 4096]⟩
abbrev S2x3x4096 : Shape := ⟨3, ![2, 3, 4096]⟩
abbrev S1x4096x12288 : Shape := ⟨3, ![1, 4096, 12288]⟩
abbrev S1x128 : Shape := ⟨2, ![1, 128]⟩
abbrev S1x1x4096 : Shape := ⟨3, ![1, 1, 4096]⟩
abbrev S4096 : Shape := ⟨1, ![4096]⟩
abbrev S1x4096 : Shape := ⟨2, ![1, 4096]⟩
abbrev S512x4096 : Shape := ⟨2, ![512, 4096]⟩
abbrev S1x1x1x1x4096 : Shape := ⟨5, ![1, 1, 1, 1, 4096]⟩
abbrev S512 : Shape := ⟨1, ![512]⟩
abbrev S512x1 : Shape := ⟨2, ![512, 1]⟩
abbrev S128 : Shape := ⟨1, ![128]⟩
abbrev S1024x4096 : Shape := ⟨2, ![1024, 4096]⟩
abbrev S1x4096x256 : Shape := ⟨3, ![1, 4096, 256]⟩
abbrev S1024x256 : Shape := ⟨2, ![1024, 256]⟩
abbrev S4096x256 : Shape := ⟨2, ![4096, 256]⟩
abbrev S1024x128 : Shape := ⟨2, ![1024, 128]⟩
abbrev S1024 : Shape := ⟨1, ![1024]⟩
abbrev S1024x1 : Shape := ⟨2, ![1024, 1]⟩

abbrev nBuf : Space → Nat
  | .hbm => 17
  | .vmem => 25
  | .smem => 0
  | _ => 0

abbrev bufTy : (tb : Table) → Fin (tcTables nBuf tb) → BufTy
  | .hbm, ⟨0, _⟩ => ⟨S9216x4096, .f32⟩
  | .hbm, ⟨1, _⟩ => ⟨S2x8x9x1x4096, .f32⟩
  | .hbm, ⟨2, _⟩ => ⟨S2x3x4096, .f32⟩
  | .hbm, ⟨3, _⟩ => ⟨S1x4096x12288, .f32⟩
  | .hbm, ⟨4, _⟩ => ⟨S1x128, .f32⟩
  | .hbm, ⟨5, _⟩ => ⟨S1x128, .f32⟩
  | .hbm, ⟨6, _⟩ => ⟨S1x1x4096, .f32⟩
  | .hbm, ⟨7, _⟩ => ⟨S4096, .f32⟩
  | .hbm, ⟨8, _⟩ => ⟨S1x4096, .f32⟩
  | .hbm, ⟨9, _⟩ => ⟨S9216x4096, .bf16⟩
  | .hbm, ⟨10, _⟩ => ⟨S128, .f32⟩
  | .hbm, ⟨11, _⟩ => ⟨S1x128, .f32⟩
  | .hbm, ⟨12, _⟩ => ⟨S128, .f32⟩
  | .hbm, ⟨13, _⟩ => ⟨S1x128, .f32⟩
  | .hbm, ⟨14, _⟩ => ⟨S9216x4096, .bf16⟩
  | .hbm, ⟨15, _⟩ => ⟨S9216x4096, .bf16⟩
  | .hbm, ⟨16, _⟩ => ⟨S9216x4096, .bf16⟩
  | .local _ .vmem, ⟨0, _⟩ => ⟨S512x4096, .f32⟩
  | .local _ .vmem, ⟨1, _⟩ => ⟨S512x4096, .f32⟩
  | .local _ .vmem, ⟨2, _⟩ => ⟨S1x4096, .f32⟩
  | .local _ .vmem, ⟨3, _⟩ => ⟨S1x1x1x1x4096, .f32⟩
  | .local _ .vmem, ⟨4, _⟩ => ⟨S1x1x1x1x4096, .f32⟩
  | .local _ .vmem, ⟨5, _⟩ => ⟨S1x1x1x1x4096, .f32⟩
  | .local _ .vmem, ⟨6, _⟩ => ⟨S1x1x1x1x4096, .f32⟩
  | .local _ .vmem, ⟨7, _⟩ => ⟨S512x4096, .bf16⟩
  | .local _ .vmem, ⟨8, _⟩ => ⟨S512x4096, .bf16⟩
  | .local _ .vmem, ⟨9, _⟩ => ⟨S1024x4096, .bf16⟩
  | .local _ .vmem, ⟨10, _⟩ => ⟨S1024x4096, .bf16⟩
  | .local _ .vmem, ⟨11, _⟩ => ⟨S1x4096x256, .f32⟩
  | .local _ .vmem, ⟨12, _⟩ => ⟨S1x4096x256, .f32⟩
  | .local _ .vmem, ⟨13, _⟩ => ⟨S1x4096x256, .f32⟩
  | .local _ .vmem, ⟨14, _⟩ => ⟨S1x4096x256, .f32⟩
  | .local _ .vmem, ⟨15, _⟩ => ⟨S1x4096x256, .f32⟩
  | .local _ .vmem, ⟨16, _⟩ => ⟨S1x4096x256, .f32⟩
  | .local _ .vmem, ⟨17, _⟩ => ⟨S1x128, .f32⟩
  | .local _ .vmem, ⟨18, _⟩ => ⟨S1x128, .f32⟩
  | .local _ .vmem, ⟨19, _⟩ => ⟨S1024x256, .bf16⟩
  | .local _ .vmem, ⟨20, _⟩ => ⟨S1024x256, .bf16⟩
  | .local _ .vmem, ⟨21, _⟩ => ⟨S1024x256, .bf16⟩
  | .local _ .vmem, ⟨22, _⟩ => ⟨S1024x256, .bf16⟩
  | .local _ .vmem, ⟨23, _⟩ => ⟨S1024x256, .bf16⟩
  | .local _ .vmem, ⟨24, _⟩ => ⟨S1024x256, .bf16⟩
  | _, _ => ⟨S9216x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8_0 : Ref sig .tc := ⟨.hbm, 14, rfl⟩
abbrev main_v8_1 : Ref sig .tc := ⟨.hbm, 15, rfl⟩
abbrev main_v8_2 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg6_1 : Ref sig .tc := ⟨.vmem, 20, rfl⟩
abbrev cc1_stg7_0 : Ref sig .tc := ⟨.vmem, 21, rfl⟩
abbrev cc1_stg7_1 : Ref sig .tc := ⟨.vmem, 22, rfl⟩
abbrev cc1_stg8_0 : Ref sig .tc := ⟨.vmem, 23, rfl⟩
abbrev cc1_stg8_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem5_0 : DmaSem sig := 18
abbrev cc1_sem6_0 : DmaSem sig := 19
abbrev cc1_sem6_1 : DmaSem sig := 20
abbrev cc1_sem7_0 : DmaSem sig := 21
abbrev cc1_sem7_1 : DmaSem sig := 22
abbrev cc1_sem8_0 : DmaSem sig := 23
abbrev cc1_sem8_1 : DmaSem sig := 24

abbrev nD : Nat := 1
abbrev τ : Topo := Topo.v7x

variable {F : FTy → Type} [FloatOps F]

abbrev grid0 : Pipeline.Grid := ⟨1, ![18], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c3_i32 : BitVec 32 := 3#32
  let c0_i32_5 : BitVec 32 := 0#32
  let c0_i32_6 : BitVec 32 := 0#32
  let c0_i32_7 : BitVec 32 := 0#32
  ![c0_i32_4.toNat, v18.toNat, c3_i32.toNat, c0_i32_5.toNat, c0_i32_6.toNat]

def cc0_transform_3 (i : grid0.Coords) : Fin 5 → Nat :=
  let arg0 : BitVec 32 := BitVec.ofNat 32 (i 0).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c4_i32 : BitVec 32 := 4#32
  let v18 : BitVec 32 := Scalar.minsi v17 c4_i32
  let c0_i32_4 : BitVec 32 := 0#32
  let c4_i32_5 : BitVec 32 := 4#32
  let c0_i32_6 : BitVec 32 := 0#32
  let c0_i32_7 : BitVec 32 := 0#32
  let c0_i32_8 : BitVec 32 := 0#32
  ![c0_i32_4.toNat, v18.toNat, c4_i32_5.toNat, c0_i32_6.toNat, c0_i32_7.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![16, 9], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi arg1 c0_i32
  let c0_i32_0 : BitVec 32 := 0#32
  let c0_i32_1 : BitVec 32 := 0#32
  ![v0.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi arg0 c0_i32
  let c0_i32_0 : BitVec 32 := 0#32
  let c0_i32_1 : BitVec 32 := 0#32
  let c0_i32_2 : BitVec 32 := 0#32
  ![c0_i32_0.toNat, c0_i32_1.toNat, v0.toNat]

def cc1_transform_2 (i : grid1.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi arg0 c16_i32
  let c0_i32 : BitVec 32 := 0#32
  let c0_i32_0 : BitVec 32 := 0#32
  let c0_i32_1 : BitVec 32 := 0#32
  ![c0_i32.toNat, c0_i32_0.toNat, v0.toNat]

def cc1_transform_3 (i : grid1.Coords) : Fin 3 → Nat :=
  let arg0 : BitVec 32 := BitVec.ofNat 32 (i 0).val
  let arg1 : BitVec 32 := BitVec.ofNat 32 (i 1).val
  let c32_i32 : BitVec 32 := 32#32
  let v0 : BitVec 32 := Scalar.addi arg0 c32_i32
  let c0_i32 : BitVec 32 := 0#32
  let c0_i32_0 : BitVec 32 := 0#32
  let c0_i32_1 : BitVec 32 := 0#32
  ![c0_i32.toNat, c0_i32_0.toNat, v0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1x4096x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1x4096x256 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 2 → Memref sig .tc .vmem S1024x256 .bf16 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true]

abbrev stage1_7 : Fin 2 → Memref sig .tc .vmem S1024x256 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true]

abbrev stage1_8 : Fin 2 → Memref sig .tc .vmem S1024x256 .bf16 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true]
-- ==== ProjectionsReferenceIdeal.lean ====
abbrev S9216x4096 : Shape := ⟨2, ![9216, 4096]⟩
abbrev S2x8x9x1x4096 : Shape := ⟨5, ![2, 8, 9, 1, 4096]⟩
abbrev S2x3x4096 : Shape := ⟨3, ![2, 3, 4096]⟩
abbrev S1x4096x12288 : Shape := ⟨3, ![1, 4096, 12288]⟩
abbrev S1x128 : Shape := ⟨2, ![1, 128]⟩
abbrev S8192x4096 : Shape := ⟨2, ![8192, 4096]⟩
abbrev S4x2048x4096 : Shape := ⟨3, ![4, 2048, 4096]⟩
abbrev S1x4x9x1x4096 : Shape := ⟨5, ![1, 4, 9, 1, 4096]⟩
abbrev S4x9x1x4096 : Shape := ⟨4, ![4, 9, 1, 4096]⟩
abbrev S1x1x4096 : Shape := ⟨3, ![1, 1, 4096]⟩
abbrev S4096 : Shape := ⟨1, ![4096]⟩
abbrev S_ : Shape := ⟨0, ![]⟩
abbrev S4x2048 : Shape := ⟨2, ![4, 2048]⟩
abbrev S4x2048x1 : Shape := ⟨3, ![4, 2048, 1]⟩
abbrev S4x1x1x4096 : Shape := ⟨4, ![4, 1, 1, 4096]⟩
abbrev S4x1x4096 : Shape := ⟨3, ![4, 1, 4096]⟩
abbrev S1024x4096 : Shape := ⟨2, ![1024, 4096]⟩
abbrev S4x256x4096 : Shape := ⟨3, ![4, 256, 4096]⟩
abbrev S1x1x9x1x4096 : Shape := ⟨5, ![1, 1, 9, 1, 4096]⟩
abbrev S1x9x1x4096 : Shape := ⟨4, ![1, 9, 1, 4096]⟩
abbrev S4x256 : Shape := ⟨2, ![4, 256]⟩
abbrev S4x256x1 : Shape := ⟨3, ![4, 256, 1]⟩
abbrev S1x1x1x4096 : Shape := ⟨4, ![1, 1, 1, 4096]⟩
abbrev S4096x12288 : Shape := ⟨2, ![4096, 12288]⟩
abbrev S9216x12288 : Shape := ⟨2, ![9216, 12288]⟩
abbrev S9216x3x32x128 : Shape := ⟨4, ![9216, 3, 32, 128]⟩
abbrev S9216x1x32x128 : Shape := ⟨4, ![9216, 1, 32, 128]⟩
abbrev S9216x32x128 : Shape := ⟨3, ![9216, 32, 128]⟩
abbrev S128 : Shape := ⟨1, ![128]⟩
abbrev S9216x32 : Shape := ⟨2, ![9216, 32]⟩
abbrev S9216x32x1 : Shape := ⟨3, ![9216, 32, 1]⟩
abbrev S1x1x128 : Shape := ⟨3, ![1, 1, 128]⟩

abbrev nBuf : Space → Nat
  | .hbm => 127
  | .vmem => 0
  | .smem => 0
  | _ => 0

abbrev bufTy : (tb : Table) → Fin (tcTables nBuf tb) → BufTy
  | .hbm, ⟨0, _⟩ => ⟨S9216x4096, .f32⟩
  | .hbm, ⟨1, _⟩ => ⟨S2x8x9x1x4096, .f32⟩
  | .hbm, ⟨2, _⟩ => ⟨S2x3x4096, .f32⟩
  | .hbm, ⟨3, _⟩ => ⟨S1x4096x12288, .f32⟩
  | .hbm, ⟨4, _⟩ => ⟨S1x128, .f32⟩
  | .hbm, ⟨5, _⟩ => ⟨S1x128, .f32⟩
  | .hbm, ⟨6, _⟩ => ⟨S8192x4096, .f32⟩
  | .hbm, ⟨7, _⟩ => ⟨S4x2048x4096, .f32⟩
  | .hbm, ⟨8, _⟩ => ⟨S1x4x9x1x4096, .f32⟩
  | .hbm, ⟨9, _⟩ => ⟨S4x9x1x4096, .f32⟩
  | .hbm, ⟨10, _⟩ => ⟨S1x1x4096, .f32⟩
  | .hbm, ⟨11, _⟩ => ⟨S4096, .f32⟩
  | .hbm, ⟨12, _⟩ => ⟨S4x2048x4096, .f32⟩
  | .hbm, ⟨13, _⟩ => ⟨S_, .f32⟩
  | .hbm, ⟨14, _⟩ => ⟨S4x2048, .f32⟩
  | .hbm, ⟨15, _⟩ => ⟨S4x2048x1, .f32⟩
  | .hbm, ⟨16, _⟩ => ⟨S_, .f32⟩
  | .hbm, ⟨17, _⟩ => ⟨S4x2048x1, .f32⟩
  | .hbm, ⟨18, _⟩ => ⟨S4x2048x1, .f32⟩
  | .hbm, ⟨19, _⟩ => ⟨S_, .f32⟩
  | .hbm, ⟨20, _⟩ => ⟨S4x2048x1, .f32⟩
  | .hbm, ⟨21, _⟩ => ⟨S4x2048x1, .f32⟩
  | .hbm, ⟨22, _⟩ => ⟨S4x2048x1, .f32⟩
  | .hbm, ⟨23, _⟩ => ⟨S4x2048x4096, .f32⟩
  | .hbm, ⟨24, _⟩ => ⟨S4x2048x4096, .f32⟩
  | .hbm, ⟨25, _⟩ => ⟨S1x1x4096, .f32⟩
  | .hbm, ⟨26, _⟩ => ⟨S4x2048x4096, .f32⟩
  | .hbm, ⟨27, _⟩ => ⟨S4x2048x4096, .f32⟩
  | .hbm, ⟨28, _⟩ => ⟨S4x1x1x4096, .f32⟩
  | .hbm, ⟨29, _⟩ => ⟨S4x1x4096, .f32⟩
  | .hbm, ⟨30, _⟩ => ⟨S_, .f32⟩
  | .hbm, ⟨31, _⟩ => ⟨S4x1x4096, .f32⟩
  | .hbm, ⟨32, _⟩ => ⟨S4x1x4096, .f32⟩
  | .hbm, ⟨33, _⟩ => ⟨S4x2048x4096, .f32⟩
  | .hbm, ⟨34, _⟩ => ⟨S4x2048x4096, .f32⟩
  | .hbm, ⟨35, _⟩ => ⟨S4x1x1x4096, .f32⟩
  | .hbm, ⟨36, _⟩ => ⟨S4x1x4096, .f32⟩
  | .hbm, ⟨37, _⟩ => ⟨S4x2048x4096, .f32⟩
  | .hbm, ⟨38, _⟩ => ⟨S4x2048x4096, .f32⟩
  | .hbm, ⟨39, _⟩ => ⟨S1024x4096, .f32⟩
  | .hbm, ⟨40, _⟩ => ⟨S4x256x4096, .f32⟩
  | .hbm, ⟨41, _⟩ => ⟨S1x1x9x1x4096, .f32⟩
  | .hbm, ⟨42, _⟩ => ⟨S1x9x1x4096, .f32⟩
  | .hbm, ⟨43, _⟩ => ⟨S1x1x4096, .f32⟩
  | .hbm, ⟨44, _⟩ => ⟨S4096, .f32⟩
  | .hbm, ⟨45, _⟩ => ⟨S4x256x4096, .f32⟩
  | .hbm, ⟨46, _⟩ => ⟨S_, .f32⟩
  | .hbm, ⟨47, _⟩ => ⟨S4x256, .f32⟩
  | .hbm, ⟨48, _⟩ => ⟨S4x256x1, .f32⟩
  | .hbm, ⟨49, _⟩ => ⟨S_, .f32⟩
  | .hbm, ⟨50, _⟩ => ⟨S4x256x1, .f32⟩
  | .hbm, ⟨51, _⟩ => ⟨S4x256x1, .f32⟩
  | .hbm, ⟨52, _⟩ => ⟨S_, .f32⟩
  | .hbm, ⟨53, _⟩ => ⟨S4x256x1, .f32⟩
  | .hbm, ⟨54, _⟩ => ⟨S4x256x1, .f32⟩
  | .hbm, ⟨55, _⟩ => ⟨S4x256x1, .f32⟩
  | .hbm, ⟨56, _⟩ => ⟨S4x256x4096, .f32⟩
  | .hbm, ⟨57, _⟩ => ⟨S4x256x4096, .f32⟩
  | .hbm, ⟨58, _⟩ => ⟨S1x1x4096, .f32⟩
  | .hbm, ⟨59, _⟩ => ⟨S4x256x4096, .f32⟩
  | .hbm, ⟨60, _⟩ => ⟨S4x256x4096, .f32⟩
  | .hbm, ⟨61, _⟩ => ⟨S1x1x1x4096, .f32⟩
  | .hbm, ⟨62, _⟩ => ⟨S1x1x4096, .f32⟩
  | .hbm, ⟨63, _⟩ => ⟨S_, .f32⟩
  | .hbm, ⟨64, _⟩ => ⟨S1x1x4096, .f32⟩
  | .hbm, ⟨65, _⟩ => ⟨S1x1x4096, .f32⟩
  | .hbm, ⟨66, _⟩ => ⟨S4x256x4096, .f32⟩
  | .hbm, ⟨67, _⟩ => ⟨S4x256x4096, .f32⟩
  | .hbm, ⟨68, _⟩ => ⟨S1x1x1x4096, .f32⟩
  | .hbm, ⟨69, _⟩ => ⟨S1x1x4096, .f32⟩
  | .hbm, ⟨70, _⟩ => ⟨S4x256x4096, .f32⟩
  | .hbm, ⟨71, _⟩ => ⟨S4x256x4096, .f32⟩
  | .hbm, ⟨72, _⟩ => ⟨S8192x4096, .f32⟩
  | .hbm, ⟨73, _⟩ => ⟨S1024x4096, .f32⟩
  | .hbm, ⟨74, _⟩ => ⟨S9216x4096, .f32⟩
  | .hbm, ⟨75, _⟩ => ⟨S4096x12288, .f32⟩
  | .hbm, ⟨76, _⟩ => ⟨S9216x12288, .f32⟩
  | .hbm, ⟨77, _⟩ => ⟨S9216x3x32x128, .f32⟩
  | .hbm, ⟨78, _⟩ => ⟨S9216x1x32x128, .f32⟩
  | .hbm, ⟨79, _⟩ => ⟨S9216x32x128, .f32⟩
  | .hbm, ⟨80, _⟩ => ⟨S128, .f32⟩
  | .hbm, ⟨81, _⟩ => ⟨S9216x32x128, .f32⟩
  | .hbm, ⟨82, _⟩ => ⟨S_, .f32⟩
  | .hbm, ⟨83, _⟩ => ⟨S9216x32, .f32⟩
  | .hbm, ⟨84, _⟩ => ⟨S9216x32x1, .f32⟩
  | .hbm, ⟨85, _⟩ => ⟨S_, .f32⟩
  | .hbm, ⟨86, _⟩ => ⟨S9216x32x1, .f32⟩
  | .hbm, ⟨87, _⟩ => ⟨S9216x32x1, .f32⟩
  | .hbm, ⟨88, _⟩ => ⟨S_, .f32⟩
  | .hbm, ⟨89, _⟩ => ⟨S9216x32x1, .f32⟩
  | .hbm, ⟨90, _⟩ => ⟨S9216x32x1, .f32⟩
  | .hbm, ⟨91, _⟩ => ⟨S9216x32x1, .f32⟩
  | .hbm, ⟨92, _⟩ => ⟨S9216x32x128, .f32⟩
  | .hbm, ⟨93, _⟩ => ⟨S9216x32x128, .f32⟩
  | .hbm, ⟨94, _⟩ => ⟨S1x1x128, .f32⟩
  | .hbm, ⟨95, _⟩ => ⟨S9216x32x128, .f32⟩
  | .hbm, ⟨96, _⟩ => ⟨S9216x32x128, .f32⟩
  | .hbm, ⟨97, _⟩ => ⟨S_, .f32⟩
  | .hbm, ⟨98, _⟩ => ⟨S9216x32x128, .f32⟩
  | .hbm, ⟨99, _⟩ => ⟨S9216x32x128, .f32⟩
  | .hbm, ⟨100, _⟩ => ⟨S9216x1x32x128, .f32⟩
  | .hbm, ⟨101, _⟩ => ⟨S9216x32x128, .f32⟩
  | .hbm, ⟨102, _⟩ => ⟨S128, .f32⟩
  | .hbm, ⟨103, _⟩ => ⟨S9216x32x128, .f32⟩
  | .hbm, ⟨104, _⟩ => ⟨S_, .f32⟩
  | .hbm, ⟨105, _⟩ => ⟨S9216x32, .f32⟩
  | .hbm, ⟨106, _⟩ => ⟨S9216x32x1, .f32⟩
  | .hbm, ⟨107, _⟩ => ⟨S_, .f32⟩
  | .hbm, ⟨108, _⟩ => ⟨S9216x32x1, .f32⟩
  | .hbm, ⟨109, _⟩ => ⟨S9216x32x1, .f32⟩
  | .hbm, ⟨110, _⟩ => ⟨S_, .f32⟩
  | .hbm, ⟨111, _⟩ => ⟨S9216x32x1, .f32⟩
  | .hbm, ⟨112, _⟩ => ⟨S9216x32x1, .f32⟩
  | .hbm, ⟨113, _⟩ => ⟨S9216x32x1, .f32⟩
  | .hbm, ⟨114, _⟩ => ⟨S9216x32x128, .f32⟩
  | .hbm, ⟨115, _⟩ => ⟨S9216x32x128, .f32⟩
  | .hbm, ⟨116, _⟩ => ⟨S1x1x128, .f32⟩
  | .hbm, ⟨117, _⟩ => ⟨S9216x32x128, .f32⟩
  | .hbm, ⟨118, _⟩ => ⟨S9216x32x128, .f32⟩
  | .hbm, ⟨119, _⟩ => ⟨S9216x1x32x128, .f32⟩
  | .hbm, ⟨120, _⟩ => ⟨S9216x32x128, .f32⟩
  | .hbm, ⟨121, _⟩ => ⟨S9216x4096, .f32⟩
  | .hbm, ⟨122, _⟩ => ⟨S9216x4096, .bf16⟩
  | .hbm, ⟨123, _⟩ => ⟨S9216x4096, .f32⟩
  | .hbm, ⟨124, _⟩ => ⟨S9216x4096, .bf16⟩
  | .hbm, ⟨125, _⟩ => ⟨S9216x4096, .f32⟩
  | .hbm, ⟨126, _⟩ => ⟨S9216x4096, .bf16⟩
  | _, _ => ⟨S9216x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_cst_2 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_cst_3 : Ref sig .tc := ⟨.hbm, 46, rfl⟩
abbrev main_v36 : Ref sig .tc := ⟨.hbm, 47, rfl⟩
abbrev main_v37 : Ref sig .tc := ⟨.hbm, 48, rfl⟩
abbrev main_cst_4 : Ref sig .tc := ⟨.hbm, 49, rfl⟩
abbrev main_v38 : Ref sig .tc := ⟨.hbm, 50, rfl⟩
abbrev main_v39 : Ref sig .tc := ⟨.hbm, 51, rfl⟩
abbrev main_cst_5 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_cst_6 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_7 : Ref sig .tc := ⟨.hbm, 82, rfl⟩
abbrev main_v68 : Ref sig .tc := ⟨.hbm, 83, rfl⟩
abbrev main_v69 : Ref sig .tc := ⟨.hbm, 84, rfl⟩
abbrev main_cst_8 : Ref sig .tc := ⟨.hbm, 85, rfl⟩
abbrev main_v70 : Ref sig .tc := ⟨.hbm, 86, rfl⟩
abbrev main_v71 : Ref sig .tc := ⟨.hbm, 87, rfl⟩
abbrev main_cst_9 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_cst_10 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_cst_11 : Ref sig .tc := ⟨.hbm, 104, rfl⟩
abbrev main_v86 : Ref sig .tc := ⟨.hbm, 105, rfl⟩
abbrev main_v87 : Ref sig .tc := ⟨.hbm, 106, rfl⟩
abbrev main_cst_12 : Ref sig .tc := ⟨.hbm, 107, rfl⟩
abbrev main_v88 : Ref sig .tc := ⟨.hbm, 108, rfl⟩
abbrev main_v89 : Ref sig .tc := ⟨.hbm, 109, rfl⟩
abbrev main_cst_13 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩

abbrev nD : Nat := 1
abbrev τ : Topo := Topo.v7x

variable {F : FTy → Type} [FloatOps F]
-- ==== Proof.Ref.lean ====
module

public import proofs.«01_k».proof.Defs
public import proofs.«01_k».proof.Proof.Gen.ReferenceIdeal.Run
public import proofs.«01_k».proof.Proof.Gen.ReferenceIdeal.Read

@[expose] public section

end
-- ==== Proof.Ideal.Bias.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! The first launch of the program, which writes the bias of each head: what its body leaves in its output buffer,
    and the body's obligation at every grid point. -/

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

abbrev VO0_1 : View sig .tc .vmem S1x3x256x768 .f32 := (Memref.whole cc0_stg1_0 : Memref sig .tc .vmem S1x3x256x768 .f32).view
abbrev ms0_0 (t : Fin cfg0.N) : Memref sig .tc .smem S14880 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x3x256x768 .f32 := win0_1.stage (cfg0.slots t 1)
abbrev hs0_1 (t : Fin cfg0.N) : (ms0_1 t).IsWhole := hstage0_1 ((cfg0.slots t 1).cast nbuf0_1)
set_option maxHeartbeats 10912000 in
noncomputable def kernelRun0_A (c : Dev nD) (i : grid0.Coords) (arg1 : Memref sig .tc .smem S14880 .f32) (harg1 : arg1.IsWhole) (arg2 : Memref sig .tc .vmem S1x3x256x768 .f32) (harg2 : arg2.IsWhole)
    (x0 : Vec F S14880 .f32) :
    { L1 : List (View.Piece (Elt F) S1x3x256x768 .f32) //
      ∀ (E : Set ℕ) (K : PUnit → sProp 𝕄),
        iprop(owns (c : Thread nD τ) arg1 fullShare x0 ∗ (∃ d, owns (c : Thread nD τ) arg2 fullShare d)
            ∗ (iprop(owns (c : Thread nD τ) arg1 fullShare x0 ∗ (∃ f, arg2.view.loc (c : Thread nD τ) ↦[arg2.view.set]{fullShare} arg2.view.writes (Elt F) f L1)) -∗ K ⟨⟩))
          ⊢ wp frame (wpE (defs₀ (F := F)) Variants.none c none) E (cc0_attention_bias i arg1 harg1 arg2 harg2) K } := by
  refine ⟨?_, fun E K => ?run⟩
  case run =>
    simp only [cc0_attention_bias_eq_skeleton]; unfold cc0_attention_bias_skel
    simp only [k0_part91_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part92_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton]
    unfold owns
    iintro ⟨⟨%f0, %hf0, H0⟩, ⟨%d1, %f1, -, H1⟩, Hk⟩
    obtain rfl := harg1.eq_unread hf0
    sl_exec
    sl_step
    iapply Hk
    isplitl [H0]
    · iexists _; isplitr; · ipureintro; exact harg1.read_unread _
      iexact H0
    iexists _; iexact H1

theorem cover0_A_1 (c : Dev nD) (i : grid0.Coords) (arg1 : Memref sig .tc .smem S14880 .f32) (harg1 : arg1.IsWhole) (arg2 : Memref sig .tc .vmem S1x3x256x768 .f32) (harg2 : arg2.IsWhole)
    (x0 : Vec F S14880 .f32) (y : S1x3x256x768.Idx) :
    ∃ pc ∈ (kernelRun0_A c i arg1 harg1 arg2 harg2 x0).1, y ∈ pc.1.set :=
  View.cover_of_tiledL (kernelRun0_A c i arg1 harg1 arg2 harg2 x0).1 S1x1x64x128.size (by sl_kernel_rfl) y

def out0_A_1 (c : Dev nD) (i : grid0.Coords) (arg1 : Memref sig .tc .smem S14880 .f32) (harg1 : arg1.IsWhole) (arg2 : Memref sig .tc .vmem S1x3x256x768 .f32) (harg2 : arg2.IsWhole)
    (x0 : Vec F S14880 .f32) : Vec F S1x3x256x768 .f32 :=
  VO0_1.read (Elt F) (VO0_1.writes (Elt F) VO0_1.junk (kernelRun0_A c i arg1 harg1 arg2 harg2 x0).1)

def outsAt0 (c : Dev nD) (t : Fin cfg0.N) : Vec F S1x3x256x768 .f32 :=
  out0_A_1 c (grid0.coords t) (ms0_0 t) (hs0_0 t) (ms0_1 t) (hs0_1 t) (iblk0 V c 0 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => (outsAt0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = (outsAt0 V c t) := by dsimp only [dat0]

theorem before0_0 (c : Dev nD) (t : Fin cfg0.N) (d) : (dat0 V c).before 0 t d = iblk0 V c 0 t :=
  before0_0_of V (dat0 V c) (A_eq0 V c 0) (after0_0 V c) t d

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0]
  rw [show (dat0 V c).Φ t.succ = (dat0 V c).Φ t.castSucc from rfl,
    show (dat0 V c).owesAt () t.succ = (dat0 V c).owesAt () t.castSucc from rfl,
    after0_0, after0_1]
  unfold outsAt0
  unfold out0_A_1
  iintro ⟨HΦ, Ho, ⟨%d0, H0⟩, ⟨%d1, H1⟩⟩
  iapply ((kernelRun0_A c (grid0.coords t) _ _ _ _ (iblk0 V c 0 t)).2 Set.univ _)
  isplitl [H0]; · iexact H0
  isplitl [H1]; · iexists _; iexact H1
  iintro ⟨H0, ⟨%e1, H1⟩⟩
  isplitl [HΦ]; · iexact HΦ
  isplitl [Ho]; · iexact Ho
  isplitl [H0]; · iexact H0
  unfold owns; iexists _; isplitr
  swap; · iexact H1
  ipureintro; exact View.read_writes_of_cover _ _ _ _ _ (cover0_A_1 c _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.KernelIdeal.Joined

end
-- ==== Proof.Ideal.Attn.lean ====
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! The second launch of the program, the attention: what its input buffers hold, what its body leaves in its output
    buffer, and the body's obligation at every grid point. -/

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

def dflt1_0 : (cfg1.win 0).block.Idx → Elt F (cfg1.win 0).elt := fun _ => Classical.choice inferInstance
def X1_0 (c : Dev nD) (t : Fin cfg1.N) : (cfg1.win 0).block.Idx → Elt F (cfg1.win 0).elt :=
  (cfg1.win 0).fill (cfg1.grid.coords t) dflt1_0 (iblk1 V c 0 t)
theorem xsize1_0 : ∀ t : Fin cfg1.N, ∀ a, (cfg1.win 0).xsize (cfg1.grid.coords t) a = (cfg1.win 0).size a := by decide +kernel
theorem moved1_0 (t : Fin cfg1.N) (j : (cfg1.win 0).block.Idx) : (cfg1.win 0).moved (cfg1.grid.coords t) j = true :=
  ((cfg1.win 0).moved_iff _ j).mpr fun a => by rw [xsize1_0 t a]; exact (j a).isLt
theorem fill1_0 (t : Fin cfg1.N) (d d' : (cfg1.win 0).block.Idx → Elt F (cfg1.win 0).elt) (g) :
    (cfg1.win 0).fill (cfg1.grid.coords t) d g = (cfg1.win 0).fill (cfg1.grid.coords t) d' g := by
  funext j; unfold Pipeline.Window.fill; rw [dif_pos (moved1_0 t j), dif_pos (moved1_0 t j)]
theorem before1_0_of {c : Dev nD} (dat : Dat τ (Elt F) Unit ℕ (UR sig nD τ) ℕ cfg1 c) (hA : dat.A 0 = V c (Pipeline.arrRef spec1 0))
    (hafter : ∀ t, dat.after 0 t = X1_0 V c t) (t : Fin cfg1.N) (d) : dat.before 0 t d = X1_0 V c t :=
  (dat.before_in_eq_fetched 0 rfl (fun _ => rfl)
      (fun t t' h => funext fun a => congrArg (fun n => Pipeline.Clip.of n ((cfg1.win 0).size a) (S9216x4096.size a)) (congrFun h a))
      (fun t => by rw [hafter]; unfold X1_0; rw [Pipeline.Window.cut_fill]; unfold Dat.blockOf iblk1; rw [hA]; try rfl) t d).trans
    (by unfold Dat.fetched X1_0; rw [fill1_0 t d dflt1_0]; unfold Dat.blockOf iblk1; rw [hA]; try rfl)
def dflt1_1 : (cfg1.win 1).block.Idx → Elt F (cfg1.win 1).elt := fun _ => Classical.choice inferInstance
def X1_1 (c : Dev nD) (t : Fin cfg1.N) : (cfg1.win 1).block.Idx → Elt F (cfg1.win 1).elt :=
  (cfg1.win 1).fill (cfg1.grid.coords t) dflt1_1 (iblk1 V c 1 t)
theorem xsize1_1 : ∀ t : Fin cfg1.N, ∀ a, (cfg1.win 1).xsize (cfg1.grid.coords t) a = (cfg1.win 1).size a := by decide +kernel
theorem moved1_1 (t : Fin cfg1.N) (j : (cfg1.win 1).block.Idx) : (cfg1.win 1).moved (cfg1.grid.coords t) j = true :=
  ((cfg1.win 1).moved_iff _ j).mpr fun a => by rw [xsize1_1 t a]; exact (j a).isLt
theorem fill1_1 (t : Fin cfg1.N) (d d' : (cfg1.win 1).block.Idx → Elt F (cfg1.win 1).elt) (g) :
    (cfg1.win 1).fill (cfg1.grid.coords t) d g = (cfg1.win 1).fill (cfg1.grid.coords t) d' g := by
  funext j; unfold Pipeline.Window.fill; rw [dif_pos (moved1_1 t j), dif_pos (moved1_1 t j)]
theorem before1_1_of {c : Dev nD} (dat : Dat τ (Elt F) Unit ℕ (UR sig nD τ) ℕ cfg1 c) (hA : dat.A 1 = V c (Pipeline.arrRef spec1 1))
    (hafter : ∀ t, dat.after 1 t = X1_1 V c t) (t : Fin cfg1.N) (d) : dat.before 1 t d = X1_1 V c t :=
  (dat.before_in_eq_fetched 1 rfl (fun _ => rfl)
      (fun t t' h => funext fun a => congrArg (fun n => Pipeline.Clip.of n ((cfg1.win 1).size a) (S9216x4096.size a)) (congrFun h a))
      (fun t => by rw [hafter]; unfold X1_1; rw [Pipeline.Window.cut_fill]; unfold Dat.blockOf iblk1; rw [hA]; try rfl) t d).trans
    (by unfold Dat.fetched X1_1; rw [fill1_1 t d dflt1_1]; unfold Dat.blockOf iblk1; rw [hA]; try rfl)
def dflt1_2 : (cfg1.win 2).block.Idx → Elt F (cfg1.win 2).elt := fun _ => Classical.choice inferInstance
def X1_2 (c : Dev nD) (t : Fin cfg1.N) : (cfg1.win 2).block.Idx → Elt F (cfg1.win 2).elt :=
  (cfg1.win 2).fill (cfg1.grid.coords t) dflt1_2 (iblk1 V c 2 t)
theorem xsize1_2 : ∀ t : Fin cfg1.N, ∀ a, (cfg1.win 2).xsize (cfg1.grid.coords t) a = (cfg1.win 2).size a := by decide +kernel
theorem moved1_2 (t : Fin cfg1.N) (j : (cfg1.win 2).block.Idx) : (cfg1.win 2).moved (cfg1.grid.coords t) j = true :=
  ((cfg1.win 2).moved_iff _ j).mpr fun a => by rw [xsize1_2 t a]; exact (j a).isLt
theorem fill1_2 (t : Fin cfg1.N) (d d' : (cfg1.win 2).block.Idx → Elt F (cfg1.win 2).elt) (g) :
    (cfg1.win 2).fill (cfg1.grid.coords t) d g = (cfg1.win 2).fill (cfg1.grid.coords t) d' g := by
  funext j; unfold Pipeline.Window.fill; rw [dif_pos (moved1_2 t j), dif_pos (moved1_2 t j)]
theorem before1_2_of {c : Dev nD} (dat : Dat τ (Elt F) Unit ℕ (UR sig nD τ) ℕ cfg1 c) (hA : dat.A 2 = V c (Pipeline.arrRef spec1 2))
    (hafter : ∀ t, dat.after 2 t = X1_2 V c t) (t : Fin cfg1.N) (d) : dat.before 2 t d = X1_2 V c t :=
  (dat.before_in_eq_fetched 2 rfl (fun _ => rfl)
      (fun t t' h => funext fun a => congrArg (fun n => Pipeline.Clip.of n ((cfg1.win 2).size a) (S9216x4096.size a)) (congrFun h a))
      (fun t => by rw [hafter]; unfold X1_2; rw [Pipeline.Window.cut_fill]; unfold Dat.blockOf iblk1; rw [hA]; try rfl) t d).trans
    (by unfold Dat.fetched X1_2; rw [fill1_2 t d dflt1_2]; unfold Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)

abbrev VO1_6 : View sig .tc .vmem S2048x128 .bf16 := (Memref.whole cc1_stg6_0 : Memref sig .tc .vmem S2048x128 .bf16).view
abbrev ms1_0 (t : Fin cfg1.N) : Memref sig .tc .vmem S2048x128 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S2048x128 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S2048x128 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S256x128 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S256x128 .bf16 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x3x256x768 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S2048x128 .bf16 := win1_6.stage (cfg1.slots t 6)
abbrev hs1_6 (t : Fin cfg1.N) : (ms1_6 t).IsWhole := hstage1_6 ((cfg1.slots t 6).cast nbuf1_6)

set_option maxHeartbeats 1000000 in
noncomputable def kernelRun1_A (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x3x256x768 .f32) (harg7 : arg7.IsWhole) (arg8 : Memref sig .tc .vmem S2048x128 .bf16) (harg8 : arg8.IsWhole)
    (x0 : Vec F S2048x128 .bf16) (x1 : Vec F S2048x128 .bf16) (x2 : Vec F S2048x128 .bf16) (x3 : Vec F S256x128 .bf16) (x4 : Vec F S256x128 .bf16) (x5 : Vec F S1x3x256x768 .f32) :
    { L6 : List (View.Piece (Elt F) S2048x128 .bf16) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ f, arg8.view.loc (c : Thread nD τ) ↦[arg8.view.set]{fullShare} arg8.view.writes (Elt F) f L6)) -∗ K ⟨⟩))
          ⊢ wp frame (wpE (defs₀ (F := F)) Variants.none c none) E (cc1_neighbourhood_attention i arg2 harg2 arg3 harg3 arg4 harg4 arg5 harg5 arg6 harg6 arg7 harg7 arg8 harg8) K } := by
  refine ⟨?_, fun E K => ?run⟩
  case run =>
    simp only [cc1_neighbourhood_attention_eq_skeleton]; unfold cc1_neighbourhood_attention_skel
    simp only [k1_part1_eq_skeleton, k1_part2_eq_skeleton, k1_part3_eq_skeleton, k1_part4_eq_skeleton, k1_part5_eq_skeleton, k1_part6_eq_skeleton, k1_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; iexact H6

theorem cover1_A_6 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x3x256x768 .f32) (harg7 : arg7.IsWhole) (arg8 : Memref sig .tc .vmem S2048x128 .bf16) (harg8 : arg8.IsWhole)
    (x0 : Vec F S2048x128 .bf16) (x1 : Vec F S2048x128 .bf16) (x2 : Vec F S2048x128 .bf16) (x3 : Vec F S256x128 .bf16) (x4 : Vec F S256x128 .bf16) (x5 : Vec F S1x3x256x768 .f32) (y : S2048x128.Idx) :
    ∃ pc ∈ (kernelRun1_A c i arg2 harg2 arg3 harg3 arg4 harg4 arg5 harg5 arg6 harg6 arg7 harg7 arg8 harg8 x0 x1 x2 x3 x4 x5).1, y ∈ pc.1.set :=
  View.cover_of_tiledL (kernelRun1_A c i arg2 harg2 arg3 harg3 arg4 harg4 arg5 harg5 arg6 harg6 arg7 harg7 arg8 harg8 x0 x1 x2 x3 x4 x5).1 S256x128.size (by sl_kernel_rfl) y

def out1_A_6 (c : Dev nD) (i : grid1.Coords) (arg2 : Memref sig .tc .vmem S2048x128 .bf16) (harg2 : arg2.IsWhole) (arg3 : Memref sig .tc .vmem S2048x128 .bf16) (harg3 : arg3.IsWhole) (arg4 : Memref sig .tc .vmem S2048x128 .bf16) (harg4 : arg4.IsWhole) (arg5 : Memref sig .tc .vmem S256x128 .bf16) (harg5 : arg5.IsWhole) (arg6 : Memref sig .tc .vmem S256x128 .bf16) (harg6 : arg6.IsWhole) (arg7 : Memref sig .tc .vmem S1x3x256x768 .f32) (harg7 : arg7.IsWhole) (arg8 : Memref sig .tc .vmem S2048x128 .bf16) (harg8 : arg8.IsWhole)
    (x0 : Vec F S2048x128 .bf16) (x1 : Vec F S2048x128 .bf16) (x2 : Vec F S2048x128 .bf16) (x3 : Vec F S256x128 .bf16) (x4 : Vec F S256x128 .bf16) (x5 : Vec F S1x3x256x768 .f32) : Vec F S2048x128 .bf16 :=
  VO1_6.read (Elt F) (VO1_6.writes (Elt F) VO1_6.junk (kernelRun1_A c i arg2 harg2 arg3 harg3 arg4 harg4 arg5 harg5 arg6 harg6 arg7 harg7 arg8 harg8 x0 x1 x2 x3 x4 x5).1)

def outsAt1 (c : Dev nD) (t : Fin cfg1.N) : Vec F S2048x128 .bf16 :=
  out1_A_6 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (X1_0 V c t) (X1_1 V c t) (X1_2 V c t) (iblk1 V c 3 t) (iblk1 V c 4 t) (iblk1 V c 5 t)

def dat1 (c : Dev nD) : Dat τ (Elt F) Unit ℕ (UR sig nD τ) ℕ cfg1 c where
  A w := V c (Pipeline.arrRef spec1 w)
  after w t := match w with
    | ⟨0, _⟩ => X1_0 V c t
    | ⟨1, _⟩ => X1_1 V c t
    | ⟨2, _⟩ => X1_2 V c t
    | ⟨3, _⟩ => iblk1 V c 3 t
    | ⟨4, _⟩ => iblk1 V c 4 t
    | ⟨5, _⟩ => iblk1 V c 5 t
    | ⟨6, _⟩ => (outsAt1 V c t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = X1_0 V c t := by dsimp only [dat1]
theorem after1_1 (c : Dev nD) (t : Fin cfg1.N) : (dat1 V c).after 1 t = X1_1 V c t := by dsimp only [dat1]
theorem after1_2 (c : Dev nD) (t : Fin cfg1.N) : (dat1 V c).after 2 t = X1_2 V c t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = (outsAt1 V c t) := by dsimp only [dat1]

theorem before1_0 (c : Dev nD) (t : Fin cfg1.N) (d) : (dat1 V c).before 0 t d = X1_0 V c t :=
  before1_0_of V (dat1 V c) (A_eq1 V c 0) (after1_0 V c) t d
theorem before1_1 (c : Dev nD) (t : Fin cfg1.N) (d) : (dat1 V c).before 1 t d = X1_1 V c t :=
  before1_1_of V (dat1 V c) (A_eq1 V c 1) (after1_1 V c) t d
theorem before1_2 (c : Dev nD) (t : Fin cfg1.N) (d) : (dat1 V c).before 2 t d = X1_2 V c t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1
  unfold out1_A_6
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1_A c (grid1.coords t) _ _ _ _ _ _ _ _ _ _ _ _ _ _ (X1_0 V c t) (X1_1 V c t) (X1_2 V c t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  iintro ⟨H0, H1, H2, H3, H4, H5, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  unfold owns; iexists _; isplitr
  swap; · iexact H6
  ipureintro; exact View.read_writes_of_cover _ _ _ _ _ (cover1_A_6 c _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.KernelIdeal.Joined

end
-- ==== Proof.Launches.lean ====
module

public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic

@[expose] public section

/-! What the runs of all programs have in common: a launch as a step from the buffers' contents before it to those after
    it, the host's operations between launches, and a run of such steps from its first contents to its last. -/

set_option maxRecDepth 16384

noncomputable section

namespace Cert.Launches

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline

variable {F : FTy → Type} [FloatOps F] {nD : Nat} {τ : Topo} {sig : RefSig} {Λ₀ : Labels}

local notation "𝕄" => MT nD τ sig Unit (Elt F) ℕ (UR sig nD τ) ℕ

section step

/-- What a launch leaves: its windows' arrays as its write-backs leave them, every other buffer as it was. -/
def stepW {cfg : Cfg sig Λ₀} (W : Dev nD → Valuation τ sig (Elt F))
    (dat : (c : Dev nD) → Dat τ (Elt F) Unit ℕ (UR sig nD τ) ℕ cfg c) (c : Dev nD) : Valuation τ sig (Elt F) :=
  Pipeline.withArrays cfg.spec c (W c) fun w => (dat c).arrAt w cfg.N

variable {cfg : Cfg sig Λ₀} (hs : Pipeline.SharedIn cfg.spec) (W : Dev nD → Valuation τ sig (Elt F))
  (dat : (c : Dev nD) → Dat τ (Elt F) Unit ℕ (UR sig nD τ) ℕ cfg c)
  (hA : ∀ c w, (dat c).A w = W c (Proc.devRef .tc (Pipeline.arrRef cfg.spec w)))

include hs hA in
theorem stepW_arr (c : Dev nD) (w : Fin cfg.W) :
    stepW W dat c (Proc.devRef .tc (Pipeline.arrRef cfg.spec w)) = (dat c).arrAt w cfg.N := by
  unfold stepW; exact (dat c).withArrays_arrAt hs _ (hA c) w

theorem stepW_of_ne (c : Dev nD) (b : Ref sig .tc) (hb : ∀ w, Pipeline.arrRef cfg.spec w ≠ b) :
    stepW W dat c (Proc.devRef .tc b) = W c (Proc.devRef .tc b) := by
  unfold stepW; exact Pipeline.withArrays_of_ne cfg.spec c _ _ b hb

include hs hA in
theorem stepW_of (c : Dev nD) (r : Ref sig .tc) (h : ∀ w : Fin cfg.W, Pipeline.arrRef cfg.spec w = r → (cfg.win w).isOut = false) :
    stepW W dat c (Proc.devRef .tc r) = W c (Proc.devRef .tc r) := by
  by_cases hw : ∃ w : Fin cfg.W, Pipeline.arrRef cfg.spec w = r
  · obtain ⟨w, rfl⟩ := hw
    exact (stepW_arr hs W dat hA c w).trans (((dat c).arrAt_in w (h w rfl) _).trans (hA c w))
  · exact stepW_of_ne W dat c r fun w e => hw ⟨w, e⟩

end step

variable {n : Nat} (cfgs : Fin n → Cfg sig Λ₀) (defs₀ : Defs nD τ sig (Elt F) Λ₀)

abbrev pcfgs : Fin n → Pipeline.PCfg sig Λ₀ (Elt F) := fun p => (cfgs p).toPCfg
abbrev adm : (p : Fin n) → (pcfgs cfgs (F := F) p).Adm := fun p => (cfgs p).toPCfg_adm
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)

/-- The host's operations between two launches, from the contents `W`. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs cfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

variable (pdats : (p : Fin n) → (c : Dev nD) → Dat τ (Elt F) Unit ℕ (UR sig nD τ) ℕ (Pipeline.pin (pcfgs cfgs (F := F)) (adm cfgs) p) c)

set_option backward.isDefEq.respectTransparency.types false in
/-- A launch as a step of the run, from the contents `Wi` to the contents `Wo`. -/
def regOf (p : Fin n) (hw : Pipeline.WinFacts₀ (cfgs p).spec) (hs : Pipeline.SharedIn (cfgs p).spec)
    (hblock : ∀ w : Fin (cfgs p).W, 0 < ((cfgs p).spec w).block.numel)
    (harr : ∀ w : Fin (cfgs p).W, ((cfgs p).spec w).arr.IsWhole)
    (hstage : ∀ (w : Fin (cfgs p).W) (s : Fin ((cfgs p).spec w).nbuf), (((cfgs p).spec w).stage s).IsWhole)
    (Wi Wo : Dev nD → Valuation τ sig (Elt F))
    (hbody : ∀ c, BodyObligation (pdats p c) defs₀ Variants.none () Set.univ)
    (howed : ∀ c n, (pdats p c).owed n = 0)
    (hrec : ∀ c x, x ∈ (pdats p c).recorded 0)
    (hΦ : ∀ c n, (pdats p c).Φ n = Pipeline.ΦA (cfgs p).spec c)
    (hq : ∀ c w, (pdats p c).q w = Pipeline.shareOf (cfgs p).spec w)
    (hA : ∀ c w, (pdats p c).A w = Wi c (Proc.devRef .tc (Pipeline.arrRef (cfgs p).spec w)))
    (hF : ∀ c w, (pdats p c).arrAt w (cfgs p).N = Wo c (Proc.devRef .tc (Pipeline.arrRef (cfgs p).spec w)))
    (hrest : ∀ (c : Dev nD) (b : Ref sig .tc), b ∉ Finset.univ.image (Pipeline.arrRef (cfgs p).spec) →
      Wo c (Proc.devRef .tc b) = Wi c (Proc.devRef .tc b)) :
    Pipeline.RegionSeg (pcfgs cfgs (F := F)) (adm cfgs) pdats () defs₀ 𝒱₀ L lv p where
  win := hw
  block_pos := hblock
  stage_whole := hstage
  K := PEmpty
  osem k := k.elim
  ho := Pipeline.OwnSemFacts.none _
  hbody c := (hbody c).loose
  hwaits := Pipeline.hwaits_of_owed_zero _ _ _ _ L lv p howed
  pre c := iprop(StableHlo.held (c : Thread nD τ) (Pipeline.ucRefs τ sig) (Wi c) ∗ R c)
  post c := iprop(StableHlo.held (c : Thread nD τ) (Pipeline.ucRefs τ sig) (Wo c) ∗ R c)
  X c := iprop(∃ r, prngReg c r)
  Y c := iprop(∃ r, prngReg c r)
  Z c := Pipeline.unscopedRest (Ix := Unit) (Name := ℕ) (U := UR sig nD τ) (Lvl := ℕ) (cfgs p).spec c (fun b => Wi c b)
  hentry c := by
    rw [Pipeline.ownSems0_none]
    have hsplit := Pipeline.arrays_of_unscopedBufs_shared (p := p) (pcfgs cfgs (F := F)) (adm cfgs) pdats hw hs harr c
      (fun w _ => hq c w) (fun b => Wi c b) (hA c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      rw [howed]
      icases HO with ⟨%W, HO⟩; iexists W; isplitr; · ipureintro; exact fun _ _ => Or.inl (hrec c _)
      iexact HO
    isplitl [Hp]; · iexact Hp
    iexact Hrest
  hin c := by
    rw [hΦ]; unfold Pipeline.ΦA
    iintro ⟨Hp, -, Hr⟩
    isplitl [Hr]; · iexact Hr
    iexact Hp
  hout c := by
    rw [Pipeline.ownSems0_none, hΦ]; unfold Pipeline.ΦA
    iintro ⟨Hr, Hp⟩
    isplitl [Hp]; · iexact Hp
    isplitr; · iempintro
    iexact Hr
  hexit c := by
    have hjoin := Pipeline.unscopedBufs_of_arrays_shared (p := p) (pcfgs cfgs (F := F)) (adm cfgs) (Ix := Unit) (Name := ℕ) (U := UR sig nD τ) (Lvl := ℕ)
      hw hs harr c pdats (fun w _ => hq c w)
      (fun b => Wi c b) (fun b => Wo c b) ((pdats p c).arrAt · (cfgs p).N) (hF c) (hrest c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    rw [howed]
    icases HO with ⟨%W, -, HO⟩; iexists W; iexact HO

/-- What a run ends with. -/
abbrev Tₙ (W : Dev nD → Valuation τ sig (Elt F)) (c : Dev nD) : sProp 𝕄 :=
  iprop(StableHlo.held (c : Thread nD τ) (Pipeline.ucRefs τ sig) (W c) ∗ ∃ r, prngReg c r)

theorem last (W : Dev nD → Valuation τ sig (Elt F)) (c : Dev nD) :
    (iprop(StableHlo.held (c : Thread nD τ) (Pipeline.ucRefs τ sig) (W c) ∗ R c) : sProp 𝕄)
    ⊢ iprop(Tₙ W c ∗ ∃ W', owes (c : Thread nD τ) (0 : CellTallies nD τ sig Unit) W') := by
  iintro ⟨Hh, Hp, HO⟩
  isplitl [Hh Hp]
  · isplitl [Hh]; · iexact Hh
    iexact Hp
  iexact HO

set_option backward.isDefEq.respectTransparency.types false in
/-- A run whose steps chain from the contents `m` to the contents `Wn` ends with every unscoped buffer at `Wn` and every
    counter at zero. -/
theorem run_of (hinj : Function.Injective (Pipeline.cellOf (nD := nD) (τ := τ) cfgs)) (m : (ℓ : Loc nD τ sig) → Buf (Elt F) ℓ)
    (ρ : Dev nD → PrngReg)
    (main : Dev nD → Prog (TpuEff nD τ sig (Elt F) (Pipeline.Sig Λ₀ (Fin n) fun p => (pcfgs cfgs (F := F) p).Adm) .tc) PUnit)
    (segs : List (Pipeline.Seg (pcfgs cfgs (F := F)) (adm cfgs) pdats () defs₀ 𝒱₀ L lv))
    (W₀ Wn : Dev nD → Valuation τ sig (Elt F)) (hW₀ : ∀ c, W₀ c = fun b => m (c, b))
    (hmain : ∀ c, main c = Pipeline.Seg.run segs) (hnd : (Pipeline.Seg.pipes segs).Nodup)
    (hch : Pipeline.Seg.Chains
      (fun c => iprop(StableHlo.held (c : Thread nD τ) (Pipeline.ucRefs τ sig) (W₀ c) ∗ R c)) segs
      (fun c => iprop(Tₙ Wn c ∗ ∃ W, owes (c : Thread nD τ) (0 : CellTallies nD τ sig Unit) W)))
    (hsem : ∀ sm : SemLoc sig, sm.isScoped .tc = true) :
    θ_run (Pipeline.defs (pcfgs cfgs) defs₀) (onTc (τ := τ) main) ⟨m, fun _ => 0, ρ⟩ (fun r =>
      (∀ c : Dev nD, ∀ b ∈ Pipeline.ucRefs τ sig, r.2.mem (((c : Thread nD τ)).1, b) = Wn c b) ∧ r.2.sem = fun _ => 0) :=
  Pipeline.θ_run_regions_kit_sems (pcfgs cfgs (F := F)) (adm cfgs) pdats () hinj emb₁ defs₀ 𝒱₀ L lv m ρ main segs
    (fun c Q => by rw [hmain c])
    hnd
    (O₀ := 0) (hL := fun _ _ => rfl) (G := fun _ => iprop(emp))
    (u₀ := initOf (Pipeline.cells cfgs hinj) (Pipeline.launchToks cfgs hinj))
    (hu₀ := by
      iintro Hu; imodintro
      isplitl [Hu]
      · iapply (show (ownU (initOf (Pipeline.cells cfgs hinj) (Pipeline.launchToks cfgs hinj)) : sProp 𝕄)
            ⊢ BI.own (emb₁ (initOf (Pipeline.cells cfgs hinj) (Pipeline.launchToks cfgs hinj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W₀ c) ∗ R c)) (Tₙ := Tₙ Wn)
    (hch := hch)
    (hinit := by
      refine Pipeline.initEach L lv fun c => ?_
      rw [show unscopedBufs c (fun b => m ((c : Thread nD τ).loc b)) = StableHlo.held (c : Thread nD τ) (Pipeline.ucRefs τ sig) (W₀ c)
        from (Pipeline.unscopedBufs_held c (fun b => m (c, b))).trans (by rw [hW₀ c])]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = Wn c b)
    (hfin := fun c s' => by
      iintro ⟨⟨Hh, -⟩, HSI⟩
      unfold StableHlo.held
      imodintro
      iapply (pointsTo_read_all (Pipeline.ucRefs τ sig) (fun b => (((c : Thread nD τ)).1, b)) (Wn c) s')
      isplitl [Hh] <;> iassumption)
    (hQ := fun s h hz => ⟨h, funext fun g => hz g (.inr (hsem g.2))⟩)

end Cert.Launches

end
-- ==== Proof.Ideal.Whole.lean ====
module

public import proofs.«01_k».proof.Proof.Ideal.Bias
public import proofs.«01_k».proof.Proof.Ideal.Attn
public import proofs.«01_k».proof.Proof.Launches

@[expose] public section

set_option maxRecDepth 16384

noncomputable section

namespace Cert.KernelIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Cert.Launches (𝒱₀ L lv R hseg mem_uc stepW stepW_arr stepW_of_ne stepW_of regOf last run_of)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! The program as a whole: the two reshapes of the bias table, then the two launches, one after the other. -/

abbrev argRefs : List (Ref sig .tc) := [main_arg0, main_arg1, main_arg2, main_arg3]

theorem hostOps0_fresh : (hostOps0 : List (HloOp τ sig (Elt F))).Forall fun op => op.fresh = ∅ := by
  simp only [List.Forall]; repeat' constructor
abbrev hostOps0_W : List (Ref sig .tc) := [main_v0, main_v1]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
abbrev V1 : (c : Dev nD) → (b : Ref sig .tc) → Buf (Elt F) ((c : Thread nD τ).loc b) := fun c b => W1 m ρ c b
def W2 : Dev nD → Valuation τ sig (Elt F) := stepW (W1 m ρ) (dat0 (V1 m ρ))
theorem W2_arr (c : Dev nD) (w : Fin cfg0.W) :
    W2 m ρ c (Proc.devRef .tc (Pipeline.arrRef spec0 w)) = (dat0 (V1 m ρ) c).arrAt w cfg0.N :=
  stepW_arr (.of_injective launch0.win.arr_inj) _ (dat0 (V1 m ρ)) (A_eq0 (V1 m ρ)) c w
theorem argsIn0 : ∀ a ∈ argRefs, ∀ w : Fin cfg0.W, Pipeline.arrRef spec0 w = a → (cfg0.win w).isOut = false :=
  ListAll.forall_mem_of_all_decide (by decide +kernel)
theorem W2_args (c : Dev nD) : ∀ a ∈ argRefs, W2 m ρ c (Proc.devRef .tc a) = m ((c : Thread nD τ).loc a) :=
  fun a ha => (stepW_of (.of_injective launch0.win.arr_inj) _ (dat0 (V1 m ρ)) (A_eq0 (V1 m ρ)) c a (argsIn0 a ha)).trans (W1_args m ρ c a ha)
abbrev V2 : (c : Dev nD) → (b : Ref sig .tc) → Buf (Elt F) ((c : Thread nD τ).loc b) := fun c b => W2 m ρ c b

def W3 : Dev nD → Valuation τ sig (Elt F) := stepW (W2 m ρ) (dat1 (V2 m ρ))
theorem argsIn1 : ∀ a ∈ argRefs, ∀ w : Fin cfg1.W, Pipeline.arrRef spec1 w = a → (cfg1.win w).isOut = false :=
  ListAll.forall_mem_of_all_decide (by decide +kernel)
theorem W3_args (c : Dev nD) : ∀ a ∈ argRefs, W3 m ρ c (Proc.devRef .tc a) = m ((c : Thread nD τ).loc a) :=
  fun a ha => (stepW_of launch₀1.sharedIn _ (dat1 (V2 m ρ)) (A_eq1 (V2 m ρ)) c a (argsIn1 a ha)).trans (W2_args m ρ c a ha)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c

def reg0 : Pipeline.RegionSeg (pcfgs (F := F)) adm (pdats m ρ) () defs₀ 𝒱₀ L lv 0 :=
  regOf cfgs defs₀ (pdats m ρ) 0 launch0.win.to₀ (.of_injective launch0.win.arr_inj) launch0.block_pos launch0.arr_whole launch0.stage_whole (W1 m ρ) (W2 m ρ)
    (body_obligation0 (V1 m ρ)) (fun _ _ => rfl) (fun _ _ => trivial) (fun _ _ => rfl) (fun _ w => rfl) (A_eq0 (V1 m ρ))
    (fun c w => (stepW_arr (.of_injective launch0.win.arr_inj) _ (dat0 (V1 m ρ)) (A_eq0 (V1 m ρ)) c w).symm)
    (fun c b hb => stepW_of_ne _ (dat0 (V1 m ρ)) c b fun w e => hb (Finset.mem_image.mpr ⟨w, Finset.mem_univ _, e⟩))
def reg1 : Pipeline.RegionSeg (pcfgs (F := F)) adm (pdats m ρ) () defs₀ 𝒱₀ L lv 1 :=
  regOf cfgs defs₀ (pdats m ρ) 1 launch₀1.win launch₀1.sharedIn launch₀1.block_pos launch₀1.arr_whole launch₀1.stage_whole (W2 m ρ) (W3 m ρ)
    (body_obligation1 (V2 m ρ)) (fun _ _ => rfl) (fun _ _ => trivial) (fun _ _ => rfl) (fun _ w => rfl) (A_eq1 (V2 m ρ))
    (fun c w => (stepW_arr launch₀1.sharedIn _ (dat1 (V2 m ρ)) (A_eq1 (V2 m ρ)) c w).symm)
    (fun c b hb => stepW_of_ne _ (dat1 (V2 m ρ)) c b fun w e => hb (Finset.mem_image.mpr ⟨w, Finset.mem_univ _, e⟩))

abbrev segs : List (Pipeline.Seg (pcfgs (F := F)) adm (pdats m ρ) () defs₀ 𝒱₀ L lv) :=
  [ .host (hseg cfgs defs₀ hostOps0 hostOps0_sub hostOps0_fresh (W0 m ρ)),
    .region (reg0 m ρ),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends; the arguments are as launched, the result is what the attention's write-backs leave, and every
    counter is zero. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_v3) = (dat1 (V2 m ρ) c).arrAt 6 cfg1.N)
      ∧ r.2.sem = fun _ => 0) :=
  (θ_run defs _ _).mono (fun _ h => ⟨fun c =>
    ⟨(h.1 c _ (mem_uc main_arg0 (by decide))).trans (W3_args m ρ c main_arg0 (by decide)),
     (h.1 c _ (mem_uc main_arg1 (by decide))).trans (W3_args m ρ c main_arg1 (by decide)),
     (h.1 c _ (mem_uc main_arg2 (by decide))).trans (W3_args m ρ c main_arg2 (by decide)),
     (h.1 c _ (mem_uc main_arg3 (by decide))).trans (W3_args m ρ c main_arg3 (by decide)),
     (h.1 c _ (mem_uc main_v3 (by decide))).trans (stepW_arr launch₀1.sharedIn _ (dat1 (V2 m ρ)) (A_eq1 (V2 m ρ)) c 6)⟩, h.2⟩)
    (run_of cfgs defs₀ (pdats m ρ) cellOf_inj m ρ main (segs m ρ) (W0 m ρ) (W3 m ρ) (fun _ => rfl) (main_run m ρ)
      (by simp only [segs, Pipeline.Seg.pipes_host, Pipeline.Seg.pipes_region, Pipeline.Seg.pipes_nil]; decide)
      ⟨fun _ => .rfl, fun _ => .rfl, fun _ => .rfl, last _⟩ no_unscoped)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => ⟨(h.1 c).1, (h.1 c).2.1, (h.1 c).2.2.1, (h.1 c).2.2.2.1⟩, h.2⟩) (run m ρ)

end Cert.KernelIdeal.Joined

end
-- ==== Proof.Ideal.AttnTable.lean ====
module

public import proofs.«01_k».proof.Proof.Ideal.Attn
public import Idealize.ShloMosaic.Lib.Pipeline.Value
public import Idealize.ShloMosaic.Lib.ValueIdx
public import Idealize.ShloMosaic.PureOps.Ideal

@[expose] public section

/-! The eight stores of one step of the attention: one for each group of four query rows. -/

set_option maxRecDepth 65536

noncomputable section

namespace Cert.KernelIdeal.Joined

open Idealize.ShloMosaic Idealize.ShloMosaic.TcCoe Idealize.ShloMosaic.Tactic
open Idealize.SL.Sem
open Cert.KernelIdeal.Gen

/-- The first key row of group `g`. -/
def keyRow (g : Nat) : Nat := min (4 * g - 4) 20

/-- The kind of group `g`: the first, one in the middle, or the last. -/
def kind (g : Nat) : Nat := if g = 0 then 0 else if g = 7 then 2 else 1

theorem q_inb (g : Fin 8) (a : Fin 2) : (![256 * g.val, 0] : Fin 2 → Nat) a + S256x128.size a ≤ S2048x128.size a := by
  revert g a; decide +kernel

theorem kv_inb (g : Fin 8) (a : Fin 2) : (![64 * keyRow g.val, 0] : Fin 2 → Nat) a + S768x128.size a ≤ S2048x128.size a := by
  revert g a; decide +kernel

theorem c_inb (a : Fin 2) : (![0, 0] : Fin 2 → Nat) a + S256x128.size a ≤ S256x128.size a := by
  revert a; decide +kernel

theorem b_inb (g : Fin 8) (a : Fin 4) : (![0, kind g.val, 0, 0] : Fin 4 → Nat) a + S1x1x256x768.size a ≤ S1x3x256x768.size a := by
  revert g a; decide +kernel

variable {F : FTy → Type} [FloatOps F] [Named F]

/-- The store of group `g`. -/
def gpiece (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S256x128 .bf16) (harg5 : arg5.IsWhole) (arg6 : Memref sig .tc .vmem S256x128 .bf16) (harg6 : arg6.IsWhole)
    (arg7 : Memref sig .tc .vmem S1x3x256x768 .f32) (harg7 : arg7.IsWhole)
    (x0 x1 x2 : Vec F S2048x128 .bf16) (x3 x4 : Vec F S256x128 .bf16) (x5 : Vec F S1x3x256x768 .f32) (g : Fin 8) :
    View.Piece (Elt F) S2048x128 .bf16 :=
  ⟨Rect.unit (s := S2048x128) ![256 * g.val, 0] S256x128.size (q_inb g),
    k1_pay2
      (View.readAt (Elt F) arg5.view (Rect.unit (s := S256x128) ![0, 0] S256x128.size c_inb).toLoadRect (harg5.unread x3))
      (View.readAt (Elt F) arg6.view (Rect.unit (s := S256x128) ![0, 0] S256x128.size c_inb).toLoadRect (harg6.unread x4))
      (View.readAt (Elt F) arg2.view (Rect.unit (s := S2048x128) ![256 * g.val, 0] S256x128.size (q_inb g)).toLoadRect (harg2.unread x0))
      (View.readAt (Elt F) arg3.view (Rect.unit (s := S2048x128) ![64 * keyRow g.val, 0] S768x128.size (kv_inb g)).toLoadRect (harg3.unread x1))
      (View.readAt (Elt F) arg7.view (Rect.unit (s := S1x3x256x768) ![0, kind g.val, 0, 0] S1x1x256x768.size (b_inb g)).toLoadRect (harg7.unread x5))
      (View.readAt (Elt F) arg4.view (Rect.unit (s := S2048x128) ![64 * keyRow g.val, 0] S768x128.size (kv_inb g)).toLoadRect (harg4.unread x2))⟩

theorem gpieces_eq (c : Dev nD) (i : grid1.Coords) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S256x128 .bf16) (harg5 : arg5.IsWhole) (arg6 : Memref sig .tc .vmem S256x128 .bf16) (harg6 : arg6.IsWhole)
    (arg7 : Memref sig .tc .vmem S1x3x256x768 .f32) (harg7 : arg7.IsWhole) (arg8 : Memref sig .tc .vmem S2048x128 .bf16) (harg8 : arg8.IsWhole)
    (x0 x1 x2 : Vec F S2048x128 .bf16) (x3 x4 : Vec F S256x128 .bf16) (x5 : Vec F S1x3x256x768 .f32) :
    (kernelRun1_A c i arg2 harg2 arg3 harg3 arg4 harg4 arg5 harg5 arg6 harg6 arg7 harg7 arg8 harg8 x0 x1 x2 x3 x4 x5).1
      = (List.finRange 8).reverse.map (gpiece arg2 harg2 arg3 harg3 arg4 harg4 arg5 harg5 arg6 harg6 arg7 harg7 x0 x1 x2 x3 x4 x5) := by
  sl_kernel_rfl

end Cert.KernelIdeal.Joined

end
-- ==== Proof.Maths.Softmax.lean ====
module

public import Idealize.ShloMosaic.PureOps.Ideal

@[expose] public section

/-! One query's attention over two sets of keys, in two orders of working: the weighted sum divided by the sum of the
    weights, and the sum of the values by the divided weights. -/

noncomputable section

namespace Cert.Maths

open Idealize.ShloMosaic

variable {A C : Type} [Fintype A] [Fintype C]

/-- The largest score. -/
def top (s : A → EReal) (t : C → EReal) : EReal := max (Finset.univ.sup s) (Finset.univ.sup t)

/-- The sum of the weights. -/
def total (s : A → EReal) (t : C → EReal) : EReal :=
  ∑ a, Ideal.exp (s a - top s t) + ∑ c, Ideal.exp (t c - top s t)

/-- The weighted sum of the values, divided by the sum of the weights. -/
def attend (s : A → EReal) (t : C → EReal) (u : A → EReal) (w : C → EReal) : EReal :=
  Ideal.div (∑ a, Ideal.exp (s a - top s t) * u a + ∑ c, Ideal.exp (t c - top s t) * w c) (total s t)

/-- The sum of the values by the divided weights. -/
def softened (s : A → EReal) (t : C → EReal) (u : A → EReal) (w : C → EReal) : EReal :=
  ∑ a, Ideal.div (Ideal.exp (s a - top s t)) (total s t) * u a + ∑ c, Ideal.div (Ideal.exp (t c - top s t)) (total s t) * w c

theorem exp_bot_sub (x : EReal) : Ideal.exp (⊥ - x) = 0 := by
  rw [sub_eq_add_neg, EReal.bot_add]; rfl

/-- Keys whose score is −∞ add nothing to a sum over the others. -/
theorem sum_of_shift {B : Type} [Fintype B] (e : B → A) (he : Function.Injective e) (f : A → EReal)
    (hout : ∀ a, (∀ b, e b ≠ a) → f a = 0) : ∑ a, f a = ∑ b, f (e b) := by
  classical
  rw [← Finset.sum_image (f := f) (s := Finset.univ) (g := e) (fun _ _ _ _ h => he h)]
  refine (Finset.sum_subset (Finset.subset_univ _) fun a _ ha => hout a fun b hb => ha ?_).symm
  exact Finset.mem_image.mpr ⟨b, Finset.mem_univ _, hb⟩

/-- Keys whose score is −∞ change nothing. -/
theorem attend_shift {B : Type} [Fintype B] (e : B → A) (he : Function.Injective e) (s u : A → EReal) (t w : C → EReal)
    (hout : ∀ a, (∀ b, e b ≠ a) → s a = ⊥) :
    attend s t u w = attend (fun b => s (e b)) t (fun b => u (e b)) w := by
  have hs : Finset.univ.sup s = Finset.univ.sup fun b => s (e b) := by
    refine le_antisymm (Finset.sup_le fun a _ => ?_) (Finset.sup_le fun b _ => Finset.le_sup (f := s) (Finset.mem_univ _))
    by_cases h : ∃ b, e b = a
    · obtain ⟨b, rfl⟩ := h
      exact Finset.le_sup (f := fun b => s (e b)) (Finset.mem_univ b)
    · rw [hout a (not_exists.mp h)]; exact bot_le
  have hM : top s t = top (fun b => s (e b)) t := by unfold top; rw [hs]
  unfold attend total
  rw [sum_of_shift e he (fun a => Ideal.exp (s a - top s t) * u a)
      (fun a h => by rw [hout a h, exp_bot_sub, zero_mul]),
    sum_of_shift e he (fun a => Ideal.exp (s a - top s t)) (fun a h => by rw [hout a h, exp_bot_sub]), hM]

theorem sum_mul_of_nonneg (f : A → EReal) (r : EReal) (h0 : 0 ≤ r) (hr : r ≠ ⊤) : (∑ a, f a) * r = ∑ a, f a * r := by
  classical
  induction (Finset.univ : Finset A) using Finset.induction_on with
  | empty => simp
  | insert a S ha ih => rw [Finset.sum_insert ha, Finset.sum_insert ha, EReal.right_distrib_of_nonneg_of_ne_top h0 hr, ih]

theorem exp_nonneg (x : EReal) : 0 ≤ Ideal.exp x := by
  induction x with
  | bot => exact le_rfl
  | top => exact le_top
  | coe r => exact EReal.coe_nonneg.mpr (Real.exp_pos r).le

theorem exp_coe_pos (r : ℝ) : 0 < Ideal.exp (r : EReal) := EReal.coe_pos.mpr (Real.exp_pos r)

/-- With a finite score among the second keys and no score at +∞, the two orders give one value. -/
theorem attend_eq_softened [Nonempty C] (s u : A → EReal) (t w : C → EReal) (hs : ∀ a, s a ≠ ⊤)
    (ht : ∀ c, t c ≠ ⊤) (hb : ∀ c, t c ≠ ⊥) : attend s t u w = softened s t u w := by
  classical
  obtain ⟨c0⟩ := ‹Nonempty C›
  have hMb : top s t ≠ ⊥ := by
    intro h
    have h1 : t c0 ≤ top s t := le_max_of_le_right (Finset.le_sup (f := t) (Finset.mem_univ c0))
    rw [h] at h1
    exact hb c0 (le_bot_iff.mp h1)
  have hMt : top s t ≠ ⊤ := by
    refine ne_of_lt (max_lt ?_ ?_)
    · exact (Finset.sup_lt_iff bot_lt_top).mpr fun a _ => lt_top_iff_ne_top.mpr (hs a)
    · exact (Finset.sup_lt_iff bot_lt_top).mpr fun a _ => lt_top_iff_ne_top.mpr (ht a)
  have hpos : 0 < total s t := by
    have h1 : 0 < Ideal.exp (t c0 - top s t) := by
      lift t c0 to ℝ using ⟨ht c0, hb c0⟩ with x
      lift top s t to ℝ using ⟨hMt, hMb⟩ with M
      rw [← EReal.coe_sub]
      exact exp_coe_pos _
    have h2 : Ideal.exp (t c0 - top s t) ≤ ∑ c, Ideal.exp (t c - top s t) :=
      Finset.single_le_sum (f := fun c => Ideal.exp (t c - top s t)) (fun c _ => exp_nonneg _) (Finset.mem_univ c0)
    have h3 : 0 ≤ ∑ a, Ideal.exp (s a - top s t) := Finset.sum_nonneg fun a _ => exp_nonneg _
    exact lt_of_lt_of_le (lt_of_lt_of_le h1 h2) (le_add_of_nonneg_left h3)
  have hd : ∀ x, Ideal.div x (total s t) = x * (total s t)⁻¹ := fun x => by unfold Ideal.div; rw [if_neg hpos.ne']
  have hi0 : 0 ≤ (total s t)⁻¹ := EReal.inv_nonneg_of_nonneg hpos.le
  have hit : (total s t)⁻¹ ≠ ⊤ := (EReal.inv_lt_top _).ne
  unfold attend softened
  rw [hd, EReal.right_distrib_of_nonneg_of_ne_top hi0 hit, sum_mul_of_nonneg _ _ hi0 hit, sum_mul_of_nonneg _ _ hi0 hit]
  congr 1 <;> refine Finset.sum_congr rfl fun x _ => ?_ <;> rw [hd, mul_assoc, mul_assoc, mul_comm (total s t)⁻¹]

theorem fold_max_eq_sup {n : Nat} (f : Fin n → EReal) : (Finset.univ : Finset (Fin n)).fold max ⊥ f = Finset.univ.sup f := rfl

/-- The largest of two runs of numbers laid end to end. -/
theorem sup_append {m n : Nat} (x : Fin (m + n) → EReal) :
    Finset.univ.sup x = top (fun a : Fin m => x (Fin.castAdd n a)) (fun c : Fin n => x (Fin.natAdd m c)) := by
  refine le_antisymm (Finset.sup_le fun k _ => ?_) (max_le (Finset.sup_le fun a _ => Finset.le_sup (Finset.mem_univ _))
    (Finset.sup_le fun c _ => Finset.le_sup (Finset.mem_univ _)))
  refine Fin.addCases (fun a => ?_) (fun c => ?_) k
  · exact le_max_of_le_left (Finset.le_sup (f := fun a : Fin m => x (Fin.castAdd n a)) (Finset.mem_univ a))
  · exact le_max_of_le_right (Finset.le_sup (f := fun c : Fin n => x (Fin.natAdd m c)) (Finset.mem_univ c))

/-- A finite sum of finite products is finite. -/
theorem sum_mul_finite (f g : A → EReal) (hf : ∀ a, f a ≠ ⊤ ∧ f a ≠ ⊥) (hg : ∀ a, g a ≠ ⊤ ∧ g a ≠ ⊥) :
    ∑ a, f a * g a ≠ ⊤ ∧ ∑ a, f a * g a ≠ ⊥ := by
  have hx : ∀ a, ((f a).toReal : EReal) = f a := fun a => EReal.coe_toReal (hf a).1 (hf a).2
  have hy : ∀ a, ((g a).toReal : EReal) = g a := fun a => EReal.coe_toReal (hg a).1 (hg a).2
  have : ∑ a, f a * g a = ((∑ a, (f a).toReal * (g a).toReal : ℝ) : EReal) := by
    classical
    have : ∀ a, f a * g a = (((f a).toReal * (g a).toReal : ℝ) : EReal) := fun a => by rw [EReal.coe_mul, hx, hy]
    simp only [this]
    induction (Finset.univ : Finset A) using Finset.induction_on with
    | empty => simp
    | insert a S ha ih => rw [Finset.sum_insert ha, Finset.sum_insert ha, ih, EReal.coe_add]
  rw [this]
  exact ⟨EReal.coe_ne_top _, EReal.coe_ne_bot _⟩

end Cert.Maths

end
-- ==== Proof.Ideal.AttnBlock.lean ====
module

public import proofs.«01_k».proof.Proof.Ideal.AttnTable
public import proofs.«01_k».proof.Proof.Maths.Softmax
public import Idealize.ShloMosaic.Lib.Pointwise

@[expose] public section

/-! What one group of four query rows computes, entry by entry: one query's attention over the group's 768 keys, biased,
    and the 256 context keys. -/

set_option maxRecDepth 65536

noncomputable section

namespace Cert.KernelIdeal.Joined

open Idealize.ShloMosaic hiding ix1 ix2 ix3 ix4 ix5
open Idealize.ShloMosaic.TcCoe Idealize.ShloMosaic.Tactic
open Idealize.SL.Sem
open Cert.KernelIdeal.Gen
open Idealize.ShloMosaic.ValueIdx

theorem scores_apply (q : FVec Ideal S256x128 .bf16) (k : FVec Ideal S768x128 .bf16) (a : Fin 256) (j : Fin 768) :
    matmul dot_S256x128_S768x128_S256x768_1_1_0_0_n_n none q k (constant S256x768 .f32 0x00000000#32) (ix2 a j)
      = ∑ e : Fin 128, (q (ix2 a e) : EReal) * k (ix2 j e) := by
  refine (Ideal.matmul_apply₁_of dot_S256x128_S768x128_S256x768_1_1_0_0_n_n rfl rfl q k _ (ix2 a j)
    (fun e => ix2 a e) (fun e => ix2 j e) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem cscores_apply (q : FVec Ideal S256x128 .bf16) (k : FVec Ideal S256x128 .bf16) (a : Fin 256) (j : Fin 256) :
    matmul dot_S256x128_S256x128_S256x256_1_1_0_0_n_n none q k (constant S256x256 .f32 0x00000000#32) (ix2 a j)
      = ∑ e : Fin 128, (q (ix2 a e) : EReal) * k (ix2 j e) := by
  refine (Ideal.matmul_apply₁_of dot_S256x128_S256x128_S256x256_1_1_0_0_n_n rfl rfl q k _ (ix2 a j)
    (fun e => ix2 a e) (fun e => ix2 j e) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem values_apply (p : FVec Ideal S256x768 .bf16) (v : FVec Ideal S768x128 .bf16) (a : Fin 256) (d : Fin 128) :
    matmul dot_S256x768_S768x128_S256x128_1_0_0_1_n_n none p v (constant S256x128 .f32 0x00000000#32) (ix2 a d)
      = ∑ j : Fin 768, (p (ix2 a j) : EReal) * v (ix2 j d) := by
  refine (Ideal.matmul_apply₁_of dot_S256x768_S768x128_S256x128_1_0_0_1_n_n rfl rfl p v _ (ix2 a d)
    (fun j => ix2 a j) (fun j => ix2 j d) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem cvalues_apply (p : FVec Ideal S256x256 .bf16) (v : FVec Ideal S256x128 .bf16) (a : Fin 256) (d : Fin 128) :
    matmul dot_S256x256_S256x128_S256x128_1_0_0_1_n_n none p v (constant S256x128 .f32 0x00000000#32) (ix2 a d)
      = ∑ j : Fin 256, (p (ix2 a j) : EReal) * v (ix2 j d) := by
  refine (Ideal.matmul_apply₁_of dot_S256x256_S256x128_S256x128_1_0_0_1_n_n rfl rfl p v _ (ix2 a d)
    (fun j => ix2 a j) (fun j => ix2 j d) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem ofBits_negInf : Ideal.ofBits .f32 0xFF800000#32 = ⊥ := by simp [Ideal.ofBits, Ideal.ieee]

/-- A row's largest entry, as the column that the kernel keeps it in. -/
theorem rowMax_apply {n : Nat} (x : FVec Ideal ⟨2, ![256, n]⟩ .f32) (h : (⟨2, ![256, n]⟩ : Shape).Reduces [1] S256)
    (hφ : FKind.Formats .f32) (hacc) (a : Fin 256) (z : Fin 1) :
    shapeCast (α := Ideal .f32) S256x1 (multiReduction .maximumf [1] S256 x 0xFF800000#32 h hφ hacc) shapeCasts_S256_S256x1 (ix2 a z)
      = Finset.univ.sup fun j : Fin n => (x (ix2 a j) : EReal) := by
  refine (shapeCast_apply _ _ (ix2 a z) (ix1 a) ?_).trans ?_
  · rw [Shape.rowMajor_val_one, Shape.rowMajor_val_two]
    have := z.isLt
    show a.val = a.val * 1 + z.val
    omega
  · rw [Ideal.multiReduction_maximumf_single]
    show Finset.univ.fold max (Ideal.ofBits .f32 0xFF800000#32) _ = _
    rw [ofBits_negInf]
    refine (Maths.fold_max_eq_sup _).trans (congrArg _ (funext fun j => congrArg x (funext fun c => Fin.ext ?_)))
    fin_cases c <;> rfl

theorem rowSum_apply {n : Nat} (x : FVec Ideal ⟨2, ![256, n]⟩ .f32) (h : (⟨2, ![256, n]⟩ : Shape).Reduces [1] S256)
    (hφ : FKind.Formats .f32) (hacc) (a : Fin 256) (z : Fin 1) :
    shapeCast (α := Ideal .f32) S256x1 (multiReduction .add [1] S256 x 0x00000000#32 h hφ hacc) shapeCasts_S256_S256x1 (ix2 a z)
      = ∑ j : Fin n, (x (ix2 a j) : EReal) := by
  refine (shapeCast_apply _ _ (ix2 a z) (ix1 a) ?_).trans ?_
  · rw [Shape.rowMajor_val_one, Shape.rowMajor_val_two]
    have := z.isLt
    show a.val = a.val * 1 + z.val
    omega
  · rw [Ideal.multiReduction_add_single]
    refine Finset.sum_congr rfl fun j _ => congrArg x (funext fun c => Fin.ext ?_)
    fin_cases c <;> rfl

/-- A row's largest entry and a row's sum, each in a column, of the group's keys and of the context's. -/
def maxCol768 (x : FVec Ideal S256x768 .f32) : FVec Ideal S256x1 .f32 :=
  shapeCast S256x1 (multiReduction .maximumf [1] S256 x 0xFF800000#32 reduces_S256x768_S256 (.inl rfl) rfl) shapeCasts_S256_S256x1
def maxCol256 (x : FVec Ideal S256x256 .f32) : FVec Ideal S256x1 .f32 :=
  shapeCast S256x1 (multiReduction .maximumf [1] S256 x 0xFF800000#32 reduces_S256x256_S256 (.inl rfl) rfl) shapeCasts_S256_S256x1
def sumCol768 (x : FVec Ideal S256x768 .f32) : FVec Ideal S256x1 .f32 :=
  shapeCast S256x1 (multiReduction .add [1] S256 x 0x00000000#32 reduces_S256x768_S256 (.inl rfl) rfl) shapeCasts_S256_S256x1
def sumCol256 (x : FVec Ideal S256x256 .f32) : FVec Ideal S256x1 .f32 :=
  shapeCast S256x1 (multiReduction .add [1] S256 x 0x00000000#32 reduces_S256x256_S256 (.inl rfl) rfl) shapeCasts_S256_S256x1

theorem maxCol768_apply (x : FVec Ideal S256x768 .f32) (a : Fin 256) (z : Fin 1) :
    maxCol768 x (ix2 a z) = Finset.univ.sup fun j : Fin 768 => (x (ix2 a j) : EReal) := rowMax_apply x _ _ _ a z
theorem maxCol256_apply (x : FVec Ideal S256x256 .f32) (a : Fin 256) (z : Fin 1) :
    maxCol256 x (ix2 a z) = Finset.univ.sup fun j : Fin 256 => (x (ix2 a j) : EReal) := rowMax_apply x _ _ _ a z
theorem sumCol768_apply (x : FVec Ideal S256x768 .f32) (a : Fin 256) (z : Fin 1) :
    sumCol768 x (ix2 a z) = ∑ j : Fin 768, (x (ix2 a j) : EReal) := rowSum_apply x _ _ _ a z
theorem sumCol256_apply (x : FVec Ideal S256x256 .f32) (a : Fin 256) (z : Fin 1) :
    sumCol256 x (ix2 a z) = ∑ j : Fin 256, (x (ix2 a j) : EReal) := rowSum_apply x _ _ _ a z

theorem column_apply {n : Nat} (x : FVec Ideal S256x1 .f32) (h : S256x1.Broadcasts ⟨2, ![256, n]⟩) (a : Fin 256) (j : Fin n) :
    broadcastTo ⟨2, ![256, n]⟩ x h (ix2 a j) = x (ix2 a 0) := by
  refine broadcastTo_apply _ _ _ _ fun c => ?_
  fin_cases c <;> rfl

theorem biasCast_apply (b : FVec Ideal S1x1x256x768 .f32) (a : Fin 256) (j : Fin 768) :
    shapeCast (α := Ideal .f32) S256x768 b shapeCasts_S1x1x256x768_S256x768 (ix2 a j) = b (ix4 0 0 a j) := by
  refine shapeCast_apply _ _ _ _ ?_
  rw [Shape.rowMajor_val_two, Shape.rowMajor_val_four]
  show ((0 * 1 + 0) * 256 + a.val) * 768 + j.val = a.val * 768 + j.val
  omega

/-- The group's scores, and the context's. -/
def scores (q : Vec Ideal S256x128 .bf16) (k : Vec Ideal S768x128 .bf16) (b : Vec Ideal S1x1x256x768 .f32) : FVec Ideal S256x768 .f32 :=
  addf (matmul (φ₁ := .bf16) (φ₂ := .bf16) dot_S256x128_S768x128_S256x768_1_1_0_0_n_n none q k (constant S256x768 .f32 0x00000000#32))
    (shapeCast S256x768 b shapeCasts_S1x1x256x768_S256x768)
def cscores (q kc : Vec Ideal S256x128 .bf16) : FVec Ideal S256x256 .f32 :=
  matmul (φ₁ := .bf16) (φ₂ := .bf16) dot_S256x128_S256x128_S256x256_1_1_0_0_n_n none q kc (constant S256x256 .f32 0x00000000#32)

/-- The group's result, from its scores. -/
def weighted (s : FVec Ideal S256x768 .f32) (t : FVec Ideal S256x256 .f32) (v : Vec Ideal S768x128 .bf16)
    (vc : Vec Ideal S256x128 .bf16) : FVec Ideal S256x128 .bf16 :=
  truncf .bf16 (divf
    (addf (matmul (φ₁ := .bf16) (φ₂ := .bf16) dot_S256x768_S768x128_S256x128_1_0_0_1_n_n none (truncf .bf16
        (exp (subf s (broadcastTo S256x768 (maximumf (maxCol768 s) (maxCol256 t)) broadcasts_S256x1_S256x768))) bitsLt_bf16_f32) v
        (constant S256x128 .f32 0x00000000#32))
      (matmul (φ₁ := .bf16) (φ₂ := .bf16) dot_S256x256_S256x128_S256x128_1_0_0_1_n_n none (truncf .bf16
        (exp (subf t (broadcastTo S256x256 (maximumf (maxCol768 s) (maxCol256 t)) broadcasts_S256x1_S256x256))) bitsLt_bf16_f32) vc
        (constant S256x128 .f32 0x00000000#32)))
    (broadcastTo S256x128
      (addf (sumCol768 (exp (subf s (broadcastTo S256x768 (maximumf (maxCol768 s) (maxCol256 t)) broadcasts_S256x1_S256x768))))
        (sumCol256 (exp (subf t (broadcastTo S256x256 (maximumf (maxCol768 s) (maxCol256 t)) broadcasts_S256x1_S256x256)))))
      broadcasts_S256x1_S256x128)) bitsLt_bf16_f32

theorem pay2_eq (kc vc q : Vec Ideal S256x128 .bf16) (k : Vec Ideal S768x128 .bf16) (b : Vec Ideal S1x1x256x768 .f32)
    (v : Vec Ideal S768x128 .bf16) : k1_pay2 kc vc q k b v = weighted (scores q k b) (cscores q kc) v vc := by
  sl_kernel_rfl

theorem exp_at {s : Shape} (x : FVec Ideal s .f32) (y : s.Idx) : exp x y = Ideal.exp (x y) := rfl

theorem weighted_apply (s : FVec Ideal S256x768 .f32) (t : FVec Ideal S256x256 .f32) (v : Vec Ideal S768x128 .bf16)
    (vc : Vec Ideal S256x128 .bf16) (a : Fin 256) (d : Fin 128) :
    weighted s t v vc (ix2 a d)
      = Maths.attend (fun j : Fin 768 => (s (ix2 a j) : EReal)) (fun c : Fin 256 => t (ix2 a c))
          (fun j => v (ix2 j d)) (fun c => vc (ix2 c d)) := by
  unfold weighted Maths.attend Maths.total Maths.top
  simp only [truncf_apply, divf_apply, addf_apply, maximumf_apply, subf_apply, values_apply, cvalues_apply, column_apply,
    maxCol768_apply, maxCol256_apply, sumCol768_apply, sumCol256_apply, exp_at]

/-- One entry of a group's result. -/
theorem pay2_apply (kc vc q : Vec Ideal S256x128 .bf16) (k : Vec Ideal S768x128 .bf16) (b : Vec Ideal S1x1x256x768 .f32)
    (v : Vec Ideal S768x128 .bf16) (a : Fin 256) (d : Fin 128) :
    k1_pay2 kc vc q k b v (ix2 a d)
      = Maths.attend (fun j : Fin 768 => ∑ e : Fin 128, (q (ix2 a e) : EReal) * k (ix2 j e) + b (ix4 0 0 a j))
          (fun c : Fin 256 => ∑ e : Fin 128, (q (ix2 a e) : EReal) * kc (ix2 c e))
          (fun j => v (ix2 j d)) (fun c => vc (ix2 c d)) := by
  have hs : ∀ j, scores q k b (ix2 a j) = ∑ e : Fin 128, (q (ix2 a e) : EReal) * k (ix2 j e) + b (ix4 0 0 a j) := fun j => by
    unfold scores
    rw [addf_apply, scores_apply, biasCast_apply]
  have ht : ∀ c, cscores q kc (ix2 a c) = ∑ e : Fin 128, (q (ix2 a e) : EReal) * kc (ix2 c e) := fun c => cscores_apply q kc a c
  rw [pay2_eq, weighted_apply]
  simp only [hs, ht]

end Cert.KernelIdeal.Joined

end
-- ==== Proof.Ideal.AttnValue.lean ====
module

public import proofs.«01_k».proof.Proof.Ideal.AttnTable
public import proofs.«01_k».proof.Proof.Ideal.AttnBlock

@[expose] public section

/-! What one step of the attention leaves, entry by entry. -/

set_option maxRecDepth 65536

noncomputable section

namespace Cert.KernelIdeal.Joined

open Idealize.ShloMosaic hiding ix1 ix2 ix3 ix4 ix5
open Idealize.ShloMosaic.TcCoe Idealize.ShloMosaic.Tactic
open Idealize.SL.Sem
open Cert.KernelIdeal.Gen
open Idealize.ShloMosaic.ValueIdx

/-- The row of key `j` among the head's keys, for group `g`. -/
def keyPlace (g : Nat) (hg : g < 8) (j : Fin 768) : Fin 2048 :=
  ⟨64 * keyRow g + j.val, by have := j.isLt; unfold keyRow; omega⟩

/-- One entry of a step's result. -/
def stepAt (x0 x1 x2 : Vec Ideal S2048x128 .bf16) (x3 x4 : Vec Ideal S256x128 .bf16) (x5 : Vec Ideal S1x3x256x768 .f32)
    (r : Fin 2048) (d : Fin 128) : EReal :=
  Maths.attend
    (fun j : Fin 768 => ∑ e : Fin 128, (x0 (ix2 r e) : EReal) * x1 (ix2 (keyPlace (r.val / 256) (by omega) j) e)
      + x5 (ix4 0 (Fin.ofNat 3 (kind (r.val / 256))) (Fin.ofNat 256 (r.val % 256)) j))
    (fun c : Fin 256 => ∑ e : Fin 128, (x0 (ix2 r e) : EReal) * x3 (ix2 c e))
    (fun j => x2 (ix2 (keyPlace (r.val / 256) (by omega) j) d)) (fun c => x4 (ix2 c d))

theorem ld_at {S : Shape} {e : EltTy} {Val : EltTy → Type} (X : S.Idx → Val e) (off size : Fin S.rank → Nat) (inb)
    (x : (Rect.unit off size inb).shape.Idx) (i : S.Idx) (hi : ∀ a, (i a : Nat) = off a + x a) :
    View.ld X (Rect.unit off size inb) x = X i :=
  congrArg X (funext fun a => Fin.ext (Eq.trans (show off a + 1 * (x a).val = off a + (x a).val by rw [Nat.one_mul]) (hi a).symm))

theorem out1_apply (c : Dev nD) (i : grid1.Coords) (arg2 : Memref sig .tc .vmem S2048x128 .bf16) (harg2 : arg2.IsWhole)
    (arg3 : Memref sig .tc .vmem S2048x128 .bf16) (harg3 : arg3.IsWhole) (arg4 : Memref sig .tc .vmem S2048x128 .bf16) (harg4 : arg4.IsWhole)
    (arg5 : Memref sig .tc .vmem S256x128 .bf16) (harg5 : arg5.IsWhole) (arg6 : Memref sig .tc .vmem S256x128 .bf16) (harg6 : arg6.IsWhole)
    (arg7 : Memref sig .tc .vmem S1x3x256x768 .f32) (harg7 : arg7.IsWhole) (arg8 : Memref sig .tc .vmem S2048x128 .bf16) (harg8 : arg8.IsWhole)
    (x0 x1 x2 : Vec Ideal S2048x128 .bf16) (x3 x4 : Vec Ideal S256x128 .bf16) (x5 : Vec Ideal S1x3x256x768 .f32) (y : S2048x128.Idx) :
    out1_A_6 c i arg2 harg2 arg3 harg3 arg4 harg4 arg5 harg5 arg6 harg6 arg7 harg7 arg8 harg8 x0 x1 x2 x3 x4 x5 y
      = stepAt x0 x1 x2 x3 x4 x5 (y 0) (y 1) := by
  unfold out1_A_6
  rw [View.read_writes_eq_canon _ _ _ (cover1_A_6 c i arg2 harg2 arg3 harg3 arg4 harg4 arg5 harg5 arg6 harg6 arg7 harg7 arg8 harg8 x0 x1 x2 x3 x4 x5)]
  refine View.canon_apply_of_pieces (fun y : S2048x128.Idx => stepAt x0 x1 x2 x3 x4 x5 (y 0) (y 1)) _ ?_ y
    (cover1_A_6 c i arg2 harg2 arg3 harg3 arg4 harg4 arg5 harg5 arg6 harg6 arg7 harg7 arg8 harg8 x0 x1 x2 x3 x4 x5 y)
  rw [gpieces_eq]
  intro p hp x
  obtain ⟨g, -, rfl⟩ := List.mem_map.mp hp
  obtain ⟨a, d, rfl⟩ : ∃ (a : Fin 256) (d : Fin 128), x = ix2 a d := ⟨x 0, x 1, by funext z; fin_cases z <;> rfl⟩
  have hg := g.isLt
  have ha := a.isLt
  unfold gpiece
  simp only [View.readAt_eq_ld, Memref.IsWhole.read_unread]
  refine (pay2_apply _ _ _ _ _ _ a d).trans ?_
  have er : (Rect.unit (s := S2048x128) ![256 * g.val, 0] S256x128.size (q_inb g)).emb (ix2 a d)
      = ix2 (n0 := 2048) (n1 := 128) ⟨256 * g.val + a.val, by omega⟩ d := by
    funext z; refine Fin.ext ?_; fin_cases z
    · show 256 * g.val + 1 * a.val = 256 * g.val + a.val; omega
    · show 0 + 1 * d.val = d.val; omega
  have hq : ∀ e, View.ld x0 (Rect.unit (s := S2048x128) ![256 * g.val, 0] S256x128.size (q_inb g)) (ix2 a e)
      = x0 (ix2 (n0 := 2048) (n1 := 128) ⟨256 * g.val + a.val, by omega⟩ e) := fun e => by
    refine ld_at _ _ _ _ _ _ fun z => ?_; fin_cases z
    · rfl
    · exact (Nat.zero_add _).symm
  have hk : ∀ (X : Vec Ideal S2048x128 .bf16) j e,
      View.ld X (Rect.unit (s := S2048x128) ![64 * keyRow g.val, 0] S768x128.size (kv_inb g)) (ix2 j e)
      = X (ix2 (keyPlace g.val hg j) e) := fun X j e => by
    refine ld_at _ _ _ _ _ _ fun z => ?_; fin_cases z
    · rfl
    · exact (Nat.zero_add _).symm
  have hc : ∀ (X : Vec Ideal S256x128 .bf16) j e,
      View.ld X (Rect.unit (s := S256x128) ![0, 0] S256x128.size c_inb) (ix2 j e) = X (ix2 j e) := fun X j e => by
    refine ld_at _ _ _ _ _ _ fun z => ?_; fin_cases z
    · exact (Nat.zero_add _).symm
    · exact (Nat.zero_add _).symm
  have hb : ∀ j, View.ld x5 (Rect.unit (s := S1x3x256x768) ![0, kind g.val, 0, 0] S1x1x256x768.size (b_inb g)) (ix4 0 0 a j)
      = x5 (ix4 0 (Fin.ofNat 3 (kind g.val)) a j) := fun j => by
    refine ld_at _ _ _ _ _ _ fun z => ?_; fin_cases z
    · rfl
    · show (kind g.val) % 3 = kind g.val
      unfold kind; split_ifs <;> rfl
    · exact (Nat.zero_add _).symm
    · exact (Nat.zero_add _).symm
  refine Eq.trans ?_ (congrArg (fun y : S2048x128.Idx => stepAt x0 x1 x2 x3 x4 x5 (y 0) (y 1)) er).symm
  show _ = stepAt x0 x1 x2 x3 x4 x5 ⟨256 * g.val + a.val, by omega⟩ d
  unfold stepAt
  have e1 : (256 * g.val + a.val) / 256 = g.val := by omega
  have e2 : (256 * g.val + a.val) % 256 = a.val := by omega
  have e3 : Fin.ofNat 256 a.val = a := Fin.ext (Nat.mod_eq_of_lt ha)
  simp only [e1, e2, e3]
  congr 1
  · funext j
    exact congrArg₂ (· + ·) (Finset.sum_congr rfl fun e _ => congrArg₂ (· * ·) (hq e) (hk x1 j e)) (hb j)
  · funext j
    exact Finset.sum_congr rfl fun e _ => congrArg₂ (· * ·) (hq e) (hc x3 j e)
  · funext j
    exact hk x2 j d
  · funext j
    exact hc x4 j d

end Cert.KernelIdeal.Joined

end
-- ==== Proof.Blocks.lean ====
module

public import Idealize.ShloMosaic.Lib.Pipeline.FrameBody
public import Idealize.ShloMosaic.Lib.Pipeline.Value
public import Idealize.ShloMosaic.Lib.Pipeline.ValueKit.Basic
public import Idealize.ShloMosaic.Lib.Pipeline.ValueKit.Geometry

@[expose] public section

/-! Where a step's block lies in its array, and a load or store of a whole buffer. -/

noncomputable section

namespace Cert.Blocks

open Idealize.ShloMosaic Idealize.ShloMosaic.TcCoe

variable {sig : RefSig}

/-- An index of a step's block lies at `z` of the array, if it does so on every axis. -/
theorem place {G : Pipeline.Grid} (w : Pipeline.Window sig G) {t : Fin G.N} {n : Fin w.shape.rank → Nat}
    {y : (w.rect t).shape.Idx} {z : w.shape.Idx} (hk : w.kind = .blocked) (hn : w.index t = n)
    (h : ∀ a, n a * w.size a + 1 * (y a).val = (z a).val) : (w.rect t).emb y = z :=
  funext fun a => Fin.ext ((Pipeline.Window.rect_emb_val w t y a hk).trans (by rw [hn, ← h a, Nat.one_mul]))

/-- A load of the whole buffer reads the whole buffer. -/
theorem ld_all {S : Shape} {e : EltTy} {Val : EltTy → Type} (X : S.Idx → Val e) (off : Fin S.rank → Nat) (inb)
    (h : ∀ a, off a = 0) : View.ld X (Rect.unit off S.size inb) = X :=
  funext fun x => congrArg X (funext fun a => Fin.ext
    (Eq.trans (show off a + 1 * (x a).val = off a + (x a).val by rw [Nat.one_mul]) (by rw [h a, Nat.zero_add])))

/-- The whole buffer's rectangle leaves every index where it is. -/
theorem emb_all {S : Shape} (off : Fin S.rank → Nat) (inb) (h : ∀ a, off a = 0) (x : S.Idx) :
    (Rect.unit off S.size inb).emb x = x :=
  funext fun a => Fin.ext (Eq.trans (show off a + 1 * (x a).val = off a + (x a).val by rw [Nat.one_mul])
    (by rw [h a, Nat.zero_add]))

/-- Stores that cover a buffer leave in it any contents that each of them agrees with. -/
theorem read_of {κ : Kind} {sp : Space} {S : Shape} {e : EltTy} {Val : EltTy → Type} [∀ e, Nonempty (Val e)]
    {v : View sig κ sp S e} {f : v.ty.Contents Val} {L : List (View.Piece Val S e)} (hc : ∀ y, ∃ p ∈ L, y ∈ p.1.set)
    (G : S.Idx → Val e) (h : ∀ p ∈ L, ∀ x, p.2 x = G (p.1.emb x)) : v.read Val (v.writes Val f L) = G :=
  (View.read_writes_eq_canon v f L hc).trans (funext fun y => View.canon_apply_of_pieces G L h y (hc y))

end Cert.Blocks

end
-- ==== Proof.Ideal.AttnArray.lean ====
module

public import proofs.«01_k».proof.Proof.Ideal.AttnValue
public import proofs.«01_k».proof.Proof.Ideal.Attn
public import Idealize.ShloMosaic.Lib.Pipeline.ValueKit.Geometry
public import proofs.«01_k».proof.Proof.Blocks

@[expose] public section

/-! The array that the attention leaves, entry by entry, from the arrays it finds: the blocks of every step are read at
    their places in the whole arrays. -/

set_option maxRecDepth 65536

noncomputable section

namespace Cert.KernelIdeal.Joined

open Idealize.ShloMosaic hiding ix1 ix2 ix3 ix4 ix5
open Idealize.ShloMosaic.TcCoe Idealize.ShloMosaic.Tactic
open Idealize.SL.Sem
open Idealize.ShloMosaic.Pipeline (Dat Cfg Window)
open Cert.KernelIdeal.Gen
open Cert.Blocks (place)
open Idealize.ShloMosaic.ValueIdx

variable (V : (c : Dev nD) → (b : Ref sig .tc) → Buf (Elt Ideal) ((c : Thread nD τ).loc b))

/-- Step `t` works on image `t % 4`. -/
def image (t : Fin cfg1.N) : Fin 4 := ⟨t.val % 4, by omega⟩
/-- Step `t` works on head `t / 4`. -/
def head (t : Fin cfg1.N) : Fin 32 := ⟨t.val / 4, by have : t.val < 128 := t.isLt; omega⟩

/-- Row `r` of an image, among all tokens. -/
def rowOf (b : Fin 4) (r : Fin 2048) : Fin 9216 := ⟨2048 * b.val + r.val, by omega⟩
/-- Context row `r` of an image, among all tokens. -/
def ctxOf (b : Fin 4) (r : Fin 256) : Fin 9216 := ⟨8192 + 256 * b.val + r.val, by omega⟩
/-- Feature `d` of a head, among all features. -/
def colOf (h : Fin 32) (d : Fin 128) : Fin 4096 := ⟨128 * h.val + d.val, by omega⟩

theorem index1_0 : ∀ t : Fin grid1.N, win1_0.index t = ![t.val % 4, t.val / 4] := by decide +kernel
theorem index1_1 : ∀ t : Fin grid1.N, win1_1.index t = ![t.val % 4, t.val / 4] := by decide +kernel
theorem index1_2 : ∀ t : Fin grid1.N, win1_2.index t = ![t.val % 4, t.val / 4] := by decide +kernel
theorem index1_3 : ∀ t : Fin grid1.N, win1_3.index t = ![32 + t.val % 4, t.val / 4] := by decide +kernel
theorem index1_4 : ∀ t : Fin grid1.N, win1_4.index t = ![32 + t.val % 4, t.val / 4] := by decide +kernel
theorem index1_5 : ∀ t : Fin grid1.N, win1_5.index t = ![t.val / 4, 0, 0, 0] := by decide +kernel
theorem index1_6 : ∀ t : Fin grid1.N, win1_6.index t = ![t.val % 4, t.val / 4] := by decide +kernel

theorem X1_0_at (c : Dev nD) (t : Fin cfg1.N) (r : Fin 2048) (e : Fin 128) :
    X1_0 V c t (ix2 r e) = V c main_arg0 (ix2 (rowOf (image t) r) (colOf (head t) e)) := by
  unfold X1_0 Pipeline.Window.fill
  rw [dif_pos (moved1_0 t _)]
  unfold iblk1
  refine congrArg (V c main_arg0) (place win1_0 rfl (index1_0 t) fun a => ?_)
  match a with
  | ⟨0, _⟩ => show t.val % 4 * 2048 + 1 * r.val = 2048 * (t.val % 4) + r.val; omega
  | ⟨1, _⟩ => show t.val / 4 * 128 + 1 * e.val = 128 * (t.val / 4) + e.val; omega

theorem X1_1_at (c : Dev nD) (t : Fin cfg1.N) (r : Fin 2048) (e : Fin 128) :
    X1_1 V c t (ix2 r e) = V c main_arg1 (ix2 (rowOf (image t) r) (colOf (head t) e)) := by
  unfold X1_1 Pipeline.Window.fill
  rw [dif_pos (moved1_1 t _)]
  unfold iblk1
  refine congrArg (V c main_arg1) (place win1_1 rfl (index1_1 t) fun a => ?_)
  match a with
  | ⟨0, _⟩ => show t.val % 4 * 2048 + 1 * r.val = 2048 * (t.val % 4) + r.val; omega
  | ⟨1, _⟩ => show t.val / 4 * 128 + 1 * e.val = 128 * (t.val / 4) + e.val; omega

theorem X1_2_at (c : Dev nD) (t : Fin cfg1.N) (r : Fin 2048) (e : Fin 128) :
    X1_2 V c t (ix2 r e) = V c main_arg2 (ix2 (rowOf (image t) r) (colOf (head t) e)) := by
  unfold X1_2 Pipeline.Window.fill
  rw [dif_pos (moved1_2 t _)]
  unfold iblk1
  refine congrArg (V c main_arg2) (place win1_2 rfl (index1_2 t) fun a => ?_)
  match a with
  | ⟨0, _⟩ => show t.val % 4 * 2048 + 1 * r.val = 2048 * (t.val % 4) + r.val; omega
  | ⟨1, _⟩ => show t.val / 4 * 128 + 1 * e.val = 128 * (t.val / 4) + e.val; omega

theorem iblk1_3_at (c : Dev nD) (t : Fin cfg1.N) (r : Fin 256) (e : Fin 128) :
    iblk1 V c 3 t (ix2 r e) = V c main_arg1 (ix2 (ctxOf (image t) r) (colOf (head t) e)) := by
  unfold iblk1
  refine congrArg (V c main_arg1) (place win1_3 rfl (index1_3 t) fun a => ?_)
  match a with
  | ⟨0, _⟩ => show (32 + t.val % 4) * 256 + 1 * r.val = 8192 + 256 * (t.val % 4) + r.val; omega
  | ⟨1, _⟩ => show t.val / 4 * 128 + 1 * e.val = 128 * (t.val / 4) + e.val; omega

theorem iblk1_4_at (c : Dev nD) (t : Fin cfg1.N) (r : Fin 256) (e : Fin 128) :
    iblk1 V c 4 t (ix2 r e) = V c main_arg2 (ix2 (ctxOf (image t) r) (colOf (head t) e)) := by
  unfold iblk1
  refine congrArg (V c main_arg2) (place win1_4 rfl (index1_4 t) fun a => ?_)
  match a with
  | ⟨0, _⟩ => show (32 + t.val % 4) * 256 + 1 * r.val = 8192 + 256 * (t.val % 4) + r.val; omega
  | ⟨1, _⟩ => show t.val / 4 * 128 + 1 * e.val = 128 * (t.val / 4) + e.val; omega

theorem iblk1_5_at (c : Dev nD) (t : Fin cfg1.N) (k : Fin 3) (a : Fin 256) (j : Fin 768) :
    iblk1 V c 5 t (ix4 0 k a j) = V c main_v2 (ix4 (head t) k a j) := by
  unfold iblk1
  refine congrArg (V c main_v2) (place win1_5 rfl (index1_5 t) fun z => ?_)
  match z with
  | ⟨0, _⟩ => show t.val / 4 * 1 + 1 * 0 = t.val / 4; omega
  | ⟨1, _⟩ => show 0 * 3 + 1 * k.val = k.val; omega
  | ⟨2, _⟩ => show 0 * 256 + 1 * a.val = a.val; omega
  | ⟨3, _⟩ => show 0 * 768 + 1 * j.val = j.val; omega

/-- One entry of the attention's result: image `b`, row `r`, head `h`, feature `d`, from the whole arrays. -/
def attnAt (q k v : S9216x4096.Idx → EReal) (B : S32x3x256x768.Idx → EReal) (b : Fin 4) (h : Fin 32) (r : Fin 2048)
    (d : Fin 128) : EReal :=
  Maths.attend
    (fun j : Fin 768 => ∑ e : Fin 128, q (ix2 (rowOf b r) (colOf h e)) * k (ix2 (rowOf b (keyPlace (r.val / 256) (by omega) j)) (colOf h e))
      + B (ix4 h (Fin.ofNat 3 (kind (r.val / 256))) (Fin.ofNat 256 (r.val % 256)) j))
    (fun c : Fin 256 => ∑ e : Fin 128, q (ix2 (rowOf b r) (colOf h e)) * k (ix2 (ctxOf b c) (colOf h e)))
    (fun j => v (ix2 (rowOf b (keyPlace (r.val / 256) (by omega) j)) (colOf h d))) (fun c => v (ix2 (ctxOf b c) (colOf h d)))

theorem outsAt1_at (c : Dev nD) (t : Fin cfg1.N) (r : Fin 2048) (d : Fin 128) :
    outsAt1 V c t (ix2 r d)
      = attnAt (V c main_arg0) (V c main_arg1) (V c main_arg2) (V c main_v2) (image t) (head t) r d := by
  unfold outsAt1
  rw [out1_apply]
  show stepAt _ _ _ _ _ _ r d = _
  unfold stepAt attnAt
  congr 1
  · funext j
    refine congrArg₂ (· + ·) (Finset.sum_congr rfl fun e _ => congrArg₂ (· * ·) (X1_0_at V c t r e) (X1_1_at V c t _ e))
      (iblk1_5_at V c t _ _ j)
  · funext a
    exact Finset.sum_congr rfl fun e _ => congrArg₂ (· * ·) (X1_0_at V c t r e) (iblk1_3_at V c t a e)
  · funext j
    exact X1_2_at V c t _ d
  · funext a
    exact iblk1_4_at V c t a d

/-- The array that the attention leaves. -/
def attnArray (q k v : S9216x4096.Idx → EReal) (B : S32x3x256x768.Idx → EReal) (y : S8192x4096.Idx) : EReal :=
  attnAt q k v B ⟨(y 0).val / 2048, by have : (y 0).val < 8192 := (y 0).isLt; omega⟩
    ⟨(y 1).val / 128, by have : (y 1).val < 4096 := (y 1).isLt; omega⟩
    ⟨(y 0).val % 2048, by omega⟩ ⟨(y 1).val % 128, by omega⟩

theorem attnArray_at (q k v : S9216x4096.Idx → EReal) (B : S32x3x256x768.Idx → EReal) (y : S8192x4096.Idx)
    (b : Fin 4) (h : Fin 32) (r : Fin 2048) (d : Fin 128) (h0 : (y 0).val = 2048 * b.val + r.val)
    (h1 : (y 1).val = 128 * h.val + d.val) : attnArray q k v B y = attnAt q k v B b h r d := by
  unfold attnArray
  congr 1 <;> refine Fin.ext ?_ <;> simp only [h0, h1] <;> omega

theorem arr1_6 (c : Dev nD) :
    (dat1 V c).arrAt 6 cfg1.N = attnArray (V c main_arg0) (V c main_arg1) (V c main_arg2) (V c main_v2) := by
  refine (dat1 V c).arrAt_eq_of_covers 6 _ (by decide +kernel) fun t hf y => ?_
  rw [after1_6]
  have hy : y = ix2 (y 0) (y 1) := ValueIdx.eq_ix2 y
  refine (congrArg (outsAt1 V c t) hy).trans ((outsAt1_at V c t (y 0) (y 1)).trans (attnArray_at _ _ _ _ _ _ _ _ _ ?_ ?_).symm)
  · refine Eq.trans (show _ = win1_6.index t 0 * win1_6.size 0 + 1 * (y 0).val from rfl) ?_
    rw [index1_6 t]
    show t.val % 4 * 2048 + 1 * (y 0).val = 2048 * (t.val % 4) + (y 0).val; omega
  · refine Eq.trans (show _ = win1_6.index t 1 * win1_6.size 1 + 1 * (y 1).val from rfl) ?_
    rw [index1_6 t]
    show t.val / 4 * 128 + 1 * (y 1).val = 128 * (t.val / 4) + (y 1).val; omega

end Cert.KernelIdeal.Joined
-- ==== Proof.Ideal.BiasTable.lean ====
module

public import proofs.«01_k».proof.Proof.Ideal.Bias
public import Idealize.ShloMosaic.Lib.Pipeline.Value
public import Idealize.ShloMosaic.Lib.ValueIdx
public import Idealize.ShloMosaic.PureOps.Ideal

@[expose] public section

/-! The stores of one step of the bias kernel, and the integer tables they are chosen by. -/

set_option maxRecDepth 65536

noncomputable section

namespace Cert.KernelIdeal.Joined

open Idealize.ShloMosaic Idealize.ShloMosaic.TcCoe Idealize.ShloMosaic.Tactic
open Idealize.SL.Sem
open Cert.KernelIdeal.Gen

/-! ### The tables and the stores, as functions of their numbers -/

section AnyFloats

variable {F : FTy → Type} [FloatOps F] [Named F]

/-- The scalar the kernel reads for row distance `r` and column distance `d`. -/
def ldw (i : grid0.Coords) (arg1 : Memref sig .tc .smem S14880 .f32) (harg1 : arg1.IsWhole) (x0 : Vec F S14880 .f32)
    (r : Fin 15) (d : Fin 31) : Elt F .f32 :=
  View.readAt (Elt F) arg1.view (Rect.unit (s := S14880) (k0_off1 i (BitVec.ofNat 32 (31 * r.val)) (BitVec.ofNat 32 d.val))
    S1.size (k0_off1_inb i r d)).toLoadRect (harg1.unread x0) (Shape.Idx.first (numel1_S1.symm ▸ Nat.one_pos : 0 < S1.numel))

/-- A row distance's table after the first `n` column distances. -/
def chain (i : grid0.Coords) (arg1 : Memref sig .tc .smem S14880 .f32) (harg1 : arg1.IsWhole) (x0 : Vec F S14880 .f32)
    (r : Fin 15) : Nat → FVec F S64x128 .f32
  | 0 => broadcast S64x128 (Scalar.ofBits .f32 0x00000000#32)
  | n + 1 => select (cmpi .eq k0_pay5 (broadcast S64x128 (BitVec.ofNat 32 n)))
      (broadcast S64x128 (ldw i arg1 harg1 x0 r (Fin.ofNat 31 n))) (chain i arg1 harg1 x0 r n)

/-- The finished table: the mask outside a column's window. -/
def table (i : grid0.Coords) (arg1 : Memref sig .tc .smem S14880 .f32) (harg1 : arg1.IsWhole) (x0 : Vec F S14880 .f32)
    (r : Fin 15) : FVec F S64x128 .f32 :=
  select k0_pay6 (chain i arg1 harg1 x0 r 31) k0_pay8

/-- Whether key row `kr` of a group's twelve is in query row `qr`'s window, for each of the three kinds of group. -/
def okRow (var qr kr : Nat) : Bool :=
  if var = 0 then decide (kr < 8) else if var = 1 then decide (qr ≤ kr) && decide (kr < qr + 8) else decide (4 ≤ kr)

/-- The row distance of such a pair, counted from the least one. -/
def rowDist (var qr kr : Nat) : Nat :=
  if var = 0 then kr + 7 - qr else if var = 1 then kr + 3 - qr else kr - 1 - qr

/-- One block's half: a table, or the mask. -/
def half (i : grid0.Coords) (arg1 : Memref sig .tc .smem S14880 .f32) (harg1 : arg1.IsWhole) (x0 : Vec F S14880 .f32)
    (var qr kr : Nat) : FVec F S64x128 .f32 :=
  match okRow var qr kr with
  | true => table i arg1 harg1 x0 (Fin.ofNat 15 (rowDist var qr kr))
  | false => k0_pay8

/-- One stored block. -/
def block (i : grid0.Coords) (arg1 : Memref sig .tc .smem S14880 .f32) (harg1 : arg1.IsWhole) (x0 : Vec F S14880 .f32)
    (var qr p : Nat) : FVec F S64x128 .f32 :=
  match okRow var qr (2 * p) || okRow var qr (2 * p + 1) with
  | true => select k0_pay7 (half i arg1 harg1 x0 var qr (2 * p)) (half i arg1 harg1 x0 var qr (2 * p + 1))
  | false => k0_pay8

theorem piece_inb (k : Fin 72) (a : Fin 4) : (![0, k.val / 24, 64 * (k.val / 6 % 4), 128 * (k.val % 6)] : Fin 4 → Nat) a + S1x1x64x128.size a ≤ S1x3x256x768.size a := by
  revert k a; decide +kernel

/-- The `k`-th store of the step. -/
def piece (i : grid0.Coords) (arg1 : Memref sig .tc .smem S14880 .f32) (harg1 : arg1.IsWhole) (x0 : Vec F S14880 .f32)
    (k : Fin 72) : View.Piece (Elt F) S1x3x256x768 .f32 :=
  ⟨Rect.unit (s := S1x3x256x768) ![0, k.val / 24, 64 * (k.val / 6 % 4), 128 * (k.val % 6)] S1x1x64x128.size (piece_inb k),
    shapeCast S1x1x64x128 (block i arg1 harg1 x0 (k.val / 24) (k.val / 6 % 4) (k.val % 6)) shapeCasts_S64x128_S1x1x64x128⟩

theorem pieces_eq (c : Dev nD) (i : grid0.Coords) (arg1 : Memref sig .tc .smem S14880 .f32) (harg1 : arg1.IsWhole)
    (arg2 : Memref sig .tc .vmem S1x3x256x768 .f32) (harg2 : arg2.IsWhole) (x0 : Vec F S14880 .f32) :
    (kernelRun0_A c i arg1 harg1 arg2 harg2 x0).1 = (List.finRange 72).reverse.map (piece i arg1 harg1 x0) := by
  sl_kernel_rfl

end AnyFloats

/-! ### Entry by entry, over the extended reals -/

/-- A column distance, counted from the least one and kept within the table. -/
def colDist (a k : Nat) : Nat := min (k + 15 - a) 30

/-- Whether key column `k` is in query column `a`'s window. -/
def okCol (a k : Nat) : Bool := decide (min (a - 8) 48 ≤ k) && decide (k < min (a - 8) 48 + 16)

theorem pay5_apply : ∀ (a : Fin 64) (l : Fin 128), k0_pay5 (ValueIdx.ix2 a l) = BitVec.ofNat 32 (colDist a.val (l.val % 64)) := by
  decide +kernel

theorem pay6_apply : ∀ (a : Fin 64) (l : Fin 128), k0_pay6 (ValueIdx.ix2 a l) = BitVec.ofBool (okCol a.val (l.val % 64)) := by
  decide +kernel

theorem pay7_apply : ∀ (a : Fin 64) (l : Fin 128), k0_pay7 (ValueIdx.ix2 a l) = BitVec.ofBool (decide (l.val < 64)) := by
  decide +kernel

end Cert.KernelIdeal.Joined
-- ==== Proof.Ideal.BiasValue.lean ====
module

public import proofs.«01_k».proof.Proof.Ideal.BiasTable
public import Idealize.ShloMosaic.Lib.Pipeline.Value
public import Idealize.ShloMosaic.Lib.ValueIdx
public import Idealize.ShloMosaic.PureOps.Ideal
public import Idealize.ShloMosaic.PureOps.IdealRules

@[expose] public section

/-! What one step of the bias kernel writes, entry by entry. -/

set_option maxRecDepth 65536

noncomputable section

namespace Cert.KernelIdeal.Joined

open Idealize.ShloMosaic Idealize.ShloMosaic.TcCoe Idealize.ShloMosaic.Tactic
open Idealize.SL.Sem
open Cert.KernelIdeal.Gen

theorem off1_apply (i : grid0.Coords) (r : Fin 15) (d : Fin 31) :
    k0_off1 i (BitVec.ofNat 32 (31 * r.val)) (BitVec.ofNat 32 d.val) 0 = 465 * (i 0).val + 31 * r.val + d.val := by
  have hi : (i 0).val < 32 := (i 0).isLt
  have hr := r.isLt
  have hd := d.isLt
  show (BitVec.ofNat 32 (i 0).val * 465#32 + BitVec.ofNat 32 (31 * r.val) + BitVec.ofNat 32 d.val).toNat = _
  generalize (i 0).val = n at *
  simp only [BitVec.toNat_add, BitVec.toNat_mul, BitVec.toNat_ofNat]
  omega

theorem pay8_apply (a : S64x128.Idx) : (k0_pay8 (F := Ideal)) a = (⊥ : EReal) := by
  show Named.named (F := Ideal) κ "mask" (φ := .f32) 0xF149F2CA#32 = _
  exact IdealRules.named_const.ideal_named_scalar _ _ _ _ rfl

theorem ldw_apply (i : grid0.Coords) (arg1 : Memref sig .tc .smem S14880 .f32) (harg1 : arg1.IsWhole)
    (x0 : Vec Ideal S14880 .f32) (r : Fin 15) (d : Fin 31) :
    ldw i arg1 harg1 x0 r d = x0 (ValueIdx.ix1 (Fin.ofNat 14880 (465 * (i 0).val + 31 * r.val + d.val))) := by
  unfold ldw
  simp only [View.readAt_eq_ld, harg1.read_unread]
  have hi : (i 0).val < 32 := (i 0).isLt
  have hr := r.isLt
  have hd := d.isLt
  refine congrArg x0 (funext fun a => Fin.ext ?_)
  obtain rfl : a = 0 := Subsingleton.elim _ _
  show k0_off1 i _ _ 0 + 1 * 0 = (465 * (i 0).val + 31 * r.val + d.val) % 14880
  rw [off1_apply]
  generalize (i 0).val = n at *
  omega

/-- A table after `n` column distances: the entry of a column distance already met. -/
theorem chain_apply (i : grid0.Coords) (arg1 : Memref sig .tc .smem S14880 .f32) (harg1 : arg1.IsWhole)
    (x0 : Vec Ideal S14880 .f32) (r : Fin 15) (a : Fin 64) (l : Fin 128) (n : Nat) (hn : n ≤ 31)
    (h : colDist a.val (l.val % 64) < n) :
    chain i arg1 harg1 x0 r n (ValueIdx.ix2 a l)
      = x0 (ValueIdx.ix1 (Fin.ofNat 14880 (465 * (i 0).val + 31 * r.val + colDist a.val (l.val % 64)))) := by
  induction n with
  | zero => omega
  | succ n ih =>
    show Scalar.select (BitVec.ofBool (k0_pay5 (ValueIdx.ix2 a l) == BitVec.ofNat 32 n)) (ldw i arg1 harg1 x0 r (Fin.ofNat 31 n))
        (chain i arg1 harg1 x0 r n (ValueIdx.ix2 a l)) = _
    rw [pay5_apply]
    by_cases he : colDist a.val (l.val % 64) = n
    · rw [he, beq_self_eq_true]
      show ldw i arg1 harg1 x0 r (Fin.ofNat 31 n) = _
      rw [ldw_apply]
      congr 3
      show _ + n % 31 = _
      rw [Nat.mod_eq_of_lt (by omega)]
    · have : (BitVec.ofNat 32 (colDist a.val (l.val % 64)) == BitVec.ofNat 32 n) = false := by
        rw [beq_eq_false_iff_ne]
        intro hc
        have := congrArg BitVec.toNat hc
        simp only [BitVec.toNat_ofNat] at this
        omega
      rw [this]
      exact ih (by omega) (by omega)

theorem table_apply (i : grid0.Coords) (arg1 : Memref sig .tc .smem S14880 .f32) (harg1 : arg1.IsWhole)
    (x0 : Vec Ideal S14880 .f32) (r : Fin 15) (a : Fin 64) (l : Fin 128) :
    table i arg1 harg1 x0 r (ValueIdx.ix2 a l)
      = if okCol a.val (l.val % 64) then
          x0 (ValueIdx.ix1 (Fin.ofNat 14880 (465 * (i 0).val + 31 * r.val + colDist a.val (l.val % 64)))) else (⊥ : EReal) := by
  show Scalar.select (k0_pay6 (ValueIdx.ix2 a l)) (chain i arg1 harg1 x0 r 31 (ValueIdx.ix2 a l)) (k0_pay8 (ValueIdx.ix2 a l)) = _
  rw [pay6_apply, pay8_apply, chain_apply i arg1 harg1 x0 r a l 31 le_rfl (by unfold colDist; omega)]
  cases okCol a.val (l.val % 64) <;> rfl

/-- The bias of head `h` between query place `row` and key place `col` of a group of kind `var`. -/
def biasAt (x0 : Vec Ideal S14880 .f32) (h var row col : Nat) : EReal :=
  if okRow var (row / 64) (col / 64) && okCol (row % 64) (col % 64) then
    x0 (ValueIdx.ix1 (Fin.ofNat 14880 (465 * h + 31 * rowDist var (row / 64) (col / 64) + colDist (row % 64) (col % 64))))
  else ⊥

theorem half_apply (i : grid0.Coords) (arg1 : Memref sig .tc .smem S14880 .f32) (harg1 : arg1.IsWhole)
    (x0 : Vec Ideal S14880 .f32) (var qr kr : Nat) (hv : var < 3) (hq : qr < 4) (hk : kr < 12) (a : Fin 64) (l : Fin 128) :
    half i arg1 harg1 x0 var qr kr (ValueIdx.ix2 a l) = biasAt x0 (i 0).val var (64 * qr + a.val) (64 * kr + l.val % 64) := by
  have e1 : (64 * qr + a.val) / 64 = qr := by omega
  have e2 : (64 * qr + a.val) % 64 = a.val := by omega
  have e3 : (64 * kr + l.val % 64) / 64 = kr := by omega
  have e4 : (64 * kr + l.val % 64) % 64 = l.val % 64 := by omega
  unfold biasAt half
  rw [e1, e2, e3, e4]
  cases ho : okRow var qr kr
  · exact pay8_apply _
  · show table i arg1 harg1 x0 _ (ValueIdx.ix2 a l) = _
    rw [table_apply]
    have hr : rowDist var qr kr < 15 := by
      unfold okRow at ho
      unfold rowDist
      split_ifs at ho ⊢ <;> simp only [Bool.and_eq_true, decide_eq_true_eq] at ho <;> omega
    have : (Fin.ofNat 15 (rowDist var qr kr)).val = rowDist var qr kr := Nat.mod_eq_of_lt hr
    rw [this]; rfl

theorem block_apply (i : grid0.Coords) (arg1 : Memref sig .tc .smem S14880 .f32) (harg1 : arg1.IsWhole)
    (x0 : Vec Ideal S14880 .f32) (var qr p : Nat) (hv : var < 3) (hq : qr < 4) (hp : p < 6) (a : Fin 64) (l : Fin 128) :
    block i arg1 harg1 x0 var qr p (ValueIdx.ix2 a l) = biasAt x0 (i 0).val var (64 * qr + a.val) (128 * p + l.val) := by
  have key : Scalar.select (k0_pay7 (ValueIdx.ix2 a l)) (half i arg1 harg1 x0 var qr (2 * p) (ValueIdx.ix2 a l))
      (half i arg1 harg1 x0 var qr (2 * p + 1) (ValueIdx.ix2 a l)) = biasAt x0 (i 0).val var (64 * qr + a.val) (128 * p + l.val) := by
    rw [pay7_apply, half_apply i arg1 harg1 x0 var qr (2 * p) hv hq (by omega),
      half_apply i arg1 harg1 x0 var qr (2 * p + 1) hv hq (by omega)]
    have hl := l.isLt
    by_cases h : l.val < 64
    · rw [decide_eq_true h]
      show biasAt x0 _ _ _ (64 * (2 * p) + l.val % 64) = _
      congr 1; omega
    · rw [decide_eq_false h]
      show biasAt x0 _ _ _ (64 * (2 * p + 1) + l.val % 64) = _
      congr 1; omega
  rw [← key]
  unfold block
  cases ho : okRow var qr (2 * p) || okRow var qr (2 * p + 1)
  · rw [Bool.or_eq_false_iff] at ho
    have e1 : half i arg1 harg1 x0 var qr (2 * p) = k0_pay8 := by unfold half; rw [ho.1]
    have e2 : half i arg1 harg1 x0 var qr (2 * p + 1) = k0_pay8 := by unfold half; rw [ho.2]
    rw [e1, e2, pay7_apply]
    cases decide (l.val < 64) <;> rfl
  · rfl

theorem cast_block (b : FVec Ideal S64x128 .f32) (h : S64x128.ShapeCasts S1x1x64x128) (x : S1x1x64x128.Idx) :
    shapeCast S1x1x64x128 b h x = b (ValueIdx.ix2 (n0 := 64) (n1 := 128) (x 2) (x 3)) := by
  have h0 : (x 0).val < 1 := (x 0).isLt
  have h1 : (x 1).val < 1 := (x 1).isLt
  refine shapeCast_apply _ _ x _ ?_
  have r2 := Shape.rowMajor_val_two (d := ![64, 128]) (ValueIdx.ix2 (n0 := 64) (n1 := 128) (x 2) (x 3))
  have r4 := Shape.rowMajor_val_four (d := ![1, 1, 64, 128]) x
  refine r2.trans (Eq.trans ?_ r4.symm)
  show (x 2).val * 128 + (x 3).val = (((x 0).val * 1 + (x 1).val) * 64 + (x 2).val) * 128 + (x 3).val
  omega

/-- What one step of the bias kernel leaves: head `i`'s bias, entry by entry. -/
theorem out0_apply (c : Dev nD) (i : grid0.Coords) (arg1 : Memref sig .tc .smem S14880 .f32) (harg1 : arg1.IsWhole)
    (arg2 : Memref sig .tc .vmem S1x3x256x768 .f32) (harg2 : arg2.IsWhole) (x0 : Vec Ideal S14880 .f32)
    (y : S1x3x256x768.Idx) :
    out0_A_1 c i arg1 harg1 arg2 harg2 x0 y = biasAt x0 (i 0).val (y 1).val (y 2).val (y 3).val := by
  unfold out0_A_1
  rw [View.read_writes_eq_canon _ _ _ (cover0_A_1 c i arg1 harg1 arg2 harg2 x0)]
  refine View.canon_apply_of_pieces (fun y : S1x3x256x768.Idx => biasAt x0 (i 0).val (y 1).val (y 2).val (y 3).val) _ ?_ y
    (cover0_A_1 c i arg1 harg1 arg2 harg2 x0 y)
  rw [pieces_eq]
  intro p hp x
  obtain ⟨k, -, rfl⟩ := List.mem_map.mp hp
  have hk := k.isLt
  have h2 : (x 2).val < 64 := (x 2).isLt
  have h3 : (x 3).val < 128 := (x 3).isLt
  have h0 : (x 0).val = 0 := by have : (x 0).val < 1 := (x 0).isLt; omega
  have h1 : (x 1).val = 0 := by have : (x 1).val < 1 := (x 1).isLt; omega
  have e1 : (((piece i arg1 harg1 x0 k).1.emb x) 1).val = k.val / 24 := by
    show k.val / 24 + 1 * (x 1).val = _
    omega
  have e2 : (((piece i arg1 harg1 x0 k).1.emb x) 2).val = 64 * (k.val / 6 % 4) + (x 2).val := by
    show 64 * (k.val / 6 % 4) + 1 * (x 2).val = _
    omega
  have e3 : (((piece i arg1 harg1 x0 k).1.emb x) 3).val = 128 * (k.val % 6) + (x 3).val := by
    show 128 * (k.val % 6) + 1 * (x 3).val = _
    omega
  show (piece i arg1 harg1 x0 k).2 x = biasAt x0 (i 0).val _ _ _
  rw [e1, e2, e3]
  show shapeCast S1x1x64x128 (block i arg1 harg1 x0 (k.val / 24) (k.val / 6 % 4) (k.val % 6)) shapeCasts_S64x128_S1x1x64x128 x = _
  refine (cast_block _ _ x).trans ?_
  exact block_apply i arg1 harg1 x0 _ _ _ (by omega) (by omega) (by omega) _ _

end Cert.KernelIdeal.Joined
-- ==== Proof.Ideal.BiasArray.lean ====
module

public import proofs.«01_k».proof.Proof.Ideal.BiasValue
public import proofs.«01_k».proof.Proof.Ideal.Whole
public import Idealize.ShloMosaic.Lib.Pipeline.ValueKit.Geometry
public import proofs.«01_k».proof.Proof.Blocks

@[expose] public section

/-! The array of biases that the first launch leaves, entry by entry, from the program's bias table. -/

set_option maxRecDepth 65536

noncomputable section

namespace Cert.KernelIdeal.Joined

open Idealize.ShloMosaic
open Idealize.ShloMosaic.TcCoe Idealize.ShloMosaic.Tactic
open Idealize.SL.Sem
open Idealize.ShloMosaic.Pipeline (Dat Cfg Window)
open Cert.KernelIdeal.Gen
open Cert.Blocks (place)
open Idealize.ShloMosaic.ValueIdx (ix1 ix4)

theorem index0_0 : ∀ t : Fin grid0.N, win0_0.index t = ![0] := by decide +kernel
theorem index0_1 : ∀ t : Fin grid0.N, win0_1.index t = ![t.val, 0, 0, 0] := by decide +kernel
theorem coords0 : ∀ t : Fin grid0.N, ((grid0.coords t) 0).val = t.val := by decide +kernel

theorem iblk0_0_eq (V : (c : Dev nD) → (b : Ref sig .tc) → Buf (Elt Ideal) ((c : Thread nD τ).loc b)) (c : Dev nD)
    (t : Fin cfg0.N) : iblk0 V c 0 t = V c main_v1 := by
  funext y
  unfold iblk0
  refine congrArg (V c main_v1) (place win0_0 rfl (index0_0 t) fun a => ?_)
  match a with
  | ⟨0, _⟩ => show 0 * 14880 + 1 * (y 0).val = (y 0).val; omega

/-- The biases, from the table laid out in one row. -/
def biasArray (x0 : Vec Ideal S14880 .f32) (y : S32x3x256x768.Idx) : EReal :=
  biasAt x0 (y 0).val (y 1).val (y 2).val (y 3).val

theorem biasArray_at (x0 : Vec Ideal S14880 .f32) (y : S32x3x256x768.Idx) (h k r j : Nat) (h0 : (y 0).val = h)
    (h1 : (y 1).val = k) (h2 : (y 2).val = r) (h3 : (y 3).val = j) : biasArray x0 y = biasAt x0 h k r j := by
  unfold biasArray; rw [h0, h1, h2, h3]

theorem outsAt0_at (V : (c : Dev nD) → (b : Ref sig .tc) → Buf (Elt Ideal) ((c : Thread nD τ).loc b)) (c : Dev nD)
    (t : Fin cfg0.N) (y : S1x3x256x768.Idx) :
    outsAt0 V c t y = biasAt (V c main_v1) t.val (y 1).val (y 2).val (y 3).val := by
  unfold outsAt0
  refine (out0_apply _ _ _ _ _ _ _ _).trans ?_
  rw [iblk0_0_eq, coords0 t]

theorem first_eq (y : S1x3x256x768.Idx) : (y 0).val = 0 := Nat.lt_one_iff.mp (y 0).isLt

theorem emb0_1 (t : Fin cfg0.N) (y : S1x3x256x768.Idx) (a : Fin 4) :
    (((win0_1.rect t).emb y : S32x3x256x768.Idx) a).val = win0_1.index t a * S1x3x256x768.size a + 1 * (y a).val := rfl

theorem block0_1 (V : (c : Dev nD) → (b : Ref sig .tc) → Buf (Elt Ideal) ((c : Thread nD τ).loc b)) (c : Dev nD)
    (t : Fin cfg0.N) (y : S1x3x256x768.Idx) :
    outsAt0 V c t y = biasArray (V c main_v1) ((win0_1.rect t).emb y) := by
  rw [outsAt0_at]
  refine (biasArray_at _ _ _ _ _ _ ?_ ?_ ?_ ?_).symm
  · rw [emb0_1, index0_1 t, first_eq y]
    show t.val * 1 + 1 * 0 = t.val; omega
  · rw [emb0_1, index0_1 t]
    show 0 * 3 + 1 * (y 1).val = (y 1).val; omega
  · rw [emb0_1, index0_1 t]
    show 0 * 256 + 1 * (y 2).val = (y 2).val; omega
  · rw [emb0_1, index0_1 t]
    show 0 * 768 + 1 * (y 3).val = (y 3).val; omega

theorem covers0_1 : (cfg0.win 1).Covers := by decide +kernel

theorem arr0_1 (V : (c : Dev nD) → (b : Ref sig .tc) → Buf (Elt Ideal) ((c : Thread nD τ).loc b)) (c : Dev nD) :
    (dat0 V c).arrAt 1 cfg0.N = biasArray (V c main_v1) := by
  refine (dat0 V c).arrAt_eq_of_covers 1 _ covers0_1 fun t hf y => ?_
  rw [after0_1]
  refine Eq.trans (b := outsAt0 V c t y) ?_ ((block0_1 V c t y).trans ?_)
  · sl_kernel_rfl
  · exact congrArg (biasArray (V c main_v1)) (show (win0_1.rect t).emb y = ((cfg0.win 1).blk t).view.emb y from rfl)

variable (m : (ℓ : Loc nD τ sig) → Buf (Elt Ideal) ℓ) (ρ : Dev nD → PrngReg)

/-- The table laid out in one row holds entry `(h, r, d)` of the bias table at place `465 h + 31 r + d`. -/
theorem flat_at (c : Dev nD) (h : Fin 32) (r : Fin 15) (d : Fin 31) (n : Fin 14880) (hn : n.val = 465 * h.val + 31 * r.val + d.val) :
    V1 m ρ c main_v1 (ix1 n) = m ((c : Thread nD τ).loc main_arg3) (ix4 0 h r d) := by
  have e : V1 m ρ c main_v1
      = shapeCast S14880 (shapeCast S32x15x31 (m ((c : Thread nD τ).loc main_arg3)) shapeCasts_S1x32x15x31_S32x15x31)
          shapeCasts_S32x15x31_S14880 := by
    show StableHlo.after hostOps0 (W0 m ρ c) (Proc.devRef .tc main_v1) = _
    rw [StableHlo.after_cons, StableHlo.after_cons, StableHlo.after_nil, StableHlo.reshape_result, StableHlo.reshape_result]
    rfl
  rw [e]
  refine (congrArg (shapeCast S32x15x31 (m ((c : Thread nD τ).loc main_arg3)) shapeCasts_S1x32x15x31_S32x15x31)
    (Shape.reshapeEquiv_eq_of_rowMajor _ (y := ValueIdx.ix3 h r d) ?_)).trans
    (congrArg (m ((c : Thread nD τ).loc main_arg3)) (Shape.reshapeEquiv_eq_of_rowMajor _ (y := ix4 0 h r d) ?_))
  · refine (Shape.rowMajor_val_three _).trans (Eq.trans ?_ (Shape.rowMajor_val_one _).symm)
    show (h.val * 15 + r.val) * 31 + d.val = n.val
    omega
  · refine (Shape.rowMajor_val_four _).trans (Eq.trans ?_ (Shape.rowMajor_val_three _).symm)
    show ((0 * 32 + h.val) * 15 + r.val) * 31 + d.val = (h.val * 15 + r.val) * 31 + d.val
    omega

end Cert.KernelIdeal.Joined
-- ==== Proof.Reference.Tables.lean ====
module

public import proofs.«01_k».proof.Proof.Gen.ReferenceIdeal.Read
public import proofs.«01_k».proof.Proof.Ideal.BiasTable
public import Idealize.ShloMosaic.Lib.Pipeline.Value
public import Idealize.ShloMosaic.Lib.ValueIdx
public import Idealize.ShloMosaic.PureOps.Ideal.Laws

@[expose] public section

/-! The reference's index tables: the window of a row, the columns a query sees, the distances in the bias table; and
what is taken at them. -/

set_option maxRecDepth 65536

noncomputable section

namespace Cert.ReferenceIdeal.Reading

open Idealize.ShloMosaic
open Idealize.ShloMosaic.TcCoe Idealize.ShloMosaic.Tactic
open Idealize.ShloMosaic.ValueIdx
open Cert.ReferenceIdeal Cert.ReferenceIdeal.Gen Cert.ReferenceIdeal.Read
open Cert.KernelIdeal.Joined (okCol colDist)

/-- The first row of row `r`'s window. -/
def rowStart (r : Nat) : Nat := min (r - 4) 24

theorem v20_at (i : S64.Idx) : val_main_v20 (F := Ideal) i = BitVec.ofNat 32 (min ((i 0).val - 8) 48) := by
  simp only [val_main_v20_apply, val_main_call0_v4_apply, val_main_call0_v3_apply, val_main_c_1_apply, val_main_call0_v2_apply,
    val_main_call0_v1_apply, val_main_call0_v0_apply, val_main_c_0_apply, val_main_v19_apply, val_main_v17_apply,
    val_main_v18_apply, val_main_c_apply]
  have h : ∀ n : Fin 64, IntOp.minsi 48#32 (IntOp.maxsi 0#32 (IntOp.subi (BitVec.ofNat 32 n.val) 8#32))
      = BitVec.ofNat 32 (min (n.val - 8) 48) := by decide +kernel
  exact h (i 0)

theorem v33_at (i : S64x64.Idx) : val_main_v33 (F := Ideal) i = BitVec.ofBool (okCol (i 0).val (i 1).val) := by
  simp only [val_main_v33_apply, val_main_v25_apply, val_main_v23_apply, val_main_v24_apply, val_main_v21_apply, val_main_v22_apply,
    val_main_v32_apply, val_main_v30_apply, val_main_v31_apply, val_main_v29_apply, val_main_v26_apply, val_main_v27_apply,
    val_main_v28_apply, val_main_c_2_apply, v20_at, val_main_v17_apply]
  have h : ∀ a k : Fin 64, IntOp.andi (IntOp.cmpi .sge (BitVec.ofNat 32 k.val) (BitVec.ofNat 32 (min (a.val - 8) 48)))
      (IntOp.cmpi .slt (BitVec.ofNat 32 k.val) (IntOp.addi (BitVec.ofNat 32 (min (a.val - 8) 48)) 16#32))
      = BitVec.ofBool (okCol a.val k.val) := by decide +kernel
  exact h (i 0) (i 1)

theorem v43_at (i : S64x64.Idx) : val_main_v43 (F := Ideal) i = BitVec.ofNat 32 (min ((i 1).val + 15 - (i 0).val) 30) := by
  simp only [val_main_v43_apply, val_main_v42_apply, val_main_c_6_apply, val_main_v41_apply, val_main_v40_apply, val_main_c_5_apply,
    val_main_v39_apply, val_main_call1_v4_apply, val_main_call1_v3_apply, val_main_c_4_apply, val_main_call1_v2_apply,
    val_main_call1_v1_apply, val_main_call1_v0_apply, val_main_c_3_apply, val_main_v38_apply, val_main_v36_apply,
    val_main_v37_apply, val_main_v34_apply, val_main_v35_apply, val_main_v17_apply]
  have h : ∀ a k : Fin 64, IntOp.subi (IntOp.addi (IntOp.minsi 15#32 (IntOp.maxsi (IntOp.subi 0#32 15#32)
      (IntOp.subi (BitVec.ofNat 32 k.val) (BitVec.ofNat 32 a.val)))) 16#32) 1#32
      = BitVec.ofNat 32 (min (k.val + 15 - a.val) 30) := by decide +kernel
  exact h (i 0) (i 1)

theorem v48_at (i : S32.Idx) : val_main_v48 (F := Ideal) i = BitVec.ofNat 32 (rowStart (i 0).val) := by
  simp only [val_main_v48_apply, val_main_call3_v4_apply, val_main_call3_v3_apply, val_main_c_9_apply, val_main_call3_v2_apply,
    val_main_call3_v1_apply, val_main_call3_v0_apply, val_main_c_8_apply, val_main_v47_apply, val_main_v46_apply,
    val_main_v45_apply, val_main_c_7_apply]
  have h : ∀ n : Fin 32, IntOp.minsi 24#32 (IntOp.maxsi 0#32 (IntOp.subi (BitVec.ofNat 32 n.val) 4#32))
      = BitVec.ofNat 32 (rowStart n.val) := by decide +kernel
  exact h (i 0)

theorem v54_at (i : S32x8.Idx) : val_main_v54 (F := Ideal) i = BitVec.ofNat 32 (rowStart (i 0).val + (i 1).val) := by
  simp only [val_main_v54_apply, val_main_v52_apply, val_main_v49_apply, val_main_v53_apply, val_main_v51_apply, val_main_v50_apply,
    v48_at]
  have h : ∀ (r : Fin 32) (n : Fin 8), IntOp.addi (BitVec.ofNat 32 (rowStart r.val)) (BitVec.ofNat 32 n.val)
      = BitVec.ofNat 32 (rowStart r.val + n.val) := by decide +kernel
  exact h (i 0) (i 1)

theorem v63_at (i : S32x8.Idx) : val_main_v63 (F := Ideal) i = BitVec.ofNat 32 (rowStart (i 0).val + (i 1).val + 7 - (i 0).val) := by
  simp only [val_main_v63_apply, val_main_v62_apply, val_main_c_11_apply, val_main_v61_apply, val_main_v60_apply, val_main_c_10_apply,
    val_main_v59_apply, val_main_v58_apply, val_main_v57_apply, val_main_v45_apply, v54_at]
  have h : ∀ (r : Fin 32) (n : Fin 8), IntOp.subi (IntOp.addi (IntOp.subi (BitVec.ofNat 32 (rowStart r.val + n.val)) (BitVec.ofNat 32 r.val)) 8#32) 1#32
      = BitVec.ofNat 32 (rowStart r.val + n.val + 7 - r.val) := by decide +kernel
  exact h (i 0) (i 1)

/-- What is taken, on an axis no index names, and on the axis an index names. -/
theorem taken_off {s si t : Shape} (d : GatherDims s si t) {w : Nat} (j : t.Idx) (idx : IVec si w) (a : Fin s.rank)
    (hm : a ∉ d.startIndexMap) (hb : a ∉ d.operandBatchingDims) (n : Nat) (hn : d.offCoord j a = n) :
    (d.operandIdx j idx a).val = n := by
  show d.start j idx a + d.batchCoord j a + d.offCoord j a = n
  rw [GatherDims.batchCoord_eq_zero _ _ _ hb, hn]
  unfold GatherDims.start
  rw [dif_neg hm]
  omega

theorem taken_at {s si t : Shape} (d : GatherDims s si t) {w : Nat} (j : t.Idx) (idx : IVec si w) (a : Fin s.rank)
    (hm : a ∈ d.startIndexMap) (hb : a ∉ d.operandBatchingDims) (hc : a ∉ d.sKept) (x : si.Idx)
    (hx : d.siIdx j ⟨d.startIndexMap.idxOf a, List.idxOf_lt_length_iff.2 hm⟩ = x) :
    (d.operandIdx j idx a).val = min (idx x).toInt.toNat (s.size a - d.sliceSizes a) := by
  show d.start j idx a + d.batchCoord j a + d.offCoord j a = _
  rw [GatherDims.batchCoord_eq_zero _ _ _ hb, GatherDims.offCoord_eq_zero _ _ _ hc]
  unfold GatherDims.start
  rw [dif_pos hm, hx]
  rfl

/-- The bias table by columns: what is taken from it. -/
theorem v44_at (x3 : (⟨S1x32x15x31, .f32⟩ : BufTy).Contents (Elt Ideal)) (h : Fin 32) (e : Fin 15) (a k : Fin 64) :
    val_main_v44 (F := Ideal) x3 (ix4 h e a k) = x3 (ix4 0 h e ⟨min (k.val + 15 - a.val) 30, by omega⟩) := by
  have key : val_main_v44 (F := Ideal) x3 (ix4 h e a k) = val_main_v0 (F := Ideal) x3 (ix3 h e
      ⟨min (val_main_call2_v0 (F := Ideal) (ix3 a k 0)).toInt.toNat 30, by omega⟩) := by
    unfold val_main_v44 Host.gather
    congr 1
    funext z
    refine Fin.ext ?_
    match z with
    | ⟨0, _⟩ => exact taken_off _ _ _ 0 (by decide) (by decide) _ (by sl_kernel_rfl)
    | ⟨1, _⟩ => exact taken_off _ _ _ 1 (by decide) (by decide) _ (by sl_kernel_rfl)
    | ⟨2, _⟩ =>
      refine taken_at _ _ _ 2 (by decide) (by decide) (by decide) (ix3 a k 0) ?_
      funext b
      refine Fin.ext ?_
      match b with
      | ⟨0, _⟩ => sl_kernel_rfl
      | ⟨1, _⟩ => sl_kernel_rfl
      | ⟨2, _⟩ => sl_kernel_rfl
  have hv : ∀ a k : Fin 64, min (BitVec.ofNat 32 (min (k.val + 15 - a.val) 30)).toInt.toNat 30 = min (k.val + 15 - a.val) 30 := by
    decide +kernel
  rw [key, val_main_v0_apply]
  congr 1
  funext z
  refine Fin.ext ?_
  have hh := h.isLt
  have he := e.isLt
  have hm : min (val_main_call2_v0 (F := Ideal) (ix3 a k 0)).toInt.toNat 30 = min (k.val + 15 - a.val) 30 := by
    rw [val_main_call2_v0_apply, v43_at]
    exact hv a k
  fin_cases z
  · rfl
  · show ((h.val * 15 + e.val) * 31 + min (val_main_call2_v0 (F := Ideal) (ix3 a k 0)).toInt.toNat 30) / 465 % 32 = h.val
    omega
  · show ((h.val * 15 + e.val) * 31 + min (val_main_call2_v0 (F := Ideal) (ix3 a k 0)).toInt.toNat 30) / 31 % 15 = e.val
    omega
  · show ((h.val * 15 + e.val) * 31 + min (val_main_call2_v0 (F := Ideal) (ix3 a k 0)).toInt.toNat 30) % 31 = _
    rw [hm]
    show _ = min (k.val + 15 - a.val) 30
    omega

end Cert.ReferenceIdeal.Reading

end
-- ==== Proof.Reference.Parts.lean ====
module

public import proofs.«01_k».proof.Proof.Reference.Tables
public import Idealize.ShloMosaic.Lib.ValueIdxRank6

@[expose] public section

/-! The reference's queries, keys, values and bias, read from the arguments. -/

set_option maxRecDepth 65536

noncomputable section

namespace Cert.ReferenceIdeal.Reading

open Idealize.ShloMosaic
open Idealize.ShloMosaic.TcCoe Idealize.ShloMosaic.Tactic
open Idealize.ShloMosaic.ValueIdx
open Cert.ReferenceIdeal Cert.ReferenceIdeal.Gen Cert.ReferenceIdeal.Read
open Cert.KernelIdeal.Joined (okCol colDist)

/-- The token at batch `b`, grid row `r`, grid column `w`; the context's token `c` of batch `b`; feature `d` of head `h`. -/
def tok (b : Fin 4) (r : Fin 32) (w : Fin 64) : Fin 9216 := ⟨2048 * b.val + 64 * r.val + w.val, by omega⟩
def ctok (b : Fin 4) (c : Fin 256) : Fin 9216 := ⟨8192 + 256 * b.val + c.val, by omega⟩
def feat (h : Fin 32) (d : Fin 128) : Fin 4096 := ⟨128 * h.val + d.val, by omega⟩

/-- Row `i` of row `r`'s window. -/
def winRow (r : Fin 32) (i : Fin 8) : Fin 32 := ⟨rowStart r.val + i.val, by unfold rowStart; omega⟩

/-- Its distance from `r`, as a row of the bias table. -/
def winDist (r : Fin 32) (i : Fin 8) : Fin 15 := ⟨rowStart r.val + i.val + 7 - r.val, by unfold rowStart; omega⟩

abbrev Tokens := (⟨S9216x4096, .bf16⟩ : BufTy).Contents (Elt Ideal)
abbrev Bias := (⟨S1x32x15x31, .f32⟩ : BufTy).Contents (Elt Ideal)

theorem grid_idx (r : Fin 32) (b : Fin 4) (h : Fin 32) (w : Fin 64) (d : Fin 128) (x : S9216x4096.Idx)
    (h0 : (x 0).val = ((((b.val * 32 + r.val) * 64 + w.val) * 32 + h.val) * 128 + d.val) / 4096)
    (h1 : (x 1).val = ((((b.val * 32 + r.val) * 64 + w.val) * 32 + h.val) * 128 + d.val) % 4096) :
    x = ix2 (tok b r w) (feat h d) := by
  funext z
  refine Fin.ext ?_
  match z with
  | ⟨0, _⟩ => refine h0.trans ?_; show _ = 2048 * b.val + 64 * r.val + w.val; omega
  | ⟨1, _⟩ => refine h1.trans ?_; show _ = 128 * h.val + d.val; omega

theorem ctx_idx (b : Fin 4) (c : Fin 256) (h : Fin 32) (d : Fin 128) (x : S9216x4096.Idx)
    (h0 : (x 0).val = 8192 + (((b.val * 256 + c.val) * 32 + h.val) * 128 + d.val) / 4096)
    (h1 : (x 1).val = (((b.val * 256 + c.val) * 32 + h.val) * 128 + d.val) % 4096) :
    x = ix2 (ctok b c) (feat h d) := by
  funext z
  refine Fin.ext ?_
  match z with
  | ⟨0, _⟩ => refine h0.trans ?_; show _ = 8192 + 256 * b.val + c.val; omega
  | ⟨1, _⟩ => refine h1.trans ?_; show _ = 128 * h.val + d.val; omega

theorem v10_at (x0 : Tokens) (r : Fin 32) (b : Fin 4) (h : Fin 32) (w : Fin 64) (d : Fin 128) :
    val_main_v10 (F := Ideal) x0 (ix5 r b h w d) = x0 (ix2 (tok b r w) (feat h d)) := by
  rw [val_main_v10_apply, val_main_v9_apply, val_main_v8_apply, val_main_v1_apply]
  exact congrArg x0 (grid_idx r b h w d _ rfl rfl)

theorem v13_at (x1 : Tokens) (r : Fin 32) (b : Fin 4) (h : Fin 32) (w : Fin 64) (d : Fin 128) :
    val_main_v13 (F := Ideal) x1 (ix5 r b h w d) = x1 (ix2 (tok b r w) (feat h d)) := by
  rw [val_main_v13_apply, val_main_v12_apply, val_main_v11_apply, val_main_v2_apply]
  exact congrArg x1 (grid_idx r b h w d _ rfl rfl)

theorem v16_at (x2 : Tokens) (r : Fin 32) (b : Fin 4) (h : Fin 32) (w : Fin 64) (d : Fin 128) :
    val_main_v16 (F := Ideal) x2 (ix5 r b h w d) = x2 (ix2 (tok b r w) (feat h d)) := by
  rw [val_main_v16_apply, val_main_v15_apply, val_main_v14_apply, val_main_v3_apply]
  exact congrArg x2 (grid_idx r b h w d _ rfl rfl)

theorem v5_at (x1 : Tokens) (b : Fin 4) (c : Fin 256) (h : Fin 32) (d : Fin 128) :
    val_main_v5 (F := Ideal) x1 (ix4 b c h d) = x1 (ix2 (ctok b c) (feat h d)) := by
  rw [val_main_v5_apply, val_main_v4_apply, val_main_v2_apply]
  exact congrArg x1 (ctx_idx b c h d _ rfl rfl)

theorem v7_at (x2 : Tokens) (b : Fin 4) (c : Fin 256) (h : Fin 32) (d : Fin 128) :
    val_main_v7 (F := Ideal) x2 (ix4 b c h d) = x2 (ix2 (ctok b c) (feat h d)) := by
  rw [val_main_v7_apply, val_main_v6_apply, val_main_v3_apply]
  exact congrArg x2 (ctx_idx b c h d _ rfl rfl)

theorem win_le : ∀ (r : Fin 32) (i : Fin 8),
    min (BitVec.ofNat 32 (rowStart r.val + i.val)).toInt.toNat 31 = rowStart r.val + i.val := by decide +kernel

theorem dist_le : ∀ (r : Fin 32) (i : Fin 8),
    min (BitVec.ofNat 32 (rowStart r.val + i.val + 7 - r.val)).toInt.toNat 14 = rowStart r.val + i.val + 7 - r.val := by decide +kernel

theorem rows_taken (x : S32x4x32x64x128.Idx → EReal) (idx : IVec S32x8x1 32) (r : Fin 32) (i : Fin 8) (b : Fin 4) (h : Fin 32)
    (w : Fin 64) (d : Fin 128) (hi : idx (ix3 r i 0) = BitVec.ofNat 32 (rowStart r.val + i.val)) :
    Host.gather gather_S32x4x32x64x128_S32x8x1_S32x8x4x32x64x128_2345_0_n_n_0_2_143264128 x idx (ix6 r i b h w d)
      = x (ix5 (winRow r i) b h w d) := by
  unfold Host.gather
  congr 1
  funext z
  refine Fin.ext ?_
  match z with
  | ⟨0, _⟩ =>
    refine (taken_at _ _ _ 0 (by decide) (by decide) (by decide) (ix3 r i 0) ?_).trans ?_
    · funext b
      refine Fin.ext ?_
      match b with
      | ⟨0, _⟩ => sl_kernel_rfl
      | ⟨1, _⟩ => sl_kernel_rfl
      | ⟨2, _⟩ => sl_kernel_rfl
    · rw [hi]; exact win_le r i
  | ⟨1, _⟩ => exact taken_off _ _ _ 1 (by decide) (by decide) _ (by sl_kernel_rfl)
  | ⟨2, _⟩ => exact taken_off _ _ _ 2 (by decide) (by decide) _ (by sl_kernel_rfl)
  | ⟨3, _⟩ => exact taken_off _ _ _ 3 (by decide) (by decide) _ (by sl_kernel_rfl)
  | ⟨4, _⟩ => exact taken_off _ _ _ 4 (by decide) (by decide) _ (by sl_kernel_rfl)

theorem v55_at (x1 : Tokens) (r : Fin 32) (i : Fin 8) (b : Fin 4) (h : Fin 32) (w : Fin 64) (d : Fin 128) :
    val_main_v55 (F := Ideal) x1 (ix6 r i b h w d) = x1 (ix2 (tok b (winRow r i) w) (feat h d)) := by
  refine Eq.trans ?_ (v13_at x1 _ b h w d)
  unfold val_main_v55
  exact rows_taken _ _ r i b h w d ((val_main_call4_v0_apply _).trans (v54_at _))

theorem v56_at (x2 : Tokens) (r : Fin 32) (i : Fin 8) (b : Fin 4) (h : Fin 32) (w : Fin 64) (d : Fin 128) :
    val_main_v56 (F := Ideal) x2 (ix6 r i b h w d) = x2 (ix2 (tok b (winRow r i) w) (feat h d)) := by
  refine Eq.trans ?_ (v16_at x2 _ b h w d)
  unfold val_main_v56
  exact rows_taken _ _ r i b h w d ((val_main_call5_v0_apply _).trans (v54_at _))

theorem v64_at (x3 : Bias) (h : Fin 32) (r : Fin 32) (i : Fin 8) (a k : Fin 64) :
    val_main_v64 (F := Ideal) x3 (ix5 h r i a k) = x3 (ix4 0 h (winDist r i) ⟨min (k.val + 15 - a.val) 30, by omega⟩) := by
  refine Eq.trans ?_ (v44_at x3 h _ a k)
  unfold val_main_v64 Host.gather
  congr 1
  funext z
  refine Fin.ext ?_
  match z with
  | ⟨1, _⟩ =>
    refine (taken_at _ _ _ 1 (by decide) (by decide) (by decide) (ix3 r i 0) ?_).trans ?_
    · funext b
      refine Fin.ext ?_
      match b with
      | ⟨0, _⟩ => sl_kernel_rfl
      | ⟨1, _⟩ => sl_kernel_rfl
      | ⟨2, _⟩ => sl_kernel_rfl
    · rw [val_main_call6_v0_apply, v63_at]; exact dist_le r i
  | ⟨0, _⟩ => exact taken_off _ _ _ 0 (by decide) (by decide) _ (by sl_kernel_rfl)
  | ⟨2, _⟩ => exact taken_off _ _ _ 2 (by decide) (by decide) _ (by sl_kernel_rfl)
  | ⟨3, _⟩ => exact taken_off _ _ _ 3 (by decide) (by decide) _ (by sl_kernel_rfl)

end Cert.ReferenceIdeal.Reading

end
-- ==== Proof.Reference.Scores.lean ====
module

public import proofs.«01_k».proof.Proof.Reference.Parts
public import proofs.«01_k».proof.Proof.Maths.Softmax

@[expose] public section

/-! The reference's scores. -/

set_option maxRecDepth 65536

noncomputable section

namespace Cert.ReferenceIdeal.Reading

open Idealize.ShloMosaic
open Idealize.ShloMosaic.TcCoe Idealize.ShloMosaic.Tactic
open Idealize.ShloMosaic.ValueIdx
open Cert.ReferenceIdeal Cert.ReferenceIdeal.Gen Cert.ReferenceIdeal.Read
open Cert.KernelIdeal.Joined (okCol colDist)

/-- The score of the query at `(r, a)` with the key at row `i`, column `k` of its window. -/
def latScore (x0 x1 : Tokens) (x3 : Bias) (r : Fin 32) (b : Fin 4) (h : Fin 32) (a : Fin 64) (i : Fin 8) (k : Fin 64) : EReal :=
  if okCol a.val k.val then
    ∑ e : Fin 128, (x0 (ix2 (tok b r a) (feat h e)) : EReal) * x1 (ix2 (tok b (winRow r i) k) (feat h e))
      + x3 (ix4 0 h (winDist r i) ⟨min (k.val + 15 - a.val) 30, by omega⟩)
  else ⊥

/-- The score with the context's token `c`. -/
def ctxScore (x0 x1 : Tokens) (r : Fin 32) (b : Fin 4) (h : Fin 32) (a : Fin 64) (c : Fin 256) : EReal :=
  ∑ e : Fin 128, (x0 (ix2 (tok b r a) (feat h e)) : EReal) * x1 (ix2 (ctok b c) (feat h e))

theorem v66_at (x0 x1 : Tokens) (r : Fin 32) (b : Fin 4) (h : Fin 32) (a : Fin 64) (i : Fin 8) (k : Fin 64) :
    val_main_v66 (F := Ideal) x0 x1 (ix6 r b h a i k)
      = ∑ e : Fin 128, (x0 (ix2 (tok b r a) (feat h e)) : EReal) * x1 (ix2 (tok b (winRow r i) k) (feat h e)) := by
  rw [val_main_v66_apply]
  refine Finset.sum_congr rfl fun e _ => ?_
  refine congrArg₂ (· * ·) (Eq.trans (congrArg _ ?_) (v10_at x0 r b h a e)) (Eq.trans (congrArg _ ?_) (v55_at x1 r i b h k e))
  · funext z; refine Fin.ext ?_; fin_cases z <;> rfl
  · funext z; refine Fin.ext ?_; fin_cases z <;> rfl

theorem v68_at (x3 : Bias) (r : Fin 32) (b : Fin 4) (h : Fin 32) (a : Fin 64) (i : Fin 8) (k : Fin 64) :
    val_main_v68 (F := Ideal) x3 (ix6 r b h a i k) = x3 (ix4 0 h (winDist r i) ⟨min (k.val + 15 - a.val) 30, by omega⟩) := by
  rw [val_main_v68_apply, val_main_v67_apply, val_main_v65_apply]
  refine Eq.trans (congrArg _ ?_) (v64_at x3 h r i a k)
  funext z; refine Fin.ext ?_; fin_cases z <;> rfl

theorem negInf : (FloatOps.ofBits (F := Ideal) .f32 0xFF800000#32 : EReal) = ⊥ := rfl

theorem v71_at (x0 x1 : Tokens) (x3 : Bias) (r : Fin 32) (b : Fin 4) (h : Fin 32) (a : Fin 64) (i : Fin 8) (k : Fin 64) :
    val_main_v71 (F := Ideal) x0 x1 x3 (ix6 r b h a i k) = latScore x0 x1 x3 r b h a i k := by
  rw [val_main_v71_apply, val_main_v69_apply, v66_at, v68_at, val_main_call7_v1_apply, val_main_v70_apply, v33_at,
    val_main_call7_v2_apply, val_main_call7_v0_apply, val_main_cst_apply]
  unfold latScore
  show Scalar.select (BitVec.ofBool (okCol a.val k.val)) _ (FloatOps.ofBits (F := Ideal) .f32 0xFF800000#32) = _
  cases okCol a.val k.val
  · exact negInf
  · rfl

theorem v74_at (x0 x1 : Tokens) (x3 : Bias) (r : Fin 32) (b : Fin 4) (h : Fin 32) (a : Fin 64) (n : Fin 512) :
    val_main_v74 (F := Ideal) x0 x1 x3 (ix5 r b h a n)
      = latScore x0 x1 x3 r b h a ⟨n.val / 64, by omega⟩ ⟨n.val % 64, by omega⟩ := by
  rw [← v71_at]
  unfold val_main_v74
  refine shapeCast_apply _ _ _ _ ?_
  rw [Shape.rowMajor_val_six, Shape.rowMajor_val_five]
  show ((((r.val * 4 + b.val) * 32 + h.val) * 64 + a.val) * 8 + n.val / 64) * 64 + n.val % 64
    = (((r.val * 4 + b.val) * 32 + h.val) * 64 + a.val) * 512 + n.val
  omega

theorem v73_at (x0 x1 : Tokens) (r : Fin 32) (b : Fin 4) (h : Fin 32) (a : Fin 64) (c : Fin 256) :
    val_main_v73 (F := Ideal) x0 x1 (ix5 r b h a c) = ctxScore x0 x1 r b h a c := by
  rw [val_main_v73_apply, val_main_v72_apply]
  refine Finset.sum_congr rfl fun e _ => ?_
  refine Eq.trans ?_ (mul_comm _ _)
  refine congrArg₂ (· * ·) (Eq.trans (congrArg _ ?_) (v5_at x1 b c h e)) (Eq.trans (congrArg _ ?_) (v10_at x0 r b h a e))
  · funext z; refine Fin.ext ?_; fin_cases z <;> rfl
  · funext z; refine Fin.ext ?_; fin_cases z <;> rfl

/-- The scores of one query: with its window's keys, then with the context's. -/
def lat (x0 x1 : Tokens) (x3 : Bias) (r : Fin 32) (b : Fin 4) (h : Fin 32) (a : Fin 64) (n : Fin 512) : EReal :=
  latScore x0 x1 x3 r b h a ⟨n.val / 64, by omega⟩ ⟨n.val % 64, by omega⟩

theorem joined_left (X : S32x4x32x64x512.Idx → EReal) (Y : S32x4x32x64x256.Idx → EReal)
    (hc : Shape.Concatenates [S32x4x32x64x512, S32x4x32x64x256] S32x4x32x64x768 4) (j : S32x4x32x64x768.Idx) (i : S32x4x32x64x512.Idx)
    (h0 : (i 0).val = (j 0).val) (h1 : (i 1).val = (j 1).val) (h2 : (i 2).val = (j 2).val) (h3 : (i 3).val = (j 3).val)
    (h4 : (i 4).val = (j 4).val) :
    concatenate S32x4x32x64x768 4 [⟨S32x4x32x64x512, X⟩, ⟨S32x4x32x64x256, Y⟩] hc j = X i :=
  concatenate_pair_apply_left (4 : Fin S32x4x32x64x768.rank) X Y hc j rfl i fun z => by
    match z with
    | ⟨0, _⟩ => exact h0
    | ⟨1, _⟩ => exact h1
    | ⟨2, _⟩ => exact h2
    | ⟨3, _⟩ => exact h3
    | ⟨4, _⟩ => exact h4

theorem joined_right (X : S32x4x32x64x512.Idx → EReal) (Y : S32x4x32x64x256.Idx → EReal)
    (hc : Shape.Concatenates [S32x4x32x64x512, S32x4x32x64x256] S32x4x32x64x768 4) (j : S32x4x32x64x768.Idx) (i : S32x4x32x64x256.Idx)
    (h0 : (i 0).val = (j 0).val) (h1 : (i 1).val = (j 1).val) (h2 : (i 2).val = (j 2).val) (h3 : (i 3).val = (j 3).val)
    (h4 : (i 4).val + 512 = (j 4).val) :
    concatenate S32x4x32x64x768 4 [⟨S32x4x32x64x512, X⟩, ⟨S32x4x32x64x256, Y⟩] hc j = Y i :=
  concatenate_pair_apply_right (4 : Fin S32x4x32x64x768.rank) X Y hc j rfl rfl i (fun z hz => by
    match z with
    | ⟨0, _⟩ => exact h0
    | ⟨1, _⟩ => exact h1
    | ⟨2, _⟩ => exact h2
    | ⟨3, _⟩ => exact h3
    | ⟨4, _⟩ => exact absurd rfl hz) h4

theorem v75_lat (x0 x1 : Tokens) (x3 : Bias) (r : Fin 32) (b : Fin 4) (h : Fin 32) (a : Fin 64) (n : Fin 512) (m : Fin 768)
    (hm : m.val = n.val) :
    val_main_v75 (F := Ideal) x0 x1 x3 (ix5 r b h a m) = lat x0 x1 x3 r b h a n := by
  refine Eq.trans ?_ (v74_at x0 x1 x3 r b h a n)
  unfold val_main_v75
  exact joined_left _ _ _ _ _ rfl rfl rfl rfl hm.symm

theorem v75_ctx (x0 x1 : Tokens) (x3 : Bias) (r : Fin 32) (b : Fin 4) (h : Fin 32) (a : Fin 64) (c : Fin 256) (m : Fin 768)
    (hm : c.val + 512 = m.val) :
    val_main_v75 (F := Ideal) x0 x1 x3 (ix5 r b h a m) = ctxScore x0 x1 r b h a c := by
  refine Eq.trans ?_ (v73_at x0 x1 r b h a c)
  unfold val_main_v75
  exact joined_right _ _ _ _ _ rfl rfl rfl rfl hm

end Cert.ReferenceIdeal.Reading

end
-- ==== Proof.Reference.Result.lean ====
module

public import proofs.«01_k».proof.Proof.Reference.Scores

@[expose] public section

/-! The reference's result: each query's softened mean of the values. -/

set_option maxRecDepth 65536

noncomputable section

namespace Cert.ReferenceIdeal.Reading

open Idealize.ShloMosaic
open Idealize.ShloMosaic.TcCoe Idealize.ShloMosaic.Tactic
open Idealize.ShloMosaic.ValueIdx
open Cert.ReferenceIdeal Cert.ReferenceIdeal.Gen Cert.ReferenceIdeal.Read

theorem sup_768 (f : Fin 768 → EReal) : Finset.univ.sup f
    = Maths.top (fun n : Fin 512 => f ⟨n.val, by omega⟩) (fun c : Fin 256 => f ⟨512 + c.val, by omega⟩) :=
  Maths.sup_append (m := 512) (n := 256) f

theorem sum_768 (f : Fin 768 → EReal) : ∑ m, f m
    = ∑ n : Fin 512, f ⟨n.val, by omega⟩ + ∑ c : Fin 256, f ⟨512 + c.val, by omega⟩ :=
  Fin.sum_univ_add (a := 512) (b := 256) f

theorem reduces_last : S32x4x32x64x768.Reduces [4] S32x4x32x64 := by decide

theorem v76_at (x0 x1 : Tokens) (x3 : Bias) (r : Fin 32) (b : Fin 4) (h : Fin 32) (a : Fin 64) :
    val_main_v76 (F := Ideal) x0 x1 x3 (ix4 r b h a)
      = Maths.top (lat x0 x1 x3 r b h a) (ctxScore x0 x1 r b h a) := by
  unfold val_main_v76
  rw [Host.reduce_eq_fold_single FloatOps.maximumf _ _ _ reduces_last]
  show Finset.univ.fold max (FloatOps.ofBits (F := Ideal) .f32 0xFF800000#32 : EReal) _ = _
  rw [negInf]
  have e : (val_main_v75 (F := Ideal) x0 x1 x3 ∘ reduces_last.lift (ix4 r b h a))
      = fun m : Fin 768 => val_main_v75 (F := Ideal) x0 x1 x3 (ix5 r b h a m) :=
    funext fun m => congrArg (val_main_v75 (F := Ideal) x0 x1 x3) (by
      funext z; refine Fin.ext ?_; fin_cases z <;> rfl)
  refine (congrArg (fun f : Fin 768 → EReal => Finset.univ.fold max ⊥ f) e).trans ?_
  refine (Maths.fold_max_eq_sup _).trans ((sup_768 _).trans (congrArg₂ _ (funext fun n => ?_) (funext fun c => ?_)))
  · exact v75_lat x0 x1 x3 r b h a n _ rfl
  · exact v75_ctx x0 x1 x3 r b h a c _ (Nat.add_comm _ _)

theorem v80_at (x0 x1 : Tokens) (x3 : Bias) (r : Fin 32) (b : Fin 4) (h : Fin 32) (a : Fin 64) (m : Fin 768) :
    val_main_v80 (F := Ideal) x0 x1 x3 (ix5 r b h a m)
      = Maths.top (lat x0 x1 x3 r b h a) (ctxScore x0 x1 r b h a) := by
  rw [val_main_v80_apply, val_main_v79_apply, val_main_v78_apply, val_main_v77_apply, val_main_cst_13_apply]
  show max (FloatOps.ofBits (F := Ideal) .f32 0xFF800000#32 : EReal) _ = _
  rw [negInf, max_eq_right bot_le]
  refine Eq.trans (congrArg _ ?_) (v76_at x0 x1 x3 r b h a)
  funext z; refine Fin.ext ?_; fin_cases z <;> rfl

theorem v82_lat (x0 x1 : Tokens) (x3 : Bias) (r : Fin 32) (b : Fin 4) (h : Fin 32) (a : Fin 64) (n : Fin 512) (m : Fin 768)
    (hm : m.val = n.val) : val_main_v82 (F := Ideal) x0 x1 x3 (ix5 r b h a m)
      = Ideal.exp (lat x0 x1 x3 r b h a n - Maths.top (lat x0 x1 x3 r b h a) (ctxScore x0 x1 r b h a)) := by
  rw [val_main_v82_apply, val_main_v81_apply, v80_at, v75_lat x0 x1 x3 r b h a n m hm]
  rfl

theorem v82_ctx (x0 x1 : Tokens) (x3 : Bias) (r : Fin 32) (b : Fin 4) (h : Fin 32) (a : Fin 64) (c : Fin 256) (m : Fin 768)
    (hm : c.val + 512 = m.val) : val_main_v82 (F := Ideal) x0 x1 x3 (ix5 r b h a m)
      = Ideal.exp (ctxScore x0 x1 r b h a c - Maths.top (lat x0 x1 x3 r b h a) (ctxScore x0 x1 r b h a)) := by
  rw [val_main_v82_apply, val_main_v81_apply, v80_at, v75_ctx x0 x1 x3 r b h a c m hm]
  rfl

theorem v83_at (x0 x1 : Tokens) (x3 : Bias) (r : Fin 32) (b : Fin 4) (h : Fin 32) (a : Fin 64) :
    val_main_v83 (F := Ideal) x0 x1 x3 (ix4 r b h a)
      = Maths.total (lat x0 x1 x3 r b h a) (ctxScore x0 x1 r b h a) := by
  rw [val_main_v83_apply, val_main_cst_14_apply]
  have e : ∀ m : Fin 768, val_main_v82 (F := Ideal) x0 x1 x3 (idx_main_v83 (ix4 r b h a) m)
      = val_main_v82 (F := Ideal) x0 x1 x3 (ix5 r b h a m) := fun m => congrArg _ (by
    funext z; refine Fin.ext ?_; fin_cases z <;> rfl)
  simp only [e]
  refine (congrArg (· + _) Ideal.ofBits_zero_f32).trans ((zero_add _).trans ((sum_768 _).trans (congrArg₂ (· + ·) ?_ ?_)))
  · exact Finset.sum_congr rfl fun n _ => v82_lat x0 x1 x3 r b h a n _ rfl
  · exact Finset.sum_congr rfl fun c _ => v82_ctx x0 x1 x3 r b h a c _ (Nat.add_comm _ _)

theorem v85_at (x0 x1 : Tokens) (x3 : Bias) (r : Fin 32) (b : Fin 4) (h : Fin 32) (a : Fin 64) (m : Fin 768) :
    val_main_v85 (F := Ideal) x0 x1 x3 (ix5 r b h a m)
      = Maths.total (lat x0 x1 x3 r b h a) (ctxScore x0 x1 r b h a) := by
  rw [val_main_v85_apply, val_main_v84_apply]
  refine Eq.trans (congrArg _ ?_) (v83_at x0 x1 x3 r b h a)
  funext z; refine Fin.ext ?_; fin_cases z <;> rfl

/-- The values of a window. -/
def latValue (x2 : Tokens) (r : Fin 32) (b : Fin 4) (h : Fin 32) (d : Fin 128) (n : Fin 512) : EReal :=
  x2 (ix2 (tok b (winRow r ⟨n.val / 64, by omega⟩) ⟨n.val % 64, by omega⟩) (feat h d))

theorem v88_at (x2 : Tokens) (r : Fin 32) (b : Fin 4) (h : Fin 32) (n : Fin 512) (d : Fin 128) :
    val_main_v88 (F := Ideal) x2 (ix5 r b h n d) = latValue x2 r b h d n := by
  have e : val_main_v88 (F := Ideal) x2 (ix5 r b h n d)
      = val_main_v87 (F := Ideal) x2 (ix6 r b h ⟨n.val / 64, by omega⟩ ⟨n.val % 64, by omega⟩ d) := by
    unfold val_main_v88
    refine shapeCast_apply _ _ _ _ ?_
    rw [Shape.rowMajor_val_six, Shape.rowMajor_val_five]
    show ((((r.val * 4 + b.val) * 32 + h.val) * 8 + n.val / 64) * 64 + n.val % 64) * 128 + d.val
      = (((r.val * 4 + b.val) * 32 + h.val) * 512 + n.val) * 128 + d.val
    omega
  rw [e, val_main_v87_apply]
  refine Eq.trans (congrArg _ ?_) (v56_at x2 r ⟨n.val / 64, by omega⟩ b h ⟨n.val % 64, by omega⟩ d)
  funext z; refine Fin.ext ?_; fin_cases z <;> rfl

theorem v90_at (x0 x1 x2 : Tokens) (x3 : Bias) (r : Fin 32) (b : Fin 4) (h : Fin 32) (a : Fin 64) (d : Fin 128) :
    val_main_v90 (F := Ideal) x0 x1 x2 x3 (ix5 r b h a d)
      = ∑ n : Fin 512, Ideal.div (Ideal.exp (lat x0 x1 x3 r b h a n - Maths.top (lat x0 x1 x3 r b h a) (ctxScore x0 x1 r b h a)))
          (Maths.total (lat x0 x1 x3 r b h a) (ctxScore x0 x1 r b h a)) * latValue x2 r b h d n := by
  rw [val_main_v90_apply]
  refine Finset.sum_congr rfl fun n _ => congrArg₂ (· * ·) ?_ ?_
  · have ei : idx_main_v89 (lidx_main_v90 (ix5 r b h a d) n) = ix5 r b h a (⟨n.val, by omega⟩ : Fin 768) := by
      funext z; refine Fin.ext ?_; fin_cases z <;> rfl
    rw [val_main_v89_apply, ei, val_main_v86_apply, v85_at, v82_lat x0 x1 x3 r b h a n _ rfl]
    rfl
  · refine Eq.trans (congrArg _ ?_) (v88_at x2 r b h n d)
    funext z; refine Fin.ext ?_; fin_cases z <;> rfl

theorem v93_at (x0 x1 x2 : Tokens) (x3 : Bias) (r : Fin 32) (b : Fin 4) (h : Fin 32) (a : Fin 64) (d : Fin 128) :
    val_main_v93 (F := Ideal) x0 x1 x2 x3 (ix5 r b h a d)
      = ∑ c : Fin 256, Ideal.div (Ideal.exp (ctxScore x0 x1 r b h a c - Maths.top (lat x0 x1 x3 r b h a) (ctxScore x0 x1 r b h a)))
          (Maths.total (lat x0 x1 x3 r b h a) (ctxScore x0 x1 r b h a)) * x2 (ix2 (ctok b c) (feat h d)) := by
  rw [val_main_v93_apply, val_main_v92_apply]
  refine Finset.sum_congr rfl fun c _ => (mul_comm _ _).trans (congrArg₂ (· * ·) ?_ ?_)
  · have ei : idx_main_v91 (ridx_main_v92 (idx_main_v93 (ix5 r b h a d)) c) = ix5 r b h a (⟨512 + c.val, by omega⟩ : Fin 768) := by
      funext z; refine Fin.ext ?_; fin_cases z <;> rfl
    rw [val_main_v91_apply, ei, val_main_v86_apply, v85_at, v82_ctx x0 x1 x3 r b h a c _ (Nat.add_comm _ _)]
    rfl
  · refine Eq.trans (congrArg _ ?_) (v7_at x2 b c h d)
    funext z; refine Fin.ext ?_; fin_cases z <;> rfl

/-- The result, entry by entry. -/
theorem result_at (x0 x1 x2 : Tokens) (x3 : Bias) (r : Fin 32) (b : Fin 4) (h : Fin 32) (a : Fin 64) (d : Fin 128)
    (y : S8192x4096.Idx) (hy0 : (y 0).val = 2048 * b.val + 64 * r.val + a.val) (hy1 : (y 1).val = 128 * h.val + d.val) :
    val_main_v97 (F := Ideal) x0 x1 x2 x3 y
      = Maths.softened (lat x0 x1 x3 r b h a) (ctxScore x0 x1 r b h a) (latValue x2 r b h d)
          (fun c => x2 (ix2 (ctok b c) (feat h d))) := by
  have ei : idx_main_v95 (idx_main_v96 y) = ix5 r b h a d := by
    funext z
    refine Fin.ext ?_
    match z with
    | ⟨0, _⟩ => show ((y 0).val * 4096 + (y 1).val) / 262144 % 32 = r.val; omega
    | ⟨1, _⟩ => show ((y 0).val * 4096 + (y 1).val) / 8388608 = b.val; omega
    | ⟨2, _⟩ => show ((y 0).val * 4096 + (y 1).val) / 128 % 32 = h.val; omega
    | ⟨3, _⟩ => show ((y 0).val * 4096 + (y 1).val) / 4096 % 64 = a.val; omega
    | ⟨4, _⟩ => show ((y 0).val * 4096 + (y 1).val) % 128 = d.val; omega
  rw [val_main_v97_apply, val_main_v96_apply, val_main_v95_apply, ei, val_main_v94_apply, v90_at, v93_at]
  rfl

end Cert.ReferenceIdeal.Reading

end
-- ==== Proof.Joining.lean ====
module

public import proofs.«01_k».proof.Proof.Ideal.AttnArray
public import proofs.«01_k».proof.Proof.Ideal.BiasArray
public import proofs.«01_k».proof.Proof.Reference.Result

@[expose] public section

/-! The kernel's attention is the reference's. The kernel scores a query against the twelve rows of keys that its group
    of four rows needs and masks what lies outside the query's own eight rows; the masked keys add nothing, and the rest
    are the reference's window. -/

set_option maxRecDepth 65536

noncomputable section

namespace Cert.Joining

open Idealize.ShloMosaic hiding ix1 ix2 ix3 ix4 ix5
open Idealize.ShloMosaic.TcCoe
open Idealize.ShloMosaic.ValueIdx
open Cert.KernelIdeal Cert.KernelIdeal.Joined
open Cert.ReferenceIdeal.Reading (tok ctok feat winRow winDist rowStart lat latScore ctxScore latValue)

/-- How far row `r`'s window starts below the first key row of its group. -/
def lead (r : Nat) : Nat := rowStart r - keyRow (r / 4)

theorem start_eq : ∀ r : Fin 32, keyRow (r.val / 4) + lead r.val = rowStart r.val ∧ lead r.val ≤ 4 := by decide +kernel
theorem okRow_eq : ∀ (r : Fin 32) (k : Fin 12), okRow (kind (r.val / 4)) (r.val % 4) k.val
    = (decide (lead r.val ≤ k.val) && decide (k.val < lead r.val + 8)) := by decide +kernel
theorem rowDist_eq : ∀ (r : Fin 32) (i : Fin 8), rowDist (kind (r.val / 4)) (r.val % 4) (lead r.val + i.val)
    = rowStart r.val + i.val + 7 - r.val := by decide +kernel

/-- The place, among the group's keys, of key `n` of row `r`'s window. -/
def place (r : Fin 32) (n : Fin 512) : Fin 768 := ⟨64 * lead r.val + n.val, by have := (start_eq r).2; omega⟩

theorem place_injective (r : Fin 32) : Function.Injective (place r) := fun n n' h => Fin.ext (by
  have := congrArg Fin.val h
  simp only [place] at this
  omega)

theorem bias_out (x : Vec Ideal S14880 .f32) (h : Nat) (r : Fin 32) (a : Fin 64) (j : Fin 768)
    (hj : ∀ n, place r n ≠ j) : biasAt x h (kind (r.val / 4)) (64 * (r.val % 4) + a.val) j.val = ⊥ := by
  unfold biasAt
  have e : (64 * (r.val % 4) + a.val) / 64 = r.val % 4 := by omega
  have hk : okRow (kind (r.val / 4)) (r.val % 4) (j.val / 64) = false := by
    have := okRow_eq r ⟨j.val / 64, by omega⟩
    rw [show j.val / 64 = (⟨j.val / 64, by omega⟩ : Fin 12).val from rfl, this]
    by_contra hne
    rw [Bool.not_eq_false, Bool.and_eq_true, decide_eq_true_iff, decide_eq_true_iff] at hne
    obtain ⟨h1, h2⟩ := hne
    have h1' : lead r.val ≤ j.val / 64 := h1
    have h2' : j.val / 64 < lead r.val + 8 := h2
    exact hj ⟨j.val - 64 * lead r.val, by omega⟩ (Fin.ext (by show 64 * lead r.val + (j.val - 64 * lead r.val) = j.val; omega))
  rw [e, hk]
  rfl

theorem bias_in (x : Vec Ideal S14880 .f32) (x3 : S1x32x15x31.Idx → EReal)
    (hx : ∀ (h : Fin 32) (r : Fin 15) (d : Fin 31) (n : Fin 14880), n.val = 465 * h.val + 31 * r.val + d.val →
      x (ix1 n) = x3 (ix4 0 h r d))
    (h : Fin 32) (r : Fin 32) (a : Fin 64) (n : Fin 512) :
    biasAt x h.val (kind (r.val / 4)) (64 * (r.val % 4) + a.val) (place r n).val
      = if okCol a.val (n.val % 64) then
          x3 (ix4 0 h (winDist r ⟨n.val / 64, by omega⟩) ⟨min (n.val % 64 + 15 - a.val) 30, by omega⟩)
        else ⊥ := by
  unfold biasAt
  have hl := (start_eq r).2
  have hn := n.isLt
  have ha := a.isLt
  have e1 : (64 * (r.val % 4) + a.val) / 64 = r.val % 4 := by omega
  have e2 : (64 * (r.val % 4) + a.val) % 64 = a.val := by omega
  have e3 : (place r n).val / 64 = lead r.val + n.val / 64 := by show (64 * lead r.val + n.val) / 64 = _; omega
  have e4 : (place r n).val % 64 = n.val % 64 := by show (64 * lead r.val + n.val) % 64 = _; omega
  have hk : okRow (kind (r.val / 4)) (r.val % 4) (lead r.val + n.val / 64) = true := by
    refine (okRow_eq r ⟨lead r.val + n.val / 64, by omega⟩).trans ?_
    rw [Bool.and_eq_true, decide_eq_true_iff, decide_eq_true_iff]
    show lead r.val ≤ lead r.val + n.val / 64 ∧ lead r.val + n.val / 64 < lead r.val + 8
    omega
  have hd := rowDist_eq r ⟨n.val / 64, by omega⟩
  rw [e1, e2, e3, e4, hk, Bool.true_and]
  by_cases hc : okCol a.val (n.val % 64) = true
  · rw [if_pos hc, if_pos hc]
    refine hx h _ _ _ ?_
    have hw := (winDist r ⟨n.val / 64, by omega⟩).isLt
    have hw' : (winDist r ⟨n.val / 64, by omega⟩).val = rowStart r.val + n.val / 64 + 7 - r.val := rfl
    have hd' : rowDist (kind (r.val / 4)) (r.val % 4) (lead r.val + n.val / 64) = rowStart r.val + n.val / 64 + 7 - r.val := hd
    show (465 * h.val + 31 * rowDist (kind (r.val / 4)) (r.val % 4) (lead r.val + n.val / 64) + colDist a.val (n.val % 64)) % 14880
      = 465 * h.val + 31 * (winDist r ⟨n.val / 64, by omega⟩).val + min (n.val % 64 + 15 - a.val) 30
    rw [hd', ← hw']
    unfold colDist
    have hh := h.isLt
    have hm : min (n.val % 64 + 15 - a.val) 30 ≤ 30 := Nat.min_le_right _ _
    exact Nat.mod_eq_of_lt (by omega)
  · rw [if_neg hc, if_neg hc]

variable (q k v : S9216x4096.Idx → EReal) (x : Vec Ideal S14880 .f32) (x3 : S1x32x15x31.Idx → EReal)

theorem value_eq (b : Fin 4) (h r : Fin 32) (a : Fin 64) (d : Fin 128) (n : Fin 512) (g : Nat) (hg : g < 8)
    (hgr : g = r.val / 4) :
    (ix2 (rowOf b (keyPlace g hg (place r n))) (colOf h d) : S9216x4096.Idx)
      = ix2 (tok b (winRow r ⟨n.val / 64, by omega⟩) ⟨n.val % 64, by omega⟩) (feat h d) := by
  subst hgr
  have hl := (start_eq r).1
  have e : rowOf b (keyPlace (r.val / 4) hg (place r n)) = tok b (winRow r ⟨n.val / 64, by omega⟩) ⟨n.val % 64, by omega⟩ :=
    Fin.ext (by
      show 2048 * b.val + (64 * keyRow (r.val / 4) + (64 * lead r.val + n.val))
        = 2048 * b.val + 64 * (rowStart r.val + n.val / 64) + n.val % 64
      omega)
  rw [e]; rfl

theorem attn_eq (hx : ∀ (h : Fin 32) (r : Fin 15) (d : Fin 31) (n : Fin 14880), n.val = 465 * h.val + 31 * r.val + d.val →
      x (ix1 n) = x3 (ix4 0 h r d))
    (hq : ∀ i, q i ≠ ⊤ ∧ q i ≠ ⊥) (hk : ∀ i, k i ≠ ⊤ ∧ k i ≠ ⊥) (h3 : ∀ i, x3 i ≠ ⊤)
    (b : Fin 4) (h r : Fin 32) (a : Fin 64) (d : Fin 128) (p : Fin 2048) (hp : p.val = 64 * r.val + a.val) :
    attnAt q k v (biasArray x) b h p d
      = Maths.softened (lat q k x3 r b h a) (ctxScore q k r b h a) (latValue v r b h d) (fun c => v (ix2 (ctok b c) (feat h d))) := by
  have hg : p.val / 256 = r.val / 4 := by omega
  have hr : p.val % 256 = 64 * (r.val % 4) + a.val := by omega
  have ht : rowOf b p = tok b r a := Fin.ext (by show 2048 * b.val + p.val = 2048 * b.val + 64 * r.val + a.val; omega)
  have hB : ∀ j : Fin 768, biasArray x (ix4 h (Fin.ofNat 3 (kind (p.val / 256))) (Fin.ofNat 256 (p.val % 256)) j)
      = biasAt x h.val (kind (r.val / 4)) (64 * (r.val % 4) + a.val) j.val := fun j => by
    refine biasArray_at x _ _ _ _ _ rfl ?_ ?_ rfl
    · show kind (p.val / 256) % 3 = _
      rw [hg]
      exact Nat.mod_eq_of_lt (by unfold kind; split <;> [skip; split] <;> omega)
    · show p.val % 256 % 256 = _
      omega
  have hfin := fun (u w : Fin 9216) => Maths.sum_mul_finite (fun e : Fin 128 => q (ix2 u (feat h e))) (fun e => k (ix2 w (feat h e)))
    (fun e => hq _) (fun e => hk _)
  unfold attnAt
  rw [Maths.attend_shift (place r) (place_injective r)]
  · refine Eq.trans ?_ (Maths.attend_eq_softened _ _ _ _ ?_ ?_ ?_)
    · congr 1
      · funext n
        rw [hB, bias_in x x3 hx]
        unfold lat latScore
        by_cases hc : okCol a.val (n.val % 64) = true
        · rw [if_pos hc, if_pos hc]
          refine congrArg₂ (· + ·) (Finset.sum_congr rfl fun e _ => congrArg₂ (· * ·) ?_ (congrArg k (value_eq b h r a e n _ _ hg))) rfl
          rw [ht]; rfl
        · rw [if_neg hc, if_neg hc, EReal.add_bot]
      · funext c
        unfold ctxScore
        rw [ht]; rfl
      · funext n
        exact congrArg v (value_eq b h r a d n _ _ hg)
    · intro n
      unfold lat latScore
      split
      · exact EReal.add_ne_top (hfin _ _).1 (h3 _)
      · exact bot_ne_top
    · exact fun c => (hfin _ _).1
    · exact fun c => (hfin _ _).2
  · intro j hj
    rw [hB, bias_out x h.val r a j hj, EReal.add_bot]

/-- The whole array. -/
theorem array_eq (hx : ∀ (h : Fin 32) (r : Fin 15) (d : Fin 31) (n : Fin 14880), n.val = 465 * h.val + 31 * r.val + d.val →
      x (ix1 n) = x3 (ix4 0 h r d))
    (hq : ∀ i, q i ≠ ⊤ ∧ q i ≠ ⊥) (hk : ∀ i, k i ≠ ⊤ ∧ k i ≠ ⊥) (h3 : ∀ i, x3 i ≠ ⊤) :
    attnArray q k v (biasArray x) = Cert.ReferenceIdeal.Read.val_main_v97 (F := Ideal) q k v x3 := by
  funext y
  have h0 : (y 0).val < 8192 := (y 0).isLt
  have h1 : (y 1).val < 4096 := (y 1).isLt
  rw [Cert.ReferenceIdeal.Reading.result_at q k v x3 ⟨(y 0).val % 2048 / 64, by omega⟩ ⟨(y 0).val / 2048, by omega⟩
    ⟨(y 1).val / 128, by omega⟩ ⟨(y 0).val % 64, by omega⟩ ⟨(y 1).val % 128, by omega⟩ y
    (by show (y 0).val = 2048 * ((y 0).val / 2048) + 64 * ((y 0).val % 2048 / 64) + (y 0).val % 64; omega)
    (by show (y 1).val = 128 * ((y 1).val / 128) + (y 1).val % 128; omega)]
  exact attn_eq q k v x x3 hx hq hk h3 _ _ _ _ _ _ (by
    show (y 0).val % 2048 = 64 * ((y 0).val % 2048 / 64) + (y 0).val % 64; omega)

end Cert.Joining
-- ==== Proof.Finite.lean ====
module

public import proofs.«01_k».proof.Proof.Ideal.Whole
public import proofs.«01_k».proof.Defs
public import Idealize.ShloMosaic.PureOps.Ideal

@[expose] public section

/-! What the precondition says of the arguments: no entry of the queries, the keys or the bias table is infinite. -/

noncomputable section

namespace Cert.Proof

open Idealize.ShloMosaic

theorem pre_facts : Cert.Pre_finite.Facts where
  bcast_S_S9216x4096 := by decide
  bcast_S_S1x32x15x31 := by decide

theorem finite_of_lt (a : EReal) (h : Ideal.cmp .olt (max a (-a)) ⊤ = 1#1) : a ≠ ⊤ ∧ a ≠ ⊥ := by
  constructor
  · rintro rfl
    have : Ideal.cmp .olt (max (⊤ : EReal) (-⊤)) ⊤ = 0#1 := by simp [Ideal.cmp]
    rw [this] at h
    exact absurd h (by decide)
  · rintro rfl
    have : Ideal.cmp .olt (max (⊥ : EReal) (-⊥)) ⊤ = 0#1 := by simp [Ideal.cmp]
    rw [this] at h
    exact absurd h (by decide)

theorem top_bf16 : (FloatOps.ofBits (F := Ideal) .bf16 0x7F80#16 : EReal) = ⊤ := rfl
theorem top_f32 : (FloatOps.ofBits (F := Ideal) .f32 0x7F800000#32 : EReal) = ⊤ := rfl

theorem pre_finite [Cert.Pre_finite.Facts] (q k v : FVec Ideal Cert.Pre_finite.S9216x4096 .bf16)
    (x3 : FVec Ideal Cert.Pre_finite.S1x32x15x31 .f32)
    (h0 : (Cert.Pre_finite.fn (F := Ideal) q k v x3).1 = fun _ => 1#1)
    (h1 : (Cert.Pre_finite.fn (F := Ideal) q k v x3).2.1 = fun _ => 1#1)
    (h2 : (Cert.Pre_finite.fn (F := Ideal) q k v x3).2.2 = fun _ => 1#1) :
    (∀ i, (q i : EReal) ≠ ⊤ ∧ (q i : EReal) ≠ ⊥) ∧ (∀ i, (k i : EReal) ≠ ⊤ ∧ (k i : EReal) ≠ ⊥)
      ∧ (∀ i, (x3 i : EReal) ≠ ⊤ ∧ (x3 i : EReal) ≠ ⊥) := by
  refine ⟨fun i => finite_of_lt (q i) ?_, fun i => finite_of_lt (k i) ?_, fun i => finite_of_lt (x3 i) ?_⟩
  · rw [← top_bf16]; exact congrFun h0 i
  · rw [← top_bf16]; exact congrFun h1 i
  · rw [← top_f32]; exact congrFun h2 i

end Cert.Proof
-- ==== Proof.FeedForward.Norm.lean ====
module

public import proofs.«01_k».proof.Proof.Gen.FeedForwardIdeal.Launch
public import proofs.«01_k».proof.Proof.Gen.FeedForwardIdeal.Skeleton
public import proofs.«01_k».proof.Proof.Gen.FeedForwardIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FeedForwardIdeal.Gen

variable {F : FTy → Type} [FloatOps F]

local notation "𝕄" => MT nD τ sig Unit (Elt F) ℕ (UR sig nD τ) ℕ

/-! The first launch of the feed-forward, which scales the rows to unit mean square and modulates them: what its body
    leaves in its output buffer, and the body's obligation at every grid point. -/

section body0

variable (c : Dev nD) (i : grid0.Coords) (arg1 : Memref sig .tc .vmem S512x4096 .f32) (harg1 : arg1.IsWhole)
  (arg2 : Memref sig .tc .vmem S1x4096 .f32) (harg2 : arg2.IsWhole)
  (arg3 : Memref sig .tc .vmem S1x1x1x1x4096 .f32) (harg3 : arg3.IsWhole)
  (arg4 : Memref sig .tc .vmem S1x1x1x1x4096 .f32) (harg4 : arg4.IsWhole)
  (arg5 : Memref sig .tc .vmem S512x4096 .bf16) (harg5 : arg5.IsWhole)
  (x0 : Vec F S512x4096 .f32) (x1 : Vec F S1x4096 .f32) (x2 x3 : Vec F S1x1x1x1x4096 .f32)

def kernelRun0 :
    { L : List (View.Piece (Elt F) S512x4096 .bf16) //
      ∀ (E : Set ℕ) (K : PUnit → sProp 𝕄),
        iprop(owns (c : Thread nD τ) arg1 fullShare x0 ∗ owns (c : Thread nD τ) arg2 fullShare x1
            ∗ owns (c : Thread nD τ) arg3 fullShare x2 ∗ owns (c : Thread nD τ) arg4 fullShare x3
            ∗ (∃ d, owns (c : Thread nD τ) arg5 fullShare d)
            ∗ (iprop(owns (c : Thread nD τ) arg1 fullShare x0 ∗ owns (c : Thread nD τ) arg2 fullShare x1
                ∗ owns (c : Thread nD τ) arg3 fullShare x2 ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc0_norm_modulate i arg1 harg1 arg2 harg2 arg3 harg3 arg4 harg4 arg5 harg5) K } := by
  refine ⟨?_, fun E K => ?run⟩
  case run =>
    simp only [cc0_norm_modulate_eq_skeleton]; unfold cc0_norm_modulate_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0; obtain rfl := harg2.eq_unread hf1
    obtain rfl := harg3.eq_unread hf2; obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

theorem cover0 (y : S512x4096.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1
    S512x4096.size (by sl_kernel_rfl) y

abbrev VO0 : View sig .tc .vmem S512x4096 .bf16 := (Memref.whole cc0_stg4_0 : Memref sig .tc .vmem S512x4096 .bf16).view

def out0 : Vec F S512x4096 .bf16 :=
  VO0.read (Elt F) (VO0.writes (Elt F) VO0.junk
    (kernelRun0 c i arg1 harg1 arg2 harg2 arg3 harg3 arg4 harg4 arg5 harg5 x0 x1 x2 x3).1)

end body0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .bf16 := win0_4.stage (cfg0.slots t 4)
abbrev hs0_4 (t : Fin cfg0.N) : (ms0_4 t).IsWhole := hstage0_4 ((cfg0.slots t 4).cast nbuf0_4)

def outsAt0 (c : Dev nD) (t : Fin cfg0.N) : Vec F S512x4096 .bf16 :=
  out0 c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => after0_0 V c t) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => after0_1 V c t) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => after0_2 V c t) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => after0_3 V c t) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0 out0
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0 c _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.FeedForwardIdeal.Joined

end
-- ==== Proof.FeedForward.Out.lean ====
module

public import proofs.«01_k».proof.Proof.FeedForward.In

@[expose] public section

set_option maxRecDepth 16384

noncomputable section

namespace Cert.FeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FeedForwardIdeal.Gen

variable {F : FTy → Type} [FloatOps F]

local notation "𝕄" => MT nD τ sig Unit (Elt F) ℕ (UR sig nD τ) ℕ

/-! The third launch of the feed-forward, its second product added to the input: what its body leaves in its output
    buffer, and the body's obligation at every grid point. -/

section body2

variable (c : Dev nD) (i : grid2.Coords) (arg2 : Memref sig .tc .vmem S512x8192 .bf16) (harg2 : arg2.IsWhole)
  (arg3 : Memref sig .tc .vmem S1x1x8192x512 .f32) (harg3 : arg3.IsWhole)
  (arg4 : Memref sig .tc .vmem S1x1x1x1x512 .f32) (harg4 : arg4.IsWhole)
  (arg5 : Memref sig .tc .vmem S512x512 .f32) (harg5 : arg5.IsWhole)
  (arg6 : Memref sig .tc .vmem S512x512 .f32) (harg6 : arg6.IsWhole)
  (x0 : Vec F S512x8192 .bf16) (x1 : Vec F S1x1x8192x512 .f32) (x2 : Vec F S1x1x1x1x512 .f32) (x3 : Vec F S512x512 .f32)

def kernelRun2 :
    { L : List (View.Piece (Elt F) S512x512 .f32) //
      ∀ (E : Set ℕ) (K : PUnit → sProp 𝕄),
        iprop(owns (c : Thread nD τ) arg2 fullShare x0 ∗ owns (c : Thread nD τ) arg3 fullShare x1
            ∗ owns (c : Thread nD τ) arg4 fullShare x2 ∗ owns (c : Thread nD τ) arg5 fullShare x3
            ∗ (∃ d, owns (c : Thread nD τ) arg6 fullShare d)
            ∗ (iprop(owns (c : Thread nD τ) arg2 fullShare x0 ∗ owns (c : Thread nD τ) arg3 fullShare x1
                ∗ owns (c : Thread nD τ) arg4 fullShare x2 ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc2_ffn_out i arg2 harg2 arg3 harg3 arg4 harg4 arg5 harg5 arg6 harg6) K } := by
  refine ⟨?_, fun E K => ?run⟩
  case run =>
    simp only [cc2_ffn_out_eq_skeleton]; unfold cc2_ffn_out_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0; obtain rfl := harg3.eq_unread hf1
    obtain rfl := harg4.eq_unread hf2; obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover2 (y : S512x512.Idx) :
    ∃ pc ∈ (kernelRun2 c i arg2 harg2 arg3 harg3 arg4 harg4 arg5 harg5 arg6 harg6 x0 x1 x2 x3).1, y ∈ pc.1.set :=
  View.cover_of_tiledL (kernelRun2 c i arg2 harg2 arg3 harg3 arg4 harg4 arg5 harg5 arg6 harg6 x0 x1 x2 x3).1
    S512x512.size (by sl_kernel_rfl) y

abbrev VO2 : View sig .tc .vmem S512x512 .f32 := (Memref.whole cc2_stg4_0 : Memref sig .tc .vmem S512x512 .f32).view

def out2 : Vec F S512x512 .f32 :=
  VO2.read (Elt F) (VO2.writes (Elt F) VO2.junk
    (kernelRun2 c i arg2 harg2 arg3 harg3 arg4 harg4 arg5 harg5 arg6 harg6 x0 x1 x2 x3).1)

end body2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S512x8192 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x8192x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1x1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)

def outsAt2 (c : Dev nD) (t : Fin cfg2.N) : Vec F S512x512 .f32 :=
  out2 c (grid2.coords t) (ms2_0 t) (hs2_0 t) (ms2_1 t) (hs2_1 t) (ms2_2 t) (hs2_2 t) (ms2_3 t) (hs2_3 t) (ms2_4 t) (hs2_4 t)
    (iblk2 V c 0 t) (iblk2 V c 1 t) (iblk2 V c 2 t) (iblk2 V c 3 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => (outsAt2 V c t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = outsAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => after2_0 V c t) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => after2_1 V c t) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => after2_2 V c t) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun t => after2_3 V c t) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  unfold outsAt2 out2
  iintro ⟨HΦ, Ho, ⟨%d0, H0⟩, ⟨%d1, H1⟩, ⟨%d2, H2⟩, ⟨%d3, H3⟩, ⟨%d4, H4⟩⟩
  iapply ((kernelRun2 c (grid2.coords t) _ _ _ _ _ _ _ _ _ _ (iblk2 V c 0 t) (iblk2 V c 1 t) (iblk2 V c 2 t) (iblk2 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover2 c _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.FeedForwardIdeal.Joined

end
-- ==== Proof.FeedForward.Whole.lean ====
module

public import proofs.«01_k».proof.Proof.FeedForward.Out
public import proofs.«01_k».proof.Proof.Launches

@[expose] public section

set_option maxRecDepth 16384

noncomputable section

namespace Cert.FeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FeedForwardIdeal.Gen
open Cert.Launches (𝒱₀ L lv R hseg mem_uc stepW stepW_arr stepW_of_ne stepW_of regOf last run_of)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The feed-forward as a whole: the gain cut out of its array, then the three launches, one after the other. -/

abbrev argRefs : List (Ref sig .tc) := [main_arg0, main_arg1, main_arg2, main_arg3, main_arg4]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev V1 : (c : Dev nD) → (b : Ref sig .tc) → Buf (Elt F) ((c : Thread nD τ).loc b) := fun c b => W1 m ρ c b
def W2 : Dev nD → Valuation τ sig (Elt F) := stepW (W1 m ρ) (dat0 (V1 m ρ))
abbrev V2 : (c : Dev nD) → (b : Ref sig .tc) → Buf (Elt F) ((c : Thread nD τ).loc b) := fun c b => W2 m ρ c b
def W3 : Dev nD → Valuation τ sig (Elt F) := stepW (W2 m ρ) (dat1 (V2 m ρ))
abbrev V3 : (c : Dev nD) → (b : Ref sig .tc) → Buf (Elt F) ((c : Thread nD τ).loc b) := fun c b => W3 m ρ c b
def W4 : Dev nD → Valuation τ sig (Elt F) := stepW (W3 m ρ) (dat2 (V3 m ρ))

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem sharedIn2 : Pipeline.SharedIn spec2 := by decide

theorem W1_args (c : Dev nD) : ∀ a ∈ argRefs, W1 m ρ c (Proc.devRef .tc a) = m ((c : Thread nD τ).loc a) :=
  fun a ha => W1_of m ρ c a (hostOps0_args a ha)
theorem W2_args (c : Dev nD) : ∀ a ∈ argRefs, W2 m ρ c (Proc.devRef .tc a) = m ((c : Thread nD τ).loc a) :=
  fun a ha => (stepW_of sharedIn0 _ (dat0 (V1 m ρ)) (A_eq0 (V1 m ρ)) c a (argsIn0 a ha)).trans (W1_args m ρ c a ha)
theorem W3_args (c : Dev nD) : ∀ a ∈ argRefs, W3 m ρ c (Proc.devRef .tc a) = m ((c : Thread nD τ).loc a) :=
  fun a ha => (stepW_of sharedIn1 _ (dat1 (V2 m ρ)) (A_eq1 (V2 m ρ)) c a (argsIn1 a ha)).trans (W2_args m ρ c a ha)
theorem W4_args (c : Dev nD) : ∀ a ∈ argRefs, W4 m ρ c (Proc.devRef .tc a) = m ((c : Thread nD τ).loc a) :=
  fun a ha => (stepW_of sharedIn2 _ (dat2 (V3 m ρ)) (A_eq2 (V3 m ρ)) c a (argsIn2 a ha)).trans (W3_args m ρ c a ha)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

def reg0 : Pipeline.RegionSeg (pcfgs (F := F)) adm (pdats m ρ) () defs₀ 𝒱₀ L lv 0 :=
  regOf cfgs defs₀ (pdats m ρ) 0 winFacts₀0 sharedIn0 block_pos0 arr_whole0 stage_whole0 (W1 m ρ) (W2 m ρ) (body_obligation0 (V1 m ρ))
    (fun _ _ => rfl) (fun _ _ => trivial) (fun _ _ => rfl) (fun _ _ => rfl) (A_eq0 (V1 m ρ))
    (fun c w => (stepW_arr sharedIn0 _ (dat0 (V1 m ρ)) (A_eq0 (V1 m ρ)) c w).symm)
    (fun c b hb => stepW_of_ne _ (dat0 (V1 m ρ)) c b fun w e => hb (Finset.mem_image.mpr ⟨w, Finset.mem_univ _, e⟩))
def reg1 : Pipeline.RegionSeg (pcfgs (F := F)) adm (pdats m ρ) () defs₀ 𝒱₀ L lv 1 :=
  regOf cfgs defs₀ (pdats m ρ) 1 winFacts₀1 sharedIn1 block_pos1 arr_whole1 stage_whole1 (W2 m ρ) (W3 m ρ) (body_obligation1 (V2 m ρ))
    (fun _ _ => rfl) (fun _ _ => trivial) (fun _ _ => rfl) (fun _ _ => rfl) (A_eq1 (V2 m ρ))
    (fun c w => (stepW_arr sharedIn1 _ (dat1 (V2 m ρ)) (A_eq1 (V2 m ρ)) c w).symm)
    (fun c b hb => stepW_of_ne _ (dat1 (V2 m ρ)) c b fun w e => hb (Finset.mem_image.mpr ⟨w, Finset.mem_univ _, e⟩))
def reg2 : Pipeline.RegionSeg (pcfgs (F := F)) adm (pdats m ρ) () defs₀ 𝒱₀ L lv 2 :=
  regOf cfgs defs₀ (pdats m ρ) 2 winFacts2.to₀ sharedIn2 block_pos2 arr_whole2 stage_whole2 (W3 m ρ) (W4 m ρ) (body_obligation2 (V3 m ρ))
    (fun _ _ => rfl) (fun _ _ => trivial) (fun _ _ => rfl) (fun _ _ => rfl) (A_eq2 (V3 m ρ))
    (fun c w => (stepW_arr sharedIn2 _ (dat2 (V3 m ρ)) (A_eq2 (V3 m ρ)) c w).symm)
    (fun c b hb => stepW_of_ne _ (dat2 (V3 m ρ)) c b fun w e => hb (Finset.mem_image.mpr ⟨w, Finset.mem_univ _, e⟩))

abbrev segs : List (Pipeline.Seg (pcfgs (F := F)) adm (pdats m ρ) () defs₀ 𝒱₀ L lv) :=
  [ .host (hseg cfgs defs₀ hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends; the arguments are as launched, the result is what the third launch's write-backs leave, and every
    counter is zero. -/
theorem run : θ_run defs (onTc (τ := τ) (main (F := F))) ⟨m, fun _ => 0, ρ⟩ (fun r => (∀ c : Dev nD,
      r.2.mem ((c.tc : Thread nD τ).loc main_v5) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c =>
    ⟨(h.1 c _ (mem_uc main_v5 (by decide))).trans (stepW_arr sharedIn2 _ (dat2 (V3 m ρ)) (A_eq2 (V3 m ρ)) c 4),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide))⟩, h.2⟩)
    (run_of cfgs defs₀ (pdats m ρ) cellOf_inj m ρ main (segs m ρ) (W0 m ρ) (W4 m ρ) (fun _ => rfl) (main_run m ρ)
      (by simp only [segs, Pipeline.Seg.pipes_host, Pipeline.Seg.pipes_region, Pipeline.Seg.pipes_nil]; decide)
      ⟨fun _ => .rfl, fun _ => .rfl, fun _ => .rfl, fun _ => .rfl, last _⟩ no_unscoped)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => (h.1 c).2, h.2⟩) (run m ρ)

end Cert.FeedForwardIdeal.Joined

end
-- ==== Proof.FeedForward.Stored.lean ====
module

public import proofs.«01_k».proof.Proof.FeedForward.Whole
public import proofs.«01_k».proof.Proof.Blocks

@[expose] public section

/-! What each launch's body leaves in its output buffer: the value it stores there, at the blocks it loads. -/

set_option maxRecDepth 65536

noncomputable section

namespace Cert.FeedForwardIdeal.Joined

open Idealize.ShloMosaic
open Idealize.ShloMosaic.TcCoe Idealize.ShloMosaic.Tactic
open Idealize.SL.Sem
open Cert.FeedForwardIdeal.Gen
open Cert.Blocks (ld_all emb_all read_of)

variable {F : FTy → Type} [FloatOps F]

theorem out0_eq (c : Dev nD) (i : grid0.Coords) (arg1 : Memref sig .tc .vmem S512x4096 .f32) (harg1 : arg1.IsWhole)
    (arg2 : Memref sig .tc .vmem S1x4096 .f32) (harg2 : arg2.IsWhole)
    (arg3 : Memref sig .tc .vmem S1x1x1x1x4096 .f32) (harg3 : arg3.IsWhole)
    (arg4 : Memref sig .tc .vmem S1x1x1x1x4096 .f32) (harg4 : arg4.IsWhole)
    (arg5 : Memref sig .tc .vmem S512x4096 .bf16) (harg5 : arg5.IsWhole)
    (x0 : Vec F S512x4096 .f32) (x1 : Vec F S1x4096 .f32) (x2 x3 : Vec F S1x1x1x1x4096 .f32) :
    out0 c i arg1 harg1 arg2 harg2 arg3 harg3 arg4 harg4 arg5 harg5 x0 x1 x2 x3 = k0_pay1 x0 x1 x3 x2 := by
  unfold out0
  refine read_of (cover0 c i arg1 harg1 arg2 harg2 arg3 harg3 arg4 harg4 arg5 harg5 x0 x1 x2 x3) (k0_pay1 x0 x1 x3 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide)]
  exact congrArg (k0_pay1 x0 x1 x3 x2) (emb_all (S := S512x4096) ![0, 0] _ (by decide) x).symm

theorem out1_eq (c : Dev nD) (i : grid1.Coords) (arg2 : Memref sig .tc .vmem S1024x4096 .bf16) (harg2 : arg2.IsWhole)
    (arg3 : Memref sig .tc .vmem S1x1x4096x512 .f32) (harg3 : arg3.IsWhole)
    (arg4 : Memref sig .tc .vmem S1x1x4096x512 .f32) (harg4 : arg4.IsWhole)
    (arg5 : Memref sig .tc .vmem S1024x512 .bf16) (harg5 : arg5.IsWhole)
    (x0 : Vec F S1024x4096 .bf16) (x1 x2 : Vec F S1x1x4096x512 .f32) :
    out1 c i arg2 harg2 arg3 harg3 arg4 harg4 arg5 harg5 x0 x1 x2 = k1_pay1 x0 x1 x2 := by
  unfold out1
  refine read_of (cover1 c i arg2 harg2 arg3 harg3 arg4 harg4 arg5 harg5 x0 x1 x2) (k1_pay1 x0 x1 x2) fun p hp x => ?_
  obtain rfl := List.mem_singleton.mp hp
  simp only [View.readAt_eq_ld, Memref.IsWhole.read_unread]
  rw [ld_all _ _ _ (by decide), ld_all _ _ _ (by decide), ld_all _ _ _ (by decide)]
  exact congrArg (k1_pay1 x0 x1 x2) (emb_all (S := S1024x512) ![0, 0] _ (by decide) x).symm

theorem out2_eq (c : Dev nD) (i : grid2.Coords) (arg2 : Memref sig .tc .vmem S512x8192 .bf16) (harg2 : arg2.IsWhole)
    (arg3 : Memref sig .tc .vmem S1x1x8192x512 .f32) (harg3 : arg3.IsWhole)
    (arg4 : Memref sig .tc .vmem S1x1x1x1x512 .f32) (harg4 : arg4.IsWhole)
    (arg5 : Memref sig .tc .vmem S512x512 .f32) (harg5 : arg5.IsWhole)
    (arg6 : Memref sig .tc .vmem S512x512 .f32) (harg6 : arg6.IsWhole)
    (x0 : Vec F S512x8192 .bf16) (x1 : Vec F S1x1x8192x512 .f32) (x2 : Vec F S1x1x1x1x512 .f32)
    (x3 : Vec F S512x512 .f32) :
    out2 c i arg2 harg2 arg3 harg3 arg4 harg4 arg5 harg5 arg6 harg6 x0 x1 x2 x3 = k2_pay1 x0 x1 x3 x2 := by
  unfold out2
  refine read_of (cover2 c i arg2 harg2 arg3 harg3 arg4 harg4 arg5 harg5 arg6 harg6 x0 x1 x2 x3) (k2_pay1 x0 x1 x3 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide)]
  exact congrArg (k2_pay1 x0 x1 x3 x2) (emb_all (S := S512x512) ![0, 0] _ (by decide) x).symm

end Cert.FeedForwardIdeal.Joined

end
-- ==== Proof.Maths.FeedForward.lean ====
module

public import Idealize.ShloMosaic.PureOps.Ideal

@[expose] public section

/-! The formulas of a feed-forward sub-layer: a row's norm with its modulation, the gate of the hidden layer, and the
    residual. The four numbers in them (the row's length, the norm's ε, one and one half) are the f32 words that both
    programs write. -/

noncomputable section

namespace Cert.Maths

open Idealize.ShloMosaic

/-- A row's entry over the root of the row's mean square, by the gain and by one more than the scale, and the shift. -/
def modulated (x : Fin 4096 → EReal) (gain scale shift : Fin 4096 → EReal) (j : Fin 4096) : EReal :=
  x j * Ideal.rsqrt (Ideal.div (∑ e, x e * x e) (Ideal.ofBits .f32 0x45800000#32) + Ideal.ofBits .f32 0x358637BD#32) * gain j
    * (Ideal.ofBits .f32 0x3F800000#32 + scale j) + shift j

/-- The gate: the first value by its logistic, by the second. -/
def gated (a b : EReal) : EReal :=
  a * Ideal.div (Ideal.ofBits .f32 0x3F800000#32) (Ideal.ofBits .f32 0x3F800000#32 + Ideal.exp (-a)) * b

/-- The half step: the entry and the half of the gate's share of the new value. -/
def stepped (x gate y : EReal) : EReal := x + Ideal.ofBits .f32 0x3F000000#32 * gate * y

/-- The image that a row belongs to: 2048 rows each. -/
def imageOf (i : Fin 8192) : Fin 8 := ⟨i.val / 2048, by omega⟩

/-- Column `k` of the hidden layer's first half of the weights, and of their second half. -/
def lowCol (k : Fin 8192) : Fin 16384 := ⟨k.val, by omega⟩
def highCol (k : Fin 8192) : Fin 16384 := ⟨8192 + k.val, by omega⟩

/-- The sub-layer's entry `(i, j)`: `x` the rows, `gain` the norm's, `scale`, `shift` and `gate` those of every image,
    `A` and `B` the two weights. -/
def feedForward (x : Fin 8192 → Fin 4096 → EReal) (gain : Fin 4096 → EReal) (scale shift gate : Fin 8 → Fin 4096 → EReal)
    (A : Fin 4096 → Fin 16384 → EReal) (B : Fin 8192 → Fin 4096 → EReal) (i : Fin 8192) (j : Fin 4096) : EReal :=
  stepped (x i j) (gate (imageOf i) j) (∑ k : Fin 8192,
    gated (∑ e, modulated (x i) gain (scale (imageOf i)) (shift (imageOf i)) e * A e (lowCol k))
      (∑ e, modulated (x i) gain (scale (imageOf i)) (shift (imageOf i)) e * A e (highCol k)) * B k j)

end Cert.Maths

end
-- ==== Proof.FeedForward.Values.lean ====
module

public import proofs.«01_k».proof.Proof.FeedForward.Stored
public import proofs.«01_k».proof.Proof.Maths.FeedForward
public import Idealize.ShloMosaic.Lib.Pointwise

@[expose] public section

/-! What one step of each launch stores, entry by entry. -/

set_option maxRecDepth 65536

noncomputable section

namespace Cert.FeedForwardIdeal.Joined

open Idealize.ShloMosaic hiding ix1 ix2 ix3 ix4 ix5
open Idealize.ShloMosaic.TcCoe Idealize.ShloMosaic.Tactic
open Idealize.SL.Sem
open Cert.FeedForwardIdeal.Gen
open Idealize.ShloMosaic.ValueIdx

theorem rsqrt_at {s : Shape} (x : FVec Ideal s .f32) (y : s.Idx) : rsqrt x y = Ideal.rsqrt (x y) := rfl
theorem exp_at {s : Shape} (x : FVec Ideal s .f32) (y : s.Idx) : exp x y = Ideal.exp (x y) := rfl
theorem splat_at {s : Shape} (w : BitVec 32) (y : s.Idx) :
    broadcast s (Scalar.ofBits (F := Ideal) .f32 w) y = Ideal.ofBits .f32 w := rfl

/-! ## The norm -/

/-- The sum of every row, as a column. -/
def rowSum (x : FVec Ideal S512x4096 .f32) : FVec Ideal S512x1 .f32 :=
  shapeCast S512x1 (multiReduction .add [1] S512 x 0x00000000#32 reduces_S512x4096_S512 (.inl rfl) rfl) shapeCasts_S512_S512x1

theorem rows_at (x : FVec Ideal S512x4096 .f32) (h : S512x4096.Reduces [1] S512) (hφ : FKind.Formats .f32) (hacc) (r : Fin 512) :
    multiReduction .add [1] S512 x 0x00000000#32 h hφ hacc (ix1 r) = ∑ e : Fin 4096, (x (ix2 r e) : EReal) := by
  rw [Ideal.multiReduction_add_single]
  refine Finset.sum_congr rfl fun e _ => congrArg x (funext fun c => Fin.ext ?_)
  fin_cases c <;> rfl

theorem rowSum_at (x : FVec Ideal S512x4096 .f32) (r : Fin 512) (z : Fin 1) :
    rowSum x (ix2 r z) = ∑ e : Fin 4096, (x (ix2 r e) : EReal) := by
  refine (shapeCast_apply _ _ (ix2 r z) (ix1 r) ?_).trans (rows_at x _ _ _ r)
  rw [Shape.rowMajor_val_one, Shape.rowMajor_val_two]
  have := z.isLt
  show r.val = r.val * 1 + z.val
  omega

theorem column_at (x : FVec Ideal S512x1 .f32) (r : Fin 512) (j : Fin 4096) :
    broadcastTo S512x4096 x broadcasts_S512x1_S512x4096 (ix2 r j) = x (ix2 r 0) := by
  refine broadcastTo_apply _ _ _ _ fun c => ?_
  fin_cases c <;> rfl

theorem row_at (x : FVec Ideal S1x4096 .f32) (r : Fin 512) (j : Fin 4096) :
    broadcastTo S512x4096 x broadcasts_S1x4096_S512x4096 (ix2 r j) = x (ix2 0 j) := by
  refine broadcastTo_apply _ _ _ _ fun c => ?_
  fin_cases c <;> rfl

theorem gain_at (x : FVec Ideal S1x4096 .f32) (z : Fin 1) (j : Fin 4096) :
    shapeCast (α := Ideal .f32) S1x4096 x shapeCasts_S1x4096_S1x4096 (ix2 z j) = x (ix2 z j) :=
  shapeCast_apply _ _ _ _ rfl

theorem mod_at (x : FVec Ideal S1x1x1x1x4096 .f32) (j : Fin 4096) :
    shapeCast (α := Ideal .f32) S1x4096 x shapeCasts_S1x1x1x1x4096_S1x4096 (ix2 0 j) = x (ix5 0 0 0 0 j) := by
  refine shapeCast_apply _ _ _ _ ?_
  rw [Shape.rowMajor_val_two, Shape.rowMajor_val_five]
  show (((0 * 1 + 0) * 1 + 0) * 1 + 0) * 4096 + j.val = 0 * 4096 + j.val
  omega

theorem pay0_at (x : Vec Ideal S512x4096 .f32) (g : Vec Ideal S1x4096 .f32) (scale shift : Vec Ideal S1x1x1x1x4096 .f32)
    (r : Fin 512) (j : Fin 4096) :
    k0_pay1 x g scale shift (ix2 r j)
      = Maths.modulated (fun e => x (ix2 r e)) (fun e => g (ix2 0 e)) (fun e => scale (ix5 0 0 0 0 e))
          (fun e => shift (ix5 0 0 0 0 e)) j := by
  refine Eq.trans (b := truncf (F := Ideal) .bf16 (addf (mulf (mulf (mulf x (broadcastTo S512x4096 (rsqrt (addf (divf
      (rowSum (mulf x x)) (broadcast S512x1 (Scalar.ofBits .f32 0x45800000#32)))
      (broadcast S512x1 (Scalar.ofBits .f32 0x358637BD#32)))) broadcasts_S512x1_S512x4096))
      (broadcastTo S512x4096 (shapeCast S1x4096 g shapeCasts_S1x4096_S1x4096) broadcasts_S1x4096_S512x4096))
      (broadcastTo S512x4096 (addf (broadcast S1x4096 (Scalar.ofBits .f32 0x3F800000#32))
        (shapeCast S1x4096 scale shapeCasts_S1x1x1x1x4096_S1x4096)) broadcasts_S1x4096_S512x4096))
      (broadcastTo S512x4096 (shapeCast S1x4096 shift shapeCasts_S1x1x1x1x4096_S1x4096) broadcasts_S1x4096_S512x4096))
      bitsLt_bf16_f32 (ix2 r j)) (by sl_kernel_rfl) ?_
  unfold Maths.modulated
  simp only [truncf_apply, addf_apply, mulf_apply, divf_apply, row_at, column_at, rowSum_at, rsqrt_at, gain_at, mod_at, splat_at]

/-! ## The hidden layer -/

theorem inDot_at (h : FVec Ideal S1024x4096 .bf16) (w : FVec Ideal S4096x512 .bf16) (r : Fin 1024) (j : Fin 512) :
    matmul dot_S1024x4096_S4096x512_S1024x512_1_0_0_1_n_n none h w (constant S1024x512 .f32 0x00000000#32) (ix2 r j)
      = ∑ e : Fin 4096, (h (ix2 r e) : EReal) * w (ix2 e j) := by
  refine (Ideal.matmul_apply₁_of dot_S1024x4096_S4096x512_S1024x512_1_0_0_1_n_n rfl rfl h w _ (ix2 r j)
    (fun e => ix2 r e) (fun e => ix2 e j) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem inRows_at (h : FVec Ideal S1024x4096 .bf16) (r : Fin 1024) (e : Fin 4096) :
    shapeCast (α := Ideal .bf16) S1024x4096 h shapeCasts_S1024x4096_S1024x4096 (ix2 r e) = h (ix2 r e) :=
  shapeCast_apply _ _ _ _ rfl

theorem inCols_at (w : FVec Ideal S1x1x4096x512 .f32) (e : Fin 4096) (j : Fin 512) :
    shapeCast (α := Ideal .f32) S4096x512 w shapeCasts_S1x1x4096x512_S4096x512 (ix2 e j) = w (ix4 0 0 e j) := by
  refine shapeCast_apply _ _ _ _ ?_
  rw [Shape.rowMajor_val_two, Shape.rowMajor_val_four]
  show ((0 * 1 + 0) * 4096 + e.val) * 512 + j.val = e.val * 512 + j.val
  omega

/-- One product of the hidden layer, on the block's columns. -/
def inProduct (h : Vec Ideal S1024x4096 .bf16) (w : Vec Ideal S1x1x4096x512 .f32) : FVec Ideal S1024x512 .f32 :=
  matmul (φ₁ := .bf16) (φ₂ := .bf16) dot_S1024x4096_S4096x512_S1024x512_1_0_0_1_n_n none
    (shapeCast S1024x4096 h shapeCasts_S1024x4096_S1024x4096)
    (truncf .bf16 (shapeCast S4096x512 w shapeCasts_S1x1x4096x512_S4096x512) bitsLt_bf16_f32)
    (constant S1024x512 .f32 0x00000000#32)

theorem inProduct_at (h : Vec Ideal S1024x4096 .bf16) (w : Vec Ideal S1x1x4096x512 .f32) (r : Fin 1024) (j : Fin 512) :
    inProduct h w (ix2 r j) = ∑ e : Fin 4096, (h (ix2 r e) : EReal) * w (ix4 0 0 e j) := by
  unfold inProduct
  rw [inDot_at]
  exact Finset.sum_congr rfl fun e _ => by rw [truncf_apply, inRows_at, inCols_at]

theorem pay1_at (h : Vec Ideal S1024x4096 .bf16) (wa wb : Vec Ideal S1x1x4096x512 .f32) (r : Fin 1024) (j : Fin 512) :
    k1_pay1 h wa wb (ix2 r j)
      = Maths.gated (∑ e : Fin 4096, (h (ix2 r e) : EReal) * wa (ix4 0 0 e j))
          (∑ e : Fin 4096, (h (ix2 r e) : EReal) * wb (ix4 0 0 e j)) := by
  refine Eq.trans (b := truncf (F := Ideal) .bf16 (mulf (mulf (inProduct h wa)
      (divf (broadcast S1024x512 (Scalar.ofBits .f32 0x3F800000#32)) (addf (broadcast S1024x512 (Scalar.ofBits .f32 0x3F800000#32))
        (exp (subf (broadcast S1024x512 (Scalar.ofBits .f32 0x00000000#32)) (inProduct h wa))))))
      (inProduct h wb)) bitsLt_bf16_f32 (ix2 r j)) (by sl_kernel_rfl) ?_
  unfold Maths.gated
  simp only [truncf_apply, addf_apply, subf_apply, mulf_apply, divf_apply, exp_at, splat_at, inProduct_at]
  rw [Ideal.ofBits_zero_f32, zero_sub]

/-! ## The residual -/

theorem outDot_at (h : FVec Ideal S512x8192 .bf16) (w : FVec Ideal S8192x512 .bf16) (r : Fin 512) (j : Fin 512) :
    matmul dot_S512x8192_S8192x512_S512x512_1_0_0_1_n_n none h w (constant S512x512 .f32 0x00000000#32) (ix2 r j)
      = ∑ e : Fin 8192, (h (ix2 r e) : EReal) * w (ix2 e j) := by
  refine (Ideal.matmul_apply₁_of dot_S512x8192_S8192x512_S512x512_1_0_0_1_n_n rfl rfl h w _ (ix2 r j)
    (fun e => ix2 r e) (fun e => ix2 e j) ?_ ?_).trans ?_
  · intro e; funext x; refine Fin.ext ?_; fin_cases x <;> rfl
  · intro e; funext x; refine Fin.ext ?_; fin_cases x <;> rfl
  · rw [constant_apply]; exact (congrArg (· + _) Ideal.ofBits_zero_f32).trans (zero_add _)

theorem outRows_at (h : FVec Ideal S512x8192 .bf16) (r : Fin 512) (e : Fin 8192) :
    shapeCast (α := Ideal .bf16) S512x8192 h shapeCasts_S512x8192_S512x8192 (ix2 r e) = h (ix2 r e) :=
  shapeCast_apply _ _ _ _ rfl

theorem outCols_at (w : FVec Ideal S1x1x8192x512 .f32) (e : Fin 8192) (j : Fin 512) :
    shapeCast (α := Ideal .f32) S8192x512 w shapeCasts_S1x1x8192x512_S8192x512 (ix2 e j) = w (ix4 0 0 e j) := by
  refine shapeCast_apply _ _ _ _ ?_
  rw [Shape.rowMajor_val_two, Shape.rowMajor_val_four]
  show ((0 * 1 + 0) * 8192 + e.val) * 512 + j.val = e.val * 512 + j.val
  omega

theorem gate_at (x : FVec Ideal S1x1x1x1x512 .f32) (j : Fin 512) :
    shapeCast (α := Ideal .f32) S1x512 x shapeCasts_S1x1x1x1x512_S1x512 (ix2 0 j) = x (ix5 0 0 0 0 j) := by
  refine shapeCast_apply _ _ _ _ ?_
  rw [Shape.rowMajor_val_two, Shape.rowMajor_val_five]
  show (((0 * 1 + 0) * 1 + 0) * 1 + 0) * 512 + j.val = 0 * 512 + j.val
  omega

theorem gateRow_at (x : FVec Ideal S1x512 .f32) (r : Fin 512) (j : Fin 512) :
    broadcastTo S512x512 x broadcasts_S1x512_S512x512 (ix2 r j) = x (ix2 0 j) := by
  refine broadcastTo_apply _ _ _ _ fun c => ?_
  fin_cases c <;> rfl

theorem pay2_at (h : Vec Ideal S512x8192 .bf16) (w : Vec Ideal S1x1x8192x512 .f32) (x : Vec Ideal S512x512 .f32)
    (gate : Vec Ideal S1x1x1x1x512 .f32) (r : Fin 512) (j : Fin 512) :
    k2_pay1 h w x gate (ix2 r j)
      = Maths.stepped (x (ix2 r j)) (gate (ix5 0 0 0 0 j)) (∑ e : Fin 8192, (h (ix2 r e) : EReal) * w (ix4 0 0 e j)) := by
  refine Eq.trans (b := addf (F := Ideal) x (mulf (broadcastTo S512x512 (mulf (broadcast S1x512 (Scalar.ofBits .f32 0x3F000000#32))
      (shapeCast S1x512 gate shapeCasts_S1x1x1x1x512_S1x512)) broadcasts_S1x512_S512x512)
      (matmul (φ₁ := .bf16) (φ₂ := .bf16) dot_S512x8192_S8192x512_S512x512_1_0_0_1_n_n none
        (shapeCast S512x8192 h shapeCasts_S512x8192_S512x8192)
        (truncf .bf16 (shapeCast S8192x512 w shapeCasts_S1x1x8192x512_S8192x512) bitsLt_bf16_f32)
        (constant S512x512 .f32 0x00000000#32))) (ix2 r j)) (by sl_kernel_rfl) ?_
  unfold Maths.stepped
  simp only [addf_apply, mulf_apply, gateRow_at, gate_at, splat_at, outDot_at, truncf_apply, outRows_at, outCols_at]

end Cert.FeedForwardIdeal.Joined

end
-- ==== Proof.FeedForward.Arrays.lean ====
module

public import proofs.«01_k».proof.Proof.FeedForward.Values
public import proofs.«01_k».proof.Proof.Blocks

@[expose] public section

/-! The array that each launch leaves, entry by entry, from the arrays it finds: the blocks of every step are read at
    their places in the whole arrays. -/

set_option maxRecDepth 65536

noncomputable section

namespace Cert.FeedForwardIdeal.Joined

open Idealize.ShloMosaic hiding ix1 ix2 ix3 ix4 ix5
open Idealize.ShloMosaic.TcCoe Idealize.ShloMosaic.Tactic
open Idealize.SL.Sem
open Cert.FeedForwardIdeal.Gen
open Cert.Blocks (place)
open Idealize.ShloMosaic.ValueIdx

variable (V : (c : Dev nD) → (b : Ref sig .tc) → Buf (Elt Ideal) ((c : Thread nD τ).loc b))

/-! ## The norm: step `t` works on rows `512 t …` -/

def normRow (t : Fin cfg0.N) (r : Fin 512) : Fin 8192 := ⟨512 * t.val + r.val, by have : t.val < 16 := t.isLt; omega⟩

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![1, t.val / 4, 6, 0, 0] := by decide +kernel
theorem index0_3 : ∀ t : Fin grid0.N, win0_3.index t = ![1, t.val / 4, 7, 0, 0] := by decide +kernel
theorem index0_4 : ∀ t : Fin grid0.N, win0_4.index t = ![t.val, 0] := by decide +kernel

theorem iblk0_0_at (c : Dev nD) (t : Fin cfg0.N) (r : Fin 512) (e : Fin 4096) :
    iblk0 V c 0 t (ix2 r e) = V c main_arg0 (ix2 (normRow t r) e) := by
  unfold iblk0
  refine congrArg (V c main_arg0) (place win0_0 rfl (index0_0 t) fun a => ?_)
  match a with
  | ⟨0, _⟩ => show t.val * 512 + 1 * r.val = 512 * t.val + r.val; omega
  | ⟨1, _⟩ => show 0 * 4096 + 1 * e.val = e.val; omega

theorem iblk0_1_at (c : Dev nD) (t : Fin cfg0.N) (e : Fin 4096) :
    iblk0 V c 1 t (ix2 0 e) = V c main_v2 (ix2 0 e) := by
  unfold iblk0
  refine congrArg (V c main_v2) (place win0_1 rfl (index0_1 t) fun a => ?_)
  match a with
  | ⟨0, _⟩ => rfl
  | ⟨1, _⟩ => show 0 * 4096 + 1 * e.val = e.val; omega

theorem iblk0_2_at (c : Dev nD) (t : Fin cfg0.N) (r : Fin 512) (e : Fin 4096) :
    iblk0 V c 2 t (ix5 0 0 0 0 e) = V c main_arg1 (ix5 1 (Maths.imageOf (normRow t r)) 6 0 e) := by
  unfold iblk0
  have := r.isLt
  refine congrArg (V c main_arg1) (place win0_2 rfl (index0_2 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

theorem iblk0_3_at (c : Dev nD) (t : Fin cfg0.N) (r : Fin 512) (e : Fin 4096) :
    iblk0 V c 3 t (ix5 0 0 0 0 e) = V c main_arg1 (ix5 1 (Maths.imageOf (normRow t r)) 7 0 e) := by
  unfold iblk0
  have := r.isLt
  refine congrArg (V c main_arg1) (place win0_3 rfl (index0_3 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

/-- The modulated rows. -/
def normArray (x : S8192x4096.Idx → EReal) (g : S1x4096.Idx → EReal) (M : S2x8x9x1x4096.Idx → EReal) (y : S8192x4096.Idx) : EReal :=
  Maths.modulated (fun e => x (ix2 (y 0) e)) (fun e => g (ix2 0 e)) (fun e => M (ix5 1 (Maths.imageOf (y 0)) 7 0 e))
    (fun e => M (ix5 1 (Maths.imageOf (y 0)) 6 0 e)) (y 1)

theorem outsAt0_at (c : Dev nD) (t : Fin cfg0.N) (r : Fin 512) (j : Fin 4096) :
    outsAt0 V c t (ix2 r j) = normArray (V c main_arg0) (V c main_v2) (V c main_arg1) (ix2 (normRow t r) j) := by
  unfold outsAt0
  rw [out0_eq, pay0_at]
  show _ = Maths.modulated _ _ _ _ j
  congr 1
  · funext e; exact iblk0_0_at V c t r e
  · funext e; exact iblk0_1_at V c t e
  · funext e; exact iblk0_3_at V c t r e
  · funext e; exact iblk0_2_at V c t r e

theorem emb0_4 (t : Fin cfg0.N) (y : S512x4096.Idx) : (win0_4.rect t).emb y = ix2 (normRow t (y 0)) (y 1) :=
  place win0_4 rfl (index0_4 t) fun a => by
    match a with
    | ⟨0, _⟩ => show t.val * 512 + 1 * (y 0).val = 512 * t.val + (y 0).val; omega
    | ⟨1, _⟩ => show 0 * 4096 + 1 * (y 1).val = (y 1).val; omega

theorem arr0_4 (c : Dev nD) :
    (dat0 V c).arrAt 4 cfg0.N = normArray (V c main_arg0) (V c main_v2) (V c main_arg1) := by
  refine (dat0 V c).arrAt_eq_of_covers 4 _ (by decide +kernel) fun t hf y => ?_
  rw [after0_4]
  refine Eq.trans (b := outsAt0 V c t y) (by sl_kernel_rfl) (((congrArg (outsAt0 V c t) (ValueIdx.eq_ix2 y)).trans
    (outsAt0_at V c t (y 0) (y 1))).trans ?_)
  exact congrArg (normArray (V c main_arg0) (V c main_v2) (V c main_arg1))
    ((emb0_4 t y).symm.trans (show (win0_4.rect t).emb y = ((cfg0.win 4).blk t).view.emb y from rfl))

/-! ## The hidden layer: step `t` works on rows `1024 (t mod 8) …` and columns `512 (t / 8) …` -/

def inRow (t : Fin cfg1.N) (r : Fin 1024) : Fin 8192 := ⟨1024 * (t.val % 8) + r.val, by omega⟩
def inCol (t : Fin cfg1.N) (j : Fin 512) : Fin 8192 := ⟨512 * (t.val / 8) + j.val, by have : t.val < 128 := t.isLt; omega⟩

theorem index1_0 : ∀ t : Fin grid1.N, win1_0.index t = ![t.val % 8, 0] := by decide +kernel
theorem index1_1 : ∀ t : Fin grid1.N, win1_1.index t = ![1, 1, 0, t.val / 8] := by decide +kernel
theorem index1_2 : ∀ t : Fin grid1.N, win1_2.index t = ![1, 1, 0, t.val / 8 + 16] := by decide +kernel
theorem index1_3 : ∀ t : Fin grid1.N, win1_3.index t = ![t.val % 8, t.val / 8] := by decide +kernel

theorem iblk1_0_at (c : Dev nD) (t : Fin cfg1.N) (r : Fin 1024) (e : Fin 4096) :
    iblk1 V c 0 t (ix2 r e) = V c main_v3 (ix2 (inRow t r) e) := by
  unfold iblk1
  refine congrArg (V c main_v3) (place win1_0 rfl (index1_0 t) fun a => ?_)
  match a with
  | ⟨0, _⟩ => show t.val % 8 * 1024 + 1 * r.val = 1024 * (t.val % 8) + r.val; omega
  | ⟨1, _⟩ => show 0 * 4096 + 1 * e.val = e.val; omega

theorem iblk1_1_at (c : Dev nD) (t : Fin cfg1.N) (e : Fin 4096) (j : Fin 512) :
    iblk1 V c 1 t (ix4 0 0 e j) = V c main_arg3 (ix4 1 1 e (Maths.lowCol (inCol t j))) := by
  unfold iblk1
  refine congrArg (V c main_arg3) (place win1_1 rfl (index1_1 t) fun a => ?_)
  match a with
  | ⟨0, _⟩ => rfl
  | ⟨1, _⟩ => rfl
  | ⟨2, _⟩ => show 0 * 4096 + 1 * e.val = e.val; omega
  | ⟨3, _⟩ => show t.val / 8 * 512 + 1 * j.val = 512 * (t.val / 8) + j.val; omega

theorem iblk1_2_at (c : Dev nD) (t : Fin cfg1.N) (e : Fin 4096) (j : Fin 512) :
    iblk1 V c 2 t (ix4 0 0 e j) = V c main_arg3 (ix4 1 1 e (Maths.highCol (inCol t j))) := by
  unfold iblk1
  refine congrArg (V c main_arg3) (place win1_2 rfl (index1_2 t) fun a => ?_)
  match a with
  | ⟨0, _⟩ => rfl
  | ⟨1, _⟩ => rfl
  | ⟨2, _⟩ => show 0 * 4096 + 1 * e.val = e.val; omega
  | ⟨3, _⟩ => show (t.val / 8 + 16) * 512 + 1 * j.val = 8192 + (512 * (t.val / 8) + j.val); omega

/-- The gated rows. -/
def hiddenArray (h : S8192x4096.Idx → EReal) (A : S2x2x4096x16384.Idx → EReal) (y : S8192x8192.Idx) : EReal :=
  Maths.gated (∑ e : Fin 4096, h (ix2 (y 0) e) * A (ix4 1 1 e (Maths.lowCol (y 1))))
    (∑ e : Fin 4096, h (ix2 (y 0) e) * A (ix4 1 1 e (Maths.highCol (y 1))))

theorem outsAt1_at (c : Dev nD) (t : Fin cfg1.N) (r : Fin 1024) (j : Fin 512) :
    outsAt1 V c t (ix2 r j) = hiddenArray (V c main_v3) (V c main_arg3) (ix2 (inRow t r) (inCol t j)) := by
  unfold outsAt1
  rw [out1_eq, pay1_at]
  show _ = Maths.gated _ _
  congr 1
  · exact Finset.sum_congr rfl fun e _ => congrArg₂ (· * ·) (iblk1_0_at V c t r e) (iblk1_1_at V c t e j)
  · exact Finset.sum_congr rfl fun e _ => congrArg₂ (· * ·) (iblk1_0_at V c t r e) (iblk1_2_at V c t e j)

theorem emb1_3 (t : Fin cfg1.N) (y : S1024x512.Idx) : (win1_3.rect t).emb y = ix2 (inRow t (y 0)) (inCol t (y 1)) :=
  place win1_3 rfl (index1_3 t) fun a => by
    match a with
    | ⟨0, _⟩ => show t.val % 8 * 1024 + 1 * (y 0).val = 1024 * (t.val % 8) + (y 0).val; omega
    | ⟨1, _⟩ => show t.val / 8 * 512 + 1 * (y 1).val = 512 * (t.val / 8) + (y 1).val; omega

theorem arr1_3 (c : Dev nD) : (dat1 V c).arrAt 3 cfg1.N = hiddenArray (V c main_v3) (V c main_arg3) := by
  refine (dat1 V c).arrAt_eq_of_covers 3 _ (by decide +kernel) fun t hf y => ?_
  rw [after1_3]
  refine Eq.trans (b := outsAt1 V c t y) (by sl_kernel_rfl) (((congrArg (outsAt1 V c t) (ValueIdx.eq_ix2 y)).trans
    (outsAt1_at V c t (y 0) (y 1))).trans ?_)
  exact congrArg (hiddenArray (V c main_v3) (V c main_arg3))
    ((emb1_3 t y).symm.trans (show (win1_3.rect t).emb y = ((cfg1.win 3).blk t).view.emb y from rfl))

/-! ## The residual: step `t` works on rows `512 (t mod 16) …` and columns `512 (t / 16) …` -/

def outRow (t : Fin cfg2.N) (r : Fin 512) : Fin 8192 := ⟨512 * (t.val % 16) + r.val, by omega⟩
def outCol (t : Fin cfg2.N) (j : Fin 512) : Fin 4096 := ⟨512 * (t.val / 16) + j.val, by have : t.val < 128 := t.isLt; omega⟩

theorem index2_0 : ∀ t : Fin grid2.N, win2_0.index t = ![t.val % 16, 0] := by decide +kernel
theorem index2_1 : ∀ t : Fin grid2.N, win2_1.index t = ![1, 1, 0, t.val / 16] := by decide +kernel
theorem index2_2 : ∀ t : Fin grid2.N, win2_2.index t = ![1, t.val % 16 / 4, 8, 0, t.val / 16] := by decide +kernel
theorem index2_3 : ∀ t : Fin grid2.N, win2_3.index t = ![t.val % 16, t.val / 16] := by decide +kernel
theorem index2_4 : ∀ t : Fin grid2.N, win2_4.index t = ![t.val % 16, t.val / 16] := by decide +kernel

theorem iblk2_0_at (c : Dev nD) (t : Fin cfg2.N) (r : Fin 512) (e : Fin 8192) :
    iblk2 V c 0 t (ix2 r e) = V c main_v4 (ix2 (outRow t r) e) := by
  unfold iblk2
  refine congrArg (V c main_v4) (place win2_0 rfl (index2_0 t) fun a => ?_)
  match a with
  | ⟨0, _⟩ => show t.val % 16 * 512 + 1 * r.val = 512 * (t.val % 16) + r.val; omega
  | ⟨1, _⟩ => show 0 * 8192 + 1 * e.val = e.val; omega

theorem iblk2_1_at (c : Dev nD) (t : Fin cfg2.N) (e : Fin 8192) (j : Fin 512) :
    iblk2 V c 1 t (ix4 0 0 e j) = V c main_arg4 (ix4 1 1 e (outCol t j)) := by
  unfold iblk2
  refine congrArg (V c main_arg4) (place win2_1 rfl (index2_1 t) fun a => ?_)
  match a with
  | ⟨0, _⟩ => rfl
  | ⟨1, _⟩ => rfl
  | ⟨2, _⟩ => show 0 * 8192 + 1 * e.val = e.val; omega
  | ⟨3, _⟩ => show t.val / 16 * 512 + 1 * j.val = 512 * (t.val / 16) + j.val; omega

theorem iblk2_2_at (c : Dev nD) (t : Fin cfg2.N) (r : Fin 512) (j : Fin 512) :
    iblk2 V c 2 t (ix5 0 0 0 0 j) = V c main_arg1 (ix5 1 (Maths.imageOf (outRow t r)) 8 0 (outCol t j)) := by
  unfold iblk2
  have := r.isLt
  refine congrArg (V c main_arg1) (place win2_2 rfl (index2_2 t) fun a => ?_)
  match a with
  | ⟨0, _⟩ => rfl
  | ⟨1, _⟩ => show t.val % 16 / 4 * 1 + 1 * 0 = (512 * (t.val % 16) + r.val) / 2048; omega
  | ⟨2, _⟩ => rfl
  | ⟨3, _⟩ => rfl
  | ⟨4, _⟩ => show t.val / 16 * 512 + 1 * j.val = 512 * (t.val / 16) + j.val; omega

theorem iblk2_3_at (c : Dev nD) (t : Fin cfg2.N) (r : Fin 512) (j : Fin 512) :
    iblk2 V c 3 t (ix2 r j) = V c main_arg0 (ix2 (outRow t r) (outCol t j)) := by
  unfold iblk2
  refine congrArg (V c main_arg0) (place win2_3 rfl (index2_3 t) fun a => ?_)
  match a with
  | ⟨0, _⟩ => show t.val % 16 * 512 + 1 * r.val = 512 * (t.val % 16) + r.val; omega
  | ⟨1, _⟩ => show t.val / 16 * 512 + 1 * j.val = 512 * (t.val / 16) + j.val; omega

/-- The rows with the half step added. -/
def steppedArray (x : S8192x4096.Idx → EReal) (h : S8192x8192.Idx → EReal) (M : S2x8x9x1x4096.Idx → EReal)
    (B : S2x2x8192x4096.Idx → EReal) (y : S8192x4096.Idx) : EReal :=
  Maths.stepped (x (ix2 (y 0) (y 1))) (M (ix5 1 (Maths.imageOf (y 0)) 8 0 (y 1)))
    (∑ e : Fin 8192, h (ix2 (y 0) e) * B (ix4 1 1 e (y 1)))

theorem outsAt2_at (c : Dev nD) (t : Fin cfg2.N) (r : Fin 512) (j : Fin 512) :
    outsAt2 V c t (ix2 r j)
      = steppedArray (V c main_arg0) (V c main_v4) (V c main_arg1) (V c main_arg4) (ix2 (outRow t r) (outCol t j)) := by
  unfold outsAt2
  rw [out2_eq, pay2_at]
  show _ = Maths.stepped _ _ _
  congr 1
  · exact iblk2_3_at V c t r j
  · exact iblk2_2_at V c t r j
  · exact Finset.sum_congr rfl fun e _ => congrArg₂ (· * ·) (iblk2_0_at V c t r e) (iblk2_1_at V c t e j)

theorem emb2_4 (t : Fin cfg2.N) (y : S512x512.Idx) : (win2_4.rect t).emb y = ix2 (outRow t (y 0)) (outCol t (y 1)) :=
  place win2_4 rfl (index2_4 t) fun a => by
    match a with
    | ⟨0, _⟩ => show t.val % 16 * 512 + 1 * (y 0).val = 512 * (t.val % 16) + (y 0).val; omega
    | ⟨1, _⟩ => show t.val / 16 * 512 + 1 * (y 1).val = 512 * (t.val / 16) + (y 1).val; omega

theorem arr2_4 (c : Dev nD) :
    (dat2 V c).arrAt 4 cfg2.N = steppedArray (V c main_arg0) (V c main_v4) (V c main_arg1) (V c main_arg4) := by
  refine (dat2 V c).arrAt_eq_of_covers 4 _ (by decide +kernel) fun t hf y => ?_
  rw [after2_4]
  refine Eq.trans (b := outsAt2 V c t y) (by sl_kernel_rfl) (((congrArg (outsAt2 V c t) (ValueIdx.eq_ix2 y)).trans
    (outsAt2_at V c t (y 0) (y 1))).trans ?_)
  exact congrArg (steppedArray (V c main_arg0) (V c main_v4) (V c main_arg1) (V c main_arg4))
    ((emb2_4 t y).symm.trans (show (win2_4.rect t).emb y = ((cfg2.win 4).blk t).view.emb y from rfl))

end Cert.FeedForwardIdeal.Joined

end
-- ==== Proof.FeedForward.Result.lean ====
module

public import proofs.«01_k».proof.Proof.FeedForward.Arrays

@[expose] public section

/-! The array that the three launches leave together, from the arguments as launched. -/

set_option maxRecDepth 65536

noncomputable section

namespace Cert.FeedForwardIdeal.Joined

open Idealize.ShloMosaic hiding ix1 ix2 ix3 ix4 ix5
open Idealize.ShloMosaic.TcCoe Idealize.ShloMosaic.Tactic
open Idealize.SL.Sem
open Cert.FeedForwardIdeal.Gen
open Cert.Launches (stepW_arr stepW_of_ne stepW_of)
open Idealize.ShloMosaic.ValueIdx

variable (m : (ℓ : Loc nD τ sig) → Buf (Elt Ideal) ℓ) (ρ : Dev nD → PrngReg)

/-- The gain's row: entry `(1, 2)` of the norms' gains. -/
theorem gain_row (c : Dev nD) (e : Fin 4096) :
    V1 m ρ c main_v2 (ix2 0 e) = m ((c : Thread nD τ).loc main_arg2) (ix3 1 2 e) := by
  have h : V1 m ρ c main_v2
      = shapeCast S1x4096 (shapeCast S4096 (extractStridedSlice S1x1x4096 ![1, 2, 0] (m ((c : Thread nD τ).loc main_arg2))
          slices_S2x3x4096_S1x1x4096_1_2_0) shapeCasts_S1x1x4096_S4096) shapeCasts_S4096_S1x4096 := by
    show StableHlo.after hostOps0 (W0 m ρ c) (Proc.devRef .tc main_v2) = _
    rw [StableHlo.after_cons, StableHlo.after_cons, StableHlo.after_cons, StableHlo.after_nil, StableHlo.reshape_result,
      StableHlo.reshape_result]
    rfl
  rw [h]
  refine (shapeCast_apply _ _ (ix2 0 e) (ix1 e) ?_).trans ((shapeCast_apply _ _ (ix1 e) (ix3 0 0 e) ?_).trans
    (extractStridedSlice_apply _ _ _ _ (ix3 1 2 e) fun a => ?_))
  · rw [Shape.rowMajor_val_one, Shape.rowMajor_val_two]; show e.val = 0 * 4096 + e.val; omega
  · rw [Shape.rowMajor_val_one, Shape.rowMajor_val_three]; show (0 * 1 + 0) * 4096 + e.val = e.val; omega
  · match a with
    | ⟨0, _⟩ => rfl
    | ⟨1, _⟩ => rfl
    | ⟨2, _⟩ => show e.val = 0 + e.val; omega

/-- The result's entry `(i, j)`. -/
theorem result_at (c : Dev nD) (i : Fin 8192) (j : Fin 4096) :
    (dat2 (V3 m ρ) c).arrAt 4 cfg2.N (ix2 i j)
      = Maths.feedForward (fun a e => m ((c : Thread nD τ).loc main_arg0) (ix2 a e))
          (fun e => m ((c : Thread nD τ).loc main_arg2) (ix3 1 2 e))
          (fun b e => m ((c : Thread nD τ).loc main_arg1) (ix5 1 b 7 0 e))
          (fun b e => m ((c : Thread nD τ).loc main_arg1) (ix5 1 b 6 0 e))
          (fun b e => m ((c : Thread nD τ).loc main_arg1) (ix5 1 b 8 0 e))
          (fun e k => m ((c : Thread nD τ).loc main_arg3) (ix4 1 1 e k))
          (fun k e => m ((c : Thread nD τ).loc main_arg4) (ix4 1 1 k e)) i j := by
  have n0 : V1 m ρ c main_arg0 = m ((c : Thread nD τ).loc main_arg0) := W1_args m ρ c _ (by decide)
  have n1 : V1 m ρ c main_arg1 = m ((c : Thread nD τ).loc main_arg1) := W1_args m ρ c _ (by decide)
  have h3 : V2 m ρ c main_arg3 = m ((c : Thread nD τ).loc main_arg3) := W2_args m ρ c _ (by decide)
  have o0 : V3 m ρ c main_arg0 = m ((c : Thread nD τ).loc main_arg0) := W3_args m ρ c _ (by decide)
  have o1 : V3 m ρ c main_arg1 = m ((c : Thread nD τ).loc main_arg1) := W3_args m ρ c _ (by decide)
  have o4 : V3 m ρ c main_arg4 = m ((c : Thread nD τ).loc main_arg4) := W3_args m ρ c _ (by decide)
  have v3 : V2 m ρ c main_v3 = normArray (V1 m ρ c main_arg0) (V1 m ρ c main_v2) (V1 m ρ c main_arg1) :=
    (stepW_arr sharedIn0 _ (dat0 (V1 m ρ)) (A_eq0 (V1 m ρ)) c 4).trans (arr0_4 (V1 m ρ) c)
  have v4 : V3 m ρ c main_v4 = hiddenArray (V2 m ρ c main_v3) (V2 m ρ c main_arg3) :=
    (stepW_arr sharedIn1 _ (dat1 (V2 m ρ)) (A_eq1 (V2 m ρ)) c 3).trans (arr1_3 (V2 m ρ) c)
  rw [arr2_4, v4, v3, n0, n1, h3, o0, o1, o4]
  have hn : ∀ a e, normArray (m ((c : Thread nD τ).loc main_arg0)) (V1 m ρ c main_v2) (m ((c : Thread nD τ).loc main_arg1)) (ix2 a e)
      = Maths.modulated (fun e => m ((c : Thread nD τ).loc main_arg0) (ix2 a e))
          (fun e => m ((c : Thread nD τ).loc main_arg2) (ix3 1 2 e))
          (fun e => m ((c : Thread nD τ).loc main_arg1) (ix5 1 (Maths.imageOf a) 7 0 e))
          (fun e => m ((c : Thread nD τ).loc main_arg1) (ix5 1 (Maths.imageOf a) 6 0 e)) e := fun a e => by
    show Maths.modulated _ _ _ _ e = _
    congr 1
    funext e
    exact gain_row m ρ c e
  show Maths.stepped _ _ _ = _
  unfold Maths.feedForward
  congr 1
  refine Finset.sum_congr rfl fun k _ => congrArg (· * _) ?_
  show Maths.gated _ _ = _
  congr 1 <;> exact Finset.sum_congr rfl fun e _ => congrArg (· * _) (hn i e)

end Cert.FeedForwardIdeal.Joined

end
-- ==== Proof.FeedForward.Reference.lean ====
module

public import proofs.«01_k».proof.Proof.Maths.FeedForward
public import proofs.«01_k».proof.Proof.Gen.FeedForwardReferenceIdeal.Read
public import Idealize.ShloMosaic.Lib.Pointwise

@[expose] public section

/-! The feed-forward reference's result, entry by entry. -/

set_option maxRecDepth 65536

noncomputable section

namespace Cert.FeedForwardReferenceIdeal.Reading

open Idealize.ShloMosaic hiding ix1 ix2 ix3 ix4 ix5
open Idealize.ShloMosaic.TcCoe
open Cert.FeedForwardReferenceIdeal Cert.FeedForwardReferenceIdeal.Gen Cert.FeedForwardReferenceIdeal.Read
open Idealize.ShloMosaic.ValueIdx

abbrev Rows := (⟨S8192x4096, .f32⟩ : BufTy).Contents (Elt Ideal)
abbrev Mods := (⟨S2x8x9x1x4096, .f32⟩ : BufTy).Contents (Elt Ideal)
abbrev Gains := (⟨S2x3x4096, .f32⟩ : BufTy).Contents (Elt Ideal)
abbrev InWeights := (⟨S2x2x4096x16384, .f32⟩ : BufTy).Contents (Elt Ideal)
abbrev OutWeights := (⟨S2x2x8192x4096, .f32⟩ : BufTy).Contents (Elt Ideal)

/-- Row `s` of image `b`. -/
def row (b : Fin 4) (s : Fin 2048) : Fin 8192 := ⟨2048 * b.val + s.val, by omega⟩
/-- Image `b` among the modulation's. -/
def image (b : Fin 4) : Fin 8 := ⟨b.val, by omega⟩

theorem image_row (b : Fin 4) (s : Fin 2048) : Maths.imageOf (row b s) = image b :=
  Fin.ext (by show (2048 * b.val + s.val) / 2048 = b.val; omega)

theorem rows_at (x0 : Rows) (b : Fin 4) (s : Fin 2048) (e : Fin 4096) :
    val_main_v0 (F := Ideal) x0 (ix3 b s e) = x0 (ix2 (row b s) e) := by
  rw [val_main_v0_apply]
  refine congrArg x0 (funext fun z => Fin.ext ?_)
  match z with
  | ⟨0, _⟩ => show ((b.val * 2048 + s.val) * 4096 + e.val) / 4096 = 2048 * b.val + s.val; omega
  | ⟨1, _⟩ => show ((b.val * 2048 + s.val) * 4096 + e.val) % 4096 = e.val; omega

theorem mods_at (x1 : Mods) (b : Fin 4) (k : Fin 9) (e : Fin 4096) :
    val_main_v2 (F := Ideal) x1 (ix4 b k 0 e) = x1 (ix5 1 (image b) k 0 e) := by
  rw [val_main_v2_apply, val_main_v1_apply]
  refine congrArg x1 (funext fun z => Fin.ext ?_)
  match z with
  | ⟨0, _⟩ => rfl
  | ⟨1, _⟩ => show (((b.val * 9 + k.val) * 1 + 0) * 4096 + e.val) / 36864 % 4 = b.val; omega
  | ⟨2, _⟩ => show (((b.val * 9 + k.val) * 1 + 0) * 4096 + e.val) / 4096 % 9 = k.val; omega
  | ⟨3, _⟩ => rfl
  | ⟨4, _⟩ => show (((b.val * 9 + k.val) * 1 + 0) * 4096 + e.val) % 4096 = e.val; omega

theorem gain_at (x2 : Gains) (b : Fin 4) (s : Fin 2048) (e : Fin 4096) :
    val_main_v20 (F := Ideal) x2 (ix3 b s e) = x2 (ix3 1 2 e) := by
  rw [val_main_v20_apply, val_main_v19_apply, val_main_v4_apply, val_main_v3_apply]
  refine congrArg x2 (funext fun z => Fin.ext ?_)
  match z with
  | ⟨0, _⟩ => rfl
  | ⟨1, _⟩ => rfl
  | ⟨2, _⟩ => show e.val % 4096 = e.val; omega

theorem inWeights_at (x3 : InWeights) (e : Fin 4096) (k : Fin 16384) :
    val_main_v6 (F := Ideal) x3 (ix2 e k) = x3 (ix4 1 1 e k) := by
  rw [val_main_v6_apply, val_main_v5_apply]
  refine congrArg x3 (funext fun z => Fin.ext ?_)
  match z with
  | ⟨0, _⟩ => rfl
  | ⟨1, _⟩ => rfl
  | ⟨2, _⟩ => show (e.val * 16384 + k.val) / 16384 % 4096 = e.val; omega
  | ⟨3, _⟩ => show (e.val * 16384 + k.val) % 16384 = k.val; omega

theorem outWeights_at (x4 : OutWeights) (k : Fin 8192) (e : Fin 4096) :
    val_main_v8 (F := Ideal) x4 (ix2 k e) = x4 (ix4 1 1 k e) := by
  rw [val_main_v8_apply, val_main_v7_apply]
  refine congrArg x4 (funext fun z => Fin.ext ?_)
  match z with
  | ⟨0, _⟩ => rfl
  | ⟨1, _⟩ => rfl
  | ⟨2, _⟩ => show (k.val * 4096 + e.val) / 4096 % 8192 = k.val; omega
  | ⟨3, _⟩ => show (k.val * 4096 + e.val) % 4096 = e.val; omega

/-- A modulation of every image, read at a row of the image. -/
theorem shift_at (x1 : Mods) (b : Fin 4) (s : Fin 2048) (e : Fin 4096) :
    val_main_v30 (F := Ideal) x1 (ix3 b s e) = x1 (ix5 1 (image b) 6 0 e) := by
  rw [val_main_v30_apply, val_main_v29_apply, val_main_v28_apply]
  refine Eq.trans (congrArg _ (funext fun z => Fin.ext ?_)) (mods_at x1 b 6 e)
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem scale_at (x1 : Mods) (b : Fin 4) (s : Fin 2048) (e : Fin 4096) :
    val_main_v26 (F := Ideal) x1 (ix3 b s e) = Ideal.ofBits .f32 0x3F800000#32 + x1 (ix5 1 (image b) 7 0 e) := by
  rw [val_main_v26_apply, val_main_v25_apply, val_main_v24_apply, val_main_cst_2_apply, val_main_v23_apply, val_main_v22_apply]
  refine congrArg (Ideal.ofBits .f32 0x3F800000#32 + ·) (Eq.trans (congrArg _ (funext fun z => Fin.ext ?_)) (mods_at x1 b 7 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem gate_at (x1 : Mods) (b : Fin 4) (s : Fin 2048) (e : Fin 4096) :
    val_main_v42 (F := Ideal) x1 (ix3 b s e) = Ideal.ofBits .f32 0x3F000000#32 * x1 (ix5 1 (image b) 8 0 e) := by
  rw [val_main_v42_apply, val_main_v38_apply, val_main_v37_apply, val_main_cst_3_apply, val_main_v36_apply, val_main_v35_apply]
  refine congrArg (Ideal.ofBits .f32 0x3F000000#32 * ·) (Eq.trans (congrArg _ (funext fun z => Fin.ext ?_)) (mods_at x1 b 8 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

/-- The sum of a row's squares. -/
theorem squares_at (x0 : Rows) (b : Fin 4) (s : Fin 2048) :
    val_main_v10 (F := Ideal) x0 (ix2 b s) = ∑ e : Fin 4096, (x0 (ix2 (row b s) e) : EReal) * x0 (ix2 (row b s) e) := by
  rw [val_main_v10_apply, val_main_cst_apply]
  refine (congrArg (· + _) Ideal.ofBits_zero_f32).trans ((zero_add _).trans (Finset.sum_congr rfl fun e _ => ?_))
  have h : val_main_v0 (F := Ideal) x0 (idx_main_v10 (ix2 b s) e) = x0 (ix2 (row b s) e) := by
    refine Eq.trans (congrArg _ (funext fun z => Fin.ext ?_)) (rows_at x0 b s e)
    fin_cases z <;> rfl
  rw [val_main_v9_apply, h]; rfl

theorem root_at (x0 : Rows) (b : Fin 4) (s : Fin 2048) (e : Fin 4096) :
    val_main_v17 (F := Ideal) x0 (ix3 b s e)
      = Ideal.rsqrt (Ideal.div (∑ e : Fin 4096, (x0 (ix2 (row b s) e) : EReal) * x0 (ix2 (row b s) e))
          (Ideal.ofBits .f32 0x45800000#32) + Ideal.ofBits .f32 0x358637BD#32) := by
  rw [val_main_v17_apply, val_main_v16_apply, val_main_v15_apply, val_main_v14_apply, val_main_cst_1_apply, val_main_v13_apply,
    val_main_v12_apply, val_main_cst_0_apply, val_main_v11_apply]
  refine congrArg (fun q => Ideal.rsqrt (Ideal.div q (Ideal.ofBits .f32 0x45800000#32) + Ideal.ofBits .f32 0x358637BD#32))
    (Eq.trans (congrArg _ (funext fun z => Fin.ext ?_)) (squares_at x0 b s))
  fin_cases z <;> rfl

/-- A row modulated. -/
def modRow (x0 : Rows) (x1 : Mods) (x2 : Gains) (b : Fin 4) (s : Fin 2048) (e : Fin 4096) : EReal :=
  Maths.modulated (fun e => x0 (ix2 (row b s) e)) (fun e => x2 (ix3 1 2 e)) (fun e => x1 (ix5 1 (image b) 7 0 e))
    (fun e => x1 (ix5 1 (image b) 6 0 e)) e

theorem modulated_at (x0 : Rows) (x1 : Mods) (x2 : Gains) (b : Fin 4) (s : Fin 2048) (e : Fin 4096) :
    val_main_v31 (F := Ideal) x0 x1 x2 (ix3 b s e) = modRow x0 x1 x2 b s e := by
  rw [val_main_v31_apply, val_main_v27_apply, val_main_v21_apply, val_main_v18_apply, rows_at, root_at, gain_at, scale_at, shift_at]
  rfl

theorem product_at (x0 : Rows) (x1 : Mods) (x2 : Gains) (x3 : InWeights) (b : Fin 4) (s : Fin 2048) (k : Fin 16384) :
    val_main_v32 (F := Ideal) x0 x1 x2 x3 (ix3 b s k) = ∑ e : Fin 4096, modRow x0 x1 x2 b s e * x3 (ix4 1 1 e k) := by
  rw [val_main_v32_apply]
  refine Finset.sum_congr rfl fun e _ => congrArg₂ (· * ·)
    (Eq.trans (congrArg _ (funext fun z => Fin.ext ?_)) (modulated_at x0 x1 x2 b s e))
    (Eq.trans (congrArg _ (funext fun z => Fin.ext ?_)) (inWeights_at x3 e k))
  all_goals fin_cases z <;> rfl

theorem low_at (x0 : Rows) (x1 : Mods) (x2 : Gains) (x3 : InWeights) (b : Fin 4) (s : Fin 2048) (k : Fin 8192) :
    val_main_v33 (F := Ideal) x0 x1 x2 x3 (ix3 b s k)
      = ∑ e : Fin 4096, modRow x0 x1 x2 b s e * x3 (ix4 1 1 e (Maths.lowCol k)) := by
  rw [val_main_v33_apply]
  refine Eq.trans (congrArg _ (funext fun z => Fin.ext ?_)) (product_at x0 x1 x2 x3 b s (Maths.lowCol k))
  fin_cases z <;> rfl

theorem high_at (x0 : Rows) (x1 : Mods) (x2 : Gains) (x3 : InWeights) (b : Fin 4) (s : Fin 2048) (k : Fin 8192) :
    val_main_v34 (F := Ideal) x0 x1 x2 x3 (ix3 b s k)
      = ∑ e : Fin 4096, modRow x0 x1 x2 b s e * x3 (ix4 1 1 e (Maths.highCol k)) := by
  rw [val_main_v34_apply]
  refine Eq.trans (congrArg _ (funext fun z => Fin.ext ?_)) (product_at x0 x1 x2 x3 b s (Maths.highCol k))
  fin_cases z <;> rfl

theorem hidden_at (x0 : Rows) (x1 : Mods) (x2 : Gains) (x3 : InWeights) (b : Fin 4) (s : Fin 2048) (k : Fin 8192) :
    val_main_v40 (F := Ideal) x0 x1 x2 x3 (ix3 b s k)
      = Maths.gated (∑ e : Fin 4096, modRow x0 x1 x2 b s e * x3 (ix4 1 1 e (Maths.lowCol k)))
          (∑ e : Fin 4096, modRow x0 x1 x2 b s e * x3 (ix4 1 1 e (Maths.highCol k))) := by
  rw [val_main_v40_apply, val_main_v39_apply, val_main_call0_v5_apply, val_main_call0_v4_apply, val_main_call0_cst_0_apply,
    val_main_call0_v3_apply, val_main_call0_v2_apply, val_main_call0_cst_apply, val_main_call0_v1_apply, val_main_call0_v0_apply,
    low_at, high_at]
  rfl

theorem share_at (x0 : Rows) (x1 : Mods) (x2 : Gains) (x3 : InWeights) (x4 : OutWeights) (b : Fin 4) (s : Fin 2048) (j : Fin 4096) :
    val_main_v41 (F := Ideal) x0 x1 x2 x3 x4 (ix3 b s j)
      = ∑ k : Fin 8192, Maths.gated (∑ e : Fin 4096, modRow x0 x1 x2 b s e * x3 (ix4 1 1 e (Maths.lowCol k)))
          (∑ e : Fin 4096, modRow x0 x1 x2 b s e * x3 (ix4 1 1 e (Maths.highCol k))) * x4 (ix4 1 1 k j) := by
  rw [val_main_v41_apply]
  refine Finset.sum_congr rfl fun k _ => congrArg₂ (· * ·)
    (Eq.trans (congrArg _ (funext fun z => Fin.ext ?_)) (hidden_at x0 x1 x2 x3 b s k))
    (Eq.trans (congrArg _ (funext fun z => Fin.ext ?_)) (outWeights_at x4 k j))
  all_goals fin_cases z <;> rfl

/-- The result's entry `(i, j)`. -/
theorem result_at (x0 : Rows) (x1 : Mods) (x2 : Gains) (x3 : InWeights) (x4 : OutWeights) (i : Fin 8192) (j : Fin 4096) :
    val_main_v45 (F := Ideal) x0 x1 x2 x3 x4 (ix2 i j)
      = Maths.feedForward (fun a e => x0 (ix2 a e)) (fun e => x2 (ix3 1 2 e)) (fun b e => x1 (ix5 1 b 7 0 e))
          (fun b e => x1 (ix5 1 b 6 0 e)) (fun b e => x1 (ix5 1 b 8 0 e)) (fun e k => x3 (ix4 1 1 e k))
          (fun k e => x4 (ix4 1 1 k e)) i j := by
  obtain ⟨b, s, rfl⟩ : ∃ (b : Fin 4) (s : Fin 2048), i = row b s :=
    ⟨⟨i.val / 2048, by omega⟩, ⟨i.val % 2048, by omega⟩, Fin.ext (by show i.val = 2048 * (i.val / 2048) + i.val % 2048; omega)⟩
  rw [val_main_v45_apply]
  have hz : idx_main_v45 (ix2 (row b s) j) = ix3 b s j := funext fun z => Fin.ext (by
    have hb := b.isLt
    have hs := s.isLt
    have hj := j.isLt
    match z with
    | ⟨0, _⟩ => show ((2048 * b.val + s.val) * 4096 + j.val) / 8388608 = b.val; omega
    | ⟨1, _⟩ => show ((2048 * b.val + s.val) * 4096 + j.val) / 4096 % 2048 = s.val; omega
    | ⟨2, _⟩ => show ((2048 * b.val + s.val) * 4096 + j.val) % 4096 = j.val; omega)
  rw [hz, val_main_v44_apply, val_main_v43_apply, rows_at, gate_at, share_at]
  unfold Maths.feedForward
  simp only [image_row]
  rfl

end Cert.FeedForwardReferenceIdeal.Reading

end
-- ==== Proof.SpatialGate.Norm.lean ====
module

public import proofs.«01_k».proof.Proof.Gen.SpatialGateIdeal.Launch
public import proofs.«01_k».proof.Proof.Gen.SpatialGateIdeal.Skeleton
public import proofs.«01_k».proof.Proof.Gen.SpatialGateIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.SpatialGateIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SpatialGateIdeal.Gen

variable {F : FTy → Type} [FloatOps F]

local notation "𝕄" => MT nD τ sig Unit (Elt F) ℕ (UR sig nD τ) ℕ

/-! The first launch of the spatial gating, which scales the rows to unit mean square and modulates them: what its body
    leaves in its output buffer, and the body's obligation at every grid point. -/

section body0

variable (c : Dev nD) (i : grid0.Coords)
  (arg1 : Memref sig .tc .vmem S512x4096 .f32) (harg1 : arg1.IsWhole)
  (arg2 : Memref sig .tc .vmem S1x4096 .f32) (harg2 : arg2.IsWhole)
  (arg3 : Memref sig .tc .vmem S1x1x1x1x4096 .f32) (harg3 : arg3.IsWhole)
  (arg4 : Memref sig .tc .vmem S1x1x1x1x4096 .f32) (harg4 : arg4.IsWhole)
  (arg5 : Memref sig .tc .vmem S512x4096 .bf16) (harg5 : arg5.IsWhole)
  (x0 : Vec F S512x4096 .f32) (x1 : Vec F S1x4096 .f32) (x2 : Vec F S1x1x1x1x4096 .f32) (x3 : Vec F S1x1x1x1x4096 .f32)

def kernelRun0 :
    { L : List (View.Piece (Elt F) S512x4096 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc0_norm_modulate i arg1 harg1 arg2 harg2 arg3 harg3 arg4 harg4 arg5 harg5) K } := by
  refine ⟨?_, fun E K => ?run⟩
  case run =>
    simp only [cc0_norm_modulate_eq_skeleton]; unfold cc0_norm_modulate_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

theorem cover0 (y : S512x4096.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1
    S512x4096.size (by sl_kernel_rfl) y

abbrev VO0 : View sig .tc .vmem S512x4096 .bf16 := (Memref.whole cc0_stg4_0 : Memref sig .tc .vmem S512x4096 .bf16).view

def out0 : Vec F S512x4096 .bf16 :=
  VO0.read (Elt F) (VO0.writes (Elt F) VO0.junk
    (kernelRun0 c i arg1 harg1 arg2 harg2 arg3 harg3 arg4 harg4 arg5 harg5 x0 x1 x2 x3).1)

end body0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .bf16 := win0_4.stage (cfg0.slots t 4)
abbrev hs0_4 (t : Fin cfg0.N) : (ms0_4 t).IsWhole := hstage0_4 ((cfg0.slots t 4).cast nbuf0_4)

def outsAt0 (c : Dev nD) (t : Fin cfg0.N) : Vec F S512x4096 .bf16 :=
  out0 c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => after0_0 V c t) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => after0_1 V c t) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => after0_2 V c t) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => after0_3 V c t) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0 out0
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0 c _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.SpatialGateIdeal.Joined

end
-- ==== Proof.SpatialGate.In.lean ====
module

public import proofs.«01_k».proof.Proof.Gen.SpatialGateIdeal.Launch
public import proofs.«01_k».proof.Proof.Gen.SpatialGateIdeal.Skeleton
public import proofs.«01_k».proof.Proof.Gen.SpatialGateIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.SpatialGateIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SpatialGateIdeal.Gen

variable {F : FTy → Type} [FloatOps F]

local notation "𝕄" => MT nD τ sig Unit (Elt F) ℕ (UR sig nD τ) ℕ

/-! The second launch of the spatial gating, its two products with their bias and activation: what its body leaves in its
    two output buffers, and the body's obligation at every grid point. -/

section body1

variable (c : Dev nD) (i : grid1.Coords)
  (arg2 : Memref sig .tc .vmem S1024x4096 .bf16) (harg2 : arg2.IsWhole)
  (arg3 : Memref sig .tc .vmem S1x4096x512 .f32) (harg3 : arg3.IsWhole)
  (arg4 : Memref sig .tc .vmem S1x4096x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x512 .bf16) (harg8 : arg8.IsWhole)
  (x0 : Vec F S1024x4096 .bf16) (x1 : Vec F S1x4096x512 .f32) (x2 : Vec F S1x4096x512 .f32) (x3 : Vec F S1x512 .f32) (x4 : Vec F S1x512 .f32)

def kernelRun1 :
    { L : List (View.Piece (Elt F) S1024x512 .bf16) × List (View.Piece (Elt F) S1024x512 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ (∃ d, owns (c : Thread nD τ) arg8 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ (∃ f, arg7.view.loc (c : Thread nD τ) ↦[arg7.view.set]{fullShare} arg7.view.writes (Elt F) f L.1)
                ∗ (∃ f, arg8.view.loc (c : Thread nD τ) ↦[arg8.view.set]{fullShare} arg8.view.writes (Elt F) f L.2)) -∗ K ⟨⟩))
          ⊢ wp frame (wpE (defs₀ (F := F)) Variants.none c none) E
              (cc1_sg_in i arg2 harg2 arg3 harg3 arg4 harg4 arg5 harg5 arg6 harg6 arg7 harg7 arg8 harg8) K } := by
  refine ⟨(?_, ?_), fun E K => ?run⟩
  case run =>
    simp only [cc1_sg_in_eq_skeleton]; unfold cc1_sg_in_skel
    simp only [k1_part1_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]; · iexists _; iexact H5
    iexists _; iexact H6

theorem cover1_0 (y : S1024x512.Idx) :
    ∃ pc ∈ (kernelRun1 c i arg2 harg2 arg3 harg3 arg4 harg4 arg5 harg5 arg6 harg6 arg7 harg7 arg8 harg8 x0 x1 x2 x3 x4).1.1, y ∈ pc.1.set :=
  View.cover_of_tiledL (kernelRun1 c i arg2 harg2 arg3 harg3 arg4 harg4 arg5 harg5 arg6 harg6 arg7 harg7 arg8 harg8 x0 x1 x2 x3 x4).1.1
    S1024x512.size (by sl_kernel_rfl) y

abbrev VO1_0 : View sig .tc .vmem S1024x512 .bf16 := (Memref.whole cc1_stg5_0 : Memref sig .tc .vmem S1024x512 .bf16).view

def out1_0 : Vec F S1024x512 .bf16 :=
  VO1_0.read (Elt F) (VO1_0.writes (Elt F) VO1_0.junk
    (kernelRun1 c i arg2 harg2 arg3 harg3 arg4 harg4 arg5 harg5 arg6 harg6 arg7 harg7 arg8 harg8 x0 x1 x2 x3 x4).1.1)

theorem cover1_1 (y : S1024x512.Idx) :
    ∃ pc ∈ (kernelRun1 c i arg2 harg2 arg3 harg3 arg4 harg4 arg5 harg5 arg6 harg6 arg7 harg7 arg8 harg8 x0 x1 x2 x3 x4).1.2, y ∈ pc.1.set :=
  View.cover_of_tiledL (kernelRun1 c i arg2 harg2 arg3 harg3 arg4 harg4 arg5 harg5 arg6 harg6 arg7 harg7 arg8 harg8 x0 x1 x2 x3 x4).1.2
    S1024x512.size (by sl_kernel_rfl) y

abbrev VO1_1 : View sig .tc .vmem S1024x512 .bf16 := (Memref.whole cc1_stg6_0 : Memref sig .tc .vmem S1024x512 .bf16).view

def out1_1 : Vec F S1024x512 .bf16 :=
  VO1_1.read (Elt F) (VO1_1.writes (Elt F) VO1_1.junk
    (kernelRun1 c i arg2 harg2 arg3 harg3 arg4 harg4 arg5 harg5 arg6 harg6 arg7 harg7 arg8 harg8 x0 x1 x2 x3 x4).1.2)

end body1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x512 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x512 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1024x512 .bf16 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x512 .bf16 := win1_6.stage (cfg1.slots t 6)
abbrev hs1_6 (t : Fin cfg1.N) : (ms1_6 t).IsWhole := hstage1_6 ((cfg1.slots t 6).cast nbuf1_6)

def outsAt1_0 (c : Dev nD) (t : Fin cfg1.N) : Vec F S1024x512 .bf16 :=
  out1_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t)

def outsAt1_1 (c : Dev nD) (t : Fin cfg1.N) : Vec F S1024x512 .bf16 :=
  out1_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t)
    (iblk1 V c 0 t) (iblk1 V c 1 t) (iblk1 V c 2 t) (iblk1 V c 3 t) (iblk1 V c 4 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1_0 V c t)
    | ⟨6, _⟩ => (outsAt1_1 V c t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = outsAt1_0 V c t := by dsimp only [dat1]
theorem after1_6 (c : Dev nD) (t : Fin cfg1.N) : (dat1 V c).after 6 t = outsAt1_1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => after1_0 V c t) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => after1_1 V c t) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => after1_2 V c t) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => after1_3 V c t) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun t => after1_4 V c t) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6]
  unfold outsAt1_0 out1_0 outsAt1_1 out1_1
  iintro ⟨HΦ, Ho, ⟨%d0, H0⟩, ⟨%d1, H1⟩, ⟨%d2, H2⟩, ⟨%d3, H3⟩, ⟨%d4, H4⟩, ⟨%d5, H5⟩, ⟨%d6, H6⟩⟩
  iapply ((kernelRun1 c (grid1.coords t) _ _ _ _ _ _ _ _ _ _ _ _ _ _ (iblk1 V c 0 t) (iblk1 V c 1 t) (iblk1 V c 2 t) (iblk1 V c 3 t) (iblk1 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, ⟨%e5, H5⟩, ⟨%e6, H6⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]
  · unfold owns; iexists _; isplitr
    swap; · iexact H5
    ipureintro; exact View.read_writes_of_cover _ _ _ _ _ (cover1_0 c _ _ _ _ _ _ _ _ _ _ _ _ _ _ _ _ _ _ _ _)
  unfold owns; iexists _; isplitr
  swap; · iexact H6
  ipureintro; exact View.read_writes_of_cover _ _ _ _ _ (cover1_1 c _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.SpatialGateIdeal.Joined

end
-- ==== Proof.SpatialGate.Mix.lean ====
module

public import proofs.«01_k».proof.Proof.Gen.SpatialGateIdeal.Launch
public import proofs.«01_k».proof.Proof.Gen.SpatialGateIdeal.Skeleton
public import proofs.«01_k».proof.Proof.Gen.SpatialGateIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.SpatialGateIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SpatialGateIdeal.Gen

variable {F : FTy → Type} [FloatOps F]

local notation "𝕄" => MT nD τ sig Unit (Elt F) ℕ (UR sig nD τ) ℕ

/-! The third launch of the spatial gating, which mixes the positions of every chunk, one group of columns after the other:
    what its body leaves in its output buffer, and the body's obligation at every grid point. -/

section body2

variable (c : Dev nD) (i : grid2.Coords)
  (arg1 : Memref sig .tc .vmem S256x4096 .bf16) (harg1 : arg1.IsWhole)
  (arg2 : Memref sig .tc .vmem S256x4096 .bf16) (harg2 : arg2.IsWhole)
  (arg3 : Memref sig .tc .vmem S1x4096 .f32) (harg3 : arg3.IsWhole)
  (arg4 : Memref sig .tc .vmem S8x128x128 .f32) (harg4 : arg4.IsWhole)
  (arg5 : Memref sig .tc .vmem S128x8 .f32) (harg5 : arg5.IsWhole)
  (arg6 : Memref sig .tc .vmem S256x4096 .bf16) (harg6 : arg6.IsWhole)
  (x0 : Vec F S256x4096 .bf16) (x1 : Vec F S256x4096 .bf16) (x2 : Vec F S1x4096 .f32) (x3 : Vec F S8x128x128 .f32) (x4 : Vec F S128x8 .f32)

def kernelRun2 :
    { L : List (View.Piece (Elt F) S256x4096 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc2_sg_mix i arg1 harg1 arg2 harg2 arg3 harg3 arg4 harg4 arg5 harg5 arg6 harg6) K } := by
  refine ⟨?_, fun E K => ?run⟩
  case run =>
    simp only [cc2_sg_mix_eq_skeleton]; unfold cc2_sg_mix_skel
    simp only [k2_part1_eq_skeleton, k2_part2_eq_skeleton, k2_part3_eq_skeleton, k2_part4_eq_skeleton, k2_part5_eq_skeleton, k2_part6_eq_skeleton, k2_part7_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover2 (y : S256x4096.Idx) :
    ∃ pc ∈ (kernelRun2 c i arg1 harg1 arg2 harg2 arg3 harg3 arg4 harg4 arg5 harg5 arg6 harg6 x0 x1 x2 x3 x4).1, y ∈ pc.1.set :=
  View.cover_of_tiledL (kernelRun2 c i arg1 harg1 arg2 harg2 arg3 harg3 arg4 harg4 arg5 harg5 arg6 harg6 x0 x1 x2 x3 x4).1
    S128x512.size (by sl_kernel_rfl) y

abbrev VO2 : View sig .tc .vmem S256x4096 .bf16 := (Memref.whole cc2_stg5_0 : Memref sig .tc .vmem S256x4096 .bf16).view

def out2 : Vec F S256x4096 .bf16 :=
  VO2.read (Elt F) (VO2.writes (Elt F) VO2.junk
    (kernelRun2 c i arg1 harg1 arg2 harg2 arg3 harg3 arg4 harg4 arg5 harg5 arg6 harg6 x0 x1 x2 x3 x4).1)

end body2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S256x4096 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S256x4096 .bf16 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x4096 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S8x128x128 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S128x8 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S256x4096 .bf16 := win2_5.stage (cfg2.slots t 5)
abbrev hs2_5 (t : Fin cfg2.N) : (ms2_5 t).IsWhole := hstage2_5 ((cfg2.slots t 5).cast nbuf2_5)

def outsAt2 (c : Dev nD) (t : Fin cfg2.N) : Vec F S256x4096 .bf16 :=
  out2 c (grid2.coords t) (ms2_0 t) (hs2_0 t) (ms2_1 t) (hs2_1 t) (ms2_2 t) (hs2_2 t) (ms2_3 t) (hs2_3 t) (ms2_4 t) (hs2_4 t) (ms2_5 t) (hs2_5 t)
    (iblk2 V c 0 t) (iblk2 V c 1 t) (iblk2 V c 2 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outsAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => after2_0 V c t) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => after2_1 V c t) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => after2_2 V c t) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun t => after2_3 V c t) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun t => after2_4 V c t) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2 out2
  iintro ⟨HΦ, Ho, ⟨%d0, H0⟩, ⟨%d1, H1⟩, ⟨%d2, H2⟩, ⟨%d3, H3⟩, ⟨%d4, H4⟩, ⟨%d5, H5⟩⟩
  iapply ((kernelRun2 c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.SpatialGateIdeal.Joined

end
-- ==== Proof.SpatialGate.Out.lean ====
module

public import proofs.«01_k».proof.Proof.Gen.SpatialGateIdeal.Launch
public import proofs.«01_k».proof.Proof.Gen.SpatialGateIdeal.Skeleton
public import proofs.«01_k».proof.Proof.Gen.SpatialGateIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.SpatialGateIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SpatialGateIdeal.Gen

variable {F : FTy → Type} [FloatOps F]

local notation "𝕄" => MT nD τ sig Unit (Elt F) ℕ (UR sig nD τ) ℕ

/-! The fourth launch of the spatial gating, its last product and the residual: what its body leaves in its output buffer,
    and the body's obligation at every grid point. -/

section body3

variable (c : Dev nD) (i : grid3.Coords)
  (arg2 : Memref sig .tc .vmem S1024x4096 .bf16) (harg2 : arg2.IsWhole)
  (arg3 : Memref sig .tc .vmem S1x4096x512 .f32) (harg3 : arg3.IsWhole)
  (arg4 : Memref sig .tc .vmem S1x1x1x1x512 .f32) (harg4 : arg4.IsWhole)
  (arg5 : Memref sig .tc .vmem S1024x512 .f32) (harg5 : arg5.IsWhole)
  (arg6 : Memref sig .tc .vmem S1024x512 .f32) (harg6 : arg6.IsWhole)
  (x0 : Vec F S1024x4096 .bf16) (x1 : Vec F S1x4096x512 .f32) (x2 : Vec F S1x1x1x1x512 .f32) (x3 : Vec F S1024x512 .f32)

def kernelRun3 :
    { L : List (View.Piece (Elt F) S1024x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ (∃ d, owns (c : Thread nD τ) arg6 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ (∃ f, arg6.view.loc (c : Thread nD τ) ↦[arg6.view.set]{fullShare} arg6.view.writes (Elt F) f L)) -∗ K ⟨⟩))
          ⊢ wp frame (wpE (defs₀ (F := F)) Variants.none c none) E
              (cc3_sg_out i arg2 harg2 arg3 harg3 arg4 harg4 arg5 harg5 arg6 harg6) K } := by
  refine ⟨?_, fun E K => ?run⟩
  case run =>
    simp only [cc3_sg_out_eq_skeleton]; unfold cc3_sg_out_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg2.eq_unread hf0
    obtain rfl := harg3.eq_unread hf1
    obtain rfl := harg4.eq_unread hf2
    obtain rfl := harg5.eq_unread hf3
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    iexists _; iexact H4

theorem cover3 (y : S1024x512.Idx) :
    ∃ pc ∈ (kernelRun3 c i arg2 harg2 arg3 harg3 arg4 harg4 arg5 harg5 arg6 harg6 x0 x1 x2 x3).1, y ∈ pc.1.set :=
  View.cover_of_tiledL (kernelRun3 c i arg2 harg2 arg3 harg3 arg4 harg4 arg5 harg5 arg6 harg6 x0 x1 x2 x3).1
    S1024x512.size (by sl_kernel_rfl) y

abbrev VO3 : View sig .tc .vmem S1024x512 .f32 := (Memref.whole cc3_stg4_0 : Memref sig .tc .vmem S1024x512 .f32).view

def out3 : Vec F S1024x512 .f32 :=
  VO3.read (Elt F) (VO3.writes (Elt F) VO3.junk
    (kernelRun3 c i arg2 harg2 arg3 harg3 arg4 harg4 arg5 harg5 arg6 harg6 x0 x1 x2 x3).1)

end body3

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev ms3_0 (t : Fin cfg3.N) : Memref sig .tc .vmem S1024x4096 .bf16 := win3_0.stage (cfg3.slots t 0)
abbrev hs3_0 (t : Fin cfg3.N) : (ms3_0 t).IsWhole := hstage3_0 ((cfg3.slots t 0).cast nbuf3_0)
abbrev ms3_1 (t : Fin cfg3.N) : Memref sig .tc .vmem S1x4096x512 .f32 := win3_1.stage (cfg3.slots t 1)
abbrev hs3_1 (t : Fin cfg3.N) : (ms3_1 t).IsWhole := hstage3_1 ((cfg3.slots t 1).cast nbuf3_1)
abbrev ms3_2 (t : Fin cfg3.N) : Memref sig .tc .vmem S1x1x1x1x512 .f32 := win3_2.stage (cfg3.slots t 2)
abbrev hs3_2 (t : Fin cfg3.N) : (ms3_2 t).IsWhole := hstage3_2 ((cfg3.slots t 2).cast nbuf3_2)
abbrev ms3_3 (t : Fin cfg3.N) : Memref sig .tc .vmem S1024x512 .f32 := win3_3.stage (cfg3.slots t 3)
abbrev hs3_3 (t : Fin cfg3.N) : (ms3_3 t).IsWhole := hstage3_3 ((cfg3.slots t 3).cast nbuf3_3)
abbrev ms3_4 (t : Fin cfg3.N) : Memref sig .tc .vmem S1024x512 .f32 := win3_4.stage (cfg3.slots t 4)
abbrev hs3_4 (t : Fin cfg3.N) : (ms3_4 t).IsWhole := hstage3_4 ((cfg3.slots t 4).cast nbuf3_4)

def outsAt3 (c : Dev nD) (t : Fin cfg3.N) : Vec F S1024x512 .f32 :=
  out3 c (grid3.coords t) (ms3_0 t) (hs3_0 t) (ms3_1 t) (hs3_1 t) (ms3_2 t) (hs3_2 t) (ms3_3 t) (hs3_3 t) (ms3_4 t) (hs3_4 t)
    (iblk3 V c 0 t) (iblk3 V c 1 t) (iblk3 V c 2 t) (iblk3 V c 3 t)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => (outsAt3 V c t)
  Φ _ := Pipeline.ΦA spec3 c
  q w := Pipeline.shareOf spec3 w
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = outsAt3 V c t := by dsimp only [dat3]

theorem before3_0 (c : Dev nD) (t : Fin cfg3.N) (d) : (dat3 V c).before 0 t d = iblk3 V c 0 t :=
  ((dat3 V c).before_in_eq_fetched 0 rfl (fun _ => rfl) (fun _ _ _ => rfl) (fun t => after3_0 V c t) t d).trans rfl
theorem before3_1 (c : Dev nD) (t : Fin cfg3.N) (d) : (dat3 V c).before 1 t d = iblk3 V c 1 t :=
  ((dat3 V c).before_in_eq_fetched 1 rfl (fun _ => rfl) (fun _ _ _ => rfl) (fun t => after3_1 V c t) t d).trans rfl
theorem before3_2 (c : Dev nD) (t : Fin cfg3.N) (d) : (dat3 V c).before 2 t d = iblk3 V c 2 t :=
  ((dat3 V c).before_in_eq_fetched 2 rfl (fun _ => rfl) (fun _ _ _ => rfl) (fun t => after3_2 V c t) t d).trans rfl
theorem before3_3 (c : Dev nD) (t : Fin cfg3.N) (d) : (dat3 V c).before 3 t d = iblk3 V c 3 t :=
  ((dat3 V c).before_in_eq_fetched 3 rfl (fun _ => rfl) (fun _ _ _ => rfl) (fun t => after3_3 V c t) t d).trans rfl

def bodyPre3 (c : Dev nD) (t : Fin cfg3.N) : sProp 𝕄 :=
  iprop((dat3 V c).Φ t.castSucc ∗ (dat3 V c).owesAt () t.castSucc
    ∗ (∃ d, owns (c : Thread nD τ) (ms3_0 t) fullShare ((dat3 V c).before 0 t d))
    ∗ (∃ d, owns (c : Thread nD τ) (ms3_1 t) fullShare ((dat3 V c).before 1 t d))
    ∗ (∃ d, owns (c : Thread nD τ) (ms3_2 t) fullShare ((dat3 V c).before 2 t d))
    ∗ (∃ d, owns (c : Thread nD τ) (ms3_3 t) fullShare ((dat3 V c).before 3 t d))
    ∗ (∃ d, owns (c : Thread nD τ) (ms3_4 t) fullShare ((dat3 V c).before 4 t d)))

def bodyPost3 (c : Dev nD) (t : Fin cfg3.N) : sProp 𝕄 :=
  iprop((dat3 V c).Φ t.succ ∗ (dat3 V c).owesAt () t.succ
    ∗ owns (c : Thread nD τ) (ms3_0 t) fullShare ((dat3 V c).after 0 t)
    ∗ owns (c : Thread nD τ) (ms3_1 t) fullShare ((dat3 V c).after 1 t)
    ∗ owns (c : Thread nD τ) (ms3_2 t) fullShare ((dat3 V c).after 2 t)
    ∗ owns (c : Thread nD τ) (ms3_3 t) fullShare ((dat3 V c).after 3 t)
    ∗ owns (c : Thread nD τ) (ms3_4 t) fullShare ((dat3 V c).after 4 t))

theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3]
  rw [show (dat3 V c).Φ t.succ = (dat3 V c).Φ t.castSucc from rfl,
    show (dat3 V c).owesAt () t.succ = (dat3 V c).owesAt () t.castSucc from rfl,
    after3_0, after3_1, after3_2, after3_3, after3_4]
  unfold outsAt3 out3
  iintro ⟨HΦ, Ho, ⟨%d0, H0⟩, ⟨%d1, H1⟩, ⟨%d2, H2⟩, ⟨%d3, H3⟩, ⟨%d4, H4⟩⟩
  iapply ((kernelRun3 c (grid3.coords t) _ _ _ _ _ _ _ _ _ _ (iblk3 V c 0 t) (iblk3 V c 1 t) (iblk3 V c 2 t) (iblk3 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover3 c _ _ _ _ _ _ _ _ _ _ _ _ _ _ _)

theorem defs₀_row3 (t : Fin cfg3.N) :
    defs₀ (F := F) .tc cfg3.body (cfg3.bodyArgs t (cfg3.slots t)) = bodyAt3 t := by
  unfold defs₀; rw [Defs.onTc_tc]

theorem body_obligation3 (c : Dev nD) : BodyObligation (dat3 (F := F) V c) (defs₀ (F := F)) Variants.none () Set.univ := fun t => by
  rw [bigSep_W3, bigSep_W3, defs₀_row3]
  exact triple_restated (sound_body3 V c t) rfl .rfl fun _ => .rfl

end Cert.SpatialGateIdeal.Joined

end
-- ==== Proof.SpatialGate.Whole.lean ====
module

public import proofs.«01_k».proof.Proof.SpatialGate.Norm
public import proofs.«01_k».proof.Proof.SpatialGate.In
public import proofs.«01_k».proof.Proof.SpatialGate.Mix
public import proofs.«01_k».proof.Proof.SpatialGate.Out
public import proofs.«01_k».proof.Proof.Launches

@[expose] public section

set_option maxRecDepth 16384

noncomputable section

namespace Cert.SpatialGateIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.SpatialGateIdeal.Gen
open Cert.Launches (𝒱₀ L lv R hseg mem_uc stepW stepW_arr stepW_of_ne stepW_of regOf last run_of)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The spatial gating as a whole: the host's cuts and relayouts and the four launches between them, in order. -/

abbrev argRefs : List (Ref sig .tc) := [main_arg0, main_arg1, main_arg2, main_arg3, main_arg4, main_arg5, main_arg6, main_arg7, main_arg8]

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor
theorem hostOps2_fresh : (hostOps2 : List (HloOp τ sig (Elt F))).Forall fun op => op.fresh = ∅ := by
  simp only [List.Forall]; repeat' constructor
abbrev hostOps0_W : List (Ref sig .tc) := [main_v0, main_v1, main_v2]
abbrev hostOps1_W : List (Ref sig .tc) := [main_v4, main_v5]
abbrev hostOps2_W : List (Ref sig .tc) := [main_v7, main_v8, main_v9, main_v10, main_v11]
theorem hostOps0_writes : (hostOps0 : List (HloOp τ sig (Elt F))).Forall fun op => op.writes ⊆ (hostOps0_W.map (Proc.devRef (τ := τ) .tc)).toFinset :=
  StableHlo.forall_writes_sub_of_map rfl
theorem hostOps1_writes : (hostOps1 : List (HloOp τ sig (Elt F))).Forall fun op => op.writes ⊆ (hostOps1_W.map (Proc.devRef (τ := τ) .tc)).toFinset :=
  StableHlo.forall_writes_sub_of_map rfl
theorem hostOps2_writes : (hostOps2 : List (HloOp τ sig (Elt F))).Forall fun op => op.writes ⊆ (hostOps2_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps1_args : ∀ a ∈ argRefs, a ∉ hostOps1_W := ListAll.forall_mem_of_all_decide (by decide +kernel)
theorem hostOps2_args : ∀ a ∈ argRefs, a ∉ hostOps2_W := ListAll.forall_mem_of_all_decide (by decide +kernel)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev V1 : (c : Dev nD) → (b : Ref sig .tc) → Buf (Elt F) ((c : Thread nD τ).loc b) := fun c b => W1 m ρ c b
def W2 : Dev nD → Valuation τ sig (Elt F) := stepW (W1 m ρ) (dat0 (V1 m ρ))
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
abbrev V3 : (c : Dev nD) → (b : Ref sig .tc) → Buf (Elt F) ((c : Thread nD τ).loc b) := fun c b => W3 m ρ c b
def W4 : Dev nD → Valuation τ sig (Elt F) := stepW (W3 m ρ) (dat1 (V3 m ρ))
abbrev W5 : Dev nD → Valuation τ sig (Elt F) := fun c => StableHlo.after hostOps2 (W4 m ρ c)
theorem W5_of (c : Dev nD) (r : Ref sig .tc) (h : r ∉ hostOps2_W) : W5 m ρ c (Proc.devRef .tc r) = W4 m ρ c (Proc.devRef .tc r) :=
  StableHlo.after_of_writes_sub hostOps2 _ hostOps2_writes h
abbrev V5 : (c : Dev nD) → (b : Ref sig .tc) → Buf (Elt F) ((c : Thread nD τ).loc b) := fun c b => W5 m ρ c b
def W6 : Dev nD → Valuation τ sig (Elt F) := stepW (W5 m ρ) (dat2 (V5 m ρ))
abbrev V6 : (c : Dev nD) → (b : Ref sig .tc) → Buf (Elt F) ((c : Thread nD τ).loc b) := fun c b => W6 m ρ c b
def W7 : Dev nD → Valuation τ sig (Elt F) := stepW (W6 m ρ) (dat3 (V6 m ρ))

theorem sharedIn2 : Pipeline.SharedIn spec2 := by decide
theorem sharedIn3 : Pipeline.SharedIn spec3 := by decide

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem argsIn3 : ∀ a ∈ argRefs, ∀ w : Fin cfg3.W, Pipeline.arrRef spec3 w = a → (cfg3.win w).isOut = false :=
  ListAll.forall_mem_of_all_decide (by decide +kernel)

theorem W1_args (c : Dev nD) : ∀ a ∈ argRefs, W1 m ρ c (Proc.devRef .tc a) = m ((c : Thread nD τ).loc a) :=
  fun a ha => W1_of m ρ c a (hostOps0_args a ha)
theorem W2_args (c : Dev nD) : ∀ a ∈ argRefs, W2 m ρ c (Proc.devRef .tc a) = m ((c : Thread nD τ).loc a) :=
  fun a ha => (stepW_of sharedIn0 _ (dat0 (V1 m ρ)) (A_eq0 (V1 m ρ)) c a (argsIn0 a ha)).trans (W1_args m ρ c a ha)
theorem W3_args (c : Dev nD) : ∀ a ∈ argRefs, W3 m ρ c (Proc.devRef .tc a) = m ((c : Thread nD τ).loc a) :=
  fun a ha => (W3_of m ρ c a (hostOps1_args a ha)).trans (W2_args m ρ c a ha)
theorem W4_args (c : Dev nD) : ∀ a ∈ argRefs, W4 m ρ c (Proc.devRef .tc a) = m ((c : Thread nD τ).loc a) :=
  fun a ha => (stepW_of sharedIn1 _ (dat1 (V3 m ρ)) (A_eq1 (V3 m ρ)) c a (argsIn1 a ha)).trans (W3_args m ρ c a ha)
theorem W5_args (c : Dev nD) : ∀ a ∈ argRefs, W5 m ρ c (Proc.devRef .tc a) = m ((c : Thread nD τ).loc a) :=
  fun a ha => (W5_of m ρ c a (hostOps2_args a ha)).trans (W4_args m ρ c a ha)
theorem W6_args (c : Dev nD) : ∀ a ∈ argRefs, W6 m ρ c (Proc.devRef .tc a) = m ((c : Thread nD τ).loc a) :=
  fun a ha => (stepW_of sharedIn2 _ (dat2 (V5 m ρ)) (A_eq2 (V5 m ρ)) c a (argsIn2 a ha)).trans (W5_args m ρ c a ha)
theorem W7_args (c : Dev nD) : ∀ a ∈ argRefs, W7 m ρ c (Proc.devRef .tc a) = m ((c : Thread nD τ).loc a) :=
  fun a ha => (stepW_of sharedIn3 _ (dat3 (V6 m ρ)) (A_eq3 (V6 m ρ)) c a (argsIn3 a ha)).trans (W6_args m ρ c a ha)

abbrev adm : (p : Fin 4) → (pcfgs (F := F) p).Adm := fun p => (cfgs p).toPCfg_adm
def pdats : (p : Fin 4) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
  | ⟨2, _⟩ => fun c => dat2 (V5 m ρ) c
  | ⟨3, _⟩ => fun c => dat3 (V6 m ρ) c

def reg0 : Pipeline.RegionSeg (pcfgs (F := F)) adm (pdats m ρ) () defs₀ 𝒱₀ L lv 0 :=
  regOf cfgs defs₀ (pdats m ρ) 0 winFacts₀0 sharedIn0 block_pos0 arr_whole0 stage_whole0 (W1 m ρ) (W2 m ρ) (body_obligation0 (V1 m ρ))
    (fun _ _ => rfl) (fun _ _ => trivial) (fun _ _ => rfl) (fun _ _ => rfl) (A_eq0 (V1 m ρ))
    (fun c w => (stepW_arr sharedIn0 _ (dat0 (V1 m ρ)) (A_eq0 (V1 m ρ)) c w).symm)
    (fun c b hb => stepW_of_ne _ (dat0 (V1 m ρ)) c b fun w e => hb (Finset.mem_image.mpr ⟨w, Finset.mem_univ _, e⟩))
def reg1 : Pipeline.RegionSeg (pcfgs (F := F)) adm (pdats m ρ) () defs₀ 𝒱₀ L lv 1 :=
  regOf cfgs defs₀ (pdats m ρ) 1 winFacts₀1 sharedIn1 block_pos1 arr_whole1 stage_whole1 (W3 m ρ) (W4 m ρ) (body_obligation1 (V3 m ρ))
    (fun _ _ => rfl) (fun _ _ => trivial) (fun _ _ => rfl) (fun _ _ => rfl) (A_eq1 (V3 m ρ))
    (fun c w => (stepW_arr sharedIn1 _ (dat1 (V3 m ρ)) (A_eq1 (V3 m ρ)) c w).symm)
    (fun c b hb => stepW_of_ne _ (dat1 (V3 m ρ)) c b fun w e => hb (Finset.mem_image.mpr ⟨w, Finset.mem_univ _, e⟩))
def reg2 : Pipeline.RegionSeg (pcfgs (F := F)) adm (pdats m ρ) () defs₀ 𝒱₀ L lv 2 :=
  regOf cfgs defs₀ (pdats m ρ) 2 winFacts2.to₀ sharedIn2 block_pos2 arr_whole2 stage_whole2 (W5 m ρ) (W6 m ρ) (body_obligation2 (V5 m ρ))
    (fun _ _ => rfl) (fun _ _ => trivial) (fun _ _ => rfl) (fun _ _ => rfl) (A_eq2 (V5 m ρ))
    (fun c w => (stepW_arr sharedIn2 _ (dat2 (V5 m ρ)) (A_eq2 (V5 m ρ)) c w).symm)
    (fun c b hb => stepW_of_ne _ (dat2 (V5 m ρ)) c b fun w e => hb (Finset.mem_image.mpr ⟨w, Finset.mem_univ _, e⟩))
def reg3 : Pipeline.RegionSeg (pcfgs (F := F)) adm (pdats m ρ) () defs₀ 𝒱₀ L lv 3 :=
  regOf cfgs defs₀ (pdats m ρ) 3 winFacts3.to₀ sharedIn3 block_pos3 arr_whole3 stage_whole3 (W6 m ρ) (W7 m ρ) (body_obligation3 (V6 m ρ))
    (fun _ _ => rfl) (fun _ _ => trivial) (fun _ _ => rfl) (fun _ _ => rfl) (A_eq3 (V6 m ρ))
    (fun c w => (stepW_arr sharedIn3 _ (dat3 (V6 m ρ)) (A_eq3 (V6 m ρ)) c w).symm)
    (fun c b hb => stepW_of_ne _ (dat3 (V6 m ρ)) c b fun w e => hb (Finset.mem_image.mpr ⟨w, Finset.mem_univ _, e⟩))

abbrev segs : List (Pipeline.Seg (pcfgs (F := F)) adm (pdats m ρ) () defs₀ 𝒱₀ L lv) :=
  [ .host (hseg cfgs defs₀ hostOps0 hostOps0_sub hostOps0_fresh (W0 m ρ)),
    .region (reg0 m ρ),
    .host (hseg cfgs defs₀ hostOps1 hostOps1_sub hostOps1_fresh (W2 m ρ)),
    .region (reg1 m ρ),
    .host (hseg cfgs defs₀ hostOps2 hostOps2_sub hostOps2_fresh (W4 m ρ)),
    .region (reg2 m ρ),
    .region (reg3 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends; the arguments are as launched, the result is what the fourth launch's write-backs leave, and every
    counter is zero. -/
theorem run : θ_run defs (onTc (τ := τ) (main (F := F))) ⟨m, fun _ => 0, ρ⟩ (fun r => (∀ c : Dev nD,
      r.2.mem ((c.tc : Thread nD τ).loc main_v13) = (dat3 (V6 m ρ) c).arrAt 4 cfg3.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨(h.1 c _ (mem_uc main_v13 (by decide))).trans (stepW_arr sharedIn3 _ (dat3 (V6 m ρ)) (A_eq3 (V6 m ρ)) c 4),
     (h.1 c _ (mem_uc main_arg0 (by decide))).trans (W7_args m ρ c main_arg0 (by decide)),
     (h.1 c _ (mem_uc main_arg1 (by decide))).trans (W7_args m ρ c main_arg1 (by decide)),
     (h.1 c _ (mem_uc main_arg2 (by decide))).trans (W7_args m ρ c main_arg2 (by decide)),
     (h.1 c _ (mem_uc main_arg3 (by decide))).trans (W7_args m ρ c main_arg3 (by decide)),
     (h.1 c _ (mem_uc main_arg4 (by decide))).trans (W7_args m ρ c main_arg4 (by decide)),
     (h.1 c _ (mem_uc main_arg5 (by decide))).trans (W7_args m ρ c main_arg5 (by decide)),
     (h.1 c _ (mem_uc main_arg6 (by decide))).trans (W7_args m ρ c main_arg6 (by decide)),
     (h.1 c _ (mem_uc main_arg7 (by decide))).trans (W7_args m ρ c main_arg7 (by decide)),
     (h.1 c _ (mem_uc main_arg8 (by decide))).trans (W7_args m ρ c main_arg8 (by decide))⟩, h.2⟩)
    (run_of cfgs defs₀ (pdats m ρ) cellOf_inj m ρ main (segs m ρ) (W0 m ρ) (W7 m ρ) (fun _ => rfl) (main_run m ρ)
      (by simp only [segs, Pipeline.Seg.pipes_host, Pipeline.Seg.pipes_region, Pipeline.Seg.pipes_nil]; decide)
      ⟨fun _ => .rfl, fun _ => .rfl, fun _ => .rfl, fun _ => .rfl, fun _ => .rfl, fun _ => .rfl, fun _ => .rfl, last _⟩ no_unscoped)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => (h.1 c).2, h.2⟩) (run m ρ)

end Cert.SpatialGateIdeal.Joined

end
-- ==== Proof.SpatialGate.Stored.lean ====
module

public import proofs.«01_k».proof.Proof.SpatialGate.Whole
public import proofs.«01_k».proof.Proof.Blocks

@[expose] public section

/-! What each launch's body leaves in its output buffers: the values it stores there, at the blocks it loads. -/

set_option maxRecDepth 65536

noncomputable section

namespace Cert.SpatialGateIdeal.Joined

open Idealize.ShloMosaic
open Idealize.ShloMosaic.TcCoe Idealize.ShloMosaic.Tactic
open Idealize.SL.Sem
open Cert.SpatialGateIdeal.Gen
open Cert.Blocks (ld_all emb_all read_of)

variable {F : FTy → Type} [FloatOps F]

theorem out0_eq (c : Dev nD) (i : grid0.Coords) (arg1 : Memref sig .tc .vmem S512x4096 .f32) (harg1 : arg1.IsWhole)
    (arg2 : Memref sig .tc .vmem S1x4096 .f32) (harg2 : arg2.IsWhole)
    (arg3 : Memref sig .tc .vmem S1x1x1x1x4096 .f32) (harg3 : arg3.IsWhole)
    (arg4 : Memref sig .tc .vmem S1x1x1x1x4096 .f32) (harg4 : arg4.IsWhole)
    (arg5 : Memref sig .tc .vmem S512x4096 .bf16) (harg5 : arg5.IsWhole)
    (x0 : Vec F S512x4096 .f32) (x1 : Vec F S1x4096 .f32) (x2 x3 : Vec F S1x1x1x1x4096 .f32) :
    out0 c i arg1 harg1 arg2 harg2 arg3 harg3 arg4 harg4 arg5 harg5 x0 x1 x2 x3 = k0_pay1 x0 x1 x3 x2 := by
  unfold out0
  refine read_of (cover0 c i arg1 harg1 arg2 harg2 arg3 harg3 arg4 harg4 arg5 harg5 x0 x1 x2 x3) (k0_pay1 x0 x1 x3 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide)]
  exact congrArg (k0_pay1 x0 x1 x3 x2) (emb_all (S := S512x4096) ![0, 0] _ (by decide) x).symm

section products

variable (c : Dev nD) (i : grid1.Coords) (arg2 : Memref sig .tc .vmem S1024x4096 .bf16) (harg2 : arg2.IsWhole)
  (arg3 : Memref sig .tc .vmem S1x4096x512 .f32) (harg3 : arg3.IsWhole)
  (arg4 : Memref sig .tc .vmem S1x4096x512 .f32) (harg4 : arg4.IsWhole)
  (arg5 : Memref sig .tc .vmem S1x512 .f32) (harg5 : arg5.IsWhole)
  (arg6 : Memref sig .tc .vmem S1x512 .f32) (harg6 : arg6.IsWhole)
  (arg7 : Memref sig .tc .vmem S1024x512 .bf16) (harg7 : arg7.IsWhole)
  (arg8 : Memref sig .tc .vmem S1024x512 .bf16) (harg8 : arg8.IsWhole)
  (x0 : Vec F S1024x4096 .bf16) (x1 x2 : Vec F S1x4096x512 .f32) (x3 x4 : Vec F S1x512 .f32)

theorem out1_0_eq : out1_0 c i arg2 harg2 arg3 harg3 arg4 harg4 arg5 harg5 arg6 harg6 arg7 harg7 arg8 harg8 x0 x1 x2 x3 x4
    = k1_pay3 x0 x1 x3 := by
  unfold out1_0
  refine read_of (cover1_0 c i arg2 harg2 arg3 harg3 arg4 harg4 arg5 harg5 arg6 harg6 arg7 harg7 arg8 harg8 x0 x1 x2 x3 x4) (k1_pay3 x0 x1 x3) fun p hp x => ?_
  obtain rfl := List.mem_singleton.mp hp
  simp only [View.readAt_eq_ld, Memref.IsWhole.read_unread]
  rw [ld_all _ _ _ (by decide), ld_all _ _ _ (by decide), ld_all _ _ _ (by decide)]
  exact congrArg (k1_pay3 x0 x1 x3) (emb_all (S := S1024x512) ![0, 0] _ (by decide) x).symm

/-- What the body stores in its second output is the first output's function, of the second weights and the second bias. -/
theorem second_eq : (kernelRun1 c i arg2 harg2 arg3 harg3 arg4 harg4 arg5 harg5 arg6 harg6 arg7 harg7 arg8 harg8 x0 x1 x2 x3 x4).1.2
    = [⟨Rect.unit (s := S1024x512) ![0, 0] S1024x512.size inb_S1024x512_S1024x512_0_0, k1_pay3
        (arg2.view.readAt (Elt F) (Rect.unit (s := S1024x4096) ![0, 0] S1024x4096.size inb_S1024x4096_S1024x4096_0_0).toLoadRect (harg2.unread x0))
        (arg4.view.readAt (Elt F) (Rect.unit (s := S1x4096x512) ![0, 0, 0] S1x4096x512.size inb_S1x4096x512_S1x4096x512_0_0_0).toLoadRect (harg4.unread x2))
        (arg6.view.readAt (Elt F) (Rect.unit (s := S1x512) ![0, 0] S1x512.size inb_S1x512_S1x512_0_0).toLoadRect (harg6.unread x4))⟩] := by
  sl_kernel_rfl

theorem out1_1_eq : out1_1 c i arg2 harg2 arg3 harg3 arg4 harg4 arg5 harg5 arg6 harg6 arg7 harg7 arg8 harg8 x0 x1 x2 x3 x4
    = k1_pay3 x0 x2 x4 := by
  unfold out1_1
  refine read_of (cover1_1 c i arg2 harg2 arg3 harg3 arg4 harg4 arg5 harg5 arg6 harg6 arg7 harg7 arg8 harg8 x0 x1 x2 x3 x4) (k1_pay3 x0 x2 x4) ?_
  rw [second_eq]
  intro p hp x
  obtain rfl := List.mem_singleton.mp hp
  simp only [View.readAt_eq_ld, Memref.IsWhole.read_unread]
  rw [ld_all _ _ _ (by decide), ld_all _ _ _ (by decide), ld_all _ _ _ (by decide)]
  exact congrArg (k1_pay3 x0 x2 x4) (emb_all (S := S1024x512) ![0, 0] _ (by decide) x).symm

end products

/-! ## The mixing: sixteen pieces of the output, one for each chunk `a` and each group `g` -/

theorem piece_inb (a : Fin 2) (g : Fin 8) : ∀ k, (![128 * a.val, 512 * g.val] : Fin 2 → Nat) k + S128x512.size k ≤ S256x4096.size k := by
  revert a g; decide +kernel
theorem weight_inb (g : Fin 8) : ∀ k, (![g.val, 0, 0] : Fin 3 → Nat) k + S1x128x128.size k ≤ S8x128x128.size k := by
  revert g; decide +kernel
theorem bias_inb (g : Fin 8) : ∀ k, (![0, g.val] : Fin 2 → Nat) k + S128x1.size k ≤ S128x8.size k := by
  revert g; decide +kernel

/-- The rectangle of the piece: the chunk's rows and the group's columns. -/
abbrev pieceRect (a : Fin 2) (g : Fin 8) : Rect S256x4096 :=
  Rect.unit (s := S256x4096) ![128 * a.val, 512 * g.val] S128x512.size (piece_inb a g)
abbrev weightRect (g : Fin 8) : Rect S8x128x128 := Rect.unit (s := S8x128x128) ![g.val, 0, 0] S1x128x128.size (weight_inb g)
abbrev biasRect (g : Fin 8) : Rect S128x8 := Rect.unit (s := S128x8) ![0, g.val] S128x1.size (bias_inb g)

theorem piece_slices (a : Fin 2) (g : Fin 8) : S256x4096.Slices ![128 * a.val, 512 * g.val] S128x512 := by
  revert a g; decide +kernel

/-- The piece's value: the chunk's and group's part `u` of the first hidden half, times the group's mixing of the
    normalised second half `v` over the chunk's positions, with the group's bias. -/
def pieceValue (a : Fin 2) (g : Fin 8) (v : FVec F S256x4096 .bf16) (w : Vec F S1x128x128 .f32) (b : Vec F S128x1 .f32)
    (u : Vec F S128x512 .bf16) : FVec F S128x512 .bf16 :=
  truncf .bf16 (mulf (extf .f32 (shapeCast S128x512 u shapeCasts_S128x512_S128x512) bitsLt_bf16_f32)
    (addf (matmul (φ₁ := .bf16) (φ₂ := .bf16) dot_S128x128_S128x512_S128x512_1_0_0_1_n_n none
        (truncf .bf16 (shapeCast S128x128 w shapeCasts_S1x128x128_S128x128) bitsLt_bf16_f32)
        (extractStridedSlice S128x512 ![128 * a.val, 512 * g.val] v (piece_slices a g)) (constant S128x512 .f32 0x00000000#32))
      (broadcastTo S128x512 (shapeCast S128x1 b shapeCasts_S128x1_S128x1) broadcasts_S128x1_S128x512))) bitsLt_bf16_f32

/-- The pieces in the order in which they are found, the last stored first. -/
def pieceOrder : List (Fin 2 × Fin 8) :=
  [(1, 7), (1, 6), (1, 5), (1, 4), (1, 3), (1, 2), (1, 1), (1, 0), (0, 7), (0, 6), (0, 5), (0, 4), (0, 3), (0, 2), (0, 1), (0, 0)]

section mixing

variable (c : Dev nD) (i : grid2.Coords) (arg1 : Memref sig .tc .vmem S256x4096 .bf16) (harg1 : arg1.IsWhole)
  (arg2 : Memref sig .tc .vmem S256x4096 .bf16) (harg2 : arg2.IsWhole)
  (arg3 : Memref sig .tc .vmem S1x4096 .f32) (harg3 : arg3.IsWhole)
  (arg4 : Memref sig .tc .vmem S8x128x128 .f32) (harg4 : arg4.IsWhole)
  (arg5 : Memref sig .tc .vmem S128x8 .f32) (harg5 : arg5.IsWhole)
  (arg6 : Memref sig .tc .vmem S256x4096 .bf16) (harg6 : arg6.IsWhole)
  (x0 x1 : Vec F S256x4096 .bf16) (x2 : Vec F S1x4096 .f32) (x3 : Vec F S8x128x128 .f32) (x4 : Vec F S128x8 .f32)

/-- What the body stores is the sixteen pieces. -/
theorem pieces_eq : (kernelRun2 c i arg1 harg1 arg2 harg2 arg3 harg3 arg4 harg4 arg5 harg5 arg6 harg6 x0 x1 x2 x3 x4).1
    = pieceOrder.map fun q => ⟨pieceRect q.1 q.2, pieceValue q.1 q.2
        (k2_pay2 (arg2.view.readAt (Elt F) (Rect.unit (s := S256x4096) ![0, 0] S256x4096.size inb_S256x4096_S256x4096_0_0).toLoadRect (harg2.unread x1))
          (arg3.view.readAt (Elt F) (Rect.unit (s := S1x4096) ![0, 0] S1x4096.size inb_S1x4096_S1x4096_0_0).toLoadRect (harg3.unread x2)))
        (arg4.view.readAt (Elt F) (weightRect q.2).toLoadRect (harg4.unread x3))
        (arg5.view.readAt (Elt F) (biasRect q.2).toLoadRect (harg5.unread x4))
        (arg1.view.readAt (Elt F) (pieceRect q.1 q.2).toLoadRect (harg1.unread x0))⟩ := by sl_kernel_rfl

/-- The body's output agrees with any contents with which every piece agrees. -/
theorem out2_eq (f : Vec F S256x4096 .bf16)
    (hf : ∀ a g x, pieceValue a g (k2_pay2 x1 x2) (View.ld x3 (weightRect g)) (View.ld x4 (biasRect g)) (View.ld x0 (pieceRect a g)) x
      = f ((pieceRect a g).emb x)) :
    out2 c i arg1 harg1 arg2 harg2 arg3 harg3 arg4 harg4 arg5 harg5 arg6 harg6 x0 x1 x2 x3 x4 = f := by
  unfold out2
  refine read_of (cover2 c i arg1 harg1 arg2 harg2 arg3 harg3 arg4 harg4 arg5 harg5 arg6 harg6 x0 x1 x2 x3 x4) f ?_
  rw [pieces_eq]
  intro p hp x
  obtain ⟨⟨a, g⟩, _, rfl⟩ := List.mem_map.mp hp
  simp only [View.readAt_eq_ld, Memref.IsWhole.read_unread]
  rw [ld_all x1 _ _ (by decide), ld_all x2 _ _ (by decide)]
  exact hf a g x

end mixing

theorem out3_eq (c : Dev nD) (i : grid3.Coords) (arg2 : Memref sig .tc .vmem S1024x4096 .bf16) (harg2 : arg2.IsWhole)
    (arg3 : Memref sig .tc .vmem S1x4096x512 .f32) (harg3 : arg3.IsWhole)
    (arg4 : Memref sig .tc .vmem S1x1x1x1x512 .f32) (harg4 : arg4.IsWhole)
    (arg5 : Memref sig .tc .vmem S1024x512 .f32) (harg5 : arg5.IsWhole)
    (arg6 : Memref sig .tc .vmem S1024x512 .f32) (harg6 : arg6.IsWhole)
    (x0 : Vec F S1024x4096 .bf16) (x1 : Vec F S1x4096x512 .f32) (x2 : Vec F S1x1x1x1x512 .f32)
    (x3 : Vec F S1024x512 .f32) :
    out3 c i arg2 harg2 arg3 harg3 arg4 harg4 arg5 harg5 arg6 harg6 x0 x1 x2 x3 = k3_pay1 x0 x1 x3 x2 := by
  unfold out3
  refine read_of (cover3 c i arg2 harg2 arg3 harg3 arg4 harg4 arg5 harg5 arg6 harg6 x0 x1 x2 x3) (k3_pay1 x0 x1 x3 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide)]
  exact congrArg (k3_pay1 x0 x1 x3 x2) (emb_all (S := S1024x512) ![0, 0] _ (by decide) x).symm

end Cert.SpatialGateIdeal.Joined

end
-- ==== Proof.Maths.SpatialGate.lean ====
module

public import proofs.«01_k».proof.Proof.Maths.FeedForward

@[expose] public section

/-! The formulas of a spatial-gating sub-layer: the activation, a row's norm with a gain, the mixing of the positions of a
    chunk, and the residual. The numbers in them are the f32 words that both programs write. -/

noncomputable section

namespace Cert.Maths

open Idealize.ShloMosaic

/-- The activation: half the value, by one more than the hyperbolic tangent of the value and its cube's share. -/
def gelu (a : EReal) : EReal :=
  Ideal.ofBits .f32 0x3F000000#32 * a * (Ideal.ofBits .f32 0x3F800000#32
    + Ideal.tanh (Ideal.ofBits .f32 0x3F4C422A#32 * (a + Ideal.ofBits .f32 0x3D372713#32 * (a * a * a))))

/-- A row's entry over the root of the row's mean square, by the gain. -/
def normed (v gain : Fin 4096 → EReal) (j : Fin 4096) : EReal :=
  v j * Ideal.rsqrt (Ideal.div (∑ e, v e * v e) (Ideal.ofBits .f32 0x45800000#32) + Ideal.ofBits .f32 0x358637BD#32) * gain j

/-- The group of a column: 512 columns each. -/
def groupOf (k : Fin 4096) : Fin 8 := ⟨k.val / 512, by omega⟩
/-- The position of a row in its chunk of 128 rows, and the row at position `q` of the same chunk. -/
def posOf (i : Fin 8192) : Fin 128 := ⟨i.val % 128, by omega⟩
def chunkRow (i : Fin 8192) (q : Fin 128) : Fin 8192 := ⟨128 * (i.val / 128) + q.val, by omega⟩

/-- Column `k` of the products' first half, and of their second half. -/
def leftCol (k : Fin 4096) : Fin 8192 := ⟨k.val, by omega⟩
def rightCol (k : Fin 4096) : Fin 8192 := ⟨4096 + k.val, by omega⟩

/-- Entry `(i, k)` after the mixing: the first half's entry, by the mixing of the chunk's positions of the normed second
    half and the bias. -/
def mixed (u v : Fin 8192 → Fin 4096 → EReal) (gain : Fin 4096 → EReal) (w : Fin 8 → Fin 128 → Fin 128 → EReal)
    (b : Fin 8 → Fin 128 → EReal) (i : Fin 8192) (k : Fin 4096) : EReal :=
  u i k * ((∑ q, w (groupOf k) (posOf i) q * normed (v (chunkRow i q)) gain k) + b (groupOf k) (posOf i))

/-- Entry `(i, k)` of the activated products. -/
def activated (h : Fin 8192 → Fin 4096 → EReal) (A : Fin 4096 → Fin 8192 → EReal) (b : Fin 8192 → EReal) (i k : Fin 8192) : EReal :=
  gelu ((∑ e, h i e * A e k) + b k)

/-- The sub-layer's entry `(i, j)`: `x` the rows, `gain` the norm's, `scale`, `shift` and `gate` those of every image,
    `A` and `b` the first product's, `vgain` the second norm's, `w` and `c` the mixing's, `O` the last product's. -/
def spatialGate (x : Fin 8192 → Fin 4096 → EReal) (gain : Fin 4096 → EReal) (scale shift gate : Fin 8 → Fin 4096 → EReal)
    (A : Fin 4096 → Fin 8192 → EReal) (b : Fin 8192 → EReal) (vgain : Fin 4096 → EReal) (w : Fin 8 → Fin 128 → Fin 128 → EReal)
    (c : Fin 8 → Fin 128 → EReal) (O : Fin 4096 → Fin 4096 → EReal) (i : Fin 8192) (j : Fin 4096) : EReal :=
  x i j + gate (imageOf i) j * ∑ k, mixed
    (fun a k => activated (fun a e => modulated (x a) gain (scale (imageOf a)) (shift (imageOf a)) e) A b a (leftCol k))
    (fun a k => activated (fun a e => modulated (x a) gain (scale (imageOf a)) (shift (imageOf a)) e) A b a (rightCol k))
    vgain w c i k * O k j

end Cert.Maths

end
-- ==== Proof.SpatialGate.Values.lean ====
module

public import proofs.«01_k».proof.Proof.SpatialGate.Stored
public import proofs.«01_k».proof.Proof.FeedForward.Values
public import proofs.«01_k».proof.Proof.Maths.SpatialGate
public import Idealize.ShloMosaic.Lib.Pointwise

@[expose] public section

/-! What one step of each launch stores, entry by entry. -/

set_option maxRecDepth 65536

noncomputable section

namespace Cert.SpatialGateIdeal.Joined

open Idealize.ShloMosaic hiding ix1 ix2 ix3 ix4 ix5
open Idealize.ShloMosaic.TcCoe Idealize.ShloMosaic.Tactic
open Idealize.SL.Sem
open Cert.SpatialGateIdeal.Gen
open Idealize.ShloMosaic.ValueIdx
open Cert.FeedForwardIdeal.Joined (rsqrt_at splat_at)

theorem tanh_at {s : Shape} (x : FVec Ideal s .f32) (y : s.Idx) : tanh x y = Ideal.tanh (x y) := rfl

/-- The word of one is one. -/
theorem one_word : Ideal.ofBits .f32 0x3F800000#32 = 1 := by
  simp [Ideal.ofBits, Ideal.ieee, -EReal.coe_mul]; norm_num

/-! ## The norm: the feed-forward's -/

theorem pay0_at (x : Vec Ideal S512x4096 .f32) (g : Vec Ideal S1x4096 .f32) (scale shift : Vec Ideal S1x1x1x1x4096 .f32)
    (r : Fin 512) (j : Fin 4096) :
    k0_pay1 x g scale shift (ix2 r j)
      = Maths.modulated (fun e => x (ix2 r e)) (fun e => g (ix2 0 e)) (fun e => scale (ix5 0 0 0 0 e))
          (fun e => shift (ix5 0 0 0 0 e)) j :=
  Eq.trans (b := Cert.FeedForwardIdeal.Gen.k0_pay1 x g scale shift (ix2 r j)) (by sl_kernel_rfl)
    (Cert.FeedForwardIdeal.Joined.pay0_at x g scale shift r j)

/-! ## A product of 1024 rows by 512 columns -/

theorem rows_at (h : FVec Ideal S1024x4096 .bf16) (r : Fin 1024) (e : Fin 4096) :
    shapeCast (α := Ideal .bf16) S1024x4096 h shapeCasts_S1024x4096_S1024x4096 (ix2 r e) = h (ix2 r e) :=
  shapeCast_apply _ _ _ _ rfl

theorem cols_at (w : FVec Ideal S1x4096x512 .f32) (e : Fin 4096) (j : Fin 512) :
    shapeCast (α := Ideal .f32) S4096x512 w shapeCasts_S1x4096x512_S4096x512 (ix2 e j) = w (ix3 0 e j) := by
  refine shapeCast_apply _ _ _ _ ?_
  rw [Shape.rowMajor_val_two, Shape.rowMajor_val_three]
  show (0 * 4096 + e.val) * 512 + j.val = e.val * 512 + j.val
  omega

theorem rowOf_at (x : FVec Ideal S1x512 .f32) (r : Fin 1024) (j : Fin 512) :
    broadcastTo S1024x512 x broadcasts_S1x512_S1024x512 (ix2 r j) = x (ix2 0 j) := by
  refine broadcastTo_apply _ _ _ _ fun c => ?_
  fin_cases c <;> rfl

/-- The product of the rows by the block's columns. -/
def product (h : Vec Ideal S1024x4096 .bf16) (w : Vec Ideal S1x4096x512 .f32) : FVec Ideal S1024x512 .f32 :=
  matmul (φ₁ := .bf16) (φ₂ := .bf16) dot_S1024x4096_S4096x512_S1024x512_1_0_0_1_n_n none
    (shapeCast S1024x4096 h shapeCasts_S1024x4096_S1024x4096)
    (truncf .bf16 (shapeCast S4096x512 w shapeCasts_S1x4096x512_S4096x512) bitsLt_bf16_f32)
    (constant S1024x512 .f32 0x00000000#32)

theorem product_at (h : Vec Ideal S1024x4096 .bf16) (w : Vec Ideal S1x4096x512 .f32) (r : Fin 1024) (j : Fin 512) :
    product h w (ix2 r j) = ∑ e : Fin 4096, (h (ix2 r e) : EReal) * w (ix3 0 e j) := by
  unfold product
  refine (Ideal.matmul_apply₁_of dot_S1024x4096_S4096x512_S1024x512_1_0_0_1_n_n rfl rfl _ _ _ (ix2 r j)
    (fun e => ix2 r e) (fun e => ix2 e j) ?_ ?_).trans ?_
  · intro e; funext x; refine Fin.ext ?_; fin_cases x <;> rfl
  · intro e; funext x; refine Fin.ext ?_; fin_cases x <;> rfl
  · rw [constant_apply]
    refine (congrArg (· + _) Ideal.ofBits_zero_f32).trans ((zero_add _).trans (Finset.sum_congr rfl fun e _ =>
      congrArg₂ (· * ·) (rows_at h r e) (cols_at w e j)))

/-! ## The activated products -/

theorem bias_at (x : FVec Ideal S1x512 .f32) (z : Fin 1) (j : Fin 512) :
    shapeCast (α := Ideal .f32) S1x512 x shapeCasts_S1x512_S1x512 (ix2 z j) = x (ix2 z j) :=
  shapeCast_apply _ _ _ _ rfl

/-- The product with its bias. -/
def biased (h : Vec Ideal S1024x4096 .bf16) (w : Vec Ideal S1x4096x512 .f32) (b : Vec Ideal S1x512 .f32) : FVec Ideal S1024x512 .f32 :=
  addf (product h w) (broadcastTo S1024x512 (shapeCast S1x512 b shapeCasts_S1x512_S1x512) broadcasts_S1x512_S1024x512)

theorem biased_at (h : Vec Ideal S1024x4096 .bf16) (w : Vec Ideal S1x4096x512 .f32) (b : Vec Ideal S1x512 .f32) (r : Fin 1024) (j : Fin 512) :
    biased h w b (ix2 r j) = (∑ e : Fin 4096, (h (ix2 r e) : EReal) * w (ix3 0 e j)) + b (ix2 0 j) := by
  unfold biased
  rw [addf_apply, product_at, rowOf_at, bias_at]

theorem pay1_at (h : Vec Ideal S1024x4096 .bf16) (w : Vec Ideal S1x4096x512 .f32) (b : Vec Ideal S1x512 .f32) (r : Fin 1024) (j : Fin 512) :
    k1_pay3 h w b (ix2 r j) = Maths.gelu ((∑ e : Fin 4096, (h (ix2 r e) : EReal) * w (ix3 0 e j)) + b (ix2 0 j)) := by
  refine Eq.trans (b := truncf (F := Ideal) .bf16 (mulf (mulf (broadcast S1024x512 (Scalar.ofBits .f32 0x3F000000#32)) (biased h w b))
      (addf (broadcast S1024x512 (Scalar.ofBits .f32 0x3F800000#32)) (tanh (mulf (broadcast S1024x512 (Scalar.ofBits .f32 0x3F4C422A#32))
        (addf (biased h w b) (mulf (broadcast S1024x512 (Scalar.ofBits .f32 0x3D372713#32))
          (mulf (mulf (biased h w b) (biased h w b)) (biased h w b)))))))) bitsLt_bf16_f32 (ix2 r j)) (by sl_kernel_rfl) ?_
  unfold Maths.gelu
  simp only [truncf_apply, addf_apply, mulf_apply, tanh_at, splat_at, biased_at]

/-! ## The mixing -/

theorem block_at (v : FVec Ideal S256x4096 .bf16) (r : Fin 256) (j : Fin 4096) :
    shapeCast (α := Ideal .bf16) S256x4096 v shapeCasts_S256x4096_S256x4096 (ix2 r j) = v (ix2 r j) :=
  shapeCast_apply _ _ _ _ rfl

theorem sums_at (x : FVec Ideal S256x4096 .f32) (h : S256x4096.Reduces [1] S256) (hφ : FKind.Formats .f32) (hacc) (r : Fin 256) :
    multiReduction .add [1] S256 x 0x00000000#32 h hφ hacc (ix1 r) = ∑ e : Fin 4096, (x (ix2 r e) : EReal) := by
  rw [Ideal.multiReduction_add_single]
  refine Finset.sum_congr rfl fun e _ => congrArg x (funext fun c => Fin.ext ?_)
  fin_cases c <;> rfl

/-- The sum of every row, as a column. -/
def rowSum (x : FVec Ideal S256x4096 .f32) : FVec Ideal S256x1 .f32 :=
  shapeCast S256x1 (multiReduction .add [1] S256 x 0x00000000#32 reduces_S256x4096_S256 (.inl rfl) rfl) shapeCasts_S256_S256x1

theorem rowSum_at (x : FVec Ideal S256x4096 .f32) (r : Fin 256) (z : Fin 1) :
    rowSum x (ix2 r z) = ∑ e : Fin 4096, (x (ix2 r e) : EReal) := by
  refine (shapeCast_apply _ _ (ix2 r z) (ix1 r) ?_).trans (sums_at x _ _ _ r)
  rw [Shape.rowMajor_val_one, Shape.rowMajor_val_two]
  have := z.isLt
  show r.val = r.val * 1 + z.val
  omega

theorem column_at (x : FVec Ideal S256x1 .f32) (r : Fin 256) (j : Fin 4096) :
    broadcastTo S256x4096 x broadcasts_S256x1_S256x4096 (ix2 r j) = x (ix2 r 0) := by
  refine broadcastTo_apply _ _ _ _ fun c => ?_
  fin_cases c <;> rfl

theorem gainRow_at (x : FVec Ideal S1x4096 .f32) (r : Fin 256) (j : Fin 4096) :
    broadcastTo S256x4096 x broadcasts_S1x4096_S256x4096 (ix2 r j) = x (ix2 0 j) := by
  refine broadcastTo_apply _ _ _ _ fun c => ?_
  fin_cases c <;> rfl

theorem gain_at (x : FVec Ideal S1x4096 .f32) (z : Fin 1) (j : Fin 4096) :
    shapeCast (α := Ideal .f32) S1x4096 x shapeCasts_S1x4096_S1x4096 (ix2 z j) = x (ix2 z j) :=
  shapeCast_apply _ _ _ _ rfl

/-- The normed second half. -/
theorem normed_at (v : Vec Ideal S256x4096 .bf16) (g : Vec Ideal S1x4096 .f32) (r : Fin 256) (j : Fin 4096) :
    k2_pay2 v g (ix2 r j) = Maths.normed (fun e => v (ix2 r e)) (fun e => g (ix2 0 e)) j := by
  refine Eq.trans (b := truncf (F := Ideal) .bf16 (mulf (mulf (extf .f32 (shapeCast S256x4096 v shapeCasts_S256x4096_S256x4096) bitsLt_bf16_f32)
      (broadcastTo S256x4096 (rsqrt (addf (divf
        (rowSum (mulf (extf .f32 (shapeCast S256x4096 v shapeCasts_S256x4096_S256x4096) bitsLt_bf16_f32)
          (extf .f32 (shapeCast S256x4096 v shapeCasts_S256x4096_S256x4096) bitsLt_bf16_f32)))
        (broadcast S256x1 (Scalar.ofBits .f32 0x45800000#32)))
        (broadcast S256x1 (Scalar.ofBits .f32 0x358637BD#32)))) broadcasts_S256x1_S256x4096))
      (broadcastTo S256x4096 (shapeCast S1x4096 g shapeCasts_S1x4096_S1x4096) broadcasts_S1x4096_S256x4096))
      bitsLt_bf16_f32 (ix2 r j)) (by sl_kernel_rfl) ?_
  unfold Maths.normed
  simp only [truncf_apply, addf_apply, mulf_apply, divf_apply, extf_apply, block_at, gainRow_at, column_at, rowSum_at, rsqrt_at,
    gain_at, splat_at]

/-- Row `x` of chunk `a` of the block, and column `x` of group `g`. -/
def blockRow (a : Fin 2) (x : Fin 128) : Fin 256 := ⟨128 * a.val + x.val, by omega⟩
def blockCol (g : Fin 8) (x : Fin 512) : Fin 4096 := ⟨512 * g.val + x.val, by omega⟩

theorem weight_at (w : FVec Ideal S1x128x128 .f32) (p q : Fin 128) :
    shapeCast (α := Ideal .f32) S128x128 w shapeCasts_S1x128x128_S128x128 (ix2 p q) = w (ix3 0 p q) := by
  refine shapeCast_apply _ _ _ _ ?_
  rw [Shape.rowMajor_val_two, Shape.rowMajor_val_three]
  show (0 * 128 + p.val) * 128 + q.val = p.val * 128 + q.val
  omega

theorem mixBias_at (b : FVec Ideal S128x1 .f32) (p : Fin 128) (j : Fin 512) :
    broadcastTo S128x512 (shapeCast (α := Ideal .f32) S128x1 b shapeCasts_S128x1_S128x1) broadcasts_S128x1_S128x512 (ix2 p j)
      = b (ix2 p 0) := by
  refine (broadcastTo_apply _ _ _ (ix2 p 0) fun c => ?_).trans (shapeCast_apply _ _ _ _ rfl)
  fin_cases c <;> rfl

theorem part_at (u : FVec Ideal S128x512 .bf16) (p : Fin 128) (j : Fin 512) :
    shapeCast (α := Ideal .bf16) S128x512 u shapeCasts_S128x512_S128x512 (ix2 p j) = u (ix2 p j) :=
  shapeCast_apply _ _ _ _ rfl

theorem cut_at (a : Fin 2) (g : Fin 8) (v : FVec Ideal S256x4096 .bf16) (q : Fin 128) (j : Fin 512) :
    extractStridedSlice (α := Ideal .bf16) S128x512 ![128 * a.val, 512 * g.val] v (piece_slices a g) (ix2 q j)
      = v (ix2 (blockRow a q) (blockCol g j)) := by
  refine extractStridedSlice_apply _ _ _ _ (ix2 (blockRow a q) (blockCol g j)) fun z => ?_
  match z with
  | ⟨0, _⟩ => rfl
  | ⟨1, _⟩ => rfl

theorem pieceValue_at (a : Fin 2) (g : Fin 8) (v : FVec Ideal S256x4096 .bf16) (w : Vec Ideal S1x128x128 .f32) (b : Vec Ideal S128x1 .f32)
    (u : Vec Ideal S128x512 .bf16) (p : Fin 128) (j : Fin 512) :
    pieceValue a g v w b u (ix2 p j)
      = (u (ix2 p j) : EReal) * ((∑ q : Fin 128, (w (ix3 0 p q) : EReal) * v (ix2 (blockRow a q) (blockCol g j))) + b (ix2 p 0)) := by
  unfold pieceValue
  rw [truncf_apply, mulf_apply, extf_apply, part_at, addf_apply, mixBias_at]
  refine congrArg (fun s : EReal => (u (ix2 p j) : EReal) * (s + b (ix2 p 0))) ?_
  refine (Ideal.matmul_apply₁_of dot_S128x128_S128x512_S128x512_1_0_0_1_n_n rfl rfl _ _ _ (ix2 p j)
    (fun q => ix2 p q) (fun q => ix2 q j) ?_ ?_).trans ?_
  · intro e; funext x; refine Fin.ext ?_; fin_cases x <;> rfl
  · intro e; funext x; refine Fin.ext ?_; fin_cases x <;> rfl
  · rw [constant_apply]
    refine (congrArg (· + _) Ideal.ofBits_zero_f32).trans ((zero_add _).trans (Finset.sum_congr rfl fun q _ =>
      congrArg₂ (· * ·) (weight_at w p q) (cut_at a g v q j)))

/-! ## The residual -/

theorem gate_at (x : FVec Ideal S1x1x1x1x512 .f32) (j : Fin 512) :
    shapeCast (α := Ideal .f32) S1x512 x shapeCasts_S1x1x1x1x512_S1x512 (ix2 0 j) = x (ix5 0 0 0 0 j) := by
  refine shapeCast_apply _ _ _ _ ?_
  rw [Shape.rowMajor_val_two, Shape.rowMajor_val_five]
  show (((0 * 1 + 0) * 1 + 0) * 1 + 0) * 512 + j.val = 0 * 512 + j.val
  omega

theorem pay3_at (h : Vec Ideal S1024x4096 .bf16) (w : Vec Ideal S1x4096x512 .f32) (x : Vec Ideal S1024x512 .f32)
    (gate : Vec Ideal S1x1x1x1x512 .f32) (r : Fin 1024) (j : Fin 512) :
    k3_pay1 h w x gate (ix2 r j)
      = (x (ix2 r j) : EReal) + gate (ix5 0 0 0 0 j) * ∑ e : Fin 4096, (h (ix2 r e) : EReal) * w (ix3 0 e j) := by
  refine Eq.trans (b := addf (F := Ideal) x (mulf (broadcastTo S1024x512 (mulf (broadcast S1x512 (Scalar.ofBits .f32 0x3F800000#32))
      (shapeCast S1x512 gate shapeCasts_S1x1x1x1x512_S1x512)) broadcasts_S1x512_S1024x512) (product h w)) (ix2 r j))
      (by sl_kernel_rfl) ?_
  simp only [addf_apply, mulf_apply, rowOf_at, gate_at, splat_at, product_at]
  rw [one_word, one_mul]

end Cert.SpatialGateIdeal.Joined

end
-- ==== Proof.SpatialGate.Arrays.lean ====
module

public import proofs.«01_k».proof.Proof.SpatialGate.Values
public import proofs.«01_k».proof.Proof.Blocks

@[expose] public section

/-! The arrays that each launch leaves, entry by entry, from the arrays it finds: the blocks of every step are read at
    their places in the whole arrays. -/

set_option maxRecDepth 65536

noncomputable section

namespace Cert.SpatialGateIdeal.Joined

open Idealize.ShloMosaic hiding ix1 ix2 ix3 ix4 ix5
open Idealize.ShloMosaic.TcCoe Idealize.ShloMosaic.Tactic
open Idealize.SL.Sem
open Cert.SpatialGateIdeal.Gen
open Cert.Blocks (place)
open Idealize.ShloMosaic.ValueIdx

variable (V : (c : Dev nD) → (b : Ref sig .tc) → Buf (Elt Ideal) ((c : Thread nD τ).loc b))

/-! ## The norm: step `t` works on rows `512 t …` -/

def normRow (t : Fin cfg0.N) (r : Fin 512) : Fin 8192 := ⟨512 * t.val + r.val, by have : t.val < 16 := t.isLt; omega⟩

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![1, t.val / 4, 3, 0, 0] := by decide +kernel
theorem index0_3 : ∀ t : Fin grid0.N, win0_3.index t = ![1, t.val / 4, 4, 0, 0] := by decide +kernel
theorem index0_4 : ∀ t : Fin grid0.N, win0_4.index t = ![t.val, 0] := by decide +kernel

theorem iblk0_0_at (c : Dev nD) (t : Fin cfg0.N) (r : Fin 512) (e : Fin 4096) :
    iblk0 V c 0 t (ix2 r e) = V c main_arg0 (ix2 (normRow t r) e) := by
  unfold iblk0
  refine congrArg (V c main_arg0) (place win0_0 rfl (index0_0 t) fun a => ?_)
  match a with
  | ⟨0, _⟩ => show t.val * 512 + 1 * r.val = 512 * t.val + r.val; omega
  | ⟨1, _⟩ => show 0 * 4096 + 1 * e.val = e.val; omega

theorem iblk0_1_at (c : Dev nD) (t : Fin cfg0.N) (e : Fin 4096) :
    iblk0 V c 1 t (ix2 0 e) = V c main_v2 (ix2 0 e) := by
  unfold iblk0
  refine congrArg (V c main_v2) (place win0_1 rfl (index0_1 t) fun a => ?_)
  match a with
  | ⟨0, _⟩ => rfl
  | ⟨1, _⟩ => show 0 * 4096 + 1 * e.val = e.val; omega

theorem iblk0_2_at (c : Dev nD) (t : Fin cfg0.N) (r : Fin 512) (e : Fin 4096) :
    iblk0 V c 2 t (ix5 0 0 0 0 e) = V c main_arg1 (ix5 1 (Maths.imageOf (normRow t r)) 3 0 e) := by
  unfold iblk0
  have := r.isLt
  refine congrArg (V c main_arg1) (place win0_2 rfl (index0_2 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

theorem iblk0_3_at (c : Dev nD) (t : Fin cfg0.N) (r : Fin 512) (e : Fin 4096) :
    iblk0 V c 3 t (ix5 0 0 0 0 e) = V c main_arg1 (ix5 1 (Maths.imageOf (normRow t r)) 4 0 e) := by
  unfold iblk0
  have := r.isLt
  refine congrArg (V c main_arg1) (place win0_3 rfl (index0_3 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

/-- The modulated rows. -/
def normArray (x : S8192x4096.Idx → EReal) (g : S1x4096.Idx → EReal) (M : S2x8x9x1x4096.Idx → EReal) (y : S8192x4096.Idx) : EReal :=
  Maths.modulated (fun e => x (ix2 (y 0) e)) (fun e => g (ix2 0 e)) (fun e => M (ix5 1 (Maths.imageOf (y 0)) 4 0 e))
    (fun e => M (ix5 1 (Maths.imageOf (y 0)) 3 0 e)) (y 1)

theorem outsAt0_at (c : Dev nD) (t : Fin cfg0.N) (r : Fin 512) (j : Fin 4096) :
    outsAt0 V c t (ix2 r j) = normArray (V c main_arg0) (V c main_v2) (V c main_arg1) (ix2 (normRow t r) j) := by
  unfold outsAt0
  rw [out0_eq, pay0_at]
  show _ = Maths.modulated _ _ _ _ j
  congr 1
  · funext e; exact iblk0_0_at V c t r e
  · funext e; exact iblk0_1_at V c t e
  · funext e; exact iblk0_3_at V c t r e
  · funext e; exact iblk0_2_at V c t r e

theorem emb0_4 (t : Fin cfg0.N) (y : S512x4096.Idx) : (win0_4.rect t).emb y = ix2 (normRow t (y 0)) (y 1) :=
  place win0_4 rfl (index0_4 t) fun a => by
    match a with
    | ⟨0, _⟩ => show t.val * 512 + 1 * (y 0).val = 512 * t.val + (y 0).val; omega
    | ⟨1, _⟩ => show 0 * 4096 + 1 * (y 1).val = (y 1).val; omega

theorem arr0_4 (c : Dev nD) :
    (dat0 V c).arrAt 4 cfg0.N = normArray (V c main_arg0) (V c main_v2) (V c main_arg1) := by
  refine (dat0 V c).arrAt_eq_of_covers 4 _ (by decide +kernel) fun t hf y => ?_
  rw [after0_4]
  refine Eq.trans (b := outsAt0 V c t y) (by sl_kernel_rfl) (((congrArg (outsAt0 V c t) (ValueIdx.eq_ix2 y)).trans
    (outsAt0_at V c t (y 0) (y 1))).trans ?_)
  exact congrArg (normArray (V c main_arg0) (V c main_v2) (V c main_arg1))
    ((emb0_4 t y).symm.trans (show (win0_4.rect t).emb y = ((cfg0.win 4).blk t).view.emb y from rfl))

/-! ## The activated products: step `t` works on rows `1024 (t mod 8) …` and columns `512 (t / 8) …` -/

def inRow (t : Fin cfg1.N) (r : Fin 1024) : Fin 8192 := ⟨1024 * (t.val % 8) + r.val, by omega⟩
def inCol (t : Fin cfg1.N) (j : Fin 512) : Fin 4096 := ⟨512 * (t.val / 8) + j.val, by have : t.val < 64 := t.isLt; omega⟩

theorem index1_0 : ∀ t : Fin grid1.N, win1_0.index t = ![t.val % 8, 0] := by decide +kernel
theorem index1_1 : ∀ t : Fin grid1.N, win1_1.index t = ![0, 0, t.val / 8] := by decide +kernel
theorem index1_2 : ∀ t : Fin grid1.N, win1_2.index t = ![0, 0, t.val / 8 + 8] := by decide +kernel
theorem index1_3 : ∀ t : Fin grid1.N, win1_3.index t = ![0, t.val / 8] := by decide +kernel
theorem index1_4 : ∀ t : Fin grid1.N, win1_4.index t = ![0, t.val / 8 + 8] := by decide +kernel
theorem index1_5 : ∀ t : Fin grid1.N, win1_5.index t = ![t.val % 8, t.val / 8] := by decide +kernel
theorem index1_6 : ∀ t : Fin grid1.N, win1_6.index t = ![t.val % 8, t.val / 8] := by decide +kernel

theorem iblk1_0_at (c : Dev nD) (t : Fin cfg1.N) (r : Fin 1024) (e : Fin 4096) :
    iblk1 V c 0 t (ix2 r e) = V c main_v3 (ix2 (inRow t r) e) := by
  unfold iblk1
  refine congrArg (V c main_v3) (place win1_0 rfl (index1_0 t) fun a => ?_)
  match a with
  | ⟨0, _⟩ => show t.val % 8 * 1024 + 1 * r.val = 1024 * (t.val % 8) + r.val; omega
  | ⟨1, _⟩ => show 0 * 4096 + 1 * e.val = e.val; omega

theorem iblk1_1_at (c : Dev nD) (t : Fin cfg1.N) (e : Fin 4096) (j : Fin 512) :
    iblk1 V c 1 t (ix3 0 e j) = V c main_arg3 (ix3 0 e (Maths.leftCol (inCol t j))) := by
  unfold iblk1
  refine congrArg (V c main_arg3) (place win1_1 rfl (index1_1 t) fun a => ?_)
  match a with
  | ⟨0, _⟩ => rfl
  | ⟨1, _⟩ => show 0 * 4096 + 1 * e.val = e.val; omega
  | ⟨2, _⟩ => show t.val / 8 * 512 + 1 * j.val = 512 * (t.val / 8) + j.val; omega

theorem iblk1_2_at (c : Dev nD) (t : Fin cfg1.N) (e : Fin 4096) (j : Fin 512) :
    iblk1 V c 2 t (ix3 0 e j) = V c main_arg3 (ix3 0 e (Maths.rightCol (inCol t j))) := by
  unfold iblk1
  refine congrArg (V c main_arg3) (place win1_2 rfl (index1_2 t) fun a => ?_)
  match a with
  | ⟨0, _⟩ => rfl
  | ⟨1, _⟩ => show 0 * 4096 + 1 * e.val = e.val; omega
  | ⟨2, _⟩ => show (t.val / 8 + 8) * 512 + 1 * j.val = 4096 + (512 * (t.val / 8) + j.val); omega

theorem iblk1_3_at (c : Dev nD) (t : Fin cfg1.N) (j : Fin 512) :
    iblk1 V c 3 t (ix2 0 j) = V c main_v5 (ix2 0 (Maths.leftCol (inCol t j))) := by
  unfold iblk1
  refine congrArg (V c main_v5) (place win1_3 rfl (index1_3 t) fun a => ?_)
  match a with
  | ⟨0, _⟩ => rfl
  | ⟨1, _⟩ => show t.val / 8 * 512 + 1 * j.val = 512 * (t.val / 8) + j.val; omega

theorem iblk1_4_at (c : Dev nD) (t : Fin cfg1.N) (j : Fin 512) :
    iblk1 V c 4 t (ix2 0 j) = V c main_v5 (ix2 0 (Maths.rightCol (inCol t j))) := by
  unfold iblk1
  refine congrArg (V c main_v5) (place win1_4 rfl (index1_4 t) fun a => ?_)
  match a with
  | ⟨0, _⟩ => rfl
  | ⟨1, _⟩ => show (t.val / 8 + 8) * 512 + 1 * j.val = 4096 + (512 * (t.val / 8) + j.val); omega

/-- The activated products on the columns that `f` names. -/
def halfArray (f : Fin 4096 → Fin 8192) (h : S8192x4096.Idx → EReal) (A : S1x4096x8192.Idx → EReal) (b : S1x8192.Idx → EReal)
    (y : S8192x4096.Idx) : EReal :=
  Maths.gelu ((∑ e : Fin 4096, h (ix2 (y 0) e) * A (ix3 0 e (f (y 1)))) + b (ix2 0 (f (y 1))))

theorem outsAt1_0_at (c : Dev nD) (t : Fin cfg1.N) (r : Fin 1024) (j : Fin 512) :
    outsAt1_0 V c t (ix2 r j)
      = halfArray Maths.leftCol (V c main_v3) (V c main_arg3) (V c main_v5) (ix2 (inRow t r) (inCol t j)) := by
  unfold outsAt1_0
  rw [out1_0_eq, pay1_at]
  exact congrArg Maths.gelu (congrArg₂ (· + ·) (Finset.sum_congr rfl fun e _ =>
    congrArg₂ (· * ·) (iblk1_0_at V c t r e) (iblk1_1_at V c t e j)) (iblk1_3_at V c t j))

theorem outsAt1_1_at (c : Dev nD) (t : Fin cfg1.N) (r : Fin 1024) (j : Fin 512) :
    outsAt1_1 V c t (ix2 r j)
      = halfArray Maths.rightCol (V c main_v3) (V c main_arg3) (V c main_v5) (ix2 (inRow t r) (inCol t j)) := by
  unfold outsAt1_1
  rw [out1_1_eq, pay1_at]
  exact congrArg Maths.gelu (congrArg₂ (· + ·) (Finset.sum_congr rfl fun e _ =>
    congrArg₂ (· * ·) (iblk1_0_at V c t r e) (iblk1_2_at V c t e j)) (iblk1_4_at V c t j))

theorem emb1_5 (t : Fin cfg1.N) (y : S1024x512.Idx) : (win1_5.rect t).emb y = ix2 (inRow t (y 0)) (inCol t (y 1)) :=
  place win1_5 rfl (index1_5 t) fun a => by
    match a with
    | ⟨0, _⟩ => show t.val % 8 * 1024 + 1 * (y 0).val = 1024 * (t.val % 8) + (y 0).val; omega
    | ⟨1, _⟩ => show t.val / 8 * 512 + 1 * (y 1).val = 512 * (t.val / 8) + (y 1).val; omega

theorem emb1_6 (t : Fin cfg1.N) (y : S1024x512.Idx) : (win1_6.rect t).emb y = ix2 (inRow t (y 0)) (inCol t (y 1)) :=
  place win1_6 rfl (index1_6 t) fun a => by
    match a with
    | ⟨0, _⟩ => show t.val % 8 * 1024 + 1 * (y 0).val = 1024 * (t.val % 8) + (y 0).val; omega
    | ⟨1, _⟩ => show t.val / 8 * 512 + 1 * (y 1).val = 512 * (t.val / 8) + (y 1).val; omega

theorem arr1_5 (c : Dev nD) :
    (dat1 V c).arrAt 5 cfg1.N = halfArray Maths.leftCol (V c main_v3) (V c main_arg3) (V c main_v5) := by
  refine (dat1 V c).arrAt_eq_of_covers 5 _ (by decide +kernel) fun t hf y => ?_
  rw [after1_5]
  refine Eq.trans (b := outsAt1_0 V c t y) ?_ ((Eq.trans (congrArg (outsAt1_0 V c t) (ValueIdx.eq_ix2 y))
    (outsAt1_0_at V c t (y 0) (y 1))).trans ?_)
  · sl_kernel_rfl
  · exact congrArg (halfArray Maths.leftCol (V c main_v3) (V c main_arg3) (V c main_v5))
      ((emb1_5 t y).symm.trans (show (win1_5.rect t).emb y = ((cfg1.win 5).blk t).view.emb y from rfl))

theorem arr1_6 (c : Dev nD) :
    (dat1 V c).arrAt 6 cfg1.N = halfArray Maths.rightCol (V c main_v3) (V c main_arg3) (V c main_v5) := by
  refine (dat1 V c).arrAt_eq_of_covers 6 _ (by decide +kernel) fun t hf y => ?_
  rw [after1_6]
  refine Eq.trans (b := outsAt1_1 V c t y) ?_ ((Eq.trans (congrArg (outsAt1_1 V c t) (ValueIdx.eq_ix2 y))
    (outsAt1_1_at V c t (y 0) (y 1))).trans ?_)
  · sl_kernel_rfl
  · exact congrArg (halfArray Maths.rightCol (V c main_v3) (V c main_arg3) (V c main_v5))
      ((emb1_6 t y).symm.trans (show (win1_6.rect t).emb y = ((cfg1.win 6).blk t).view.emb y from rfl))

/-! ## The mixing: step `t` works on rows `256 t …`, two chunks -/

def mixRow (t : Fin cfg2.N) (r : Fin 256) : Fin 8192 := ⟨256 * t.val + r.val, by have : t.val < 32 := t.isLt; omega⟩

theorem index2_0 : ∀ t : Fin grid2.N, win2_0.index t = ![t.val, 0] := by decide +kernel
theorem index2_1 : ∀ t : Fin grid2.N, win2_1.index t = ![t.val, 0] := by decide +kernel
theorem index2_2 : ∀ t : Fin grid2.N, win2_2.index t = ![0, 0] := by decide +kernel
theorem index2_3 : ∀ t : Fin grid2.N, win2_3.index t = ![0, 0, 0] := by decide +kernel
theorem index2_4 : ∀ t : Fin grid2.N, win2_4.index t = ![0, 0] := by decide +kernel
theorem index2_5 : ∀ t : Fin grid2.N, win2_5.index t = ![t.val, 0] := by decide +kernel

theorem iblk2_0_at (c : Dev nD) (t : Fin cfg2.N) (r : Fin 256) (e : Fin 4096) :
    iblk2 V c 0 t (ix2 r e) = V c main_v6_0 (ix2 (mixRow t r) e) := by
  unfold iblk2
  refine congrArg (V c main_v6_0) (place win2_0 rfl (index2_0 t) fun a => ?_)
  match a with
  | ⟨0, _⟩ => show t.val * 256 + 1 * r.val = 256 * t.val + r.val; omega
  | ⟨1, _⟩ => show 0 * 4096 + 1 * e.val = e.val; omega

theorem iblk2_1_at (c : Dev nD) (t : Fin cfg2.N) (r : Fin 256) (e : Fin 4096) :
    iblk2 V c 1 t (ix2 r e) = V c main_v6_1 (ix2 (mixRow t r) e) := by
  unfold iblk2
  refine congrArg (V c main_v6_1) (place win2_1 rfl (index2_1 t) fun a => ?_)
  match a with
  | ⟨0, _⟩ => show t.val * 256 + 1 * r.val = 256 * t.val + r.val; omega
  | ⟨1, _⟩ => show 0 * 4096 + 1 * e.val = e.val; omega

theorem iblk2_2_at (c : Dev nD) (t : Fin cfg2.N) (e : Fin 4096) :
    iblk2 V c 2 t (ix2 0 e) = V c main_v11 (ix2 0 e) := by
  unfold iblk2
  refine congrArg (V c main_v11) (place win2_2 rfl (index2_2 t) fun a => ?_)
  match a with
  | ⟨0, _⟩ => rfl
  | ⟨1, _⟩ => show 0 * 4096 + 1 * e.val = e.val; omega

/-- A load of a group's weights, of its bias, and of a piece's part of the first hidden half. -/
theorem weights_at (c : Dev nD) (t : Fin cfg2.N) (g : Fin 8) (p q : Fin 128) :
    View.ld (iblk2 V c 3 t) (weightRect g) (ix3 0 p q) = V c main_v8 (ix3 g p q) := by
  unfold iblk2
  refine congrArg (V c main_v8) (a₁ := (win2_3.rect t).emb ((weightRect g).emb (ix3 0 p q))) (funext fun a => Fin.ext ?_)
  refine Eq.trans (show _ = win2_3.index t a * win2_3.size a
    + 1 * ((![g.val, 0, 0] : Fin 3 → Nat) a + 1 * (ix3 (0 : Fin 1) p q a).val) from rfl) ?_
  rw [index2_3 t]
  match a with
  | ⟨0, _⟩ => show 0 * 8 + 1 * (g.val + 1 * 0) = g.val; omega
  | ⟨1, _⟩ => show 0 * 128 + 1 * (0 + 1 * p.val) = p.val; omega
  | ⟨2, _⟩ => show 0 * 128 + 1 * (0 + 1 * q.val) = q.val; omega

theorem biases_at (c : Dev nD) (t : Fin cfg2.N) (g : Fin 8) (p : Fin 128) :
    View.ld (iblk2 V c 4 t) (biasRect g) (ix2 p 0) = V c main_v10 (ix2 p g) := by
  unfold iblk2
  refine congrArg (V c main_v10) (a₁ := (win2_4.rect t).emb ((biasRect g).emb (ix2 p 0))) (funext fun a => Fin.ext ?_)
  refine Eq.trans (show _ = win2_4.index t a * win2_4.size a
    + 1 * ((![0, g.val] : Fin 2 → Nat) a + 1 * (ix2 p (0 : Fin 1) a).val) from rfl) ?_
  rw [index2_4 t]
  match a with
  | ⟨0, _⟩ => show 0 * 128 + 1 * (0 + 1 * p.val) = p.val; omega
  | ⟨1, _⟩ => show 0 * 8 + 1 * (g.val + 1 * 0) = g.val; omega

theorem pieceRect_emb (a : Fin 2) (g : Fin 8) (p : Fin 128) (j : Fin 512) :
    (pieceRect a g).emb (ix2 p j) = ix2 (blockRow a p) (blockCol g j) :=
  funext fun z => Fin.ext (by
    refine Eq.trans (show _ = (![128 * a.val, 512 * g.val] : Fin 2 → Nat) z + 1 * (ix2 p j z).val from rfl) ?_
    match z with
    | ⟨0, _⟩ => show 128 * a.val + 1 * p.val = 128 * a.val + p.val; omega
    | ⟨1, _⟩ => show 512 * g.val + 1 * j.val = 512 * g.val + j.val; omega)

/-- The mixed rows. -/
def mixArray (u v : S8192x4096.Idx → EReal) (g : S1x4096.Idx → EReal) (w : S8x128x128.Idx → EReal) (b : S128x8.Idx → EReal)
    (y : S8192x4096.Idx) : EReal :=
  Maths.mixed (fun i e => u (ix2 i e)) (fun i e => v (ix2 i e)) (fun e => g (ix2 0 e)) (fun g p q => w (ix3 g p q))
    (fun g p => b (ix2 p g)) (y 0) (y 1)

theorem pos_mixRow (t : Fin cfg2.N) (a : Fin 2) (p : Fin 128) : Maths.posOf (mixRow t (blockRow a p)) = p :=
  Fin.ext (by show (256 * t.val + (128 * a.val + p.val)) % 128 = p.val; omega)
theorem chunk_mixRow (t : Fin cfg2.N) (a : Fin 2) (p q : Fin 128) :
    Maths.chunkRow (mixRow t (blockRow a p)) q = mixRow t (blockRow a q) :=
  Fin.ext (by show 128 * ((256 * t.val + (128 * a.val + p.val)) / 128) + q.val = 256 * t.val + (128 * a.val + q.val); omega)
theorem group_blockCol (g : Fin 8) (j : Fin 512) : Maths.groupOf (blockCol g j) = g :=
  Fin.ext (by show (512 * g.val + j.val) / 512 = g.val; omega)

theorem outsAt2_eq (c : Dev nD) (t : Fin cfg2.N) :
    outsAt2 V c t = fun y => mixArray (V c main_v6_0) (V c main_v6_1) (V c main_v11) (V c main_v8) (V c main_v10)
      (ix2 (mixRow t (y 0)) (y 1)) := by
  unfold outsAt2
  refine out2_eq c _ _ _ _ _ _ _ _ _ _ _ _ _ _ _ _ _ _ _ fun a g x => ?_
  obtain ⟨p, j, rfl⟩ : ∃ (p : Fin 128) (j : Fin 512), x = ix2 p j := ⟨x 0, x 1, ValueIdx.eq_ix2 x⟩
  rw [pieceValue_at, pieceRect_emb]
  show _ = Maths.mixed _ _ _ _ _ (mixRow t (blockRow a p)) (blockCol g j)
  unfold Maths.mixed
  rw [pos_mixRow, group_blockCol]
  simp only [chunk_mixRow]
  refine congrArg₂ (· * ·) ?_ (congrArg₂ (· + ·) (Finset.sum_congr rfl fun q _ => congrArg₂ (· * ·) (weights_at V c t g p q) ?_)
    (biases_at V c t g p))
  · exact (congrArg (iblk2 V c 0 t) (pieceRect_emb a g p j)).trans (iblk2_0_at V c t (blockRow a p) (blockCol g j))
  · rw [normed_at]
    exact congrArg₂ (fun f h => Maths.normed f h (blockCol g j)) (funext fun e => iblk2_1_at V c t (blockRow a q) e)
      (funext fun e => iblk2_2_at V c t e)

theorem emb2_5 (t : Fin cfg2.N) (y : S256x4096.Idx) : (win2_5.rect t).emb y = ix2 (mixRow t (y 0)) (y 1) :=
  place win2_5 rfl (index2_5 t) fun a => by
    match a with
    | ⟨0, _⟩ => show t.val * 256 + 1 * (y 0).val = 256 * t.val + (y 0).val; omega
    | ⟨1, _⟩ => show 0 * 4096 + 1 * (y 1).val = (y 1).val; omega

theorem arr2_5 (c : Dev nD) :
    (dat2 V c).arrAt 5 cfg2.N = mixArray (V c main_v6_0) (V c main_v6_1) (V c main_v11) (V c main_v8) (V c main_v10) := by
  refine (dat2 V c).arrAt_eq_of_covers 5 _ (by decide +kernel) fun t hf y => ?_
  rw [after2_5]
  refine Eq.trans (b := outsAt2 V c t y) ?_ ((congrFun (outsAt2_eq V c t) y).trans ?_)
  · sl_kernel_rfl
  · exact congrArg (mixArray (V c main_v6_0) (V c main_v6_1) (V c main_v11) (V c main_v8) (V c main_v10))
      ((emb2_5 t y).symm.trans (show (win2_5.rect t).emb y = ((cfg2.win 5).blk t).view.emb y from rfl))

/-! ## The residual: step `t` works on rows `1024 (t mod 8) …` and columns `512 (t / 8) …` -/

def outRow (t : Fin cfg3.N) (r : Fin 1024) : Fin 8192 := ⟨1024 * (t.val % 8) + r.val, by omega⟩
def outCol (t : Fin cfg3.N) (j : Fin 512) : Fin 4096 := ⟨512 * (t.val / 8) + j.val, by have : t.val < 64 := t.isLt; omega⟩

theorem index3_0 : ∀ t : Fin grid3.N, win3_0.index t = ![t.val % 8, 0] := by decide +kernel
theorem index3_1 : ∀ t : Fin grid3.N, win3_1.index t = ![0, 0, t.val / 8] := by decide +kernel
theorem index3_2 : ∀ t : Fin grid3.N, win3_2.index t = ![1, t.val % 8 / 2, 5, 0, t.val / 8] := by decide +kernel
theorem index3_3 : ∀ t : Fin grid3.N, win3_3.index t = ![t.val % 8, t.val / 8] := by decide +kernel
theorem index3_4 : ∀ t : Fin grid3.N, win3_4.index t = ![t.val % 8, t.val / 8] := by decide +kernel

theorem iblk3_0_at (c : Dev nD) (t : Fin cfg3.N) (r : Fin 1024) (e : Fin 4096) :
    iblk3 V c 0 t (ix2 r e) = V c main_v12 (ix2 (outRow t r) e) := by
  unfold iblk3
  refine congrArg (V c main_v12) (place win3_0 rfl (index3_0 t) fun a => ?_)
  match a with
  | ⟨0, _⟩ => show t.val % 8 * 1024 + 1 * r.val = 1024 * (t.val % 8) + r.val; omega
  | ⟨1, _⟩ => show 0 * 4096 + 1 * e.val = e.val; omega

theorem iblk3_1_at (c : Dev nD) (t : Fin cfg3.N) (e : Fin 4096) (j : Fin 512) :
    iblk3 V c 1 t (ix3 0 e j) = V c main_arg8 (ix3 0 e (outCol t j)) := by
  unfold iblk3
  refine congrArg (V c main_arg8) (place win3_1 rfl (index3_1 t) fun a => ?_)
  match a with
  | ⟨0, _⟩ => rfl
  | ⟨1, _⟩ => show 0 * 4096 + 1 * e.val = e.val; omega
  | ⟨2, _⟩ => show t.val / 8 * 512 + 1 * j.val = 512 * (t.val / 8) + j.val; omega

theorem iblk3_2_at (c : Dev nD) (t : Fin cfg3.N) (r : Fin 1024) (j : Fin 512) :
    iblk3 V c 2 t (ix5 0 0 0 0 j) = V c main_arg1 (ix5 1 (Maths.imageOf (outRow t r)) 5 0 (outCol t j)) := by
  unfold iblk3
  have := r.isLt
  refine congrArg (V c main_arg1) (place win3_2 rfl (index3_2 t) fun a => ?_)
  match a with
  | ⟨0, _⟩ => rfl
  | ⟨1, _⟩ => show t.val % 8 / 2 * 1 + 1 * 0 = (1024 * (t.val % 8) + r.val) / 2048; omega
  | ⟨2, _⟩ => rfl
  | ⟨3, _⟩ => rfl
  | ⟨4, _⟩ => show t.val / 8 * 512 + 1 * j.val = 512 * (t.val / 8) + j.val; omega

theorem iblk3_3_at (c : Dev nD) (t : Fin cfg3.N) (r : Fin 1024) (j : Fin 512) :
    iblk3 V c 3 t (ix2 r j) = V c main_arg0 (ix2 (outRow t r) (outCol t j)) := by
  unfold iblk3
  refine congrArg (V c main_arg0) (place win3_3 rfl (index3_3 t) fun a => ?_)
  match a with
  | ⟨0, _⟩ => show t.val % 8 * 1024 + 1 * r.val = 1024 * (t.val % 8) + r.val; omega
  | ⟨1, _⟩ => show t.val / 8 * 512 + 1 * j.val = 512 * (t.val / 8) + j.val; omega

/-- The rows with the gated product added. -/
def outArray (x : S8192x4096.Idx → EReal) (h : S8192x4096.Idx → EReal) (M : S2x8x9x1x4096.Idx → EReal)
    (O : S1x4096x4096.Idx → EReal) (y : S8192x4096.Idx) : EReal :=
  x (ix2 (y 0) (y 1)) + M (ix5 1 (Maths.imageOf (y 0)) 5 0 (y 1)) * ∑ e : Fin 4096, h (ix2 (y 0) e) * O (ix3 0 e (y 1))

theorem outsAt3_at (c : Dev nD) (t : Fin cfg3.N) (r : Fin 1024) (j : Fin 512) :
    outsAt3 V c t (ix2 r j)
      = outArray (V c main_arg0) (V c main_v12) (V c main_arg1) (V c main_arg8) (ix2 (outRow t r) (outCol t j)) := by
  unfold outsAt3
  rw [out3_eq, pay3_at]
  exact congrArg₂ (· + ·) (iblk3_3_at V c t r j) (congrArg₂ (· * ·) (iblk3_2_at V c t r j)
    (Finset.sum_congr rfl fun e _ => congrArg₂ (· * ·) (iblk3_0_at V c t r e) (iblk3_1_at V c t e j)))

theorem emb3_4 (t : Fin cfg3.N) (y : S1024x512.Idx) : (win3_4.rect t).emb y = ix2 (outRow t (y 0)) (outCol t (y 1)) :=
  place win3_4 rfl (index3_4 t) fun a => by
    match a with
    | ⟨0, _⟩ => show t.val % 8 * 1024 + 1 * (y 0).val = 1024 * (t.val % 8) + (y 0).val; omega
    | ⟨1, _⟩ => show t.val / 8 * 512 + 1 * (y 1).val = 512 * (t.val / 8) + (y 1).val; omega

theorem arr3_4 (c : Dev nD) :
    (dat3 V c).arrAt 4 cfg3.N = outArray (V c main_arg0) (V c main_v12) (V c main_arg1) (V c main_arg8) := by
  refine (dat3 V c).arrAt_eq_of_covers 4 _ (by decide +kernel) fun t hf y => ?_
  rw [after3_4]
  refine Eq.trans (b := outsAt3 V c t y) ?_ ((Eq.trans (congrArg (outsAt3 V c t) (ValueIdx.eq_ix2 y))
    (outsAt3_at V c t (y 0) (y 1))).trans ?_)
  · sl_kernel_rfl
  · exact congrArg (outArray (V c main_arg0) (V c main_v12) (V c main_arg1) (V c main_arg8))
      ((emb3_4 t y).symm.trans (show (win3_4.rect t).emb y = ((cfg3.win 4).blk t).view.emb y from rfl))

end Cert.SpatialGateIdeal.Joined

end
-- ==== Proof.SpatialGate.Result.lean ====
module

public import proofs.«01_k».proof.Proof.SpatialGate.Whole
public import proofs.«01_k».proof.Proof.SpatialGate.Arrays

@[expose] public section

/-! The array that the four launches leave together, from the arguments as launched. -/

set_option maxRecDepth 65536

noncomputable section

namespace Cert.SpatialGateIdeal.Joined

open Idealize.ShloMosaic hiding ix1 ix2 ix3 ix4 ix5
open Idealize.ShloMosaic.TcCoe Idealize.ShloMosaic.Tactic
open Idealize.SL.Sem
open Cert.SpatialGateIdeal.Gen
open Cert.Launches (stepW_arr stepW_of_ne stepW_of)
open Idealize.ShloMosaic.ValueIdx

/-! ## What the host leaves in the small operands -/

section host

variable (W : Valuation τ sig (Elt Ideal))

/-- The norm's gain: entry `(1, 1)` of the norms' gains. -/
theorem host_gain (e : Fin 4096) :
    StableHlo.after hostOps0 W (Proc.devRef .tc main_v2) (ix2 0 e) = W (Proc.devRef .tc main_arg2) (ix3 1 1 e) := by
  have h : StableHlo.after hostOps0 W (Proc.devRef .tc main_v2)
      = shapeCast S1x4096 (shapeCast S4096 (extractStridedSlice S1x1x4096 ![1, 1, 0] (W (Proc.devRef .tc main_arg2))
          slices_S2x3x4096_S1x1x4096_1_1_0) shapeCasts_S1x1x4096_S4096) shapeCasts_S4096_S1x4096 := by
    rw [StableHlo.after_cons, StableHlo.after_cons, StableHlo.after_cons, StableHlo.after_nil, StableHlo.reshape_result,
      StableHlo.reshape_result]
    rfl
  rw [h]
  refine (shapeCast_apply _ _ (ix2 0 e) (ix1 e) ?_).trans ((shapeCast_apply _ _ (ix1 e) (ix3 0 0 e) ?_).trans
    (extractStridedSlice_apply _ _ _ _ (ix3 1 1 e) fun a => ?_))
  · rw [Shape.rowMajor_val_one, Shape.rowMajor_val_two]; show e.val = 0 * 4096 + e.val; omega
  · rw [Shape.rowMajor_val_one, Shape.rowMajor_val_three]; show (0 * 1 + 0) * 4096 + e.val = e.val; omega
  · match a with
    | ⟨0, _⟩ => rfl
    | ⟨1, _⟩ => rfl
    | ⟨2, _⟩ => show e.val = 0 + e.val; omega

/-- The first product's bias. -/
theorem host_bias (k : Fin 8192) :
    StableHlo.after hostOps1 W (Proc.devRef .tc main_v5) (ix2 0 k) = W (Proc.devRef .tc main_arg4) (ix2 0 k) := by
  have h : StableHlo.after hostOps1 W (Proc.devRef .tc main_v5)
      = shapeCast S1x8192 (shapeCast S8192 (W (Proc.devRef .tc main_arg4)) shapeCasts_S1x8192_S8192) shapeCasts_S8192_S1x8192 := by
    rw [StableHlo.after_cons, StableHlo.after_cons, StableHlo.after_nil, StableHlo.reshape_result, StableHlo.reshape_result]
    rfl
  rw [h]
  refine (shapeCast_apply _ _ (ix2 0 k) (ix1 k) ?_).trans (shapeCast_apply _ _ (ix1 k) (ix2 0 k) ?_)
  · rw [Shape.rowMajor_val_one, Shape.rowMajor_val_two]; show k.val = 0 * 8192 + k.val; omega
  · rw [Shape.rowMajor_val_one, Shape.rowMajor_val_two]; show 0 * 8192 + k.val = k.val; omega

/-- The second norm's gain. -/
theorem host_vgain (e : Fin 4096) :
    StableHlo.after hostOps2 W (Proc.devRef .tc main_v11) (ix2 0 e) = W (Proc.devRef .tc main_arg5) (ix2 0 e) := by
  have h : StableHlo.after hostOps2 W (Proc.devRef .tc main_v11)
      = shapeCast S1x4096 (shapeCast S4096 (W (Proc.devRef .tc main_arg5)) shapeCasts_S1x4096_S4096) shapeCasts_S4096_S1x4096 := by
    rfl
  rw [h]
  refine (shapeCast_apply _ _ (ix2 0 e) (ix1 e) ?_).trans (shapeCast_apply _ _ (ix1 e) (ix2 0 e) ?_)
  · rw [Shape.rowMajor_val_one, Shape.rowMajor_val_two]; show e.val = 0 * 4096 + e.val; omega
  · rw [Shape.rowMajor_val_one, Shape.rowMajor_val_two]; show 0 * 4096 + e.val = e.val; omega

/-- The mixing's weights. -/
theorem host_weights (g : Fin 8) (p q : Fin 128) :
    StableHlo.after hostOps2 W (Proc.devRef .tc main_v8) (ix3 g p q) = W (Proc.devRef .tc main_arg6) (ix4 0 g p q) := by
  have h : StableHlo.after hostOps2 W (Proc.devRef .tc main_v8)
      = shapeCast S8x128x128 (W (Proc.devRef .tc main_arg6)) shapeCasts_S1x8x128x128_S8x128x128 := by
    rfl
  rw [h]
  refine shapeCast_apply _ _ (ix3 g p q) (ix4 0 g p q) ?_
  rw [Shape.rowMajor_val_three, Shape.rowMajor_val_four]
  show ((0 * 8 + g.val) * 128 + p.val) * 128 + q.val = (g.val * 128 + p.val) * 128 + q.val
  omega

/-- The mixing's bias, positions first. -/
theorem host_mixBias (p : Fin 128) (g : Fin 8) :
    StableHlo.after hostOps2 W (Proc.devRef .tc main_v10) (ix2 p g) = W (Proc.devRef .tc main_arg7) (ix3 0 g p) := by
  have h : StableHlo.after hostOps2 W (Proc.devRef .tc main_v10)
      = transpose S128x8 [1, 0] (shapeCast S8x128 (W (Proc.devRef .tc main_arg7)) shapeCasts_S1x8x128_S8x128)
          transposes_S8x128_S128x8_1_0 := by
    rfl
  rw [h]
  refine (transpose_apply _ _ _ (ix2 p g) (ix2 g p) fun b => ?_).trans (shapeCast_apply _ _ (ix2 g p) (ix3 0 g p) ?_)
  · match b with
    | ⟨0, _⟩ => rfl
    | ⟨1, _⟩ => rfl
  · rw [Shape.rowMajor_val_two, Shape.rowMajor_val_three]
    show (0 * 8 + g.val) * 128 + p.val = g.val * 128 + p.val
    omega

end host

variable (m : (ℓ : Loc nD τ sig) → Buf (Elt Ideal) ℓ) (ρ : Dev nD → PrngReg)

/-! ## The arrays, launch after launch -/

/-- Entry `(a, k)` of the activated products, from the arguments. -/
def acted (c : Dev nD) (a k : Fin 8192) : EReal :=
  Maths.activated (fun a e => Maths.modulated (fun e => m ((c : Thread nD τ).loc main_arg0) (ix2 a e))
      (fun e => m ((c : Thread nD τ).loc main_arg2) (ix3 1 1 e))
      (fun e => m ((c : Thread nD τ).loc main_arg1) (ix5 1 (Maths.imageOf a) 4 0 e))
      (fun e => m ((c : Thread nD τ).loc main_arg1) (ix5 1 (Maths.imageOf a) 3 0 e)) e)
    (fun e k => m ((c : Thread nD τ).loc main_arg3) (ix3 0 e k)) (fun k => m ((c : Thread nD τ).loc main_arg4) (ix2 0 k)) a k

theorem norm_at (c : Dev nD) (a : Fin 8192) (e : Fin 4096) :
    V3 m ρ c main_v3 (ix2 a e) = Maths.modulated (fun e => m ((c : Thread nD τ).loc main_arg0) (ix2 a e))
      (fun e => m ((c : Thread nD τ).loc main_arg2) (ix3 1 1 e))
      (fun e => m ((c : Thread nD τ).loc main_arg1) (ix5 1 (Maths.imageOf a) 4 0 e))
      (fun e => m ((c : Thread nD τ).loc main_arg1) (ix5 1 (Maths.imageOf a) 3 0 e)) e := by
  have h0 : V1 m ρ c main_arg0 = m ((c : Thread nD τ).loc main_arg0) := W1_args m ρ c _ (by decide)
  have h1 : V1 m ρ c main_arg1 = m ((c : Thread nD τ).loc main_arg1) := W1_args m ρ c _ (by decide)
  have v3 : V3 m ρ c main_v3 = normArray (V1 m ρ c main_arg0) (V1 m ρ c main_v2) (V1 m ρ c main_arg1) :=
    (W3_of m ρ c main_v3 (by decide)).trans
      ((stepW_arr sharedIn0 _ (dat0 (V1 m ρ)) (A_eq0 (V1 m ρ)) c 4).trans (arr0_4 (V1 m ρ) c))
  rw [v3, h0, h1]
  show Maths.modulated _ _ _ _ e = _
  congr 1
  funext e
  exact host_gain (W0 m ρ c) e

theorem half_at (c : Dev nD) (f : Fin 4096 → Fin 8192) (a : Fin 8192) (k : Fin 4096) :
    halfArray f (V3 m ρ c main_v3) (V3 m ρ c main_arg3) (V3 m ρ c main_v5) (ix2 a k) = acted m c a (f k) := by
  have h3 : V3 m ρ c main_arg3 = m ((c : Thread nD τ).loc main_arg3) := W3_args m ρ c _ (by decide)
  have h4 : W2 m ρ c (Proc.devRef .tc main_arg4) = m ((c : Thread nD τ).loc main_arg4) := W2_args m ρ c _ (by decide)
  rw [h3]
  exact congrArg Maths.gelu (congrArg₂ (· + ·) (Finset.sum_congr rfl fun e _ => congrArg (· * _) (norm_at m ρ c a e))
    ((host_bias (W2 m ρ c) (f k)).trans (congrFun h4 _)))

theorem left_at (c : Dev nD) (a : Fin 8192) (k : Fin 4096) :
    V5 m ρ c main_v6_0 (ix2 a k) = acted m c a (Maths.leftCol k) := by
  have v6 : V5 m ρ c main_v6_0 = halfArray Maths.leftCol (V3 m ρ c main_v3) (V3 m ρ c main_arg3) (V3 m ρ c main_v5) :=
    (W5_of m ρ c main_v6_0 (by decide)).trans
      ((stepW_arr sharedIn1 _ (dat1 (V3 m ρ)) (A_eq1 (V3 m ρ)) c 5).trans (arr1_5 (V3 m ρ) c))
  rw [v6]
  exact half_at m ρ c Maths.leftCol a k

theorem right_at (c : Dev nD) (a : Fin 8192) (k : Fin 4096) :
    V5 m ρ c main_v6_1 (ix2 a k) = acted m c a (Maths.rightCol k) := by
  have v6 : V5 m ρ c main_v6_1 = halfArray Maths.rightCol (V3 m ρ c main_v3) (V3 m ρ c main_arg3) (V3 m ρ c main_v5) :=
    (W5_of m ρ c main_v6_1 (by decide)).trans
      ((stepW_arr sharedIn1 _ (dat1 (V3 m ρ)) (A_eq1 (V3 m ρ)) c 6).trans (arr1_6 (V3 m ρ) c))
  rw [v6]
  exact half_at m ρ c Maths.rightCol a k

theorem mixed_at (c : Dev nD) (i : Fin 8192) (k : Fin 4096) :
    V6 m ρ c main_v12 (ix2 i k) = Maths.mixed (fun a k => acted m c a (Maths.leftCol k)) (fun a k => acted m c a (Maths.rightCol k))
      (fun e => m ((c : Thread nD τ).loc main_arg5) (ix2 0 e)) (fun g p q => m ((c : Thread nD τ).loc main_arg6) (ix4 0 g p q))
      (fun g p => m ((c : Thread nD τ).loc main_arg7) (ix3 0 g p)) i k := by
  have h5 : W4 m ρ c (Proc.devRef .tc main_arg5) = m ((c : Thread nD τ).loc main_arg5) := W4_args m ρ c _ (by decide)
  have h6 : W4 m ρ c (Proc.devRef .tc main_arg6) = m ((c : Thread nD τ).loc main_arg6) := W4_args m ρ c _ (by decide)
  have h7 : W4 m ρ c (Proc.devRef .tc main_arg7) = m ((c : Thread nD τ).loc main_arg7) := W4_args m ρ c _ (by decide)
  have v12 : V6 m ρ c main_v12 = mixArray (V5 m ρ c main_v6_0) (V5 m ρ c main_v6_1) (V5 m ρ c main_v11) (V5 m ρ c main_v8)
      (V5 m ρ c main_v10) :=
    (stepW_arr sharedIn2 _ (dat2 (V5 m ρ)) (A_eq2 (V5 m ρ)) c 5).trans (arr2_5 (V5 m ρ) c)
  rw [v12]
  show Maths.mixed _ _ _ _ _ i k = _
  congr 1
  · funext a k; exact left_at m ρ c a k
  · funext a k; exact right_at m ρ c a k
  · funext e; exact (host_vgain (W4 m ρ c) e).trans (congrFun h5 _)
  · funext g p q; exact (host_weights (W4 m ρ c) g p q).trans (congrFun h6 _)
  · funext g p; exact (host_mixBias (W4 m ρ c) p g).trans (congrFun h7 _)

/-- The result's entry `(i, j)`. -/
theorem result_at (c : Dev nD) (i : Fin 8192) (j : Fin 4096) :
    (dat3 (V6 m ρ) c).arrAt 4 cfg3.N (ix2 i j)
      = Maths.spatialGate (fun a e => m ((c : Thread nD τ).loc main_arg0) (ix2 a e))
          (fun e => m ((c : Thread nD τ).loc main_arg2) (ix3 1 1 e))
          (fun b e => m ((c : Thread nD τ).loc main_arg1) (ix5 1 b 4 0 e))
          (fun b e => m ((c : Thread nD τ).loc main_arg1) (ix5 1 b 3 0 e))
          (fun b e => m ((c : Thread nD τ).loc main_arg1) (ix5 1 b 5 0 e))
          (fun e k => m ((c : Thread nD τ).loc main_arg3) (ix3 0 e k))
          (fun k => m ((c : Thread nD τ).loc main_arg4) (ix2 0 k))
          (fun e => m ((c : Thread nD τ).loc main_arg5) (ix2 0 e))
          (fun g p q => m ((c : Thread nD τ).loc main_arg6) (ix4 0 g p q))
          (fun g p => m ((c : Thread nD τ).loc main_arg7) (ix3 0 g p))
          (fun k e => m ((c : Thread nD τ).loc main_arg8) (ix3 0 k e)) i j := by
  have o0 : V6 m ρ c main_arg0 = m ((c : Thread nD τ).loc main_arg0) := W6_args m ρ c _ (by decide)
  have o1 : V6 m ρ c main_arg1 = m ((c : Thread nD τ).loc main_arg1) := W6_args m ρ c _ (by decide)
  have o8 : V6 m ρ c main_arg8 = m ((c : Thread nD τ).loc main_arg8) := W6_args m ρ c _ (by decide)
  rw [arr3_4, o0, o1, o8]
  exact congrArg₂ (fun a b : EReal => a + b) rfl (congrArg₂ (fun a b : EReal => a * b) rfl
    (Finset.sum_congr rfl fun k _ => congrArg₂ (fun a b : EReal => a * b) (mixed_at m ρ c i k) rfl))

end Cert.SpatialGateIdeal.Joined

end
-- ==== Proof.SpatialGate.Reference.lean ====
module

public import proofs.«01_k».proof.Proof.Maths.SpatialGate
public import proofs.«01_k».proof.Proof.Gen.SpatialGateReferenceIdeal.Read
public import Idealize.ShloMosaic.Lib.Pointwise

@[expose] public section

/-! The spatial-gating reference's result, entry by entry. -/

set_option maxRecDepth 65536

noncomputable section

namespace Cert.SpatialGateReferenceIdeal.Reading

open Idealize.ShloMosaic hiding ix1 ix2 ix3 ix4 ix5
open Idealize.ShloMosaic.TcCoe
open Cert.SpatialGateReferenceIdeal Cert.SpatialGateReferenceIdeal.Gen Cert.SpatialGateReferenceIdeal.Read
open Idealize.ShloMosaic.ValueIdx

abbrev Rows := (⟨S8192x4096, .f32⟩ : BufTy).Contents (Elt Ideal)
abbrev Mods := (⟨S2x8x9x1x4096, .f32⟩ : BufTy).Contents (Elt Ideal)
abbrev Gains := (⟨S2x3x4096, .f32⟩ : BufTy).Contents (Elt Ideal)
abbrev InWeights := (⟨S1x4096x8192, .f32⟩ : BufTy).Contents (Elt Ideal)
abbrev InBias := (⟨S1x8192, .f32⟩ : BufTy).Contents (Elt Ideal)
abbrev Gain := (⟨S1x4096, .f32⟩ : BufTy).Contents (Elt Ideal)
abbrev MixWeights := (⟨S1x8x128x128, .f32⟩ : BufTy).Contents (Elt Ideal)
abbrev MixBias := (⟨S1x8x128, .f32⟩ : BufTy).Contents (Elt Ideal)
abbrev OutWeights := (⟨S1x4096x4096, .f32⟩ : BufTy).Contents (Elt Ideal)

/-- Row `s` of image `b`. -/
def row (b : Fin 4) (s : Fin 2048) : Fin 8192 := ⟨2048 * b.val + s.val, by omega⟩
/-- Image `b` among the modulation's. -/
def image (b : Fin 4) : Fin 8 := ⟨b.val, by omega⟩
/-- Position `p` of an image's chunk `n`, and column `e` of group `g`. -/
def pos (n : Fin 16) (p : Fin 128) : Fin 2048 := ⟨128 * n.val + p.val, by omega⟩
def col (g : Fin 8) (e : Fin 512) : Fin 4096 := ⟨512 * g.val + e.val, by omega⟩

theorem image_row (b : Fin 4) (s : Fin 2048) : Maths.imageOf (row b s) = image b :=
  Fin.ext (by show (2048 * b.val + s.val) / 2048 = b.val; omega)
theorem pos_row (b : Fin 4) (n : Fin 16) (p : Fin 128) : Maths.posOf (row b (pos n p)) = p :=
  Fin.ext (by show (2048 * b.val + (128 * n.val + p.val)) % 128 = p.val; omega)
theorem chunk_row (b : Fin 4) (n : Fin 16) (p q : Fin 128) : Maths.chunkRow (row b (pos n p)) q = row b (pos n q) :=
  Fin.ext (by
    show 128 * ((2048 * b.val + (128 * n.val + p.val)) / 128) + q.val = 2048 * b.val + (128 * n.val + q.val)
    omega)
theorem group_col (g : Fin 8) (e : Fin 512) : Maths.groupOf (col g e) = g :=
  Fin.ext (by show (512 * g.val + e.val) / 512 = g.val; omega)

/-! ## The operands -/

theorem rows_at (x0 : Rows) (b : Fin 4) (s : Fin 2048) (e : Fin 4096) :
    val_main_v0 (F := Ideal) x0 (ix3 b s e) = x0 (ix2 (row b s) e) := by
  rw [val_main_v0_apply]
  refine congrArg x0 (funext fun z => Fin.ext ?_)
  match z with
  | ⟨0, _⟩ => show ((b.val * 2048 + s.val) * 4096 + e.val) / 4096 = 2048 * b.val + s.val; omega
  | ⟨1, _⟩ => show ((b.val * 2048 + s.val) * 4096 + e.val) % 4096 = e.val; omega

theorem mods_at (x1 : Mods) (b : Fin 4) (k : Fin 9) (e : Fin 4096) :
    val_main_v2 (F := Ideal) x1 (ix4 b k 0 e) = x1 (ix5 1 (image b) k 0 e) := by
  rw [val_main_v2_apply, val_main_v1_apply]
  refine congrArg x1 (funext fun z => Fin.ext ?_)
  match z with
  | ⟨0, _⟩ => rfl
  | ⟨1, _⟩ => show (((b.val * 9 + k.val) * 1 + 0) * 4096 + e.val) / 36864 % 4 = b.val; omega
  | ⟨2, _⟩ => show (((b.val * 9 + k.val) * 1 + 0) * 4096 + e.val) / 4096 % 9 = k.val; omega
  | ⟨3, _⟩ => rfl
  | ⟨4, _⟩ => show (((b.val * 9 + k.val) * 1 + 0) * 4096 + e.val) % 4096 = e.val; omega

theorem gain_at (x2 : Gains) (b : Fin 4) (s : Fin 2048) (e : Fin 4096) :
    val_main_v19 (F := Ideal) x2 (ix3 b s e) = x2 (ix3 1 1 e) := by
  rw [val_main_v19_apply, val_main_v18_apply, val_main_v4_apply, val_main_v3_apply]
  refine congrArg x2 (funext fun z => Fin.ext ?_)
  match z with
  | ⟨0, _⟩ => rfl
  | ⟨1, _⟩ => rfl
  | ⟨2, _⟩ => show e.val % 4096 = e.val; omega

theorem inWeights_at (x3 : InWeights) (e : Fin 4096) (k : Fin 8192) :
    val_main_v5 (F := Ideal) x3 (ix2 e k) = x3 (ix3 0 e k) := by
  rw [val_main_v5_apply]
  refine congrArg x3 (funext fun z => Fin.ext ?_)
  match z with
  | ⟨0, _⟩ => rfl
  | ⟨1, _⟩ => show (e.val * 8192 + k.val) / 8192 % 4096 = e.val; omega
  | ⟨2, _⟩ => show (e.val * 8192 + k.val) % 8192 = k.val; omega

theorem inBias_at (x4 : InBias) (b : Fin 4) (s : Fin 2048) (k : Fin 8192) :
    val_main_v33 (F := Ideal) x4 (ix3 b s k) = x4 (ix2 0 k) := by
  rw [val_main_v33_apply, val_main_v32_apply, val_main_v6_apply]
  refine congrArg x4 (funext fun z => Fin.ext ?_)
  match z with
  | ⟨0, _⟩ => rfl
  | ⟨1, _⟩ => show k.val % 8192 = k.val; omega

theorem vgain_at (x5 : Gain) (b : Fin 4) (s : Fin 2048) (e : Fin 4096) :
    val_main_v61 (F := Ideal) x5 (ix3 b s e) = x5 (ix2 0 e) := by
  rw [val_main_v61_apply, val_main_v60_apply, val_main_v7_apply]
  refine congrArg x5 (funext fun z => Fin.ext ?_)
  match z with
  | ⟨0, _⟩ => rfl
  | ⟨1, _⟩ => show e.val % 4096 = e.val; omega

theorem mixWeights_at (x6 : MixWeights) (g : Fin 8) (p q : Fin 128) :
    val_main_v64 (F := Ideal) x6 (ix3 g p q) = x6 (ix4 0 g p q) := by
  rw [val_main_v64_apply]
  refine congrArg x6 (funext fun z => Fin.ext ?_)
  match z with
  | ⟨0, _⟩ => rfl
  | ⟨1, _⟩ => show ((g.val * 128 + p.val) * 128 + q.val) / 16384 % 8 = g.val; omega
  | ⟨2, _⟩ => show ((g.val * 128 + p.val) * 128 + q.val) / 128 % 128 = p.val; omega
  | ⟨3, _⟩ => show ((g.val * 128 + p.val) * 128 + q.val) % 128 = q.val; omega

theorem mixBias_at (x7 : MixBias) (b : Fin 4) (n : Fin 16) (p : Fin 128) (g : Fin 8) (e : Fin 512) :
    val_main_v70 (F := Ideal) x7 (ix5 b n p g e) = x7 (ix3 0 g p) := by
  rw [val_main_v70_apply, val_main_v69_apply, val_main_v68_apply, val_main_v67_apply]
  refine congrArg x7 (funext fun z => Fin.ext ?_)
  match z with
  | ⟨0, _⟩ => rfl
  | ⟨1, _⟩ => show (g.val * 128 + p.val) / 128 % 8 = g.val; omega
  | ⟨2, _⟩ => show (g.val * 128 + p.val) % 128 = p.val; omega

theorem outWeights_at (x8 : OutWeights) (k e : Fin 4096) :
    val_main_v76 (F := Ideal) x8 (ix2 k e) = x8 (ix3 0 k e) := by
  rw [val_main_v76_apply]
  refine congrArg x8 (funext fun z => Fin.ext ?_)
  match z with
  | ⟨0, _⟩ => rfl
  | ⟨1, _⟩ => show (k.val * 4096 + e.val) / 4096 % 4096 = k.val; omega
  | ⟨2, _⟩ => show (k.val * 4096 + e.val) % 4096 = e.val; omega

/-- A modulation of every image, read at a row of the image. -/
theorem shift_at (x1 : Mods) (b : Fin 4) (s : Fin 2048) (e : Fin 4096) :
    val_main_v29 (F := Ideal) x1 (ix3 b s e) = x1 (ix5 1 (image b) 3 0 e) := by
  rw [val_main_v29_apply, val_main_v28_apply, val_main_v27_apply]
  refine Eq.trans (congrArg _ (funext fun z => Fin.ext ?_)) (mods_at x1 b 3 e)
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem scale_at (x1 : Mods) (b : Fin 4) (s : Fin 2048) (e : Fin 4096) :
    val_main_v25 (F := Ideal) x1 (ix3 b s e) = Ideal.ofBits .f32 0x3F800000#32 + x1 (ix5 1 (image b) 4 0 e) := by
  rw [val_main_v25_apply, val_main_v24_apply, val_main_v23_apply, val_main_cst_2_apply, val_main_v22_apply, val_main_v21_apply]
  refine congrArg (Ideal.ofBits .f32 0x3F800000#32 + ·) (Eq.trans (congrArg _ (funext fun z => Fin.ext ?_)) (mods_at x1 b 4 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem gate_at (x1 : Mods) (b : Fin 4) (s : Fin 2048) (e : Fin 4096) :
    val_main_v78 (F := Ideal) x1 (ix3 b s e) = x1 (ix5 1 (image b) 5 0 e) := by
  rw [val_main_v78_apply, val_main_v73_apply, val_main_v72_apply]
  refine Eq.trans (congrArg _ (funext fun z => Fin.ext ?_)) (mods_at x1 b 5 e)
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

/-! ## The norm and the modulation -/

/-- The sum of a row's squares. -/
theorem squares_at (x0 : Rows) (b : Fin 4) (s : Fin 2048) :
    val_main_v9 (F := Ideal) x0 (ix2 b s) = ∑ e : Fin 4096, (x0 (ix2 (row b s) e) : EReal) * x0 (ix2 (row b s) e) := by
  rw [val_main_v9_apply, val_main_cst_apply]
  refine (congrArg (· + _) Ideal.ofBits_zero_f32).trans ((zero_add _).trans (Finset.sum_congr rfl fun e _ => ?_))
  have h : val_main_v0 (F := Ideal) x0 (idx_main_v9 (ix2 b s) e) = x0 (ix2 (row b s) e) := by
    refine Eq.trans (congrArg _ (funext fun z => Fin.ext ?_)) (rows_at x0 b s e)
    fin_cases z <;> rfl
  rw [val_main_v8_apply, h]; rfl

theorem root_at (x0 : Rows) (b : Fin 4) (s : Fin 2048) (e : Fin 4096) :
    val_main_v16 (F := Ideal) x0 (ix3 b s e)
      = Ideal.rsqrt (Ideal.div (∑ e : Fin 4096, (x0 (ix2 (row b s) e) : EReal) * x0 (ix2 (row b s) e))
          (Ideal.ofBits .f32 0x45800000#32) + Ideal.ofBits .f32 0x358637BD#32) := by
  rw [val_main_v16_apply, val_main_v15_apply, val_main_v14_apply, val_main_v13_apply, val_main_cst_1_apply, val_main_v12_apply,
    val_main_v11_apply, val_main_cst_0_apply, val_main_v10_apply]
  refine congrArg (fun q => Ideal.rsqrt (Ideal.div q (Ideal.ofBits .f32 0x45800000#32) + Ideal.ofBits .f32 0x358637BD#32))
    (Eq.trans (congrArg _ (funext fun z => Fin.ext ?_)) (squares_at x0 b s))
  fin_cases z <;> rfl

/-- Row `a` modulated. -/
def modRow (x0 : Rows) (x1 : Mods) (x2 : Gains) (a : Fin 8192) (e : Fin 4096) : EReal :=
  Maths.modulated (fun e => x0 (ix2 a e)) (fun e => x2 (ix3 1 1 e)) (fun e => x1 (ix5 1 (Maths.imageOf a) 4 0 e))
    (fun e => x1 (ix5 1 (Maths.imageOf a) 3 0 e)) e

variable (x0 : Rows) (x1 : Mods) (x2 : Gains) (x3 : InWeights) (x4 : InBias) (x5 : Gain) (x6 : MixWeights) (x7 : MixBias)
  (x8 : OutWeights)

theorem modulated_at (b : Fin 4) (s : Fin 2048) (e : Fin 4096) :
    val_main_v30 (F := Ideal) x0 x1 x2 (ix3 b s e) = modRow x0 x1 x2 (row b s) e := by
  rw [val_main_v30_apply, val_main_v26_apply, val_main_v20_apply, val_main_v17_apply, rows_at, root_at, gain_at, scale_at, shift_at]
  unfold modRow
  rw [image_row]
  rfl

/-! ## The activated products -/

theorem sum_at (b : Fin 4) (s : Fin 2048) (k : Fin 8192) :
    val_main_v34 (F := Ideal) x0 x1 x2 x3 x4 (ix3 b s k)
      = (∑ e : Fin 4096, modRow x0 x1 x2 (row b s) e * x3 (ix3 0 e k)) + x4 (ix2 0 k) := by
  rw [val_main_v34_apply, val_main_v31_apply, inBias_at]
  refine congrArg (· + x4 (ix2 0 k)) (Finset.sum_congr rfl fun e _ => congrArg₂ (· * ·)
    (Eq.trans (congrArg _ (funext fun z => Fin.ext ?_)) (modulated_at x0 x1 x2 b s e))
    (Eq.trans (congrArg _ (funext fun z => Fin.ext ?_)) (inWeights_at x3 e k)))
  all_goals fin_cases z <;> rfl

/-- Entry `(a, k)` of the activated products. -/
def acted (a k : Fin 8192) : EReal :=
  Maths.activated (modRow x0 x1 x2) (fun e k => x3 (ix3 0 e k)) (fun k => x4 (ix2 0 k)) a k

/-- The reference halves the second factor, the activation the first. -/
theorem halved (a h t : EReal) : a * (h * t) = h * a * t := by rw [← mul_assoc, mul_comm a h]

theorem acted_at (b : Fin 4) (s : Fin 2048) (k : Fin 8192) :
    val_main_v47 (F := Ideal) x0 x1 x2 x3 x4 (ix3 b s k) = acted x0 x1 x2 x3 x4 (row b s) k := by
  rw [val_main_v47_apply, val_main_v46_apply, val_main_v45_apply, val_main_cst_6_apply, val_main_v44_apply, val_main_v43_apply,
    val_main_cst_5_apply, val_main_v42_apply, val_main_v41_apply, val_main_v40_apply, val_main_cst_4_apply, val_main_v39_apply,
    val_main_v38_apply, val_main_v37_apply, val_main_cst_3_apply, val_main_v36_apply, val_main_v35_apply, sum_at]
  exact halved _ _ _

theorem left_at (b : Fin 4) (s : Fin 2048) (k : Fin 4096) :
    val_main_v48 (F := Ideal) x0 x1 x2 x3 x4 (ix3 b s k) = acted x0 x1 x2 x3 x4 (row b s) (Maths.leftCol k) := by
  rw [val_main_v48_apply]
  refine Eq.trans (congrArg _ (funext fun z => Fin.ext ?_)) (acted_at x0 x1 x2 x3 x4 b s (Maths.leftCol k))
  fin_cases z <;> rfl

theorem right_at (b : Fin 4) (s : Fin 2048) (k : Fin 4096) :
    val_main_v49 (F := Ideal) x0 x1 x2 x3 x4 (ix3 b s k) = acted x0 x1 x2 x3 x4 (row b s) (Maths.rightCol k) := by
  rw [val_main_v49_apply]
  refine Eq.trans (congrArg _ (funext fun z => Fin.ext ?_)) (acted_at x0 x1 x2 x3 x4 b s (Maths.rightCol k))
  fin_cases z <;> rfl

/-! ## The second norm -/

theorem rightSquares_at (b : Fin 4) (s : Fin 2048) :
    val_main_v51 (F := Ideal) x0 x1 x2 x3 x4 (ix2 b s)
      = ∑ e : Fin 4096, acted x0 x1 x2 x3 x4 (row b s) (Maths.rightCol e) * acted x0 x1 x2 x3 x4 (row b s) (Maths.rightCol e) := by
  rw [val_main_v51_apply, val_main_cst_7_apply]
  refine (congrArg (· + _) Ideal.ofBits_zero_f32).trans ((zero_add _).trans (Finset.sum_congr rfl fun e _ => ?_))
  have h : val_main_v49 (F := Ideal) x0 x1 x2 x3 x4 (idx_main_v51 (ix2 b s) e)
      = acted x0 x1 x2 x3 x4 (row b s) (Maths.rightCol e) := by
    refine Eq.trans (congrArg _ (funext fun z => Fin.ext ?_)) (right_at x0 x1 x2 x3 x4 b s e)
    fin_cases z <;> rfl
  rw [val_main_v50_apply, h]; rfl

theorem rightRoot_at (b : Fin 4) (s : Fin 2048) (e : Fin 4096) :
    val_main_v58 (F := Ideal) x0 x1 x2 x3 x4 (ix3 b s e)
      = Ideal.rsqrt (Ideal.div (∑ e : Fin 4096, acted x0 x1 x2 x3 x4 (row b s) (Maths.rightCol e)
            * acted x0 x1 x2 x3 x4 (row b s) (Maths.rightCol e))
          (Ideal.ofBits .f32 0x45800000#32) + Ideal.ofBits .f32 0x358637BD#32) := by
  rw [val_main_v58_apply, val_main_v57_apply, val_main_v56_apply, val_main_v55_apply, val_main_cst_9_apply, val_main_v54_apply,
    val_main_v53_apply, val_main_cst_8_apply, val_main_v52_apply]
  refine congrArg (fun q => Ideal.rsqrt (Ideal.div q (Ideal.ofBits .f32 0x45800000#32) + Ideal.ofBits .f32 0x358637BD#32))
    (Eq.trans (congrArg _ (funext fun z => Fin.ext ?_)) (rightSquares_at x0 x1 x2 x3 x4 b s))
  fin_cases z <;> rfl

theorem normed_at (b : Fin 4) (s : Fin 2048) (e : Fin 4096) :
    val_main_v62 (F := Ideal) x0 x1 x2 x3 x4 x5 (ix3 b s e)
      = Maths.normed (fun k => acted x0 x1 x2 x3 x4 (row b s) (Maths.rightCol k)) (fun e => x5 (ix2 0 e)) e := by
  rw [val_main_v62_apply, val_main_v59_apply, right_at, rightRoot_at, vgain_at]
  rfl

/-! ## The mixing -/

theorem chunk_at (b : Fin 4) (n : Fin 16) (p : Fin 128) (g : Fin 8) (e : Fin 512) :
    val_main_v63 (F := Ideal) x0 x1 x2 x3 x4 x5 (ix5 b n p g e)
      = Maths.normed (fun k => acted x0 x1 x2 x3 x4 (row b (pos n p)) (Maths.rightCol k)) (fun e => x5 (ix2 0 e)) (col g e) := by
  rw [val_main_v63_apply]
  refine Eq.trans (congrArg _ (funext fun z => Fin.ext ?_)) (normed_at x0 x1 x2 x3 x4 x5 b (pos n p) (col g e))
  match z with
  | ⟨0, _⟩ =>
    show ((((b.val * 16 + n.val) * 128 + p.val) * 8 + g.val) * 512 + e.val) / 8388608 = b.val
    omega
  | ⟨1, _⟩ =>
    show ((((b.val * 16 + n.val) * 128 + p.val) * 8 + g.val) * 512 + e.val) / 4096 % 2048 = 128 * n.val + p.val
    omega
  | ⟨2, _⟩ =>
    show ((((b.val * 16 + n.val) * 128 + p.val) * 8 + g.val) * 512 + e.val) % 4096 = 512 * g.val + e.val
    omega

theorem mixing_at (b : Fin 4) (n : Fin 16) (p : Fin 128) (g : Fin 8) (e : Fin 512) :
    val_main_v66 (F := Ideal) x0 x1 x2 x3 x4 x5 x6 (ix5 b n p g e)
      = ∑ q : Fin 128, x6 (ix4 0 g p q) * Maths.normed (fun k => acted x0 x1 x2 x3 x4 (row b (pos n q)) (Maths.rightCol k))
          (fun e => x5 (ix2 0 e)) (col g e) := by
  rw [val_main_v66_apply, val_main_v65_apply]
  refine Finset.sum_congr rfl fun q _ => (mul_comm _ _).trans (congrArg₂ (· * ·)
    (Eq.trans (congrArg _ (funext fun z => Fin.ext ?_)) (mixWeights_at x6 g p q))
    (Eq.trans (congrArg _ (funext fun z => Fin.ext ?_)) (chunk_at x0 x1 x2 x3 x4 x5 b n q g e)))
  all_goals fin_cases z <;> rfl

theorem mixed_at (b : Fin 4) (s : Fin 2048) (k : Fin 4096) :
    val_main_v75 (F := Ideal) x0 x1 x2 x3 x4 x5 x6 x7 (ix3 b s k)
      = Maths.mixed (fun a k => acted x0 x1 x2 x3 x4 a (Maths.leftCol k)) (fun a k => acted x0 x1 x2 x3 x4 a (Maths.rightCol k))
          (fun e => x5 (ix2 0 e)) (fun g p q => x6 (ix4 0 g p q)) (fun g p => x7 (ix3 0 g p)) (row b s) k := by
  obtain ⟨n, p, rfl⟩ : ∃ (n : Fin 16) (p : Fin 128), s = pos n p :=
    ⟨⟨s.val / 128, by omega⟩, ⟨s.val % 128, by omega⟩, Fin.ext (by show s.val = 128 * (s.val / 128) + s.val % 128; omega)⟩
  obtain ⟨g, e, rfl⟩ : ∃ (g : Fin 8) (e : Fin 512), k = col g e :=
    ⟨⟨k.val / 512, by omega⟩, ⟨k.val % 512, by omega⟩, Fin.ext (by show k.val = 512 * (k.val / 512) + k.val % 512; omega)⟩
  have hz : idx_main_v74 (ix3 b (pos n p) (col g e)) = ix5 b n p g e := funext fun z => Fin.ext (by
    have hb := b.isLt
    have hn := n.isLt
    have hp := p.isLt
    have hg := g.isLt
    have he := e.isLt
    match z with
    | ⟨0, _⟩ => show ((b.val * 2048 + (128 * n.val + p.val)) * 4096 + (512 * g.val + e.val)) / 8388608 = b.val; omega
    | ⟨1, _⟩ => show ((b.val * 2048 + (128 * n.val + p.val)) * 4096 + (512 * g.val + e.val)) / 524288 % 16 = n.val; omega
    | ⟨2, _⟩ => show ((b.val * 2048 + (128 * n.val + p.val)) * 4096 + (512 * g.val + e.val)) / 4096 % 128 = p.val; omega
    | ⟨3, _⟩ => show ((b.val * 2048 + (128 * n.val + p.val)) * 4096 + (512 * g.val + e.val)) / 512 % 8 = g.val; omega
    | ⟨4, _⟩ => show ((b.val * 2048 + (128 * n.val + p.val)) * 4096 + (512 * g.val + e.val)) % 512 = e.val; omega)
  rw [val_main_v75_apply, val_main_v74_apply, hz, val_main_v71_apply, mixing_at, mixBias_at, left_at]
  unfold Maths.mixed
  rw [pos_row, group_col]
  simp only [chunk_row]
  rfl

/-! ## The result -/

theorem share_at (b : Fin 4) (s : Fin 2048) (j : Fin 4096) :
    val_main_v77 (F := Ideal) x0 x1 x2 x3 x4 x5 x6 x7 x8 (ix3 b s j)
      = ∑ k : Fin 4096, Maths.mixed (fun a k => acted x0 x1 x2 x3 x4 a (Maths.leftCol k))
          (fun a k => acted x0 x1 x2 x3 x4 a (Maths.rightCol k))
          (fun e => x5 (ix2 0 e)) (fun g p q => x6 (ix4 0 g p q)) (fun g p => x7 (ix3 0 g p)) (row b s) k * x8 (ix3 0 k j) := by
  rw [val_main_v77_apply]
  refine Finset.sum_congr rfl fun k _ => congrArg₂ (· * ·)
    (Eq.trans (congrArg _ (funext fun z => Fin.ext ?_)) (mixed_at x0 x1 x2 x3 x4 x5 x6 x7 b s k))
    (Eq.trans (congrArg _ (funext fun z => Fin.ext ?_)) (outWeights_at x8 k j))
  all_goals fin_cases z <;> rfl

/-- The result's entry `(i, j)`. -/
theorem result_at (i : Fin 8192) (j : Fin 4096) :
    val_main_v81 (F := Ideal) x0 x1 x2 x3 x4 x5 x6 x7 x8 (ix2 i j)
      = Maths.spatialGate (fun a e => x0 (ix2 a e)) (fun e => x2 (ix3 1 1 e)) (fun b e => x1 (ix5 1 b 4 0 e))
          (fun b e => x1 (ix5 1 b 3 0 e)) (fun b e => x1 (ix5 1 b 5 0 e)) (fun e k => x3 (ix3 0 e k)) (fun k => x4 (ix2 0 k))
          (fun e => x5 (ix2 0 e)) (fun g p q => x6 (ix4 0 g p q)) (fun g p => x7 (ix3 0 g p)) (fun k e => x8 (ix3 0 k e)) i j := by
  obtain ⟨b, s, rfl⟩ : ∃ (b : Fin 4) (s : Fin 2048), i = row b s :=
    ⟨⟨i.val / 2048, by omega⟩, ⟨i.val % 2048, by omega⟩, Fin.ext (by show i.val = 2048 * (i.val / 2048) + i.val % 2048; omega)⟩
  have hz : idx_main_v81 (ix2 (row b s) j) = ix3 b s j := funext fun z => Fin.ext (by
    have hb := b.isLt
    have hs := s.isLt
    have hj := j.isLt
    match z with
    | ⟨0, _⟩ => show ((2048 * b.val + s.val) * 4096 + j.val) / 8388608 = b.val; omega
    | ⟨1, _⟩ => show ((2048 * b.val + s.val) * 4096 + j.val) / 4096 % 2048 = s.val; omega
    | ⟨2, _⟩ => show ((2048 * b.val + s.val) * 4096 + j.val) % 4096 = j.val; omega)
  rw [val_main_v81_apply, hz, val_main_v80_apply, val_main_v79_apply, rows_at, gate_at, share_at]
  unfold Maths.spatialGate
  rw [image_row]
  rfl

end Cert.SpatialGateReferenceIdeal.Reading

end
-- ==== Proof.FirstFeedForward.Norm.lean ====
module

public import proofs.«01_k».proof.Proof.Gen.FirstFeedForwardIdeal.Launch
public import proofs.«01_k».proof.Proof.Gen.FirstFeedForwardIdeal.Skeleton
public import proofs.«01_k».proof.Proof.Gen.FirstFeedForwardIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FirstFeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstFeedForwardIdeal.Gen

variable {F : FTy → Type} [FloatOps F]

local notation "𝕄" => MT nD τ sig Unit (Elt F) ℕ (UR sig nD τ) ℕ

/-! The first launch of the first feed-forward, which takes a block of the one array or of the other, scales its rows to
    unit mean square and modulates them: what its body leaves in its output buffer, and the body's obligation at every
    grid point. -/

section body0

variable (c : Dev nD) (i : grid0.Coords)
  (arg1 : Memref sig .tc .vmem S512x4096 .f32) (harg1 : arg1.IsWhole)
  (arg2 : Memref sig .tc .vmem S512x4096 .f32) (harg2 : arg2.IsWhole)
  (arg3 : Memref sig .tc .vmem S1x4096 .f32) (harg3 : arg3.IsWhole)
  (arg4 : Memref sig .tc .vmem S1x1x1x1x4096 .f32) (harg4 : arg4.IsWhole)
  (arg5 : Memref sig .tc .vmem S1x1x1x1x4096 .f32) (harg5 : arg5.IsWhole)
  (arg6 : Memref sig .tc .vmem S512x4096 .bf16) (harg6 : arg6.IsWhole)
  (x0 : Vec F S512x4096 .f32) (x1 : Vec F S512x4096 .f32) (x2 : Vec F S1x4096 .f32) (x3 : Vec F S1x1x1x1x4096 .f32) (x4 : Vec F S1x1x1x1x4096 .f32)

def kernelRun0 :
    { L : List (View.Piece (Elt F) S512x4096 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ owns (c : Thread nD τ) arg5 fullShare x4
            ∗ (∃ d, owns (c : Thread nD τ) arg6 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ owns (c : Thread nD τ) arg5 fullShare x4
                ∗ (∃ f, arg6.view.loc (c : Thread nD τ) ↦[arg6.view.set]{fullShare} arg6.view.writes (Elt F) f L)) -∗ K ⟨⟩))
          ⊢ wp frame (wpE (defs₀ (F := F)) Variants.none c none) E
              (cc0_norm_modulate i arg1 harg1 arg2 harg2 arg3 harg3 arg4 harg4 arg5 harg5 arg6 harg6) K } := by
  refine ⟨?_, fun E K => ?run⟩
  case run =>
    simp only [cc0_norm_modulate_eq_skeleton]; unfold cc0_norm_modulate_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg1.eq_unread hf0
    obtain rfl := harg2.eq_unread hf1
    obtain rfl := harg3.eq_unread hf2
    obtain rfl := harg4.eq_unread hf3
    obtain rfl := harg5.eq_unread hf4
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    iexists _; iexact H5

theorem cover0 (y : S512x4096.Idx) :
    ∃ pc ∈ (kernelRun0 c i arg1 harg1 arg2 harg2 arg3 harg3 arg4 harg4 arg5 harg5 arg6 harg6 x0 x1 x2 x3 x4).1, y ∈ pc.1.set :=
  View.cover_of_tiledL (kernelRun0 c i arg1 harg1 arg2 harg2 arg3 harg3 arg4 harg4 arg5 harg5 arg6 harg6 x0 x1 x2 x3 x4).1
    S512x4096.size (by sl_kernel_rfl) y

abbrev VO0 : View sig .tc .vmem S512x4096 .bf16 := (Memref.whole cc0_stg5_0 : Memref sig .tc .vmem S512x4096 .bf16).view

def out0 : Vec F S512x4096 .bf16 :=
  VO0.read (Elt F) (VO0.writes (Elt F) VO0.junk
    (kernelRun0 c i arg1 harg1 arg2 harg2 arg3 harg3 arg4 harg4 arg5 harg5 arg6 harg6 x0 x1 x2 x3 x4).1)

end body0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S1x1x1x1x4096 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S512x4096 .bf16 := win0_5.stage (cfg0.slots t 5)
abbrev hs0_5 (t : Fin cfg0.N) : (ms0_5 t).IsWhole := hstage0_5 ((cfg0.slots t 5).cast nbuf0_5)

def outsAt0 (c : Dev nD) (t : Fin cfg0.N) : Vec F S512x4096 .bf16 :=
  out0 c (grid0.coords t) (ms0_0 t) (hs0_0 t) (ms0_1 t) (hs0_1 t) (ms0_2 t) (hs0_2 t) (ms0_3 t) (hs0_3 t) (ms0_4 t) (hs0_4 t) (ms0_5 t) (hs0_5 t)
    (iblk0 V c 0 t) (iblk0 V c 1 t) (iblk0 V c 2 t) (iblk0 V c 3 t) (iblk0 V c 4 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => (outsAt0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = outsAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => after0_0 V c t) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => after0_1 V c t) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => after0_2 V c t) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => after0_3 V c t) t d).trans rfl
theorem before0_4 (c : Dev nD) (t : Fin cfg0.N) (d) : (dat0 V c).before 4 t d = iblk0 V c 4 t :=
  ((dat0 V c).before_in_eq_fetched 4 rfl (fun _ => rfl) (fun _ _ _ => rfl) (fun t => after0_4 V c t) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d))
    ∗ (∃ d, owns (c : Thread nD τ) (ms0_5 t) fullShare ((dat0 V c).before 5 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t)
    ∗ owns (c : Thread nD τ) (ms0_5 t) fullShare ((dat0 V c).after 5 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4]
  rw [show (dat0 V c).Φ t.succ = (dat0 V c).Φ t.castSucc from rfl,
    show (dat0 V c).owesAt () t.succ = (dat0 V c).owesAt () t.castSucc from rfl,
    after0_0, after0_1, after0_2, after0_3, after0_4, after0_5]
  unfold outsAt0 out0
  iintro ⟨HΦ, Ho, ⟨%d0, H0⟩, ⟨%d1, H1⟩, ⟨%d2, H2⟩, ⟨%d3, H3⟩, ⟨%d4, H4⟩, ⟨%d5, H5⟩⟩
  iapply ((kernelRun0 c (grid0.coords t) _ _ _ _ _ _ _ _ _ _ _ _ (iblk0 V c 0 t) (iblk0 V c 1 t) (iblk0 V c 2 t) (iblk0 V c 3 t) (iblk0 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover0 c _ _ _ _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.FirstFeedForwardIdeal.Joined

end
-- ==== Proof.FirstFeedForward.In.lean ====
module

public import proofs.«01_k».proof.Proof.Gen.FirstFeedForwardIdeal.Launch
public import proofs.«01_k».proof.Proof.Gen.FirstFeedForwardIdeal.Skeleton
public import proofs.«01_k».proof.Proof.Gen.FirstFeedForwardIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FirstFeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstFeedForwardIdeal.Gen

variable {F : FTy → Type} [FloatOps F]

local notation "𝕄" => MT nD τ sig Unit (Elt F) ℕ (UR sig nD τ) ℕ

/-! The second launch of the first feed-forward, its hidden layer: what its body leaves in its output buffer, and the
    body's obligation at every grid point. -/

section body1

variable (c : Dev nD) (i : grid1.Coords)
  (arg2 : Memref sig .tc .vmem S1024x4096 .bf16) (harg2 : arg2.IsWhole)
  (arg3 : Memref sig .tc .vmem S1x1x4096x512 .f32) (harg3 : arg3.IsWhole)
  (arg4 : Memref sig .tc .vmem S1x1x4096x512 .f32) (harg4 : arg4.IsWhole)
  (arg5 : Memref sig .tc .vmem S1024x512 .bf16) (harg5 : arg5.IsWhole)
  (x0 : Vec F S1024x4096 .bf16) (x1 : Vec F S1x1x4096x512 .f32) (x2 : Vec F S1x1x4096x512 .f32)

def kernelRun1 :
    { L : List (View.Piece (Elt F) S1024x512 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ (∃ d, owns (c : Thread nD τ) arg5 fullShare d)
            ∗ (iprop(owns (c : Thread nD τ) arg2 fullShare x0
                ∗ owns (c : Thread nD τ) arg3 fullShare x1
                ∗ owns (c : Thread nD τ) arg4 fullShare x2
                ∗ (∃ f, arg5.view.loc (c : Thread nD τ) ↦[arg5.view.set]{fullShare} arg5.view.writes (Elt F) f L)) -∗ K ⟨⟩))
          ⊢ wp frame (wpE (defs₀ (F := F)) Variants.none c none) E
              (cc1_ffn_in i arg2 harg2 arg3 harg3 arg4 harg4 arg5 harg5) K } := by
  refine ⟨?_, fun E K => ?run⟩
  case run =>
    simp only [cc1_ffn_in_eq_skeleton]; unfold cc1_ffn_in_skel
    unfold owns
    iintro ⟨⟨%f0, %hf0, H0⟩, ⟨%f1, %hf1, H1⟩, ⟨%f2, %hf2, H2⟩, ⟨%d3, %f3, -, H3⟩, Hk⟩
    obtain rfl := harg2.eq_unread hf0
    obtain rfl := harg3.eq_unread hf1
    obtain rfl := harg4.eq_unread hf2
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    iexists _; iexact H3

theorem cover1 (y : S1024x512.Idx) :
    ∃ pc ∈ (kernelRun1 c i arg2 harg2 arg3 harg3 arg4 harg4 arg5 harg5 x0 x1 x2).1, y ∈ pc.1.set :=
  View.cover_of_tiledL (kernelRun1 c i arg2 harg2 arg3 harg3 arg4 harg4 arg5 harg5 x0 x1 x2).1
    S1024x512.size (by sl_kernel_rfl) y

abbrev VO1 : View sig .tc .vmem S1024x512 .bf16 := (Memref.whole cc1_stg3_0 : Memref sig .tc .vmem S1024x512 .bf16).view

def out1 : Vec F S1024x512 .bf16 :=
  VO1.read (Elt F) (VO1.writes (Elt F) VO1.junk
    (kernelRun1 c i arg2 harg2 arg3 harg3 arg4 harg4 arg5 harg5 x0 x1 x2).1)

end body1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1x4096x512 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1x4096x512 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x512 .bf16 := win1_3.stage (cfg1.slots t 3)
abbrev hs1_3 (t : Fin cfg1.N) : (ms1_3 t).IsWhole := hstage1_3 ((cfg1.slots t 3).cast nbuf1_3)

def outsAt1 (c : Dev nD) (t : Fin cfg1.N) : Vec F S1024x512 .bf16 :=
  out1 c (grid1.coords t) (ms1_0 t) (hs1_0 t) (ms1_1 t) (hs1_1 t) (ms1_2 t) (hs1_2 t) (ms1_3 t) (hs1_3 t)
    (iblk1 V c 0 t) (iblk1 V c 1 t) (iblk1 V c 2 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => (outsAt1 V c t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outsAt1 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => after1_0 V c t) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => after1_1 V c t) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => after1_2 V c t) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).Φ t.succ = (dat1 V c).Φ t.castSucc from rfl,
    show (dat1 V c).owesAt () t.succ = (dat1 V c).owesAt () t.castSucc from rfl,
    after1_0, after1_1, after1_2, after1_3]
  unfold outsAt1 out1
  iintro ⟨HΦ, Ho, ⟨%d0, H0⟩, ⟨%d1, H1⟩, ⟨%d2, H2⟩, ⟨%d3, H3⟩⟩
  iapply ((kernelRun1 c (grid1.coords t) _ _ _ _ _ _ _ _ (iblk1 V c 0 t) (iblk1 V c 1 t) (iblk1 V c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover1 c _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.FirstFeedForwardIdeal.Joined

end
-- ==== Proof.FirstFeedForward.Out.lean ====
module

public import proofs.«01_k».proof.Proof.Gen.FirstFeedForwardIdeal.Launch
public import proofs.«01_k».proof.Proof.Gen.FirstFeedForwardIdeal.Skeleton
public import proofs.«01_k».proof.Proof.Gen.FirstFeedForwardIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.FirstFeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstFeedForwardIdeal.Gen

variable {F : FTy → Type} [FloatOps F]

local notation "𝕄" => MT nD τ sig Unit (Elt F) ℕ (UR sig nD τ) ℕ

/-! The third launch of the first feed-forward, its last product and the residual: what its body leaves in its output
    buffer, and the body's obligation at every grid point. -/

section body2

variable (c : Dev nD) (i : grid2.Coords)
  (arg2 : Memref sig .tc .vmem S512x8192 .bf16) (harg2 : arg2.IsWhole)
  (arg3 : Memref sig .tc .vmem S1x1x8192x512 .f32) (harg3 : arg3.IsWhole)
  (arg4 : Memref sig .tc .vmem S1x1x1x1x512 .f32) (harg4 : arg4.IsWhole)
  (arg5 : Memref sig .tc .vmem S512x512 .f32) (harg5 : arg5.IsWhole)
  (arg6 : Memref sig .tc .vmem S512x512 .f32) (harg6 : arg6.IsWhole)
  (arg7 : Memref sig .tc .vmem S512x512 .f32) (harg7 : arg7.IsWhole)
  (x0 : Vec F S512x8192 .bf16) (x1 : Vec F S1x1x8192x512 .f32) (x2 : Vec F S1x1x1x1x512 .f32) (x3 : Vec F S512x512 .f32) (x4 : Vec F S512x512 .f32)

def kernelRun2 :
    { L : List (View.Piece (Elt F) S512x512 .f32) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ (∃ d, owns (c : Thread nD τ) arg7 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ (∃ f, arg7.view.loc (c : Thread nD τ) ↦[arg7.view.set]{fullShare} arg7.view.writes (Elt F) f L)) -∗ K ⟨⟩))
          ⊢ wp frame (wpE (defs₀ (F := F)) Variants.none c none) E
              (cc2_ffn_out i arg2 harg2 arg3 harg3 arg4 harg4 arg5 harg5 arg6 harg6 arg7 harg7) K } := by
  refine ⟨?_, fun E K => ?run⟩
  case run =>
    simp only [cc2_ffn_out_eq_skeleton]; unfold cc2_ffn_out_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
    obtain rfl := harg2.eq_unread hf0
    obtain rfl := harg3.eq_unread hf1
    obtain rfl := harg4.eq_unread hf2
    obtain rfl := harg5.eq_unread hf3
    obtain rfl := harg6.eq_unread hf4
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    iexists _; iexact H5

theorem cover2 (y : S512x512.Idx) :
    ∃ pc ∈ (kernelRun2 c i arg2 harg2 arg3 harg3 arg4 harg4 arg5 harg5 arg6 harg6 arg7 harg7 x0 x1 x2 x3 x4).1, y ∈ pc.1.set :=
  View.cover_of_tiledL (kernelRun2 c i arg2 harg2 arg3 harg3 arg4 harg4 arg5 harg5 arg6 harg6 arg7 harg7 x0 x1 x2 x3 x4).1
    S512x512.size (by sl_kernel_rfl) y

abbrev VO2 : View sig .tc .vmem S512x512 .f32 := (Memref.whole cc2_stg5_0 : Memref sig .tc .vmem S512x512 .f32).view

def out2 : Vec F S512x512 .f32 :=
  VO2.read (Elt F) (VO2.writes (Elt F) VO2.junk
    (kernelRun2 c i arg2 harg2 arg3 harg3 arg4 harg4 arg5 harg5 arg6 harg6 arg7 harg7 x0 x1 x2 x3 x4).1)

end body2

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev ms2_0 (t : Fin cfg2.N) : Memref sig .tc .vmem S512x8192 .bf16 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S1x1x8192x512 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1x1x1x512 .f32 := win2_2.stage (cfg2.slots t 2)
abbrev hs2_2 (t : Fin cfg2.N) : (ms2_2 t).IsWhole := hstage2_2 ((cfg2.slots t 2).cast nbuf2_2)
abbrev ms2_3 (t : Fin cfg2.N) : Memref sig .tc .vmem S512x512 .f32 := win2_3.stage (cfg2.slots t 3)
abbrev hs2_3 (t : Fin cfg2.N) : (ms2_3 t).IsWhole := hstage2_3 ((cfg2.slots t 3).cast nbuf2_3)
abbrev ms2_4 (t : Fin cfg2.N) : Memref sig .tc .vmem S512x512 .f32 := win2_4.stage (cfg2.slots t 4)
abbrev hs2_4 (t : Fin cfg2.N) : (ms2_4 t).IsWhole := hstage2_4 ((cfg2.slots t 4).cast nbuf2_4)
abbrev ms2_5 (t : Fin cfg2.N) : Memref sig .tc .vmem S512x512 .f32 := win2_5.stage (cfg2.slots t 5)
abbrev hs2_5 (t : Fin cfg2.N) : (ms2_5 t).IsWhole := hstage2_5 ((cfg2.slots t 5).cast nbuf2_5)

def outsAt2 (c : Dev nD) (t : Fin cfg2.N) : Vec F S512x512 .f32 :=
  out2 c (grid2.coords t) (ms2_0 t) (hs2_0 t) (ms2_1 t) (hs2_1 t) (ms2_2 t) (hs2_2 t) (ms2_3 t) (hs2_3 t) (ms2_4 t) (hs2_4 t) (ms2_5 t) (hs2_5 t)
    (iblk2 V c 0 t) (iblk2 V c 1 t) (iblk2 V c 2 t) (iblk2 V c 3 t) (iblk2 V c 4 t)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => (outsAt2 V c t)
  Φ _ := Pipeline.ΦA spec2 c
  q w := Pipeline.shareOf spec2 w
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = outsAt2 V c t := by dsimp only [dat2]

theorem before2_0 (c : Dev nD) (t : Fin cfg2.N) (d) : (dat2 V c).before 0 t d = iblk2 V c 0 t :=
  ((dat2 V c).before_in_eq_fetched 0 rfl (fun _ => rfl) (fun _ _ _ => rfl) (fun t => after2_0 V c t) t d).trans rfl
theorem before2_1 (c : Dev nD) (t : Fin cfg2.N) (d) : (dat2 V c).before 1 t d = iblk2 V c 1 t :=
  ((dat2 V c).before_in_eq_fetched 1 rfl (fun _ => rfl) (fun _ _ _ => rfl) (fun t => after2_1 V c t) t d).trans rfl
theorem before2_2 (c : Dev nD) (t : Fin cfg2.N) (d) : (dat2 V c).before 2 t d = iblk2 V c 2 t :=
  ((dat2 V c).before_in_eq_fetched 2 rfl (fun _ => rfl) (fun _ _ _ => rfl) (fun t => after2_2 V c t) t d).trans rfl
theorem before2_3 (c : Dev nD) (t : Fin cfg2.N) (d) : (dat2 V c).before 3 t d = iblk2 V c 3 t :=
  ((dat2 V c).before_in_eq_fetched 3 rfl (fun _ => rfl) (fun _ _ _ => rfl) (fun t => after2_3 V c t) t d).trans rfl
theorem before2_4 (c : Dev nD) (t : Fin cfg2.N) (d) : (dat2 V c).before 4 t d = iblk2 V c 4 t :=
  ((dat2 V c).before_in_eq_fetched 4 rfl (fun _ => rfl) (fun _ _ _ => rfl) (fun t => after2_4 V c t) t d).trans rfl

def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d))
    ∗ (∃ d, owns (c : Thread nD τ) (ms2_3 t) fullShare ((dat2 V c).before 3 t d))
    ∗ (∃ d, owns (c : Thread nD τ) (ms2_4 t) fullShare ((dat2 V c).before 4 t d))
    ∗ (∃ d, owns (c : Thread nD τ) (ms2_5 t) fullShare ((dat2 V c).before 5 t d)))

def bodyPost2 (c : Dev nD) (t : Fin cfg2.N) : sProp 𝕄 :=
  iprop((dat2 V c).Φ t.succ ∗ (dat2 V c).owesAt () t.succ
    ∗ owns (c : Thread nD τ) (ms2_0 t) fullShare ((dat2 V c).after 0 t)
    ∗ owns (c : Thread nD τ) (ms2_1 t) fullShare ((dat2 V c).after 1 t)
    ∗ owns (c : Thread nD τ) (ms2_2 t) fullShare ((dat2 V c).after 2 t)
    ∗ owns (c : Thread nD τ) (ms2_3 t) fullShare ((dat2 V c).after 3 t)
    ∗ owns (c : Thread nD τ) (ms2_4 t) fullShare ((dat2 V c).after 4 t)
    ∗ owns (c : Thread nD τ) (ms2_5 t) fullShare ((dat2 V c).after 5 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  unfold outsAt2 out2
  iintro ⟨HΦ, Ho, ⟨%d0, H0⟩, ⟨%d1, H1⟩, ⟨%d2, H2⟩, ⟨%d3, H3⟩, ⟨%d4, H4⟩, ⟨%d5, H5⟩⟩
  iapply ((kernelRun2 c (grid2.coords t) _ _ _ _ _ _ _ _ _ _ _ _ (iblk2 V c 0 t) (iblk2 V c 1 t) (iblk2 V c 2 t) (iblk2 V c 3 t) (iblk2 V c 4 t)).2 Set.univ _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, ⟨%e5, H5⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  unfold owns; iexists _; isplitr
  swap; · iexact H5
  ipureintro; exact View.read_writes_of_cover _ _ _ _ _ (cover2 c _ _ _ _ _ _ _ _ _ _ _ _ _ _ _ _ _ _)

theorem defs₀_row2 (t : Fin cfg2.N) :
    defs₀ (F := F) .tc cfg2.body (cfg2.bodyArgs t (cfg2.slots t)) = bodyAt2 t := by
  unfold defs₀; rw [Defs.onTc_tc]

theorem body_obligation2 (c : Dev nD) : BodyObligation (dat2 (F := F) V c) (defs₀ (F := F)) Variants.none () Set.univ := fun t => by
  rw [bigSep_W2, bigSep_W2, defs₀_row2]
  exact triple_restated (sound_body2 V c t) rfl .rfl fun _ => .rfl

end Cert.FirstFeedForwardIdeal.Joined

end
-- ==== Proof.FirstFeedForward.Whole.lean ====
module

public import proofs.«01_k».proof.Proof.FirstFeedForward.Norm
public import proofs.«01_k».proof.Proof.FirstFeedForward.In
public import proofs.«01_k».proof.Proof.FirstFeedForward.Out
public import proofs.«01_k».proof.Proof.Launches

@[expose] public section

set_option maxRecDepth 16384

noncomputable section

namespace Cert.FirstFeedForwardIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.FirstFeedForwardIdeal.Gen
open Cert.Launches (𝒱₀ L lv R hseg mem_uc stepW stepW_arr stepW_of_ne stepW_of regOf last run_of)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The first feed-forward as a whole: the gain cut out of its array, then the three launches, one after the other. -/

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev V1 : (c : Dev nD) → (b : Ref sig .tc) → Buf (Elt F) ((c : Thread nD τ).loc b) := fun c b => W1 m ρ c b
def W2 : Dev nD → Valuation τ sig (Elt F) := stepW (W1 m ρ) (dat0 (V1 m ρ))
abbrev V2 : (c : Dev nD) → (b : Ref sig .tc) → Buf (Elt F) ((c : Thread nD τ).loc b) := fun c b => W2 m ρ c b
def W3 : Dev nD → Valuation τ sig (Elt F) := stepW (W2 m ρ) (dat1 (V2 m ρ))
abbrev V3 : (c : Dev nD) → (b : Ref sig .tc) → Buf (Elt F) ((c : Thread nD τ).loc b) := fun c b => W3 m ρ c b
def W4 : Dev nD → Valuation τ sig (Elt F) := stepW (W3 m ρ) (dat2 (V3 m ρ))

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)
theorem argsIn2 : ∀ a ∈ argRefs, ∀ w : Fin cfg2.W, Pipeline.arrRef spec2 w = a → (cfg2.win w).isOut = false :=
  ListAll.forall_mem_of_all_decide (by decide +kernel)
theorem sharedIn2 : Pipeline.SharedIn spec2 := by decide

theorem W1_args (c : Dev nD) : ∀ a ∈ argRefs, W1 m ρ c (Proc.devRef .tc a) = m ((c : Thread nD τ).loc a) :=
  fun a ha => W1_of m ρ c a (hostOps0_args a ha)
theorem W2_args (c : Dev nD) : ∀ a ∈ argRefs, W2 m ρ c (Proc.devRef .tc a) = m ((c : Thread nD τ).loc a) :=
  fun a ha => (stepW_of sharedIn0 _ (dat0 (V1 m ρ)) (A_eq0 (V1 m ρ)) c a (argsIn0 a ha)).trans (W1_args m ρ c a ha)
theorem W3_args (c : Dev nD) : ∀ a ∈ argRefs, W3 m ρ c (Proc.devRef .tc a) = m ((c : Thread nD τ).loc a) :=
  fun a ha => (stepW_of sharedIn1 _ (dat1 (V2 m ρ)) (A_eq1 (V2 m ρ)) c a (argsIn1 a ha)).trans (W2_args m ρ c a ha)
theorem W4_args (c : Dev nD) : ∀ a ∈ argRefs, W4 m ρ c (Proc.devRef .tc a) = m ((c : Thread nD τ).loc a) :=
  fun a ha => (stepW_of sharedIn2 _ (dat2 (V3 m ρ)) (A_eq2 (V3 m ρ)) c a (argsIn2 a ha)).trans (W3_args m ρ c a ha)

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V2 m ρ) c
  | ⟨2, _⟩ => fun c => dat2 (V3 m ρ) c

def reg0 : Pipeline.RegionSeg (pcfgs (F := F)) adm (pdats m ρ) () defs₀ 𝒱₀ L lv 0 :=
  regOf cfgs defs₀ (pdats m ρ) 0 winFacts₀0 sharedIn0 block_pos0 arr_whole0 stage_whole0 (W1 m ρ) (W2 m ρ) (body_obligation0 (V1 m ρ))
    (fun _ _ => rfl) (fun _ _ => trivial) (fun _ _ => rfl) (fun _ _ => rfl) (A_eq0 (V1 m ρ))
    (fun c w => (stepW_arr sharedIn0 _ (dat0 (V1 m ρ)) (A_eq0 (V1 m ρ)) c w).symm)
    (fun c b hb => stepW_of_ne _ (dat0 (V1 m ρ)) c b fun w e => hb (Finset.mem_image.mpr ⟨w, Finset.mem_univ _, e⟩))
def reg1 : Pipeline.RegionSeg (pcfgs (F := F)) adm (pdats m ρ) () defs₀ 𝒱₀ L lv 1 :=
  regOf cfgs defs₀ (pdats m ρ) 1 winFacts₀1 sharedIn1 block_pos1 arr_whole1 stage_whole1 (W2 m ρ) (W3 m ρ) (body_obligation1 (V2 m ρ))
    (fun _ _ => rfl) (fun _ _ => trivial) (fun _ _ => rfl) (fun _ _ => rfl) (A_eq1 (V2 m ρ))
    (fun c w => (stepW_arr sharedIn1 _ (dat1 (V2 m ρ)) (A_eq1 (V2 m ρ)) c w).symm)
    (fun c b hb => stepW_of_ne _ (dat1 (V2 m ρ)) c b fun w e => hb (Finset.mem_image.mpr ⟨w, Finset.mem_univ _, e⟩))
def reg2 : Pipeline.RegionSeg (pcfgs (F := F)) adm (pdats m ρ) () defs₀ 𝒱₀ L lv 2 :=
  regOf cfgs defs₀ (pdats m ρ) 2 winFacts2.to₀ sharedIn2 block_pos2 arr_whole2 stage_whole2 (W3 m ρ) (W4 m ρ) (body_obligation2 (V3 m ρ))
    (fun _ _ => rfl) (fun _ _ => trivial) (fun _ _ => rfl) (fun _ _ => rfl) (A_eq2 (V3 m ρ))
    (fun c w => (stepW_arr sharedIn2 _ (dat2 (V3 m ρ)) (A_eq2 (V3 m ρ)) c w).symm)
    (fun c b hb => stepW_of_ne _ (dat2 (V3 m ρ)) c b fun w e => hb (Finset.mem_image.mpr ⟨w, Finset.mem_univ _, e⟩))

abbrev segs : List (Pipeline.Seg (pcfgs (F := F)) adm (pdats m ρ) () defs₀ 𝒱₀ L lv) :=
  [ .host (hseg cfgs defs₀ hostOps0 hostOps0_sub hostOps0_fresh (W0 m ρ)),
    .region (reg0 m ρ),
    .region (reg1 m ρ),
    .region (reg2 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends; the arguments are as launched, the result is what the third launch's write-backs leave, and every
    counter is zero. -/
theorem run : θ_run defs (onTc (τ := τ) (main (F := F))) ⟨m, fun _ => 0, ρ⟩ (fun r => (∀ c : Dev nD,
      r.2.mem ((c.tc : Thread nD τ).loc main_v5) = (dat2 (V3 m ρ) c).arrAt 5 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_v5 (by decide))).trans (stepW_arr sharedIn2 _ (dat2 (V3 m ρ)) (A_eq2 (V3 m ρ)) c 5),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide)),
     (h.1 c _ (mem_uc main_arg5 (by decide))).trans (W4_args m ρ c main_arg5 (by decide))⟩, h.2⟩)
    (run_of cfgs defs₀ (pdats m ρ) cellOf_inj m ρ main (segs m ρ) (W0 m ρ) (W4 m ρ) (fun _ => rfl) (main_run m ρ)
      (by simp only [segs, Pipeline.Seg.pipes_host, Pipeline.Seg.pipes_region, Pipeline.Seg.pipes_nil]; decide)
      ⟨fun _ => .rfl, fun _ => .rfl, fun _ => .rfl, fun _ => .rfl, last _⟩ no_unscoped)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2, h.2⟩) (run m ρ)

end Cert.FirstFeedForwardIdeal.Joined

end
-- ==== Proof.FirstFeedForward.Stored.lean ====
module

public import proofs.«01_k».proof.Proof.FirstFeedForward.Whole
public import proofs.«01_k».proof.Proof.Blocks

@[expose] public section

/-! What each launch's body leaves in its output buffer: the value it stores there, at the blocks it loads. -/

set_option maxRecDepth 65536

noncomputable section

namespace Cert.FirstFeedForwardIdeal.Joined

open Idealize.ShloMosaic
open Idealize.ShloMosaic.TcCoe Idealize.ShloMosaic.Tactic
open Idealize.SL.Sem
open Cert.FirstFeedForwardIdeal.Gen
open Cert.Blocks (ld_all emb_all read_of)

variable {F : FTy → Type} [FloatOps F]

theorem out0_eq (c : Dev nD) (i : grid0.Coords) (arg1 : Memref sig .tc .vmem S512x4096 .f32) (harg1 : arg1.IsWhole)
    (arg2 : Memref sig .tc .vmem S512x4096 .f32) (harg2 : arg2.IsWhole)
    (arg3 : Memref sig .tc .vmem S1x4096 .f32) (harg3 : arg3.IsWhole)
    (arg4 : Memref sig .tc .vmem S1x1x1x1x4096 .f32) (harg4 : arg4.IsWhole)
    (arg5 : Memref sig .tc .vmem S1x1x1x1x4096 .f32) (harg5 : arg5.IsWhole)
    (arg6 : Memref sig .tc .vmem S512x4096 .bf16) (harg6 : arg6.IsWhole)
    (x0 : Vec F S512x4096 .f32)
    (x1 : Vec F S512x4096 .f32)
    (x2 : Vec F S1x4096 .f32)
    (x3 : Vec F S1x1x1x1x4096 .f32)
    (x4 : Vec F S1x1x1x1x4096 .f32) :
    out0 c i arg1 harg1 arg2 harg2 arg3 harg3 arg4 harg4 arg5 harg5 arg6 harg6 x0 x1 x2 x3 x4 = k0_pay1 i x0 x1 x2 x4 x3 := by
  unfold out0
  refine read_of (cover0 c i arg1 harg1 arg2 harg2 arg3 harg3 arg4 harg4 arg5 harg5 arg6 harg6 x0 x1 x2 x3 x4) (k0_pay1 i x0 x1 x2 x4 x3) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide), ld_all _ _ _ (by decide)]
  exact congrArg (k0_pay1 i x0 x1 x2 x4 x3) (emb_all (S := S512x4096) ![0, 0] _ (by decide) x).symm

theorem out1_eq (c : Dev nD) (i : grid1.Coords) (arg2 : Memref sig .tc .vmem S1024x4096 .bf16) (harg2 : arg2.IsWhole)
    (arg3 : Memref sig .tc .vmem S1x1x4096x512 .f32) (harg3 : arg3.IsWhole)
    (arg4 : Memref sig .tc .vmem S1x1x4096x512 .f32) (harg4 : arg4.IsWhole)
    (arg5 : Memref sig .tc .vmem S1024x512 .bf16) (harg5 : arg5.IsWhole)
    (x0 : Vec F S1024x4096 .bf16)
    (x1 : Vec F S1x1x4096x512 .f32)
    (x2 : Vec F S1x1x4096x512 .f32) :
    out1 c i arg2 harg2 arg3 harg3 arg4 harg4 arg5 harg5 x0 x1 x2 = k1_pay1 x0 x1 x2 := by
  unfold out1
  refine read_of (cover1 c i arg2 harg2 arg3 harg3 arg4 harg4 arg5 harg5 x0 x1 x2) (k1_pay1 x0 x1 x2) fun p hp x => ?_
  obtain rfl := List.mem_singleton.mp hp
  simp only [View.readAt_eq_ld, Memref.IsWhole.read_unread]
  rw [ld_all _ _ _ (by decide), ld_all _ _ _ (by decide), ld_all _ _ _ (by decide)]
  exact congrArg (k1_pay1 x0 x1 x2) (emb_all (S := S1024x512) ![0, 0] _ (by decide) x).symm

theorem out2_eq (c : Dev nD) (i : grid2.Coords) (arg2 : Memref sig .tc .vmem S512x8192 .bf16) (harg2 : arg2.IsWhole)
    (arg3 : Memref sig .tc .vmem S1x1x8192x512 .f32) (harg3 : arg3.IsWhole)
    (arg4 : Memref sig .tc .vmem S1x1x1x1x512 .f32) (harg4 : arg4.IsWhole)
    (arg5 : Memref sig .tc .vmem S512x512 .f32) (harg5 : arg5.IsWhole)
    (arg6 : Memref sig .tc .vmem S512x512 .f32) (harg6 : arg6.IsWhole)
    (arg7 : Memref sig .tc .vmem S512x512 .f32) (harg7 : arg7.IsWhole)
    (x0 : Vec F S512x8192 .bf16)
    (x1 : Vec F S1x1x8192x512 .f32)
    (x2 : Vec F S1x1x1x1x512 .f32)
    (x3 : Vec F S512x512 .f32)
    (x4 : Vec F S512x512 .f32) :
    out2 c i arg2 harg2 arg3 harg3 arg4 harg4 arg5 harg5 arg6 harg6 arg7 harg7 x0 x1 x2 x3 x4 = k2_pay1 i x0 x1 x3 x4 x2 := by
  unfold out2
  refine read_of (cover2 c i arg2 harg2 arg3 harg3 arg4 harg4 arg5 harg5 arg6 harg6 arg7 harg7 x0 x1 x2 x3 x4) (k2_pay1 i x0 x1 x3 x4 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide), ld_all _ _ _ (by decide)]
  exact congrArg (k2_pay1 i x0 x1 x3 x4 x2) (emb_all (S := S512x512) ![0, 0] _ (by decide) x).symm

end Cert.FirstFeedForwardIdeal.Joined

end
-- ==== Proof.Maths.FirstFeedForward.lean ====
module

public import proofs.«01_k».proof.Proof.Maths.FeedForward

@[expose] public section

/-! The formulas of the first feed-forward sub-layer, which works on the rows of two arrays, one after the other: the
    8192 rows of the images and the 1024 rows of their context. The context's rows are modulated as a fifth image. -/

noncomputable section

namespace Cert.Maths

open Idealize.ShloMosaic

/-- Row `i` of the first array, or of the second one after it. -/
def joined (x : Fin 8192 → Fin 4096 → EReal) (z : Fin 1024 → Fin 4096 → EReal) (i : Fin 9216) : Fin 4096 → EReal :=
  if h : i.val < 8192 then x ⟨i.val, h⟩ else z ⟨i.val - 8192, by omega⟩

/-- The image that a row of the two arrays belongs to: 2048 rows each, the context's rows to the fifth. -/
def imageOfRow (i : Fin 9216) : Fin 8 := ⟨i.val / 2048, by omega⟩

/-- The sub-layer's entry `j` of one row `x`, with the modulation of its image. -/
def feedForwardRow (x gain scale shift gate : Fin 4096 → EReal) (A : Fin 4096 → Fin 16384 → EReal)
    (B : Fin 8192 → Fin 4096 → EReal) (j : Fin 4096) : EReal :=
  stepped (x j) (gate j) (∑ k : Fin 8192,
    gated (∑ e, modulated x gain scale shift e * A e (lowCol k)) (∑ e, modulated x gain scale shift e * A e (highCol k)) * B k j)

/-- The sub-layer's entry `(i, j)` on the two arrays `x` and `z`. -/
def firstFeedForward (x : Fin 8192 → Fin 4096 → EReal) (z : Fin 1024 → Fin 4096 → EReal) (gain : Fin 4096 → EReal)
    (scale shift gate : Fin 8 → Fin 4096 → EReal) (A : Fin 4096 → Fin 16384 → EReal) (B : Fin 8192 → Fin 4096 → EReal)
    (i : Fin 9216) (j : Fin 4096) : EReal :=
  feedForwardRow (joined x z i) gain (scale (imageOfRow i)) (shift (imageOfRow i)) (gate (imageOfRow i)) A B j

end Cert.Maths

end
-- ==== Proof.FirstFeedForward.Values.lean ====
module

public import proofs.«01_k».proof.Proof.FirstFeedForward.Stored
public import proofs.«01_k».proof.Proof.FeedForward.Values
public import proofs.«01_k».proof.Proof.Maths.FirstFeedForward

@[expose] public section

/-! What one step of each launch stores, entry by entry: what the feed-forward's launches store, of the block that the
    step chooses. -/

set_option maxRecDepth 65536

noncomputable section

namespace Cert.FirstFeedForwardIdeal.Joined

open Idealize.ShloMosaic hiding ix1 ix2 ix3 ix4 ix5
open Idealize.ShloMosaic.TcCoe Idealize.ShloMosaic.Tactic
open Idealize.SL.Sem
open Cert.FirstFeedForwardIdeal.Gen
open Idealize.ShloMosaic.ValueIdx

/-- The comparison with 16 of a block's number. -/
theorem below : ∀ n : Fin 18, Scalar.cmpi .slt (BitVec.ofNat 32 n.val) 16#32 = if n.val < 16 then 1#1 else 0#1 := by
  decide +kernel

/-- The first 16 blocks are the first array's, the others the second's. -/
theorem chosen {α : Type} (n : Nat) (hn : n < 18) (a b : α) :
    Scalar.select (Scalar.cmpi .slt (BitVec.ofNat 32 n) 16#32) a b = if n < 16 then a else b := by
  rw [below ⟨n, hn⟩]
  by_cases h : n < 16
  · rw [if_pos h, if_pos h]; rfl
  · rw [if_neg h, if_neg h]; rfl

theorem pay0_at (i : grid0.Coords) (x z : Vec Ideal S512x4096 .f32) (g : Vec Ideal S1x4096 .f32)
    (scale shift : Vec Ideal S1x1x1x1x4096 .f32) (r : Fin 512) (j : Fin 4096) :
    k0_pay1 i x z g scale shift (ix2 r j)
      = Maths.modulated (fun e => (if (i 0).val < 16 then x else z) (ix2 r e)) (fun e => g (ix2 0 e))
          (fun e => scale (ix5 0 0 0 0 e)) (fun e => shift (ix5 0 0 0 0 e)) j := by
  refine Eq.trans (b := Cert.FeedForwardIdeal.Gen.k0_pay1
    (Scalar.select (Scalar.cmpi .slt (BitVec.ofNat 32 (i 0).val) 16#32) x z) g scale shift (ix2 r j)) (by sl_kernel_rfl) ?_
  rw [chosen _ (i 0).isLt]
  exact Cert.FeedForwardIdeal.Joined.pay0_at _ g scale shift r j

theorem pay1_at (h : Vec Ideal S1024x4096 .bf16) (wa wb : Vec Ideal S1x1x4096x512 .f32) (r : Fin 1024) (j : Fin 512) :
    k1_pay1 h wa wb (ix2 r j)
      = Maths.gated (∑ e : Fin 4096, (h (ix2 r e) : EReal) * wa (ix4 0 0 e j))
          (∑ e : Fin 4096, (h (ix2 r e) : EReal) * wb (ix4 0 0 e j)) :=
  Eq.trans (b := Cert.FeedForwardIdeal.Gen.k1_pay1 h wa wb (ix2 r j)) (by sl_kernel_rfl)
    (Cert.FeedForwardIdeal.Joined.pay1_at h wa wb r j)

theorem pay2_at (i : grid2.Coords) (h : Vec Ideal S512x8192 .bf16) (w : Vec Ideal S1x1x8192x512 .f32)
    (x z : Vec Ideal S512x512 .f32) (gate : Vec Ideal S1x1x1x1x512 .f32) (r : Fin 512) (j : Fin 512) :
    k2_pay1 i h w x z gate (ix2 r j)
      = Maths.stepped ((if (i 1).val < 16 then x else z) (ix2 r j)) (gate (ix5 0 0 0 0 j))
          (∑ e : Fin 8192, (h (ix2 r e) : EReal) * w (ix4 0 0 e j)) := by
  refine Eq.trans (b := Cert.FeedForwardIdeal.Gen.k2_pay1 h w
    (Scalar.select (Scalar.cmpi .slt (BitVec.ofNat 32 (i 1).val) 16#32) x z) gate (ix2 r j)) (by sl_kernel_rfl) ?_
  rw [chosen _ (i 1).isLt]
  exact Cert.FeedForwardIdeal.Joined.pay2_at h w _ gate r j

end Cert.FirstFeedForwardIdeal.Joined

end
-- ==== Proof.FirstFeedForward.Arrays.lean ====
module

public import proofs.«01_k».proof.Proof.FirstFeedForward.Values
public import proofs.«01_k».proof.Proof.Blocks

@[expose] public section

/-! The array that each launch leaves, entry by entry, from the arrays it finds: the blocks of every step are read at
    their places in the whole arrays. -/

set_option maxRecDepth 65536

noncomputable section

namespace Cert.FirstFeedForwardIdeal.Joined

open Idealize.ShloMosaic hiding ix1 ix2 ix3 ix4 ix5
open Idealize.ShloMosaic.TcCoe Idealize.ShloMosaic.Tactic
open Idealize.SL.Sem
open Cert.FirstFeedForwardIdeal.Gen
open Cert.Blocks (place)
open Idealize.ShloMosaic.ValueIdx

variable (V : (c : Dev nD) → (b : Ref sig .tc) → Buf (Elt Ideal) ((c : Thread nD τ).loc b))

/-! ## The norm: step `t` works on rows `512 t …` -/

def normRow (t : Fin cfg0.N) (r : Fin 512) : Fin 9216 := ⟨512 * t.val + r.val, by have : t.val < 18 := t.isLt; omega⟩

theorem coord0 : ∀ t : Fin grid0.N, (grid0.coords t 0).val = t.val := by decide +kernel
theorem index0_0 : ∀ t : Fin grid0.N, win0_0.index t = ![min t.val 15, 0] := by decide +kernel
theorem index0_1 : ∀ t : Fin grid0.N, win0_1.index t = ![t.val - 16, 0] := by decide +kernel
theorem index0_2 : ∀ t : Fin grid0.N, win0_2.index t = ![0, 0] := by decide +kernel
theorem index0_3 : ∀ t : Fin grid0.N, win0_3.index t = ![0, t.val / 4, 0, 0, 0] := by decide +kernel
theorem index0_4 : ∀ t : Fin grid0.N, win0_4.index t = ![0, t.val / 4, 1, 0, 0] := by decide +kernel
theorem index0_5 : ∀ t : Fin grid0.N, win0_5.index t = ![t.val, 0] := by decide +kernel

/-- The rows of the two arrays, one after the other. -/
def joinedRows (x : S8192x4096.Idx → EReal) (z : S1024x4096.Idx → EReal) : Fin 9216 → Fin 4096 → EReal :=
  Maths.joined (fun a e => x (ix2 a e)) (fun a e => z (ix2 a e))

theorem joinedRows_low (x : S8192x4096.Idx → EReal) (z : S1024x4096.Idx → EReal) (i : Fin 9216) (a : Fin 8192) (e : Fin 4096)
    (h : a.val = i.val) : joinedRows x z i e = x (ix2 a e) := by
  unfold joinedRows Maths.joined
  rw [dif_pos (h ▸ a.isLt)]
  exact congrArg (fun a => x (ix2 a e)) (Fin.ext h.symm)

theorem joinedRows_high (x : S8192x4096.Idx → EReal) (z : S1024x4096.Idx → EReal) (i : Fin 9216) (a : Fin 1024) (e : Fin 4096)
    (h : 8192 + a.val = i.val) : joinedRows x z i e = z (ix2 a e) := by
  unfold joinedRows Maths.joined
  rw [dif_neg (by omega)]
  exact congrArg (fun a => z (ix2 a e)) (Fin.ext (by show i.val - 8192 = a.val; omega))

theorem chosen0_at (c : Dev nD) (t : Fin cfg0.N) (r : Fin 512) (e : Fin 4096) :
    (if (grid0.coords t 0).val < 16 then iblk0 V c 0 t else iblk0 V c 1 t) (ix2 r e)
      = joinedRows (V c main_arg0) (V c main_arg1) (normRow t r) e := by
  have ht : t.val < 18 := t.isLt
  rw [coord0 t]
  by_cases h : t.val < 16
  · rw [if_pos h, joinedRows_low _ _ _ ⟨512 * t.val + r.val, by omega⟩ e rfl]
    unfold iblk0
    refine congrArg (V c main_arg0) (place win0_0 rfl (index0_0 t) fun a => ?_)
    match a with
    | ⟨0, _⟩ => show min t.val 15 * 512 + 1 * r.val = 512 * t.val + r.val; omega
    | ⟨1, _⟩ => show 0 * 4096 + 1 * e.val = e.val; omega
  · rw [if_neg h, joinedRows_high _ _ _ ⟨512 * (t.val - 16) + r.val, by omega⟩ e
      (by show 8192 + (512 * (t.val - 16) + r.val) = 512 * t.val + r.val; omega)]
    unfold iblk0
    refine congrArg (V c main_arg1) (place win0_1 rfl (index0_1 t) fun a => ?_)
    match a with
    | ⟨0, _⟩ => show (t.val - 16) * 512 + 1 * r.val = 512 * (t.val - 16) + r.val; omega
    | ⟨1, _⟩ => show 0 * 4096 + 1 * e.val = e.val; omega

theorem iblk0_2_at (c : Dev nD) (t : Fin cfg0.N) (e : Fin 4096) :
    iblk0 V c 2 t (ix2 0 e) = V c main_v2 (ix2 0 e) := by
  unfold iblk0
  refine congrArg (V c main_v2) (place win0_2 rfl (index0_2 t) fun a => ?_)
  match a with
  | ⟨0, _⟩ => rfl
  | ⟨1, _⟩ => show 0 * 4096 + 1 * e.val = e.val; omega

theorem iblk0_3_at (c : Dev nD) (t : Fin cfg0.N) (r : Fin 512) (e : Fin 4096) :
    iblk0 V c 3 t (ix5 0 0 0 0 e) = V c main_arg2 (ix5 0 (Maths.imageOfRow (normRow t r)) 0 0 e) := by
  unfold iblk0
  have := r.isLt
  refine congrArg (V c main_arg2) (place win0_3 rfl (index0_3 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

theorem iblk0_4_at (c : Dev nD) (t : Fin cfg0.N) (r : Fin 512) (e : Fin 4096) :
    iblk0 V c 4 t (ix5 0 0 0 0 e) = V c main_arg2 (ix5 0 (Maths.imageOfRow (normRow t r)) 1 0 e) := by
  unfold iblk0
  have := r.isLt
  refine congrArg (V c main_arg2) (place win0_4 rfl (index0_4 t) fun a => ?_)
  match a with
  | ⟨0, _⟩ => rfl
  | ⟨1, _⟩ => show t.val / 4 * 1 + 1 * 0 = (512 * t.val + r.val) / 2048; omega
  | ⟨2, _⟩ => rfl
  | ⟨3, _⟩ => rfl
  | ⟨4, _⟩ => show 0 * 4096 + 1 * e.val = e.val; omega

/-- The modulated rows. -/
def normArray (x : S8192x4096.Idx → EReal) (z : S1024x4096.Idx → EReal) (g : S1x4096.Idx → EReal) (M : S2x8x9x1x4096.Idx → EReal)
    (y : S9216x4096.Idx) : EReal :=
  Maths.modulated (joinedRows x z (y 0)) (fun e => g (ix2 0 e)) (fun e => M (ix5 0 (Maths.imageOfRow (y 0)) 1 0 e))
    (fun e => M (ix5 0 (Maths.imageOfRow (y 0)) 0 0 e)) (y 1)

theorem outsAt0_at (c : Dev nD) (t : Fin cfg0.N) (r : Fin 512) (j : Fin 4096) :
    outsAt0 V c t (ix2 r j) = normArray (V c main_arg0) (V c main_arg1) (V c main_v2) (V c main_arg2) (ix2 (normRow t r) j) := by
  unfold outsAt0
  rw [out0_eq, pay0_at]
  show _ = Maths.modulated _ _ _ _ j
  congr 1
  · funext e; exact chosen0_at V c t r e
  · funext e; exact iblk0_2_at V c t e
  · funext e; exact iblk0_4_at V c t r e
  · funext e; exact iblk0_3_at V c t r e

theorem emb0_5 (t : Fin cfg0.N) (y : S512x4096.Idx) : (win0_5.rect t).emb y = ix2 (normRow t (y 0)) (y 1) :=
  place win0_5 rfl (index0_5 t) fun a => by
    match a with
    | ⟨0, _⟩ => show t.val * 512 + 1 * (y 0).val = 512 * t.val + (y 0).val; omega
    | ⟨1, _⟩ => show 0 * 4096 + 1 * (y 1).val = (y 1).val; omega

theorem arr0_5 (c : Dev nD) :
    (dat0 V c).arrAt 5 cfg0.N = normArray (V c main_arg0) (V c main_arg1) (V c main_v2) (V c main_arg2) := by
  refine (dat0 V c).arrAt_eq_of_covers 5 _ (by decide +kernel) fun t hf y => ?_
  rw [after0_5]
  refine Eq.trans (b := outsAt0 V c t y) (by sl_kernel_rfl) (((congrArg (outsAt0 V c t) (ValueIdx.eq_ix2 y)).trans
    (outsAt0_at V c t (y 0) (y 1))).trans ?_)
  exact congrArg (normArray (V c main_arg0) (V c main_arg1) (V c main_v2) (V c main_arg2))
    ((emb0_5 t y).symm.trans (show (win0_5.rect t).emb y = ((cfg0.win 5).blk t).view.emb y from rfl))

/-! ## The hidden layer: step `t` works on rows `1024 (t mod 9) …` and columns `512 (t / 9) …` -/

def inRow (t : Fin cfg1.N) (r : Fin 1024) : Fin 9216 := ⟨1024 * (t.val % 9) + r.val, by omega⟩
def inCol (t : Fin cfg1.N) (j : Fin 512) : Fin 8192 := ⟨512 * (t.val / 9) + j.val, by have : t.val < 144 := t.isLt; omega⟩

theorem index1_0 : ∀ t : Fin grid1.N, win1_0.index t = ![t.val % 9, 0] := by decide +kernel
theorem index1_1 : ∀ t : Fin grid1.N, win1_1.index t = ![0, 0, 0, t.val / 9] := by decide +kernel
theorem index1_2 : ∀ t : Fin grid1.N, win1_2.index t = ![0, 0, 0, t.val / 9 + 16] := by decide +kernel
theorem index1_3 : ∀ t : Fin grid1.N, win1_3.index t = ![t.val % 9, t.val / 9] := by decide +kernel

theorem iblk1_0_at (c : Dev nD) (t : Fin cfg1.N) (r : Fin 1024) (e : Fin 4096) :
    iblk1 V c 0 t (ix2 r e) = V c main_v3 (ix2 (inRow t r) e) := by
  unfold iblk1
  refine congrArg (V c main_v3) (place win1_0 rfl (index1_0 t) fun a => ?_)
  match a with
  | ⟨0, _⟩ => show t.val % 9 * 1024 + 1 * r.val = 1024 * (t.val % 9) + r.val; omega
  | ⟨1, _⟩ => show 0 * 4096 + 1 * e.val = e.val; omega

theorem iblk1_1_at (c : Dev nD) (t : Fin cfg1.N) (e : Fin 4096) (j : Fin 512) :
    iblk1 V c 1 t (ix4 0 0 e j) = V c main_arg4 (ix4 0 0 e (Maths.lowCol (inCol t j))) := by
  unfold iblk1
  refine congrArg (V c main_arg4) (place win1_1 rfl (index1_1 t) fun a => ?_)
  match a with
  | ⟨0, _⟩ => rfl
  | ⟨1, _⟩ => rfl
  | ⟨2, _⟩ => show 0 * 4096 + 1 * e.val = e.val; omega
  | ⟨3, _⟩ => show t.val / 9 * 512 + 1 * j.val = 512 * (t.val / 9) + j.val; omega

theorem iblk1_2_at (c : Dev nD) (t : Fin cfg1.N) (e : Fin 4096) (j : Fin 512) :
    iblk1 V c 2 t (ix4 0 0 e j) = V c main_arg4 (ix4 0 0 e (Maths.highCol (inCol t j))) := by
  unfold iblk1
  refine congrArg (V c main_arg4) (place win1_2 rfl (index1_2 t) fun a => ?_)
  match a with
  | ⟨0, _⟩ => rfl
  | ⟨1, _⟩ => rfl
  | ⟨2, _⟩ => show 0 * 4096 + 1 * e.val = e.val; omega
  | ⟨3, _⟩ => show (t.val / 9 + 16) * 512 + 1 * j.val = 8192 + (512 * (t.val / 9) + j.val); omega

/-- The gated rows. -/
def hiddenArray (h : S9216x4096.Idx → EReal) (A : S2x2x4096x16384.Idx → EReal) (y : S9216x8192.Idx) : EReal :=
  Maths.gated (∑ e : Fin 4096, h (ix2 (y 0) e) * A (ix4 0 0 e (Maths.lowCol (y 1))))
    (∑ e : Fin 4096, h (ix2 (y 0) e) * A (ix4 0 0 e (Maths.highCol (y 1))))

theorem outsAt1_at (c : Dev nD) (t : Fin cfg1.N) (r : Fin 1024) (j : Fin 512) :
    outsAt1 V c t (ix2 r j) = hiddenArray (V c main_v3) (V c main_arg4) (ix2 (inRow t r) (inCol t j)) := by
  unfold outsAt1
  rw [out1_eq, pay1_at]
  show _ = Maths.gated _ _
  congr 1
  · exact Finset.sum_congr rfl fun e _ => congrArg₂ (· * ·) (iblk1_0_at V c t r e) (iblk1_1_at V c t e j)
  · exact Finset.sum_congr rfl fun e _ => congrArg₂ (· * ·) (iblk1_0_at V c t r e) (iblk1_2_at V c t e j)

theorem emb1_3 (t : Fin cfg1.N) (y : S1024x512.Idx) : (win1_3.rect t).emb y = ix2 (inRow t (y 0)) (inCol t (y 1)) :=
  place win1_3 rfl (index1_3 t) fun a => by
    match a with
    | ⟨0, _⟩ => show t.val % 9 * 1024 + 1 * (y 0).val = 1024 * (t.val % 9) + (y 0).val; omega
    | ⟨1, _⟩ => show t.val / 9 * 512 + 1 * (y 1).val = 512 * (t.val / 9) + (y 1).val; omega

theorem arr1_3 (c : Dev nD) : (dat1 V c).arrAt 3 cfg1.N = hiddenArray (V c main_v3) (V c main_arg4) := by
  refine (dat1 V c).arrAt_eq_of_covers 3 _ (by decide +kernel) fun t hf y => ?_
  rw [after1_3]
  refine Eq.trans (b := outsAt1 V c t y) (by sl_kernel_rfl) (((congrArg (outsAt1 V c t) (ValueIdx.eq_ix2 y)).trans
    (outsAt1_at V c t (y 0) (y 1))).trans ?_)
  exact congrArg (hiddenArray (V c main_v3) (V c main_arg4))
    ((emb1_3 t y).symm.trans (show (win1_3.rect t).emb y = ((cfg1.win 3).blk t).view.emb y from rfl))

/-! ## The residual: step `t` works on rows `512 (t mod 18) …` and columns `512 (t / 18) …` -/

def outRow (t : Fin cfg2.N) (r : Fin 512) : Fin 9216 := ⟨512 * (t.val % 18) + r.val, by omega⟩
def outCol (t : Fin cfg2.N) (j : Fin 512) : Fin 4096 := ⟨512 * (t.val / 18) + j.val, by have : t.val < 144 := t.isLt; omega⟩

theorem index2_0 : ∀ t : Fin grid2.N, win2_0.index t = ![t.val % 18, 0] := by decide +kernel
theorem index2_1 : ∀ t : Fin grid2.N, win2_1.index t = ![0, 0, 0, t.val / 18] := by decide +kernel
theorem index2_2 : ∀ t : Fin grid2.N, win2_2.index t = ![0, t.val % 18 / 4, 2, 0, t.val / 18] := by decide +kernel
theorem index2_3 : ∀ t : Fin grid2.N, win2_3.index t = ![min (t.val % 18) 15, t.val / 18] := by decide +kernel
theorem index2_4 : ∀ t : Fin grid2.N, win2_4.index t = ![t.val % 18 - 16, t.val / 18] := by decide +kernel
theorem index2_5 : ∀ t : Fin grid2.N, win2_5.index t = ![t.val % 18, t.val / 18] := by decide +kernel
theorem coord2 : ∀ t : Fin grid2.N, (grid2.coords t 1).val = t.val % 18 := by decide +kernel

theorem iblk2_0_at (c : Dev nD) (t : Fin cfg2.N) (r : Fin 512) (e : Fin 8192) :
    iblk2 V c 0 t (ix2 r e) = V c main_v4 (ix2 (outRow t r) e) := by
  unfold iblk2
  refine congrArg (V c main_v4) (place win2_0 rfl (index2_0 t) fun a => ?_)
  match a with
  | ⟨0, _⟩ => show t.val % 18 * 512 + 1 * r.val = 512 * (t.val % 18) + r.val; omega
  | ⟨1, _⟩ => show 0 * 8192 + 1 * e.val = e.val; omega

theorem iblk2_1_at (c : Dev nD) (t : Fin cfg2.N) (e : Fin 8192) (j : Fin 512) :
    iblk2 V c 1 t (ix4 0 0 e j) = V c main_arg5 (ix4 0 0 e (outCol t j)) := by
  unfold iblk2
  refine congrArg (V c main_arg5) (place win2_1 rfl (index2_1 t) fun a => ?_)
  match a with
  | ⟨0, _⟩ => rfl
  | ⟨1, _⟩ => rfl
  | ⟨2, _⟩ => show 0 * 8192 + 1 * e.val = e.val; omega
  | ⟨3, _⟩ => show t.val / 18 * 512 + 1 * j.val = 512 * (t.val / 18) + j.val; omega

theorem iblk2_2_at (c : Dev nD) (t : Fin cfg2.N) (r : Fin 512) (j : Fin 512) :
    iblk2 V c 2 t (ix5 0 0 0 0 j) = V c main_arg2 (ix5 0 (Maths.imageOfRow (outRow t r)) 2 0 (outCol t j)) := by
  unfold iblk2
  have := r.isLt
  refine congrArg (V c main_arg2) (place win2_2 rfl (index2_2 t) fun a => ?_)
  match a with
  | ⟨0, _⟩ => rfl
  | ⟨1, _⟩ => show t.val % 18 / 4 * 1 + 1 * 0 = (512 * (t.val % 18) + r.val) / 2048; omega
  | ⟨2, _⟩ => rfl
  | ⟨3, _⟩ => rfl
  | ⟨4, _⟩ => show t.val / 18 * 512 + 1 * j.val = 512 * (t.val / 18) + j.val; omega

theorem chosen2_at (c : Dev nD) (t : Fin cfg2.N) (r : Fin 512) (j : Fin 512) :
    (if (grid2.coords t 1).val < 16 then iblk2 V c 3 t else iblk2 V c 4 t) (ix2 r j)
      = joinedRows (V c main_arg0) (V c main_arg1) (outRow t r) (outCol t j) := by
  rw [coord2 t]
  by_cases h : t.val % 18 < 16
  · rw [if_pos h, joinedRows_low _ _ _ ⟨512 * (t.val % 18) + r.val, by omega⟩ _ rfl]
    unfold iblk2
    refine congrArg (V c main_arg0) (place win2_3 rfl (index2_3 t) fun a => ?_)
    match a with
    | ⟨0, _⟩ => show min (t.val % 18) 15 * 512 + 1 * r.val = 512 * (t.val % 18) + r.val; omega
    | ⟨1, _⟩ => show t.val / 18 * 512 + 1 * j.val = 512 * (t.val / 18) + j.val; omega
  · rw [if_neg h, joinedRows_high _ _ _ ⟨512 * (t.val % 18 - 16) + r.val, by omega⟩ _
      (by show 8192 + (512 * (t.val % 18 - 16) + r.val) = 512 * (t.val % 18) + r.val; omega)]
    unfold iblk2
    refine congrArg (V c main_arg1) (place win2_4 rfl (index2_4 t) fun a => ?_)
    match a with
    | ⟨0, _⟩ => show (t.val % 18 - 16) * 512 + 1 * r.val = 512 * (t.val % 18 - 16) + r.val; omega
    | ⟨1, _⟩ => show t.val / 18 * 512 + 1 * j.val = 512 * (t.val / 18) + j.val; omega

/-- The rows with the half step added. -/
def steppedArray (x : S8192x4096.Idx → EReal) (z : S1024x4096.Idx → EReal) (h : S9216x8192.Idx → EReal) (M : S2x8x9x1x4096.Idx → EReal)
    (B : S2x2x8192x4096.Idx → EReal) (y : S9216x4096.Idx) : EReal :=
  Maths.stepped (joinedRows x z (y 0) (y 1)) (M (ix5 0 (Maths.imageOfRow (y 0)) 2 0 (y 1)))
    (∑ e : Fin 8192, h (ix2 (y 0) e) * B (ix4 0 0 e (y 1)))

theorem outsAt2_at (c : Dev nD) (t : Fin cfg2.N) (r : Fin 512) (j : Fin 512) :
    outsAt2 V c t (ix2 r j)
      = steppedArray (V c main_arg0) (V c main_arg1) (V c main_v4) (V c main_arg2) (V c main_arg5) (ix2 (outRow t r) (outCol t j)) := by
  unfold outsAt2
  rw [out2_eq, pay2_at]
  show _ = Maths.stepped _ _ _
  congr 1
  · exact chosen2_at V c t r j
  · exact iblk2_2_at V c t r j
  · exact Finset.sum_congr rfl fun e _ => congrArg₂ (· * ·) (iblk2_0_at V c t r e) (iblk2_1_at V c t e j)

theorem emb2_5 (t : Fin cfg2.N) (y : S512x512.Idx) : (win2_5.rect t).emb y = ix2 (outRow t (y 0)) (outCol t (y 1)) :=
  place win2_5 rfl (index2_5 t) fun a => by
    match a with
    | ⟨0, _⟩ => show t.val % 18 * 512 + 1 * (y 0).val = 512 * (t.val % 18) + (y 0).val; omega
    | ⟨1, _⟩ => show t.val / 18 * 512 + 1 * (y 1).val = 512 * (t.val / 18) + (y 1).val; omega

theorem arr2_5 (c : Dev nD) :
    (dat2 V c).arrAt 5 cfg2.N = steppedArray (V c main_arg0) (V c main_arg1) (V c main_v4) (V c main_arg2) (V c main_arg5) := by
  refine (dat2 V c).arrAt_eq_of_covers 5 _ (by decide +kernel) fun t hf y => ?_
  rw [after2_5]
  refine Eq.trans (b := outsAt2 V c t y) (by sl_kernel_rfl) (((congrArg (outsAt2 V c t) (ValueIdx.eq_ix2 y)).trans
    (outsAt2_at V c t (y 0) (y 1))).trans ?_)
  exact congrArg (steppedArray (V c main_arg0) (V c main_arg1) (V c main_v4) (V c main_arg2) (V c main_arg5))
    ((emb2_5 t y).symm.trans (show (win2_5.rect t).emb y = ((cfg2.win 5).blk t).view.emb y from rfl))

end Cert.FirstFeedForwardIdeal.Joined

end
-- ==== Proof.FirstFeedForward.Result.lean ====
module

public import proofs.«01_k».proof.Proof.FirstFeedForward.Arrays

@[expose] public section

/-! The array that the three launches leave together, from the arguments as launched. -/

set_option maxRecDepth 65536

noncomputable section

namespace Cert.FirstFeedForwardIdeal.Joined

open Idealize.ShloMosaic hiding ix1 ix2 ix3 ix4 ix5
open Idealize.ShloMosaic.TcCoe Idealize.ShloMosaic.Tactic
open Idealize.SL.Sem
open Cert.FirstFeedForwardIdeal.Gen
open Cert.Launches (stepW_arr stepW_of_ne stepW_of)
open Idealize.ShloMosaic.ValueIdx

variable (m : (ℓ : Loc nD τ sig) → Buf (Elt Ideal) ℓ) (ρ : Dev nD → PrngReg)

/-- The gain's row: entry `(0, 0)` of the norms' gains. -/
theorem gain_row (c : Dev nD) (e : Fin 4096) :
    V1 m ρ c main_v2 (ix2 0 e) = m ((c : Thread nD τ).loc main_arg3) (ix3 0 0 e) := by
  have h : V1 m ρ c main_v2
      = shapeCast S1x4096 (shapeCast S4096 (extractStridedSlice S1x1x4096 ![0, 0, 0] (m ((c : Thread nD τ).loc main_arg3))
          slices_S2x3x4096_S1x1x4096_0_0_0) shapeCasts_S1x1x4096_S4096) shapeCasts_S4096_S1x4096 := by
    show StableHlo.after hostOps0 (W0 m ρ c) (Proc.devRef .tc main_v2) = _
    rw [StableHlo.after_cons, StableHlo.after_cons, StableHlo.after_cons, StableHlo.after_nil, StableHlo.reshape_result,
      StableHlo.reshape_result]
    rfl
  rw [h]
  refine (shapeCast_apply _ _ (ix2 0 e) (ix1 e) ?_).trans ((shapeCast_apply _ _ (ix1 e) (ix3 0 0 e) ?_).trans
    (extractStridedSlice_apply _ _ _ _ (ix3 0 0 e) fun a => ?_))
  · rw [Shape.rowMajor_val_one, Shape.rowMajor_val_two]; show e.val = 0 * 4096 + e.val; omega
  · rw [Shape.rowMajor_val_one, Shape.rowMajor_val_three]; show (0 * 1 + 0) * 4096 + e.val = e.val; omega
  · match a with
    | ⟨0, _⟩ => rfl
    | ⟨1, _⟩ => rfl
    | ⟨2, _⟩ => show e.val = 0 + e.val; omega

/-- The result's entry `(i, j)`. -/
theorem result_at (c : Dev nD) (i : Fin 9216) (j : Fin 4096) :
    (dat2 (V3 m ρ) c).arrAt 5 cfg2.N (ix2 i j)
      = Maths.firstFeedForward (fun a e => m ((c : Thread nD τ).loc main_arg0) (ix2 a e))
          (fun a e => m ((c : Thread nD τ).loc main_arg1) (ix2 a e))
          (fun e => m ((c : Thread nD τ).loc main_arg3) (ix3 0 0 e))
          (fun b e => m ((c : Thread nD τ).loc main_arg2) (ix5 0 b 1 0 e))
          (fun b e => m ((c : Thread nD τ).loc main_arg2) (ix5 0 b 0 0 e))
          (fun b e => m ((c : Thread nD τ).loc main_arg2) (ix5 0 b 2 0 e))
          (fun e k => m ((c : Thread nD τ).loc main_arg4) (ix4 0 0 e k))
          (fun k e => m ((c : Thread nD τ).loc main_arg5) (ix4 0 0 k e)) i j := by
  have n0 : V1 m ρ c main_arg0 = m ((c : Thread nD τ).loc main_arg0) := W1_args m ρ c _ (by decide)
  have n1 : V1 m ρ c main_arg1 = m ((c : Thread nD τ).loc main_arg1) := W1_args m ρ c _ (by decide)
  have n2 : V1 m ρ c main_arg2 = m ((c : Thread nD τ).loc main_arg2) := W1_args m ρ c _ (by decide)
  have h4 : V2 m ρ c main_arg4 = m ((c : Thread nD τ).loc main_arg4) := W2_args m ρ c _ (by decide)
  have o0 : V3 m ρ c main_arg0 = m ((c : Thread nD τ).loc main_arg0) := W3_args m ρ c _ (by decide)
  have o1 : V3 m ρ c main_arg1 = m ((c : Thread nD τ).loc main_arg1) := W3_args m ρ c _ (by decide)
  have o2 : V3 m ρ c main_arg2 = m ((c : Thread nD τ).loc main_arg2) := W3_args m ρ c _ (by decide)
  have o5 : V3 m ρ c main_arg5 = m ((c : Thread nD τ).loc main_arg5) := W3_args m ρ c _ (by decide)
  have v3 : V2 m ρ c main_v3 = normArray (V1 m ρ c main_arg0) (V1 m ρ c main_arg1) (V1 m ρ c main_v2) (V1 m ρ c main_arg2) :=
    (stepW_arr sharedIn0 _ (dat0 (V1 m ρ)) (A_eq0 (V1 m ρ)) c 5).trans (arr0_5 (V1 m ρ) c)
  have v4 : V3 m ρ c main_v4 = hiddenArray (V2 m ρ c main_v3) (V2 m ρ c main_arg4) :=
    (stepW_arr sharedIn1 _ (dat1 (V2 m ρ)) (A_eq1 (V2 m ρ)) c 3).trans (arr1_3 (V2 m ρ) c)
  rw [arr2_5, v4, v3, n0, n1, n2, h4, o0, o1, o2, o5]
  have hn : ∀ a e, normArray (m ((c : Thread nD τ).loc main_arg0)) (m ((c : Thread nD τ).loc main_arg1)) (V1 m ρ c main_v2)
        (m ((c : Thread nD τ).loc main_arg2)) (ix2 a e)
      = Maths.modulated (joinedRows (m ((c : Thread nD τ).loc main_arg0)) (m ((c : Thread nD τ).loc main_arg1)) a)
          (fun e => m ((c : Thread nD τ).loc main_arg3) (ix3 0 0 e))
          (fun e => m ((c : Thread nD τ).loc main_arg2) (ix5 0 (Maths.imageOfRow a) 1 0 e))
          (fun e => m ((c : Thread nD τ).loc main_arg2) (ix5 0 (Maths.imageOfRow a) 0 0 e)) e := fun a e => by
    show Maths.modulated _ _ _ _ e = _
    congr 1
    funext e
    exact gain_row m ρ c e
  show Maths.stepped _ _ _ = _
  unfold Maths.firstFeedForward Maths.feedForwardRow
  congr 1
  refine Finset.sum_congr rfl fun k _ => congrArg (· * _) ?_
  show Maths.gated _ _ = _
  congr 1 <;> exact Finset.sum_congr rfl fun e _ => congrArg (· * _) (hn i e)

end Cert.FirstFeedForwardIdeal.Joined

end
-- ==== Proof.FirstFeedForward.ReferenceImages.lean ====
module

public import proofs.«01_k».proof.Proof.Maths.FirstFeedForward
public import proofs.«01_k».proof.Proof.Gen.FirstFeedForwardReferenceIdeal.Read
public import Idealize.ShloMosaic.Lib.Pointwise

@[expose] public section

/-! The images' half of the first feed-forward reference, entry by entry, and the weights that both halves read. -/

set_option maxRecDepth 65536

noncomputable section

namespace Cert.FirstFeedForwardReferenceIdeal.Reading

open Idealize.ShloMosaic hiding ix1 ix2 ix3 ix4 ix5
open Idealize.ShloMosaic.TcCoe
open Cert.FirstFeedForwardReferenceIdeal Cert.FirstFeedForwardReferenceIdeal.Gen Cert.FirstFeedForwardReferenceIdeal.Read
open Idealize.ShloMosaic.ValueIdx

abbrev Rows := (⟨S8192x4096, .f32⟩ : BufTy).Contents (Elt Ideal)
abbrev Mods := (⟨S2x8x9x1x4096, .f32⟩ : BufTy).Contents (Elt Ideal)
abbrev Gains := (⟨S2x3x4096, .f32⟩ : BufTy).Contents (Elt Ideal)
abbrev InWeights := (⟨S2x2x4096x16384, .f32⟩ : BufTy).Contents (Elt Ideal)
abbrev OutWeights := (⟨S2x2x8192x4096, .f32⟩ : BufTy).Contents (Elt Ideal)

theorem gainRow_at (x3 : Gains) (e : Fin 4096) : val_main_v1 (F := Ideal) x3 (ix1 e) = x3 (ix3 0 0 e) := by
  rw [val_main_v1_apply, val_main_v0_apply]
  refine congrArg x3 (funext fun z => Fin.ext ?_)
  match z with
  | ⟨0, _⟩ => rfl
  | ⟨1, _⟩ => rfl
  | ⟨2, _⟩ => show e.val % 4096 = e.val; omega

theorem inWeights_at (x4 : InWeights) (e : Fin 4096) (k : Fin 16384) :
    val_main_v3 (F := Ideal) x4 (ix2 e k) = x4 (ix4 0 0 e k) := by
  rw [val_main_v3_apply, val_main_v2_apply]
  refine congrArg x4 (funext fun z => Fin.ext ?_)
  match z with
  | ⟨0, _⟩ => rfl
  | ⟨1, _⟩ => rfl
  | ⟨2, _⟩ => show (e.val * 16384 + k.val) / 16384 % 4096 = e.val; omega
  | ⟨3, _⟩ => show (e.val * 16384 + k.val) % 16384 = k.val; omega

theorem outWeights_at (x5 : OutWeights) (k : Fin 8192) (e : Fin 4096) :
    val_main_v5 (F := Ideal) x5 (ix2 k e) = x5 (ix4 0 0 k e) := by
  rw [val_main_v5_apply, val_main_v4_apply]
  refine congrArg x5 (funext fun z => Fin.ext ?_)
  match z with
  | ⟨0, _⟩ => rfl
  | ⟨1, _⟩ => rfl
  | ⟨2, _⟩ => show (k.val * 4096 + e.val) / 4096 % 8192 = k.val; omega
  | ⟨3, _⟩ => show (k.val * 4096 + e.val) % 4096 = e.val; omega

namespace Images

/-- Row `s` of image `b`. -/
def row (b : Fin 4) (s : Fin 2048) : Fin 8192 := ⟨2048 * b.val + s.val, by omega⟩
/-- Image `b` among the modulation's. -/
def image (b : Fin 4) : Fin 8 := ⟨b.val, by omega⟩

theorem rows_at (x0 : Rows) (b : Fin 4) (s : Fin 2048) (e : Fin 4096) :
    val_main_v6 (F := Ideal) x0 (ix3 b s e) = x0 (ix2 (row b s) e) := by
  rw [val_main_v6_apply]
  refine congrArg x0 (funext fun z => Fin.ext ?_)
  match z with
  | ⟨0, _⟩ => show ((b.val * 2048 + s.val) * 4096 + e.val) / 4096 = 2048 * b.val + s.val; omega
  | ⟨1, _⟩ => show ((b.val * 2048 + s.val) * 4096 + e.val) % 4096 = e.val; omega

theorem mods_at (x2 : Mods) (b : Fin 4) (k : Fin 9) (e : Fin 4096) :
    val_main_v8 (F := Ideal) x2 (ix4 b k 0 e) = x2 (ix5 0 (image b) k 0 e) := by
  rw [val_main_v8_apply, val_main_v7_apply]
  refine congrArg x2 (funext fun z => Fin.ext ?_)
  match z with
  | ⟨0, _⟩ => rfl
  | ⟨1, _⟩ => show (((b.val * 9 + k.val) * 1 + 0) * 4096 + e.val) / 36864 % 4 = b.val; omega
  | ⟨2, _⟩ => show (((b.val * 9 + k.val) * 1 + 0) * 4096 + e.val) / 4096 % 9 = k.val; omega
  | ⟨3, _⟩ => rfl
  | ⟨4, _⟩ => show (((b.val * 9 + k.val) * 1 + 0) * 4096 + e.val) % 4096 = e.val; omega

theorem gain_at (x3 : Gains) (b : Fin 4) (s : Fin 2048) (e : Fin 4096) :
    val_main_v20 (F := Ideal) x3 (ix3 b s e) = x3 (ix3 0 0 e) := by
  rw [val_main_v20_apply, val_main_v19_apply]
  exact Eq.trans (congrArg _ (funext fun z => Fin.ext (by fin_cases z; rfl))) (gainRow_at x3 e)

/-- A modulation of every image, read at a row of the image. -/
theorem shift_at (x2 : Mods) (b : Fin 4) (s : Fin 2048) (e : Fin 4096) :
    val_main_v30 (F := Ideal) x2 (ix3 b s e) = x2 (ix5 0 (image b) 0 0 e) := by
  rw [val_main_v30_apply, val_main_v29_apply, val_main_v28_apply]
  refine Eq.trans (congrArg _ (funext fun z => Fin.ext ?_)) (mods_at x2 b 0 e)
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem scale_at (x2 : Mods) (b : Fin 4) (s : Fin 2048) (e : Fin 4096) :
    val_main_v26 (F := Ideal) x2 (ix3 b s e) = Ideal.ofBits .f32 0x3F800000#32 + x2 (ix5 0 (image b) 1 0 e) := by
  rw [val_main_v26_apply, val_main_v25_apply, val_main_v24_apply, val_main_cst_2_apply, val_main_v23_apply, val_main_v22_apply]
  refine congrArg (Ideal.ofBits .f32 0x3F800000#32 + ·) (Eq.trans (congrArg _ (funext fun z => Fin.ext ?_)) (mods_at x2 b 1 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem gate_at (x2 : Mods) (b : Fin 4) (s : Fin 2048) (e : Fin 4096) :
    val_main_v42 (F := Ideal) x2 (ix3 b s e) = Ideal.ofBits .f32 0x3F000000#32 * x2 (ix5 0 (image b) 2 0 e) := by
  rw [val_main_v42_apply, val_main_v38_apply, val_main_v37_apply, val_main_cst_3_apply, val_main_v36_apply, val_main_v35_apply]
  refine congrArg (Ideal.ofBits .f32 0x3F000000#32 * ·) (Eq.trans (congrArg _ (funext fun z => Fin.ext ?_)) (mods_at x2 b 2 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

/-- The sum of a row's squares. -/
theorem squares_at (x0 : Rows) (b : Fin 4) (s : Fin 2048) :
    val_main_v10 (F := Ideal) x0 (ix2 b s) = ∑ e : Fin 4096, (x0 (ix2 (row b s) e) : EReal) * x0 (ix2 (row b s) e) := by
  rw [val_main_v10_apply, val_main_cst_apply]
  refine (congrArg (· + _) Ideal.ofBits_zero_f32).trans ((zero_add _).trans (Finset.sum_congr rfl fun e _ => ?_))
  have h : val_main_v6 (F := Ideal) x0 (idx_main_v10 (ix2 b s) e) = x0 (ix2 (row b s) e) := by
    refine Eq.trans (congrArg _ (funext fun z => Fin.ext ?_)) (rows_at x0 b s e)
    fin_cases z <;> rfl
  rw [val_main_v9_apply, h]; rfl

theorem root_at (x0 : Rows) (b : Fin 4) (s : Fin 2048) (e : Fin 4096) :
    val_main_v17 (F := Ideal) x0 (ix3 b s e)
      = Ideal.rsqrt (Ideal.div (∑ e : Fin 4096, (x0 (ix2 (row b s) e) : EReal) * x0 (ix2 (row b s) e))
          (Ideal.ofBits .f32 0x45800000#32) + Ideal.ofBits .f32 0x358637BD#32) := by
  rw [val_main_v17_apply, val_main_v16_apply, val_main_v15_apply, val_main_v14_apply, val_main_cst_1_apply, val_main_v13_apply,
    val_main_v12_apply, val_main_cst_0_apply, val_main_v11_apply]
  refine congrArg (fun q => Ideal.rsqrt (Ideal.div q (Ideal.ofBits .f32 0x45800000#32) + Ideal.ofBits .f32 0x358637BD#32))
    (Eq.trans (congrArg _ (funext fun z => Fin.ext ?_)) (squares_at x0 b s))
  fin_cases z <;> rfl

/-- A row modulated. -/
def modRow (x0 : Rows) (x2 : Mods) (x3 : Gains) (b : Fin 4) (s : Fin 2048) (e : Fin 4096) : EReal :=
  Maths.modulated (fun e => x0 (ix2 (row b s) e)) (fun e => x3 (ix3 0 0 e)) (fun e => x2 (ix5 0 (image b) 1 0 e))
    (fun e => x2 (ix5 0 (image b) 0 0 e)) e

theorem modulated_at (x0 : Rows) (x2 : Mods) (x3 : Gains) (b : Fin 4) (s : Fin 2048) (e : Fin 4096) :
    val_main_v31 (F := Ideal) x0 x2 x3 (ix3 b s e) = modRow x0 x2 x3 b s e := by
  rw [val_main_v31_apply, val_main_v27_apply, val_main_v21_apply, val_main_v18_apply, rows_at, root_at, gain_at, scale_at, shift_at]
  rfl

theorem product_at (x0 : Rows) (x2 : Mods) (x3 : Gains) (x4 : InWeights) (b : Fin 4) (s : Fin 2048) (k : Fin 16384) :
    val_main_v32 (F := Ideal) x0 x2 x3 x4 (ix3 b s k) = ∑ e : Fin 4096, modRow x0 x2 x3 b s e * x4 (ix4 0 0 e k) := by
  rw [val_main_v32_apply]
  refine Finset.sum_congr rfl fun e _ => congrArg₂ (· * ·)
    (Eq.trans (congrArg _ (funext fun z => Fin.ext ?_)) (modulated_at x0 x2 x3 b s e))
    (Eq.trans (congrArg _ (funext fun z => Fin.ext ?_)) (inWeights_at x4 e k))
  all_goals fin_cases z <;> rfl

theorem low_at (x0 : Rows) (x2 : Mods) (x3 : Gains) (x4 : InWeights) (b : Fin 4) (s : Fin 2048) (k : Fin 8192) :
    val_main_v33 (F := Ideal) x0 x2 x3 x4 (ix3 b s k)
      = ∑ e : Fin 4096, modRow x0 x2 x3 b s e * x4 (ix4 0 0 e (Maths.lowCol k)) := by
  rw [val_main_v33_apply]
  refine Eq.trans (congrArg _ (funext fun z => Fin.ext ?_)) (product_at x0 x2 x3 x4 b s (Maths.lowCol k))
  fin_cases z <;> rfl

theorem high_at (x0 : Rows) (x2 : Mods) (x3 : Gains) (x4 : InWeights) (b : Fin 4) (s : Fin 2048) (k : Fin 8192) :
    val_main_v34 (F := Ideal) x0 x2 x3 x4 (ix3 b s k)
      = ∑ e : Fin 4096, modRow x0 x2 x3 b s e * x4 (ix4 0 0 e (Maths.highCol k)) := by
  rw [val_main_v34_apply]
  refine Eq.trans (congrArg _ (funext fun z => Fin.ext ?_)) (product_at x0 x2 x3 x4 b s (Maths.highCol k))
  fin_cases z <;> rfl

theorem hidden_at (x0 : Rows) (x2 : Mods) (x3 : Gains) (x4 : InWeights) (b : Fin 4) (s : Fin 2048) (k : Fin 8192) :
    val_main_v40 (F := Ideal) x0 x2 x3 x4 (ix3 b s k)
      = Maths.gated (∑ e : Fin 4096, modRow x0 x2 x3 b s e * x4 (ix4 0 0 e (Maths.lowCol k)))
          (∑ e : Fin 4096, modRow x0 x2 x3 b s e * x4 (ix4 0 0 e (Maths.highCol k))) := by
  rw [val_main_v40_apply, val_main_v39_apply, val_main_call0_v5_apply, val_main_call0_v4_apply, val_main_call0_cst_0_apply,
    val_main_call0_v3_apply, val_main_call0_v2_apply, val_main_call0_cst_apply, val_main_call0_v1_apply, val_main_call0_v0_apply,
    low_at, high_at]
  rfl

theorem share_at (x0 : Rows) (x2 : Mods) (x3 : Gains) (x4 : InWeights) (x5 : OutWeights) (b : Fin 4) (s : Fin 2048) (j : Fin 4096) :
    val_main_v41 (F := Ideal) x0 x2 x3 x4 x5 (ix3 b s j)
      = ∑ k : Fin 8192, Maths.gated (∑ e : Fin 4096, modRow x0 x2 x3 b s e * x4 (ix4 0 0 e (Maths.lowCol k)))
          (∑ e : Fin 4096, modRow x0 x2 x3 b s e * x4 (ix4 0 0 e (Maths.highCol k))) * x5 (ix4 0 0 k j) := by
  rw [val_main_v41_apply]
  refine Finset.sum_congr rfl fun k _ => congrArg₂ (· * ·)
    (Eq.trans (congrArg _ (funext fun z => Fin.ext ?_)) (hidden_at x0 x2 x3 x4 b s k))
    (Eq.trans (congrArg _ (funext fun z => Fin.ext ?_)) (outWeights_at x5 k j))
  all_goals fin_cases z <;> rfl

/-- The half's result, at row `s` of image `b`. -/
theorem result_at (x0 : Rows) (x2 : Mods) (x3 : Gains) (x4 : InWeights) (x5 : OutWeights) (b : Fin 4) (s : Fin 2048) (j : Fin 4096) :
    val_main_v44 (F := Ideal) x0 x2 x3 x4 x5 (ix3 b s j)
      = Maths.feedForwardRow (fun e => x0 (ix2 (row b s) e)) (fun e => x3 (ix3 0 0 e)) (fun e => x2 (ix5 0 (image b) 1 0 e))
          (fun e => x2 (ix5 0 (image b) 0 0 e)) (fun e => x2 (ix5 0 (image b) 2 0 e)) (fun e k => x4 (ix4 0 0 e k))
          (fun k e => x5 (ix4 0 0 k e)) j := by
  rw [val_main_v44_apply, val_main_v43_apply, rows_at, gate_at, share_at]
  rfl

end Images

end Cert.FirstFeedForwardReferenceIdeal.Reading

end
-- ==== Proof.FirstFeedForward.ReferenceContext.lean ====
module

public import proofs.«01_k».proof.Proof.FirstFeedForward.ReferenceImages
public import proofs.«01_k».proof.Proof.Gen.FirstFeedForwardReferenceIdeal.Read
public import Idealize.ShloMosaic.Lib.Pointwise

@[expose] public section

/-! The context's half of the first feed-forward reference, entry by entry. -/

set_option maxRecDepth 65536

noncomputable section

namespace Cert.FirstFeedForwardReferenceIdeal.Reading

open Idealize.ShloMosaic hiding ix1 ix2 ix3 ix4 ix5
open Idealize.ShloMosaic.TcCoe
open Cert.FirstFeedForwardReferenceIdeal Cert.FirstFeedForwardReferenceIdeal.Gen Cert.FirstFeedForwardReferenceIdeal.Read
open Idealize.ShloMosaic.ValueIdx

abbrev ContextRows := (⟨S1024x4096, .f32⟩ : BufTy).Contents (Elt Ideal)

namespace Context

/-- Row `s` of image `b`'s context. -/
def row (b : Fin 4) (s : Fin 256) : Fin 1024 := ⟨256 * b.val + s.val, by omega⟩

theorem rows_at (x1 : ContextRows) (b : Fin 4) (s : Fin 256) (e : Fin 4096) :
    val_main_v45 (F := Ideal) x1 (ix3 b s e) = x1 (ix2 (row b s) e) := by
  rw [val_main_v45_apply]
  refine congrArg x1 (funext fun z => Fin.ext ?_)
  match z with
  | ⟨0, _⟩ => show ((b.val * 256 + s.val) * 4096 + e.val) / 4096 = 256 * b.val + s.val; omega
  | ⟨1, _⟩ => show ((b.val * 256 + s.val) * 4096 + e.val) % 4096 = e.val; omega

theorem mods_at (x2 : Mods) (k : Fin 9) (e : Fin 4096) :
    val_main_v47 (F := Ideal) x2 (ix4 0 k 0 e) = x2 (ix5 0 4 k 0 e) := by
  rw [val_main_v47_apply, val_main_v46_apply]
  refine congrArg x2 (funext fun z => Fin.ext ?_)
  match z with
  | ⟨0, _⟩ => rfl
  | ⟨1, _⟩ => rfl
  | ⟨2, _⟩ => show (((0 * 9 + k.val) * 1 + 0) * 4096 + e.val) / 4096 % 9 = k.val; omega
  | ⟨3, _⟩ => rfl
  | ⟨4, _⟩ => show (((0 * 9 + k.val) * 1 + 0) * 4096 + e.val) % 4096 = e.val; omega

theorem gain_at (x3 : Gains) (b : Fin 4) (s : Fin 256) (e : Fin 4096) :
    val_main_v59 (F := Ideal) x3 (ix3 b s e) = x3 (ix3 0 0 e) := by
  rw [val_main_v59_apply, val_main_v58_apply]
  exact Eq.trans (congrArg _ (funext fun z => Fin.ext (by fin_cases z; rfl))) (gainRow_at x3 e)

theorem shift_at (x2 : Mods) (b : Fin 4) (s : Fin 256) (e : Fin 4096) :
    val_main_v69 (F := Ideal) x2 (ix3 b s e) = x2 (ix5 0 4 0 0 e) := by
  rw [val_main_v69_apply, val_main_v68_apply, val_main_v67_apply]
  refine Eq.trans (congrArg _ (funext fun z => Fin.ext ?_)) (mods_at x2 0 e)
  match z with
  | ⟨0, _⟩ => rfl
  | ⟨1, _⟩ => rfl
  | ⟨2, _⟩ => rfl
  | ⟨3, _⟩ => show ((0 * 1 + 0) * 4096 + e.val) % 4096 = e.val; omega

theorem scale_at (x2 : Mods) (b : Fin 4) (s : Fin 256) (e : Fin 4096) :
    val_main_v65 (F := Ideal) x2 (ix3 b s e) = Ideal.ofBits .f32 0x3F800000#32 + x2 (ix5 0 4 1 0 e) := by
  rw [val_main_v65_apply, val_main_v64_apply, val_main_v63_apply, val_main_cst_7_apply, val_main_v62_apply, val_main_v61_apply]
  refine congrArg (Ideal.ofBits .f32 0x3F800000#32 + ·) (Eq.trans (congrArg _ (funext fun z => Fin.ext ?_)) (mods_at x2 1 e))
  match z with
  | ⟨0, _⟩ => rfl
  | ⟨1, _⟩ => rfl
  | ⟨2, _⟩ => rfl
  | ⟨3, _⟩ => show ((0 * 1 + 0) * 4096 + e.val) % 4096 = e.val; omega

theorem gate_at (x2 : Mods) (b : Fin 4) (s : Fin 256) (e : Fin 4096) :
    val_main_v81 (F := Ideal) x2 (ix3 b s e) = Ideal.ofBits .f32 0x3F000000#32 * x2 (ix5 0 4 2 0 e) := by
  rw [val_main_v81_apply, val_main_v77_apply, val_main_v76_apply, val_main_cst_8_apply, val_main_v75_apply, val_main_v74_apply]
  refine congrArg (Ideal.ofBits .f32 0x3F000000#32 * ·) (Eq.trans (congrArg _ (funext fun z => Fin.ext ?_)) (mods_at x2 2 e))
  match z with
  | ⟨0, _⟩ => rfl
  | ⟨1, _⟩ => rfl
  | ⟨2, _⟩ => rfl
  | ⟨3, _⟩ => show ((0 * 1 + 0) * 4096 + e.val) % 4096 = e.val; omega

/-- The sum of a row's squares. -/
theorem squares_at (x1 : ContextRows) (b : Fin 4) (s : Fin 256) :
    val_main_v49 (F := Ideal) x1 (ix2 b s) = ∑ e : Fin 4096, (x1 (ix2 (row b s) e) : EReal) * x1 (ix2 (row b s) e) := by
  rw [val_main_v49_apply, val_main_cst_4_apply]
  refine (congrArg (· + _) Ideal.ofBits_zero_f32).trans ((zero_add _).trans (Finset.sum_congr rfl fun e _ => ?_))
  have h : val_main_v45 (F := Ideal) x1 (idx_main_v49 (ix2 b s) e) = x1 (ix2 (row b s) e) := by
    refine Eq.trans (congrArg _ (funext fun z => Fin.ext ?_)) (rows_at x1 b s e)
    fin_cases z <;> rfl
  rw [val_main_v48_apply, h]; rfl

theorem root_at (x1 : ContextRows) (b : Fin 4) (s : Fin 256) (e : Fin 4096) :
    val_main_v56 (F := Ideal) x1 (ix3 b s e)
      = Ideal.rsqrt (Ideal.div (∑ e : Fin 4096, (x1 (ix2 (row b s) e) : EReal) * x1 (ix2 (row b s) e))
          (Ideal.ofBits .f32 0x45800000#32) + Ideal.ofBits .f32 0x358637BD#32) := by
  rw [val_main_v56_apply, val_main_v55_apply, val_main_v54_apply, val_main_v53_apply, val_main_cst_6_apply, val_main_v52_apply,
    val_main_v51_apply, val_main_cst_5_apply, val_main_v50_apply]
  refine congrArg (fun q => Ideal.rsqrt (Ideal.div q (Ideal.ofBits .f32 0x45800000#32) + Ideal.ofBits .f32 0x358637BD#32))
    (Eq.trans (congrArg _ (funext fun z => Fin.ext ?_)) (squares_at x1 b s))
  fin_cases z <;> rfl

/-- A row modulated. -/
def modRow (x1 : ContextRows) (x2 : Mods) (x3 : Gains) (b : Fin 4) (s : Fin 256) (e : Fin 4096) : EReal :=
  Maths.modulated (fun e => x1 (ix2 (row b s) e)) (fun e => x3 (ix3 0 0 e)) (fun e => x2 (ix5 0 4 1 0 e))
    (fun e => x2 (ix5 0 4 0 0 e)) e

theorem modulated_at (x1 : ContextRows) (x2 : Mods) (x3 : Gains) (b : Fin 4) (s : Fin 256) (e : Fin 4096) :
    val_main_v70 (F := Ideal) x1 x2 x3 (ix3 b s e) = modRow x1 x2 x3 b s e := by
  rw [val_main_v70_apply, val_main_v66_apply, val_main_v60_apply, val_main_v57_apply, rows_at, root_at, gain_at, scale_at, shift_at]
  rfl

theorem product_at (x1 : ContextRows) (x2 : Mods) (x3 : Gains) (x4 : InWeights) (b : Fin 4) (s : Fin 256) (k : Fin 16384) :
    val_main_v71 (F := Ideal) x1 x2 x3 x4 (ix3 b s k) = ∑ e : Fin 4096, modRow x1 x2 x3 b s e * x4 (ix4 0 0 e k) := by
  rw [val_main_v71_apply]
  refine Finset.sum_congr rfl fun e _ => congrArg₂ (· * ·)
    (Eq.trans (congrArg _ (funext fun z => Fin.ext ?_)) (modulated_at x1 x2 x3 b s e))
    (Eq.trans (congrArg _ (funext fun z => Fin.ext ?_)) (inWeights_at x4 e k))
  all_goals fin_cases z <;> rfl

theorem low_at (x1 : ContextRows) (x2 : Mods) (x3 : Gains) (x4 : InWeights) (b : Fin 4) (s : Fin 256) (k : Fin 8192) :
    val_main_v72 (F := Ideal) x1 x2 x3 x4 (ix3 b s k)
      = ∑ e : Fin 4096, modRow x1 x2 x3 b s e * x4 (ix4 0 0 e (Maths.lowCol k)) := by
  rw [val_main_v72_apply]
  refine Eq.trans (congrArg _ (funext fun z => Fin.ext ?_)) (product_at x1 x2 x3 x4 b s (Maths.lowCol k))
  fin_cases z <;> rfl

theorem high_at (x1 : ContextRows) (x2 : Mods) (x3 : Gains) (x4 : InWeights) (b : Fin 4) (s : Fin 256) (k : Fin 8192) :
    val_main_v73 (F := Ideal) x1 x2 x3 x4 (ix3 b s k)
      = ∑ e : Fin 4096, modRow x1 x2 x3 b s e * x4 (ix4 0 0 e (Maths.highCol k)) := by
  rw [val_main_v73_apply]
  refine Eq.trans (congrArg _ (funext fun z => Fin.ext ?_)) (product_at x1 x2 x3 x4 b s (Maths.highCol k))
  fin_cases z <;> rfl

theorem hidden_at (x1 : ContextRows) (x2 : Mods) (x3 : Gains) (x4 : InWeights) (b : Fin 4) (s : Fin 256) (k : Fin 8192) :
    val_main_v79 (F := Ideal) x1 x2 x3 x4 (ix3 b s k)
      = Maths.gated (∑ e : Fin 4096, modRow x1 x2 x3 b s e * x4 (ix4 0 0 e (Maths.lowCol k)))
          (∑ e : Fin 4096, modRow x1 x2 x3 b s e * x4 (ix4 0 0 e (Maths.highCol k))) := by
  rw [val_main_v79_apply, val_main_v78_apply, val_main_call1_v5_apply, val_main_call1_v4_apply, val_main_call1_cst_0_apply,
    val_main_call1_v3_apply, val_main_call1_v2_apply, val_main_call1_cst_apply, val_main_call1_v1_apply, val_main_call1_v0_apply,
    low_at, high_at]
  rfl

theorem share_at (x1 : ContextRows) (x2 : Mods) (x3 : Gains) (x4 : InWeights) (x5 : OutWeights) (b : Fin 4) (s : Fin 256) (j : Fin 4096) :
    val_main_v80 (F := Ideal) x1 x2 x3 x4 x5 (ix3 b s j)
      = ∑ k : Fin 8192, Maths.gated (∑ e : Fin 4096, modRow x1 x2 x3 b s e * x4 (ix4 0 0 e (Maths.lowCol k)))
          (∑ e : Fin 4096, modRow x1 x2 x3 b s e * x4 (ix4 0 0 e (Maths.highCol k))) * x5 (ix4 0 0 k j) := by
  rw [val_main_v80_apply]
  refine Finset.sum_congr rfl fun k _ => congrArg₂ (· * ·)
    (Eq.trans (congrArg _ (funext fun z => Fin.ext ?_)) (hidden_at x1 x2 x3 x4 b s k))
    (Eq.trans (congrArg _ (funext fun z => Fin.ext ?_)) (outWeights_at x5 k j))
  all_goals fin_cases z <;> rfl

/-- The half's result, at row `s` of image `b`'s context. -/
theorem result_at (x1 : ContextRows) (x2 : Mods) (x3 : Gains) (x4 : InWeights) (x5 : OutWeights) (b : Fin 4) (s : Fin 256) (j : Fin 4096) :
    val_main_v83 (F := Ideal) x1 x2 x3 x4 x5 (ix3 b s j)
      = Maths.feedForwardRow (fun e => x1 (ix2 (row b s) e)) (fun e => x3 (ix3 0 0 e)) (fun e => x2 (ix5 0 4 1 0 e))
          (fun e => x2 (ix5 0 4 0 0 e)) (fun e => x2 (ix5 0 4 2 0 e)) (fun e k => x4 (ix4 0 0 e k))
          (fun k e => x5 (ix4 0 0 k e)) j := by
  rw [val_main_v83_apply, val_main_v82_apply, rows_at, gate_at, share_at]
  rfl

end Context

end Cert.FirstFeedForwardReferenceIdeal.Reading

end
-- ==== Proof.FirstFeedForward.Reference.lean ====
module

public import proofs.«01_k».proof.Proof.FirstFeedForward.ReferenceContext
public import proofs.«01_k».proof.Proof.Gen.FirstFeedForwardReferenceIdeal.Read
public import Idealize.ShloMosaic.Lib.Pipeline.Value

@[expose] public section

/-! The first feed-forward reference's result, entry by entry: the images' half, then the context's. -/

set_option maxRecDepth 65536

noncomputable section

namespace Cert.FirstFeedForwardReferenceIdeal.Reading

open Idealize.ShloMosaic hiding ix1 ix2 ix3 ix4 ix5
open Idealize.ShloMosaic.TcCoe
open Cert.FirstFeedForwardReferenceIdeal Cert.FirstFeedForwardReferenceIdeal.Gen Cert.FirstFeedForwardReferenceIdeal.Read
open Idealize.ShloMosaic.ValueIdx

theorem images_at (x0 : Rows) (x2 : Mods) (x3 : Gains) (x4 : InWeights) (x5 : OutWeights) (b : Fin 4) (s : Fin 2048) (j : Fin 4096) :
    val_main_v84 (F := Ideal) x0 x2 x3 x4 x5 (ix2 (Images.row b s) j) = val_main_v44 (F := Ideal) x0 x2 x3 x4 x5 (ix3 b s j) := by
  rw [val_main_v84_apply]
  refine congrArg _ (funext fun z => Fin.ext ?_)
  have hb := b.isLt
  have hs := s.isLt
  have hj := j.isLt
  match z with
  | ⟨0, _⟩ => show ((2048 * b.val + s.val) * 4096 + j.val) / 8388608 = b.val; omega
  | ⟨1, _⟩ => show ((2048 * b.val + s.val) * 4096 + j.val) / 4096 % 2048 = s.val; omega
  | ⟨2, _⟩ => show ((2048 * b.val + s.val) * 4096 + j.val) % 4096 = j.val; omega

theorem context_at (x1 : ContextRows) (x2 : Mods) (x3 : Gains) (x4 : InWeights) (x5 : OutWeights) (b : Fin 4) (s : Fin 256)
    (j : Fin 4096) :
    val_main_v85 (F := Ideal) x1 x2 x3 x4 x5 (ix2 (Context.row b s) j) = val_main_v83 (F := Ideal) x1 x2 x3 x4 x5 (ix3 b s j) := by
  rw [val_main_v85_apply]
  refine congrArg _ (funext fun z => Fin.ext ?_)
  have hb := b.isLt
  have hs := s.isLt
  have hj := j.isLt
  match z with
  | ⟨0, _⟩ => show ((256 * b.val + s.val) * 4096 + j.val) / 1048576 = b.val; omega
  | ⟨1, _⟩ => show ((256 * b.val + s.val) * 4096 + j.val) / 4096 % 256 = s.val; omega
  | ⟨2, _⟩ => show ((256 * b.val + s.val) * 4096 + j.val) % 4096 = j.val; omega

/-- The result's entry `(i, j)`. -/
theorem result_at (x0 : Rows) (x1 : ContextRows) (x2 : Mods) (x3 : Gains) (x4 : InWeights) (x5 : OutWeights) (i : Fin 9216)
    (j : Fin 4096) :
    val_main_v86 (F := Ideal) x0 x1 x2 x3 x4 x5 (ix2 i j)
      = Maths.firstFeedForward (fun a e => x0 (ix2 a e)) (fun a e => x1 (ix2 a e)) (fun e => x3 (ix3 0 0 e))
          (fun b e => x2 (ix5 0 b 1 0 e)) (fun b e => x2 (ix5 0 b 0 0 e)) (fun b e => x2 (ix5 0 b 2 0 e))
          (fun e k => x4 (ix4 0 0 e k)) (fun k e => x5 (ix4 0 0 k e)) i j := by
  unfold val_main_v86 Maths.firstFeedForward Maths.joined
  by_cases h : i.val < 8192
  · obtain ⟨b, s, hi⟩ : ∃ (b : Fin 4) (s : Fin 2048), i.val = (Images.row b s).val :=
      ⟨⟨i.val / 2048, by omega⟩, ⟨i.val % 2048, by omega⟩, by show i.val = 2048 * (i.val / 2048) + i.val % 2048; omega⟩
    have hg : Maths.imageOfRow i = Images.image b := Fin.ext (by
      show i.val / 2048 = b.val
      have : i.val = 2048 * b.val + s.val := hi
      omega)
    have hx : (⟨i.val, h⟩ : Fin 8192) = Images.row b s := Fin.ext hi
    rw [dif_pos h, hg, hx]
    refine (concatenate_pair_apply_left (t := S9216x4096) (s₁ := S8192x4096) (s₂ := S1024x4096) 0 _ _ _ _ rfl
      (ix2 (Images.row b s) j) fun a => ?_).trans
      ((images_at x0 x2 x3 x4 x5 b s j).trans (Images.result_at x0 x2 x3 x4 x5 b s j))
    match a with
    | ⟨0, _⟩ => exact hi.symm
    | ⟨1, _⟩ => rfl
  · obtain ⟨b, s, hi⟩ : ∃ (b : Fin 4) (s : Fin 256), i.val - 8192 = (Context.row b s).val :=
      ⟨⟨(i.val - 8192) / 256, by omega⟩, ⟨(i.val - 8192) % 256, by omega⟩,
        by show i.val - 8192 = 256 * ((i.val - 8192) / 256) + (i.val - 8192) % 256; omega⟩
    have hg : Maths.imageOfRow i = 4 := Fin.ext (by show i.val / 2048 = 4; omega)
    have hx : (⟨i.val - 8192, by omega⟩ : Fin 1024) = Context.row b s := Fin.ext hi
    rw [dif_neg h, hg, hx]
    refine (concatenate_pair_apply_right (t := S9216x4096) (s₁ := S8192x4096) (s₂ := S1024x4096) 0 _ _ _ _ rfl rfl
      (ix2 (Context.row b s) j) (fun a ha => ?_) ?_).trans
      ((context_at x1 x2 x3 x4 x5 b s j).trans (Context.result_at x1 x2 x3 x4 x5 b s j))
    · match a with
      | ⟨0, _⟩ => exact absurd rfl ha
      | ⟨1, _⟩ => rfl
    · show (Context.row b s).val + 8192 = i.val
      omega

end Cert.FirstFeedForwardReferenceIdeal.Reading

end
-- ==== Proof.Projections.Norm.lean ====
module

public import proofs.«01_k».proof.Proof.Gen.ProjectionsIdeal.Launch
public import proofs.«01_k».proof.Proof.Gen.ProjectionsIdeal.Skeleton
public import proofs.«01_k».proof.Proof.Gen.ProjectionsIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.ProjectionsIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjectionsIdeal.Gen

variable {F : FTy → Type} [FloatOps F]

local notation "𝕄" => MT nD τ sig Unit (Elt F) ℕ (UR sig nD τ) ℕ

/-! The first launch of the projections, which scales the rows to unit mean square and modulates them: what its body leaves
    in its output buffer, and the body's obligation at every grid point. -/

section body0

variable (c : Dev nD) (i : grid0.Coords)
  (arg1 : Memref sig .tc .vmem S512x4096 .f32) (harg1 : arg1.IsWhole)
  (arg2 : Memref sig .tc .vmem S1x4096 .f32) (harg2 : arg2.IsWhole)
  (arg3 : Memref sig .tc .vmem S1x1x1x1x4096 .f32) (harg3 : arg3.IsWhole)
  (arg4 : Memref sig .tc .vmem S1x1x1x1x4096 .f32) (harg4 : arg4.IsWhole)
  (arg5 : Memref sig .tc .vmem S512x4096 .bf16) (harg5 : arg5.IsWhole)
  (x0 : Vec F S512x4096 .f32) (x1 : Vec F S1x4096 .f32) (x2 : Vec F S1x1x1x1x4096 .f32) (x3 : Vec F S1x1x1x1x4096 .f32)

def kernelRun0 :
    { L : List (View.Piece (Elt F) S512x4096 .bf16) //
      ∀ (E : Set ℕ) (K : PUnit → sProp 𝕄),
        iprop(owns (c : Thread nD τ) arg1 fullShare x0
            ∗ owns (c : Thread nD τ) arg2 fullShare x1
            ∗ owns (c : Thread nD τ) arg3 fullShare x2
            ∗ owns (c : Thread nD τ) arg4 fullShare x3
            ∗ (∃ d, owns (c : Thread nD τ) arg5 fullShare d)
            ∗ (iprop(owns (c : Thread nD τ) arg1 fullShare x0
                ∗ owns (c : Thread nD τ) arg2 fullShare x1
                ∗ owns (c : Thread nD τ) arg3 fullShare x2
                ∗ owns (c : Thread nD τ) arg4 fullShare x3
                ∗ (∃ f, arg5.view.loc (c : Thread nD τ) ↦[arg5.view.set]{fullShare} arg5.view.writes (Elt F) f L)) -∗ K ⟨⟩))
          ⊢ wp frame (wpE (defs₀ (F := F)) Variants.none c none) E
              (cc0_norm_modulate i arg1 harg1 arg2 harg2 arg3 harg3 arg4 harg4 arg5 harg5) K } := by
  refine ⟨?_, fun E K => ?run⟩
  case run =>
    simp only [cc0_norm_modulate_eq_skeleton]; unfold cc0_norm_modulate_skel
    unfold owns
    iintro ⟨⟨%f0, %hf0, H0⟩, ⟨%f1, %hf1, H1⟩, ⟨%f2, %hf2, H2⟩, ⟨%f3, %hf3, H3⟩, ⟨%d4, %f4, -, H4⟩, Hk⟩
    obtain rfl := harg1.eq_unread hf0
    obtain rfl := harg2.eq_unread hf1
    obtain rfl := harg3.eq_unread hf2
    obtain rfl := harg4.eq_unread hf3
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    iexists _; iexact H4

theorem cover0 (y : S512x4096.Idx) :
    ∃ pc ∈ (kernelRun0 c i arg1 harg1 arg2 harg2 arg3 harg3 arg4 harg4 arg5 harg5 x0 x1 x2 x3).1, y ∈ pc.1.set :=
  View.cover_of_tiledL (kernelRun0 c i arg1 harg1 arg2 harg2 arg3 harg3 arg4 harg4 arg5 harg5 x0 x1 x2 x3).1
    S512x4096.size (by sl_kernel_rfl) y

abbrev VO0 : View sig .tc .vmem S512x4096 .bf16 := (Memref.whole cc0_stg4_0 : Memref sig .tc .vmem S512x4096 .bf16).view

def out0 : Vec F S512x4096 .bf16 :=
  VO0.read (Elt F) (VO0.writes (Elt F) VO0.junk
    (kernelRun0 c i arg1 harg1 arg2 harg2 arg3 harg3 arg4 harg4 arg5 harg5 x0 x1 x2 x3).1)

end body0

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev ms0_0 (t : Fin cfg0.N) : Memref sig .tc .vmem S512x4096 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1x1x1x4096 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1x1x1x4096 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S512x4096 .bf16 := win0_4.stage (cfg0.slots t 4)
abbrev hs0_4 (t : Fin cfg0.N) : (ms0_4 t).IsWhole := hstage0_4 ((cfg0.slots t 4).cast nbuf0_4)

def outsAt0 (c : Dev nD) (t : Fin cfg0.N) : Vec F S512x4096 .bf16 :=
  out0 c (grid0.coords t) (ms0_0 t) (hs0_0 t) (ms0_1 t) (hs0_1 t) (ms0_2 t) (hs0_2 t) (ms0_3 t) (hs0_3 t) (ms0_4 t) (hs0_4 t)
    (iblk0 V c 0 t) (iblk0 V c 1 t) (iblk0 V c 2 t) (iblk0 V c 3 t)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => (outsAt0 V c t)
  Φ _ := Pipeline.ΦA spec0 c
  q w := Pipeline.shareOf spec0 w
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = outsAt0 V c t := by dsimp only [dat0]

theorem before0_0 (c : Dev nD) (t : Fin cfg0.N) (d) : (dat0 V c).before 0 t d = iblk0 V c 0 t :=
  ((dat0 V c).before_in_eq_fetched 0 rfl (fun _ => rfl) (fun _ _ _ => rfl) (fun t => after0_0 V c t) t d).trans rfl
theorem before0_1 (c : Dev nD) (t : Fin cfg0.N) (d) : (dat0 V c).before 1 t d = iblk0 V c 1 t :=
  ((dat0 V c).before_in_eq_fetched 1 rfl (fun _ => rfl) (fun _ _ _ => rfl) (fun t => after0_1 V c t) t d).trans rfl
theorem before0_2 (c : Dev nD) (t : Fin cfg0.N) (d) : (dat0 V c).before 2 t d = iblk0 V c 2 t :=
  ((dat0 V c).before_in_eq_fetched 2 rfl (fun _ => rfl) (fun _ _ _ => rfl) (fun t => after0_2 V c t) t d).trans rfl
theorem before0_3 (c : Dev nD) (t : Fin cfg0.N) (d) : (dat0 V c).before 3 t d = iblk0 V c 3 t :=
  ((dat0 V c).before_in_eq_fetched 3 rfl (fun _ => rfl) (fun _ _ _ => rfl) (fun t => after0_3 V c t) t d).trans rfl

def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d))
    ∗ (∃ d, owns (c : Thread nD τ) (ms0_3 t) fullShare ((dat0 V c).before 3 t d))
    ∗ (∃ d, owns (c : Thread nD τ) (ms0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (ms0_0 t) fullShare ((dat0 V c).after 0 t)
    ∗ owns (c : Thread nD τ) (ms0_1 t) fullShare ((dat0 V c).after 1 t)
    ∗ owns (c : Thread nD τ) (ms0_2 t) fullShare ((dat0 V c).after 2 t)
    ∗ owns (c : Thread nD τ) (ms0_3 t) fullShare ((dat0 V c).after 3 t)
    ∗ owns (c : Thread nD τ) (ms0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  unfold outsAt0 out0
  iintro ⟨HΦ, Ho, ⟨%d0, H0⟩, ⟨%d1, H1⟩, ⟨%d2, H2⟩, ⟨%d3, H3⟩, ⟨%d4, H4⟩⟩
  iapply ((kernelRun0 c (grid0.coords t) _ _ _ _ _ _ _ _ _ _ (iblk0 V c 0 t) (iblk0 V c 1 t) (iblk0 V c 2 t) (iblk0 V c 3 t)).2 Set.univ _)
  isplitl [H0]; · iexact H0
  isplitl [H1]; · iexact H1
  isplitl [H2]; · iexact H2
  isplitl [H3]; · iexact H3
  isplitl [H4]; · iexists _; iexact H4
  iintro ⟨H0, H1, H2, H3, ⟨%e4, H4⟩⟩
  isplitl [HΦ]; · iexact HΦ
  isplitl [Ho]; · iexact Ho
  isplitl [H0]; · iexact H0
  isplitl [H1]; · iexact H1
  isplitl [H2]; · iexact H2
  isplitl [H3]; · iexact H3
  unfold owns; iexists _; isplitr
  swap; · iexact H4
  ipureintro; exact View.read_writes_of_cover _ _ _ _ _ (cover0 c _ _ _ _ _ _ _ _ _ _ _ _ _ _ _)

theorem defs₀_row0 (t : Fin cfg0.N) :
    defs₀ (F := F) .tc cfg0.body (cfg0.bodyArgs t (cfg0.slots t)) = bodyAt0 t := by
  unfold defs₀; rw [Defs.onTc_tc]

theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Cert.ProjectionsIdeal.Joined

end
-- ==== Proof.Projections.In.lean ====
module

public import proofs.«01_k».proof.Proof.Gen.ProjectionsIdeal.Launch
public import proofs.«01_k».proof.Proof.Gen.ProjectionsIdeal.Skeleton
public import proofs.«01_k».proof.Proof.Gen.ProjectionsIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.ProjectionsIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjectionsIdeal.Gen

variable {F : FTy → Type} [FloatOps F]

local notation "𝕄" => MT nD τ sig Unit (Elt F) ℕ (UR sig nD τ) ℕ

/-! The second launch of the projections, its three products with the scaling of two of them by heads: what its body leaves
    in its three output buffers, and the body's obligation at every grid point. -/

section body1

variable (c : Dev nD) (i : grid1.Coords)
  (arg2 : Memref sig .tc .vmem S1024x4096 .bf16) (harg2 : arg2.IsWhole)
  (arg3 : Memref sig .tc .vmem S1x4096x256 .f32) (harg3 : arg3.IsWhole)
  (arg4 : Memref sig .tc .vmem S1x4096x256 .f32) (harg4 : arg4.IsWhole)
  (arg5 : Memref sig .tc .vmem S1x4096x256 .f32) (harg5 : arg5.IsWhole)
  (arg6 : Memref sig .tc .vmem S1x128 .f32) (harg6 : arg6.IsWhole)
  (arg7 : Memref sig .tc .vmem S1x128 .f32) (harg7 : arg7.IsWhole)
  (arg8 : Memref sig .tc .vmem S1024x256 .bf16) (harg8 : arg8.IsWhole)
  (arg9 : Memref sig .tc .vmem S1024x256 .bf16) (harg9 : arg9.IsWhole)
  (arg10 : Memref sig .tc .vmem S1024x256 .bf16) (harg10 : arg10.IsWhole)
  (x0 : Vec F S1024x4096 .bf16) (x1 : Vec F S1x4096x256 .f32) (x2 : Vec F S1x4096x256 .f32) (x3 : Vec F S1x4096x256 .f32) (x4 : Vec F S1x128 .f32) (x5 : Vec F S1x128 .f32)

def kernelRun1 :
    { L : List (View.Piece (Elt F) S1024x256 .bf16) × List (View.Piece (Elt F) S1024x256 .bf16) × List (View.Piece (Elt F) S1024x256 .bf16) //
      ∀ (E : Set ℕ) (K : PUnit → sProp 𝕄),
        iprop(owns (c : Thread nD τ) arg2 fullShare x0
            ∗ owns (c : Thread nD τ) arg3 fullShare x1
            ∗ owns (c : Thread nD τ) arg4 fullShare x2
            ∗ owns (c : Thread nD τ) arg5 fullShare x3
            ∗ owns (c : Thread nD τ) arg6 fullShare x4
            ∗ owns (c : Thread nD τ) arg7 fullShare x5
            ∗ (∃ d, owns (c : Thread nD τ) arg8 fullShare d)
            ∗ (∃ d, owns (c : Thread nD τ) arg9 fullShare d)
            ∗ (∃ d, owns (c : Thread nD τ) arg10 fullShare d)
            ∗ (iprop(owns (c : Thread nD τ) arg2 fullShare x0
                ∗ owns (c : Thread nD τ) arg3 fullShare x1
                ∗ owns (c : Thread nD τ) arg4 fullShare x2
                ∗ owns (c : Thread nD τ) arg5 fullShare x3
                ∗ owns (c : Thread nD τ) arg6 fullShare x4
                ∗ owns (c : Thread nD τ) arg7 fullShare x5
                ∗ (∃ f, arg8.view.loc (c : Thread nD τ) ↦[arg8.view.set]{fullShare} arg8.view.writes (Elt F) f L.1)
                ∗ (∃ f, arg9.view.loc (c : Thread nD τ) ↦[arg9.view.set]{fullShare} arg9.view.writes (Elt F) f L.2.1)
                ∗ (∃ f, arg10.view.loc (c : Thread nD τ) ↦[arg10.view.set]{fullShare} arg10.view.writes (Elt F) f L.2.2)) -∗ K ⟨⟩))
          ⊢ wp frame (wpE (defs₀ (F := F)) Variants.none c none) E
              (cc1_qkv i arg2 harg2 arg3 harg3 arg4 harg4 arg5 harg5 arg6 harg6 arg7 harg7 arg8 harg8 arg9 harg9 arg10 harg10) K } := by
  refine ⟨(?_, ?_, ?_), fun E K => ?run⟩
  case run =>
    simp only [cc1_qkv_eq_skeleton]; unfold cc1_qkv_skel
    simp only [k1_part1_eq_skeleton, k1_part2_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, Hk⟩
    obtain rfl := harg2.eq_unread hf0
    obtain rfl := harg3.eq_unread hf1
    obtain rfl := harg4.eq_unread hf2
    obtain rfl := harg5.eq_unread hf3
    obtain rfl := harg6.eq_unread hf4
    obtain rfl := harg7.eq_unread hf5
    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    isplitl [H7]; · iexists _; iexact H7
    iexists _; iexact H8

theorem cover1_0 (y : S1024x256.Idx) :
    ∃ pc ∈ (kernelRun1 c i arg2 harg2 arg3 harg3 arg4 harg4 arg5 harg5 arg6 harg6 arg7 harg7 arg8 harg8 arg9 harg9 arg10 harg10 x0 x1 x2 x3 x4 x5).1.1, y ∈ pc.1.set :=
  View.cover_of_tiledL (kernelRun1 c i arg2 harg2 arg3 harg3 arg4 harg4 arg5 harg5 arg6 harg6 arg7 harg7 arg8 harg8 arg9 harg9 arg10 harg10 x0 x1 x2 x3 x4 x5).1.1
    S1024x128.size (by sl_kernel_rfl) y

abbrev VO1_0 : View sig .tc .vmem S1024x256 .bf16 := (Memref.whole cc1_stg6_0 : Memref sig .tc .vmem S1024x256 .bf16).view

def out1_0 : Vec F S1024x256 .bf16 :=
  VO1_0.read (Elt F) (VO1_0.writes (Elt F) VO1_0.junk
    (kernelRun1 c i arg2 harg2 arg3 harg3 arg4 harg4 arg5 harg5 arg6 harg6 arg7 harg7 arg8 harg8 arg9 harg9 arg10 harg10 x0 x1 x2 x3 x4 x5).1.1)

theorem cover1_1 (y : S1024x256.Idx) :
    ∃ pc ∈ (kernelRun1 c i arg2 harg2 arg3 harg3 arg4 harg4 arg5 harg5 arg6 harg6 arg7 harg7 arg8 harg8 arg9 harg9 arg10 harg10 x0 x1 x2 x3 x4 x5).1.2.1, y ∈ pc.1.set :=
  View.cover_of_tiledL (kernelRun1 c i arg2 harg2 arg3 harg3 arg4 harg4 arg5 harg5 arg6 harg6 arg7 harg7 arg8 harg8 arg9 harg9 arg10 harg10 x0 x1 x2 x3 x4 x5).1.2.1
    S1024x128.size (by sl_kernel_rfl) y

abbrev VO1_1 : View sig .tc .vmem S1024x256 .bf16 := (Memref.whole cc1_stg7_0 : Memref sig .tc .vmem S1024x256 .bf16).view

def out1_1 : Vec F S1024x256 .bf16 :=
  VO1_1.read (Elt F) (VO1_1.writes (Elt F) VO1_1.junk
    (kernelRun1 c i arg2 harg2 arg3 harg3 arg4 harg4 arg5 harg5 arg6 harg6 arg7 harg7 arg8 harg8 arg9 harg9 arg10 harg10 x0 x1 x2 x3 x4 x5).1.2.1)

theorem cover1_2 (y : S1024x256.Idx) :
    ∃ pc ∈ (kernelRun1 c i arg2 harg2 arg3 harg3 arg4 harg4 arg5 harg5 arg6 harg6 arg7 harg7 arg8 harg8 arg9 harg9 arg10 harg10 x0 x1 x2 x3 x4 x5).1.2.2, y ∈ pc.1.set :=
  View.cover_of_tiledL (kernelRun1 c i arg2 harg2 arg3 harg3 arg4 harg4 arg5 harg5 arg6 harg6 arg7 harg7 arg8 harg8 arg9 harg9 arg10 harg10 x0 x1 x2 x3 x4 x5).1.2.2
    S1024x256.size (by sl_kernel_rfl) y

abbrev VO1_2 : View sig .tc .vmem S1024x256 .bf16 := (Memref.whole cc1_stg8_0 : Memref sig .tc .vmem S1024x256 .bf16).view

def out1_2 : Vec F S1024x256 .bf16 :=
  VO1_2.read (Elt F) (VO1_2.writes (Elt F) VO1_2.junk
    (kernelRun1 c i arg2 harg2 arg3 harg3 arg4 harg4 arg5 harg5 arg6 harg6 arg7 harg7 arg8 harg8 arg9 harg9 arg10 harg10 x0 x1 x2 x3 x4 x5).1.2.2)

end body1

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev ms1_0 (t : Fin cfg1.N) : Memref sig .tc .vmem S1024x4096 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x4096x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x4096x256 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x4096x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x128 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x128 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1024x256 .bf16 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S1024x256 .bf16 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S1024x256 .bf16 := win1_8.stage (cfg1.slots t 8)
abbrev hs1_8 (t : Fin cfg1.N) : (ms1_8 t).IsWhole := hstage1_8 ((cfg1.slots t 8).cast nbuf1_8)

def outsAt1_0 (c : Dev nD) (t : Fin cfg1.N) : Vec F S1024x256 .bf16 :=
  out1_0 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
    (iblk1 V c 0 t) (iblk1 V c 1 t) (iblk1 V c 2 t) (iblk1 V c 3 t) (iblk1 V c 4 t) (iblk1 V c 5 t)

def outsAt1_1 (c : Dev nD) (t : Fin cfg1.N) : Vec F S1024x256 .bf16 :=
  out1_1 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
    (iblk1 V c 0 t) (iblk1 V c 1 t) (iblk1 V c 2 t) (iblk1 V c 3 t) (iblk1 V c 4 t) (iblk1 V c 5 t)

def outsAt1_2 (c : Dev nD) (t : Fin cfg1.N) : Vec F S1024x256 .bf16 :=
  out1_2 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t)
    (iblk1 V c 0 t) (iblk1 V c 1 t) (iblk1 V c 2 t) (iblk1 V c 3 t) (iblk1 V c 4 t) (iblk1 V c 5 t)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => (outsAt1_0 V c t)
    | ⟨7, _⟩ => (outsAt1_1 V c t)
    | ⟨8, _⟩ => (outsAt1_2 V c t)
  Φ _ := Pipeline.ΦA spec1 c
  q w := Pipeline.shareOf spec1 w
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = outsAt1_0 V c t := by dsimp only [dat1]
theorem after1_7 (c : Dev nD) (t : Fin cfg1.N) : (dat1 V c).after 7 t = outsAt1_1 V c t := by dsimp only [dat1]
theorem after1_8 (c : Dev nD) (t : Fin cfg1.N) : (dat1 V c).after 8 t = outsAt1_2 V c t := by dsimp only [dat1]

theorem before1_0 (c : Dev nD) (t : Fin cfg1.N) (d) : (dat1 V c).before 0 t d = iblk1 V c 0 t :=
  ((dat1 V c).before_in_eq_fetched 0 rfl (fun _ => rfl) (fun _ _ _ => rfl) (fun t => after1_0 V c t) t d).trans rfl
theorem before1_1 (c : Dev nD) (t : Fin cfg1.N) (d) : (dat1 V c).before 1 t d = iblk1 V c 1 t :=
  ((dat1 V c).before_in_eq_fetched 1 rfl (fun _ => rfl) (fun _ _ _ => rfl) (fun t => after1_1 V c t) t d).trans rfl
theorem before1_2 (c : Dev nD) (t : Fin cfg1.N) (d) : (dat1 V c).before 2 t d = iblk1 V c 2 t :=
  ((dat1 V c).before_in_eq_fetched 2 rfl (fun _ => rfl) (fun _ _ _ => rfl) (fun t => after1_2 V c t) t d).trans rfl
theorem before1_3 (c : Dev nD) (t : Fin cfg1.N) (d) : (dat1 V c).before 3 t d = iblk1 V c 3 t :=
  ((dat1 V c).before_in_eq_fetched 3 rfl (fun _ => rfl) (fun _ _ _ => rfl) (fun t => after1_3 V c t) t d).trans rfl
theorem before1_4 (c : Dev nD) (t : Fin cfg1.N) (d) : (dat1 V c).before 4 t d = iblk1 V c 4 t :=
  ((dat1 V c).before_in_eq_fetched 4 rfl (fun _ => rfl) (fun _ _ _ => rfl) (fun t => after1_4 V c t) t d).trans rfl
theorem before1_5 (c : Dev nD) (t : Fin cfg1.N) (d) : (dat1 V c).before 5 t d = iblk1 V c 5 t :=
  ((dat1 V c).before_in_eq_fetched 5 rfl (fun _ => rfl) (fun _ _ _ => rfl) (fun t => after1_5 V c t) t d).trans rfl

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d)))

def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t))

theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8]
  unfold outsAt1_0 out1_0 outsAt1_1 out1_1 outsAt1_2 out1_2
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  iapply ((kernelRun1 c (grid1.coords t) _ _ _ _ _ _ _ _ _ _ _ _ _ _ _ _ _ _ (iblk1 V c 0 t) (iblk1 V c 1 t) (iblk1 V c 2 t) (iblk1 V c 3 t) (iblk1 V c 4 t) (iblk1 V c 5 t)).2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  isplitl [H8]; · iexists _; iexact H8
  iintro ⟨H0, H1, H2, H3, H4, H5, ⟨%e6, H6⟩, ⟨%e7, H7⟩, ⟨%e8, H8⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]
  · unfold owns; iexists _; isplitr
    swap; · iexact H6
    ipureintro; exact View.read_writes_of_cover _ _ _ _ _ (cover1_0 c _ _ _ _ _ _ _ _ _ _ _ _ _ _ _ _ _ _ _ _ _ _ _ _ _)
  isplitl [H7]
  · unfold owns; iexists _; isplitr
    swap; · iexact H7
    ipureintro; exact View.read_writes_of_cover _ _ _ _ _ (cover1_1 c _ _ _ _ _ _ _ _ _ _ _ _ _ _ _ _ _ _ _ _ _ _ _ _ _)
  unfold owns; iexists _; isplitr
  swap; · iexact H8
  ipureintro; exact View.read_writes_of_cover _ _ _ _ _ (cover1_2 c _ _ _ _ _ _ _ _ _ _ _ _ _ _ _ _ _ _ _ _ _ _ _ _ _)

theorem defs₀_row1 (t : Fin cfg1.N) :
    defs₀ (F := F) .tc cfg1.body (cfg1.bodyArgs t (cfg1.slots t)) = bodyAt1 t := by
  unfold defs₀; rw [Defs.onTc_tc]

theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Cert.ProjectionsIdeal.Joined

end
-- ==== Proof.Projections.Whole.lean ====
module

public import proofs.«01_k».proof.Proof.Projections.Norm
public import proofs.«01_k».proof.Proof.Projections.In
public import proofs.«01_k».proof.Proof.Launches

@[expose] public section

set_option maxRecDepth 16384

noncomputable section

namespace Cert.ProjectionsIdeal.Joined

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.ProjectionsIdeal.Gen
open Cert.Launches (𝒱₀ L lv R hseg mem_uc stepW stepW_arr stepW_of_ne stepW_of regOf last run_of)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! The projections as a whole: the host's cuts and relayouts of the gains and the two launches between them, in order. -/

abbrev argRefs : List (Ref sig .tc) := [main_arg0, main_arg1, main_arg2, main_arg3, main_arg4, main_arg5]

theorem hostOps0_fresh : (hostOps0 : List (HloOp τ sig (Elt F))).Forall fun op => op.fresh = ∅ := by
  simp only [List.Forall]; repeat' constructor
abbrev hostOps0_W : List (Ref sig .tc) := [main_v0, main_v1, main_v2]
theorem hostOps0_writes : (hostOps0 : List (HloOp τ sig (Elt F))).Forall fun op => op.writes ⊆ (hostOps0_W.map (Proc.devRef (τ := τ) .tc)).toFinset :=
  StableHlo.forall_writes_sub_of_map rfl
theorem hostOps0_args : ∀ a ∈ argRefs, a ∉ hostOps0_W := ListAll.forall_mem_of_all_decide (by decide +kernel)
theorem hostOps1_fresh : (hostOps1 : List (HloOp τ sig (Elt F))).Forall fun op => op.fresh = ∅ := by
  simp only [List.Forall]; repeat' constructor
abbrev hostOps1_W : List (Ref sig .tc) := [main_v4, main_v5, main_v6, main_v7]
theorem hostOps1_writes : (hostOps1 : List (HloOp τ sig (Elt F))).Forall fun op => op.writes ⊆ (hostOps1_W.map (Proc.devRef (τ := τ) .tc)).toFinset :=
  StableHlo.forall_writes_sub_of_map rfl
theorem hostOps1_args : ∀ a ∈ argRefs, a ∉ hostOps1_W := ListAll.forall_mem_of_all_decide (by decide +kernel)

abbrev W0 : Dev nD → Valuation τ sig (Elt F) := fun c b => (s₀ m ρ).mem ((c : Dev nD), b)
abbrev W1 : Dev nD → Valuation τ sig (Elt F) := fun c => StableHlo.after hostOps0 (W0 m ρ c)
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
abbrev V1 : (c : Dev nD) → (b : Ref sig .tc) → Buf (Elt F) ((c : Thread nD τ).loc b) := fun c b => W1 m ρ c b
def W2 : Dev nD → Valuation τ sig (Elt F) := stepW (W1 m ρ) (dat0 (V1 m ρ))
abbrev V2 : (c : Dev nD) → (b : Ref sig .tc) → Buf (Elt F) ((c : Thread nD τ).loc b) := fun c b => W2 m ρ c b
abbrev W3 : Dev nD → Valuation τ sig (Elt F) := fun c => StableHlo.after hostOps1 (W2 m ρ c)
theorem W3_of (c : Dev nD) (r : Ref sig .tc) (h : r ∉ hostOps1_W) : W3 m ρ c (Proc.devRef .tc r) = W2 m ρ c (Proc.devRef .tc r) :=
  StableHlo.after_of_writes_sub hostOps1 _ hostOps1_writes h
abbrev V3 : (c : Dev nD) → (b : Ref sig .tc) → Buf (Elt F) ((c : Thread nD τ).loc b) := fun c b => W3 m ρ c b
def W4 : Dev nD → Valuation τ sig (Elt F) := stepW (W3 m ρ) (dat1 (V3 m ρ))

theorem argsIn0 : ∀ a ∈ argRefs, ∀ w : Fin cfg0.W, Pipeline.arrRef spec0 w = a → (cfg0.win w).isOut = false :=
  ListAll.forall_mem_of_all_decide (by decide +kernel)
theorem argsIn1 : ∀ a ∈ argRefs, ∀ w : Fin cfg1.W, Pipeline.arrRef spec1 w = a → (cfg1.win w).isOut = false :=
  ListAll.forall_mem_of_all_decide (by decide +kernel)

theorem W1_args (c : Dev nD) : ∀ a ∈ argRefs, W1 m ρ c (Proc.devRef .tc a) = m ((c : Thread nD τ).loc a) :=
  fun a ha => W1_of m ρ c a (hostOps0_args a ha)
theorem W2_args (c : Dev nD) : ∀ a ∈ argRefs, W2 m ρ c (Proc.devRef .tc a) = m ((c : Thread nD τ).loc a) :=
  fun a ha => (stepW_of sharedIn0 _ (dat0 (V1 m ρ)) (A_eq0 (V1 m ρ)) c a (argsIn0 a ha)).trans (W1_args m ρ c a ha)
theorem W3_args (c : Dev nD) : ∀ a ∈ argRefs, W3 m ρ c (Proc.devRef .tc a) = m ((c : Thread nD τ).loc a) :=
  fun a ha => (W3_of m ρ c a (hostOps1_args a ha)).trans (W2_args m ρ c a ha)
theorem W4_args (c : Dev nD) : ∀ a ∈ argRefs, W4 m ρ c (Proc.devRef .tc a) = m ((c : Thread nD τ).loc a) :=
  fun a ha => (stepW_of sharedIn1 _ (dat1 (V3 m ρ)) (A_eq1 (V3 m ρ)) c a (argsIn1 a ha)).trans (W3_args m ρ c a ha)

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c

def reg0 : Pipeline.RegionSeg (pcfgs (F := F)) adm (pdats m ρ) () defs₀ 𝒱₀ L lv 0 :=
  regOf cfgs defs₀ (pdats m ρ) 0 winFacts₀0 sharedIn0 block_pos0 arr_whole0 stage_whole0 (W1 m ρ) (W2 m ρ) (body_obligation0 (V1 m ρ))
    (fun _ _ => rfl) (fun _ _ => trivial) (fun _ _ => rfl) (fun _ _ => rfl) (A_eq0 (V1 m ρ))
    (fun c w => (stepW_arr sharedIn0 _ (dat0 (V1 m ρ)) (A_eq0 (V1 m ρ)) c w).symm)
    (fun c b hb => stepW_of_ne _ (dat0 (V1 m ρ)) c b fun w e => hb (Finset.mem_image.mpr ⟨w, Finset.mem_univ _, e⟩))
def reg1 : Pipeline.RegionSeg (pcfgs (F := F)) adm (pdats m ρ) () defs₀ 𝒱₀ L lv 1 :=
  regOf cfgs defs₀ (pdats m ρ) 1 winFacts₀1 sharedIn1 block_pos1 arr_whole1 stage_whole1 (W3 m ρ) (W4 m ρ) (body_obligation1 (V3 m ρ))
    (fun _ _ => rfl) (fun _ _ => trivial) (fun _ _ => rfl) (fun _ _ => rfl) (A_eq1 (V3 m ρ))
    (fun c w => (stepW_arr sharedIn1 _ (dat1 (V3 m ρ)) (A_eq1 (V3 m ρ)) c w).symm)
    (fun c b hb => stepW_of_ne _ (dat1 (V3 m ρ)) c b fun w e => hb (Finset.mem_image.mpr ⟨w, Finset.mem_univ _, e⟩))

abbrev segs : List (Pipeline.Seg (pcfgs (F := F)) adm (pdats m ρ) () defs₀ 𝒱₀ L lv) :=
  [ .host (hseg cfgs defs₀ hostOps0 hostOps0_sub hostOps0_fresh (W0 m ρ)),
    .region (reg0 m ρ),
    .host (hseg cfgs defs₀ hostOps1 hostOps1_sub hostOps1_fresh (W2 m ρ)),
    .region (reg1 m ρ) ]
theorem main_run (c : Dev nD) : main (F := F) c = Pipeline.Seg.run (segs m ρ) := (main_chain c).trans (by chain_rfl)

theorem no_unscoped : ∀ sm : SemLoc sig, sm.isScoped .tc = true := by decide
set_option backward.isDefEq.respectTransparency.types false in
/-- Every run ends; the arguments are as launched, the three results are what the second launch's write-backs leave,
    and every counter is zero. -/
theorem run : θ_run defs (onTc (τ := τ) (main (F := F))) ⟨m, fun _ => 0, ρ⟩ (fun r => (∀ c : Dev nD,
      r.2.mem ((c.tc : Thread nD τ).loc main_v8_0) = (dat1 (V3 m ρ) c).arrAt 6 cfg1.N
      ∧ r.2.mem ((c.tc : Thread nD τ).loc main_v8_1) = (dat1 (V3 m ρ) c).arrAt 7 cfg1.N
      ∧ r.2.mem ((c.tc : Thread nD τ).loc main_v8_2) = (dat1 (V3 m ρ) c).arrAt 8 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c =>
    ⟨(h.1 c _ (mem_uc main_v8_0 (by decide))).trans (stepW_arr sharedIn1 _ (dat1 (V3 m ρ)) (A_eq1 (V3 m ρ)) c 6),
     (h.1 c _ (mem_uc main_v8_1 (by decide))).trans (stepW_arr sharedIn1 _ (dat1 (V3 m ρ)) (A_eq1 (V3 m ρ)) c 7),
     (h.1 c _ (mem_uc main_v8_2 (by decide))).trans (stepW_arr sharedIn1 _ (dat1 (V3 m ρ)) (A_eq1 (V3 m ρ)) c 8),
     (h.1 c _ (mem_uc main_arg0 (by decide))).trans (W4_args m ρ c main_arg0 (by decide)),
     (h.1 c _ (mem_uc main_arg1 (by decide))).trans (W4_args m ρ c main_arg1 (by decide)),
     (h.1 c _ (mem_uc main_arg2 (by decide))).trans (W4_args m ρ c main_arg2 (by decide)),
     (h.1 c _ (mem_uc main_arg3 (by decide))).trans (W4_args m ρ c main_arg3 (by decide)),
     (h.1 c _ (mem_uc main_arg4 (by decide))).trans (W4_args m ρ c main_arg4 (by decide)),
     (h.1 c _ (mem_uc main_arg5 (by decide))).trans (W4_args m ρ c main_arg5 (by decide))⟩, h.2⟩)
    (run_of cfgs defs₀ (pdats m ρ) cellOf_inj m ρ main (segs m ρ) (W0 m ρ) (W4 m ρ) (fun _ => rfl) (main_run m ρ)
      (by simp only [segs, Pipeline.Seg.pipes_host, Pipeline.Seg.pipes_region, Pipeline.Seg.pipes_nil]; decide)
      ⟨fun _ => .rfl, fun _ => .rfl, fun _ => .rfl, fun _ => .rfl, last _⟩ no_unscoped)

/-- The frame: every run ends with the arguments as launched and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => (h.1 c).2.2.2, h.2⟩) (run m ρ)

end Cert.ProjectionsIdeal.Joined

end
-- ==== Proof.Projections.Stored.lean ====
module

public import proofs.«01_k».proof.Proof.Projections.Whole
public import proofs.«01_k».proof.Proof.Blocks

@[expose] public section

/-! What each launch's body leaves in its output buffers. The projections' body stores the queries and the keys of a
    step in two pieces, one for each head. -/

set_option maxRecDepth 65536

noncomputable section

namespace Cert.ProjectionsIdeal.Joined

open Idealize.ShloMosaic
open Idealize.ShloMosaic.TcCoe Idealize.ShloMosaic.Tactic
open Idealize.SL.Sem
open Cert.ProjectionsIdeal.Gen
open Cert.Blocks (ld_all emb_all read_of)

variable {F : FTy → Type} [FloatOps F]

theorem out0_eq (c : Dev nD) (i : grid0.Coords) (arg1 : Memref sig .tc .vmem S512x4096 .f32) (harg1 : arg1.IsWhole)
    (arg2 : Memref sig .tc .vmem S1x4096 .f32) (harg2 : arg2.IsWhole)
    (arg3 : Memref sig .tc .vmem S1x1x1x1x4096 .f32) (harg3 : arg3.IsWhole)
    (arg4 : Memref sig .tc .vmem S1x1x1x1x4096 .f32) (harg4 : arg4.IsWhole)
    (arg5 : Memref sig .tc .vmem S512x4096 .bf16) (harg5 : arg5.IsWhole)
    (x0 : Vec F S512x4096 .f32) (x1 : Vec F S1x4096 .f32) (x2 x3 : Vec F S1x1x1x1x4096 .f32) :
    out0 c i arg1 harg1 arg2 harg2 arg3 harg3 arg4 harg4 arg5 harg5 x0 x1 x2 x3 = k0_pay1 x0 x1 x3 x2 := by
  unfold out0
  refine read_of (cover0 c i arg1 harg1 arg2 harg2 arg3 harg3 arg4 harg4 arg5 harg5 x0 x1 x2 x3) (k0_pay1 x0 x1 x3 x2) fun p hp x => ?_
  obtain rfl := List.mem_singleton.mp hp
  simp only [View.readAt_eq_ld, Memref.IsWhole.read_unread]
  rw [ld_all _ _ _ (by decide), ld_all _ _ _ (by decide), ld_all _ _ _ (by decide), ld_all _ _ _ (by decide)]
  exact congrArg (k0_pay1 x0 x1 x3 x2) (emb_all (S := S512x4096) ![0, 0] _ (by decide) x).symm

/-! ## The projections -/

/-- A step's rows times the step's columns of one part's weights. -/
def product (h : Vec F S1024x4096 .bf16) (w : Vec F S1x4096x256 .f32) : FVec F S1024x256 .f32 :=
  matmul (φ₁ := .bf16) (φ₂ := .bf16) dot_S1024x4096_S4096x256_S1024x256_1_0_0_1_n_n none
    (shapeCast S1024x4096 h shapeCasts_S1024x4096_S1024x4096)
    (truncf .bf16 (shapeCast S4096x256 w shapeCasts_S1x4096x256_S4096x256) bitsLt_bf16_f32)
    (constant S1024x256 .f32 0x00000000#32)

theorem head_inb (a : Fin 2) : ∀ z : Fin 2, (![0, 128 * a.val] : Fin 2 → Nat) z + S1024x128.size z ≤ S1024x256.size z := by
  revert a; decide +kernel

theorem head_slices (a : Fin 2) : S1024x256.Slices ![0, 128 * a.val] S1024x128 := by
  revert a; decide +kernel

/-- Where a step keeps its head `a`. -/
abbrev headRect (a : Fin 2) : Rect S1024x256 := Rect.unit (s := S1024x256) ![0, 128 * a.val] S1024x128.size (head_inb a)

/-- The sum of every row of a head, as a column. -/
def headSum (x : FVec F S1024x128 .f32) : FVec F S1024x1 .f32 :=
  shapeCast S1024x1 (multiReduction .add [1] S1024 x 0x00000000#32 reduces_S1024x128_S1024 (.inl rfl) rfl) shapeCasts_S1024_S1024x1

/-- Head `a` of a step's product, normalised, by the gain `g` and the scale `s`. -/
def headValue (a : Fin 2) (s : BitVec 32) (y : FVec F S1024x256 .f32) (g : Vec F S1x128 .f32) : FVec F S1024x128 .bf16 :=
  truncf .bf16 (mulf (mulf (mulf (extractStridedSlice S1024x128 ![0, 128 * a.val] y (head_slices a))
      (broadcastTo S1024x128 (rsqrt (addf (divf (headSum (mulf (extractStridedSlice S1024x128 ![0, 128 * a.val] y (head_slices a))
          (extractStridedSlice S1024x128 ![0, 128 * a.val] y (head_slices a))))
        (broadcast S1024x1 (Scalar.ofBits .f32 0x43000000#32))) (broadcast S1024x1 (Scalar.ofBits .f32 0x358637BD#32))))
        broadcasts_S1024x1_S1024x128))
      (broadcastTo S1024x128 (shapeCast S1x128 g shapeCasts_S1x128_S1x128) broadcasts_S1x128_S1024x128))
    (broadcast S1024x128 (Scalar.ofBits .f32 s))) bitsLt_bf16_f32

/-- A list of the two heads' pieces, the last stored first. -/
abbrev heads (v : Fin 2 → FVec F S1024x128 .bf16) : List (Σ r : Rect S1024x256, r.shape.Idx → Elt F .bf16) :=
  [1, 0].map fun a => ⟨headRect a, v a⟩

section projections

variable (c : Dev nD) (i : grid1.Coords) (arg2 : Memref sig .tc .vmem S1024x4096 .bf16) (harg2 : arg2.IsWhole)
    (arg3 : Memref sig .tc .vmem S1x4096x256 .f32) (harg3 : arg3.IsWhole)
    (arg4 : Memref sig .tc .vmem S1x4096x256 .f32) (harg4 : arg4.IsWhole)
    (arg5 : Memref sig .tc .vmem S1x4096x256 .f32) (harg5 : arg5.IsWhole)
    (arg6 : Memref sig .tc .vmem S1x128 .f32) (harg6 : arg6.IsWhole)
    (arg7 : Memref sig .tc .vmem S1x128 .f32) (harg7 : arg7.IsWhole)
    (arg8 : Memref sig .tc .vmem S1024x256 .bf16) (harg8 : arg8.IsWhole)
    (arg9 : Memref sig .tc .vmem S1024x256 .bf16) (harg9 : arg9.IsWhole)
    (arg10 : Memref sig .tc .vmem S1024x256 .bf16) (harg10 : arg10.IsWhole)
  (x0 : Vec F S1024x4096 .bf16) (x1 x2 x3 : Vec F S1x4096x256 .f32) (x4 x5 : Vec F S1x128 .f32)

/-- A step's rows as loaded. -/
abbrev rowsLoad := arg2.view.readAt (Elt F) (Rect.unit (s := S1024x4096) ![0, 0] S1024x4096.size inb_S1024x4096_S1024x4096_0_0).toLoadRect (harg2.unread x0)

theorem queries_pieces : (kernelRun1 c i arg2 harg2 arg3 harg3 arg4 harg4 arg5 harg5 arg6 harg6 arg7 harg7 arg8 harg8 arg9 harg9 arg10 harg10 x0 x1 x2 x3 x4 x5).1.1
    = heads fun a => headValue a 0x3DB504F3#32 (product (rowsLoad arg2 harg2 x0)
        (arg3.view.readAt (Elt F) (Rect.unit (s := S1x4096x256) ![0, 0, 0] S1x4096x256.size inb_S1x4096x256_S1x4096x256_0_0_0).toLoadRect (harg3.unread x1)))
        (arg6.view.readAt (Elt F) (Rect.unit (s := S1x128) ![0, 0] S1x128.size inb_S1x128_S1x128_0_0).toLoadRect (harg6.unread x4)) := by
  sl_kernel_rfl

/-- The queries' output agrees with any contents with which both heads agree. -/
theorem out1_0_eq (f : Vec F S1024x256 .bf16)
    (hf : ∀ a x, headValue a 0x3DB504F3#32 (product x0 x1) x4 x = f ((headRect a).emb x)) :
    out1_0 c i arg2 harg2 arg3 harg3 arg4 harg4 arg5 harg5 arg6 harg6 arg7 harg7 arg8 harg8 arg9 harg9 arg10 harg10 x0 x1 x2 x3 x4 x5 = f := by
  unfold out1_0
  refine read_of (cover1_0 c i arg2 harg2 arg3 harg3 arg4 harg4 arg5 harg5 arg6 harg6 arg7 harg7 arg8 harg8 arg9 harg9 arg10 harg10 x0 x1 x2 x3 x4 x5) f ?_
  rw [queries_pieces]
  intro p hp x
  obtain ⟨a, _, rfl⟩ := List.mem_map.mp hp
  simp only [View.readAt_eq_ld, Memref.IsWhole.read_unread]
  rw [ld_all x0 _ _ (by decide), ld_all x1 _ _ (by decide), ld_all x4 _ _ (by decide)]
  exact hf a x

theorem keys_pieces : (kernelRun1 c i arg2 harg2 arg3 harg3 arg4 harg4 arg5 harg5 arg6 harg6 arg7 harg7 arg8 harg8 arg9 harg9 arg10 harg10 x0 x1 x2 x3 x4 x5).1.2.1
    = heads fun a => headValue a 0x3F800000#32 (product (rowsLoad arg2 harg2 x0)
        (arg4.view.readAt (Elt F) (Rect.unit (s := S1x4096x256) ![0, 0, 0] S1x4096x256.size inb_S1x4096x256_S1x4096x256_0_0_0).toLoadRect (harg4.unread x2)))
        (arg7.view.readAt (Elt F) (Rect.unit (s := S1x128) ![0, 0] S1x128.size inb_S1x128_S1x128_0_0).toLoadRect (harg7.unread x5)) := by
  sl_kernel_rfl

/-- The keys' output agrees with any contents with which both heads agree. -/
theorem out1_1_eq (f : Vec F S1024x256 .bf16)
    (hf : ∀ a x, headValue a 0x3F800000#32 (product x0 x2) x5 x = f ((headRect a).emb x)) :
    out1_1 c i arg2 harg2 arg3 harg3 arg4 harg4 arg5 harg5 arg6 harg6 arg7 harg7 arg8 harg8 arg9 harg9 arg10 harg10 x0 x1 x2 x3 x4 x5 = f := by
  unfold out1_1
  refine read_of (cover1_1 c i arg2 harg2 arg3 harg3 arg4 harg4 arg5 harg5 arg6 harg6 arg7 harg7 arg8 harg8 arg9 harg9 arg10 harg10 x0 x1 x2 x3 x4 x5) f ?_
  rw [keys_pieces]
  intro p hp x
  obtain ⟨a, _, rfl⟩ := List.mem_map.mp hp
  simp only [View.readAt_eq_ld, Memref.IsWhole.read_unread]
  rw [ld_all x0 _ _ (by decide), ld_all x2 _ _ (by decide), ld_all x5 _ _ (by decide)]
  exact hf a x

theorem values_pieces : (kernelRun1 c i arg2 harg2 arg3 harg3 arg4 harg4 arg5 harg5 arg6 harg6 arg7 harg7 arg8 harg8 arg9 harg9 arg10 harg10 x0 x1 x2 x3 x4 x5).1.2.2
    = [⟨Rect.unit (s := S1024x256) ![0, 0] S1024x256.size inb_S1024x256_S1024x256_0_0, truncf .bf16 (product (rowsLoad arg2 harg2 x0)
        (arg5.view.readAt (Elt F) (Rect.unit (s := S1x4096x256) ![0, 0, 0] S1x4096x256.size inb_S1x4096x256_S1x4096x256_0_0_0).toLoadRect (harg5.unread x3)))
        bitsLt_bf16_f32⟩] := by
  sl_kernel_rfl

/-- The values' output: the product itself. -/
theorem out1_2_eq : out1_2 c i arg2 harg2 arg3 harg3 arg4 harg4 arg5 harg5 arg6 harg6 arg7 harg7 arg8 harg8 arg9 harg9 arg10 harg10 x0 x1 x2 x3 x4 x5
    = truncf .bf16 (product x0 x3) bitsLt_bf16_f32 := by
  unfold out1_2
  refine read_of (cover1_2 c i arg2 harg2 arg3 harg3 arg4 harg4 arg5 harg5 arg6 harg6 arg7 harg7 arg8 harg8 arg9 harg9 arg10 harg10 x0 x1 x2 x3 x4 x5)
    (truncf .bf16 (product x0 x3) bitsLt_bf16_f32) ?_
  rw [values_pieces]
  intro p hp x
  obtain rfl := List.mem_singleton.mp hp
  simp only [View.readAt_eq_ld, Memref.IsWhole.read_unread]
  rw [ld_all x0 _ _ (by decide), ld_all x3 _ _ (by decide)]
  exact congrArg (truncf .bf16 (product x0 x3) bitsLt_bf16_f32) (emb_all (S := S1024x256) ![0, 0] _ (by decide) x).symm

end projections

end Cert.ProjectionsIdeal.Joined

end
-- ==== Proof.Maths.Projections.lean ====
module

public import proofs.«01_k».proof.Proof.Maths.FirstFeedForward

@[expose] public section

/-! The formulas of the attention's projections: every row of the images and of their context is modulated with its
    image's shift and scale, multiplied by the weights of the three parts, and cut into 32 heads of 128 entries. -/

noncomputable section

namespace Cert.Maths

open Idealize.ShloMosaic

/-- Row `i` modulated with its image's scale and shift. -/
def modulatedRow (t : Fin 9216 → Fin 4096 → EReal) (gain : Fin 4096 → EReal) (scale shift : Fin 8 → Fin 4096 → EReal)
    (i : Fin 9216) : Fin 4096 → EReal :=
  modulated (t i) gain (scale (imageOfRow i)) (shift (imageOfRow i))

/-- The weights' column of entry `d` of head `a` in part `p`: the queries, the keys or the values. -/
def partCol (p : Fin 3) (a : Fin 32) (d : Fin 128) : Fin 12288 := ⟨4096 * p.val + (128 * a.val + d.val), by omega⟩

/-- Head `a` of part `p` of one modulated row `h`. -/
def projected (h : Fin 4096 → EReal) (A : Fin 4096 → Fin 12288 → EReal) (p : Fin 3) (a : Fin 32) (d : Fin 128) : EReal :=
  ∑ e, h e * A e (partCol p a d)

/-- A head's entry over the root of the head's mean square, by the gain. -/
def headNormed (y gain : Fin 128 → EReal) (d : Fin 128) : EReal :=
  y d * Ideal.rsqrt (Ideal.div (∑ e, y e * y e) (Ideal.ofBits .f32 0x43000000#32) + Ideal.ofBits .f32 0x358637BD#32) * gain d

/-- The head that a column of a part belongs to, and the column's place in it. -/
def headOf (j : Fin 4096) : Fin 32 := ⟨j.val / 128, by omega⟩
def placeOf (j : Fin 4096) : Fin 128 := ⟨j.val % 128, by omega⟩

/-- Column `j` of part `p` with its heads normalised. -/
def normedPart (h : Fin 4096 → EReal) (A : Fin 4096 → Fin 12288 → EReal) (p : Fin 3) (gain : Fin 128 → EReal) (j : Fin 4096) : EReal :=
  headNormed (projected h A p (headOf j)) gain (placeOf j)

end Cert.Maths

end
-- ==== Proof.Projections.Values.lean ====
module

public import proofs.«01_k».proof.Proof.Projections.Stored
public import proofs.«01_k».proof.Proof.FeedForward.Values
public import proofs.«01_k».proof.Proof.Maths.Projections
public import Idealize.ShloMosaic.Lib.IdealHost

@[expose] public section

/-! What one step of each launch stores, entry by entry. The norm's step stores what the feed-forward's norm stores. -/

set_option maxRecDepth 65536

noncomputable section

namespace Cert.ProjectionsIdeal.Joined

open Idealize.ShloMosaic hiding ix1 ix2 ix3 ix4 ix5
open Idealize.ShloMosaic.TcCoe Idealize.ShloMosaic.Tactic
open Idealize.SL.Sem
open Cert.ProjectionsIdeal.Gen
open Idealize.ShloMosaic.ValueIdx

theorem pay0_at (x : Vec Ideal S512x4096 .f32) (g : Vec Ideal S1x4096 .f32) (scale shift : Vec Ideal S1x1x1x1x4096 .f32)
    (r : Fin 512) (j : Fin 4096) :
    k0_pay1 x g scale shift (ix2 r j)
      = Maths.modulated (fun e => x (ix2 r e)) (fun e => g (ix2 0 e)) (fun e => scale (ix5 0 0 0 0 e))
          (fun e => shift (ix5 0 0 0 0 e)) j :=
  Eq.trans (b := Cert.FeedForwardIdeal.Gen.k0_pay1 x g scale shift (ix2 r j)) (by sl_kernel_rfl)
    (Cert.FeedForwardIdeal.Joined.pay0_at x g scale shift r j)

/-! ## The projections -/

theorem cols_at (w : FVec Ideal S1x4096x256 .f32) (e : Fin 4096) (j : Fin 256) :
    shapeCast (α := Ideal .f32) S4096x256 w shapeCasts_S1x4096x256_S4096x256 (ix2 e j) = w (ix3 0 e j) := by
  refine shapeCast_apply _ _ _ _ ?_
  rw [Shape.rowMajor_val_two, Shape.rowMajor_val_three]
  show (0 * 4096 + e.val) * 256 + j.val = e.val * 256 + j.val
  omega

theorem product_at (h : Vec Ideal S1024x4096 .bf16) (w : Vec Ideal S1x4096x256 .f32) (r : Fin 1024) (j : Fin 256) :
    product h w (ix2 r j) = ∑ e : Fin 4096, (h (ix2 r e) : EReal) * w (ix3 0 e j) := by
  unfold product
  refine (Ideal.matmul_apply₁_of dot_S1024x4096_S4096x256_S1024x256_1_0_0_1_n_n rfl rfl _ _ _ (ix2 r j)
    (fun e => ix2 r e) (fun e => ix2 e j) ?_ ?_).trans ?_
  · intro e; funext x; refine Fin.ext ?_; fin_cases x <;> rfl
  · intro e; funext x; refine Fin.ext ?_; fin_cases x <;> rfl
  · rw [constant_apply]
    refine (congrArg (· + _) Ideal.ofBits_zero_f32).trans ((zero_add _).trans (Finset.sum_congr rfl fun e _ =>
      congrArg₂ (· * ·) (shapeCast_apply _ _ (ix2 r e) (ix2 r e) rfl) (cols_at w e j)))

/-- Column `d` of head `a` among a step's columns. -/
def headCol (a : Fin 2) (d : Fin 128) : Fin 256 := ⟨128 * a.val + d.val, by omega⟩

theorem headRect_emb (a : Fin 2) (r : Fin 1024) (d : Fin 128) : (headRect a).emb (ix2 r d) = ix2 r (headCol a d) :=
  funext fun z => Fin.ext (by
    match z with
    | ⟨0, _⟩ => show 0 + 1 * r.val = r.val; omega
    | ⟨1, _⟩ => show 128 * a.val + 1 * d.val = 128 * a.val + d.val; omega)

theorem slice_at (a : Fin 2) (y : FVec Ideal S1024x256 .f32) (r : Fin 1024) (d : Fin 128) :
    extractStridedSlice (α := Ideal .f32) S1024x128 ![0, 128 * a.val] y (head_slices a) (ix2 r d) = y (ix2 r (headCol a d)) := by
  refine extractStridedSlice_apply _ _ _ _ (ix2 r (headCol a d)) fun z => ?_
  match z with
  | ⟨0, _⟩ => show r.val = 0 + r.val; omega
  | ⟨1, _⟩ => rfl

theorem sums_at (x : FVec Ideal S1024x128 .f32) (h : S1024x128.Reduces [1] S1024) (hφ : FKind.Formats .f32) (hacc) (r : Fin 1024) :
    multiReduction .add [1] S1024 x 0x00000000#32 h hφ hacc (ix1 r) = ∑ d : Fin 128, (x (ix2 r d) : EReal) := by
  rw [Ideal.multiReduction_add_single]
  refine Finset.sum_congr rfl fun e _ => congrArg x (funext fun c => Fin.ext ?_)
  fin_cases c <;> rfl

theorem headSum_at (x : FVec Ideal S1024x128 .f32) (r : Fin 1024) (z : Fin 1) :
    headSum x (ix2 r z) = ∑ d : Fin 128, (x (ix2 r d) : EReal) := by
  refine (shapeCast_apply _ _ (ix2 r z) (ix1 r) ?_).trans (sums_at x _ _ _ r)
  rw [Shape.rowMajor_val_one, Shape.rowMajor_val_two]
  have := z.isLt
  show r.val = r.val * 1 + z.val
  omega

theorem column_at (x : FVec Ideal S1024x1 .f32) (r : Fin 1024) (d : Fin 128) :
    broadcastTo S1024x128 x broadcasts_S1024x1_S1024x128 (ix2 r d) = x (ix2 r 0) := by
  refine broadcastTo_apply _ _ _ _ fun c => ?_
  fin_cases c <;> rfl

theorem gain_at (g : FVec Ideal S1x128 .f32) (r : Fin 1024) (d : Fin 128) :
    broadcastTo S1024x128 (shapeCast (α := Ideal .f32) S1x128 g shapeCasts_S1x128_S1x128) broadcasts_S1x128_S1024x128 (ix2 r d)
      = g (ix2 0 d) := by
  refine (broadcastTo_apply _ _ _ (ix2 0 d) fun c => ?_).trans (shapeCast_apply _ _ _ _ rfl)
  fin_cases c <;> rfl

theorem headValue_at (a : Fin 2) (s : BitVec 32) (y : FVec Ideal S1024x256 .f32) (g : Vec Ideal S1x128 .f32) (r : Fin 1024) (d : Fin 128) :
    headValue a s y g (ix2 r d)
      = Maths.headNormed (fun d => y (ix2 r (headCol a d))) (fun d => g (ix2 0 d)) d * Ideal.ofBits .f32 s := by
  unfold headValue Maths.headNormed
  simp only [truncf_apply, addf_apply, mulf_apply, divf_apply, slice_at, column_at, headSum_at, gain_at,
    Cert.FeedForwardIdeal.Joined.rsqrt_at, Cert.FeedForwardIdeal.Joined.splat_at]

end Cert.ProjectionsIdeal.Joined

end
-- ==== Proof.Projections.Arrays.lean ====
module

public import proofs.«01_k».proof.Proof.Projections.Values
public import proofs.«01_k».proof.Proof.Blocks

@[expose] public section

/-! The arrays that each launch leaves, entry by entry, from the arrays it finds: the blocks of every step are read at
    their places in the whole arrays. -/

set_option maxRecDepth 65536

noncomputable section

namespace Cert.ProjectionsIdeal.Joined

open Idealize.ShloMosaic hiding ix1 ix2 ix3 ix4 ix5
open Idealize.ShloMosaic.TcCoe Idealize.ShloMosaic.Tactic
open Idealize.SL.Sem
open Cert.ProjectionsIdeal.Gen
open Cert.Blocks (place)
open Idealize.ShloMosaic.ValueIdx

variable (V : (c : Dev nD) → (b : Ref sig .tc) → Buf (Elt Ideal) ((c : Thread nD τ).loc b))

/-! ## The norm: step `t` works on rows `512 t …` -/

def normRow (t : Fin cfg0.N) (r : Fin 512) : Fin 9216 := ⟨512 * t.val + r.val, by have : t.val < 18 := t.isLt; omega⟩

theorem index0_0 : ∀ t : Fin grid0.N, win0_0.index t = ![t.val, 0] := by decide +kernel
theorem index0_1 : ∀ t : Fin grid0.N, win0_1.index t = ![0, 0] := by decide +kernel
theorem index0_2 : ∀ t : Fin grid0.N, win0_2.index t = ![0, t.val / 4, 3, 0, 0] := by decide +kernel
theorem index0_3 : ∀ t : Fin grid0.N, win0_3.index t = ![0, t.val / 4, 4, 0, 0] := by decide +kernel
theorem index0_4 : ∀ t : Fin grid0.N, win0_4.index t = ![t.val, 0] := by decide +kernel

theorem iblk0_0_at (c : Dev nD) (t : Fin cfg0.N) (r : Fin 512) (e : Fin 4096) :
    iblk0 V c 0 t (ix2 r e) = V c main_arg0 (ix2 (normRow t r) e) := by
  unfold iblk0
  refine congrArg (V c main_arg0) (place win0_0 rfl (index0_0 t) fun a => ?_)
  match a with
  | ⟨0, _⟩ => show t.val * 512 + 1 * r.val = 512 * t.val + r.val; omega
  | ⟨1, _⟩ => show 0 * 4096 + 1 * e.val = e.val; omega

theorem iblk0_1_at (c : Dev nD) (t : Fin cfg0.N) (e : Fin 4096) : iblk0 V c 1 t (ix2 0 e) = V c main_v2 (ix2 0 e) := by
  unfold iblk0
  refine congrArg (V c main_v2) (place win0_1 rfl (index0_1 t) fun a => ?_)
  match a with
  | ⟨0, _⟩ => rfl
  | ⟨1, _⟩ => show 0 * 4096 + 1 * e.val = e.val; omega

/-- Where a step's modulation of kind `k` lies in the modulation. -/
theorem mods_place (t : Fin cfg0.N) (r : Fin 512) (k : Fin 9) (e : Fin 4096) (n : Fin 5 → Nat) (hn : n = ![0, t.val / 4, k.val, 0, 0])
    (a : Fin 5) :
    n a * S1x1x1x1x4096.size a + 1 * (ix5 (0 : Fin 1) (0 : Fin 1) (0 : Fin 1) (0 : Fin 1) e a).val
      = (ix5 (0 : Fin 2) (Maths.imageOfRow (normRow t r)) k (0 : Fin 1) e a).val := by
  subst hn
  have := r.isLt
  match a with
  | ⟨0, _⟩ => rfl
  | ⟨1, _⟩ => show t.val / 4 * 1 + 1 * 0 = (512 * t.val + r.val) / 2048; omega
  | ⟨2, _⟩ => show k.val * 1 + 1 * 0 = k.val; omega
  | ⟨3, _⟩ => rfl
  | ⟨4, _⟩ => show 0 * 4096 + 1 * e.val = e.val; omega

theorem iblk0_2_at (c : Dev nD) (t : Fin cfg0.N) (r : Fin 512) (e : Fin 4096) :
    iblk0 V c 2 t (ix5 0 0 0 0 e) = V c main_arg1 (ix5 0 (Maths.imageOfRow (normRow t r)) 3 0 e) := by
  unfold iblk0
  exact congrArg (V c main_arg1) (place win0_2 rfl (index0_2 t) (mods_place t r 3 e _ rfl))

theorem iblk0_3_at (c : Dev nD) (t : Fin cfg0.N) (r : Fin 512) (e : Fin 4096) :
    iblk0 V c 3 t (ix5 0 0 0 0 e) = V c main_arg1 (ix5 0 (Maths.imageOfRow (normRow t r)) 4 0 e) := by
  unfold iblk0
  exact congrArg (V c main_arg1) (place win0_3 rfl (index0_3 t) (mods_place t r 4 e _ rfl))

/-- The modulated rows. -/
def normArray (x : S9216x4096.Idx → EReal) (g : S1x4096.Idx → EReal) (M : S2x8x9x1x4096.Idx → EReal) (y : S9216x4096.Idx) : EReal :=
  Maths.modulatedRow (fun a e => x (ix2 a e)) (fun e => g (ix2 0 e)) (fun b e => M (ix5 0 b 4 0 e)) (fun b e => M (ix5 0 b 3 0 e)) (y 0) (y 1)

theorem outsAt0_at (c : Dev nD) (t : Fin cfg0.N) (r : Fin 512) (j : Fin 4096) :
    outsAt0 V c t (ix2 r j) = normArray (V c main_arg0) (V c main_v2) (V c main_arg1) (ix2 (normRow t r) j) := by
  unfold outsAt0
  rw [out0_eq, pay0_at]
  unfold normArray Maths.modulatedRow
  show _ = Maths.modulated _ _ _ _ j
  congr 1
  · funext e; exact iblk0_0_at V c t r e
  · funext e; exact iblk0_1_at V c t e
  · funext e; exact iblk0_3_at V c t r e
  · funext e; exact iblk0_2_at V c t r e

theorem emb0_4 (t : Fin cfg0.N) (y : S512x4096.Idx) : (win0_4.rect t).emb y = ix2 (normRow t (y 0)) (y 1) :=
  place win0_4 rfl (index0_4 t) fun a => by
    match a with
    | ⟨0, _⟩ => show t.val * 512 + 1 * (y 0).val = 512 * t.val + (y 0).val; omega
    | ⟨1, _⟩ => show 0 * 4096 + 1 * (y 1).val = (y 1).val; omega

theorem arr0_4 (c : Dev nD) :
    (dat0 V c).arrAt 4 cfg0.N = normArray (V c main_arg0) (V c main_v2) (V c main_arg1) := by
  refine (dat0 V c).arrAt_eq_of_covers 4 _ (by decide +kernel) fun t hf y => ?_
  rw [after0_4]
  refine Eq.trans (b := outsAt0 V c t y) (by sl_kernel_rfl) (((congrArg (outsAt0 V c t) (ValueIdx.eq_ix2 y)).trans
    (outsAt0_at V c t (y 0) (y 1))).trans ?_)
  exact congrArg (normArray (V c main_arg0) (V c main_v2) (V c main_arg1))
    ((emb0_4 t y).symm.trans (show (win0_4.rect t).emb y = ((cfg0.win 4).blk t).view.emb y from rfl))

/-! ## The projections: step `t` works on rows `1024 (t mod 9) …` and columns `256 (t / 9) …` of every part -/

def outRow (t : Fin cfg1.N) (r : Fin 1024) : Fin 9216 := ⟨1024 * (t.val % 9) + r.val, by omega⟩
def outCol (t : Fin cfg1.N) (j : Fin 256) : Fin 4096 := ⟨256 * (t.val / 9) + j.val, by have : t.val < 144 := t.isLt; omega⟩

theorem index1_0 : ∀ t : Fin grid1.N, win1_0.index t = ![t.val % 9, 0] := by decide +kernel
theorem index1_1 : ∀ t : Fin grid1.N, win1_1.index t = ![0, 0, t.val / 9] := by decide +kernel
theorem index1_2 : ∀ t : Fin grid1.N, win1_2.index t = ![0, 0, t.val / 9 + 16] := by decide +kernel
theorem index1_3 : ∀ t : Fin grid1.N, win1_3.index t = ![0, 0, t.val / 9 + 32] := by decide +kernel
theorem index1_4 : ∀ t : Fin grid1.N, win1_4.index t = ![0, 0] := by decide +kernel
theorem index1_5 : ∀ t : Fin grid1.N, win1_5.index t = ![0, 0] := by decide +kernel
theorem index1_6 : ∀ t : Fin grid1.N, win1_6.index t = ![t.val % 9, t.val / 9] := by decide +kernel
theorem index1_7 : ∀ t : Fin grid1.N, win1_7.index t = ![t.val % 9, t.val / 9] := by decide +kernel
theorem index1_8 : ∀ t : Fin grid1.N, win1_8.index t = ![t.val % 9, t.val / 9] := by decide +kernel

theorem iblk1_0_at (c : Dev nD) (t : Fin cfg1.N) (r : Fin 1024) (e : Fin 4096) :
    iblk1 V c 0 t (ix2 r e) = V c main_v3 (ix2 (outRow t r) e) := by
  unfold iblk1
  refine congrArg (V c main_v3) (place win1_0 rfl (index1_0 t) fun a => ?_)
  match a with
  | ⟨0, _⟩ => show t.val % 9 * 1024 + 1 * r.val = 1024 * (t.val % 9) + r.val; omega
  | ⟨1, _⟩ => show 0 * 4096 + 1 * e.val = e.val; omega

/-- Where a step's columns of part `p` lie in the weights. -/
theorem part_place (t : Fin cfg1.N) (p : Fin 3) (e : Fin 4096) (y : Fin 256) (n : Fin 3 → Nat)
    (hn : n = ![0, 0, t.val / 9 + 16 * p.val]) (a : Fin 3) :
    n a * S1x4096x256.size a + 1 * (ix3 (0 : Fin 1) e y a).val
      = (ix3 (0 : Fin 1) e (Maths.partCol p (Maths.headOf (outCol t y)) (Maths.placeOf (outCol t y))) a).val := by
  subst hn
  match a with
  | ⟨0, _⟩ => rfl
  | ⟨1, _⟩ => show 0 * 4096 + 1 * e.val = e.val; omega
  | ⟨2, _⟩ =>
    show (t.val / 9 + 16 * p.val) * 256 + 1 * y.val
      = 4096 * p.val + (128 * ((256 * (t.val / 9) + y.val) / 128) + (256 * (t.val / 9) + y.val) % 128)
    omega

/-- Where a step's output lies. -/
theorem out_place (t : Fin cfg1.N) (y : S1024x256.Idx) (n : Fin 2 → Nat) (hn : n = ![t.val % 9, t.val / 9]) (a : Fin 2) :
    n a * S1024x256.size a + 1 * (y a).val = (ix2 (outRow t (y 0)) (outCol t (y 1)) a).val := by
  subst hn
  match a with
  | ⟨0, _⟩ => show t.val % 9 * 1024 + 1 * (y 0).val = 1024 * (t.val % 9) + (y 0).val; omega
  | ⟨1, _⟩ => show t.val / 9 * 256 + 1 * (y 1).val = 256 * (t.val / 9) + (y 1).val; omega

theorem iblk1_1_at (c : Dev nD) (t : Fin cfg1.N) (e : Fin 4096) (y : Fin 256) :
    iblk1 V c 1 t (ix3 0 e y)
      = V c main_arg3 (ix3 0 e (Maths.partCol 0 (Maths.headOf (outCol t y)) (Maths.placeOf (outCol t y)))) := by
  unfold iblk1
  exact congrArg (V c main_arg3) (place win1_1 rfl (index1_1 t) (part_place t 0 e y _ rfl))

theorem iblk1_2_at (c : Dev nD) (t : Fin cfg1.N) (e : Fin 4096) (y : Fin 256) :
    iblk1 V c 2 t (ix3 0 e y)
      = V c main_arg3 (ix3 0 e (Maths.partCol 1 (Maths.headOf (outCol t y)) (Maths.placeOf (outCol t y)))) := by
  unfold iblk1
  exact congrArg (V c main_arg3) (place win1_2 rfl (index1_2 t) (part_place t 1 e y _ rfl))

theorem iblk1_3_at (c : Dev nD) (t : Fin cfg1.N) (e : Fin 4096) (y : Fin 256) :
    iblk1 V c 3 t (ix3 0 e y)
      = V c main_arg3 (ix3 0 e (Maths.partCol 2 (Maths.headOf (outCol t y)) (Maths.placeOf (outCol t y)))) := by
  unfold iblk1
  exact congrArg (V c main_arg3) (place win1_3 rfl (index1_3 t) (part_place t 2 e y _ rfl))

theorem iblk1_4_at (c : Dev nD) (t : Fin cfg1.N) (d : Fin 128) : iblk1 V c 4 t (ix2 0 d) = V c main_v5 (ix2 0 d) := by
  unfold iblk1
  refine congrArg (V c main_v5) (place win1_4 rfl (index1_4 t) fun a => ?_)
  match a with
  | ⟨0, _⟩ => rfl
  | ⟨1, _⟩ => show 0 * 128 + 1 * d.val = d.val; omega

theorem iblk1_5_at (c : Dev nD) (t : Fin cfg1.N) (d : Fin 128) : iblk1 V c 5 t (ix2 0 d) = V c main_v7 (ix2 0 d) := by
  unfold iblk1
  refine congrArg (V c main_v7) (place win1_5 rfl (index1_5 t) fun a => ?_)
  match a with
  | ⟨0, _⟩ => rfl
  | ⟨1, _⟩ => show 0 * 128 + 1 * d.val = d.val; omega

/-- A part with its heads normalised and scaled by the word `s`. -/
def normedArray (p : Fin 3) (s : BitVec 32) (h : S9216x4096.Idx → EReal) (A : S1x4096x12288.Idx → EReal) (g : S1x128.Idx → EReal)
    (y : S9216x4096.Idx) : EReal :=
  Maths.normedPart (fun e => h (ix2 (y 0) e)) (fun e k => A (ix3 0 e k)) p (fun d => g (ix2 0 d)) (y 1) * Ideal.ofBits .f32 s

/-- The values. -/
def valueArray (h : S9216x4096.Idx → EReal) (A : S1x4096x12288.Idx → EReal) (y : S9216x4096.Idx) : EReal :=
  Maths.projected (fun e => h (ix2 (y 0) e)) (fun e k => A (ix3 0 e k)) 2 (Maths.headOf (y 1)) (Maths.placeOf (y 1))

theorem headOf_outCol (t : Fin cfg1.N) (a : Fin 2) (d d' : Fin 128) :
    Maths.headOf (outCol t (headCol a d)) = Maths.headOf (outCol t (headCol a d')) := Fin.ext (by
  show (256 * (t.val / 9) + (128 * a.val + d.val)) / 128 = (256 * (t.val / 9) + (128 * a.val + d'.val)) / 128
  omega)

theorem placeOf_outCol (t : Fin cfg1.N) (a : Fin 2) (d : Fin 128) : Maths.placeOf (outCol t (headCol a d)) = d := Fin.ext (by
  show (256 * (t.val / 9) + (128 * a.val + d.val)) % 128 = d.val
  omega)

/-- A head of a step, computed from the step's columns `y` and gain `u`, is the array's. -/
theorem head_eq {p : Fin 3} {s : BitVec 32} (h : S9216x4096.Idx → EReal) (A : S1x4096x12288.Idx → EReal) (g : S1x128.Idx → EReal)
    (t : Fin cfg1.N) (a : Fin 2) (r : Fin 1024) (d : Fin 128) (y u : Fin 128 → EReal)
    (hy : ∀ d, y d = ∑ e : Fin 4096, h (ix2 (outRow t r) e)
      * A (ix3 0 e (Maths.partCol p (Maths.headOf (outCol t (headCol a d))) (Maths.placeOf (outCol t (headCol a d))))))
    (hu : ∀ d, u d = g (ix2 0 d)) :
    Maths.headNormed y u d * Ideal.ofBits .f32 s = normedArray p s h A g (ix2 (outRow t r) (outCol t (headCol a d))) := by
  have hp : y = Maths.projected (fun e => h (ix2 (outRow t r) e)) (fun e k => A (ix3 0 e k)) p (Maths.headOf (outCol t (headCol a d))) :=
    funext fun d' => by rw [hy d', placeOf_outCol, headOf_outCol t a d' d]; rfl
  rw [hp, funext hu]
  show _ = Maths.headNormed _ _ (Maths.placeOf (outCol t (headCol a d))) * _
  rw [placeOf_outCol]

theorem outsAt1_0_eq (c : Dev nD) (t : Fin cfg1.N) :
    outsAt1_0 V c t = fun y => normedArray 0 0x3DB504F3#32 (V c main_v3) (V c main_arg3) (V c main_v5) (ix2 (outRow t (y 0)) (outCol t (y 1))) := by
  unfold outsAt1_0
  refine out1_0_eq c _ _ _ _ _ _ _ _ _ _ _ _ _ _ _ _ _ _ _ _ _ _ _ _ _ _ fun a x => ?_
  obtain ⟨r, d, rfl⟩ : ∃ (r : Fin 1024) (d : Fin 128), x = ix2 r d := ⟨x 0, x 1, ValueIdx.eq_ix2 x⟩
  rw [headValue_at, headRect_emb]
  refine head_eq _ _ _ t a r d _ _ (fun d => (product_at _ _ r (headCol a d)).trans ?_) (fun d => iblk1_4_at V c t d)
  exact Finset.sum_congr rfl fun e _ => congrArg₂ (· * ·) (iblk1_0_at V c t r e) (iblk1_1_at V c t e (headCol a d))

theorem arr1_6 (c : Dev nD) : (dat1 V c).arrAt 6 cfg1.N = normedArray 0 0x3DB504F3#32 (V c main_v3) (V c main_arg3) (V c main_v5) := by
  refine (dat1 V c).arrAt_eq_of_covers 6 _ (by decide +kernel) fun t hf y => ?_
  rw [after1_6]
  refine Eq.trans (b := outsAt1_0 V c t y) (by sl_kernel_rfl) ((congrFun (outsAt1_0_eq V c t) y).trans ?_)
  refine congrArg (normedArray 0 0x3DB504F3#32 (V c main_v3) (V c main_arg3) (V c main_v5)) (Eq.symm ((show _ = (win1_6.rect t).emb y from rfl).trans (funext fun a => Fin.ext ?_)))
  exact (show _ = win1_6.index t a * S1024x256.size a + 1 * (y a).val from rfl).trans (out_place t y _ (index1_6 t) a)

theorem outsAt1_1_eq (c : Dev nD) (t : Fin cfg1.N) :
    outsAt1_1 V c t = fun y => normedArray 1 0x3F800000#32 (V c main_v3) (V c main_arg3) (V c main_v7) (ix2 (outRow t (y 0)) (outCol t (y 1))) := by
  unfold outsAt1_1
  refine out1_1_eq c _ _ _ _ _ _ _ _ _ _ _ _ _ _ _ _ _ _ _ _ _ _ _ _ _ _ fun a x => ?_
  obtain ⟨r, d, rfl⟩ : ∃ (r : Fin 1024) (d : Fin 128), x = ix2 r d := ⟨x 0, x 1, ValueIdx.eq_ix2 x⟩
  rw [headValue_at, headRect_emb]
  refine head_eq _ _ _ t a r d _ _ (fun d => (product_at _ _ r (headCol a d)).trans ?_) (fun d => iblk1_5_at V c t d)
  exact Finset.sum_congr rfl fun e _ => congrArg₂ (· * ·) (iblk1_0_at V c t r e) (iblk1_2_at V c t e (headCol a d))

theorem arr1_7 (c : Dev nD) : (dat1 V c).arrAt 7 cfg1.N = normedArray 1 0x3F800000#32 (V c main_v3) (V c main_arg3) (V c main_v7) := by
  refine (dat1 V c).arrAt_eq_of_covers 7 _ (by decide +kernel) fun t hf y => ?_
  rw [after1_7]
  refine Eq.trans (b := outsAt1_1 V c t y) (by sl_kernel_rfl) ((congrFun (outsAt1_1_eq V c t) y).trans ?_)
  refine congrArg (normedArray 1 0x3F800000#32 (V c main_v3) (V c main_arg3) (V c main_v7)) (Eq.symm ((show _ = (win1_7.rect t).emb y from rfl).trans (funext fun a => Fin.ext ?_)))
  exact (show _ = win1_7.index t a * S1024x256.size a + 1 * (y a).val from rfl).trans (out_place t y _ (index1_7 t) a)

theorem outsAt1_2_eq (c : Dev nD) (t : Fin cfg1.N) :
    outsAt1_2 V c t = fun y => valueArray (V c main_v3) (V c main_arg3) (ix2 (outRow t (y 0)) (outCol t (y 1))) := by
  unfold outsAt1_2
  rw [out1_2_eq]
  funext y
  obtain ⟨r, j, rfl⟩ : ∃ (r : Fin 1024) (j : Fin 256), y = ix2 r j := ⟨y 0, y 1, ValueIdx.eq_ix2 y⟩
  rw [truncf_apply, product_at]
  exact Finset.sum_congr rfl fun e _ => congrArg₂ (fun a b : EReal => a * b) (iblk1_0_at V c t r e) (iblk1_3_at V c t e j)

theorem arr1_8 (c : Dev nD) : (dat1 V c).arrAt 8 cfg1.N = valueArray (V c main_v3) (V c main_arg3) := by
  refine (dat1 V c).arrAt_eq_of_covers 8 _ (by decide +kernel) fun t hf y => ?_
  rw [after1_8]
  refine Eq.trans (b := outsAt1_2 V c t y) (by sl_kernel_rfl) ((congrFun (outsAt1_2_eq V c t) y).trans ?_)
  refine congrArg (valueArray (V c main_v3) (V c main_arg3)) (Eq.symm ((show _ = (win1_8.rect t).emb y from rfl).trans (funext fun a => Fin.ext ?_)))
  exact (show _ = win1_8.index t a * S1024x256.size a + 1 * (y a).val from rfl).trans (out_place t y _ (index1_8 t) a)

end Cert.ProjectionsIdeal.Joined

end
-- ==== Proof.Projections.Result.lean ====
module

public import proofs.«01_k».proof.Proof.Projections.Arrays

@[expose] public section

/-! The three arrays that the two launches leave together, from the arguments as launched. -/

set_option maxRecDepth 65536

noncomputable section

namespace Cert.ProjectionsIdeal.Joined

open Idealize.ShloMosaic hiding ix1 ix2 ix3 ix4 ix5
open Idealize.ShloMosaic.TcCoe Idealize.ShloMosaic.Tactic
open Idealize.SL.Sem
open Cert.ProjectionsIdeal.Gen
open Cert.Launches (stepW_arr stepW_of_ne stepW_of)
open Idealize.ShloMosaic.ValueIdx

variable (m : (ℓ : Loc nD τ sig) → Buf (Elt Ideal) ℓ) (ρ : Dev nD → PrngReg)

/-- The gain's row: entry `(0, 1)` of the norms' gains. -/
theorem gain_row (c : Dev nD) (e : Fin 4096) :
    V1 m ρ c main_v2 (ix2 0 e) = m ((c : Thread nD τ).loc main_arg2) (ix3 0 1 e) := by
  have h : V1 m ρ c main_v2
      = shapeCast S1x4096 (shapeCast S4096 (extractStridedSlice S1x1x4096 ![0, 1, 0] (m ((c : Thread nD τ).loc main_arg2))
          slices_S2x3x4096_S1x1x4096_0_1_0) shapeCasts_S1x1x4096_S4096) shapeCasts_S4096_S1x4096 := by
    rfl
  rw [h]
  refine (shapeCast_apply _ _ (ix2 0 e) (ix1 e) ?_).trans ((shapeCast_apply _ _ (ix1 e) (ix3 0 0 e) ?_).trans
    (extractStridedSlice_apply _ _ _ _ (ix3 0 1 e) fun a => ?_))
  · rw [Shape.rowMajor_val_one, Shape.rowMajor_val_two]; show e.val = 0 * 4096 + e.val; omega
  · rw [Shape.rowMajor_val_one, Shape.rowMajor_val_three]; show (0 * 1 + 0) * 4096 + e.val = e.val; omega
  · match a with
    | ⟨0, _⟩ => rfl
    | ⟨1, _⟩ => rfl
    | ⟨2, _⟩ => show e.val = 0 + e.val; omega

/-! The heads' gains. -/

theorem v5_row (c : Dev nD) (d : Fin 128) :
    V3 m ρ c main_v5 (ix2 0 d) = m ((c : Thread nD τ).loc main_arg4) (ix2 0 d) := by
  have h : V3 m ρ c main_v5 = shapeCast S1x128 (shapeCast S128 (V2 m ρ c main_arg4) shapeCasts_S1x128_S128) shapeCasts_S128_S1x128 := by
    rfl
  rw [h, show V2 m ρ c main_arg4 = m ((c : Thread nD τ).loc main_arg4) from W2_args m ρ c _ (by decide)]
  refine (shapeCast_apply _ _ (ix2 0 d) (ix1 d) ?_).trans (shapeCast_apply _ _ (ix1 d) (ix2 0 d) ?_)
  · rw [Shape.rowMajor_val_one, Shape.rowMajor_val_two]; show d.val = 0 * 128 + d.val; omega
  · rw [Shape.rowMajor_val_one, Shape.rowMajor_val_two]; show 0 * 128 + d.val = d.val; omega

theorem v7_row (c : Dev nD) (d : Fin 128) :
    V3 m ρ c main_v7 (ix2 0 d) = m ((c : Thread nD τ).loc main_arg5) (ix2 0 d) := by
  have h : V3 m ρ c main_v7 = shapeCast S1x128 (shapeCast S128 (V2 m ρ c main_arg5) shapeCasts_S1x128_S128) shapeCasts_S128_S1x128 := by
    rfl
  rw [h, show V2 m ρ c main_arg5 = m ((c : Thread nD τ).loc main_arg5) from W2_args m ρ c _ (by decide)]
  refine (shapeCast_apply _ _ (ix2 0 d) (ix1 d) ?_).trans (shapeCast_apply _ _ (ix1 d) (ix2 0 d) ?_)
  · rw [Shape.rowMajor_val_one, Shape.rowMajor_val_two]; show d.val = 0 * 128 + d.val; omega
  · rw [Shape.rowMajor_val_one, Shape.rowMajor_val_two]; show 0 * 128 + d.val = d.val; omega

/-- Row `i` modulated, from the arguments. -/
def modRow (c : Dev nD) : Fin 9216 → Fin 4096 → EReal :=
  Maths.modulatedRow (fun a e => m ((c : Thread nD τ).loc main_arg0) (ix2 a e)) (fun e => m ((c : Thread nD τ).loc main_arg2) (ix3 0 1 e))
    (fun b e => m ((c : Thread nD τ).loc main_arg1) (ix5 0 b 4 0 e)) (fun b e => m ((c : Thread nD τ).loc main_arg1) (ix5 0 b 3 0 e))

theorem rows_at (c : Dev nD) (i : Fin 9216) : (fun e => V3 m ρ c main_v3 (ix2 i e)) = modRow m c i := by
  have n0 : V1 m ρ c main_arg0 = m ((c : Thread nD τ).loc main_arg0) := W1_args m ρ c _ (by decide)
  have n1 : V1 m ρ c main_arg1 = m ((c : Thread nD τ).loc main_arg1) := W1_args m ρ c _ (by decide)
  have v3 : V3 m ρ c main_v3 = normArray (V1 m ρ c main_arg0) (V1 m ρ c main_v2) (V1 m ρ c main_arg1) :=
    (W3_of m ρ c main_v3 (by decide)).trans
      ((stepW_arr sharedIn0 _ (dat0 (V1 m ρ)) (A_eq0 (V1 m ρ)) c 4).trans (arr0_4 (V1 m ρ) c))
  rw [v3, n0, n1]
  funext e
  show Maths.modulatedRow _ _ _ _ i e = _
  unfold modRow
  rw [funext (gain_row m ρ c)]

theorem weights (c : Dev nD) : V3 m ρ c main_arg3 = m ((c : Thread nD τ).loc main_arg3) := W3_args m ρ c _ (by decide)

/-- The queries' entry `(i, j)`. -/
theorem queries_at (c : Dev nD) (i : Fin 9216) (j : Fin 4096) :
    (dat1 (V3 m ρ) c).arrAt 6 cfg1.N (ix2 i j)
      = Maths.normedPart (modRow m c i) (fun e k => m ((c : Thread nD τ).loc main_arg3) (ix3 0 e k)) 0
          (fun d => m ((c : Thread nD τ).loc main_arg4) (ix2 0 d)) j * Ideal.ofBits .f32 0x3DB504F3#32 := by
  rw [arr1_6, weights]
  show Maths.normedPart (fun e => V3 m ρ c main_v3 (ix2 i e)) _ 0 _ j * _ = _
  rw [rows_at, funext (v5_row m ρ c)]

/-- The keys' entry `(i, j)`. -/
theorem keys_at (c : Dev nD) (i : Fin 9216) (j : Fin 4096) :
    (dat1 (V3 m ρ) c).arrAt 7 cfg1.N (ix2 i j)
      = Maths.normedPart (modRow m c i) (fun e k => m ((c : Thread nD τ).loc main_arg3) (ix3 0 e k)) 1
          (fun d => m ((c : Thread nD τ).loc main_arg5) (ix2 0 d)) j := by
  rw [arr1_7, weights]
  show Maths.normedPart (fun e => V3 m ρ c main_v3 (ix2 i e)) _ 1 _ j * Ideal.ofBits .f32 0x3F800000#32 = _
  rw [rows_at, funext (v7_row m ρ c), Ideal.ofBits_one_f32, mul_one]

/-- The values' entry `(i, j)`. -/
theorem values_at (c : Dev nD) (i : Fin 9216) (j : Fin 4096) :
    (dat1 (V3 m ρ) c).arrAt 8 cfg1.N (ix2 i j)
      = Maths.projected (modRow m c i) (fun e k => m ((c : Thread nD τ).loc main_arg3) (ix3 0 e k)) 2 (Maths.headOf j) (Maths.placeOf j) := by
  rw [arr1_8, weights]
  show Maths.projected (fun e => V3 m ρ c main_v3 (ix2 i e)) _ 2 _ _ = _
  rw [rows_at]

end Cert.ProjectionsIdeal.Joined

end
-- ==== Proof.Projections.ReferenceRows.lean ====
module

public import proofs.«01_k».proof.Proof.Maths.Projections
public import proofs.«01_k».proof.Proof.Gen.ProjectionsReferenceIdeal.Read
public import Idealize.ShloMosaic.Lib.Pointwise

@[expose] public section

/-! The modulated rows of the projections' reference, entry by entry: the images' rows, then the context's. -/

set_option maxRecDepth 65536

noncomputable section

namespace Cert.ProjectionsReferenceIdeal.Reading

open Idealize.ShloMosaic hiding ix1 ix2 ix3 ix4 ix5
open Idealize.ShloMosaic.TcCoe
open Cert.ProjectionsReferenceIdeal Cert.ProjectionsReferenceIdeal.Gen Cert.ProjectionsReferenceIdeal.Read
open Idealize.ShloMosaic.ValueIdx

abbrev Rows := (⟨S9216x4096, .f32⟩ : BufTy).Contents (Elt Ideal)
abbrev Mods := (⟨S2x8x9x1x4096, .f32⟩ : BufTy).Contents (Elt Ideal)
abbrev Gains := (⟨S2x3x4096, .f32⟩ : BufTy).Contents (Elt Ideal)

/-- Row `i` modulated. -/
def modRow (x0 : Rows) (x1 : Mods) (x2 : Gains) : Fin 9216 → Fin 4096 → EReal :=
  Maths.modulatedRow (fun a e => x0 (ix2 a e)) (fun e => x2 (ix3 0 1 e)) (fun b e => x1 (ix5 0 b 4 0 e)) (fun b e => x1 (ix5 0 b 3 0 e))

namespace Images

/-- Row `s` of image `b`, among all rows. -/
def row (b : Fin 4) (s : Fin 2048) : Fin 9216 := ⟨2048 * b.val + s.val, by omega⟩

theorem rows_at (x0 : Rows) (b : Fin 4) (s : Fin 2048) (e : Fin 4096) :
    val_main_v1 (F := Ideal) x0 (ix3 b s e) = x0 (ix2 (row b s) e) := by
  rw [val_main_v1_apply, val_main_v0_apply]
  refine congrArg x0 (funext fun z => Fin.ext ?_)
  match z with
  | ⟨0, _⟩ => show ((b.val * 2048 + s.val) * 4096 + e.val) / 4096 = 2048 * b.val + s.val; omega
  | ⟨1, _⟩ => show ((b.val * 2048 + s.val) * 4096 + e.val) % 4096 = e.val; omega

theorem gain_at (x2 : Gains) (b : Fin 4) (s : Fin 2048) (e : Fin 4096) :
    val_main_v17 (F := Ideal) x2 (ix3 b s e) = x2 (ix3 0 1 e) := by
  rw [val_main_v17_apply, val_main_v16_apply, val_main_v5_apply, val_main_v4_apply]
  refine congrArg x2 (funext fun z => Fin.ext ?_)
  match z with
  | ⟨0, _⟩ => rfl
  | ⟨1, _⟩ => rfl
  | ⟨2, _⟩ => show e.val % 4096 = e.val; omega

/-- Image `b` among the modulation's. -/
def image (b : Fin 4) : Fin 8 := ⟨b.val, by omega⟩

theorem mods_at (x1 : Mods) (b : Fin 4) (k : Fin 9) (e : Fin 4096) :
    val_main_v3 (F := Ideal) x1 (ix4 b k 0 e) = x1 (ix5 0 (image b) k 0 e) := by
  rw [val_main_v3_apply, val_main_v2_apply]
  refine congrArg x1 (funext fun z => Fin.ext ?_)
  match z with
  | ⟨0, _⟩ => rfl
  | ⟨1, _⟩ => show (((b.val * 9 + k.val) * 1 + 0) * 4096 + e.val) / 36864 % 4 = b.val; omega
  | ⟨2, _⟩ => show (((b.val * 9 + k.val) * 1 + 0) * 4096 + e.val) / 4096 % 9 = k.val; omega
  | ⟨3, _⟩ => rfl
  | ⟨4, _⟩ => show (((b.val * 9 + k.val) * 1 + 0) * 4096 + e.val) % 4096 = e.val; omega

theorem shift_at (x1 : Mods) (b : Fin 4) (s : Fin 2048) (e : Fin 4096) :
    val_main_v27 (F := Ideal) x1 (ix3 b s e) = x1 (ix5 0 (image b) 3 0 e) := by
  rw [val_main_v27_apply, val_main_v26_apply, val_main_v25_apply]
  refine Eq.trans (congrArg _ (funext fun z => Fin.ext ?_)) (mods_at x1 b 3 e)
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

theorem scale_at (x1 : Mods) (b : Fin 4) (s : Fin 2048) (e : Fin 4096) :
    val_main_v23 (F := Ideal) x1 (ix3 b s e) = Ideal.ofBits .f32 0x3F800000#32 + x1 (ix5 0 (image b) 4 0 e) := by
  rw [val_main_v23_apply, val_main_v22_apply, val_main_v21_apply, val_main_cst_2_apply, val_main_v20_apply,
    val_main_v19_apply]
  refine congrArg (Ideal.ofBits .f32 0x3F800000#32 + ·) (Eq.trans (congrArg _ (funext fun z => Fin.ext ?_)) (mods_at x1 b 4 e))
  match z with
  | ⟨0, _⟩ => show ((b.val * 1 + 0) * 4096 + e.val) / 4096 = b.val; omega
  | ⟨1, _⟩ => rfl
  | ⟨2, _⟩ => rfl
  | ⟨3, _⟩ => show ((b.val * 1 + 0) * 4096 + e.val) % 4096 = e.val; omega

/-- The sum of a row's squares. -/
theorem squares_at (x0 : Rows) (b : Fin 4) (s : Fin 2048) :
    val_main_v7 (F := Ideal) x0 (ix2 b s) = ∑ e : Fin 4096, (x0 (ix2 (row b s) e) : EReal) * x0 (ix2 (row b s) e) := by
  rw [val_main_v7_apply, val_main_cst_apply]
  refine (congrArg (· + _) Ideal.ofBits_zero_f32).trans ((zero_add _).trans (Finset.sum_congr rfl fun e _ => ?_))
  have h : val_main_v1 (F := Ideal) x0 (idx_main_v7 (ix2 b s) e) = x0 (ix2 (row b s) e) := by
    refine Eq.trans (congrArg _ (funext fun z => Fin.ext ?_)) (rows_at x0 b s e)
    fin_cases z <;> rfl
  rw [val_main_v6_apply, h]; rfl

theorem root_at (x0 : Rows) (b : Fin 4) (s : Fin 2048) (e : Fin 4096) :
    val_main_v14 (F := Ideal) x0 (ix3 b s e)
      = Ideal.rsqrt (Ideal.div (∑ e : Fin 4096, (x0 (ix2 (row b s) e) : EReal) * x0 (ix2 (row b s) e))
          (Ideal.ofBits .f32 0x45800000#32) + Ideal.ofBits .f32 0x358637BD#32) := by
  rw [val_main_v14_apply, val_main_v13_apply, val_main_v12_apply, val_main_v11_apply, val_main_cst_1_apply, val_main_v10_apply,
    val_main_v9_apply, val_main_cst_0_apply, val_main_v8_apply]
  refine congrArg (fun q => Ideal.rsqrt (Ideal.div q (Ideal.ofBits .f32 0x45800000#32) + Ideal.ofBits .f32 0x358637BD#32))
    (Eq.trans (congrArg _ (funext fun z => Fin.ext ?_)) (squares_at x0 b s))
  fin_cases z <;> rfl

theorem modulated_at (x0 : Rows) (x1 : Mods) (x2 : Gains) (b : Fin 4) (s : Fin 2048) (e : Fin 4096) :
    val_main_v28 (F := Ideal) x0 x1 x2 (ix3 b s e) = modRow x0 x1 x2 (row b s) e := by
  have hg : Maths.imageOfRow (row b s) = (image b) := Fin.ext (by
    show (2048 * b.val + s.val) / 2048 = b.val; omega)
  unfold modRow Maths.modulatedRow
  rw [hg, val_main_v28_apply, val_main_v24_apply, val_main_v18_apply, val_main_v15_apply, rows_at, root_at, gain_at,
    scale_at, shift_at]
  rfl

theorem joined_at (x0 : Rows) (x1 : Mods) (x2 : Gains) (i : Fin 8192) (b : Fin 4) (s : Fin 2048) (hi : i.val = 2048 * b.val + s.val)
    (e : Fin 4096) :
    val_main_v58 (F := Ideal) x0 x1 x2 (ix2 i e) = modRow x0 x1 x2 (row b s) e := by
  rw [val_main_v58_apply]
  refine Eq.trans (congrArg _ (funext fun z => Fin.ext ?_)) (modulated_at x0 x1 x2 b s e)
  have hb := b.isLt
  have hs := s.isLt
  have he := e.isLt
  match z with
  | ⟨0, _⟩ => show (i.val * 4096 + e.val) / 8388608 = b.val; omega
  | ⟨1, _⟩ => show (i.val * 4096 + e.val) / 4096 % 2048 = s.val; omega
  | ⟨2, _⟩ => show (i.val * 4096 + e.val) % 4096 = e.val; omega

end Images

namespace Context

/-- Row `s` of image `b`'s context, among all rows. -/
def row (b : Fin 4) (s : Fin 256) : Fin 9216 := ⟨8192 + 256 * b.val + s.val, by omega⟩

theorem rows_at (x0 : Rows) (b : Fin 4) (s : Fin 256) (e : Fin 4096) :
    val_main_v30 (F := Ideal) x0 (ix3 b s e) = x0 (ix2 (row b s) e) := by
  rw [val_main_v30_apply, val_main_v29_apply]
  refine congrArg x0 (funext fun z => Fin.ext ?_)
  match z with
  | ⟨0, _⟩ => show 8192 + ((b.val * 256 + s.val) * 4096 + e.val) / 4096 = 8192 + 256 * b.val + s.val; omega
  | ⟨1, _⟩ => show ((b.val * 256 + s.val) * 4096 + e.val) % 4096 = e.val; omega

theorem gain_at (x2 : Gains) (b : Fin 4) (s : Fin 256) (e : Fin 4096) :
    val_main_v46 (F := Ideal) x2 (ix3 b s e) = x2 (ix3 0 1 e) := by
  rw [val_main_v46_apply, val_main_v45_apply, val_main_v34_apply, val_main_v33_apply]
  refine congrArg x2 (funext fun z => Fin.ext ?_)
  match z with
  | ⟨0, _⟩ => rfl
  | ⟨1, _⟩ => rfl
  | ⟨2, _⟩ => show e.val % 4096 = e.val; omega

theorem mods_at (x1 : Mods) (k : Fin 9) (e : Fin 4096) :
    val_main_v32 (F := Ideal) x1 (ix4 0 k 0 e) = x1 (ix5 0 4 k 0 e) := by
  rw [val_main_v32_apply, val_main_v31_apply]
  refine congrArg x1 (funext fun z => Fin.ext ?_)
  match z with
  | ⟨0, _⟩ => rfl
  | ⟨1, _⟩ => rfl
  | ⟨2, _⟩ => show (((0 * 9 + k.val) * 1 + 0) * 4096 + e.val) / 4096 % 9 = k.val; omega
  | ⟨3, _⟩ => rfl
  | ⟨4, _⟩ => show (((0 * 9 + k.val) * 1 + 0) * 4096 + e.val) % 4096 = e.val; omega

theorem shift_at (x1 : Mods) (b : Fin 4) (s : Fin 256) (e : Fin 4096) :
    val_main_v56 (F := Ideal) x1 (ix3 b s e) = x1 (ix5 0 4 3 0 e) := by
  rw [val_main_v56_apply, val_main_v55_apply, val_main_v54_apply]
  refine Eq.trans (congrArg _ (funext fun z => Fin.ext ?_)) (mods_at x1 3 e)
  match z with
  | ⟨0, _⟩ => rfl
  | ⟨1, _⟩ => rfl
  | ⟨2, _⟩ => rfl
  | ⟨3, _⟩ => show ((0 * 1 + 0) * 4096 + e.val) % 4096 = e.val; omega

theorem scale_at (x1 : Mods) (b : Fin 4) (s : Fin 256) (e : Fin 4096) :
    val_main_v52 (F := Ideal) x1 (ix3 b s e) = Ideal.ofBits .f32 0x3F800000#32 + x1 (ix5 0 4 4 0 e) := by
  rw [val_main_v52_apply, val_main_v51_apply, val_main_v50_apply, val_main_cst_6_apply, val_main_v49_apply,
    val_main_v48_apply]
  refine congrArg (Ideal.ofBits .f32 0x3F800000#32 + ·) (Eq.trans (congrArg _ (funext fun z => Fin.ext ?_)) (mods_at x1 4 e))
  match z with
  | ⟨0, _⟩ => rfl
  | ⟨1, _⟩ => rfl
  | ⟨2, _⟩ => rfl
  | ⟨3, _⟩ => show ((0 * 1 + 0) * 4096 + e.val) % 4096 = e.val; omega

/-- The sum of a row's squares. -/
theorem squares_at (x0 : Rows) (b : Fin 4) (s : Fin 256) :
    val_main_v36 (F := Ideal) x0 (ix2 b s) = ∑ e : Fin 4096, (x0 (ix2 (row b s) e) : EReal) * x0 (ix2 (row b s) e) := by
  rw [val_main_v36_apply, val_main_cst_3_apply]
  refine (congrArg (· + _) Ideal.ofBits_zero_f32).trans ((zero_add _).trans (Finset.sum_congr rfl fun e _ => ?_))
  have h : val_main_v30 (F := Ideal) x0 (idx_main_v36 (ix2 b s) e) = x0 (ix2 (row b s) e) := by
    refine Eq.trans (congrArg _ (funext fun z => Fin.ext ?_)) (rows_at x0 b s e)
    fin_cases z <;> rfl
  rw [val_main_v35_apply, h]; rfl

theorem root_at (x0 : Rows) (b : Fin 4) (s : Fin 256) (e : Fin 4096) :
    val_main_v43 (F := Ideal) x0 (ix3 b s e)
      = Ideal.rsqrt (Ideal.div (∑ e : Fin 4096, (x0 (ix2 (row b s) e) : EReal) * x0 (ix2 (row b s) e))
          (Ideal.ofBits .f32 0x45800000#32) + Ideal.ofBits .f32 0x358637BD#32) := by
  rw [val_main_v43_apply, val_main_v42_apply, val_main_v41_apply, val_main_v40_apply, val_main_cst_5_apply, val_main_v39_apply,
    val_main_v38_apply, val_main_cst_4_apply, val_main_v37_apply]
  refine congrArg (fun q => Ideal.rsqrt (Ideal.div q (Ideal.ofBits .f32 0x45800000#32) + Ideal.ofBits .f32 0x358637BD#32))
    (Eq.trans (congrArg _ (funext fun z => Fin.ext ?_)) (squares_at x0 b s))
  fin_cases z <;> rfl

theorem modulated_at (x0 : Rows) (x1 : Mods) (x2 : Gains) (b : Fin 4) (s : Fin 256) (e : Fin 4096) :
    val_main_v57 (F := Ideal) x0 x1 x2 (ix3 b s e) = modRow x0 x1 x2 (row b s) e := by
  have hg : Maths.imageOfRow (row b s) = 4 := Fin.ext (by
    show (8192 + 256 * b.val + s.val) / 2048 = 4; omega)
  unfold modRow Maths.modulatedRow
  rw [hg, val_main_v57_apply, val_main_v53_apply, val_main_v47_apply, val_main_v44_apply, rows_at, root_at, gain_at,
    scale_at, shift_at]
  rfl

theorem joined_at (x0 : Rows) (x1 : Mods) (x2 : Gains) (i : Fin 1024) (b : Fin 4) (s : Fin 256) (hi : i.val = 256 * b.val + s.val)
    (e : Fin 4096) :
    val_main_v59 (F := Ideal) x0 x1 x2 (ix2 i e) = modRow x0 x1 x2 (row b s) e := by
  rw [val_main_v59_apply]
  refine Eq.trans (congrArg _ (funext fun z => Fin.ext ?_)) (modulated_at x0 x1 x2 b s e)
  have hb := b.isLt
  have hs := s.isLt
  have he := e.isLt
  match z with
  | ⟨0, _⟩ => show (i.val * 4096 + e.val) / 1048576 = b.val; omega
  | ⟨1, _⟩ => show (i.val * 4096 + e.val) / 4096 % 256 = s.val; omega
  | ⟨2, _⟩ => show (i.val * 4096 + e.val) % 4096 = e.val; omega

end Context

/-- The rows joined, all modulated. -/
theorem rows_at (x0 : Rows) (x1 : Mods) (x2 : Gains) (i : Fin 9216) (e : Fin 4096) :
    val_main_v60 (F := Ideal) x0 x1 x2 (ix2 i e) = modRow x0 x1 x2 i e := by
  unfold val_main_v60
  by_cases h : i.val < 8192
  · have hi : i = Images.row ⟨i.val / 2048, by omega⟩ ⟨i.val % 2048, by omega⟩ := Fin.ext (by
      show i.val = 2048 * (i.val / 2048) + i.val % 2048; omega)
    refine (concatenate_pair_apply_left (t := S9216x4096) (s₁ := S8192x4096) (s₂ := S1024x4096) 0 _ _ _ _ rfl
      (ix2 ⟨i.val, h⟩ e) fun a => ?_).trans ((Images.joined_at x0 x1 x2 ⟨i.val, h⟩ ⟨i.val / 2048, by omega⟩ ⟨i.val % 2048, by omega⟩
        (by show i.val = 2048 * (i.val / 2048) + i.val % 2048; omega) e).trans (congrArg (modRow x0 x1 x2 · e) hi.symm))
    match a with
    | ⟨0, _⟩ => rfl
    | ⟨1, _⟩ => rfl
  · have hi : i = Context.row ⟨(i.val - 8192) / 256, by omega⟩ ⟨(i.val - 8192) % 256, by omega⟩ := Fin.ext (by
      show i.val = 8192 + 256 * ((i.val - 8192) / 256) + (i.val - 8192) % 256; omega)
    refine (concatenate_pair_apply_right (t := S9216x4096) (s₁ := S8192x4096) (s₂ := S1024x4096) 0 _ _ _ _ rfl rfl
      (ix2 ⟨i.val - 8192, by omega⟩ e) (fun a ha => ?_) ?_).trans ((Context.joined_at x0 x1 x2 ⟨i.val - 8192, by omega⟩
        ⟨(i.val - 8192) / 256, by omega⟩ ⟨(i.val - 8192) % 256, by omega⟩
        (by show i.val - 8192 = 256 * ((i.val - 8192) / 256) + (i.val - 8192) % 256; omega) e).trans
        (congrArg (modRow x0 x1 x2 · e) hi.symm))
    · match a with
      | ⟨0, _⟩ => exact absurd rfl ha
      | ⟨1, _⟩ => rfl
    · show i.val - 8192 + 8192 = i.val
      omega

end Cert.ProjectionsReferenceIdeal.Reading

end
-- ==== Proof.Projections.Reference.lean ====
module

public import proofs.«01_k».proof.Proof.Projections.ReferenceRows
public import proofs.«01_k».proof.Proof.Gen.ProjectionsReferenceIdeal.Read
public import Idealize.ShloMosaic.Lib.Pointwise

@[expose] public section

/-! The three results of the projections' reference, entry by entry. -/

set_option maxRecDepth 65536

noncomputable section

namespace Cert.ProjectionsReferenceIdeal.Reading

open Idealize.ShloMosaic hiding ix1 ix2 ix3 ix4 ix5
open Idealize.ShloMosaic.TcCoe
open Cert.ProjectionsReferenceIdeal Cert.ProjectionsReferenceIdeal.Gen Cert.ProjectionsReferenceIdeal.Read
open Idealize.ShloMosaic.ValueIdx

abbrev Weights := (⟨S1x4096x12288, .f32⟩ : BufTy).Contents (Elt Ideal)
abbrev HeadGain := (⟨S1x128, .f32⟩ : BufTy).Contents (Elt Ideal)

/-- Head `a` of part `p` of row `i`. -/
def head (x0 : Rows) (x1 : Mods) (x2 : Gains) (x3 : Weights) (p : Fin 3) (i : Fin 9216) (a : Fin 32) : Fin 128 → EReal :=
  Maths.projected (modRow x0 x1 x2 i) (fun e k => x3 (ix3 0 e k)) p a

theorem weights_at (x3 : Weights) (e : Fin 4096) (k : Fin 12288) : val_main_v61 (F := Ideal) x3 (ix2 e k) = x3 (ix3 0 e k) := by
  rw [val_main_v61_apply]
  refine congrArg x3 (funext fun z => Fin.ext ?_)
  match z with
  | ⟨0, _⟩ => rfl
  | ⟨1, _⟩ => show (e.val * 12288 + k.val) / 12288 % 4096 = e.val; omega
  | ⟨2, _⟩ => show (e.val * 12288 + k.val) % 12288 = k.val; omega

theorem heads_at (x0 : Rows) (x1 : Mods) (x2 : Gains) (x3 : Weights) (i : Fin 9216) (p : Fin 3) (a : Fin 32) (d : Fin 128) :
    val_main_v63 (F := Ideal) x0 x1 x2 x3 (ix4 i p a d) = head x0 x1 x2 x3 p i a d := by
  rw [val_main_v63_apply]
  refine Eq.trans (b := val_main_v62 (F := Ideal) x0 x1 x2 x3 (ix2 i (Maths.partCol p a d)))
    (congrArg _ (funext fun z => Fin.ext ?_)) ?_
  · have hp := p.isLt
    have ha := a.isLt
    have hd := d.isLt
    match z with
    | ⟨0, _⟩ => show (((i.val * 3 + p.val) * 32 + a.val) * 128 + d.val) / 12288 = i.val; omega
    | ⟨1, _⟩ => show (((i.val * 3 + p.val) * 32 + a.val) * 128 + d.val) % 12288 = 4096 * p.val + (128 * a.val + d.val); omega
  · rw [val_main_v62_apply]
    refine Finset.sum_congr rfl fun e _ => congrArg₂ (· * ·)
      (Eq.trans (congrArg _ (funext fun z => Fin.ext ?_)) (rows_at x0 x1 x2 i e))
      (Eq.trans (congrArg _ (funext fun z => Fin.ext ?_)) (weights_at x3 e (Maths.partCol p a d)))
    all_goals fin_cases z <;> rfl

/-- The place of column `j` of a part in the cut into heads. -/
theorem cut (f : S9216x32x128.Idx → EReal) (i : Fin 9216) (j : Fin 4096) (y : S9216x32x128.Idx)
    (h0 : (y 0).val = (i.val * 4096 + j.val) / 4096) (h1 : (y 1).val = (i.val * 4096 + j.val) / 128 % 32)
    (h2 : (y 2).val = (i.val * 4096 + j.val) % 128) : f y = f (ix3 i (Maths.headOf j) (Maths.placeOf j)) := by
  refine congrArg f (funext fun z => Fin.ext ?_)
  have hj := j.isLt
  match z with
  | ⟨0, _⟩ => show (y 0).val = i.val; omega
  | ⟨1, _⟩ => show (y 1).val = j.val / 128; omega
  | ⟨2, _⟩ => show (y 2).val = j.val % 128; omega

/-! ## The queries, before their scale -/

namespace Queries

theorem gain_at (g : HeadGain) (i : Fin 9216) (a : Fin 32) (d : Fin 128) :
    val_main_v78 (F := Ideal) g (ix3 i a d) = g (ix2 0 d) := by
  rw [val_main_v78_apply, val_main_v77_apply, val_main_v66_apply]
  refine congrArg g (funext fun z => Fin.ext ?_)
  match z with
  | ⟨0, _⟩ => rfl
  | ⟨1, _⟩ => show d.val % 128 = d.val; omega

theorem head_at (x0 : Rows) (x1 : Mods) (x2 : Gains) (x3 : Weights) (i : Fin 9216) (a : Fin 32) (d : Fin 128) :
    val_main_v65 (F := Ideal) x0 x1 x2 x3 (ix3 i a d) = head x0 x1 x2 x3 0 i a d := by
  rw [val_main_v65_apply, val_main_v64_apply]
  refine Eq.trans (congrArg _ (funext fun z => Fin.ext ?_)) (heads_at x0 x1 x2 x3 i 0 a d)
  have ha := a.isLt
  have hd := d.isLt
  match z with
  | ⟨0, _⟩ => show ((i.val * 32 + a.val) * 128 + d.val) / 4096 = i.val; omega
  | ⟨1, _⟩ => rfl
  | ⟨2, _⟩ => show ((i.val * 32 + a.val) * 128 + d.val) / 128 % 32 = a.val; omega
  | ⟨3, _⟩ => show ((i.val * 32 + a.val) * 128 + d.val) % 128 = d.val; omega

theorem squares_at (x0 : Rows) (x1 : Mods) (x2 : Gains) (x3 : Weights) (i : Fin 9216) (a : Fin 32) :
    val_main_v68 (F := Ideal) x0 x1 x2 x3 (ix2 i a) = ∑ d : Fin 128, head x0 x1 x2 x3 0 i a d * head x0 x1 x2 x3 0 i a d := by
  rw [val_main_v68_apply, val_main_cst_7_apply]
  refine (congrArg (· + _) Ideal.ofBits_zero_f32).trans ((zero_add _).trans (Finset.sum_congr rfl fun d _ => ?_))
  have h : val_main_v65 (F := Ideal) x0 x1 x2 x3 (idx_main_v68 (ix2 i a) d) = head x0 x1 x2 x3 0 i a d := by
    refine Eq.trans (congrArg _ (funext fun z => Fin.ext ?_)) (head_at x0 x1 x2 x3 i a d)
    fin_cases z <;> rfl
  rw [val_main_v67_apply, h]; rfl

theorem normed_at (x0 : Rows) (x1 : Mods) (x2 : Gains) (x3 : Weights) (g : HeadGain) (i : Fin 9216) (a : Fin 32) (d : Fin 128) :
    val_main_v79 (F := Ideal) x0 x1 x2 x3 g (ix3 i a d)
      = Maths.headNormed (head x0 x1 x2 x3 0 i a) (fun d => g (ix2 0 d)) d := by
  have h : val_main_v75 (F := Ideal) x0 x1 x2 x3 (ix3 i a d)
      = Ideal.rsqrt (Ideal.div (∑ d : Fin 128, head x0 x1 x2 x3 0 i a d * head x0 x1 x2 x3 0 i a d)
          (Ideal.ofBits .f32 0x43000000#32) + Ideal.ofBits .f32 0x358637BD#32) := by
    rw [val_main_v75_apply, val_main_v74_apply, val_main_v73_apply, val_main_v72_apply, val_main_cst_9_apply, val_main_v71_apply,
      val_main_v70_apply, val_main_cst_8_apply, val_main_v69_apply]
    refine congrArg (fun q => Ideal.rsqrt (Ideal.div q (Ideal.ofBits .f32 0x43000000#32) + Ideal.ofBits .f32 0x358637BD#32))
      (Eq.trans (congrArg _ (funext fun z => Fin.ext ?_)) (squares_at x0 x1 x2 x3 i a))
    fin_cases z <;> rfl
  rw [val_main_v79_apply, val_main_v76_apply, head_at, h, gain_at]
  rfl

end Queries

/-! ## The keys, before their scale -/

namespace Keys

theorem gain_at (g : HeadGain) (i : Fin 9216) (a : Fin 32) (d : Fin 128) :
    val_main_v96 (F := Ideal) g (ix3 i a d) = g (ix2 0 d) := by
  rw [val_main_v96_apply, val_main_v95_apply, val_main_v84_apply]
  refine congrArg g (funext fun z => Fin.ext ?_)
  match z with
  | ⟨0, _⟩ => rfl
  | ⟨1, _⟩ => show d.val % 128 = d.val; omega

theorem head_at (x0 : Rows) (x1 : Mods) (x2 : Gains) (x3 : Weights) (i : Fin 9216) (a : Fin 32) (d : Fin 128) :
    val_main_v83 (F := Ideal) x0 x1 x2 x3 (ix3 i a d) = head x0 x1 x2 x3 1 i a d := by
  rw [val_main_v83_apply, val_main_v82_apply]
  refine Eq.trans (congrArg _ (funext fun z => Fin.ext ?_)) (heads_at x0 x1 x2 x3 i 1 a d)
  have ha := a.isLt
  have hd := d.isLt
  match z with
  | ⟨0, _⟩ => show ((i.val * 32 + a.val) * 128 + d.val) / 4096 = i.val; omega
  | ⟨1, _⟩ => rfl
  | ⟨2, _⟩ => show ((i.val * 32 + a.val) * 128 + d.val) / 128 % 32 = a.val; omega
  | ⟨3, _⟩ => show ((i.val * 32 + a.val) * 128 + d.val) % 128 = d.val; omega

theorem squares_at (x0 : Rows) (x1 : Mods) (x2 : Gains) (x3 : Weights) (i : Fin 9216) (a : Fin 32) :
    val_main_v86 (F := Ideal) x0 x1 x2 x3 (ix2 i a) = ∑ d : Fin 128, head x0 x1 x2 x3 1 i a d * head x0 x1 x2 x3 1 i a d := by
  rw [val_main_v86_apply, val_main_cst_11_apply]
  refine (congrArg (· + _) Ideal.ofBits_zero_f32).trans ((zero_add _).trans (Finset.sum_congr rfl fun d _ => ?_))
  have h : val_main_v83 (F := Ideal) x0 x1 x2 x3 (idx_main_v86 (ix2 i a) d) = head x0 x1 x2 x3 1 i a d := by
    refine Eq.trans (congrArg _ (funext fun z => Fin.ext ?_)) (head_at x0 x1 x2 x3 i a d)
    fin_cases z <;> rfl
  rw [val_main_v85_apply, h]; rfl

theorem normed_at (x0 : Rows) (x1 : Mods) (x2 : Gains) (x3 : Weights) (g : HeadGain) (i : Fin 9216) (a : Fin 32) (d : Fin 128) :
    val_main_v97 (F := Ideal) x0 x1 x2 x3 g (ix3 i a d)
      = Maths.headNormed (head x0 x1 x2 x3 1 i a) (fun d => g (ix2 0 d)) d := by
  have h : val_main_v93 (F := Ideal) x0 x1 x2 x3 (ix3 i a d)
      = Ideal.rsqrt (Ideal.div (∑ d : Fin 128, head x0 x1 x2 x3 1 i a d * head x0 x1 x2 x3 1 i a d)
          (Ideal.ofBits .f32 0x43000000#32) + Ideal.ofBits .f32 0x358637BD#32) := by
    rw [val_main_v93_apply, val_main_v92_apply, val_main_v91_apply, val_main_v90_apply, val_main_cst_13_apply, val_main_v89_apply,
      val_main_v88_apply, val_main_cst_12_apply, val_main_v87_apply]
    refine congrArg (fun q => Ideal.rsqrt (Ideal.div q (Ideal.ofBits .f32 0x43000000#32) + Ideal.ofBits .f32 0x358637BD#32))
      (Eq.trans (congrArg _ (funext fun z => Fin.ext ?_)) (squares_at x0 x1 x2 x3 i a))
    fin_cases z <;> rfl
  rw [val_main_v97_apply, val_main_v94_apply, head_at, h, gain_at]
  rfl

end Keys

/-! ## The values, before their scale -/

namespace Values

theorem head_at (x0 : Rows) (x1 : Mods) (x2 : Gains) (x3 : Weights) (i : Fin 9216) (a : Fin 32) (d : Fin 128) :
    val_main_v99 (F := Ideal) x0 x1 x2 x3 (ix3 i a d) = head x0 x1 x2 x3 2 i a d := by
  rw [val_main_v99_apply, val_main_v98_apply]
  refine Eq.trans (congrArg _ (funext fun z => Fin.ext ?_)) (heads_at x0 x1 x2 x3 i 2 a d)
  have ha := a.isLt
  have hd := d.isLt
  match z with
  | ⟨0, _⟩ => show ((i.val * 32 + a.val) * 128 + d.val) / 4096 = i.val; omega
  | ⟨1, _⟩ => rfl
  | ⟨2, _⟩ => show ((i.val * 32 + a.val) * 128 + d.val) / 128 % 32 = a.val; omega
  | ⟨3, _⟩ => show ((i.val * 32 + a.val) * 128 + d.val) % 128 = d.val; omega

end Values

/-- The queries' entry `(i, j)`. -/
theorem queries_at (x0 : Rows) (x1 : Mods) (x2 : Gains) (x3 : Weights) (g : HeadGain) (i : Fin 9216) (j : Fin 4096) :
    val_main_v101 (F := Ideal) x0 x1 x2 x3 g (ix2 i j)
      = Maths.normedPart (modRow x0 x1 x2 i) (fun e k => x3 (ix3 0 e k)) 0 (fun d => g (ix2 0 d)) j * Ideal.ofBits .f32 0x3DB504F3#32 := by
  rw [val_main_v101_apply, val_main_v100_apply]
  refine Eq.trans (cut (val_main_v81 (F := Ideal) x0 x1 x2 x3 g) i j (idx_main_v100 (ix2 i j)) rfl rfl rfl) ?_
  rw [val_main_v81_apply, val_main_v80_apply, val_main_cst_10_apply, Queries.normed_at]
  rfl

/-- The keys' entry `(i, j)`. -/
theorem keys_at (x0 : Rows) (x1 : Mods) (x2 : Gains) (x3 : Weights) (g : HeadGain) (i : Fin 9216) (j : Fin 4096) :
    val_main_v103 (F := Ideal) x0 x1 x2 x3 g (ix2 i j)
      = Maths.normedPart (modRow x0 x1 x2 i) (fun e k => x3 (ix3 0 e k)) 1 (fun d => g (ix2 0 d)) j := by
  rw [val_main_v103_apply, val_main_v102_apply]
  refine Eq.trans (cut (val_main_v97 (F := Ideal) x0 x1 x2 x3 g) i j (idx_main_v102 (ix2 i j)) rfl rfl rfl) ?_
  rw [Keys.normed_at]
  rfl

/-- The values' entry `(i, j)`. -/
theorem values_at (x0 : Rows) (x1 : Mods) (x2 : Gains) (x3 : Weights) (i : Fin 9216) (j : Fin 4096) :
    val_main_v105 (F := Ideal) x0 x1 x2 x3 (ix2 i j)
      = Maths.projected (modRow x0 x1 x2 i) (fun e k => x3 (ix3 0 e k)) 2 (Maths.headOf j) (Maths.placeOf j) := by
  rw [val_main_v105_apply, val_main_v104_apply]
  refine Eq.trans (cut (val_main_v99 (F := Ideal) x0 x1 x2 x3) i j (idx_main_v104 (ix2 i j)) rfl rfl rfl) ?_
  rw [Values.head_at]
  rfl

end Cert.ProjectionsReferenceIdeal.Reading

end
-- ==== Proof.lean ====
/- The frames of the two attention programs (Proof/Ideal), of the two feed-forward programs (Proof/FeedForward), of the
   two spatial-gating programs (Proof/SpatialGate), of the two programs of the first feed-forward sub-layer
   (Proof/FirstFeedForward), of the two programs of the projections (Proof/Projections), each time one run for both,
   and of the five references; the named constant of the mask; the equality of the kernel's attention with its
   reference's (Proof/Joining), and of each of the others with its own reference's (Result and Reference in their
   directories). -/
module

public import proofs.«01_k».proof.Proof.Ref
public import proofs.«01_k».proof.Proof.Ideal.Whole
public import proofs.«01_k».proof.Proof.Joining
public import proofs.«01_k».proof.Proof.Finite
public import proofs.«01_k».proof.Proof.FeedForward.Result
public import proofs.«01_k».proof.Proof.FeedForward.Reference
public import proofs.«01_k».proof.Proof.SpatialGate.Result
public import proofs.«01_k».proof.Proof.SpatialGate.Reference
public import proofs.«01_k».proof.Proof.FirstFeedForward.Result
public import proofs.«01_k».proof.Proof.FirstFeedForward.Reference
public import proofs.«01_k».proof.Proof.Projections.Result
public import proofs.«01_k».proof.Proof.Projections.Reference
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.FeedForward
public import proofs.«01_k».proof.Proof.Gen.FeedForwardIdeal
public import proofs.«01_k».proof.Proof.Gen.FeedForwardIdeal.Skeleton
public import proofs.«01_k».proof.Proof.Gen.FeedForwardIdeal.Launch
public import proofs.«01_k».proof.Proof.Gen.FeedForwardIdeal.Regions
public import proofs.«01_k».proof.Proof.Gen.FeedForwardIdeal.Points
public import proofs.«01_k».proof.Proof.Gen.FeedForwardReferenceIdeal
public import proofs.«01_k».proof.Proof.Gen.FeedForwardReferenceIdeal.Read
public import proofs.«01_k».proof.Proof.Gen.SpatialGate
public import proofs.«01_k».proof.Proof.Gen.SpatialGateIdeal
public import proofs.«01_k».proof.Proof.Gen.SpatialGateIdeal.Skeleton
public import proofs.«01_k».proof.Proof.Gen.SpatialGateIdeal.Launch
public import proofs.«01_k».proof.Proof.Gen.SpatialGateIdeal.Regions
public import proofs.«01_k».proof.Proof.Gen.SpatialGateIdeal.Points
public import proofs.«01_k».proof.Proof.Gen.SpatialGateReferenceIdeal
public import proofs.«01_k».proof.Proof.Gen.SpatialGateReferenceIdeal.Read
public import proofs.«01_k».proof.Proof.Gen.FirstFeedForward
public import proofs.«01_k».proof.Proof.Gen.FirstFeedForwardIdeal
public import proofs.«01_k».proof.Proof.Gen.FirstFeedForwardIdeal.Skeleton
public import proofs.«01_k».proof.Proof.Gen.FirstFeedForwardIdeal.Launch
public import proofs.«01_k».proof.Proof.Gen.FirstFeedForwardIdeal.Regions
public import proofs.«01_k».proof.Proof.Gen.FirstFeedForwardIdeal.Points
public import proofs.«01_k».proof.Proof.Gen.FirstFeedForwardReferenceIdeal
public import proofs.«01_k».proof.Proof.Gen.FirstFeedForwardReferenceIdeal.Read
public import proofs.«01_k».proof.Proof.Gen.Projections
public import proofs.«01_k».proof.Proof.Gen.ProjectionsIdeal
public import proofs.«01_k».proof.Proof.Gen.ProjectionsIdeal.Skeleton
public import proofs.«01_k».proof.Proof.Gen.ProjectionsIdeal.Launch
public import proofs.«01_k».proof.Proof.Gen.ProjectionsIdeal.Regions
public import proofs.«01_k».proof.Proof.Gen.ProjectionsIdeal.Points
public import proofs.«01_k».proof.Proof.Gen.ProjectionsReferenceIdeal
public import proofs.«01_k».proof.Proof.Gen.ProjectionsReferenceIdeal.Read
public import Idealize.ShloMosaic.Adequacy
public import Idealize.ShloMosaic.Init

@[expose] public section

noncomputable section

namespace Cert.Proof

open Idealize.ShloMosaic Idealize.SL.Sem

/-- The mask's constant read as the word that the kernel has in its place. -/
abbrev wordNamed : Named Bits := ⟨fun _ _ {φ} w => FloatOps.ofBits φ w⟩

/-- The attention with its constant named, run with that constant read as its word, is the attention as written. -/
theorem frame_attention : Cert.quiescent_Kernel := fun m ρ _ =>
  Eq.mp (by sl_kernel_rfl) (@Cert.KernelIdeal.Joined.frame Bits _ wordNamed m ρ)

/-- The reference runs, leaves its arguments as they were, and every counter ends at zero (it declares none). -/
theorem frame_ref : Cert.quiescent_ReferenceIdeal := fun m ρ _ =>
  (θ_run _ _ _).mono (fun r h => ⟨fun c => (h c).2, sem_eq_zero_of_no_sems (by decide) r.2⟩)
    (Cert.ReferenceIdeal.Value.run m ρ)

theorem frame_ref_finite [Cert.Pre_finite.Facts] : Cert.quiescent_ReferenceIdeal_pre_finite := fun m ρ _ =>
  frame_ref m ρ trivial

/-- The array that the kernel's second launch leaves is the reference's result. -/
theorem result_eq [Cert.Pre_finite.Facts]
    (m : (ℓ : Loc Cert.KernelIdeal.nD Cert.KernelIdeal.τ Cert.KernelIdeal.sig) → Buf (Elt Ideal) ℓ)
    (ρ : Dev Cert.KernelIdeal.nD → PrngReg) (hpre : Cert.Pre_KernelIdeal_finite m) (c : Dev Cert.KernelIdeal.nD) :
    (Cert.KernelIdeal.Joined.dat1 (Cert.KernelIdeal.Joined.V2 m ρ) c).arrAt 6 Cert.KernelIdeal.cfg1.N
      = Cert.ReferenceIdeal.Read.val_main_v97 (F := Ideal)
          (m ((c.tc : Thread Cert.KernelIdeal.nD Cert.KernelIdeal.τ).loc Cert.KernelIdeal.main_arg0))
          (m ((c.tc : Thread Cert.KernelIdeal.nD Cert.KernelIdeal.τ).loc Cert.KernelIdeal.main_arg1))
          (m ((c.tc : Thread Cert.KernelIdeal.nD Cert.KernelIdeal.τ).loc Cert.KernelIdeal.main_arg2))
          (m ((c.tc : Thread Cert.KernelIdeal.nD Cert.KernelIdeal.τ).loc Cert.KernelIdeal.main_arg3)) := by
  obtain ⟨hq, hk, h3⟩ := pre_finite _ _ _ _ (hpre c).1 (hpre c).2.1 (hpre c).2.2
  rw [Cert.KernelIdeal.Joined.arr1_6]
  have e0 : Cert.KernelIdeal.Joined.V2 m ρ c Cert.KernelIdeal.main_arg0
      = m ((c.tc : Thread Cert.KernelIdeal.nD Cert.KernelIdeal.τ).loc Cert.KernelIdeal.main_arg0) :=
    Cert.KernelIdeal.Joined.W2_args m ρ c _ (by decide)
  have e1 : Cert.KernelIdeal.Joined.V2 m ρ c Cert.KernelIdeal.main_arg1
      = m ((c.tc : Thread Cert.KernelIdeal.nD Cert.KernelIdeal.τ).loc Cert.KernelIdeal.main_arg1) :=
    Cert.KernelIdeal.Joined.W2_args m ρ c _ (by decide)
  have e2 : Cert.KernelIdeal.Joined.V2 m ρ c Cert.KernelIdeal.main_arg2
      = m ((c.tc : Thread Cert.KernelIdeal.nD Cert.KernelIdeal.τ).loc Cert.KernelIdeal.main_arg2) :=
    Cert.KernelIdeal.Joined.W2_args m ρ c _ (by decide)
  have eB : Cert.KernelIdeal.Joined.V2 m ρ c Cert.KernelIdeal.main_v2
      = Cert.KernelIdeal.Joined.biasArray (Cert.KernelIdeal.Joined.V1 m ρ c Cert.KernelIdeal.main_v1) :=
    (Cert.KernelIdeal.Joined.W2_arr m ρ c 1).trans (Cert.KernelIdeal.Joined.arr0_1 _ c)
  rw [e0, e1, e2, eB]
  exact Cert.Joining.array_eq _ _ _ _ _ (fun h r d n hn => Cert.KernelIdeal.Joined.flat_at m ρ c h r d n hn) hq hk
    fun i => (h3 i).1

theorem algebraic [Cert.Pre_finite.Facts] : Cert.algebraic_KernelIdeal_ReferenceIdeal_pre_finite :=
  fun m g m' g' hpre hargs =>
    ⟨fun c => (Cert.KernelIdeal.Joined.dat1 (Cert.KernelIdeal.Joined.V2 m g) c).arrAt 6 Cert.KernelIdeal.cfg1.N,
      (θ_run _ _ _).mono (fun r h c => ⟨(h.1 c).2.2.2.2, (h.1 c).1, (h.1 c).2.1, (h.1 c).2.2.1, (h.1 c).2.2.2.1⟩)
        (Cert.KernelIdeal.Joined.run m g),
      (θ_run _ _ _).mono (fun r h c => ⟨(h c).1.trans (by
          rw [Cert.ReferenceIdeal.Read.val_main_v97_eq, (hargs c).1, (hargs c).2.1, (hargs c).2.2.1, (hargs c).2.2.2]
          exact (result_eq m g hpre c).symm), (h c).2⟩)
        (Cert.ReferenceIdeal.Value.run m' g')⟩

/-- The feed-forward programs have the same text; the run over any floats gives both frames. -/
theorem frame_ff : Cert.quiescent_FeedForward := fun m ρ _ =>
  Eq.mp (by sl_kernel_rfl) (Cert.FeedForwardIdeal.Joined.frame (F := Bits) m ρ)

theorem frame_ff_ideal : Cert.quiescent_FeedForwardIdeal := fun m ρ _ =>
  Cert.FeedForwardIdeal.Joined.frame m ρ

theorem frame_ff_ref : Cert.quiescent_FeedForwardReferenceIdeal := fun m ρ _ =>
  (θ_run _ _ _).mono (fun r h => ⟨fun c => (h c).2, sem_eq_zero_of_no_sems (by decide) r.2⟩)
    (Cert.FeedForwardReferenceIdeal.Value.run m ρ)

/-- The array that the feed-forward's third launch leaves is its reference's result. -/
theorem result_ff (m : (ℓ : Loc Cert.FeedForwardIdeal.nD Cert.FeedForwardIdeal.τ Cert.FeedForwardIdeal.sig) → Buf (Elt Ideal) ℓ)
    (ρ : Dev Cert.FeedForwardIdeal.nD → PrngReg) (c : Dev Cert.FeedForwardIdeal.nD) :
    (Cert.FeedForwardIdeal.Joined.dat2 (Cert.FeedForwardIdeal.Joined.V3 m ρ) c).arrAt 4 Cert.FeedForwardIdeal.cfg2.N
      = Cert.FeedForwardReferenceIdeal.Read.val_main_v45 (F := Ideal)
          (m ((c.tc : Thread Cert.FeedForwardIdeal.nD Cert.FeedForwardIdeal.τ).loc Cert.FeedForwardIdeal.main_arg0))
          (m ((c.tc : Thread Cert.FeedForwardIdeal.nD Cert.FeedForwardIdeal.τ).loc Cert.FeedForwardIdeal.main_arg1))
          (m ((c.tc : Thread Cert.FeedForwardIdeal.nD Cert.FeedForwardIdeal.τ).loc Cert.FeedForwardIdeal.main_arg2))
          (m ((c.tc : Thread Cert.FeedForwardIdeal.nD Cert.FeedForwardIdeal.τ).loc Cert.FeedForwardIdeal.main_arg3))
          (m ((c.tc : Thread Cert.FeedForwardIdeal.nD Cert.FeedForwardIdeal.τ).loc Cert.FeedForwardIdeal.main_arg4)) := by
  refine funext fun y => ?_
  rw [ValueIdx.eq_ix2 y]
  exact (Cert.FeedForwardIdeal.Joined.result_at m ρ c (y 0) (y 1)).trans
    (Cert.FeedForwardReferenceIdeal.Reading.result_at _ _ _ _ _ (y 0) (y 1)).symm

theorem algebraic_ff : Cert.algebraic_FeedForwardIdeal_FeedForwardReferenceIdeal :=
  fun m g m' g' _ hargs =>
    ⟨fun c => (Cert.FeedForwardIdeal.Joined.dat2 (Cert.FeedForwardIdeal.Joined.V3 m g) c).arrAt 4 Cert.FeedForwardIdeal.cfg2.N,
      (θ_run _ _ _).mono (fun r h c => h.1 c) (Cert.FeedForwardIdeal.Joined.run m g),
      (θ_run _ _ _).mono (fun r h c => ⟨(h c).1.trans (by
          rw [Cert.FeedForwardReferenceIdeal.Read.val_main_v45_eq, (hargs c).1, (hargs c).2.1, (hargs c).2.2.1,
            (hargs c).2.2.2.1, (hargs c).2.2.2.2]
          exact (result_ff m g c).symm), (h c).2⟩)
        (Cert.FeedForwardReferenceIdeal.Value.run m' g')⟩

/-- The spatial-gating programs have the same text; the run over any floats gives both frames. -/
theorem frame_sg : Cert.quiescent_SpatialGate := fun m ρ _ =>
  Eq.mp (by sl_kernel_rfl) (Cert.SpatialGateIdeal.Joined.frame (F := Bits) m ρ)

theorem frame_sg_ideal : Cert.quiescent_SpatialGateIdeal := fun m ρ _ =>
  Cert.SpatialGateIdeal.Joined.frame m ρ

theorem frame_sg_ref : Cert.quiescent_SpatialGateReferenceIdeal := fun m ρ _ =>
  (θ_run _ _ _).mono (fun r h => ⟨fun c => (h c).2, sem_eq_zero_of_no_sems (by decide) r.2⟩)
    (Cert.SpatialGateReferenceIdeal.Value.run m ρ)

/-- The array that the spatial gating's fourth launch leaves is its reference's result. -/
theorem result_sg (m : (ℓ : Loc Cert.SpatialGateIdeal.nD Cert.SpatialGateIdeal.τ Cert.SpatialGateIdeal.sig) → Buf (Elt Ideal) ℓ)
    (ρ : Dev Cert.SpatialGateIdeal.nD → PrngReg) (c : Dev Cert.SpatialGateIdeal.nD) :
    (Cert.SpatialGateIdeal.Joined.dat3 (Cert.SpatialGateIdeal.Joined.V6 m ρ) c).arrAt 4 Cert.SpatialGateIdeal.cfg3.N
      = Cert.SpatialGateReferenceIdeal.Read.val_main_v81 (F := Ideal)
          (m ((c.tc : Thread Cert.SpatialGateIdeal.nD Cert.SpatialGateIdeal.τ).loc Cert.SpatialGateIdeal.main_arg0))
          (m ((c.tc : Thread Cert.SpatialGateIdeal.nD Cert.SpatialGateIdeal.τ).loc Cert.SpatialGateIdeal.main_arg1))
          (m ((c.tc : Thread Cert.SpatialGateIdeal.nD Cert.SpatialGateIdeal.τ).loc Cert.SpatialGateIdeal.main_arg2))
          (m ((c.tc : Thread Cert.SpatialGateIdeal.nD Cert.SpatialGateIdeal.τ).loc Cert.SpatialGateIdeal.main_arg3))
          (m ((c.tc : Thread Cert.SpatialGateIdeal.nD Cert.SpatialGateIdeal.τ).loc Cert.SpatialGateIdeal.main_arg4))
          (m ((c.tc : Thread Cert.SpatialGateIdeal.nD Cert.SpatialGateIdeal.τ).loc Cert.SpatialGateIdeal.main_arg5))
          (m ((c.tc : Thread Cert.SpatialGateIdeal.nD Cert.SpatialGateIdeal.τ).loc Cert.SpatialGateIdeal.main_arg6))
          (m ((c.tc : Thread Cert.SpatialGateIdeal.nD Cert.SpatialGateIdeal.τ).loc Cert.SpatialGateIdeal.main_arg7))
          (m ((c.tc : Thread Cert.SpatialGateIdeal.nD Cert.SpatialGateIdeal.τ).loc Cert.SpatialGateIdeal.main_arg8)) := by
  refine funext fun y => ?_
  rw [ValueIdx.eq_ix2 y]
  exact (Cert.SpatialGateIdeal.Joined.result_at m ρ c (y 0) (y 1)).trans
    (Cert.SpatialGateReferenceIdeal.Reading.result_at _ _ _ _ _ _ _ _ _ (y 0) (y 1)).symm

theorem algebraic_sg : Cert.algebraic_SpatialGateIdeal_SpatialGateReferenceIdeal :=
  fun m g m' g' _ hargs =>
    ⟨fun c => (Cert.SpatialGateIdeal.Joined.dat3 (Cert.SpatialGateIdeal.Joined.V6 m g) c).arrAt 4 Cert.SpatialGateIdeal.cfg3.N,
      (θ_run _ _ _).mono (fun r h c => h.1 c) (Cert.SpatialGateIdeal.Joined.run m g),
      (θ_run _ _ _).mono (fun r h c => ⟨(h c).1.trans (by
          rw [Cert.SpatialGateReferenceIdeal.Read.val_main_v81_eq, (hargs c).1, (hargs c).2.1, (hargs c).2.2.1, (hargs c).2.2.2.1,
            (hargs c).2.2.2.2.1, (hargs c).2.2.2.2.2.1, (hargs c).2.2.2.2.2.2.1,
            (hargs c).2.2.2.2.2.2.2.1, (hargs c).2.2.2.2.2.2.2.2]
          exact (result_sg m g c).symm), (h c).2⟩)
        (Cert.SpatialGateReferenceIdeal.Value.run m' g')⟩

/-- The programs of the first feed-forward sub-layer have the same text; the run over any floats gives both frames. -/
theorem frame_fff : Cert.quiescent_FirstFeedForward := fun m ρ _ =>
  Eq.mp (by sl_kernel_rfl) (Cert.FirstFeedForwardIdeal.Joined.frame (F := Bits) m ρ)

theorem frame_fff_ideal : Cert.quiescent_FirstFeedForwardIdeal := fun m ρ _ =>
  Cert.FirstFeedForwardIdeal.Joined.frame m ρ

theorem frame_fff_ref : Cert.quiescent_FirstFeedForwardReferenceIdeal := fun m ρ _ =>
  (θ_run _ _ _).mono (fun r h => ⟨fun c => (h c).2, sem_eq_zero_of_no_sems (by decide) r.2⟩)
    (Cert.FirstFeedForwardReferenceIdeal.Value.run m ρ)

/-- The array that the first feed-forward's third launch leaves is its reference's result. -/
theorem result_fff
    (m : (ℓ : Loc Cert.FirstFeedForwardIdeal.nD Cert.FirstFeedForwardIdeal.τ Cert.FirstFeedForwardIdeal.sig) → Buf (Elt Ideal) ℓ)
    (ρ : Dev Cert.FirstFeedForwardIdeal.nD → PrngReg) (c : Dev Cert.FirstFeedForwardIdeal.nD) :
    (Cert.FirstFeedForwardIdeal.Joined.dat2 (Cert.FirstFeedForwardIdeal.Joined.V3 m ρ) c).arrAt 5 Cert.FirstFeedForwardIdeal.cfg2.N
      = Cert.FirstFeedForwardReferenceIdeal.Read.val_main_v86 (F := Ideal)
          (m ((c.tc : Thread Cert.FirstFeedForwardIdeal.nD Cert.FirstFeedForwardIdeal.τ).loc Cert.FirstFeedForwardIdeal.main_arg0))
          (m ((c.tc : Thread Cert.FirstFeedForwardIdeal.nD Cert.FirstFeedForwardIdeal.τ).loc Cert.FirstFeedForwardIdeal.main_arg1))
          (m ((c.tc : Thread Cert.FirstFeedForwardIdeal.nD Cert.FirstFeedForwardIdeal.τ).loc Cert.FirstFeedForwardIdeal.main_arg2))
          (m ((c.tc : Thread Cert.FirstFeedForwardIdeal.nD Cert.FirstFeedForwardIdeal.τ).loc Cert.FirstFeedForwardIdeal.main_arg3))
          (m ((c.tc : Thread Cert.FirstFeedForwardIdeal.nD Cert.FirstFeedForwardIdeal.τ).loc Cert.FirstFeedForwardIdeal.main_arg4))
          (m ((c.tc : Thread Cert.FirstFeedForwardIdeal.nD Cert.FirstFeedForwardIdeal.τ).loc Cert.FirstFeedForwardIdeal.main_arg5)) := by
  refine funext fun y => ?_
  rw [ValueIdx.eq_ix2 y]
  exact (Cert.FirstFeedForwardIdeal.Joined.result_at m ρ c (y 0) (y 1)).trans
    (Cert.FirstFeedForwardReferenceIdeal.Reading.result_at _ _ _ _ _ _ (y 0) (y 1)).symm

theorem algebraic_fff : Cert.algebraic_FirstFeedForwardIdeal_FirstFeedForwardReferenceIdeal :=
  fun m g m' g' _ hargs =>
    ⟨fun c => (Cert.FirstFeedForwardIdeal.Joined.dat2 (Cert.FirstFeedForwardIdeal.Joined.V3 m g) c).arrAt 5 Cert.FirstFeedForwardIdeal.cfg2.N,
      (θ_run _ _ _).mono (fun r h c => h.1 c) (Cert.FirstFeedForwardIdeal.Joined.run m g),
      (θ_run _ _ _).mono (fun r h c => ⟨(h c).1.trans (by
          rw [Cert.FirstFeedForwardReferenceIdeal.Read.val_main_v86_eq, (hargs c).1, (hargs c).2.1, (hargs c).2.2.1,
            (hargs c).2.2.2.1, (hargs c).2.2.2.2.1,
            (hargs c).2.2.2.2.2]
          exact (result_fff m g c).symm), (h c).2⟩)
        (Cert.FirstFeedForwardReferenceIdeal.Value.run m' g')⟩

/-- The programs of the projections have the same text; the run over any floats gives both frames. -/
theorem frame_pr : Cert.quiescent_Projections := fun m ρ _ =>
  Eq.mp (by sl_kernel_rfl) (Cert.ProjectionsIdeal.Joined.frame (F := Bits) m ρ)

theorem frame_pr_ideal : Cert.quiescent_ProjectionsIdeal := fun m ρ _ =>
  Cert.ProjectionsIdeal.Joined.frame m ρ

theorem frame_pr_ref : Cert.quiescent_ProjectionsReferenceIdeal := fun m ρ _ =>
  (θ_run _ _ _).mono (fun r h => ⟨fun c => (h c).2.2.2, sem_eq_zero_of_no_sems (by decide) r.2⟩)
    (Cert.ProjectionsReferenceIdeal.Value.run m ρ)

/-- The queries that the projections' second launch leaves are its reference's. -/
theorem result_pr_queries (m : (ℓ : Loc Cert.ProjectionsIdeal.nD Cert.ProjectionsIdeal.τ Cert.ProjectionsIdeal.sig) → Buf (Elt Ideal) ℓ)
    (ρ : Dev Cert.ProjectionsIdeal.nD → PrngReg) (c : Dev Cert.ProjectionsIdeal.nD) :
    (Cert.ProjectionsIdeal.Joined.dat1 (Cert.ProjectionsIdeal.Joined.V3 m ρ) c).arrAt 6 Cert.ProjectionsIdeal.cfg1.N
      = Cert.ProjectionsReferenceIdeal.Read.val_main_v101 (F := Ideal)
          (m ((c.tc : Thread Cert.ProjectionsIdeal.nD Cert.ProjectionsIdeal.τ).loc Cert.ProjectionsIdeal.main_arg0))
          (m ((c.tc : Thread Cert.ProjectionsIdeal.nD Cert.ProjectionsIdeal.τ).loc Cert.ProjectionsIdeal.main_arg1))
          (m ((c.tc : Thread Cert.ProjectionsIdeal.nD Cert.ProjectionsIdeal.τ).loc Cert.ProjectionsIdeal.main_arg2))
          (m ((c.tc : Thread Cert.ProjectionsIdeal.nD Cert.ProjectionsIdeal.τ).loc Cert.ProjectionsIdeal.main_arg3))
          (m ((c.tc : Thread Cert.ProjectionsIdeal.nD Cert.ProjectionsIdeal.τ).loc Cert.ProjectionsIdeal.main_arg4)) := by
  refine funext fun y => ?_
  rw [ValueIdx.eq_ix2 y]
  exact (Cert.ProjectionsIdeal.Joined.queries_at m ρ c (y 0) (y 1)).trans
    (Cert.ProjectionsReferenceIdeal.Reading.queries_at _ _ _ _ _ (y 0) (y 1)).symm

/-- The keys that it leaves are its reference's. -/
theorem result_pr_keys (m : (ℓ : Loc Cert.ProjectionsIdeal.nD Cert.ProjectionsIdeal.τ Cert.ProjectionsIdeal.sig) → Buf (Elt Ideal) ℓ)
    (ρ : Dev Cert.ProjectionsIdeal.nD → PrngReg) (c : Dev Cert.ProjectionsIdeal.nD) :
    (Cert.ProjectionsIdeal.Joined.dat1 (Cert.ProjectionsIdeal.Joined.V3 m ρ) c).arrAt 7 Cert.ProjectionsIdeal.cfg1.N
      = Cert.ProjectionsReferenceIdeal.Read.val_main_v103 (F := Ideal)
          (m ((c.tc : Thread Cert.ProjectionsIdeal.nD Cert.ProjectionsIdeal.τ).loc Cert.ProjectionsIdeal.main_arg0))
          (m ((c.tc : Thread Cert.ProjectionsIdeal.nD Cert.ProjectionsIdeal.τ).loc Cert.ProjectionsIdeal.main_arg1))
          (m ((c.tc : Thread Cert.ProjectionsIdeal.nD Cert.ProjectionsIdeal.τ).loc Cert.ProjectionsIdeal.main_arg2))
          (m ((c.tc : Thread Cert.ProjectionsIdeal.nD Cert.ProjectionsIdeal.τ).loc Cert.ProjectionsIdeal.main_arg3))
          (m ((c.tc : Thread Cert.ProjectionsIdeal.nD Cert.ProjectionsIdeal.τ).loc Cert.ProjectionsIdeal.main_arg5)) := by
  refine funext fun y => ?_
  rw [ValueIdx.eq_ix2 y]
  exact (Cert.ProjectionsIdeal.Joined.keys_at m ρ c (y 0) (y 1)).trans
    (Cert.ProjectionsReferenceIdeal.Reading.keys_at _ _ _ _ _ (y 0) (y 1)).symm

/-- The values that it leaves are its reference's. -/
theorem result_pr_values (m : (ℓ : Loc Cert.ProjectionsIdeal.nD Cert.ProjectionsIdeal.τ Cert.ProjectionsIdeal.sig) → Buf (Elt Ideal) ℓ)
    (ρ : Dev Cert.ProjectionsIdeal.nD → PrngReg) (c : Dev Cert.ProjectionsIdeal.nD) :
    (Cert.ProjectionsIdeal.Joined.dat1 (Cert.ProjectionsIdeal.Joined.V3 m ρ) c).arrAt 8 Cert.ProjectionsIdeal.cfg1.N
      = Cert.ProjectionsReferenceIdeal.Read.val_main_v105 (F := Ideal)
          (m ((c.tc : Thread Cert.ProjectionsIdeal.nD Cert.ProjectionsIdeal.τ).loc Cert.ProjectionsIdeal.main_arg0))
          (m ((c.tc : Thread Cert.ProjectionsIdeal.nD Cert.ProjectionsIdeal.τ).loc Cert.ProjectionsIdeal.main_arg1))
          (m ((c.tc : Thread Cert.ProjectionsIdeal.nD Cert.ProjectionsIdeal.τ).loc Cert.ProjectionsIdeal.main_arg2))
          (m ((c.tc : Thread Cert.ProjectionsIdeal.nD Cert.ProjectionsIdeal.τ).loc Cert.ProjectionsIdeal.main_arg3)) := by
  refine funext fun y => ?_
  rw [ValueIdx.eq_ix2 y]
  exact (Cert.ProjectionsIdeal.Joined.values_at m ρ c (y 0) (y 1)).trans
    (Cert.ProjectionsReferenceIdeal.Reading.values_at _ _ _ _ (y 0) (y 1)).symm

theorem algebraic_pr : Cert.algebraic_ProjectionsIdeal_ProjectionsReferenceIdeal :=
  fun m g m' g' _ hargs =>
    ⟨fun c => (Cert.ProjectionsIdeal.Joined.dat1 (Cert.ProjectionsIdeal.Joined.V3 m g) c).arrAt 6 Cert.ProjectionsIdeal.cfg1.N,
      fun c => (Cert.ProjectionsIdeal.Joined.dat1 (Cert.ProjectionsIdeal.Joined.V3 m g) c).arrAt 7 Cert.ProjectionsIdeal.cfg1.N,
      fun c => (Cert.ProjectionsIdeal.Joined.dat1 (Cert.ProjectionsIdeal.Joined.V3 m g) c).arrAt 8 Cert.ProjectionsIdeal.cfg1.N,
      (θ_run _ _ _).mono (fun r h c => h.1 c) (Cert.ProjectionsIdeal.Joined.run m g),
      (θ_run _ _ _).mono (fun r h c => ⟨(h c).1.trans (by
          rw [Cert.ProjectionsReferenceIdeal.Read.val_main_v101_eq, (hargs c).1, (hargs c).2.1, (hargs c).2.2.1, (hargs c).2.2.2.1, (hargs c).2.2.2.2.1]
          exact (result_pr_queries m g c).symm),
        (h c).2.1.trans (by
          rw [Cert.ProjectionsReferenceIdeal.Read.val_main_v103_eq, (hargs c).1, (hargs c).2.1, (hargs c).2.2.1, (hargs c).2.2.2.1, (hargs c).2.2.2.2.2]
          exact (result_pr_keys m g c).symm),
        (h c).2.2.1.trans (by
          rw [Cert.ProjectionsReferenceIdeal.Read.val_main_v105_eq, (hargs c).1, (hargs c).2.1, (hargs c).2.2.1, (hargs c).2.2.2.1]
          exact (result_pr_values m g c).symm), (h c).2.2.2⟩)
        (Cert.ProjectionsReferenceIdeal.Value.run m' g')⟩

theorem claim : Cert.Claim := ⟨Cert.Kernel.Gen.facts, Cert.KernelIdeal.Gen.facts, Cert.ReferenceIdeal.Gen.facts,
  Cert.FeedForward.Gen.facts, Cert.FeedForwardIdeal.Gen.facts, Cert.FeedForwardReferenceIdeal.Gen.facts,
  Cert.SpatialGate.Gen.facts, Cert.SpatialGateIdeal.Gen.facts, Cert.SpatialGateReferenceIdeal.Gen.facts,
  Cert.FirstFeedForward.Gen.facts, Cert.FirstFeedForwardIdeal.Gen.facts, Cert.FirstFeedForwardReferenceIdeal.Gen.facts,
  Cert.Projections.Gen.facts, Cert.ProjectionsIdeal.Gen.facts, Cert.ProjectionsReferenceIdeal.Gen.facts, pre_facts,
  frame_attention, fun m ρ _ => Cert.KernelIdeal.Joined.frame m ρ,
  fun m ρ _ => Cert.KernelIdeal.Joined.frame m ρ, frame_ref, letI := pre_facts; frame_ref_finite,
  frame_ff, frame_ff_ideal, frame_ff_ref, frame_sg, frame_sg_ideal, frame_sg_ref,
  frame_fff, frame_fff_ideal, frame_fff_ref, frame_pr, frame_pr_ideal, frame_pr_ref,
  IdealRules.named_const.statement Cert.KernelIdeal.κ "mask" .f32 0xF149F2CA#32 ⊥ rfl, letI := pre_facts; algebraic,
  trivial, algebraic_ff, trivial, algebraic_sg, trivial, algebraic_fff, trivial, algebraic_pr⟩

end Cert.Proof

end
